-- ==== Defs.lean ====
def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite1 [hPre_finite1 : Cert.Pre_finite1.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite1.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_finite1.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_finite1.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite1 [hPre_finite1 : Cert.Pre_finite1.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite1.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_finite1.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_finite1.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_WoutGrad (m : (ℓ : Loc Cert.WoutGrad.nD Cert.WoutGrad.τ Cert.WoutGrad.sig) → Buf (Elt Bits) ℓ) : Prop :=
  True

def Pre_WoutGradIdeal (m : (ℓ : Loc Cert.WoutGradIdeal.nD Cert.WoutGradIdeal.τ Cert.WoutGradIdeal.sig) → Buf (Elt Ideal) ℓ) : Prop :=
  True

def Pre_WoutGradIdeal_finite4 [hPre_finite4 : Cert.Pre_finite4.Facts] (m : (ℓ : Loc Cert.WoutGradIdeal.nD Cert.WoutGradIdeal.τ Cert.WoutGradIdeal.sig) → Buf (Elt Ideal) ℓ) : Prop :=
  ∀ c : Dev Cert.WoutGradIdeal.nD,
    (Cert.Pre_finite4.fn (F := Ideal) (m ((c.tc : Thread Cert.WoutGradIdeal.nD Cert.WoutGradIdeal.τ).loc Cert.WoutGradIdeal.main_arg0)) (m ((c.tc : Thread Cert.WoutGradIdeal.nD Cert.WoutGradIdeal.τ).loc Cert.WoutGradIdeal.main_arg1)) (m ((c.tc : Thread Cert.WoutGradIdeal.nD Cert.WoutGradIdeal.τ).loc Cert.WoutGradIdeal.main_arg2)) (m ((c.tc : Thread Cert.WoutGradIdeal.nD Cert.WoutGradIdeal.τ).loc Cert.WoutGradIdeal.main_arg3))).1 = (fun _ => 1#1)
    ∧ (Cert.Pre_finite4.fn (F := Ideal) (m ((c.tc : Thread Cert.WoutGradIdeal.nD Cert.WoutGradIdeal.τ).loc Cert.WoutGradIdeal.main_arg0)) (m ((c.tc : Thread Cert.WoutGradIdeal.nD Cert.WoutGradIdeal.τ).loc Cert.WoutGradIdeal.main_arg1)) (m ((c.tc : Thread Cert.WoutGradIdeal.nD Cert.WoutGradIdeal.τ).loc Cert.WoutGradIdeal.main_arg2)) (m ((c.tc : Thread Cert.WoutGradIdeal.nD Cert.WoutGradIdeal.τ).loc Cert.WoutGradIdeal.main_arg3))).2.1 = (fun _ => 1#1)
    ∧ (Cert.Pre_finite4.fn (F := Ideal) (m ((c.tc : Thread Cert.WoutGradIdeal.nD Cert.WoutGradIdeal.τ).loc Cert.WoutGradIdeal.main_arg0)) (m ((c.tc : Thread Cert.WoutGradIdeal.nD Cert.WoutGradIdeal.τ).loc Cert.WoutGradIdeal.main_arg1)) (m ((c.tc : Thread Cert.WoutGradIdeal.nD Cert.WoutGradIdeal.τ).loc Cert.WoutGradIdeal.main_arg2)) (m ((c.tc : Thread Cert.WoutGradIdeal.nD Cert.WoutGradIdeal.τ).loc Cert.WoutGradIdeal.main_arg3))).2.2.1 = (fun _ => 1#1)
    ∧ (Cert.Pre_finite4.fn (F := Ideal) (m ((c.tc : Thread Cert.WoutGradIdeal.nD Cert.WoutGradIdeal.τ).loc Cert.WoutGradIdeal.main_arg0)) (m ((c.tc : Thread Cert.WoutGradIdeal.nD Cert.WoutGradIdeal.τ).loc Cert.WoutGradIdeal.main_arg1)) (m ((c.tc : Thread Cert.WoutGradIdeal.nD Cert.WoutGradIdeal.τ).loc Cert.WoutGradIdeal.main_arg2)) (m ((c.tc : Thread Cert.WoutGradIdeal.nD Cert.WoutGradIdeal.τ).loc Cert.WoutGradIdeal.main_arg3))).2.2.2 = (fun _ => 1#1)

def Pre_WoutRefIdeal (m : (ℓ : Loc Cert.WoutRefIdeal.nD Cert.WoutRefIdeal.τ Cert.WoutRefIdeal.sig) → Buf (Elt Ideal) ℓ) : Prop :=
  True

def Pre_WoutRefIdeal_finite4 [hPre_finite4 : Cert.Pre_finite4.Facts] (m : (ℓ : Loc Cert.WoutRefIdeal.nD Cert.WoutRefIdeal.τ Cert.WoutRefIdeal.sig) → Buf (Elt Ideal) ℓ) : Prop :=
  ∀ c : Dev Cert.WoutRefIdeal.nD,
    (Cert.Pre_finite4.fn (F := Ideal) (m ((c.tc : Thread Cert.WoutRefIdeal.nD Cert.WoutRefIdeal.τ).loc Cert.WoutRefIdeal.main_arg0)) (m ((c.tc : Thread Cert.WoutRefIdeal.nD Cert.WoutRefIdeal.τ).loc Cert.WoutRefIdeal.main_arg1)) (m ((c.tc : Thread Cert.WoutRefIdeal.nD Cert.WoutRefIdeal.τ).loc Cert.WoutRefIdeal.main_arg2)) (m ((c.tc : Thread Cert.WoutRefIdeal.nD Cert.WoutRefIdeal.τ).loc Cert.WoutRefIdeal.main_arg3))).1 = (fun _ => 1#1)
    ∧ (Cert.Pre_finite4.fn (F := Ideal) (m ((c.tc : Thread Cert.WoutRefIdeal.nD Cert.WoutRefIdeal.τ).loc Cert.WoutRefIdeal.main_arg0)) (m ((c.tc : Thread Cert.WoutRefIdeal.nD Cert.WoutRefIdeal.τ).loc Cert.WoutRefIdeal.main_arg1)) (m ((c.tc : Thread Cert.WoutRefIdeal.nD Cert.WoutRefIdeal.τ).loc Cert.WoutRefIdeal.main_arg2)) (m ((c.tc : Thread Cert.WoutRefIdeal.nD Cert.WoutRefIdeal.τ).loc Cert.WoutRefIdeal.main_arg3))).2.1 = (fun _ => 1#1)
    ∧ (Cert.Pre_finite4.fn (F := Ideal) (m ((c.tc : Thread Cert.WoutRefIdeal.nD Cert.WoutRefIdeal.τ).loc Cert.WoutRefIdeal.main_arg0)) (m ((c.tc : Thread Cert.WoutRefIdeal.nD Cert.WoutRefIdeal.τ).loc Cert.WoutRefIdeal.main_arg1)) (m ((c.tc : Thread Cert.WoutRefIdeal.nD Cert.WoutRefIdeal.τ).loc Cert.WoutRefIdeal.main_arg2)) (m ((c.tc : Thread Cert.WoutRefIdeal.nD Cert.WoutRefIdeal.τ).loc Cert.WoutRefIdeal.main_arg3))).2.2.1 = (fun _ => 1#1)
    ∧ (Cert.Pre_finite4.fn (F := Ideal) (m ((c.tc : Thread Cert.WoutRefIdeal.nD Cert.WoutRefIdeal.τ).loc Cert.WoutRefIdeal.main_arg0)) (m ((c.tc : Thread Cert.WoutRefIdeal.nD Cert.WoutRefIdeal.τ).loc Cert.WoutRefIdeal.main_arg1)) (m ((c.tc : Thread Cert.WoutRefIdeal.nD Cert.WoutRefIdeal.τ).loc Cert.WoutRefIdeal.main_arg2)) (m ((c.tc : Thread Cert.WoutRefIdeal.nD Cert.WoutRefIdeal.τ).loc Cert.WoutRefIdeal.main_arg3))).2.2.2 = (fun _ => 1#1)

def Pre_DnFwd (m : (ℓ : Loc Cert.DnFwd.nD Cert.DnFwd.τ Cert.DnFwd.sig) → Buf (Elt Bits) ℓ) : Prop :=
  True

def Pre_DnFwdIdeal (m : (ℓ : Loc Cert.DnFwdIdeal.nD Cert.DnFwdIdeal.τ Cert.DnFwdIdeal.sig) → Buf (Elt Ideal) ℓ) : Prop :=
  True

def Pre_DnFwdIdeal_finite5 [hPre_finite5 : Cert.Pre_finite5.Facts] (m : (ℓ : Loc Cert.DnFwdIdeal.nD Cert.DnFwdIdeal.τ Cert.DnFwdIdeal.sig) → Buf (Elt Ideal) ℓ) : Prop :=
  ∀ c : Dev Cert.DnFwdIdeal.nD,
    (Cert.Pre_finite5.fn (F := Ideal) (m ((c.tc : Thread Cert.DnFwdIdeal.nD Cert.DnFwdIdeal.τ).loc Cert.DnFwdIdeal.main_arg0)) (m ((c.tc : Thread Cert.DnFwdIdeal.nD Cert.DnFwdIdeal.τ).loc Cert.DnFwdIdeal.main_arg1)) (m ((c.tc : Thread Cert.DnFwdIdeal.nD Cert.DnFwdIdeal.τ).loc Cert.DnFwdIdeal.main_arg2)) (m ((c.tc : Thread Cert.DnFwdIdeal.nD Cert.DnFwdIdeal.τ).loc Cert.DnFwdIdeal.main_arg3)) (m ((c.tc : Thread Cert.DnFwdIdeal.nD Cert.DnFwdIdeal.τ).loc Cert.DnFwdIdeal.main_arg4)) (m ((c.tc : Thread Cert.DnFwdIdeal.nD Cert.DnFwdIdeal.τ).loc Cert.DnFwdIdeal.main_arg5))).1 = (fun _ => 1#1)
    ∧ (Cert.Pre_finite5.fn (F := Ideal) (m ((c.tc : Thread Cert.DnFwdIdeal.nD Cert.DnFwdIdeal.τ).loc Cert.DnFwdIdeal.main_arg0)) (m ((c.tc : Thread Cert.DnFwdIdeal.nD Cert.DnFwdIdeal.τ).loc Cert.DnFwdIdeal.main_arg1)) (m ((c.tc : Thread Cert.DnFwdIdeal.nD Cert.DnFwdIdeal.τ).loc Cert.DnFwdIdeal.main_arg2)) (m ((c.tc : Thread Cert.DnFwdIdeal.nD Cert.DnFwdIdeal.τ).loc Cert.DnFwdIdeal.main_arg3)) (m ((c.tc : Thread Cert.DnFwdIdeal.nD Cert.DnFwdIdeal.τ).loc Cert.DnFwdIdeal.main_arg4)) (m ((c.tc : Thread Cert.DnFwdIdeal.nD Cert.DnFwdIdeal.τ).loc Cert.DnFwdIdeal.main_arg5))).2.1 = (fun _ => 1#1)
    ∧ (Cert.Pre_finite5.fn (F := Ideal) (m ((c.tc : Thread Cert.DnFwdIdeal.nD Cert.DnFwdIdeal.τ).loc Cert.DnFwdIdeal.main_arg0)) (m ((c.tc : Thread Cert.DnFwdIdeal.nD Cert.DnFwdIdeal.τ).loc Cert.DnFwdIdeal.main_arg1)) (m ((c.tc : Thread Cert.DnFwdIdeal.nD Cert.DnFwdIdeal.τ).loc Cert.DnFwdIdeal.main_arg2)) (m ((c.tc : Thread Cert.DnFwdIdeal.nD Cert.DnFwdIdeal.τ).loc Cert.DnFwdIdeal.main_arg3)) (m ((c.tc : Thread Cert.DnFwdIdeal.nD Cert.DnFwdIdeal.τ).loc Cert.DnFwdIdeal.main_arg4)) (m ((c.tc : Thread Cert.DnFwdIdeal.nD Cert.DnFwdIdeal.τ).loc Cert.DnFwdIdeal.main_arg5))).2.2.1 = (fun _ => 1#1)
    ∧ (Cert.Pre_finite5.fn (F := Ideal) (m ((c.tc : Thread Cert.DnFwdIdeal.nD Cert.DnFwdIdeal.τ).loc Cert.DnFwdIdeal.main_arg0)) (m ((c.tc : Thread Cert.DnFwdIdeal.nD Cert.DnFwdIdeal.τ).loc Cert.DnFwdIdeal.main_arg1)) (m ((c.tc : Thread Cert.DnFwdIdeal.nD Cert.DnFwdIdeal.τ).loc Cert.DnFwdIdeal.main_arg2)) (m ((c.tc : Thread Cert.DnFwdIdeal.nD Cert.DnFwdIdeal.τ).loc Cert.DnFwdIdeal.main_arg3)) (m ((c.tc : Thread Cert.DnFwdIdeal.nD Cert.DnFwdIdeal.τ).loc Cert.DnFwdIdeal.main_arg4)) (m ((c.tc : Thread Cert.DnFwdIdeal.nD Cert.DnFwdIdeal.τ).loc Cert.DnFwdIdeal.main_arg5))).2.2.2.1 = (fun _ => 1#1)
    ∧ (Cert.Pre_finite5.fn (F := Ideal) (m ((c.tc : Thread Cert.DnFwdIdeal.nD Cert.DnFwdIdeal.τ).loc Cert.DnFwdIdeal.main_arg0)) (m ((c.tc : Thread Cert.DnFwdIdeal.nD Cert.DnFwdIdeal.τ).loc Cert.DnFwdIdeal.main_arg1)) (m ((c.tc : Thread Cert.DnFwdIdeal.nD Cert.DnFwdIdeal.τ).loc Cert.DnFwdIdeal.main_arg2)) (m ((c.tc : Thread Cert.DnFwdIdeal.nD Cert.DnFwdIdeal.τ).loc Cert.DnFwdIdeal.main_arg3)) (m ((c.tc : Thread Cert.DnFwdIdeal.nD Cert.DnFwdIdeal.τ).loc Cert.DnFwdIdeal.main_arg4)) (m ((c.tc : Thread Cert.DnFwdIdeal.nD Cert.DnFwdIdeal.τ).loc Cert.DnFwdIdeal.main_arg5))).2.2.2.2.1 = (fun _ => 1#1)
    ∧ (Cert.Pre_finite5.fn (F := Ideal) (m ((c.tc : Thread Cert.DnFwdIdeal.nD Cert.DnFwdIdeal.τ).loc Cert.DnFwdIdeal.main_arg0)) (m ((c.tc : Thread Cert.DnFwdIdeal.nD Cert.DnFwdIdeal.τ).loc Cert.DnFwdIdeal.main_arg1)) (m ((c.tc : Thread Cert.DnFwdIdeal.nD Cert.DnFwdIdeal.τ).loc Cert.DnFwdIdeal.main_arg2)) (m ((c.tc : Thread Cert.DnFwdIdeal.nD Cert.DnFwdIdeal.τ).loc Cert.DnFwdIdeal.main_arg3)) (m ((c.tc : Thread Cert.DnFwdIdeal.nD Cert.DnFwdIdeal.τ).loc Cert.DnFwdIdeal.main_arg4)) (m ((c.tc : Thread Cert.DnFwdIdeal.nD Cert.DnFwdIdeal.τ).loc Cert.DnFwdIdeal.main_arg5))).2.2.2.2.2 = (fun _ => 1#1)

def Pre_DnRefIdeal (m : (ℓ : Loc Cert.DnRefIdeal.nD Cert.DnRefIdeal.τ Cert.DnRefIdeal.sig) → Buf (Elt Ideal) ℓ) : Prop :=
  True

def Pre_DnRefIdeal_finite5 [hPre_finite5 : Cert.Pre_finite5.Facts] (m : (ℓ : Loc Cert.DnRefIdeal.nD Cert.DnRefIdeal.τ Cert.DnRefIdeal.sig) → Buf (Elt Ideal) ℓ) : Prop :=
  ∀ c : Dev Cert.DnRefIdeal.nD,
    (Cert.Pre_finite5.fn (F := Ideal) (m ((c.tc : Thread Cert.DnRefIdeal.nD Cert.DnRefIdeal.τ).loc Cert.DnRefIdeal.main_arg0)) (m ((c.tc : Thread Cert.DnRefIdeal.nD Cert.DnRefIdeal.τ).loc Cert.DnRefIdeal.main_arg1)) (m ((c.tc : Thread Cert.DnRefIdeal.nD Cert.DnRefIdeal.τ).loc Cert.DnRefIdeal.main_arg2)) (m ((c.tc : Thread Cert.DnRefIdeal.nD Cert.DnRefIdeal.τ).loc Cert.DnRefIdeal.main_arg3)) (m ((c.tc : Thread Cert.DnRefIdeal.nD Cert.DnRefIdeal.τ).loc Cert.DnRefIdeal.main_arg4)) (m ((c.tc : Thread Cert.DnRefIdeal.nD Cert.DnRefIdeal.τ).loc Cert.DnRefIdeal.main_arg5))).1 = (fun _ => 1#1)
    ∧ (Cert.Pre_finite5.fn (F := Ideal) (m ((c.tc : Thread Cert.DnRefIdeal.nD Cert.DnRefIdeal.τ).loc Cert.DnRefIdeal.main_arg0)) (m ((c.tc : Thread Cert.DnRefIdeal.nD Cert.DnRefIdeal.τ).loc Cert.DnRefIdeal.main_arg1)) (m ((c.tc : Thread Cert.DnRefIdeal.nD Cert.DnRefIdeal.τ).loc Cert.DnRefIdeal.main_arg2)) (m ((c.tc : Thread Cert.DnRefIdeal.nD Cert.DnRefIdeal.τ).loc Cert.DnRefIdeal.main_arg3)) (m ((c.tc : Thread Cert.DnRefIdeal.nD Cert.DnRefIdeal.τ).loc Cert.DnRefIdeal.main_arg4)) (m ((c.tc : Thread Cert.DnRefIdeal.nD Cert.DnRefIdeal.τ).loc Cert.DnRefIdeal.main_arg5))).2.1 = (fun _ => 1#1)
    ∧ (Cert.Pre_finite5.fn (F := Ideal) (m ((c.tc : Thread Cert.DnRefIdeal.nD Cert.DnRefIdeal.τ).loc Cert.DnRefIdeal.main_arg0)) (m ((c.tc : Thread Cert.DnRefIdeal.nD Cert.DnRefIdeal.τ).loc Cert.DnRefIdeal.main_arg1)) (m ((c.tc : Thread Cert.DnRefIdeal.nD Cert.DnRefIdeal.τ).loc Cert.DnRefIdeal.main_arg2)) (m ((c.tc : Thread Cert.DnRefIdeal.nD Cert.DnRefIdeal.τ).loc Cert.DnRefIdeal.main_arg3)) (m ((c.tc : Thread Cert.DnRefIdeal.nD Cert.DnRefIdeal.τ).loc Cert.DnRefIdeal.main_arg4)) (m ((c.tc : Thread Cert.DnRefIdeal.nD Cert.DnRefIdeal.τ).loc Cert.DnRefIdeal.main_arg5))).2.2.1 = (fun _ => 1#1)
    ∧ (Cert.Pre_finite5.fn (F := Ideal) (m ((c.tc : Thread Cert.DnRefIdeal.nD Cert.DnRefIdeal.τ).loc Cert.DnRefIdeal.main_arg0)) (m ((c.tc : Thread Cert.DnRefIdeal.nD Cert.DnRefIdeal.τ).loc Cert.DnRefIdeal.main_arg1)) (m ((c.tc : Thread Cert.DnRefIdeal.nD Cert.DnRefIdeal.τ).loc Cert.DnRefIdeal.main_arg2)) (m ((c.tc : Thread Cert.DnRefIdeal.nD Cert.DnRefIdeal.τ).loc Cert.DnRefIdeal.main_arg3)) (m ((c.tc : Thread Cert.DnRefIdeal.nD Cert.DnRefIdeal.τ).loc Cert.DnRefIdeal.main_arg4)) (m ((c.tc : Thread Cert.DnRefIdeal.nD Cert.DnRefIdeal.τ).loc Cert.DnRefIdeal.main_arg5))).2.2.2.1 = (fun _ => 1#1)
    ∧ (Cert.Pre_finite5.fn (F := Ideal) (m ((c.tc : Thread Cert.DnRefIdeal.nD Cert.DnRefIdeal.τ).loc Cert.DnRefIdeal.main_arg0)) (m ((c.tc : Thread Cert.DnRefIdeal.nD Cert.DnRefIdeal.τ).loc Cert.DnRefIdeal.main_arg1)) (m ((c.tc : Thread Cert.DnRefIdeal.nD Cert.DnRefIdeal.τ).loc Cert.DnRefIdeal.main_arg2)) (m ((c.tc : Thread Cert.DnRefIdeal.nD Cert.DnRefIdeal.τ).loc Cert.DnRefIdeal.main_arg3)) (m ((c.tc : Thread Cert.DnRefIdeal.nD Cert.DnRefIdeal.τ).loc Cert.DnRefIdeal.main_arg4)) (m ((c.tc : Thread Cert.DnRefIdeal.nD Cert.DnRefIdeal.τ).loc Cert.DnRefIdeal.main_arg5))).2.2.2.2.1 = (fun _ => 1#1)
    ∧ (Cert.Pre_finite5.fn (F := Ideal) (m ((c.tc : Thread Cert.DnRefIdeal.nD Cert.DnRefIdeal.τ).loc Cert.DnRefIdeal.main_arg0)) (m ((c.tc : Thread Cert.DnRefIdeal.nD Cert.DnRefIdeal.τ).loc Cert.DnRefIdeal.main_arg1)) (m ((c.tc : Thread Cert.DnRefIdeal.nD Cert.DnRefIdeal.τ).loc Cert.DnRefIdeal.main_arg2)) (m ((c.tc : Thread Cert.DnRefIdeal.nD Cert.DnRefIdeal.τ).loc Cert.DnRefIdeal.main_arg3)) (m ((c.tc : Thread Cert.DnRefIdeal.nD Cert.DnRefIdeal.τ).loc Cert.DnRefIdeal.main_arg4)) (m ((c.tc : Thread Cert.DnRefIdeal.nD Cert.DnRefIdeal.τ).loc Cert.DnRefIdeal.main_arg5))).2.2.2.2.2 = (fun _ => 1#1)

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_finite2 [hPre_finite2 : Cert.Pre_finite2.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_finite2.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).1 = (fun _ => 1#1)
    ∧ (Cert.Pre_finite2.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.1 = (fun _ => 1#1)
    ∧ (Cert.Pre_finite2.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.2.1 = (fun _ => 1#1)
    ∧ (Cert.Pre_finite2.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.2.2.1 = (fun _ => 1#1)
    ∧ (Cert.Pre_finite2.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.2.2.2 = (fun _ => 1#1)

def Pre_InRefIdeal (m : (ℓ : Loc Cert.InRefIdeal.nD Cert.InRefIdeal.τ Cert.InRefIdeal.sig) → Buf (Elt Ideal) ℓ) : Prop :=
  True

def Pre_InRefIdeal_finite2 [hPre_finite2 : Cert.Pre_finite2.Facts] (m : (ℓ : Loc Cert.InRefIdeal.nD Cert.InRefIdeal.τ Cert.InRefIdeal.sig) → Buf (Elt Ideal) ℓ) : Prop :=
  ∀ c : Dev Cert.InRefIdeal.nD,
    (Cert.Pre_finite2.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).1 = (fun _ => 1#1)
    ∧ (Cert.Pre_finite2.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).2.1 = (fun _ => 1#1)
    ∧ (Cert.Pre_finite2.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).2.2.1 = (fun _ => 1#1)
    ∧ (Cert.Pre_finite2.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).2.2.2.1 = (fun _ => 1#1)
    ∧ (Cert.Pre_finite2.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).2.2.2.2 = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_finite1 [hLossHeadIdeal : Cert.LossHeadIdeal.Facts] [hPre_finite1 : Cert.Pre_finite1.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite1 m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite1 [hLossRefIdeal : Cert.LossRefIdeal.Facts] [hPre_finite1 : Cert.Pre_finite1.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite1 m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_WoutGrad [hWoutGrad : Cert.WoutGrad.Facts] : Prop :=
  ∀ (m : (ℓ : Loc Cert.WoutGrad.nD Cert.WoutGrad.τ Cert.WoutGrad.sig) → Buf (Elt Bits) ℓ) (g : Dev Cert.WoutGrad.nD → PrngReg), Pre_WoutGrad m →
    θ_run (Cert.WoutGrad.defs (F := Bits)) (onTc (τ := Cert.WoutGrad.τ) (Cert.WoutGrad.main (F := Bits))) ⟨m, fun _ => 0, g⟩ (fun r => (∀ c : Dev Cert.WoutGrad.nD,
      r.2.mem ((c.tc : Thread Cert.WoutGrad.nD Cert.WoutGrad.τ).loc Cert.WoutGrad.main_arg0) = m ((c.tc : Thread Cert.WoutGrad.nD Cert.WoutGrad.τ).loc Cert.WoutGrad.main_arg0)
      ∧ r.2.mem ((c.tc : Thread Cert.WoutGrad.nD Cert.WoutGrad.τ).loc Cert.WoutGrad.main_arg1) = m ((c.tc : Thread Cert.WoutGrad.nD Cert.WoutGrad.τ).loc Cert.WoutGrad.main_arg1)
      ∧ r.2.mem ((c.tc : Thread Cert.WoutGrad.nD Cert.WoutGrad.τ).loc Cert.WoutGrad.main_arg2) = m ((c.tc : Thread Cert.WoutGrad.nD Cert.WoutGrad.τ).loc Cert.WoutGrad.main_arg2)
      ∧ r.2.mem ((c.tc : Thread Cert.WoutGrad.nD Cert.WoutGrad.τ).loc Cert.WoutGrad.main_arg3) = m ((c.tc : Thread Cert.WoutGrad.nD Cert.WoutGrad.τ).loc Cert.WoutGrad.main_arg3))
      ∧ r.2.sem = fun _ => 0)

def quiescent_WoutGradIdeal [hWoutGradIdeal : Cert.WoutGradIdeal.Facts] : Prop :=
  ∀ (m : (ℓ : Loc Cert.WoutGradIdeal.nD Cert.WoutGradIdeal.τ Cert.WoutGradIdeal.sig) → Buf (Elt Ideal) ℓ) (g : Dev Cert.WoutGradIdeal.nD → PrngReg), Pre_WoutGradIdeal m →
    θ_run (Cert.WoutGradIdeal.defs (F := Ideal)) (onTc (τ := Cert.WoutGradIdeal.τ) (Cert.WoutGradIdeal.main (F := Ideal))) ⟨m, fun _ => 0, g⟩ (fun r => (∀ c : Dev Cert.WoutGradIdeal.nD,
      r.2.mem ((c.tc : Thread Cert.WoutGradIdeal.nD Cert.WoutGradIdeal.τ).loc Cert.WoutGradIdeal.main_arg0) = m ((c.tc : Thread Cert.WoutGradIdeal.nD Cert.WoutGradIdeal.τ).loc Cert.WoutGradIdeal.main_arg0)
      ∧ r.2.mem ((c.tc : Thread Cert.WoutGradIdeal.nD Cert.WoutGradIdeal.τ).loc Cert.WoutGradIdeal.main_arg1) = m ((c.tc : Thread Cert.WoutGradIdeal.nD Cert.WoutGradIdeal.τ).loc Cert.WoutGradIdeal.main_arg1)
      ∧ r.2.mem ((c.tc : Thread Cert.WoutGradIdeal.nD Cert.WoutGradIdeal.τ).loc Cert.WoutGradIdeal.main_arg2) = m ((c.tc : Thread Cert.WoutGradIdeal.nD Cert.WoutGradIdeal.τ).loc Cert.WoutGradIdeal.main_arg2)
      ∧ r.2.mem ((c.tc : Thread Cert.WoutGradIdeal.nD Cert.WoutGradIdeal.τ).loc Cert.WoutGradIdeal.main_arg3) = m ((c.tc : Thread Cert.WoutGradIdeal.nD Cert.WoutGradIdeal.τ).loc Cert.WoutGradIdeal.main_arg3))
      ∧ r.2.sem = fun _ => 0)

def quiescent_WoutGradIdeal_pre_finite4 [hWoutGradIdeal : Cert.WoutGradIdeal.Facts] [hPre_finite4 : Cert.Pre_finite4.Facts] : Prop :=
  ∀ (m : (ℓ : Loc Cert.WoutGradIdeal.nD Cert.WoutGradIdeal.τ Cert.WoutGradIdeal.sig) → Buf (Elt Ideal) ℓ) (g : Dev Cert.WoutGradIdeal.nD → PrngReg), Pre_WoutGradIdeal_finite4 m →
    θ_run (Cert.WoutGradIdeal.defs (F := Ideal)) (onTc (τ := Cert.WoutGradIdeal.τ) (Cert.WoutGradIdeal.main (F := Ideal))) ⟨m, fun _ => 0, g⟩ (fun r => (∀ c : Dev Cert.WoutGradIdeal.nD,
      r.2.mem ((c.tc : Thread Cert.WoutGradIdeal.nD Cert.WoutGradIdeal.τ).loc Cert.WoutGradIdeal.main_arg0) = m ((c.tc : Thread Cert.WoutGradIdeal.nD Cert.WoutGradIdeal.τ).loc Cert.WoutGradIdeal.main_arg0)
      ∧ r.2.mem ((c.tc : Thread Cert.WoutGradIdeal.nD Cert.WoutGradIdeal.τ).loc Cert.WoutGradIdeal.main_arg1) = m ((c.tc : Thread Cert.WoutGradIdeal.nD Cert.WoutGradIdeal.τ).loc Cert.WoutGradIdeal.main_arg1)
      ∧ r.2.mem ((c.tc : Thread Cert.WoutGradIdeal.nD Cert.WoutGradIdeal.τ).loc Cert.WoutGradIdeal.main_arg2) = m ((c.tc : Thread Cert.WoutGradIdeal.nD Cert.WoutGradIdeal.τ).loc Cert.WoutGradIdeal.main_arg2)
      ∧ r.2.mem ((c.tc : Thread Cert.WoutGradIdeal.nD Cert.WoutGradIdeal.τ).loc Cert.WoutGradIdeal.main_arg3) = m ((c.tc : Thread Cert.WoutGradIdeal.nD Cert.WoutGradIdeal.τ).loc Cert.WoutGradIdeal.main_arg3))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1)
      ∧ r.2.mem ((c.tc : Thread Cert.WoutRefIdeal.nD Cert.WoutRefIdeal.τ).loc Cert.WoutRefIdeal.main_arg2) = m ((c.tc : Thread Cert.WoutRefIdeal.nD Cert.WoutRefIdeal.τ).loc Cert.WoutRefIdeal.main_arg2)
      ∧ r.2.mem ((c.tc : Thread Cert.WoutRefIdeal.nD Cert.WoutRefIdeal.τ).loc Cert.WoutRefIdeal.main_arg3) = m ((c.tc : Thread Cert.WoutRefIdeal.nD Cert.WoutRefIdeal.τ).loc Cert.WoutRefIdeal.main_arg3))
      ∧ r.2.sem = fun _ => 0)

def quiescent_WoutRefIdeal_pre_finite4 [hWoutRefIdeal : Cert.WoutRefIdeal.Facts] [hPre_finite4 : Cert.Pre_finite4.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal_finite4 m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1)
      ∧ r.2.mem ((c.tc : Thread Cert.WoutRefIdeal.nD Cert.WoutRefIdeal.τ).loc Cert.WoutRefIdeal.main_arg2) = m ((c.tc : Thread Cert.WoutRefIdeal.nD Cert.WoutRefIdeal.τ).loc Cert.WoutRefIdeal.main_arg2)
      ∧ r.2.mem ((c.tc : Thread Cert.WoutRefIdeal.nD Cert.WoutRefIdeal.τ).loc Cert.WoutRefIdeal.main_arg3) = m ((c.tc : Thread Cert.WoutRefIdeal.nD Cert.WoutRefIdeal.τ).loc Cert.WoutRefIdeal.main_arg3))
      ∧ r.2.sem = fun _ => 0)

def quiescent_DnFwd [hDnFwd : Cert.DnFwd.Facts] : Prop :=
  ∀ (m : (ℓ : Loc Cert.DnFwd.nD Cert.DnFwd.τ Cert.DnFwd.sig) → Buf (Elt Bits) ℓ) (g : Dev Cert.DnFwd.nD → PrngReg), Pre_DnFwd m →
    θ_run (Cert.DnFwd.defs (F := Bits)) (onTc (τ := Cert.DnFwd.τ) (Cert.DnFwd.main (F := Bits))) ⟨m, fun _ => 0, g⟩ (fun r => (∀ c : Dev Cert.DnFwd.nD,
      r.2.mem ((c.tc : Thread Cert.DnFwd.nD Cert.DnFwd.τ).loc Cert.DnFwd.main_arg0) = m ((c.tc : Thread Cert.DnFwd.nD Cert.DnFwd.τ).loc Cert.DnFwd.main_arg0)
      ∧ r.2.mem ((c.tc : Thread Cert.DnFwd.nD Cert.DnFwd.τ).loc Cert.DnFwd.main_arg1) = m ((c.tc : Thread Cert.DnFwd.nD Cert.DnFwd.τ).loc Cert.DnFwd.main_arg1)
      ∧ r.2.mem ((c.tc : Thread Cert.DnFwd.nD Cert.DnFwd.τ).loc Cert.DnFwd.main_arg2) = m ((c.tc : Thread Cert.DnFwd.nD Cert.DnFwd.τ).loc Cert.DnFwd.main_arg2)
      ∧ r.2.mem ((c.tc : Thread Cert.DnFwd.nD Cert.DnFwd.τ).loc Cert.DnFwd.main_arg3) = m ((c.tc : Thread Cert.DnFwd.nD Cert.DnFwd.τ).loc Cert.DnFwd.main_arg3)
      ∧ r.2.mem ((c.tc : Thread Cert.DnFwd.nD Cert.DnFwd.τ).loc Cert.DnFwd.main_arg4) = m ((c.tc : Thread Cert.DnFwd.nD Cert.DnFwd.τ).loc Cert.DnFwd.main_arg4)
      ∧ r.2.mem ((c.tc : Thread Cert.DnFwd.nD Cert.DnFwd.τ).loc Cert.DnFwd.main_arg5) = m ((c.tc : Thread Cert.DnFwd.nD Cert.DnFwd.τ).loc Cert.DnFwd.main_arg5))
      ∧ r.2.sem = fun _ => 0)

def quiescent_DnFwdIdeal [hDnFwdIdeal : Cert.DnFwdIdeal.Facts] : Prop :=
  ∀ (m : (ℓ : Loc Cert.DnFwdIdeal.nD Cert.DnFwdIdeal.τ Cert.DnFwdIdeal.sig) → Buf (Elt Ideal) ℓ) (g : Dev Cert.DnFwdIdeal.nD → PrngReg), Pre_DnFwdIdeal m →
    θ_run (Cert.DnFwdIdeal.defs (F := Ideal)) (onTc (τ := Cert.DnFwdIdeal.τ) (Cert.DnFwdIdeal.main (F := Ideal))) ⟨m, fun _ => 0, g⟩ (fun r => (∀ c : Dev Cert.DnFwdIdeal.nD,
      r.2.mem ((c.tc : Thread Cert.DnFwdIdeal.nD Cert.DnFwdIdeal.τ).loc Cert.DnFwdIdeal.main_arg0) = m ((c.tc : Thread Cert.DnFwdIdeal.nD Cert.DnFwdIdeal.τ).loc Cert.DnFwdIdeal.main_arg0)
      ∧ r.2.mem ((c.tc : Thread Cert.DnFwdIdeal.nD Cert.DnFwdIdeal.τ).loc Cert.DnFwdIdeal.main_arg1) = m ((c.tc : Thread Cert.DnFwdIdeal.nD Cert.DnFwdIdeal.τ).loc Cert.DnFwdIdeal.main_arg1)
      ∧ r.2.mem ((c.tc : Thread Cert.DnFwdIdeal.nD Cert.DnFwdIdeal.τ).loc Cert.DnFwdIdeal.main_arg2) = m ((c.tc : Thread Cert.DnFwdIdeal.nD Cert.DnFwdIdeal.τ).loc Cert.DnFwdIdeal.main_arg2)
      ∧ r.2.mem ((c.tc : Thread Cert.DnFwdIdeal.nD Cert.DnFwdIdeal.τ).loc Cert.DnFwdIdeal.main_arg3) = m ((c.tc : Thread Cert.DnFwdIdeal.nD Cert.DnFwdIdeal.τ).loc Cert.DnFwdIdeal.main_arg3)
      ∧ r.2.mem ((c.tc : Thread Cert.DnFwdIdeal.nD Cert.DnFwdIdeal.τ).loc Cert.DnFwdIdeal.main_arg4) = m ((c.tc : Thread Cert.DnFwdIdeal.nD Cert.DnFwdIdeal.τ).loc Cert.DnFwdIdeal.main_arg4)
      ∧ r.2.mem ((c.tc : Thread Cert.DnFwdIdeal.nD Cert.DnFwdIdeal.τ).loc Cert.DnFwdIdeal.main_arg5) = m ((c.tc : Thread Cert.DnFwdIdeal.nD Cert.DnFwdIdeal.τ).loc Cert.DnFwdIdeal.main_arg5))
      ∧ r.2.sem = fun _ => 0)

def quiescent_DnFwdIdeal_pre_finite5 [hDnFwdIdeal : Cert.DnFwdIdeal.Facts] [hPre_finite5 : Cert.Pre_finite5.Facts] : Prop :=
  ∀ (m : (ℓ : Loc Cert.DnFwdIdeal.nD Cert.DnFwdIdeal.τ Cert.DnFwdIdeal.sig) → Buf (Elt Ideal) ℓ) (g : Dev Cert.DnFwdIdeal.nD → PrngReg), Pre_DnFwdIdeal_finite5 m →
    θ_run (Cert.DnFwdIdeal.defs (F := Ideal)) (onTc (τ := Cert.DnFwdIdeal.τ) (Cert.DnFwdIdeal.main (F := Ideal))) ⟨m, fun _ => 0, g⟩ (fun r => (∀ c : Dev Cert.DnFwdIdeal.nD,
      r.2.mem ((c.tc : Thread Cert.DnFwdIdeal.nD Cert.DnFwdIdeal.τ).loc Cert.DnFwdIdeal.main_arg0) = m ((c.tc : Thread Cert.DnFwdIdeal.nD Cert.DnFwdIdeal.τ).loc Cert.DnFwdIdeal.main_arg0)
      ∧ r.2.mem ((c.tc : Thread Cert.DnFwdIdeal.nD Cert.DnFwdIdeal.τ).loc Cert.DnFwdIdeal.main_arg1) = m ((c.tc : Thread Cert.DnFwdIdeal.nD Cert.DnFwdIdeal.τ).loc Cert.DnFwdIdeal.main_arg1)
      ∧ r.2.mem ((c.tc : Thread Cert.DnFwdIdeal.nD Cert.DnFwdIdeal.τ).loc Cert.DnFwdIdeal.main_arg2) = m ((c.tc : Thread Cert.DnFwdIdeal.nD Cert.DnFwdIdeal.τ).loc Cert.DnFwdIdeal.main_arg2)
      ∧ r.2.mem ((c.tc : Thread Cert.DnFwdIdeal.nD Cert.DnFwdIdeal.τ).loc Cert.DnFwdIdeal.main_arg3) = m ((c.tc : Thread Cert.DnFwdIdeal.nD Cert.DnFwdIdeal.τ).loc Cert.DnFwdIdeal.main_arg3)
      ∧ r.2.mem ((c.tc : Thread Cert.DnFwdIdeal.nD Cert.DnFwdIdeal.τ).loc Cert.DnFwdIdeal.main_arg4) = m ((c.tc : Thread Cert.DnFwdIdeal.nD Cert.DnFwdIdeal.τ).loc Cert.DnFwdIdeal.main_arg4)
      ∧ r.2.mem ((c.tc : Thread Cert.DnFwdIdeal.nD Cert.DnFwdIdeal.τ).loc Cert.DnFwdIdeal.main_arg5) = m ((c.tc : Thread Cert.DnFwdIdeal.nD Cert.DnFwdIdeal.τ).loc Cert.DnFwdIdeal.main_arg5))
      ∧ r.2.sem = fun _ => 0)

def quiescent_DnRefIdeal [hDnRefIdeal : Cert.DnRefIdeal.Facts] : Prop :=
  ∀ (m : (ℓ : Loc Cert.DnRefIdeal.nD Cert.DnRefIdeal.τ Cert.DnRefIdeal.sig) → Buf (Elt Ideal) ℓ) (g : Dev Cert.DnRefIdeal.nD → PrngReg), Pre_DnRefIdeal m →
    θ_run (Cert.DnRefIdeal.defs (F := Ideal)) (onTc (τ := Cert.DnRefIdeal.τ) (Cert.DnRefIdeal.main (F := Ideal))) ⟨m, fun _ => 0, g⟩ (fun r => (∀ c : Dev Cert.DnRefIdeal.nD,
      r.2.mem ((c.tc : Thread Cert.DnRefIdeal.nD Cert.DnRefIdeal.τ).loc Cert.DnRefIdeal.main_arg0) = m ((c.tc : Thread Cert.DnRefIdeal.nD Cert.DnRefIdeal.τ).loc Cert.DnRefIdeal.main_arg0)
      ∧ r.2.mem ((c.tc : Thread Cert.DnRefIdeal.nD Cert.DnRefIdeal.τ).loc Cert.DnRefIdeal.main_arg1) = m ((c.tc : Thread Cert.DnRefIdeal.nD Cert.DnRefIdeal.τ).loc Cert.DnRefIdeal.main_arg1)
      ∧ r.2.mem ((c.tc : Thread Cert.DnRefIdeal.nD Cert.DnRefIdeal.τ).loc Cert.DnRefIdeal.main_arg2) = m ((c.tc : Thread Cert.DnRefIdeal.nD Cert.DnRefIdeal.τ).loc Cert.DnRefIdeal.main_arg2)
      ∧ r.2.mem ((c.tc : Thread Cert.DnRefIdeal.nD Cert.DnRefIdeal.τ).loc Cert.DnRefIdeal.main_arg3) = m ((c.tc : Thread Cert.DnRefIdeal.nD Cert.DnRefIdeal.τ).loc Cert.DnRefIdeal.main_arg3)
      ∧ r.2.mem ((c.tc : Thread Cert.DnRefIdeal.nD Cert.DnRefIdeal.τ).loc Cert.DnRefIdeal.main_arg4) = m ((c.tc : Thread Cert.DnRefIdeal.nD Cert.DnRefIdeal.τ).loc Cert.DnRefIdeal.main_arg4)
      ∧ r.2.mem ((c.tc : Thread Cert.DnRefIdeal.nD Cert.DnRefIdeal.τ).loc Cert.DnRefIdeal.main_arg5) = m ((c.tc : Thread Cert.DnRefIdeal.nD Cert.DnRefIdeal.τ).loc Cert.DnRefIdeal.main_arg5))
      ∧ r.2.sem = fun _ => 0)

def quiescent_DnRefIdeal_pre_finite5 [hDnRefIdeal : Cert.DnRefIdeal.Facts] [hPre_finite5 : Cert.Pre_finite5.Facts] : Prop :=
  ∀ (m : (ℓ : Loc Cert.DnRefIdeal.nD Cert.DnRefIdeal.τ Cert.DnRefIdeal.sig) → Buf (Elt Ideal) ℓ) (g : Dev Cert.DnRefIdeal.nD → PrngReg), Pre_DnRefIdeal_finite5 m →
    θ_run (Cert.DnRefIdeal.defs (F := Ideal)) (onTc (τ := Cert.DnRefIdeal.τ) (Cert.DnRefIdeal.main (F := Ideal))) ⟨m, fun _ => 0, g⟩ (fun r => (∀ c : Dev Cert.DnRefIdeal.nD,
      r.2.mem ((c.tc : Thread Cert.DnRefIdeal.nD Cert.DnRefIdeal.τ).loc Cert.DnRefIdeal.main_arg0) = m ((c.tc : Thread Cert.DnRefIdeal.nD Cert.DnRefIdeal.τ).loc Cert.DnRefIdeal.main_arg0)
      ∧ r.2.mem ((c.tc : Thread Cert.DnRefIdeal.nD Cert.DnRefIdeal.τ).loc Cert.DnRefIdeal.main_arg1) = m ((c.tc : Thread Cert.DnRefIdeal.nD Cert.DnRefIdeal.τ).loc Cert.DnRefIdeal.main_arg1)
      ∧ r.2.mem ((c.tc : Thread Cert.DnRefIdeal.nD Cert.DnRefIdeal.τ).loc Cert.DnRefIdeal.main_arg2) = m ((c.tc : Thread Cert.DnRefIdeal.nD Cert.DnRefIdeal.τ).loc Cert.DnRefIdeal.main_arg2)
      ∧ r.2.mem ((c.tc : Thread Cert.DnRefIdeal.nD Cert.DnRefIdeal.τ).loc Cert.DnRefIdeal.main_arg3) = m ((c.tc : Thread Cert.DnRefIdeal.nD Cert.DnRefIdeal.τ).loc Cert.DnRefIdeal.main_arg3)
      ∧ r.2.mem ((c.tc : Thread Cert.DnRefIdeal.nD Cert.DnRefIdeal.τ).loc Cert.DnRefIdeal.main_arg4) = m ((c.tc : Thread Cert.DnRefIdeal.nD Cert.DnRefIdeal.τ).loc Cert.DnRefIdeal.main_arg4)
      ∧ r.2.mem ((c.tc : Thread Cert.DnRefIdeal.nD Cert.DnRefIdeal.τ).loc Cert.DnRefIdeal.main_arg5) = m ((c.tc : Thread Cert.DnRefIdeal.nD Cert.DnRefIdeal.τ).loc Cert.DnRefIdeal.main_arg5))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2)
      ∧ r.2.mem ((c.tc : Thread Cert.AdaBwd.nD Cert.AdaBwd.τ).loc Cert.AdaBwd.main_arg3) = m ((c.tc : Thread Cert.AdaBwd.nD Cert.AdaBwd.τ).loc Cert.AdaBwd.main_arg3)
      ∧ r.2.mem ((c.tc : Thread Cert.AdaBwd.nD Cert.AdaBwd.τ).loc Cert.AdaBwd.main_arg4) = m ((c.tc : Thread Cert.AdaBwd.nD Cert.AdaBwd.τ).loc Cert.AdaBwd.main_arg4))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
      ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
      ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1)
      ∧ r.2.mem ((c.tc : Thread Cert.AdaBwdRefIdeal.nD Cert.AdaBwdRefIdeal.τ).loc Cert.AdaBwdRefIdeal.main_arg2) = m ((c.tc : Thread Cert.AdaBwdRefIdeal.nD Cert.AdaBwdRefIdeal.τ).loc Cert.AdaBwdRefIdeal.main_arg2)
      ∧ r.2.mem ((c.tc : Thread Cert.AdaBwdRefIdeal.nD Cert.AdaBwdRefIdeal.τ).loc Cert.AdaBwdRefIdeal.main_arg3) = m ((c.tc : Thread Cert.AdaBwdRefIdeal.nD Cert.AdaBwdRefIdeal.τ).loc Cert.AdaBwdRefIdeal.main_arg3)
      ∧ r.2.mem ((c.tc : Thread Cert.AdaBwdRefIdeal.nD Cert.AdaBwdRefIdeal.τ).loc Cert.AdaBwdRefIdeal.main_arg4) = m ((c.tc : Thread Cert.AdaBwdRefIdeal.nD Cert.AdaBwdRefIdeal.τ).loc Cert.AdaBwdRefIdeal.main_arg4))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2)
      ∧ r.2.mem ((c.tc : Thread Cert.InFwd.nD Cert.InFwd.τ).loc Cert.InFwd.main_arg3) = m ((c.tc : Thread Cert.InFwd.nD Cert.InFwd.τ).loc Cert.InFwd.main_arg3))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
      ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2)
      ∧ r.2.mem ((c.tc : Thread Cert.InFwdRefIdeal.nD Cert.InFwdRefIdeal.τ).loc Cert.InFwdRefIdeal.main_arg3) = m ((c.tc : Thread Cert.InFwdRefIdeal.nD Cert.InFwdRefIdeal.τ).loc Cert.InFwdRefIdeal.main_arg3))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InBwdIdeal_pre_finite2 [hInBwdIdeal : Cert.InBwdIdeal.Facts] [hPre_finite2 : Cert.Pre_finite2.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_finite2 m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_InRefIdeal_pre_finite2 [hInRefIdeal : Cert.InRefIdeal.Facts] [hPre_finite2 : Cert.Pre_finite2.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_finite2 m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5)
      ∧ r.2.mem ((c.tc : Thread Cert.AdamInRefIdeal.nD Cert.AdamInRefIdeal.τ).loc Cert.AdamInRefIdeal.main_arg6) = m ((c.tc : Thread Cert.AdamInRefIdeal.nD Cert.AdamInRefIdeal.τ).loc Cert.AdamInRefIdeal.main_arg6))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5)
      ∧ r.2.mem ((c.tc : Thread Cert.AdamOut.nD Cert.AdamOut.τ).loc Cert.AdamOut.main_arg6) = m ((c.tc : Thread Cert.AdamOut.nD Cert.AdamOut.τ).loc Cert.AdamOut.main_arg6))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
      ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5)
      ∧ r.2.mem ((c.tc : Thread Cert.AdamOutRefIdeal.nD Cert.AdamOutRefIdeal.τ).loc Cert.AdamOutRefIdeal.main_arg6) = m ((c.tc : Thread Cert.AdamOutRefIdeal.nD Cert.AdamOutRefIdeal.τ).loc Cert.AdamOutRefIdeal.main_arg6))
      ∧ r.2.sem = fun _ => 0)

def preserves_LossHead_LossHeadIdeal : Prop :=
  True

def algebraic_LossHeadIdeal_LossRefIdeal_pre_finite1 [hLossHeadIdeal : Cert.LossHeadIdeal.Facts] [hLossRefIdeal : Cert.LossRefIdeal.Facts] [hPre_finite1 : Cert.Pre_finite1.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossHeadIdeal_finite1 m →
    (∀ c : Dev Cert.LossHeadIdeal.nD,
      m' ((c.tc : Thread Cert.LossRefIdeal.nD Cert.LossRefIdeal.τ).loc Cert.LossRefIdeal.main_arg0) = m ((c.tc : Thread Cert.LossHeadIdeal.nD Cert.LossHeadIdeal.τ).loc Cert.LossHeadIdeal.main_arg0)
      ∧ m' ((c.tc : Thread Cert.LossRefIdeal.nD Cert.LossRefIdeal.τ).loc Cert.LossRefIdeal.main_arg1) = m ((c.tc : Thread Cert.LossHeadIdeal.nD Cert.LossHeadIdeal.τ).loc Cert.LossHeadIdeal.main_arg1)
      ∧ m' ((c.tc : Thread Cert.LossRefIdeal.nD Cert.LossRefIdeal.τ).loc Cert.LossRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v3_0)) (v1 : (c : Dev Cert.LossHeadIdeal.nD) → Buf (Elt Ideal) ((c.tc : Thread Cert.LossHeadIdeal.nD Cert.LossHeadIdeal.τ).loc Cert.LossHeadIdeal.main_v3_1)) (v2 : (c : Dev Cert.LossHeadIdeal.nD) → Buf (Elt Ideal) ((c.tc : Thread Cert.LossHeadIdeal.nD Cert.LossHeadIdeal.τ).loc Cert.LossHeadIdeal.main_v3_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3_0) = v0 c
          ∧ r.2.mem ((c.tc : Thread Cert.LossHeadIdeal.nD Cert.LossHeadIdeal.τ).loc Cert.LossHeadIdeal.main_v3_1) = v1 c
          ∧ r.2.mem ((c.tc : Thread Cert.LossHeadIdeal.nD Cert.LossHeadIdeal.τ).loc Cert.LossHeadIdeal.main_v3_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_OutBwd_OutBwdIdeal : Prop :=
  True

def algebraic_OutBwdIdeal_OutRefIdeal [hOutBwdIdeal : Cert.OutBwdIdeal.Facts] [hOutRefIdeal : Cert.OutRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutBwdIdeal m →
    (∀ c : Dev Cert.OutBwdIdeal.nD,
      m' ((c.tc : Thread Cert.OutRefIdeal.nD Cert.OutRefIdeal.τ).loc Cert.OutRefIdeal.main_arg0) = m ((c.tc : Thread Cert.OutBwdIdeal.nD Cert.OutBwdIdeal.τ).loc Cert.OutBwdIdeal.main_arg0)
      ∧ m' ((c.tc : Thread Cert.OutRefIdeal.nD Cert.OutRefIdeal.τ).loc Cert.OutRefIdeal.main_arg1) = m ((c.tc : Thread Cert.OutBwdIdeal.nD Cert.OutBwdIdeal.τ).loc Cert.OutBwdIdeal.main_arg1)
      ∧ m' ((c.tc : Thread Cert.OutRefIdeal.nD Cert.OutRefIdeal.τ).loc Cert.OutRefIdeal.main_arg2) = m ((c.tc : Thread Cert.OutBwdIdeal.nD Cert.OutBwdIdeal.τ).loc Cert.OutBwdIdeal.main_arg2)
      ∧ m' ((c.tc : Thread Cert.OutRefIdeal.nD Cert.OutRefIdeal.τ).loc Cert.OutRefIdeal.main_arg3) = m ((c.tc : Thread Cert.OutBwdIdeal.nD Cert.OutBwdIdeal.τ).loc Cert.OutBwdIdeal.main_arg3)) →
    ∃ (v0 : (c : Dev Cert.OutBwdIdeal.nD) → Buf (Elt Ideal) ((c.tc : Thread Cert.OutBwdIdeal.nD Cert.OutBwdIdeal.τ).loc Cert.OutBwdIdeal.main_v3)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v3) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v11) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_WoutGrad_WoutGradIdeal : Prop :=
  True

def algebraic_WoutGradIdeal_WoutRefIdeal_pre_finite4 [hWoutGradIdeal : Cert.WoutGradIdeal.Facts] [hWoutRefIdeal : Cert.WoutRefIdeal.Facts] [hPre_finite4 : Cert.Pre_finite4.Facts] : Prop :=
  ∀ (m : (ℓ : Loc Cert.WoutGradIdeal.nD Cert.WoutGradIdeal.τ Cert.WoutGradIdeal.sig) → Buf (Elt Ideal) ℓ) (g : Dev Cert.WoutGradIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutGradIdeal_finite4 m →
    (∀ c : Dev Cert.WoutGradIdeal.nD,
      m' ((c.tc : Thread Cert.WoutRefIdeal.nD Cert.WoutRefIdeal.τ).loc Cert.WoutRefIdeal.main_arg0) = m ((c.tc : Thread Cert.WoutGradIdeal.nD Cert.WoutGradIdeal.τ).loc Cert.WoutGradIdeal.main_arg0)
      ∧ m' ((c.tc : Thread Cert.WoutRefIdeal.nD Cert.WoutRefIdeal.τ).loc Cert.WoutRefIdeal.main_arg1) = m ((c.tc : Thread Cert.WoutGradIdeal.nD Cert.WoutGradIdeal.τ).loc Cert.WoutGradIdeal.main_arg1)
      ∧ m' ((c.tc : Thread Cert.WoutRefIdeal.nD Cert.WoutRefIdeal.τ).loc Cert.WoutRefIdeal.main_arg2) = m ((c.tc : Thread Cert.WoutGradIdeal.nD Cert.WoutGradIdeal.τ).loc Cert.WoutGradIdeal.main_arg2)
      ∧ m' ((c.tc : Thread Cert.WoutRefIdeal.nD Cert.WoutRefIdeal.τ).loc Cert.WoutRefIdeal.main_arg3) = m ((c.tc : Thread Cert.WoutGradIdeal.nD Cert.WoutGradIdeal.τ).loc Cert.WoutGradIdeal.main_arg3)) →
    ∃ (v0 : (c : Dev Cert.WoutGradIdeal.nD) → Buf (Elt Ideal) ((c.tc : Thread Cert.WoutGradIdeal.nD Cert.WoutGradIdeal.τ).loc Cert.WoutGradIdeal.main_v7_0)) (v1 : (c : Dev Cert.WoutGradIdeal.nD) → Buf (Elt Ideal) ((c.tc : Thread Cert.WoutGradIdeal.nD Cert.WoutGradIdeal.τ).loc Cert.WoutGradIdeal.main_v7_1)),
      θ_run (Cert.WoutGradIdeal.defs (F := Ideal)) (onTc (τ := Cert.WoutGradIdeal.τ) (Cert.WoutGradIdeal.main (F := Ideal))) ⟨m, fun _ => 0, g⟩ (fun r => ∀ c : Dev Cert.WoutGradIdeal.nD,
          r.2.mem ((c.tc : Thread Cert.WoutGradIdeal.nD Cert.WoutGradIdeal.τ).loc Cert.WoutGradIdeal.main_v7_0) = v0 c
          ∧ r.2.mem ((c.tc : Thread Cert.WoutGradIdeal.nD Cert.WoutGradIdeal.τ).loc Cert.WoutGradIdeal.main_v7_1) = v1 c
          ∧ r.2.mem ((c.tc : Thread Cert.WoutGradIdeal.nD Cert.WoutGradIdeal.τ).loc Cert.WoutGradIdeal.main_arg0) = m ((c.tc : Thread Cert.WoutGradIdeal.nD Cert.WoutGradIdeal.τ).loc Cert.WoutGradIdeal.main_arg0)
          ∧ r.2.mem ((c.tc : Thread Cert.WoutGradIdeal.nD Cert.WoutGradIdeal.τ).loc Cert.WoutGradIdeal.main_arg1) = m ((c.tc : Thread Cert.WoutGradIdeal.nD Cert.WoutGradIdeal.τ).loc Cert.WoutGradIdeal.main_arg1)
          ∧ r.2.mem ((c.tc : Thread Cert.WoutGradIdeal.nD Cert.WoutGradIdeal.τ).loc Cert.WoutGradIdeal.main_arg2) = m ((c.tc : Thread Cert.WoutGradIdeal.nD Cert.WoutGradIdeal.τ).loc Cert.WoutGradIdeal.main_arg2)
          ∧ r.2.mem ((c.tc : Thread Cert.WoutGradIdeal.nD Cert.WoutGradIdeal.τ).loc Cert.WoutGradIdeal.main_arg3) = m ((c.tc : Thread Cert.WoutGradIdeal.nD Cert.WoutGradIdeal.τ).loc Cert.WoutGradIdeal.main_arg3))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v17) = v0 c
          ∧ r.2.mem ((c.tc : Thread Cert.WoutRefIdeal.nD Cert.WoutRefIdeal.τ).loc Cert.WoutRefIdeal.main_v15) = v1 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1)
          ∧ r.2.mem ((c.tc : Thread Cert.WoutRefIdeal.nD Cert.WoutRefIdeal.τ).loc Cert.WoutRefIdeal.main_arg2) = m' ((c.tc : Thread Cert.WoutRefIdeal.nD Cert.WoutRefIdeal.τ).loc Cert.WoutRefIdeal.main_arg2)
          ∧ r.2.mem ((c.tc : Thread Cert.WoutRefIdeal.nD Cert.WoutRefIdeal.τ).loc Cert.WoutRefIdeal.main_arg3) = m' ((c.tc : Thread Cert.WoutRefIdeal.nD Cert.WoutRefIdeal.τ).loc Cert.WoutRefIdeal.main_arg3))

def preserves_DnFwd_DnFwdIdeal : Prop :=
  True

def algebraic_DnFwdIdeal_DnRefIdeal_pre_finite5 [hDnFwdIdeal : Cert.DnFwdIdeal.Facts] [hDnRefIdeal : Cert.DnRefIdeal.Facts] [hPre_finite5 : Cert.Pre_finite5.Facts] : Prop :=
  ∀ (m : (ℓ : Loc Cert.DnFwdIdeal.nD Cert.DnFwdIdeal.τ Cert.DnFwdIdeal.sig) → Buf (Elt Ideal) ℓ) (g : Dev Cert.DnFwdIdeal.nD → PrngReg)
    (m' : (ℓ : Loc Cert.DnRefIdeal.nD Cert.DnRefIdeal.τ Cert.DnRefIdeal.sig) → Buf (Elt Ideal) ℓ) (g' : Dev Cert.DnRefIdeal.nD → PrngReg), Pre_DnFwdIdeal_finite5 m →
    (∀ c : Dev Cert.DnFwdIdeal.nD,
      m' ((c.tc : Thread Cert.DnRefIdeal.nD Cert.DnRefIdeal.τ).loc Cert.DnRefIdeal.main_arg0) = m ((c.tc : Thread Cert.DnFwdIdeal.nD Cert.DnFwdIdeal.τ).loc Cert.DnFwdIdeal.main_arg0)
      ∧ m' ((c.tc : Thread Cert.DnRefIdeal.nD Cert.DnRefIdeal.τ).loc Cert.DnRefIdeal.main_arg1) = m ((c.tc : Thread Cert.DnFwdIdeal.nD Cert.DnFwdIdeal.τ).loc Cert.DnFwdIdeal.main_arg1)
      ∧ m' ((c.tc : Thread Cert.DnRefIdeal.nD Cert.DnRefIdeal.τ).loc Cert.DnRefIdeal.main_arg2) = m ((c.tc : Thread Cert.DnFwdIdeal.nD Cert.DnFwdIdeal.τ).loc Cert.DnFwdIdeal.main_arg2)
      ∧ m' ((c.tc : Thread Cert.DnRefIdeal.nD Cert.DnRefIdeal.τ).loc Cert.DnRefIdeal.main_arg3) = m ((c.tc : Thread Cert.DnFwdIdeal.nD Cert.DnFwdIdeal.τ).loc Cert.DnFwdIdeal.main_arg3)
      ∧ m' ((c.tc : Thread Cert.DnRefIdeal.nD Cert.DnRefIdeal.τ).loc Cert.DnRefIdeal.main_arg4) = m ((c.tc : Thread Cert.DnFwdIdeal.nD Cert.DnFwdIdeal.τ).loc Cert.DnFwdIdeal.main_arg4)
      ∧ m' ((c.tc : Thread Cert.DnRefIdeal.nD Cert.DnRefIdeal.τ).loc Cert.DnRefIdeal.main_arg5) = m ((c.tc : Thread Cert.DnFwdIdeal.nD Cert.DnFwdIdeal.τ).loc Cert.DnFwdIdeal.main_arg5)) →
    ∃ (v0 : (c : Dev Cert.DnFwdIdeal.nD) → Buf (Elt Ideal) ((c.tc : Thread Cert.DnFwdIdeal.nD Cert.DnFwdIdeal.τ).loc Cert.DnFwdIdeal.main_v21_0)) (v1 : (c : Dev Cert.DnFwdIdeal.nD) → Buf (Elt Ideal) ((c.tc : Thread Cert.DnFwdIdeal.nD Cert.DnFwdIdeal.τ).loc Cert.DnFwdIdeal.main_v21_1)),
      θ_run (Cert.DnFwdIdeal.defs (F := Ideal)) (onTc (τ := Cert.DnFwdIdeal.τ) (Cert.DnFwdIdeal.main (F := Ideal))) ⟨m, fun _ => 0, g⟩ (fun r => ∀ c : Dev Cert.DnFwdIdeal.nD,
          r.2.mem ((c.tc : Thread Cert.DnFwdIdeal.nD Cert.DnFwdIdeal.τ).loc Cert.DnFwdIdeal.main_v21_0) = v0 c
          ∧ r.2.mem ((c.tc : Thread Cert.DnFwdIdeal.nD Cert.DnFwdIdeal.τ).loc Cert.DnFwdIdeal.main_v21_1) = v1 c
          ∧ r.2.mem ((c.tc : Thread Cert.DnFwdIdeal.nD Cert.DnFwdIdeal.τ).loc Cert.DnFwdIdeal.main_arg0) = m ((c.tc : Thread Cert.DnFwdIdeal.nD Cert.DnFwdIdeal.τ).loc Cert.DnFwdIdeal.main_arg0)
          ∧ r.2.mem ((c.tc : Thread Cert.DnFwdIdeal.nD Cert.DnFwdIdeal.τ).loc Cert.DnFwdIdeal.main_arg1) = m ((c.tc : Thread Cert.DnFwdIdeal.nD Cert.DnFwdIdeal.τ).loc Cert.DnFwdIdeal.main_arg1)
          ∧ r.2.mem ((c.tc : Thread Cert.DnFwdIdeal.nD Cert.DnFwdIdeal.τ).loc Cert.DnFwdIdeal.main_arg2) = m ((c.tc : Thread Cert.DnFwdIdeal.nD Cert.DnFwdIdeal.τ).loc Cert.DnFwdIdeal.main_arg2)
          ∧ r.2.mem ((c.tc : Thread Cert.DnFwdIdeal.nD Cert.DnFwdIdeal.τ).loc Cert.DnFwdIdeal.main_arg3) = m ((c.tc : Thread Cert.DnFwdIdeal.nD Cert.DnFwdIdeal.τ).loc Cert.DnFwdIdeal.main_arg3)
          ∧ r.2.mem ((c.tc : Thread Cert.DnFwdIdeal.nD Cert.DnFwdIdeal.τ).loc Cert.DnFwdIdeal.main_arg4) = m ((c.tc : Thread Cert.DnFwdIdeal.nD Cert.DnFwdIdeal.τ).loc Cert.DnFwdIdeal.main_arg4)
          ∧ r.2.mem ((c.tc : Thread Cert.DnFwdIdeal.nD Cert.DnFwdIdeal.τ).loc Cert.DnFwdIdeal.main_arg5) = m ((c.tc : Thread Cert.DnFwdIdeal.nD Cert.DnFwdIdeal.τ).loc Cert.DnFwdIdeal.main_arg5))
      ∧ θ_run (Cert.DnRefIdeal.defs (F := Ideal)) (onTc (τ := Cert.DnRefIdeal.τ) (Cert.DnRefIdeal.main (F := Ideal))) ⟨m', fun _ => 0, g'⟩ (fun r => ∀ c : Dev Cert.DnRefIdeal.nD,
          r.2.mem ((c.tc : Thread Cert.DnRefIdeal.nD Cert.DnRefIdeal.τ).loc Cert.DnRefIdeal.main_v76) = v0 c
          ∧ r.2.mem ((c.tc : Thread Cert.DnRefIdeal.nD Cert.DnRefIdeal.τ).loc Cert.DnRefIdeal.main_v80) = v1 c
          ∧ r.2.mem ((c.tc : Thread Cert.DnRefIdeal.nD Cert.DnRefIdeal.τ).loc Cert.DnRefIdeal.main_arg0) = m' ((c.tc : Thread Cert.DnRefIdeal.nD Cert.DnRefIdeal.τ).loc Cert.DnRefIdeal.main_arg0)
          ∧ r.2.mem ((c.tc : Thread Cert.DnRefIdeal.nD Cert.DnRefIdeal.τ).loc Cert.DnRefIdeal.main_arg1) = m' ((c.tc : Thread Cert.DnRefIdeal.nD Cert.DnRefIdeal.τ).loc Cert.DnRefIdeal.main_arg1)
          ∧ r.2.mem ((c.tc : Thread Cert.DnRefIdeal.nD Cert.DnRefIdeal.τ).loc Cert.DnRefIdeal.main_arg2) = m' ((c.tc : Thread Cert.DnRefIdeal.nD Cert.DnRefIdeal.τ).loc Cert.DnRefIdeal.main_arg2)
          ∧ r.2.mem ((c.tc : Thread Cert.DnRefIdeal.nD Cert.DnRefIdeal.τ).loc Cert.DnRefIdeal.main_arg3) = m' ((c.tc : Thread Cert.DnRefIdeal.nD Cert.DnRefIdeal.τ).loc Cert.DnRefIdeal.main_arg3)
          ∧ r.2.mem ((c.tc : Thread Cert.DnRefIdeal.nD Cert.DnRefIdeal.τ).loc Cert.DnRefIdeal.main_arg4) = m' ((c.tc : Thread Cert.DnRefIdeal.nD Cert.DnRefIdeal.τ).loc Cert.DnRefIdeal.main_arg4)
          ∧ r.2.mem ((c.tc : Thread Cert.DnRefIdeal.nD Cert.DnRefIdeal.τ).loc Cert.DnRefIdeal.main_arg5) = m' ((c.tc : Thread Cert.DnRefIdeal.nD Cert.DnRefIdeal.τ).loc Cert.DnRefIdeal.main_arg5))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)
      ∧ m' ((c.tc : Thread Cert.AdaBwdRefIdeal.nD Cert.AdaBwdRefIdeal.τ).loc Cert.AdaBwdRefIdeal.main_arg2) = m ((c.tc : Thread Cert.AdaBwdIdeal.nD Cert.AdaBwdIdeal.τ).loc Cert.AdaBwdIdeal.main_arg2)
      ∧ m' ((c.tc : Thread Cert.AdaBwdRefIdeal.nD Cert.AdaBwdRefIdeal.τ).loc Cert.AdaBwdRefIdeal.main_arg3) = m ((c.tc : Thread Cert.AdaBwdIdeal.nD Cert.AdaBwdIdeal.τ).loc Cert.AdaBwdIdeal.main_arg3)
      ∧ m' ((c.tc : Thread Cert.AdaBwdRefIdeal.nD Cert.AdaBwdRefIdeal.τ).loc Cert.AdaBwdRefIdeal.main_arg4) = m ((c.tc : Thread Cert.AdaBwdIdeal.nD Cert.AdaBwdIdeal.τ).loc Cert.AdaBwdIdeal.main_arg4)) →
    ∃ (v0 : (c : Dev Cert.AdaBwdIdeal.nD) → Buf (Elt Ideal) ((c.tc : Thread Cert.AdaBwdIdeal.nD Cert.AdaBwdIdeal.τ).loc Cert.AdaBwdIdeal.main_v0_0)) (v1 : (c : Dev Cert.AdaBwdIdeal.nD) → Buf (Elt Ideal) ((c.tc : Thread Cert.AdaBwdIdeal.nD Cert.AdaBwdIdeal.τ).loc Cert.AdaBwdIdeal.main_v0_1)) (v2 : (c : Dev Cert.AdaBwdIdeal.nD) → Buf (Elt Ideal) ((c.tc : Thread Cert.AdaBwdIdeal.nD Cert.AdaBwdIdeal.τ).loc Cert.AdaBwdIdeal.main_v0_2)) (v3 : (c : Dev Cert.AdaBwdIdeal.nD) → Buf (Elt Ideal) ((c.tc : Thread Cert.AdaBwdIdeal.nD Cert.AdaBwdIdeal.τ).loc Cert.AdaBwdIdeal.main_v0_3)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0_0) = v0 c
          ∧ r.2.mem ((c.tc : Thread Cert.AdaBwdIdeal.nD Cert.AdaBwdIdeal.τ).loc Cert.AdaBwdIdeal.main_v0_1) = v1 c
          ∧ r.2.mem ((c.tc : Thread Cert.AdaBwdIdeal.nD Cert.AdaBwdIdeal.τ).loc Cert.AdaBwdIdeal.main_v0_2) = v2 c
          ∧ r.2.mem ((c.tc : Thread Cert.AdaBwdIdeal.nD Cert.AdaBwdIdeal.τ).loc Cert.AdaBwdIdeal.main_v0_3) = v3 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
          ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
          ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v5) = v0 c
          ∧ r.2.mem ((c.tc : Thread Cert.AdaBwdRefIdeal.nD Cert.AdaBwdRefIdeal.τ).loc Cert.AdaBwdRefIdeal.main_v29) = v1 c
          ∧ r.2.mem ((c.tc : Thread Cert.AdaBwdRefIdeal.nD Cert.AdaBwdRefIdeal.τ).loc Cert.AdaBwdRefIdeal.main_v10) = v2 c
          ∧ r.2.mem ((c.tc : Thread Cert.AdaBwdRefIdeal.nD Cert.AdaBwdRefIdeal.τ).loc Cert.AdaBwdRefIdeal.main_v16) = v3 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1)
          ∧ r.2.mem ((c.tc : Thread Cert.AdaBwdRefIdeal.nD Cert.AdaBwdRefIdeal.τ).loc Cert.AdaBwdRefIdeal.main_arg2) = m' ((c.tc : Thread Cert.AdaBwdRefIdeal.nD Cert.AdaBwdRefIdeal.τ).loc Cert.AdaBwdRefIdeal.main_arg2)
          ∧ r.2.mem ((c.tc : Thread Cert.AdaBwdRefIdeal.nD Cert.AdaBwdRefIdeal.τ).loc Cert.AdaBwdRefIdeal.main_arg3) = m' ((c.tc : Thread Cert.AdaBwdRefIdeal.nD Cert.AdaBwdRefIdeal.τ).loc Cert.AdaBwdRefIdeal.main_arg3)
          ∧ r.2.mem ((c.tc : Thread Cert.AdaBwdRefIdeal.nD Cert.AdaBwdRefIdeal.τ).loc Cert.AdaBwdRefIdeal.main_arg4) = m' ((c.tc : Thread Cert.AdaBwdRefIdeal.nD Cert.AdaBwdRefIdeal.τ).loc Cert.AdaBwdRefIdeal.main_arg4))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v5)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v5) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v8) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v1)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v1) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v5) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)
      ∧ m' ((c.tc : Thread Cert.InFwdRefIdeal.nD Cert.InFwdRefIdeal.τ).loc Cert.InFwdRefIdeal.main_arg3) = m ((c.tc : Thread Cert.InFwdIdeal.nD Cert.InFwdIdeal.τ).loc Cert.InFwdIdeal.main_arg3)) →
    ∃ (v0 : (c : Dev Cert.InFwdIdeal.nD) → Buf (Elt Ideal) ((c.tc : Thread Cert.InFwdIdeal.nD Cert.InFwdIdeal.τ).loc Cert.InFwdIdeal.main_v15_0)) (v1 : (c : Dev Cert.InFwdIdeal.nD) → Buf (Elt Ideal) ((c.tc : Thread Cert.InFwdIdeal.nD Cert.InFwdIdeal.τ).loc Cert.InFwdIdeal.main_v15_1)) (v2 : (c : Dev Cert.InFwdIdeal.nD) → Buf (Elt Ideal) ((c.tc : Thread Cert.InFwdIdeal.nD Cert.InFwdIdeal.τ).loc Cert.InFwdIdeal.main_v15_2)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v15_0) = v0 c
          ∧ r.2.mem ((c.tc : Thread Cert.InFwdIdeal.nD Cert.InFwdIdeal.τ).loc Cert.InFwdIdeal.main_v15_1) = v1 c
          ∧ r.2.mem ((c.tc : Thread Cert.InFwdIdeal.nD Cert.InFwdIdeal.τ).loc Cert.InFwdIdeal.main_v15_2) = v2 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
          ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v32) = v0 c
          ∧ r.2.mem ((c.tc : Thread Cert.InFwdRefIdeal.nD Cert.InFwdRefIdeal.τ).loc Cert.InFwdRefIdeal.main_v36) = v1 c
          ∧ r.2.mem ((c.tc : Thread Cert.InFwdRefIdeal.nD Cert.InFwdRefIdeal.τ).loc Cert.InFwdRefIdeal.main_v38) = v2 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2)
          ∧ r.2.mem ((c.tc : Thread Cert.InFwdRefIdeal.nD Cert.InFwdRefIdeal.τ).loc Cert.InFwdRefIdeal.main_arg3) = m' ((c.tc : Thread Cert.InFwdRefIdeal.nD Cert.InFwdRefIdeal.τ).loc Cert.InFwdRefIdeal.main_arg3))

def preserves_InBwd_InBwdIdeal : Prop :=
  True

def algebraic_InBwdIdeal_InRefIdeal_pre_finite2 [hInBwdIdeal : Cert.InBwdIdeal.Facts] [hInRefIdeal : Cert.InRefIdeal.Facts] [hPre_finite2 : Cert.Pre_finite2.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InRefIdeal.nD Cert.InRefIdeal.τ Cert.InRefIdeal.sig) → Buf (Elt Ideal) ℓ) (g' : Dev Cert.InRefIdeal.nD → PrngReg), Pre_InBwdIdeal_finite2 m →
    (∀ c : Dev Cert.InBwdIdeal.nD,
      m' ((c.tc : Thread Cert.InRefIdeal.nD Cert.InRefIdeal.τ).loc Cert.InRefIdeal.main_arg0) = m ((c.tc : Thread Cert.InBwdIdeal.nD Cert.InBwdIdeal.τ).loc Cert.InBwdIdeal.main_arg0)
      ∧ m' ((c.tc : Thread Cert.InRefIdeal.nD Cert.InRefIdeal.τ).loc Cert.InRefIdeal.main_arg1) = m ((c.tc : Thread Cert.InBwdIdeal.nD Cert.InBwdIdeal.τ).loc Cert.InBwdIdeal.main_arg1)
      ∧ m' ((c.tc : Thread Cert.InRefIdeal.nD Cert.InRefIdeal.τ).loc Cert.InRefIdeal.main_arg2) = m ((c.tc : Thread Cert.InBwdIdeal.nD Cert.InBwdIdeal.τ).loc Cert.InBwdIdeal.main_arg2)
      ∧ m' ((c.tc : Thread Cert.InRefIdeal.nD Cert.InRefIdeal.τ).loc Cert.InRefIdeal.main_arg3) = m ((c.tc : Thread Cert.InBwdIdeal.nD Cert.InBwdIdeal.τ).loc Cert.InBwdIdeal.main_arg3)
      ∧ m' ((c.tc : Thread Cert.InRefIdeal.nD Cert.InRefIdeal.τ).loc Cert.InRefIdeal.main_arg4) = m ((c.tc : Thread Cert.InBwdIdeal.nD Cert.InBwdIdeal.τ).loc Cert.InBwdIdeal.main_arg4)
      ∧ m' ((c.tc : Thread Cert.InRefIdeal.nD Cert.InRefIdeal.τ).loc Cert.InRefIdeal.main_arg5) = m ((c.tc : Thread Cert.InBwdIdeal.nD Cert.InBwdIdeal.τ).loc Cert.InBwdIdeal.main_arg5)) →
    ∃ (v0 : (c : Dev Cert.InBwdIdeal.nD) → Buf (Elt Ideal) ((c.tc : Thread Cert.InBwdIdeal.nD Cert.InBwdIdeal.τ).loc Cert.InBwdIdeal.main_v25_0)) (v1 : (c : Dev Cert.InBwdIdeal.nD) → Buf (Elt Ideal) ((c.tc : Thread Cert.InBwdIdeal.nD Cert.InBwdIdeal.τ).loc Cert.InBwdIdeal.main_v25_1)) (v2 : (c : Dev Cert.InBwdIdeal.nD) → Buf (Elt Ideal) ((c.tc : Thread Cert.InBwdIdeal.nD Cert.InBwdIdeal.τ).loc Cert.InBwdIdeal.main_v25_2)) (v3 : (c : Dev Cert.InBwdIdeal.nD) → Buf (Elt Ideal) ((c.tc : Thread Cert.InBwdIdeal.nD Cert.InBwdIdeal.τ).loc Cert.InBwdIdeal.main_v25_3)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v25_0) = v0 c
          ∧ r.2.mem ((c.tc : Thread Cert.InBwdIdeal.nD Cert.InBwdIdeal.τ).loc Cert.InBwdIdeal.main_v25_1) = v1 c
          ∧ r.2.mem ((c.tc : Thread Cert.InBwdIdeal.nD Cert.InBwdIdeal.τ).loc Cert.InBwdIdeal.main_v25_2) = v2 c
          ∧ r.2.mem ((c.tc : Thread Cert.InBwdIdeal.nD Cert.InBwdIdeal.τ).loc Cert.InBwdIdeal.main_v25_3) = v3 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v62) = v0 c
          ∧ r.2.mem ((c.tc : Thread Cert.InRefIdeal.nD Cert.InRefIdeal.τ).loc Cert.InRefIdeal.main_v32) = v1 c
          ∧ r.2.mem ((c.tc : Thread Cert.InRefIdeal.nD Cert.InRefIdeal.τ).loc Cert.InRefIdeal.main_v39) = v2 c
          ∧ r.2.mem ((c.tc : Thread Cert.InRefIdeal.nD Cert.InRefIdeal.τ).loc Cert.InRefIdeal.main_v63) = v3 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)
      ∧ m' ((c.tc : Thread Cert.AdamInRefIdeal.nD Cert.AdamInRefIdeal.τ).loc Cert.AdamInRefIdeal.main_arg6) = m ((c.tc : Thread Cert.AdamInIdeal.nD Cert.AdamInIdeal.τ).loc Cert.AdamInIdeal.main_arg6)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v12) = v0 c
          ∧ r.2.mem ((c.tc : Thread Cert.AdamInRefIdeal.nD Cert.AdamInRefIdeal.τ).loc Cert.AdamInRefIdeal.main_v36) = v1 c
          ∧ r.2.mem ((c.tc : Thread Cert.AdamInRefIdeal.nD Cert.AdamInRefIdeal.τ).loc Cert.AdamInRefIdeal.main_v17) = v2 c
          ∧ r.2.mem ((c.tc : Thread Cert.AdamInRefIdeal.nD Cert.AdamInRefIdeal.τ).loc Cert.AdamInRefIdeal.main_v23) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5)
          ∧ r.2.mem ((c.tc : Thread Cert.AdamInRefIdeal.nD Cert.AdamInRefIdeal.τ).loc Cert.AdamInRefIdeal.main_arg6) = m' ((c.tc : Thread Cert.AdamInRefIdeal.nD Cert.AdamInRefIdeal.τ).loc Cert.AdamInRefIdeal.main_arg6))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)
      ∧ m' ((c.tc : Thread Cert.AdamOutRefIdeal.nD Cert.AdamOutRefIdeal.τ).loc Cert.AdamOutRefIdeal.main_arg6) = m ((c.tc : Thread Cert.AdamOutIdeal.nD Cert.AdamOutIdeal.τ).loc Cert.AdamOutIdeal.main_arg6)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
          ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v12) = v0 c
          ∧ r.2.mem ((c.tc : Thread Cert.AdamOutRefIdeal.nD Cert.AdamOutRefIdeal.τ).loc Cert.AdamOutRefIdeal.main_v36) = v1 c
          ∧ r.2.mem ((c.tc : Thread Cert.AdamOutRefIdeal.nD Cert.AdamOutRefIdeal.τ).loc Cert.AdamOutRefIdeal.main_v17) = v2 c
          ∧ r.2.mem ((c.tc : Thread Cert.AdamOutRefIdeal.nD Cert.AdamOutRefIdeal.τ).loc Cert.AdamOutRefIdeal.main_v23) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5)
          ∧ r.2.mem ((c.tc : Thread Cert.AdamOutRefIdeal.nD Cert.AdamOutRefIdeal.τ).loc Cert.AdamOutRefIdeal.main_arg6) = m' ((c.tc : Thread Cert.AdamOutRefIdeal.nD Cert.AdamOutRefIdeal.τ).loc Cert.AdamOutRefIdeal.main_arg6))

def Claim : Prop :=
  ∃ (hLossHead : Cert.LossHead.Facts) (hLossHeadIdeal : Cert.LossHeadIdeal.Facts) (hLossRefIdeal : Cert.LossRefIdeal.Facts) (hOutBwd : Cert.OutBwd.Facts) (hOutBwdIdeal : Cert.OutBwdIdeal.Facts) (hOutRefIdeal : Cert.OutRefIdeal.Facts) (hWoutGrad : Cert.WoutGrad.Facts) (hWoutGradIdeal : Cert.WoutGradIdeal.Facts) (hWoutRefIdeal : Cert.WoutRefIdeal.Facts) (hDnFwd : Cert.DnFwd.Facts) (hDnFwdIdeal : Cert.DnFwdIdeal.Facts) (hDnRefIdeal : Cert.DnRefIdeal.Facts) (hAdaBwd : Cert.AdaBwd.Facts) (hAdaBwdIdeal : Cert.AdaBwdIdeal.Facts) (hAdaBwdRefIdeal : Cert.AdaBwdRefIdeal.Facts) (hOutFwd : Cert.OutFwd.Facts) (hOutFwdIdeal : Cert.OutFwdIdeal.Facts) (hOutFwdRefIdeal : Cert.OutFwdRefIdeal.Facts) (hAdaFwd : Cert.AdaFwd.Facts) (hAdaFwdIdeal : Cert.AdaFwdIdeal.Facts) (hAdaFwdRefIdeal : Cert.AdaFwdRefIdeal.Facts) (hInFwd : Cert.InFwd.Facts) (hInFwdIdeal : Cert.InFwdIdeal.Facts) (hInFwdRefIdeal : Cert.InFwdRefIdeal.Facts) (hInBwd : Cert.InBwd.Facts) (hInBwdIdeal : Cert.InBwdIdeal.Facts) (hInRefIdeal : Cert.InRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hPre_finite1 : Cert.Pre_finite1.Facts) (hPre_finite4 : Cert.Pre_finite4.Facts) (hPre_finite5 : Cert.Pre_finite5.Facts) (hPre_finite2 : Cert.Pre_finite2.Facts),
    quiescent_LossHead (hLossHead := hLossHead)
    ∧ quiescent_LossHeadIdeal (hLossHeadIdeal := hLossHeadIdeal)
    ∧ quiescent_LossHeadIdeal_pre_finite1 (hLossHeadIdeal := hLossHeadIdeal) (hPre_finite1 := hPre_finite1)
    ∧ quiescent_LossRefIdeal (hLossRefIdeal := hLossRefIdeal)
    ∧ quiescent_LossRefIdeal_pre_finite1 (hLossRefIdeal := hLossRefIdeal) (hPre_finite1 := hPre_finite1)
    ∧ quiescent_OutBwd (hOutBwd := hOutBwd)
    ∧ quiescent_OutBwdIdeal (hOutBwdIdeal := hOutBwdIdeal)
    ∧ quiescent_OutRefIdeal (hOutRefIdeal := hOutRefIdeal)
    ∧ quiescent_WoutGrad (hWoutGrad := hWoutGrad)
    ∧ quiescent_WoutGradIdeal (hWoutGradIdeal := hWoutGradIdeal)
    ∧ quiescent_WoutGradIdeal_pre_finite4 (hWoutGradIdeal := hWoutGradIdeal) (hPre_finite4 := hPre_finite4)
    ∧ quiescent_WoutRefIdeal (hWoutRefIdeal := hWoutRefIdeal)
    ∧ quiescent_WoutRefIdeal_pre_finite4 (hWoutRefIdeal := hWoutRefIdeal) (hPre_finite4 := hPre_finite4)
    ∧ quiescent_DnFwd (hDnFwd := hDnFwd)
    ∧ quiescent_DnFwdIdeal (hDnFwdIdeal := hDnFwdIdeal)
    ∧ quiescent_DnFwdIdeal_pre_finite5 (hDnFwdIdeal := hDnFwdIdeal) (hPre_finite5 := hPre_finite5)
    ∧ quiescent_DnRefIdeal (hDnRefIdeal := hDnRefIdeal)
    ∧ quiescent_DnRefIdeal_pre_finite5 (hDnRefIdeal := hDnRefIdeal) (hPre_finite5 := hPre_finite5)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_InBwd (hInBwd := hInBwd)
    ∧ quiescent_InBwdIdeal (hInBwdIdeal := hInBwdIdeal)
    ∧ quiescent_InBwdIdeal_pre_finite2 (hInBwdIdeal := hInBwdIdeal) (hPre_finite2 := hPre_finite2)
    ∧ quiescent_InRefIdeal (hInRefIdeal := hInRefIdeal)
    ∧ quiescent_InRefIdeal_pre_finite2 (hInRefIdeal := hInRefIdeal) (hPre_finite2 := hPre_finite2)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ preserves_LossHead_LossHeadIdeal
    ∧ algebraic_LossHeadIdeal_LossRefIdeal_pre_finite1 (hLossHeadIdeal := hLossHeadIdeal) (hLossRefIdeal := hLossRefIdeal) (hPre_finite1 := hPre_finite1)
    ∧ preserves_OutBwd_OutBwdIdeal
    ∧ algebraic_OutBwdIdeal_OutRefIdeal (hOutBwdIdeal := hOutBwdIdeal) (hOutRefIdeal := hOutRefIdeal)
    ∧ preserves_WoutGrad_WoutGradIdeal
    ∧ algebraic_WoutGradIdeal_WoutRefIdeal_pre_finite4 (hWoutGradIdeal := hWoutGradIdeal) (hWoutRefIdeal := hWoutRefIdeal) (hPre_finite4 := hPre_finite4)
    ∧ preserves_DnFwd_DnFwdIdeal
    ∧ algebraic_DnFwdIdeal_DnRefIdeal_pre_finite5 (hDnFwdIdeal := hDnFwdIdeal) (hDnRefIdeal := hDnRefIdeal) (hPre_finite5 := hPre_finite5)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_InFwd_InFwdIdeal
    ∧ algebraic_InFwdIdeal_InFwdRefIdeal (hInFwdIdeal := hInFwdIdeal) (hInFwdRefIdeal := hInFwdRefIdeal)
    ∧ preserves_InBwd_InBwdIdeal
    ∧ algebraic_InBwdIdeal_InRefIdeal_pre_finite2 (hInBwdIdeal := hInBwdIdeal) (hInRefIdeal := hInRefIdeal) (hPre_finite2 := hPre_finite2)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
-- ==== Pre_finite1.lean ====
abbrev S1x8192x2048 : Shape := ⟨3, ![1, 8192, 2048]⟩
abbrev S2048 : Shape := ⟨1, ![2048]⟩
abbrev S_ : Shape := ⟨0, ![]⟩

class Facts : Prop where
  bcast_S_S1x8192x2048 : S_.BroadcastsInDim S1x8192x2048 (![] : Fin 0 → Fin S1x8192x2048.rank)
  bcast_S_S2048 : S_.BroadcastsInDim S2048 (![] : Fin 0 → Fin S2048.rank)

variable [Facts]

def fn {F : FTy → Type} [FloatOps F] (main_arg0 : FVec F S1x8192x2048 .f32) (main_arg1 : FVec F S2048 .f32) (main_arg2 : FVec F S1x8192x2048 .f32) : IVec S1x8192x2048 1 × IVec S2048 1 × IVec S1x8192x2048 1 :=
  let main_v0 : FVec F S1x8192x2048 .f32 := Host.absf main_arg0
  let main_cst : FVec F S_ .f32 := constant S_ .f32 0x7F800000#32
  let main_v1 : FVec F S1x8192x2048 .f32 := broadcastInDim S1x8192x2048 ![] bcast_S_S1x8192x2048 main_cst
  let main_v2 : IVec S1x8192x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S1x8192x2048 .f32 := Host.absf main_arg2
  let main_cst_1 : FVec F S_ .f32 := constant S_ .f32 0x7F800000#32
  let main_v7 : FVec F S1x8192x2048 .f32 := broadcastInDim S1x8192x2048 ![] bcast_S_S1x8192x2048 main_cst_1
  let main_v8 : IVec S1x8192x2048 1 := cmpf .olt main_v6 main_v7
  (main_v2, main_v5, main_v8)
-- ==== Pre_finite2.lean ====
abbrev S1x8192x2048 : Shape := ⟨3, ![1, 8192, 2048]⟩
abbrev S2048 : Shape := ⟨1, ![2048]⟩
abbrev S1x6144 : Shape := ⟨2, ![1, 6144]⟩
abbrev S2048x7184 : Shape := ⟨2, ![2048, 7184]⟩
abbrev S1x8192x7184 : Shape := ⟨3, ![1, 8192, 7184]⟩
abbrev S_ : Shape := ⟨0, ![]⟩

class Facts : Prop where
  bcast_S_S1x8192x2048 : S_.BroadcastsInDim S1x8192x2048 (![] : Fin 0 → Fin S1x8192x2048.rank)
  bcast_S_S2048 : S_.BroadcastsInDim S2048 (![] : Fin 0 → Fin S2048.rank)
  bcast_S_S1x6144 : S_.BroadcastsInDim S1x6144 (![] : Fin 0 → Fin S1x6144.rank)
  bcast_S_S2048x7184 : S_.BroadcastsInDim S2048x7184 (![] : Fin 0 → Fin S2048x7184.rank)
  bcast_S_S1x8192x7184 : S_.BroadcastsInDim S1x8192x7184 (![] : Fin 0 → Fin S1x8192x7184.rank)

variable [Facts]

def fn {F : FTy → Type} [FloatOps F] (main_arg0 : FVec F S1x8192x2048 .f32) (main_arg1 : FVec F S2048 .f32) (main_arg2 : FVec F S1x6144 .f32) (main_arg3 : FVec F S2048x7184 .f32) (main_arg4 : FVec F S1x8192x7184 .f32) (main_arg5 : FVec F S1x8192x2048 .f32) : IVec S1x8192x2048 1 × IVec S2048 1 × IVec S1x6144 1 × IVec S2048x7184 1 × IVec S1x8192x7184 1 :=
  let main_v0 : FVec F S1x8192x2048 .f32 := Host.absf main_arg0
  let main_cst : FVec F S_ .f32 := constant S_ .f32 0x7F800000#32
  let main_v1 : FVec F S1x8192x2048 .f32 := broadcastInDim S1x8192x2048 ![] bcast_S_S1x8192x2048 main_cst
  let main_v2 : IVec S1x8192x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S1x6144 .f32 := Host.absf main_arg2
  let main_cst_1 : FVec F S_ .f32 := constant S_ .f32 0x7F800000#32
  let main_v7 : FVec F S1x6144 .f32 := broadcastInDim S1x6144 ![] bcast_S_S1x6144 main_cst_1
  let main_v8 : IVec S1x6144 1 := cmpf .olt main_v6 main_v7
  let main_v9 : FVec F S2048x7184 .f32 := Host.absf main_arg3
  let main_cst_2 : FVec F S_ .f32 := constant S_ .f32 0x7F800000#32
  let main_v10 : FVec F S2048x7184 .f32 := broadcastInDim S2048x7184 ![] bcast_S_S2048x7184 main_cst_2
  let main_v11 : IVec S2048x7184 1 := cmpf .olt main_v9 main_v10
  let main_v12 : FVec F S1x8192x7184 .f32 := Host.absf main_arg4
  let main_cst_3 : FVec F S_ .f32 := constant S_ .f32 0x7F800000#32
  let main_v13 : FVec F S1x8192x7184 .f32 := broadcastInDim S1x8192x7184 ![] bcast_S_S1x8192x7184 main_cst_3
  let main_v14 : IVec S1x8192x7184 1 := cmpf .olt main_v12 main_v13
  (main_v2, main_v5, main_v8, main_v11, main_v14)
-- ==== Pre_finite4.lean ====
abbrev S1x8192x2048 : Shape := ⟨3, ![1, 8192, 2048]⟩
abbrev S1x6144 : Shape := ⟨2, ![1, 6144]⟩
abbrev S2048x2048 : Shape := ⟨2, ![2048, 2048]⟩
abbrev S_ : Shape := ⟨0, ![]⟩

class Facts : Prop where
  bcast_S_S1x8192x2048 : S_.BroadcastsInDim S1x8192x2048 (![] : Fin 0 → Fin S1x8192x2048.rank)
  bcast_S_S1x6144 : S_.BroadcastsInDim S1x6144 (![] : Fin 0 → Fin S1x6144.rank)
  bcast_S_S2048x2048 : S_.BroadcastsInDim S2048x2048 (![] : Fin 0 → Fin S2048x2048.rank)

variable [Facts]

def fn {F : FTy → Type} [FloatOps F] (main_arg0 : FVec F S1x8192x2048 .f32) (main_arg1 : FVec F S1x6144 .f32) (main_arg2 : FVec F S2048x2048 .f32) (main_arg3 : FVec F S1x8192x2048 .f32) : IVec S1x8192x2048 1 × IVec S1x6144 1 × IVec S2048x2048 1 × IVec S1x8192x2048 1 :=
  let main_v0 : FVec F S1x8192x2048 .f32 := Host.absf main_arg0
  let main_cst : FVec F S_ .f32 := constant S_ .f32 0x7F800000#32
  let main_v1 : FVec F S1x8192x2048 .f32 := broadcastInDim S1x8192x2048 ![] bcast_S_S1x8192x2048 main_cst
  let main_v2 : IVec S1x8192x2048 1 := cmpf .olt main_v0 main_v1
  let main_v3 : FVec F S1x6144 .f32 := Host.absf main_arg1
  let main_cst_0 : FVec F S_ .f32 := constant S_ .f32 0x7F800000#32
  let main_v4 : FVec F S1x6144 .f32 := broadcastInDim S1x6144 ![] bcast_S_S1x6144 main_cst_0
  let main_v5 : IVec S1x6144 1 := cmpf .olt main_v3 main_v4
  let main_v6 : FVec F S2048x2048 .f32 := Host.absf main_arg2
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v6 main_v7
  let main_v9 : FVec F S1x8192x2048 .f32 := Host.absf main_arg3
  let main_cst_2 : FVec F S_ .f32 := constant S_ .f32 0x7F800000#32
  let main_v10 : FVec F S1x8192x2048 .f32 := broadcastInDim S1x8192x2048 ![] bcast_S_S1x8192x2048 main_cst_2
  let main_v11 : IVec S1x8192x2048 1 := cmpf .olt main_v9 main_v10
  (main_v2, main_v5, main_v8, main_v11)
-- ==== Pre_finite5.lean ====
abbrev S8192x3072 : Shape := ⟨2, ![8192, 3072]⟩
abbrev S8192x8 : Shape := ⟨2, ![8192, 8]⟩
abbrev S4x3072 : Shape := ⟨2, ![4, 3072]⟩
abbrev S8 : Shape := ⟨1, ![8]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  bcast_S_S8192x8 : S_.BroadcastsInDim S8192x8 (![] : Fin 0 → Fin S8192x8.rank)
  bcast_S_S4x3072 : S_.BroadcastsInDim S4x3072 (![] : Fin 0 → Fin S4x3072.rank)
  bcast_S_S8 : S_.BroadcastsInDim S8 (![] : Fin 0 → Fin S8.rank)

variable [Facts]

def fn_part1 {F : FTy → Type} [FloatOps F] (main_v3 : IVec S8192x3072 1) (main_v6 : IVec S8192x8 1) (main_v9 : IVec S8192x8 1) (main_v12 : IVec S4x3072 1) (main_v15 : IVec S8 1) (main_v16 : FVec F S8 .f32) (main_v17 : FVec F S8 .f32) : IVec S8192x3072 1 × IVec S8192x8 1 × IVec S8192x8 1 × IVec S4x3072 1 × IVec S8 1 × IVec S8 1 :=
  let main_v18 : IVec S8 1 := cmpf .olt main_v16 main_v17
  (main_v3, main_v6, main_v9, main_v12, main_v15, main_v18)

def fn {F : FTy → Type} [FloatOps F] (main_arg0 : FVec F S8192x3072 .bf16) (main_arg1 : FVec F S8192x8 .f32) (main_arg2 : FVec F S8192x8 .f32) (main_arg3 : FVec F S4x3072 .f32) (main_arg4 : FVec F S8 .f32) (main_arg5 : FVec F S8 .f32) : IVec S8192x3072 1 × IVec S8192x8 1 × IVec S8192x8 1 × IVec S4x3072 1 × IVec S8 1 × IVec S8 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_v4 : FVec F S8192x8 .f32 := Host.absf main_arg1
  let main_cst_0 : FVec F S_ .f32 := constant S_ .f32 0x7F800000#32
  let main_v5 : FVec F S8192x8 .f32 := broadcastInDim S8192x8 ![] bcast_S_S8192x8 main_cst_0
  let main_v6 : IVec S8192x8 1 := cmpf .olt main_v4 main_v5
  let main_v7 : FVec F S8192x8 .f32 := Host.absf main_arg2
  let main_cst_1 : FVec F S_ .f32 := constant S_ .f32 0x7F800000#32
  let main_v8 : FVec F S8192x8 .f32 := broadcastInDim S8192x8 ![] bcast_S_S8192x8 main_cst_1
  let main_v9 : IVec S8192x8 1 := cmpf .olt main_v7 main_v8
  let main_v10 : FVec F S4x3072 .f32 := Host.absf main_arg3
  let main_cst_2 : FVec F S_ .f32 := constant S_ .f32 0x7F800000#32
  let main_v11 : FVec F S4x3072 .f32 := broadcastInDim S4x3072 ![] bcast_S_S4x3072 main_cst_2
  let main_v12 : IVec S4x3072 1 := cmpf .olt main_v10 main_v11
  let main_v13 : FVec F S8 .f32 := Host.absf main_arg4
  let main_cst_3 : FVec F S_ .f32 := constant S_ .f32 0x7F800000#32
  let main_v14 : FVec F S8 .f32 := broadcastInDim S8 ![] bcast_S_S8 main_cst_3
  let main_v15 : IVec S8 1 := cmpf .olt main_v13 main_v14
  let main_v16 : FVec F S8 .f32 := Host.absf main_arg5
  let main_cst_4 : FVec F S_ .f32 := constant S_ .f32 0x7F800000#32
  let main_v17 : FVec F S8 .f32 := broadcastInDim S8 ![] bcast_S_S8 main_cst_4
  fn_part1 (F := F) main_v3 main_v6 main_v9 main_v12 main_v15 main_v16 main_v17
-- ==== LossHead.lean ====
abbrev S1x8192x2048 : Shape := ⟨3, ![1, 8192, 2048]⟩
abbrev S2048 : Shape := ⟨1, ![2048]⟩
abbrev S8192x2048 : Shape := ⟨2, ![8192, 2048]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩

abbrev nBuf : Space → Nat
  | .hbm => 9
  | .vmem => 9
  | .smem => 0
  | _ => 0

abbrev bufTy : (tb : Table) → Fin (tcTables nBuf tb) → BufTy
  | .hbm, ⟨0, _⟩ => ⟨S1x8192x2048, .f32⟩
  | .hbm, ⟨1, _⟩ => ⟨S2048, .f32⟩
  | .hbm, ⟨2, _⟩ => ⟨S1x8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S1x1, .f32⟩
  | .hbm, ⟨8, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x1, .f32⟩
  | .local _ .vmem, ⟨8, _⟩ => ⟨S1x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S1x8192x2048 : Shape := ⟨3, ![1, 8192, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x2048 : Shape := ⟨2, ![1, 2048]⟩
abbrev S8192 : Shape := ⟨1, ![8192]⟩
abbrev S8192x2048 : Shape := ⟨2, ![8192, 2048]⟩
abbrev S1x1 : Shape := ⟨2, ![1, 1]⟩

abbrev nBuf : Space → Nat
  | .hbm => 75
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048, .f32⟩
  | .hbm, ⟨2, _⟩ => ⟨S1x8192x2048, .f32⟩
  | .hbm, ⟨3, _⟩ => ⟨S1x8192x2048, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x2048, .f32⟩
  | .hbm, ⟨19, _⟩ => ⟨S1x8192x2048, .f32⟩
  | .hbm, ⟨20, _⟩ => ⟨S1x1x2048, .f32⟩
  | .hbm, ⟨21, _⟩ => ⟨S1x8192x2048, .f32⟩
  | .hbm, ⟨22, _⟩ => ⟨S1x8192x2048, .f32⟩
  | .hbm, ⟨23, _⟩ => ⟨S1x8192x2048, .f32⟩
  | .hbm, ⟨24, _⟩ => ⟨S1x8192x2048, .f32⟩
  | .hbm, ⟨25, _⟩ => ⟨S_, .f32⟩
  | .hbm, ⟨26, _⟩ => ⟨S1x8192x2048, .f32⟩
  | .hbm, ⟨27, _⟩ => ⟨S1x8192x2048, .f32⟩
  | .hbm, ⟨28, _⟩ => ⟨S_, .f32⟩
  | .hbm, ⟨29, _⟩ => ⟨S1x8192, .f32⟩
  | .hbm, ⟨30, _⟩ => ⟨S_, .f32⟩
  | .hbm, ⟨31, _⟩ => ⟨S1x8192, .f32⟩
  | .hbm, ⟨32, _⟩ => ⟨S1x8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x8192, .f32⟩
  | .hbm, ⟨41, _⟩ => ⟨S_, .f32⟩
  | .hbm, ⟨42, _⟩ => ⟨S1x8192, .f32⟩
  | .hbm, ⟨43, _⟩ => ⟨S1x8192, .f32⟩
  | .hbm, ⟨44, _⟩ => ⟨S1x8192x2048, .f32⟩
  | .hbm, ⟨45, _⟩ => ⟨S1x8192x2048, .f32⟩
  | .hbm, ⟨46, _⟩ => ⟨S1x8192x2048, .f32⟩
  | .hbm, ⟨47, _⟩ => ⟨S_, .f32⟩
  | .hbm, ⟨48, _⟩ => ⟨S1x2048, .f32⟩
  | .hbm, ⟨49, _⟩ => ⟨S1x1x2048, .f32⟩
  | .hbm, ⟨50, _⟩ => ⟨S1x8192x2048, .f32⟩
  | .hbm, ⟨51, _⟩ => ⟨S1x8192x2048, .f32⟩
  | .hbm, ⟨52, _⟩ => ⟨S_, .f32⟩
  | .hbm, ⟨53, _⟩ => ⟨S2048, .f32⟩
  | .hbm, ⟨54, _⟩ => ⟨S1x8192x2048, .f32⟩
  | .hbm, ⟨55, _⟩ => ⟨S_, .f32⟩
  | .hbm, ⟨56, _⟩ => ⟨S1x8192, .f32⟩
  | .hbm, ⟨57, _⟩ => ⟨S1x8192x1, .f32⟩
  | .hbm, ⟨58, _⟩ => ⟨S1x8192x2048, .f32⟩
  | .hbm, ⟨59, _⟩ => ⟨S1x8192x2048, .f32⟩
  | .hbm, ⟨60, _⟩ => ⟨S1x8192x1, .f32⟩
  | .hbm, ⟨61, _⟩ => ⟨S_, .f32⟩
  | .hbm, ⟨62, _⟩ => ⟨S1x8192x1, .f32⟩
  | .hbm, ⟨63, _⟩ => ⟨S1x8192x1, .f32⟩
  | .hbm, ⟨64, _⟩ => ⟨S_, .f32⟩
  | .hbm, ⟨65, _⟩ => ⟨S8192, .f32⟩
  | .hbm, ⟨66, _⟩ => ⟨S1x8192, .f32⟩
  | .hbm, ⟨67, _⟩ => ⟨S1x8192x2048, .f32⟩
  | .hbm, ⟨68, _⟩ => ⟨S1x8192x2048, .f32⟩
  | .hbm, ⟨69, _⟩ => ⟨S1x8192x2048, .f32⟩
  | .hbm, ⟨70, _⟩ => ⟨S1x8192x2048, .f32⟩
  | .hbm, ⟨71, _⟩ => ⟨S1x8192x2048, .f32⟩
  | .hbm, ⟨72, _⟩ => ⟨S8192x2048, .f32⟩
  | .hbm, ⟨73, _⟩ => ⟨S1x1, .f32⟩
  | .hbm, ⟨74, _⟩ => ⟨S1x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== OutBwd.lean ====
abbrev S1x8192x2048 : Shape := ⟨3, ![1, 8192, 2048]⟩
abbrev S1x6144 : Shape := ⟨2, ![1, 6144]⟩
abbrev S2048x2048 : Shape := ⟨2, ![2048, 2048]⟩
abbrev S8192x2048 : Shape := ⟨2, ![8192, 2048]⟩
abbrev S1x2048 : Shape := ⟨2, ![1, 2048]⟩
abbrev S512x2048 : Shape := ⟨2, ![512, 2048]⟩

abbrev nBuf : Space → Nat
  | .hbm => 8
  | .vmem => 6
  | .smem => 0
  | _ => 0

abbrev bufTy : (tb : Table) → Fin (tcTables nBuf tb) → BufTy
  | .hbm, ⟨0, _⟩ => ⟨S1x8192x2048, .f32⟩
  | .hbm, ⟨1, _⟩ => ⟨S1x6144, .f32⟩
  | .hbm, ⟨2, _⟩ => ⟨S2048x2048, .f32⟩
  | .hbm, ⟨3, _⟩ => ⟨S1x8192x2048, .f32⟩
  | .hbm, ⟨4, _⟩ => ⟨S8192x2048, .f32⟩
  | .hbm, ⟨5, _⟩ => ⟨S2048x2048, .bf16⟩
  | .hbm, ⟨6, _⟩ => ⟨S1x2048, .f32⟩
  | .hbm, ⟨7, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutRefIdeal.lean ====
abbrev S1x8192x2048 : Shape := ⟨3, ![1, 8192, 2048]⟩
abbrev S1x6144 : Shape := ⟨2, ![1, 6144]⟩
abbrev S2048x2048 : Shape := ⟨2, ![2048, 2048]⟩
abbrev S1x2048 : Shape := ⟨2, ![1, 2048]⟩
abbrev S1x1x2048 : Shape := ⟨3, ![1, 1, 2048]⟩
abbrev S8192x2048 : Shape := ⟨2, ![8192, 2048]⟩

abbrev nBuf : Space → Nat
  | .hbm => 16
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x6144, .f32⟩
  | .hbm, ⟨2, _⟩ => ⟨S2048x2048, .f32⟩
  | .hbm, ⟨3, _⟩ => ⟨S1x8192x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x1x2048, .f32⟩
  | .hbm, ⟨8, _⟩ => ⟨S1x8192x2048, .f32⟩
  | .hbm, ⟨9, _⟩ => ⟨S1x8192x2048, .f32⟩
  | .hbm, ⟨10, _⟩ => ⟨S1x8192x2048, .f32⟩
  | .hbm, ⟨11, _⟩ => ⟨S1x8192x2048, .f32⟩
  | .hbm, ⟨12, _⟩ => ⟨S1x8192x2048, .f32⟩
  | .hbm, ⟨13, _⟩ => ⟨S1x8192x2048, .f32⟩
  | .hbm, ⟨14, _⟩ => ⟨S8192x2048, .f32⟩
  | .hbm, ⟨15, _⟩ => ⟨S8192x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== WoutGrad.lean ====
abbrev S1x8192x2048 : Shape := ⟨3, ![1, 8192, 2048]⟩
abbrev S1x6144 : Shape := ⟨2, ![1, 6144]⟩
abbrev S2048x2048 : Shape := ⟨2, ![2048, 2048]⟩
abbrev S8192x2048 : Shape := ⟨2, ![8192, 2048]⟩
abbrev S1x2048 : Shape := ⟨2, ![1, 2048]⟩
abbrev S8x256x2048 : Shape := ⟨3, ![8, 256, 2048]⟩
abbrev S256x2048 : Shape := ⟨2, ![256, 2048]⟩
abbrev S1x256x2048 : Shape := ⟨3, ![1, 256, 2048]⟩
abbrev S2048 : Shape := ⟨1, ![2048]⟩

abbrev nBuf : Space → Nat
  | .hbm => 13
  | .vmem => 8
  | .smem => 0
  | _ => 0

abbrev bufTy : (tb : Table) → Fin (tcTables nBuf tb) → BufTy
  | .hbm, ⟨0, _⟩ => ⟨S1x8192x2048, .f32⟩
  | .hbm, ⟨1, _⟩ => ⟨S1x6144, .f32⟩
  | .hbm, ⟨2, _⟩ => ⟨S2048x2048, .f32⟩
  | .hbm, ⟨3, _⟩ => ⟨S1x8192x2048, .f32⟩
  | .hbm, ⟨4, _⟩ => ⟨S8192x2048, .f32⟩
  | .hbm, ⟨5, _⟩ => ⟨S8192x2048, .bf16⟩
  | .hbm, ⟨6, _⟩ => ⟨S8192x2048, .f32⟩
  | .hbm, ⟨7, _⟩ => ⟨S8192x2048, .bf16⟩
  | .hbm, ⟨8, _⟩ => ⟨S2048x2048, .f32⟩
  | .hbm, ⟨9, _⟩ => ⟨S2048x2048, .bf16⟩
  | .hbm, ⟨10, _⟩ => ⟨S1x2048, .f32⟩
  | .hbm, ⟨11, _⟩ => ⟨S8x256x2048, .bf16⟩
  | .hbm, ⟨12, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x256x2048, .bf16⟩
  | .local _ .vmem, ⟨6, _⟩ => ⟨S1x256x2048, .bf16⟩
  | .local _ .vmem, ⟨7, _⟩ => ⟨S1x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== WoutRefIdeal.lean ====
abbrev S1x8192x2048 : Shape := ⟨3, ![1, 8192, 2048]⟩
abbrev S1x6144 : Shape := ⟨2, ![1, 6144]⟩
abbrev S2048x2048 : Shape := ⟨2, ![2048, 2048]⟩
abbrev S1x2048 : Shape := ⟨2, ![1, 2048]⟩
abbrev S1x1x2048 : Shape := ⟨3, ![1, 1, 2048]⟩
abbrev S_ : Shape := ⟨0, ![]⟩
abbrev S2048 : Shape := ⟨1, ![2048]⟩
abbrev S8x256x2048 : Shape := ⟨3, ![8, 256, 2048]⟩

abbrev nBuf : Space → Nat
  | .hbm => 24
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x6144, .f32⟩
  | .hbm, ⟨2, _⟩ => ⟨S2048x2048, .f32⟩
  | .hbm, ⟨3, _⟩ => ⟨S1x8192x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x1x2048, .f32⟩
  | .hbm, ⟨8, _⟩ => ⟨S1x8192x2048, .f32⟩
  | .hbm, ⟨9, _⟩ => ⟨S1x8192x2048, .f32⟩
  | .hbm, ⟨10, _⟩ => ⟨S1x8192x2048, .f32⟩
  | .hbm, ⟨11, _⟩ => ⟨S1x8192x2048, .f32⟩
  | .hbm, ⟨12, _⟩ => ⟨S1x8192x2048, .f32⟩
  | .hbm, ⟨13, _⟩ => ⟨S1x8192x2048, .f32⟩
  | .hbm, ⟨14, _⟩ => ⟨S_, .f32⟩
  | .hbm, ⟨15, _⟩ => ⟨S1x2048, .f32⟩
  | .hbm, ⟨16, _⟩ => ⟨S1x1x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048, .f32⟩
  | .hbm, ⟨21, _⟩ => ⟨S1x2048, .f32⟩
  | .hbm, ⟨22, _⟩ => ⟨S8x256x2048, .f32⟩
  | .hbm, ⟨23, _⟩ => ⟨S8x256x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== DnFwd.lean ====
abbrev S8192x3072 : Shape := ⟨2, ![8192, 3072]⟩
abbrev S8192x8 : Shape := ⟨2, ![8192, 8]⟩
abbrev S4x3072 : Shape := ⟨2, ![4, 3072]⟩
abbrev S8 : Shape := ⟨1, ![8]⟩
abbrev S_ : Shape := ⟨0, ![]⟩
abbrev S8192x4096 : Shape := ⟨2, ![8192, 4096]⟩
abbrev S8192x7168 : Shape := ⟨2, ![8192, 7168]⟩
abbrev S8192x112 : Shape := ⟨2, ![8192, 112]⟩
abbrev S8192x128 : Shape := ⟨2, ![8192, 128]⟩
abbrev S8192x16 : Shape := ⟨2, ![8192, 16]⟩
abbrev S128x64x16 : Shape := ⟨3, ![128, 64, 16]⟩
abbrev S128x16x64 : Shape := ⟨3, ![128, 16, 64]⟩
abbrev S128 : Shape := ⟨1, ![128]⟩
abbrev S1x128 : Shape := ⟨2, ![1, 128]⟩
abbrev S1x16 : Shape := ⟨2, ![1, 16]⟩
abbrev S16 : Shape := ⟨1, ![16]⟩
abbrev S16x1 : Shape := ⟨2, ![16, 1]⟩
abbrev S16x64 : Shape := ⟨2, ![16, 64]⟩
abbrev S8192x1024 : Shape := ⟨2, ![8192, 1024]⟩
abbrev S128x8x128x128 : Shape := ⟨4, ![128, 8, 128, 128]⟩
abbrev S128x8x64x64 : Shape := ⟨4, ![128, 8, 64, 64]⟩
abbrev S256x1024 : Shape := ⟨2, ![256, 1024]⟩
abbrev S16x1024 : Shape := ⟨2, ![16, 1024]⟩
abbrev S256x128 : Shape := ⟨2, ![256, 128]⟩
abbrev S4x16x64 : Shape := ⟨3, ![4, 16, 64]⟩
abbrev S4x8x128x128 : Shape := ⟨4, ![4, 8, 128, 128]⟩
abbrev S4x8x64x64 : Shape := ⟨4, ![4, 8, 64, 64]⟩
abbrev S272x3072 : Shape := ⟨2, ![272, 3072]⟩
abbrev S256x3072 : Shape := ⟨2, ![256, 3072]⟩
abbrev S8x128x128 : Shape := ⟨3, ![8, 128, 128]⟩
abbrev S1x256 : Shape := ⟨2, ![1, 256]⟩
abbrev S256x256 : Shape := ⟨2, ![256, 256]⟩
abbrev S64x64 : Shape := ⟨2, ![64, 64]⟩
abbrev S64x128 : Shape := ⟨2, ![64, 128]⟩
abbrev S1x16x64 : Shape := ⟨3, ![1, 16, 64]⟩
abbrev S64 : Shape := ⟨1, ![64]⟩
abbrev S64x1 : Shape := ⟨2, ![64, 1]⟩
abbrev S1x64 : Shape := ⟨2, ![1, 64]⟩
abbrev S1x1 : Shape := ⟨2, ![1, 1]⟩
abbrev S1x128x128 : Shape := ⟨3, ![1, 128, 128]⟩
abbrev S128x128 : Shape := ⟨2, ![128, 128]⟩
abbrev S1x1x128x128 : Shape := ⟨4, ![1, 1, 128, 128]⟩
abbrev S1x1x64x64 : Shape := ⟨4, ![1, 1, 64, 64]⟩

abbrev nBuf : Space → Nat
  | .hbm => 36
  | .vmem => 33
  | .smem => 0
  | _ => 0

abbrev bufTy : (tb : Table) → Fin (tcTables nBuf tb) → BufTy
  | .hbm, ⟨0, _⟩ => ⟨S8192x3072, .bf16⟩
  | .hbm, ⟨1, _⟩ => ⟨S8192x8, .f32⟩
  | .hbm, ⟨2, _⟩ => ⟨S8192x8, .f32⟩
  | .hbm, ⟨3, _⟩ => ⟨S4x3072, .f32⟩
  | .hbm, ⟨4, _⟩ => ⟨S8, .f32⟩
  | .hbm, ⟨5, _⟩ => ⟨S8, .f32⟩
  | .hbm, ⟨6, _⟩ => ⟨S_, .bf16⟩
  | .hbm, ⟨7, _⟩ => ⟨S8192x4096, .bf16⟩
  | .hbm, ⟨8, _⟩ => ⟨S8192x7168, .bf16⟩
  | .hbm, ⟨9, _⟩ => ⟨S_, .f32⟩
  | .hbm, ⟨10, _⟩ => ⟨S8192x112, .f32⟩
  | .hbm, ⟨11, _⟩ => ⟨S8192x128, .f32⟩
  | .hbm, ⟨12, _⟩ => ⟨S8192x16, .f32⟩
  | .hbm, ⟨13, _⟩ => ⟨S128x64x16, .f32⟩
  | .hbm, ⟨14, _⟩ => ⟨S128x16x64, .f32⟩
  | .hbm, ⟨15, _⟩ => ⟨S8, .f32⟩
  | .hbm, ⟨16, _⟩ => ⟨S8, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S1x16, .f32⟩
  | .hbm, ⟨26, _⟩ => ⟨S16, .f32⟩
  | .hbm, ⟨27, _⟩ => ⟨S16x1, .f32⟩
  | .hbm, ⟨28, _⟩ => ⟨S16x64, .f32⟩
  | .hbm, ⟨29, _⟩ => ⟨S1x16, .f32⟩
  | .hbm, ⟨30, _⟩ => ⟨S16, .f32⟩
  | .hbm, ⟨31, _⟩ => ⟨S16x1, .f32⟩
  | .hbm, ⟨32, _⟩ => ⟨S16x64, .f32⟩
  | .hbm, ⟨33, _⟩ => ⟨S8192x1024, .f32⟩
  | .hbm, ⟨34, _⟩ => ⟨S128x8x128x128, .bf16⟩
  | .hbm, ⟨35, _⟩ => ⟨S128x8x64x64, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S4x3072, .f32⟩
  | .local _ .vmem, ⟨13, _⟩ => ⟨S256x128, .f32⟩
  | .local _ .vmem, ⟨14, _⟩ => ⟨S256x128, .f32⟩
  | .local _ .vmem, ⟨15, _⟩ => ⟨S4x16x64, .f32⟩
  | .local _ .vmem, ⟨16, _⟩ => ⟨S4x16x64, .f32⟩
  | .local _ .vmem, ⟨17, _⟩ => ⟨S1x128, .f32⟩
  | .local _ .vmem, ⟨18, _⟩ => ⟨S1x128, .f32⟩
  | .local _ .vmem, ⟨19, _⟩ => ⟨S16x64, .f32⟩
  | .local _ .vmem, ⟨20, _⟩ => ⟨S16x64, .f32⟩
  | .local _ .vmem, ⟨21, _⟩ => ⟨S256x1024, .f32⟩
  | .local _ .vmem, ⟨22, _⟩ => ⟨S256x1024, .f32⟩
  | .local _ .vmem, ⟨23, _⟩ => ⟨S4x8x128x128, .bf16⟩
  | .local _ .vmem, ⟨24, _⟩ => ⟨S4x8x128x128, .bf16⟩
  | .local _ .vmem, ⟨25, _⟩ => ⟨S4x8x64x64, .f32⟩
  | .local _ .vmem, ⟨26, _⟩ => ⟨S4x8x64x64, .f32⟩
  | .local _ .vmem, ⟨27, _⟩ => ⟨S272x3072, .f32⟩
  | .local _ .vmem, ⟨28, _⟩ => ⟨S256x3072, .f32⟩
  | .local _ .vmem, ⟨29, _⟩ => ⟨S8x128x128, .f32⟩
  | .local _ .vmem, ⟨30, _⟩ => ⟨S16x64, .f32⟩
  | .local _ .vmem, ⟨31, _⟩ => ⟨S256x128, .f32⟩
  | .local _ .vmem, ⟨32, _⟩ => ⟨S256x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_241 : BitVec 32 := 0#32
  let c4_i32 : BitVec 32 := 4#32
  let v353 : BitVec 32 := Scalar.addi c0_i32_241 c4_i32
  let c1_i32 : BitVec 32 := 1#32
  ⟨c0_i32_241, v353, c1_i32⟩
def k0_mult1 (k0_t1 : Fin k0_t1_loop.trips) : BitVec 32 :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  v354
def k0_off1 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v356 : Index := Scalar.indexCast v355
  let c0_243 : Index := 0#32
  ![v356.toNat, 0]
def k0_off2 (k0_t1 : Fin k0_t1_loop.trips) : Fin 3 → Nat :=
  let c0_i32_241 : BitVec 32 := 0#32
  let c1_i32 : BitVec 32 := 1#32
  let arg23 : BitVec 32 := Scf.iv c0_i32_241 c1_i32 k0_t1
  let v361 : Index := Scalar.indexCast arg23
  let c0_247 : Index := 0#32
  let c0_248 : Index := 0#32
  ![v361.toNat, 0, 0]
def k0_off3 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v384 : Index := Scalar.indexCast v355
  let c0_258 : Index := 0#32
  ![v384.toNat, 0]
def k0_off4 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v386 : Index := Scalar.indexCast v355
  let c1024_259 : Index := 1024#32
  ![v386.toNat, 1024]
def k0_off5 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v388 : Index := Scalar.indexCast v355
  let c2048_260 : Index := 2048#32
  ![v388.toNat, 2048]
def k0_off6 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v475 : Index := Scalar.indexCast v355
  let c128 : Index := 128#32
  ![v475.toNat, 128]
def k0_off7 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v477 : Index := Scalar.indexCast v355
  let c1152 : Index := 1152#32
  ![v477.toNat, 1152]
def k0_off8 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v479 : Index := Scalar.indexCast v355
  let c2176 : Index := 2176#32
  ![v479.toNat, 2176]
def k0_off9 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v566 : Index := Scalar.indexCast v355
  let c256_311 : Index := 256#32
  ![v566.toNat, 256]
def k0_off10 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v568 : Index := Scalar.indexCast v355
  let c1280_312 : Index := 1280#32
  ![v568.toNat, 1280]
def k0_off11 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v570 : Index := Scalar.indexCast v355
  let c2304_313 : Index := 2304#32
  ![v570.toNat, 2304]
def k0_off12 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v657 : Index := Scalar.indexCast v355
  let c384 : Index := 384#32
  ![v657.toNat, 384]
def k0_off13 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v659 : Index := Scalar.indexCast v355
  let c1408 : Index := 1408#32
  ![v659.toNat, 1408]
def k0_off14 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v661 : Index := Scalar.indexCast v355
  let c2432 : Index := 2432#32
  ![v661.toNat, 2432]
def k0_off15 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v748 : Index := Scalar.indexCast v355
  let c512_362 : Index := 512#32
  ![v748.toNat, 512]
def k0_off16 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v750 : Index := Scalar.indexCast v355
  let c1536_363 : Index := 1536#32
  ![v750.toNat, 1536]
def k0_off17 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v752 : Index := Scalar.indexCast v355
  let c2560_364 : Index := 2560#32
  ![v752.toNat, 2560]
def k0_off18 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v839 : Index := Scalar.indexCast v355
  let c640 : Index := 640#32
  ![v839.toNat, 640]
def k0_off19 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v841 : Index := Scalar.indexCast v355
  let c1664 : Index := 1664#32
  ![v841.toNat, 1664]
def k0_off20 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v843 : Index := Scalar.indexCast v355
  let c2688 : Index := 2688#32
  ![v843.toNat, 2688]
def k0_off21 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v930 : Index := Scalar.indexCast v355
  let c768_415 : Index := 768#32
  ![v930.toNat, 768]
def k0_off22 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v932 : Index := Scalar.indexCast v355
  let c1792_416 : Index := 1792#32
  ![v932.toNat, 1792]
def k0_off23 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v934 : Index := Scalar.indexCast v355
  let c2816_417 : Index := 2816#32
  ![v934.toNat, 2816]
def k0_off24 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v1021 : Index := Scalar.indexCast v355
  let c896 : Index := 896#32
  ![v1021.toNat, 896]
def k0_off25 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v1023 : Index := Scalar.indexCast v355
  let c1920 : Index := 1920#32
  ![v1023.toNat, 1920]
def k0_off26 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v1025 : Index := Scalar.indexCast v355
  let c2944 : Index := 2944#32
  ![v1025.toNat, 2944]
def k0_off27 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v2998 : Index := Scalar.indexCast v355
  let c0_1005 : Index := 0#32
  ![v2998.toNat, 0]
def k0_off28 (k0_t1 : Fin k0_t1_loop.trips) : Fin 4 → Nat :=
  let c0_i32_241 : BitVec 32 := 0#32
  let c1_i32 : BitVec 32 := 1#32
  let arg23 : BitVec 32 := Scf.iv c0_i32_241 c1_i32 k0_t1
  let v3000 : Index := Scalar.indexCast arg23
  let c0_1006 : Index := 0#32
  let c0_1007 : Index := 0#32
  let c0_1008 : Index := 0#32
  ![v3000.toNat, 0, 0, 0]
def k0_off29 (k0_t1 : Fin k0_t1_loop.trips) : Fin 4 → Nat :=
  let c0_i32_241 : BitVec 32 := 0#32
  let c1_i32 : BitVec 32 := 1#32
  let arg23 : BitVec 32 := Scf.iv c0_i32_241 c1_i32 k0_t1
  let v3004 : Index := Scalar.indexCast arg23
  let c0_1009 : Index := 0#32
  let c0_1010 : Index := 0#32
  let c0_1011 : Index := 0#32
  ![v3004.toNat, 0, 0, 0]
def k0_off30 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v3011 : Index := Scalar.indexCast v355
  let c128_1015 : Index := 128#32
  ![v3011.toNat, 128]
def k0_off31 (k0_t1 : Fin k0_t1_loop.trips) : Fin 4 → Nat :=
  let c0_i32_241 : BitVec 32 := 0#32
  let c1_i32 : BitVec 32 := 1#32
  let arg23 : BitVec 32 := Scf.iv c0_i32_241 c1_i32 k0_t1
  let v3013 : Index := Scalar.indexCast arg23
  let c1_1016 : Index := 1#32
  let c0_1017 : Index := 0#32
  let c0_1018 : Index := 0#32
  ![v3013.toNat, 1, 0, 0]
def k0_off32 (k0_t1 : Fin k0_t1_loop.trips) : Fin 4 → Nat :=
  let c0_i32_241 : BitVec 32 := 0#32
  let c1_i32 : BitVec 32 := 1#32
  let arg23 : BitVec 32 := Scf.iv c0_i32_241 c1_i32 k0_t1
  let v3017 : Index := Scalar.indexCast arg23
  let c1_1019 : Index := 1#32
  let c0_1020 : Index := 0#32
  let c0_1021 : Index := 0#32
  ![v3017.toNat, 1, 0, 0]
def k0_off33 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v3024 : Index := Scalar.indexCast v355
  let c256_1025 : Index := 256#32
  ![v3024.toNat, 256]
def k0_off34 (k0_t1 : Fin k0_t1_loop.trips) : Fin 4 → Nat :=
  let c0_i32_241 : BitVec 32 := 0#32
  let c1_i32 : BitVec 32 := 1#32
  let arg23 : BitVec 32 := Scf.iv c0_i32_241 c1_i32 k0_t1
  let v3026 : Index := Scalar.indexCast arg23
  let c2_1026 : Index := 2#32
  let c0_1027 : Index := 0#32
  let c0_1028 : Index := 0#32
  ![v3026.toNat, 2, 0, 0]
def k0_off35 (k0_t1 : Fin k0_t1_loop.trips) : Fin 4 → Nat :=
  let c0_i32_241 : BitVec 32 := 0#32
  let c1_i32 : BitVec 32 := 1#32
  let arg23 : BitVec 32 := Scf.iv c0_i32_241 c1_i32 k0_t1
  let v3030 : Index := Scalar.indexCast arg23
  let c2_1029 : Index := 2#32
  let c0_1030 : Index := 0#32
  let c0_1031 : Index := 0#32
  ![v3030.toNat, 2, 0, 0]
def k0_off36 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v3037 : Index := Scalar.indexCast v355
  let c384_1035 : Index := 384#32
  ![v3037.toNat, 384]
def k0_off37 (k0_t1 : Fin k0_t1_loop.trips) : Fin 4 → Nat :=
  let c0_i32_241 : BitVec 32 := 0#32
  let c1_i32 : BitVec 32 := 1#32
  let arg23 : BitVec 32 := Scf.iv c0_i32_241 c1_i32 k0_t1
  let v3039 : Index := Scalar.indexCast arg23
  let c3_1036 : Index := 3#32
  let c0_1037 : Index := 0#32
  let c0_1038 : Index := 0#32
  ![v3039.toNat, 3, 0, 0]
def k0_off38 (k0_t1 : Fin k0_t1_loop.trips) : Fin 4 → Nat :=
  let c0_i32_241 : BitVec 32 := 0#32
  let c1_i32 : BitVec 32 := 1#32
  let arg23 : BitVec 32 := Scf.iv c0_i32_241 c1_i32 k0_t1
  let v3043 : Index := Scalar.indexCast arg23
  let c3_1039 : Index := 3#32
  let c0_1040 : Index := 0#32
  let c0_1041 : Index := 0#32
  ![v3043.toNat, 3, 0, 0]
def k0_off39 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v3050 : Index := Scalar.indexCast v355
  let c512_1045 : Index := 512#32
  ![v3050.toNat, 512]
def k0_off40 (k0_t1 : Fin k0_t1_loop.trips) : Fin 4 → Nat :=
  let c0_i32_241 : BitVec 32 := 0#32
  let c1_i32 : BitVec 32 := 1#32
  let arg23 : BitVec 32 := Scf.iv c0_i32_241 c1_i32 k0_t1
  let v3052 : Index := Scalar.indexCast arg23
  let c4_1046 : Index := 4#32
  let c0_1047 : Index := 0#32
  let c0_1048 : Index := 0#32
  ![v3052.toNat, 4, 0, 0]
def k0_off41 (k0_t1 : Fin k0_t1_loop.trips) : Fin 4 → Nat :=
  let c0_i32_241 : BitVec 32 := 0#32
  let c1_i32 : BitVec 32 := 1#32
  let arg23 : BitVec 32 := Scf.iv c0_i32_241 c1_i32 k0_t1
  let v3056 : Index := Scalar.indexCast arg23
  let c4_1049 : Index := 4#32
  let c0_1050 : Index := 0#32
  let c0_1051 : Index := 0#32
  ![v3056.toNat, 4, 0, 0]
def k0_off42 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v3063 : Index := Scalar.indexCast v355
  let c640_1055 : Index := 640#32
  ![v3063.toNat, 640]
def k0_off43 (k0_t1 : Fin k0_t1_loop.trips) : Fin 4 → Nat :=
  let c0_i32_241 : BitVec 32 := 0#32
  let c1_i32 : BitVec 32 := 1#32
  let arg23 : BitVec 32 := Scf.iv c0_i32_241 c1_i32 k0_t1
  let v3065 : Index := Scalar.indexCast arg23
  let c5_1056 : Index := 5#32
  let c0_1057 : Index := 0#32
  let c0_1058 : Index := 0#32
  ![v3065.toNat, 5, 0, 0]
def k0_off44 (k0_t1 : Fin k0_t1_loop.trips) : Fin 4 → Nat :=
  let c0_i32_241 : BitVec 32 := 0#32
  let c1_i32 : BitVec 32 := 1#32
  let arg23 : BitVec 32 := Scf.iv c0_i32_241 c1_i32 k0_t1
  let v3069 : Index := Scalar.indexCast arg23
  let c5_1059 : Index := 5#32
  let c0_1060 : Index := 0#32
  let c0_1061 : Index := 0#32
  ![v3069.toNat, 5, 0, 0]
def k0_off45 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v3076 : Index := Scalar.indexCast v355
  let c768_1065 : Index := 768#32
  ![v3076.toNat, 768]
def k0_off46 (k0_t1 : Fin k0_t1_loop.trips) : Fin 4 → Nat :=
  let c0_i32_241 : BitVec 32 := 0#32
  let c1_i32 : BitVec 32 := 1#32
  let arg23 : BitVec 32 := Scf.iv c0_i32_241 c1_i32 k0_t1
  let v3078 : Index := Scalar.indexCast arg23
  let c6_1066 : Index := 6#32
  let c0_1067 : Index := 0#32
  let c0_1068 : Index := 0#32
  ![v3078.toNat, 6, 0, 0]
def k0_off47 (k0_t1 : Fin k0_t1_loop.trips) : Fin 4 → Nat :=
  let c0_i32_241 : BitVec 32 := 0#32
  let c1_i32 : BitVec 32 := 1#32
  let arg23 : BitVec 32 := Scf.iv c0_i32_241 c1_i32 k0_t1
  let v3082 : Index := Scalar.indexCast arg23
  let c6_1069 : Index := 6#32
  let c0_1070 : Index := 0#32
  let c0_1071 : Index := 0#32
  ![v3082.toNat, 6, 0, 0]
def k0_off48 (k0_t1 : Fin k0_t1_loop.trips) : Fin 2 → Nat :=
  let c0_i32_241 : BitVec 32 := 0#32
  let c1_i32 : BitVec 32 := 1#32
  let arg23 : BitVec 32 := Scf.iv c0_i32_241 c1_i32 k0_t1
  let c64_i32 : BitVec 32 := 64#32
  let v354 : BitVec 32 := Scalar.muli arg23 c64_i32
  let v355 : BitVec 32 := v354
  let v3089 : Index := Scalar.indexCast v355
  let c896_1075 : Index := 896#32
  ![v3089.toNat, 896]
def k0_off49 (k0_t1 : Fin k0_t1_loop.trips) : Fin 4 → Nat :=
  let c0_i32_241 : BitVec 32 := 0#32
  let c1_i32 : BitVec 32 := 1#32
  let arg23 : BitVec 32 := Scf.iv c0_i32_241 c1_i32 k0_t1
  let v3091 : Index := Scalar.indexCast arg23
  let c7_1076 : Index := 7#32
  let c0_1077 : Index := 0#32
  let c0_1078 : Index := 0#32
  ![v3091.toNat, 7, 0, 0]
def k0_off50 (k0_t1 : Fin k0_t1_loop.trips) : Fin 4 → Nat :=
  let c0_i32_241 : BitVec 32 := 0#32
  let c1_i32 : BitVec 32 := 1#32
  let arg23 : BitVec 32 := Scf.iv c0_i32_241 c1_i32 k0_t1
  let v3095 : Index := Scalar.indexCast arg23
  let c7_1079 : Index := 7#32
  let c0_1080 : Index := 0#32
  let c0_1081 : Index := 0#32
  ![v3095.toNat, 7, 0, 0]
def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x16x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x8x128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x8x64x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== DnRefIdeal.lean ====
abbrev S8192x3072 : Shape := ⟨2, ![8192, 3072]⟩
abbrev S8192x8 : Shape := ⟨2, ![8192, 8]⟩
abbrev S4x3072 : Shape := ⟨2, ![4, 3072]⟩
abbrev S8 : Shape := ⟨1, ![8]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩
abbrev S3072 : Shape := ⟨1, ![3072]⟩
abbrev S8192x1024 : Shape := ⟨2, ![8192, 1024]⟩
abbrev S8192x8x128 : Shape := ⟨3, ![8192, 8, 128]⟩
abbrev S8192x8x1 : Shape := ⟨3, ![8192, 8, 1]⟩
abbrev S1x8 : Shape := ⟨2, ![1, 8]⟩
abbrev S8x128x128 : Shape := ⟨3, ![8, 128, 128]⟩
abbrev S8192x8x128x128 : Shape := ⟨4, ![8192, 8, 128, 128]⟩
abbrev S1x8x128 : Shape := ⟨3, ![1, 8, 128]⟩
abbrev S8x128 : Shape := ⟨2, ![8, 128]⟩
abbrev S8x1x1 : Shape := ⟨3, ![8, 1, 1]⟩
abbrev S8x1 : Shape := ⟨2, ![8, 1]⟩
abbrev S8x128x1 : Shape := ⟨3, ![8, 128, 1]⟩
abbrev S8x1x128 : Shape := ⟨3, ![8, 1, 128]⟩
abbrev S1x8x128x128 : Shape := ⟨4, ![1, 8, 128, 128]⟩
abbrev S128x64x8x128x128 : Shape := ⟨5, ![128, 64, 8, 128, 128]⟩
abbrev S128x1x8x128x128 : Shape := ⟨5, ![128, 1, 8, 128, 128]⟩
abbrev S128x8x128x128 : Shape := ⟨4, ![128, 8, 128, 128]⟩

abbrev nBuf : Space → Nat
  | .hbm => 176
  | .vmem => 0
  | .smem => 0
  | _ => 0

abbrev hbmTy0_0 (i : Nat) : BufTy := match i % 128 with
  | 0 => ⟨S8192x3072, .bf16⟩
  | 1 => ⟨S8192x8, .f32⟩
  | 2 => ⟨S8192x8, .f32⟩
  | 3 => ⟨S4x3072, .f32⟩
  | 4 => ⟨S8, .f32⟩
  | 5 => ⟨S8, .f32⟩
  | 6 => ⟨S_, .f32⟩
  | 7 => ⟨S3x3072, .f32⟩
  | 8 => ⟨S8192x3072, .f32⟩
  | 9 => ⟨S8195x3072, .f32⟩
  | 10 => ⟨S1x3072, .f32⟩
  | 11 => ⟨S3072, .f32⟩
  | 12 => ⟨S8192x3072, .f32⟩
  | 13 => ⟨S1x3072, .f32⟩
  | 14 => ⟨S8192x3072, .f32⟩
  | 15 => ⟨S8192x3072, .f32⟩
  | 16 => ⟨S_, .f32⟩
  | 17 => ⟨S8192x3072, .f32⟩
  | 18 => ⟨S8192x3072, .f32⟩
  | 19 => ⟨S1x3072, .f32⟩
  | 20 => ⟨S3072, .f32⟩
  | 21 => ⟨S8192x3072, .f32⟩
  | 22 => ⟨S1x3072, .f32⟩
  | 23 => ⟨S8192x3072, .f32⟩
  | 24 => ⟨S8192x3072, .f32⟩
  | 25 => ⟨S8192x3072, .f32⟩
  | 26 => ⟨S1x3072, .f32⟩
  | 27 => ⟨S3072, .f32⟩
  | 28 => ⟨S8192x3072, .f32⟩
  | 29 => ⟨S1x3072, .f32⟩
  | 30 => ⟨S8192x3072, .f32⟩
  | 31 => ⟨S8192x3072, .f32⟩
  | 32 => ⟨S8192x3072, .f32⟩
  | 33 => ⟨S1x3072, .f32⟩
  | 34 => ⟨S3072, .f32⟩
  | 35 => ⟨S8192x3072, .f32⟩
  | 36 => ⟨S1x3072, .f32⟩
  | 37 => ⟨S8192x3072, .f32⟩
  | 38 => ⟨S8192x3072, .f32⟩
  | 39 => ⟨S8192x3072, .f32⟩
  | 40 => ⟨S8192x3072, .f32⟩
  | 41 => ⟨S8192x3072, .f32⟩
  | 42 => ⟨S_, .f32⟩
  | 43 => ⟨S8192x3072, .f32⟩
  | 44 => ⟨S8192x3072, .f32⟩
  | 45 => ⟨S_, .f32⟩
  | 46 => ⟨S8192x3072, .f32⟩
  | 47 => ⟨S8192x3072, .f32⟩
  | 48 => ⟨S8192x3072, .f32⟩
  | 49 => ⟨S8192x1024, .f32⟩
  | 50 => ⟨S8192x1024, .f32⟩
  | 51 => ⟨S8192x1024, .f32⟩
  | 52 => ⟨S8192x8x128, .f32⟩
  | 53 => ⟨S8192x8x128, .f32⟩
  | 54 => ⟨S8192x8x128, .f32⟩
  | 55 => ⟨S8192x8x128, .f32⟩
  | 56 => ⟨S_, .f32⟩
  | 57 => ⟨S8192x8, .f32⟩
  | 58 => ⟨S8192x8x1, .f32⟩
  | 59 => ⟨S_, .f32⟩
  | 60 => ⟨S8192x8x1, .f32⟩
  | 61 => ⟨S8192x8x1, .f32⟩
  | 62 => ⟨S8192x8x1, .f32⟩
  | 63 => ⟨S8192x8x128, .f32⟩
  | 64 => ⟨S8192x8x128, .f32⟩
  | 65 => ⟨S_, .f32⟩
  | 66 => ⟨S8192x8x128, .f32⟩
  | 67 => ⟨S8192x8x128, .f32⟩
  | 68 => ⟨S8192x8x128, .f32⟩
  | 69 => ⟨S_, .f32⟩
  | 70 => ⟨S8192x8, .f32⟩
  | 71 => ⟨S8192x8x1, .f32⟩
  | 72 => ⟨S_, .f32⟩
  | 73 => ⟨S8192x8x1, .f32⟩
  | 74 => ⟨S8192x8x1, .f32⟩
  | 75 => ⟨S8192x8x1, .f32⟩
  | 76 => ⟨S8192x8x128, .f32⟩
  | 77 => ⟨S8192x8x128, .f32⟩
  | 78 => ⟨S8192x8, .f32⟩
  | 79 => ⟨S8192x8, .f32⟩
  | 80 => ⟨S_, .f32⟩
  | 81 => ⟨S8192x8, .f32⟩
  | 82 => ⟨S8192x8, .f32⟩
  | 83 => ⟨S_, .f32⟩
  | 84 => ⟨S8192x8, .f32⟩
  | 85 => ⟨S8192x8, .f32⟩
  | 86 => ⟨S8, .f32⟩
  | 87 => ⟨S8, .f32⟩
  | 88 => ⟨S1x8, .f32⟩
  | 89 => ⟨S8192x8, .f32⟩
  | 90 => ⟨S8192x8, .f32⟩
  | 91 => ⟨S_, .f32⟩
  | 92 => ⟨S8192x8, .f32⟩
  | 93 => ⟨S8192x8, .f32⟩
  | 94 => ⟨S8192x8, .f32⟩
  | 95 => ⟨S8192x8, .f32⟩
  | 96 => ⟨S8192x8, .i1⟩
  | 97 => ⟨S8192x8, .f32⟩
  | 98 => ⟨S8192x8, .f32⟩
  | 99 => ⟨S8192x8, .f32⟩
  | 100 => ⟨S8192x8, .f32⟩
  | 101 => ⟨S8192x8, .f32⟩
  | 102 => ⟨S8192x8, .f32⟩
  | 103 => ⟨S8192x8, .f32⟩
  | 104 => ⟨S8192x8, .f32⟩
  | 105 => ⟨S1x8, .f32⟩
  | 106 => ⟨S8192x8, .f32⟩
  | 107 => ⟨S8192x8, .f32⟩
  | 108 => ⟨S_, .f32⟩
  | 109 => ⟨S8x128x128, .f32⟩
  | 110 => ⟨S_, .f32⟩
  | 111 => ⟨S8192x8x128, .f32⟩
  | 112 => ⟨S_, .f32⟩
  | 113 => ⟨S8192x8x128x128, .f32⟩
  | 114 => ⟨S_, .i32⟩
  | 115 => ⟨S8192x8x128, .f32⟩
  | 116 => ⟨S8192x8x128, .f32⟩
  | 117 => ⟨S8192x8x128, .f32⟩
  | 118 => ⟨S8192x8, .f32⟩
  | 119 => ⟨S8192x8, .f32⟩
  | 120 => ⟨S_, .i32⟩
  | 121 => ⟨S8x128x128, .f32⟩
  | 122 => ⟨S8192x8x128, .f32⟩
  | 123 => ⟨S8192x8x128x128, .f32⟩
  | 124 => ⟨S_, .i32⟩
  | 125 => ⟨S_, .i1⟩
  | 126 => ⟨S_, .i32⟩
  | 127 => ⟨S_, .i32⟩
  | _ => ⟨S8192x3072, .bf16⟩

abbrev hbmTy0_1 (i : Nat) : BufTy := match i % 128 with
  | 0 => ⟨S1x8x128, .f32⟩
  | 1 => ⟨S8x128, .f32⟩
  | 2 => ⟨S_, .i32⟩
  | 3 => ⟨S_, .i32⟩
  | 4 => ⟨S1x8x128, .f32⟩
  | 5 => ⟨S8x128, .f32⟩
  | 6 => ⟨S_, .i32⟩
  | 7 => ⟨S_, .i32⟩
  | 8 => ⟨S1x8x128, .f32⟩
  | 9 => ⟨S8x128, .f32⟩
  | 10 => ⟨S_, .i32⟩
  | 11 => ⟨S1x8, .f32⟩
  | 12 => ⟨S8, .f32⟩
  | 13 => ⟨S_, .i32⟩
  | 14 => ⟨S1x8, .f32⟩
  | 15 => ⟨S8, .f32⟩
  | 16 => ⟨S8, .f32⟩
  | 17 => ⟨S8x1x1, .f32⟩
  | 18 => ⟨S8x128x128, .f32⟩
  | 19 => ⟨S8x128x128, .f32⟩
  | 20 => ⟨S8x1, .f32⟩
  | 21 => ⟨S8x128, .f32⟩
  | 22 => ⟨S8x128, .f32⟩
  | 23 => ⟨S8x128, .f32⟩
  | 24 => ⟨S8x128, .f32⟩
  | 25 => ⟨S8x128x1, .f32⟩
  | 26 => ⟨S8x1x128, .f32⟩
  | 27 => ⟨S8x128x128, .f32⟩
  | 28 => ⟨S8x128x128, .f32⟩
  | 29 => ⟨S8x128x128, .f32⟩
  | 30 => ⟨S8x128x128, .f32⟩
  | 31 => ⟨S8x128, .f32⟩
  | 32 => ⟨S1x8x128, .f32⟩
  | 33 => ⟨S_, .i32⟩
  | 34 => ⟨S_, .i32⟩
  | 35 => ⟨S8192x8x128, .f32⟩
  | 36 => ⟨S1x8x128x128, .f32⟩
  | 37 => ⟨S_, .i32⟩
  | 38 => ⟨S_, .i32⟩
  | 39 => ⟨S_, .i32⟩
  | 40 => ⟨S8192x8x128x128, .f32⟩
  | 41 => ⟨S_, .i32⟩
  | 42 => ⟨S_, .i32⟩
  | 43 => ⟨S8192x1024, .f32⟩
  | 44 => ⟨S128x64x8x128x128, .f32⟩
  | 45 => ⟨S128x1x8x128x128, .f32⟩
  | 46 => ⟨S128x8x128x128, .f32⟩
  | 47 => ⟨S128x8x128x128, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_1 : Ref sig .tc := ⟨.hbm, 56, rfl⟩
abbrev main_v40 : Ref sig .tc := ⟨.hbm, 57, rfl⟩
abbrev main_v41 : Ref sig .tc := ⟨.hbm, 58, rfl⟩
abbrev main_cst_2 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_3 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_4 : Ref sig .tc := ⟨.hbm, 69, rfl⟩
abbrev main_v50 : Ref sig .tc := ⟨.hbm, 70, rfl⟩
abbrev main_v51 : Ref sig .tc := ⟨.hbm, 71, rfl⟩
abbrev main_cst_5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_6 : Ref sig .tc := ⟨.hbm, 80, rfl⟩
abbrev main_v59 : Ref sig .tc := ⟨.hbm, 81, rfl⟩
abbrev main_v60 : Ref sig .tc := ⟨.hbm, 82, rfl⟩
abbrev main_cst_7 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_v6 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_8 : Ref sig .tc := ⟨.hbm, 108, rfl⟩
abbrev main_v72 : Ref sig .tc := ⟨.hbm, 109, rfl⟩
abbrev main_cst_9 : Ref sig .tc := ⟨.hbm, 110, rfl⟩
abbrev main_v73 : Ref sig .tc := ⟨.hbm, 111, rfl⟩
abbrev main_cst_10 : Ref sig .tc := ⟨.hbm, 112, rfl⟩
abbrev main_v74 : Ref sig .tc := ⟨.hbm, 113, rfl⟩
abbrev main_c : Ref sig .tc := ⟨.hbm, 114, rfl⟩
abbrev main_v75_0 : Ref sig .tc := ⟨.hbm, 115, rfl⟩
abbrev main_v75_1 : Ref sig .tc := ⟨.hbm, 116, rfl⟩
abbrev main_v75_2 : Ref sig .tc := ⟨.hbm, 117, rfl⟩
abbrev main_v75_3 : Ref sig .tc := ⟨.hbm, 118, rfl⟩
abbrev main_v75_4 : Ref sig .tc := ⟨.hbm, 119, rfl⟩
abbrev main_v75_5 : Ref sig .tc := ⟨.hbm, 120, rfl⟩
abbrev main_v75_6 : Ref sig .tc := ⟨.hbm, 121, rfl⟩
abbrev main_v75_7 : Ref sig .tc := ⟨.hbm, 122, rfl⟩
abbrev main_v75_8 : Ref sig .tc := ⟨.hbm, 123, rfl⟩
abbrev main_while0c_c_19 : Ref sig .tc := ⟨.hbm, 124, rfl⟩
abbrev main_while0c_v81 : Ref sig .tc := ⟨.hbm, 125, rfl⟩
abbrev main_while0b_call2_c : Ref sig .tc := ⟨.hbm, 126, rfl⟩
abbrev main_while0b_call2_c_0 : Ref sig .tc := ⟨.hbm, 127, rfl⟩
abbrev main_while0b_call2_v0 : Ref sig .tc := ⟨.hbm, 128, rfl⟩
abbrev main_while0b_v81 : Ref sig .tc := ⟨.hbm, 129, rfl⟩
abbrev main_while0b_call3_c : Ref sig .tc := ⟨.hbm, 130, rfl⟩
abbrev main_while0b_call3_c_0 : Ref sig .tc := ⟨.hbm, 131, rfl⟩
abbrev main_while0b_call3_v0 : Ref sig .tc := ⟨.hbm, 132, rfl⟩
abbrev main_while0b_v82 : Ref sig .tc := ⟨.hbm, 133, rfl⟩
abbrev main_while0b_call4_c : Ref sig .tc := ⟨.hbm, 134, rfl⟩
abbrev main_while0b_call4_c_0 : Ref sig .tc := ⟨.hbm, 135, rfl⟩
abbrev main_while0b_call4_v0 : Ref sig .tc := ⟨.hbm, 136, rfl⟩
abbrev main_while0b_v83 : Ref sig .tc := ⟨.hbm, 137, rfl⟩
abbrev main_while0b_call5_c : Ref sig .tc := ⟨.hbm, 138, rfl⟩
abbrev main_while0b_call5_v0 : Ref sig .tc := ⟨.hbm, 139, rfl⟩
abbrev main_while0b_v84 : Ref sig .tc := ⟨.hbm, 140, rfl⟩
abbrev main_while0b_call6_c : Ref sig .tc := ⟨.hbm, 141, rfl⟩
abbrev main_while0b_call6_v0 : Ref sig .tc := ⟨.hbm, 142, rfl⟩
abbrev main_while0b_v85 : Ref sig .tc := ⟨.hbm, 143, rfl⟩
abbrev main_while0b_v86 : Ref sig .tc := ⟨.hbm, 144, rfl⟩
abbrev main_while0b_v87 : Ref sig .tc := ⟨.hbm, 145, rfl⟩
abbrev main_while0b_v88 : Ref sig .tc := ⟨.hbm, 146, rfl⟩
abbrev main_while0b_v89 : Ref sig .tc := ⟨.hbm, 147, rfl⟩
abbrev main_while0b_v90 : Ref sig .tc := ⟨.hbm, 148, rfl⟩
abbrev main_while0b_v91 : Ref sig .tc := ⟨.hbm, 149, rfl⟩
abbrev main_while0b_v92 : Ref sig .tc := ⟨.hbm, 150, rfl⟩
abbrev main_while0b_v93 : Ref sig .tc := ⟨.hbm, 151, rfl⟩
abbrev main_while0b_v94 : Ref sig .tc := ⟨.hbm, 152, rfl⟩
abbrev main_while0b_v95 : Ref sig .tc := ⟨.hbm, 153, rfl⟩
abbrev main_while0b_v96 : Ref sig .tc := ⟨.hbm, 154, rfl⟩
abbrev main_while0b_v97 : Ref sig .tc := ⟨.hbm, 155, rfl⟩
abbrev main_while0b_v98 : Ref sig .tc := ⟨.hbm, 156, rfl⟩
abbrev main_while0b_v99 : Ref sig .tc := ⟨.hbm, 157, rfl⟩
abbrev main_while0b_v100 : Ref sig .tc := ⟨.hbm, 158, rfl⟩
abbrev main_while0b_v101 : Ref sig .tc := ⟨.hbm, 159, rfl⟩
abbrev main_while0b_call7_v0 : Ref sig .tc := ⟨.hbm, 160, rfl⟩
abbrev main_while0b_call7_c : Ref sig .tc := ⟨.hbm, 161, rfl⟩
abbrev main_while0b_call7_c_0 : Ref sig .tc := ⟨.hbm, 162, rfl⟩
abbrev main_while0b_v102 : Ref sig .tc := ⟨.hbm, 163, rfl⟩
abbrev main_while0b_call8_v0 : Ref sig .tc := ⟨.hbm, 164, rfl⟩
abbrev main_while0b_call8_c : Ref sig .tc := ⟨.hbm, 165, rfl⟩
abbrev main_while0b_call8_c_0 : Ref sig .tc := ⟨.hbm, 166, rfl⟩
abbrev main_while0b_call8_c_1 : Ref sig .tc := ⟨.hbm, 167, rfl⟩
abbrev main_while0b_v103 : Ref sig .tc := ⟨.hbm, 168, rfl⟩
abbrev main_while0b_c_19 : Ref sig .tc := ⟨.hbm, 169, rfl⟩
abbrev main_while0b_v104 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩

abbrev nD : Nat := 1
abbrev τ : Topo := Topo.v7x

variable {F : FTy → Type} [FloatOps F]

abbrev main_while0_count : Scf.Loop 32 := ⟨0#32, 8192#32, 1#32⟩
-- ==== AdaBwd.lean ====
abbrev S8x2048 : Shape := ⟨2, ![8, 2048]⟩
abbrev S4x2048x768 : Shape := ⟨3, ![4, 2048, 768]⟩
abbrev S4x8x768 : Shape := ⟨3, ![4, 8, 768]⟩
abbrev S8x512 : Shape := ⟨2, ![8, 512]⟩
abbrev S1x8x768 : Shape := ⟨3, ![1, 8, 768]⟩
abbrev S1x512x768 : Shape := ⟨3, ![1, 512, 768]⟩
abbrev S8x768 : Shape := ⟨2, ![8, 768]⟩
abbrev S512x768 : Shape := ⟨2, ![512, 768]⟩

abbrev nBuf : Space → Nat
  | .hbm => 9
  | .vmem => 18
  | .smem => 0
  | _ => 0

abbrev bufTy : (tb : Table) → Fin (tcTables nBuf tb) → BufTy
  | .hbm, ⟨0, _⟩ => ⟨S8x2048, .f32⟩
  | .hbm, ⟨1, _⟩ => ⟨S4x2048x768, .f32⟩
  | .hbm, ⟨2, _⟩ => ⟨S4x2048x768, .f32⟩
  | .hbm, ⟨3, _⟩ => ⟨S4x2048x768, .f32⟩
  | .hbm, ⟨4, _⟩ => ⟨S4x8x768, .f32⟩
  | .hbm, ⟨5, _⟩ => ⟨S4x2048x768, .f32⟩
  | .hbm, ⟨6, _⟩ => ⟨S4x2048x768, .f32⟩
  | .hbm, ⟨7, _⟩ => ⟨S4x2048x768, .f32⟩
  | .hbm, ⟨8, _⟩ => ⟨S4x2048x768, .f32⟩
  | .local _ .vmem, ⟨0, _⟩ => ⟨S8x512, .f32⟩
  | .local _ .vmem, ⟨1, _⟩ => ⟨S8x512, .f32⟩
  | .local _ .vmem, ⟨2, _⟩ => ⟨S1x8x768, .f32⟩
  | .local _ .vmem, ⟨3, _⟩ => ⟨S1x8x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | .local _ .vmem, ⟨16, _⟩ => ⟨S1x512x768, .f32⟩
  | .local _ .vmem, ⟨17, _⟩ => ⟨S1x512x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdaBwdRefIdeal.lean ====
abbrev S8x2048 : Shape := ⟨2, ![8, 2048]⟩
abbrev S4x2048x768 : Shape := ⟨3, ![4, 2048, 768]⟩
abbrev S4x8x768 : Shape := ⟨3, ![4, 8, 768]⟩
abbrev S_ : Shape := ⟨0, ![]⟩
abbrev S4x768x8 : Shape := ⟨3, ![4, 768, 8]⟩
abbrev S4x768x2048 : Shape := ⟨3, ![4, 768, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x768, .f32⟩
  | .hbm, ⟨2, _⟩ => ⟨S4x2048x768, .f32⟩
  | .hbm, ⟨3, _⟩ => ⟨S4x2048x768, .f32⟩
  | .hbm, ⟨4, _⟩ => ⟨S4x8x768, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S4x768x8, .f32⟩
  | .hbm, ⟨15, _⟩ => ⟨S4x8x768, .f32⟩
  | .hbm, ⟨16, _⟩ => ⟨S4x768x8, .f32⟩
  | .hbm, ⟨17, _⟩ => ⟨S4x768x2048, .f32⟩
  | .hbm, ⟨18, _⟩ => ⟨S4x2048x768, .f32⟩
  | .hbm, ⟨19, _⟩ => ⟨S_, .f32⟩
  | .hbm, ⟨20, _⟩ => ⟨S4x2048x768, .f32⟩
  | .hbm, ⟨21, _⟩ => ⟨S4x2048x768, .f32⟩
  | .hbm, ⟨22, _⟩ => ⟨S_, .f32⟩
  | .hbm, ⟨23, _⟩ => ⟨S4x2048x768, .f32⟩
  | .hbm, ⟨24, _⟩ => ⟨S4x2048x768, .f32⟩
  | .hbm, ⟨25, _⟩ => ⟨S4x2048x768, .f32⟩
  | .hbm, ⟨26, _⟩ => ⟨S_, .f32⟩
  | .hbm, ⟨27, _⟩ => ⟨S4x2048x768, .f32⟩
  | .hbm, ⟨28, _⟩ => ⟨S4x2048x768, .f32⟩
  | .hbm, ⟨29, _⟩ => ⟨S4x2048x768, .f32⟩
  | .hbm, ⟨30, _⟩ => ⟨S_, .f32⟩
  | .hbm, ⟨31, _⟩ => ⟨S4x2048x768, .f32⟩
  | .hbm, ⟨32, _⟩ => ⟨S4x2048x768, .f32⟩
  | .hbm, ⟨33, _⟩ => ⟨S4x2048x768, .f32⟩
  | .hbm, ⟨34, _⟩ => ⟨S_, .f32⟩
  | .hbm, ⟨35, _⟩ => ⟨S4x2048x768, .f32⟩
  | .hbm, ⟨36, _⟩ => ⟨S4x2048x768, .f32⟩
  | .hbm, ⟨37, _⟩ => ⟨S_, .f32⟩
  | .hbm, ⟨38, _⟩ => ⟨S4x2048x768, .f32⟩
  | .hbm, ⟨39, _⟩ => ⟨S4x2048x768, .f32⟩
  | .hbm, ⟨40, _⟩ => ⟨S4x2048x768, .f32⟩
  | .hbm, ⟨41, _⟩ => ⟨S_, .f32⟩
  | .hbm, ⟨42, _⟩ => ⟨S4x2048x768, .f32⟩
  | .hbm, ⟨43, _⟩ => ⟨S4x2048x768, .f32⟩
  | .hbm, ⟨44, _⟩ => ⟨S4x2048x768, .f32⟩
  | .hbm, ⟨45, _⟩ => ⟨S_, .f32⟩
  | .hbm, ⟨46, _⟩ => ⟨S4x2048x768, .f32⟩
  | .hbm, ⟨47, _⟩ => ⟨S4x2048x768, .f32⟩
  | .hbm, ⟨48, _⟩ => ⟨S4x2048x768, .f32⟩
  | .hbm, ⟨49, _⟩ => ⟨S_, .f32⟩
  | .hbm, ⟨50, _⟩ => ⟨S4x2048x768, .f32⟩
  | .hbm, ⟨51, _⟩ => ⟨S4x2048x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== OutFwd.lean ====
abbrev S1x8192x2048 : Shape := ⟨3, ![1, 8192, 2048]⟩
abbrev S2048x2048 : Shape := ⟨2, ![2048, 2048]⟩
abbrev S1x6144 : Shape := ⟨2, ![1, 6144]⟩
abbrev S8192x2048 : Shape := ⟨2, ![8192, 2048]⟩
abbrev S1x2048 : Shape := ⟨2, ![1, 2048]⟩
abbrev S512x2048 : Shape := ⟨2, ![512, 2048]⟩

abbrev nBuf : Space → Nat
  | .hbm => 10
  | .vmem => 8
  | .smem => 0
  | _ => 0

abbrev bufTy : (tb : Table) → Fin (tcTables nBuf tb) → BufTy
  | .hbm, ⟨0, _⟩ => ⟨S1x8192x2048, .f32⟩
  | .hbm, ⟨1, _⟩ => ⟨S2048x2048, .f32⟩
  | .hbm, ⟨2, _⟩ => ⟨S1x8192x2048, .f32⟩
  | .hbm, ⟨3, _⟩ => ⟨S1x6144, .f32⟩
  | .hbm, ⟨4, _⟩ => ⟨S8192x2048, .f32⟩
  | .hbm, ⟨5, _⟩ => ⟨S8192x2048, .bf16⟩
  | .hbm, ⟨6, _⟩ => ⟨S2048x2048, .bf16⟩
  | .hbm, ⟨7, _⟩ => ⟨S8192x2048, .f32⟩
  | .hbm, ⟨8, _⟩ => ⟨S1x2048, .f32⟩
  | .hbm, ⟨9, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutFwdRefIdeal.lean ====
abbrev S1x8192x2048 : Shape := ⟨3, ![1, 8192, 2048]⟩
abbrev S2048x2048 : Shape := ⟨2, ![2048, 2048]⟩
abbrev S1x6144 : Shape := ⟨2, ![1, 6144]⟩
abbrev S1x2048 : Shape := ⟨2, ![1, 2048]⟩
abbrev S1x1x2048 : Shape := ⟨3, ![1, 1, 2048]⟩
abbrev S8192x2048 : Shape := ⟨2, ![8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048x2048, .f32⟩
  | .hbm, ⟨2, _⟩ => ⟨S1x8192x2048, .f32⟩
  | .hbm, ⟨3, _⟩ => ⟨S1x6144, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x1x2048, .f32⟩
  | .hbm, ⟨8, _⟩ => ⟨S1x8192x2048, .f32⟩
  | .hbm, ⟨9, _⟩ => ⟨S1x8192x2048, .f32⟩
  | .hbm, ⟨10, _⟩ => ⟨S1x8192x2048, .f32⟩
  | .hbm, ⟨11, _⟩ => ⟨S1x8192x2048, .f32⟩
  | .hbm, ⟨12, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== AdaFwd.lean ====
abbrev S8x2048 : Shape := ⟨2, ![8, 2048]⟩
abbrev S4x2048x768 : Shape := ⟨3, ![4, 2048, 768]⟩
abbrev S4x768 : Shape := ⟨2, ![4, 768]⟩
abbrev S4x1x768 : Shape := ⟨3, ![4, 1, 768]⟩
abbrev S4x8x768 : Shape := ⟨3, ![4, 8, 768]⟩
abbrev S1x2048x768 : Shape := ⟨3, ![1, 2048, 768]⟩
abbrev S1x1x768 : Shape := ⟨3, ![1, 1, 768]⟩
abbrev S1x8x768 : Shape := ⟨3, ![1, 8, 768]⟩
abbrev S2048x768 : Shape := ⟨2, ![2048, 768]⟩
abbrev S8x768 : Shape := ⟨2, ![8, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x768, .f32⟩
  | .hbm, ⟨2, _⟩ => ⟨S4x768, .f32⟩
  | .hbm, ⟨3, _⟩ => ⟨S4x1x768, .f32⟩
  | .hbm, ⟨4, _⟩ => ⟨S4x8x768, .f32⟩
  | .local _ .vmem, ⟨0, _⟩ => ⟨S8x2048, .f32⟩
  | .local _ .vmem, ⟨1, _⟩ => ⟨S1x2048x768, .f32⟩
  | .local _ .vmem, ⟨2, _⟩ => ⟨S1x2048x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaFwdRefIdeal.lean ====
abbrev S8x2048 : Shape := ⟨2, ![8, 2048]⟩
abbrev S4x2048x768 : Shape := ⟨3, ![4, 2048, 768]⟩
abbrev S4x768 : Shape := ⟨2, ![4, 768]⟩
abbrev S_ : Shape := ⟨0, ![]⟩
abbrev S4x768x8 : Shape := ⟨3, ![4, 768, 8]⟩
abbrev S4x8x768 : Shape := ⟨3, ![4, 8, 768]⟩
abbrev S4x1x768 : Shape := ⟨3, ![4, 1, 768]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x768, .f32⟩
  | .hbm, ⟨2, _⟩ => ⟨S4x768, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S4x768x8, .f32⟩
  | .hbm, ⟨13, _⟩ => ⟨S4x8x768, .f32⟩
  | .hbm, ⟨14, _⟩ => ⟨S4x1x768, .f32⟩
  | .hbm, ⟨15, _⟩ => ⟨S4x8x768, .f32⟩
  | .hbm, ⟨16, _⟩ => ⟨S4x8x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== InFwd.lean ====
abbrev S1x8192x2048 : Shape := ⟨3, ![1, 8192, 2048]⟩
abbrev S2048 : Shape := ⟨1, ![2048]⟩
abbrev S1x6144 : Shape := ⟨2, ![1, 6144]⟩
abbrev S2048x7184 : Shape := ⟨2, ![2048, 7184]⟩
abbrev S2048x1024 : Shape := ⟨2, ![2048, 1024]⟩
abbrev S2048x3072 : Shape := ⟨2, ![2048, 3072]⟩
abbrev S2048x4096 : Shape := ⟨2, ![2048, 4096]⟩
abbrev S2048x16 : Shape := ⟨2, ![2048, 16]⟩
abbrev S_ : Shape := ⟨0, ![]⟩
abbrev S2048x112 : Shape := ⟨2, ![2048, 112]⟩
abbrev S2048x128 : Shape := ⟨2, ![2048, 128]⟩
abbrev S1x2048 : Shape := ⟨2, ![1, 2048]⟩
abbrev S8192x2048 : Shape := ⟨2, ![8192, 2048]⟩
abbrev S2048x7168 : Shape := ⟨2, ![2048, 7168]⟩
abbrev S8192x7168 : Shape := ⟨2, ![8192, 7168]⟩
abbrev S8192x128 : Shape := ⟨2, ![8192, 128]⟩
abbrev S1024x2048 : Shape := ⟨2, ![1024, 2048]⟩
abbrev S1024x1024 : Shape := ⟨2, ![1024, 1024]⟩
abbrev S1024x128 : Shape := ⟨2, ![1024, 128]⟩
abbrev S128x2048 : Shape := ⟨2, ![128, 2048]⟩
abbrev S128 : Shape := ⟨1, ![128]⟩
abbrev S128x1 : Shape := ⟨2, ![128, 1]⟩

abbrev nBuf : Space → Nat
  | .hbm => 24
  | .vmem => 15
  | .smem => 0
  | _ => 0

abbrev bufTy : (tb : Table) → Fin (tcTables nBuf tb) → BufTy
  | .hbm, ⟨0, _⟩ => ⟨S1x8192x2048, .f32⟩
  | .hbm, ⟨1, _⟩ => ⟨S2048, .f32⟩
  | .hbm, ⟨2, _⟩ => ⟨S1x6144, .f32⟩
  | .hbm, ⟨3, _⟩ => ⟨S2048x7184, .f32⟩
  | .hbm, ⟨4, _⟩ => ⟨S2048x7184, .bf16⟩
  | .hbm, ⟨5, _⟩ => ⟨S2048x1024, .bf16⟩
  | .hbm, ⟨6, _⟩ => ⟨S2048x3072, .bf16⟩
  | .hbm, ⟨7, _⟩ => ⟨S2048x4096, .bf16⟩
  | .hbm, ⟨8, _⟩ => ⟨S2048x3072, .bf16⟩
  | .hbm, ⟨9, _⟩ => ⟨S2048x16, .bf16⟩
  | .hbm, ⟨10, _⟩ => ⟨S_, .bf16⟩
  | .hbm, ⟨11, _⟩ => ⟨S2048x112, .bf16⟩
  | .hbm, ⟨12, _⟩ => ⟨S2048x128, .bf16⟩
  | .hbm, ⟨13, _⟩ => ⟨S1x2048, .f32⟩
  | .hbm, ⟨14, _⟩ => ⟨S_, .f32⟩
  | .hbm, ⟨15, _⟩ => ⟨S1x2048, .f32⟩
  | .hbm, ⟨16, _⟩ => ⟨S1x2048, .f32⟩
  | .hbm, ⟨17, _⟩ => ⟨S8192x2048, .f32⟩
  | .hbm, ⟨18, _⟩ => ⟨S1x2048, .f32⟩
  | .hbm, ⟨19, _⟩ => ⟨S1x2048, .f32⟩
  | .hbm, ⟨20, _⟩ => ⟨S2048x7168, .bf16⟩
  | .hbm, ⟨21, _⟩ => ⟨S8192x7168, .bf16⟩
  | .hbm, ⟨22, _⟩ => ⟨S8192x128, .f32⟩
  | .hbm, ⟨23, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S2048x128, .bf16⟩
  | .local _ .vmem, ⟨8, _⟩ => ⟨S1024x1024, .bf16⟩
  | .local _ .vmem, ⟨9, _⟩ => ⟨S1024x1024, .bf16⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | .local _ .vmem, ⟨13, _⟩ => ⟨S1024x2048, .bf16⟩
  | .local _ .vmem, ⟨14, _⟩ => ⟨S1024x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v9 : BitVec 32 := Scalar.addi c0_i32_6 c8_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg12 : BitVec 32 := Scf.iv c0_i32_6 c1_i32 k0_t1
  let c128_i32 : BitVec 32 := 128#32
  let v15 : BitVec 32 := Scalar.muli arg12 c128_i32
  v15
def k0_off1 (k0_t1 : Fin k0_t1_loop.trips) : Fin 2 → Nat :=
  let c0_i32_6 : BitVec 32 := 0#32
  let c1_i32 : BitVec 32 := 1#32
  let arg12 : BitVec 32 := Scf.iv c0_i32_6 c1_i32 k0_t1
  let c128_i32 : BitVec 32 := 128#32
  let v15 : BitVec 32 := Scalar.muli arg12 c128_i32
  let v16 : BitVec 32 := v15
  let v17 : Index := Scalar.indexCast v16
  let c0_15 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== InFwdRefIdeal.lean ====
abbrev S1x8192x2048 : Shape := ⟨3, ![1, 8192, 2048]⟩
abbrev S2048 : Shape := ⟨1, ![2048]⟩
abbrev S1x6144 : Shape := ⟨2, ![1, 6144]⟩
abbrev S2048x7184 : Shape := ⟨2, ![2048, 7184]⟩
abbrev S1x2048 : Shape := ⟨2, ![1, 2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x8192x7184 : Shape := ⟨3, ![1, 8192, 7184]⟩
abbrev S1x8192x1024 : Shape := ⟨3, ![1, 8192, 1024]⟩
abbrev S8192x1024 : Shape := ⟨2, ![8192, 1024]⟩
abbrev S1x8192x3072 : Shape := ⟨3, ![1, 8192, 3072]⟩
abbrev S8192x3072 : Shape := ⟨2, ![8192, 3072]⟩
abbrev S8192x7168 : Shape := ⟨2, ![8192, 7168]⟩
abbrev S1x8192x16 : Shape := ⟨3, ![1, 8192, 16]⟩
abbrev S8192x16 : Shape := ⟨2, ![8192, 16]⟩
abbrev S8192x112 : Shape := ⟨2, ![8192, 112]⟩
abbrev S8192x128 : Shape := ⟨2, ![8192, 128]⟩
abbrev S8192x2048 : Shape := ⟨2, ![8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048, .f32⟩
  | .hbm, ⟨2, _⟩ => ⟨S1x6144, .f32⟩
  | .hbm, ⟨3, _⟩ => ⟨S2048x7184, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x8192x2048, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x2048, .f32⟩
  | .hbm, ⟨19, _⟩ => ⟨S1x8192x2048, .f32⟩
  | .hbm, ⟨20, _⟩ => ⟨S1x1x2048, .f32⟩
  | .hbm, ⟨21, _⟩ => ⟨S1x8192x2048, .f32⟩
  | .hbm, ⟨22, _⟩ => ⟨S1x8192x2048, .f32⟩
  | .hbm, ⟨23, _⟩ => ⟨S1x1x2048, .f32⟩
  | .hbm, ⟨24, _⟩ => ⟨S_, .f32⟩
  | .hbm, ⟨25, _⟩ => ⟨S1x1x2048, .f32⟩
  | .hbm, ⟨26, _⟩ => ⟨S1x1x2048, .f32⟩
  | .hbm, ⟨27, _⟩ => ⟨S1x8192x2048, .f32⟩
  | .hbm, ⟨28, _⟩ => ⟨S1x8192x2048, .f32⟩
  | .hbm, ⟨29, _⟩ => ⟨S1x1x2048, .f32⟩
  | .hbm, ⟨30, _⟩ => ⟨S1x8192x2048, .f32⟩
  | .hbm, ⟨31, _⟩ => ⟨S1x8192x2048, .f32⟩
  | .hbm, ⟨32, _⟩ => ⟨S1x8192x7184, .f32⟩
  | .hbm, ⟨33, _⟩ => ⟨S1x8192x1024, .f32⟩
  | .hbm, ⟨34, _⟩ => ⟨S8192x1024, .f32⟩
  | .hbm, ⟨35, _⟩ => ⟨S1x8192x3072, .f32⟩
  | .hbm, ⟨36, _⟩ => ⟨S8192x3072, .f32⟩
  | .hbm, ⟨37, _⟩ => ⟨S1x8192x3072, .f32⟩
  | .hbm, ⟨38, _⟩ => ⟨S8192x3072, .f32⟩
  | .hbm, ⟨39, _⟩ => ⟨S8192x7168, .f32⟩
  | .hbm, ⟨40, _⟩ => ⟨S8192x7168, .bf16⟩
  | .hbm, ⟨41, _⟩ => ⟨S1x8192x16, .f32⟩
  | .hbm, ⟨42, _⟩ => ⟨S8192x16, .f32⟩
  | .hbm, ⟨43, _⟩ => ⟨S_, .f32⟩
  | .hbm, ⟨44, _⟩ => ⟨S8192x112, .f32⟩
  | .hbm, ⟨45, _⟩ => ⟨S8192x128, .f32⟩
  | .hbm, ⟨46, _⟩ => ⟨S8192x2048, .f32⟩
  | .hbm, ⟨47, _⟩ => ⟨S8192x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== InBwd.lean ====
abbrev S1x8192x2048 : Shape := ⟨3, ![1, 8192, 2048]⟩
abbrev S2048 : Shape := ⟨1, ![2048]⟩
abbrev S1x6144 : Shape := ⟨2, ![1, 6144]⟩
abbrev S2048x7184 : Shape := ⟨2, ![2048, 7184]⟩
abbrev S1x8192x7184 : Shape := ⟨3, ![1, 8192, 7184]⟩
abbrev S2048x1024 : Shape := ⟨2, ![2048, 1024]⟩
abbrev S2048x3072 : Shape := ⟨2, ![2048, 3072]⟩
abbrev S2048x4096 : Shape := ⟨2, ![2048, 4096]⟩
abbrev S2048x16 : Shape := ⟨2, ![2048, 16]⟩
abbrev S_ : Shape := ⟨0, ![]⟩
abbrev S2048x112 : Shape := ⟨2, ![2048, 112]⟩
abbrev S2048x128 : Shape := ⟨2, ![2048, 128]⟩
abbrev S8192x7184 : Shape := ⟨2, ![8192, 7184]⟩
abbrev S8192x1024 : Shape := ⟨2, ![8192, 1024]⟩
abbrev S8192x3072 : Shape := ⟨2, ![8192, 3072]⟩
abbrev S8192x4096 : Shape := ⟨2, ![8192, 4096]⟩
abbrev S8192x16 : Shape := ⟨2, ![8192, 16]⟩
abbrev S8192x112 : Shape := ⟨2, ![8192, 112]⟩
abbrev S8192x128 : Shape := ⟨2, ![8192, 128]⟩
abbrev S1x2048 : Shape := ⟨2, ![1, 2048]⟩
abbrev S2048x7168 : Shape := ⟨2, ![2048, 7168]⟩
abbrev S8192x2048 : Shape := ⟨2, ![8192, 2048]⟩
abbrev S512x1024 : Shape := ⟨2, ![512, 1024]⟩
abbrev S512x128 : Shape := ⟨2, ![512, 128]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩

abbrev nBuf : Space → Nat
  | .hbm => 38
  | .vmem => 21
  | .smem => 0
  | _ => 0

abbrev bufTy : (tb : Table) → Fin (tcTables nBuf tb) → BufTy
  | .hbm, ⟨0, _⟩ => ⟨S1x8192x2048, .f32⟩
  | .hbm, ⟨1, _⟩ => ⟨S2048, .f32⟩
  | .hbm, ⟨2, _⟩ => ⟨S1x6144, .f32⟩
  | .hbm, ⟨3, _⟩ => ⟨S2048x7184, .f32⟩
  | .hbm, ⟨4, _⟩ => ⟨S1x8192x7184, .f32⟩
  | .hbm, ⟨5, _⟩ => ⟨S1x8192x2048, .f32⟩
  | .hbm, ⟨6, _⟩ => ⟨S2048x7184, .bf16⟩
  | .hbm, ⟨7, _⟩ => ⟨S2048x1024, .bf16⟩
  | .hbm, ⟨8, _⟩ => ⟨S2048x3072, .bf16⟩
  | .hbm, ⟨9, _⟩ => ⟨S2048x4096, .bf16⟩
  | .hbm, ⟨10, _⟩ => ⟨S2048x3072, .bf16⟩
  | .hbm, ⟨11, _⟩ => ⟨S2048x16, .bf16⟩
  | .hbm, ⟨12, _⟩ => ⟨S_, .bf16⟩
  | .hbm, ⟨13, _⟩ => ⟨S2048x112, .bf16⟩
  | .hbm, ⟨14, _⟩ => ⟨S2048x128, .bf16⟩
  | .hbm, ⟨15, _⟩ => ⟨S8192x7184, .f32⟩
  | .hbm, ⟨16, _⟩ => ⟨S8192x1024, .f32⟩
  | .hbm, ⟨17, _⟩ => ⟨S8192x3072, .f32⟩
  | .hbm, ⟨18, _⟩ => ⟨S8192x4096, .f32⟩
  | .hbm, ⟨19, _⟩ => ⟨S8192x3072, .f32⟩
  | .hbm, ⟨20, _⟩ => ⟨S8192x16, .f32⟩
  | .hbm, ⟨21, _⟩ => ⟨S_, .f32⟩
  | .hbm, ⟨22, _⟩ => ⟨S8192x112, .f32⟩
  | .hbm, ⟨23, _⟩ => ⟨S8192x128, .f32⟩
  | .hbm, ⟨24, _⟩ => ⟨S1x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S8192x4096, .bf16⟩
  | .hbm, ⟨29, _⟩ => ⟨S8192x3072, .bf16⟩
  | .hbm, ⟨30, _⟩ => ⟨S2048x7168, .bf16⟩
  | .hbm, ⟨31, _⟩ => ⟨S8192x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S1x2048, .f32⟩
  | .hbm, ⟨36, _⟩ => ⟨S1x2048, .f32⟩
  | .hbm, ⟨37, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x128, .f32⟩
  | .local _ .vmem, ⟨5, _⟩ => ⟨S512x128, .f32⟩
  | .local _ .vmem, ⟨6, _⟩ => ⟨S2048x1024, .bf16⟩
  | .local _ .vmem, ⟨7, _⟩ => ⟨S2048x1024, .bf16⟩
  | .local _ .vmem, ⟨8, _⟩ => ⟨S2048x128, .bf16⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S512x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨2, ![16, 7], ![false, false]⟩

def k0_cond5 (i : grid0.Coords) : BitVec 1 :=
  let arg1 : BitVec 32 := BitVec.ofNat 32 (i 1).val
  let c6_i32 : BitVec 32 := 6#32
  let v14 : BitVec 1 := Scalar.cmpi .eq arg1 c6_i32
  let v15 : BitVec 32 := Scalar.extui v14
  let c0_i32_7 : BitVec 32 := 0#32
  let v16 : BitVec 1 := Scalar.cmpi .ne v15 c0_i32_7
  v16

@[reducible] def k0_t1_loop : Scf.Loop 32 :=
  let c0_i32_8 : BitVec 32 := 0#32
  let c4_i32_9 : BitVec 32 := 4#32
  let v17 : BitVec 32 := Scalar.addi c0_i32_8 c4_i32_9
  let c1_i32 : BitVec 32 := 1#32
  ⟨c0_i32_8, v17, c1_i32⟩
def k0_mult1 (k0_t1 : Fin k0_t1_loop.trips) : BitVec 32 :=
  let c0_i32_8 : BitVec 32 := 0#32
  let c1_i32 : BitVec 32 := 1#32
  let arg16 : BitVec 32 := Scf.iv c0_i32_8 c1_i32 k0_t1
  let c128_i32 : BitVec 32 := 128#32
  let v18 : BitVec 32 := Scalar.muli arg16 c128_i32
  v18
def k0_off1 (k0_t1 : Fin k0_t1_loop.trips) : Fin 2 → Nat :=
  let c0_i32_8 : BitVec 32 := 0#32
  let c1_i32 : BitVec 32 := 1#32
  let arg16 : BitVec 32 := Scf.iv c0_i32_8 c1_i32 k0_t1
  let c128_i32 : BitVec 32 := 128#32
  let v18 : BitVec 32 := Scalar.muli arg16 c128_i32
  let v19 : BitVec 32 := v18
  let v20 : Index := Scalar.indexCast v19
  let c0 : Index := 0#32
  ![v20.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== InRefIdeal.lean ====
abbrev S1x8192x2048 : Shape := ⟨3, ![1, 8192, 2048]⟩
abbrev S2048 : Shape := ⟨1, ![2048]⟩
abbrev S1x6144 : Shape := ⟨2, ![1, 6144]⟩
abbrev S2048x7184 : Shape := ⟨2, ![2048, 7184]⟩
abbrev S1x8192x7184 : Shape := ⟨3, ![1, 8192, 7184]⟩
abbrev S1x2048 : Shape := ⟨2, ![1, 2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S8192 : Shape := ⟨1, ![8192]⟩
abbrev S8192x2048 : Shape := ⟨2, ![8192, 2048]⟩

abbrev nBuf : Space → Nat
  | .hbm => 84
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048, .f32⟩
  | .hbm, ⟨2, _⟩ => ⟨S1x6144, .f32⟩
  | .hbm, ⟨3, _⟩ => ⟨S2048x7184, .f32⟩
  | .hbm, ⟨4, _⟩ => ⟨S1x8192x7184, .f32⟩
  | .hbm, ⟨5, _⟩ => ⟨S1x8192x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x8192x2048, .f32⟩
  | .hbm, ⟨10, _⟩ => ⟨S_, .f32⟩
  | .hbm, ⟨11, _⟩ => ⟨S1x8192, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S1x8192x1, .f32⟩
  | .hbm, ⟨21, _⟩ => ⟨S_, .f32⟩
  | .hbm, ⟨22, _⟩ => ⟨S1x8192x1, .f32⟩
  | .hbm, ⟨23, _⟩ => ⟨S1x8192x1, .f32⟩
  | .hbm, ⟨24, _⟩ => ⟨S1x8192x2048, .f32⟩
  | .hbm, ⟨25, _⟩ => ⟨S1x8192x2048, .f32⟩
  | .hbm, ⟨26, _⟩ => ⟨S1x1x2048, .f32⟩
  | .hbm, ⟨27, _⟩ => ⟨S1x8192x2048, .f32⟩
  | .hbm, ⟨28, _⟩ => ⟨S1x8192x2048, .f32⟩
  | .hbm, ⟨29, _⟩ => ⟨S1x1x2048, .f32⟩
  | .hbm, ⟨30, _⟩ => ⟨S_, .f32⟩
  | .hbm, ⟨31, _⟩ => ⟨S1x1x2048, .f32⟩
  | .hbm, ⟨32, _⟩ => ⟨S1x1x2048, .f32⟩
  | .hbm, ⟨33, _⟩ => ⟨S1x8192x2048, .f32⟩
  | .hbm, ⟨34, _⟩ => ⟨S1x8192x2048, .f32⟩
  | .hbm, ⟨35, _⟩ => ⟨S1x1x2048, .f32⟩
  | .hbm, ⟨36, _⟩ => ⟨S1x8192x2048, .f32⟩
  | .hbm, ⟨37, _⟩ => ⟨S1x8192x2048, .f32⟩
  | .hbm, ⟨38, _⟩ => ⟨S1x8192x7184, .f32⟩
  | .hbm, ⟨39, _⟩ => ⟨S1x8192x2048, .f32⟩
  | .hbm, ⟨40, _⟩ => ⟨S_, .f32⟩
  | .hbm, ⟨41, _⟩ => ⟨S1x2048, .f32⟩
  | .hbm, ⟨42, _⟩ => ⟨S1x1x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S1x8192x2048, .f32⟩
  | .hbm, ⟨47, _⟩ => ⟨S_, .f32⟩
  | .hbm, ⟨48, _⟩ => ⟨S1x2048, .f32⟩
  | .hbm, ⟨49, _⟩ => ⟨S1x1x2048, .f32⟩
  | .hbm, ⟨50, _⟩ => ⟨S1x8192x2048, .f32⟩
  | .hbm, ⟨51, _⟩ => ⟨S1x8192x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S1x8192x2048, .f32⟩
  | .hbm, ⟨56, _⟩ => ⟨S_, .f32⟩
  | .hbm, ⟨57, _⟩ => ⟨S1x2048, .f32⟩
  | .hbm, ⟨58, _⟩ => ⟨S1x1x2048, .f32⟩
  | .hbm, ⟨59, _⟩ => ⟨S1x8192x2048, .f32⟩
  | .hbm, ⟨60, _⟩ => ⟨S1x8192x2048, .f32⟩
  | .hbm, ⟨61, _⟩ => ⟨S_, .f32⟩
  | .hbm, ⟨62, _⟩ => ⟨S2048, .f32⟩
  | .hbm, ⟨63, _⟩ => ⟨S1x8192x2048, .f32⟩
  | .hbm, ⟨64, _⟩ => ⟨S_, .f32⟩
  | .hbm, ⟨65, _⟩ => ⟨S1x8192, .f32⟩
  | .hbm, ⟨66, _⟩ => ⟨S1x8192x1, .f32⟩
  | .hbm, ⟨67, _⟩ => ⟨S1x8192x2048, .f32⟩
  | .hbm, ⟨68, _⟩ => ⟨S1x8192x2048, .f32⟩
  | .hbm, ⟨69, _⟩ => ⟨S1x8192x2048, .f32⟩
  | .hbm, ⟨70, _⟩ => ⟨S1x8192x1, .f32⟩
  | .hbm, ⟨71, _⟩ => ⟨S_, .f32⟩
  | .hbm, ⟨72, _⟩ => ⟨S1x8192x1, .f32⟩
  | .hbm, ⟨73, _⟩ => ⟨S1x8192x1, .f32⟩
  | .hbm, ⟨74, _⟩ => ⟨S_, .f32⟩
  | .hbm, ⟨75, _⟩ => ⟨S8192, .f32⟩
  | .hbm, ⟨76, _⟩ => ⟨S1x8192, .f32⟩
  | .hbm, ⟨77, _⟩ => ⟨S1x8192x2048, .f32⟩
  | .hbm, ⟨78, _⟩ => ⟨S1x8192x2048, .f32⟩
  | .hbm, ⟨79, _⟩ => ⟨S1x8192x2048, .f32⟩
  | .hbm, ⟨80, _⟩ => ⟨S1x8192x2048, .f32⟩
  | .hbm, ⟨81, _⟩ => ⟨S1x8192x2048, .f32⟩
  | .hbm, ⟨82, _⟩ => ⟨S8192x2048, .f32⟩
  | .hbm, ⟨83, _⟩ => ⟨S1x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== AdamIn.lean ====
abbrev S8x2048x898 : Shape := ⟨3, ![8, 2048, 898]⟩
abbrev S4x2048x898 : Shape := ⟨3, ![4, 2048, 898]⟩
abbrev S8x128x898 : Shape := ⟨3, ![8, 128, 898]⟩
abbrev S1x128x898 : Shape := ⟨3, ![1, 128, 898]⟩
abbrev S128x898 : Shape := ⟨2, ![128, 898]⟩

abbrev nBuf : Space → Nat
  | .hbm => 11
  | .vmem => 22
  | .smem => 0
  | _ => 0

abbrev bufTy : (tb : Table) → Fin (tcTables nBuf tb) → BufTy
  | .hbm, ⟨0, _⟩ => ⟨S8x2048x898, .bf16⟩
  | .hbm, ⟨1, _⟩ => ⟨S8x2048x898, .bf16⟩
  | .hbm, ⟨2, _⟩ => ⟨S8x2048x898, .bf16⟩
  | .hbm, ⟨3, _⟩ => ⟨S8x2048x898, .bf16⟩
  | .hbm, ⟨4, _⟩ => ⟨S4x2048x898, .f32⟩
  | .hbm, ⟨5, _⟩ => ⟨S4x2048x898, .f32⟩
  | .hbm, ⟨6, _⟩ => ⟨S4x2048x898, .f32⟩
  | .hbm, ⟨7, _⟩ => ⟨S4x2048x898, .f32⟩
  | .hbm, ⟨8, _⟩ => ⟨S4x2048x898, .f32⟩
  | .hbm, ⟨9, _⟩ => ⟨S4x2048x898, .f32⟩
  | .hbm, ⟨10, _⟩ => ⟨S4x2048x898, .f32⟩
  | .local _ .vmem, ⟨0, _⟩ => ⟨S8x128x898, .bf16⟩
  | .local _ .vmem, ⟨1, _⟩ => ⟨S8x128x898, .bf16⟩
  | .local _ .vmem, ⟨2, _⟩ => ⟨S8x128x898, .bf16⟩
  | .local _ .vmem, ⟨3, _⟩ => ⟨S8x128x898, .bf16⟩
  | .local _ .vmem, ⟨4, _⟩ => ⟨S8x128x898, .bf16⟩
  | .local _ .vmem, ⟨5, _⟩ => ⟨S8x128x898, .bf16⟩
  | .local _ .vmem, ⟨6, _⟩ => ⟨S8x128x898, .bf16⟩
  | .local _ .vmem, ⟨7, _⟩ => ⟨S8x128x898, .bf16⟩
  | .local _ .vmem, ⟨8, _⟩ => ⟨S1x128x898, .f32⟩
  | .local _ .vmem, ⟨9, _⟩ => ⟨S1x128x898, .f32⟩
  | .local _ .vmem, ⟨10, _⟩ => ⟨S1x128x898, .f32⟩
  | .local _ .vmem, ⟨11, _⟩ => ⟨S1x128x898, .f32⟩
  | .local _ .vmem, ⟨12, _⟩ => ⟨S1x128x898, .f32⟩
  | .local _ .vmem, ⟨13, _⟩ => ⟨S1x128x898, .f32⟩
  | .local _ .vmem, ⟨14, _⟩ => ⟨S1x128x898, .f32⟩
  | .local _ .vmem, ⟨15, _⟩ => ⟨S1x128x898, .f32⟩
  | .local _ .vmem, ⟨16, _⟩ => ⟨S1x128x898, .f32⟩
  | .local _ .vmem, ⟨17, _⟩ => ⟨S1x128x898, .f32⟩
  | .local _ .vmem, ⟨18, _⟩ => ⟨S1x128x898, .f32⟩
  | .local _ .vmem, ⟨19, _⟩ => ⟨S1x128x898, .f32⟩
  | .local _ .vmem, ⟨20, _⟩ => ⟨S1x128x898, .f32⟩
  | .local _ .vmem, ⟨21, _⟩ => ⟨S1x128x898, .f32⟩
  | _, _ => ⟨S8x2048x898, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x898 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x898 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x898 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x898 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x898 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x898 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x898 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x898 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x898 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x898 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x898 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamInRefIdeal.lean ====
abbrev S8x2048x898 : Shape := ⟨3, ![8, 2048, 898]⟩
abbrev S4x2048x898 : Shape := ⟨3, ![4, 2048, 898]⟩
abbrev S_ : Shape := ⟨0, ![]⟩
abbrev S2048x898 : Shape := ⟨2, ![2048, 898]⟩
abbrev S1x2048x898 : Shape := ⟨3, ![1, 2048, 898]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x898, .bf16⟩
  | .hbm, ⟨1, _⟩ => ⟨S8x2048x898, .bf16⟩
  | .hbm, ⟨2, _⟩ => ⟨S8x2048x898, .bf16⟩
  | .hbm, ⟨3, _⟩ => ⟨S8x2048x898, .bf16⟩
  | .hbm, ⟨4, _⟩ => ⟨S4x2048x898, .f32⟩
  | .hbm, ⟨5, _⟩ => ⟨S4x2048x898, .f32⟩
  | .hbm, ⟨6, _⟩ => ⟨S4x2048x898, .f32⟩
  | .hbm, ⟨7, _⟩ => ⟨S8x2048x898, .f32⟩
  | .hbm, ⟨8, _⟩ => ⟨S_, .f32⟩
  | .hbm, ⟨9, _⟩ => ⟨S2048x898, .f32⟩
  | .hbm, ⟨10, _⟩ => ⟨S8x2048x898, .f32⟩
  | .hbm, ⟨11, _⟩ => ⟨S_, .f32⟩
  | .hbm, ⟨12, _⟩ => ⟨S2048x898, .f32⟩
  | .hbm, ⟨13, _⟩ => ⟨S8x2048x898, .f32⟩
  | .hbm, ⟨14, _⟩ => ⟨S_, .f32⟩
  | .hbm, ⟨15, _⟩ => ⟨S2048x898, .f32⟩
  | .hbm, ⟨16, _⟩ => ⟨S8x2048x898, .f32⟩
  | .hbm, ⟨17, _⟩ => ⟨S_, .f32⟩
  | .hbm, ⟨18, _⟩ => ⟨S2048x898, .f32⟩
  | .hbm, ⟨19, _⟩ => ⟨S1x2048x898, .f32⟩
  | .hbm, ⟨20, _⟩ => ⟨S1x2048x898, .f32⟩
  | .hbm, ⟨21, _⟩ => ⟨S1x2048x898, .f32⟩
  | .hbm, ⟨22, _⟩ => ⟨S1x2048x898, .f32⟩
  | .hbm, ⟨23, _⟩ => ⟨S4x2048x898, .f32⟩
  | .hbm, ⟨24, _⟩ => ⟨S_, .f32⟩
  | .hbm, ⟨25, _⟩ => ⟨S4x2048x898, .f32⟩
  | .hbm, ⟨26, _⟩ => ⟨S4x2048x898, .f32⟩
  | .hbm, ⟨27, _⟩ => ⟨S_, .f32⟩
  | .hbm, ⟨28, _⟩ => ⟨S4x2048x898, .f32⟩
  | .hbm, ⟨29, _⟩ => ⟨S4x2048x898, .f32⟩
  | .hbm, ⟨30, _⟩ => ⟨S4x2048x898, .f32⟩
  | .hbm, ⟨31, _⟩ => ⟨S_, .f32⟩
  | .hbm, ⟨32, _⟩ => ⟨S4x2048x898, .f32⟩
  | .hbm, ⟨33, _⟩ => ⟨S4x2048x898, .f32⟩
  | .hbm, ⟨34, _⟩ => ⟨S4x2048x898, .f32⟩
  | .hbm, ⟨35, _⟩ => ⟨S_, .f32⟩
  | .hbm, ⟨36, _⟩ => ⟨S4x2048x898, .f32⟩
  | .hbm, ⟨37, _⟩ => ⟨S4x2048x898, .f32⟩
  | .hbm, ⟨38, _⟩ => ⟨S4x2048x898, .f32⟩
  | .hbm, ⟨39, _⟩ => ⟨S_, .f32⟩
  | .hbm, ⟨40, _⟩ => ⟨S4x2048x898, .f32⟩
  | .hbm, ⟨41, _⟩ => ⟨S4x2048x898, .f32⟩
  | .hbm, ⟨42, _⟩ => ⟨S_, .f32⟩
  | .hbm, ⟨43, _⟩ => ⟨S4x2048x898, .f32⟩
  | .hbm, ⟨44, _⟩ => ⟨S4x2048x898, .f32⟩
  | .hbm, ⟨45, _⟩ => ⟨S4x2048x898, .f32⟩
  | .hbm, ⟨46, _⟩ => ⟨S_, .f32⟩
  | .hbm, ⟨47, _⟩ => ⟨S4x2048x898, .f32⟩
  | .hbm, ⟨48, _⟩ => ⟨S4x2048x898, .f32⟩
  | .hbm, ⟨49, _⟩ => ⟨S4x2048x898, .f32⟩
  | .hbm, ⟨50, _⟩ => ⟨S_, .f32⟩
  | .hbm, ⟨51, _⟩ => ⟨S4x2048x898, .f32⟩
  | .hbm, ⟨52, _⟩ => ⟨S4x2048x898, .f32⟩
  | .hbm, ⟨53, _⟩ => ⟨S4x2048x898, .f32⟩
  | .hbm, ⟨54, _⟩ => ⟨S_, .f32⟩
  | .hbm, ⟨55, _⟩ => ⟨S4x2048x898, .f32⟩
  | .hbm, ⟨56, _⟩ => ⟨S4x2048x898, .f32⟩
  | _, _ => ⟨S8x2048x898, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== AdamOut.lean ====
abbrev S8x256x2048 : Shape := ⟨3, ![8, 256, 2048]⟩
abbrev S4x256x2048 : Shape := ⟨3, ![4, 256, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 11
  | .vmem => 22
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S8x256x2048, .bf16⟩
  | .hbm, ⟨3, _⟩ => ⟨S8x256x2048, .bf16⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S8x64x2048, .bf16⟩
  | .local _ .vmem, ⟨3, _⟩ => ⟨S8x64x2048, .bf16⟩
  | .local _ .vmem, ⟨4, _⟩ => ⟨S8x64x2048, .bf16⟩
  | .local _ .vmem, ⟨5, _⟩ => ⟨S8x64x2048, .bf16⟩
  | .local _ .vmem, ⟨6, _⟩ => ⟨S8x64x2048, .bf16⟩
  | .local _ .vmem, ⟨7, _⟩ => ⟨S8x64x2048, .bf16⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamOutRefIdeal.lean ====
abbrev S8x256x2048 : Shape := ⟨3, ![8, 256, 2048]⟩
abbrev S4x256x2048 : Shape := ⟨3, ![4, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S8x256x2048, .bf16⟩
  | .hbm, ⟨3, _⟩ => ⟨S8x256x2048, .bf16⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S8x256x2048, .f32⟩
  | .hbm, ⟨8, _⟩ => ⟨S_, .f32⟩
  | .hbm, ⟨9, _⟩ => ⟨S256x2048, .f32⟩
  | .hbm, ⟨10, _⟩ => ⟨S8x256x2048, .f32⟩
  | .hbm, ⟨11, _⟩ => ⟨S_, .f32⟩
  | .hbm, ⟨12, _⟩ => ⟨S256x2048, .f32⟩
  | .hbm, ⟨13, _⟩ => ⟨S8x256x2048, .f32⟩
  | .hbm, ⟨14, _⟩ => ⟨S_, .f32⟩
  | .hbm, ⟨15, _⟩ => ⟨S256x2048, .f32⟩
  | .hbm, ⟨16, _⟩ => ⟨S8x256x2048, .f32⟩
  | .hbm, ⟨17, _⟩ => ⟨S_, .f32⟩
  | .hbm, ⟨18, _⟩ => ⟨S256x2048, .f32⟩
  | .hbm, ⟨19, _⟩ => ⟨S1x256x2048, .f32⟩
  | .hbm, ⟨20, _⟩ => ⟨S1x256x2048, .f32⟩
  | .hbm, ⟨21, _⟩ => ⟨S1x256x2048, .f32⟩
  | .hbm, ⟨22, _⟩ => ⟨S1x256x2048, .f32⟩
  | .hbm, ⟨23, _⟩ => ⟨S4x256x2048, .f32⟩
  | .hbm, ⟨24, _⟩ => ⟨S_, .f32⟩
  | .hbm, ⟨25, _⟩ => ⟨S4x256x2048, .f32⟩
  | .hbm, ⟨26, _⟩ => ⟨S4x256x2048, .f32⟩
  | .hbm, ⟨27, _⟩ => ⟨S_, .f32⟩
  | .hbm, ⟨28, _⟩ => ⟨S4x256x2048, .f32⟩
  | .hbm, ⟨29, _⟩ => ⟨S4x256x2048, .f32⟩
  | .hbm, ⟨30, _⟩ => ⟨S4x256x2048, .f32⟩
  | .hbm, ⟨31, _⟩ => ⟨S_, .f32⟩
  | .hbm, ⟨32, _⟩ => ⟨S4x256x2048, .f32⟩
  | .hbm, ⟨33, _⟩ => ⟨S4x256x2048, .f32⟩
  | .hbm, ⟨34, _⟩ => ⟨S4x256x2048, .f32⟩
  | .hbm, ⟨35, _⟩ => ⟨S_, .f32⟩
  | .hbm, ⟨36, _⟩ => ⟨S4x256x2048, .f32⟩
  | .hbm, ⟨37, _⟩ => ⟨S4x256x2048, .f32⟩
  | .hbm, ⟨38, _⟩ => ⟨S4x256x2048, .f32⟩
  | .hbm, ⟨39, _⟩ => ⟨S_, .f32⟩
  | .hbm, ⟨40, _⟩ => ⟨S4x256x2048, .f32⟩
  | .hbm, ⟨41, _⟩ => ⟨S4x256x2048, .f32⟩
  | .hbm, ⟨42, _⟩ => ⟨S_, .f32⟩
  | .hbm, ⟨43, _⟩ => ⟨S4x256x2048, .f32⟩
  | .hbm, ⟨44, _⟩ => ⟨S4x256x2048, .f32⟩
  | .hbm, ⟨45, _⟩ => ⟨S4x256x2048, .f32⟩
  | .hbm, ⟨46, _⟩ => ⟨S_, .f32⟩
  | .hbm, ⟨47, _⟩ => ⟨S4x256x2048, .f32⟩
  | .hbm, ⟨48, _⟩ => ⟨S4x256x2048, .f32⟩
  | .hbm, ⟨49, _⟩ => ⟨S4x256x2048, .f32⟩
  | .hbm, ⟨50, _⟩ => ⟨S_, .f32⟩
  | .hbm, ⟨51, _⟩ => ⟨S4x256x2048, .f32⟩
  | .hbm, ⟨52, _⟩ => ⟨S4x256x2048, .f32⟩
  | .hbm, ⟨53, _⟩ => ⟨S4x256x2048, .f32⟩
  | .hbm, ⟨54, _⟩ => ⟨S_, .f32⟩
  | .hbm, ⟨55, _⟩ => ⟨S4x256x2048, .f32⟩
  | .hbm, ⟨56, _⟩ => ⟨S4x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Proof.Reals.lean ====
/- Finite extended reals: the exact operations on values that are real numbers are the operations of the real
   numbers. The value proofs write every array as the coercion of a real array with these lemmas, and then compute
   in the field of real numbers. -/
module

public import Idealize.ShloMosaic.PureOps.Ideal
public import Idealize.ShloMosaic.PureOps.Ideal.Laws
public import Idealize.ShloMosaic.Lib.Pointwise

@[expose] public section

set_option maxRecDepth 16384

noncomputable section

namespace Cert.Reals

open Idealize.ShloMosaic

theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Division of real numbers by a nonzero real number. -/
theorem div_real (a : ℝ) {b : ℝ} (h : b ≠ 0) : Ideal.div (a : EReal) (b : EReal) = ((a / b : ℝ) : EReal) := by
  rw [Ideal.div_coe h, ← EReal.coe_mul, mul_one_div]

/-- The reciprocal square root of a positive real number. -/
theorem rsqrt_real {a : ℝ} (h : 0 < a) : Ideal.rsqrt (a : EReal) = (((Real.sqrt a)⁻¹ : ℝ) : EReal) := by
  rw [Ideal.rsqrt_coe, if_neg (not_lt.mpr h.le), if_neg h.ne']

/-- A value whose absolute value is below infinity is a real number. -/
theorem real_of_abs {x : EReal} (h : max x (-x) < ⊤) : ((x.toReal : ℝ) : EReal) = x := by
  refine EReal.coe_toReal ?_ ?_
  · rintro rfl; simp at h
  · rintro rfl; simp at h

theorem inf_f32 : Ideal.ofBits .f32 0x7F800000#32 = ⊤ := by
  simp [Ideal.ofBits, Ideal.ieee]

/-- The comparison of an absolute value with infinity, read as a fact about the value. -/
theorem real_of_cmp {x : EReal} (h : Ideal.cmp .olt (max x (-x)) (Ideal.ofBits .f32 0x7F800000#32) = 1#1) :
    ((x.toReal : ℝ) : EReal) = x := by
  refine real_of_abs ?_
  rw [inf_f32] at h
  by_contra hc
  simp [Ideal.cmp, hc] at h

/-- The epsilon of the norms, as printed: the binary number next to one millionth. -/
def eps : ℝ := 8796093 / 8796093022208

theorem eps_pos : 0 < eps := by unfold eps; norm_num

theorem ofBits_eps : Ideal.ofBits .f32 0x358637BD#32 = (eps : EReal) := by
  unfold eps
  simp [Ideal.ofBits, Ideal.ieee, -EReal.coe_mul]; norm_num
theorem ofBits_2048 : Ideal.ofBits .f32 0x45000000#32 = ((2048 : ℝ) : EReal) := by
  simp [Ideal.ofBits, Ideal.ieee, -EReal.coe_mul]; norm_num
theorem ofBits_inv_2048 : Ideal.ofBits .f32 0x3A000000#32 = ((1 / 2048 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- The reciprocal root `r` of a positive number `v` is nonzero, and `r² v = 1`. -/
theorem inv_sqrt_sq {v : ℝ} (h : 0 < v) : (Real.sqrt v)⁻¹ * (Real.sqrt v)⁻¹ * v = 1 := by
  have hs : Real.sqrt v ≠ 0 := (Real.sqrt_pos.mpr h).ne'
  have := Real.mul_self_sqrt h.le
  field_simp
  nlinarith [this]

/-- The mean square of a row plus the epsilon is positive. -/
theorem ms_pos {ι : Type} (s : Finset ι) (f : ι → ℝ) {n : ℝ} (hn : 0 < n) : 0 < (∑ i ∈ s, f i * f i) / n + eps :=
  add_pos_of_nonneg_of_pos (div_nonneg (Finset.sum_nonneg fun i _ => mul_self_nonneg _) hn.le) eps_pos

end Cert.Reals

end
-- ==== Proof.LossKernel.lean ====
/- The loss head's kernel, read: each block it stores and each running sum, as real numbers. -/
module

public import proofs.«01_k».proof.Proof.Reals
public import proofs.«01_k».proof.Proof.Gen.LossHeadIdeal.Value
public import Idealize.ShloMosaic.Lib.Pipeline.ValueKit
public import Idealize.ShloMosaic.Lib.Pointwise

@[expose] public section

set_option maxRecDepth 16384

noncomputable section

namespace Cert.LossHeadIdeal.Own

open Idealize.ShloMosaic Idealize.ShloMosaic.TcCoe Idealize.SL.Sem
open Cert.LossHeadIdeal Cert.LossHeadIdeal.Gen Cert.Reals

/-- The reciprocal root mean square of a row. -/
def rms (X : Fin 2048 → ℝ) : ℝ := (Real.sqrt ((∑ k, X k * X k) / 2048 + eps))⁻¹

/-- The error of a normalised and scaled row against its target. -/
def err (X G T : Fin 2048 → ℝ) (k : Fin 2048) : ℝ := X k * rms X * G k - T k

/-- The gradient of the loss with respect to a row, as the kernel computes it. -/
def dxRow (X G T : Fin 2048 → ℝ) (k : Fin 2048) : ℝ :=
  rms X * (err X G T k * (1 / 2048) * G k
    - X k * rms X * ((∑ j, err X G T j * (1 / 2048) * G j * (X j * rms X)) / 2048))

variable (X : S512x2048.Idx → ℝ) (G : S1x2048.Idx → ℝ) (T : S512x2048.Idx → ℝ)

theorem pay6 (r : Fin 512) : k0_pay6 (F := Ideal) (fun i => (X i : EReal)) (ix2 r 0) = (rms fun k => X (ix2 r k) : EReal) := by
  pointwise [k0_pay6, k0_pay5]
  simp only [ofBits_2048, ofBits_eps, ← EReal.coe_mul, ← coe_sum, zero_add]
  rw [div_real _ (by norm_num), ← EReal.coe_add, rsqrt_real (ms_pos _ _ (by norm_num))]
  rfl

theorem pay7 (r : Fin 512) (k : Fin 2048) : k0_pay7 (F := Ideal) (fun i => (X i : EReal)) (ix2 r k)
    = ((X (ix2 r k) * rms fun k => X (ix2 r k) : ℝ) : EReal) := by
  pointwise [k0_pay7, k0_pay5, pay6]
  rw [← EReal.coe_mul]

theorem pay8 (r : Fin 512) (k : Fin 2048) :
    k0_pay8 (F := Ideal) (fun i => (X i : EReal)) (fun i => (G i : EReal)) (fun i => (T i : EReal)) (ix2 r k)
    = (err (fun k => X (ix2 r k)) (fun k => G (ix2 0 k)) (fun k => T (ix2 r k)) k : EReal) := by
  pointwise [k0_pay8, pay7]
  rw [← EReal.coe_mul, ← EReal.coe_sub]
  rfl

theorem pay10 (r : Fin 512) (k : Fin 2048) :
    k0_pay10 (F := Ideal) (fun i => (X i : EReal)) (fun i => (G i : EReal)) (fun i => (T i : EReal)) (ix2 r k)
    = ((err (fun k => X (ix2 r k)) (fun k => G (ix2 0 k)) (fun k => T (ix2 r k)) k * (1 / 2048) : ℝ) : EReal) := by
  pointwise [k0_pay10, pay8]
  rw [ofBits_inv_2048, ← EReal.coe_mul]

theorem pay2 (r : Fin 512) (k : Fin 2048) :
    k0_pay2 (F := Ideal) (k0_pay6 (fun i => (X i : EReal))) (k0_pay7 (fun i => (X i : EReal)))
      (k0_pay10 (fun i => (X i : EReal)) (fun i => (G i : EReal)) (fun i => (T i : EReal))) (fun i => (G i : EReal)) (ix2 r k)
    = (dxRow (fun k => X (ix2 r k)) (fun k => G (ix2 0 k)) (fun k => T (ix2 r k)) k : EReal) := by
  pointwise [k0_pay2, pay6, pay7, pay10]
  simp only [ofBits_2048, ← EReal.coe_mul, ← coe_sum, zero_add]
  rw [div_real _ (by norm_num)]
  simp only [← EReal.coe_mul, ← EReal.coe_sub]
  rfl

theorem pay9 (acc : FVec Ideal S1x1 .f32) :
    k0_pay9 (F := Ideal) (fun i => (X i : EReal)) (fun i => (G i : EReal)) (fun i => (T i : EReal)) acc (ix2 0 0)
    = acc (ix2 0 0) + ((1 / 2 * ∑ r : Fin 512, (∑ k, err (fun k => X (ix2 r k)) (fun k => G (ix2 0 k)) (fun k => T (ix2 r k)) k
        * err (fun k => X (ix2 r k)) (fun k => G (ix2 0 k)) (fun k => T (ix2 r k)) k) / 2048 : ℝ) : EReal) := by
  pointwise [k0_pay9, pay8]
  simp only [ofBits_2048, ofBits_half, ← EReal.coe_mul, ← coe_sum, zero_add]
  have h (a : ℝ) : Ideal.div (a : EReal) ((2048 : ℝ) : EReal) = ((a / 2048 : ℝ) : EReal) := div_real a (by norm_num)
  simp only [h, ← EReal.coe_mul, ← coe_sum]

theorem pay1 (acc : FVec Ideal S1x2048 .f32) (k : Fin 2048) :
    k0_pay1 (F := Ideal) (k0_pay7 (fun i => (X i : EReal)))
      (k0_pay10 (fun i => (X i : EReal)) (fun i => (G i : EReal)) (fun i => (T i : EReal))) acc (ix2 0 k)
    = acc (ix2 0 k) + ((∑ r : Fin 512, err (fun k => X (ix2 r k)) (fun k => G (ix2 0 k)) (fun k => T (ix2 r k)) k * (1 / 2048)
        * (X (ix2 r k) * rms fun k => X (ix2 r k)) : ℝ) : EReal) := by
  pointwise [k0_pay1, pay7, pay10]
  simp only [← EReal.coe_mul, ← coe_sum, zero_add]

end Cert.LossHeadIdeal.Own

end
-- ==== Proof.LossArrays.lean ====
/- The loss head's kernel: its three result arrays after the run, as real numbers of the argument arrays. -/
module

public import proofs.«01_k».proof.Proof.LossKernel

@[expose] public section

set_option maxRecDepth 16384

noncomputable section

namespace Cert.LossHeadIdeal.Own

open Idealize.ShloMosaic Idealize.ShloMosaic.TcCoe Idealize.SL.Sem
open Cert.LossHeadIdeal Cert.LossHeadIdeal.Gen Cert.Reals

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

variable (m : (ℓ : Loc nD τ sig) → Buf (Elt Ideal) ℓ) (c : Dev nD)
variable (X : S1x8192x2048.Idx → ℝ) (G : S2048.Idx → ℝ) (T : S1x8192x2048.Idx → ℝ)

/-- The three argument arrays hold real numbers. -/
structure Real3 : Prop where
  x : m ((c : Thread nD τ).loc main_arg0) = fun i => (X i : EReal)
  g : m ((c : Thread nD τ).loc main_arg1) = fun i => (G i : EReal)
  t : m ((c : Thread nD τ).loc main_arg2) = fun i => (T i : EReal)

/-- Row `r` of the block of point `t`. -/
def rowOf (t : Fin cfg0.N) (r : Fin 512) : Fin 8192 :=
  ⟨t.val * 512 + r.val, by have := t.isLt; have h : cfg0.N = 16 := N_0; omega⟩

def blkX (A : S1x8192x2048.Idx → ℝ) (t : Fin cfg0.N) : S512x2048.Idx → ℝ := fun i => A (ix3 0 (rowOf t (i 0)) (i 1))
def blkG : S1x2048.Idx → ℝ := fun i => G (ix1 (i 1))

variable {m c X G T}

theorem iblk0 (h : Real3 m c X G T) (t : Fin cfg0.N) : iblk m c 0 t = fun i => (blkX X t i : EReal) := by
  funext i
  refine Eq.trans (b := m ((c : Thread nD τ).loc main_arg0) (ix3 0 (rowOf t (i 0)) (i 1))) ?_ (by rw [h.x]; rfl)
  unfold rowOf
  blk_point [iblk, V, idx t]

theorem iblk1 (h : Real3 m c X G T) (t : Fin cfg0.N) : iblk m c 1 t = fun i => (blkG G i : EReal) := by
  funext i
  refine Eq.trans (b := m ((c : Thread nD τ).loc main_arg1) (ix1 (i 1))) ?_ (by rw [h.g]; rfl)
  blk_point [iblk, V, idx t]

theorem iblk2 (h : Real3 m c X G T) (t : Fin cfg0.N) : iblk m c 2 t = fun i => (blkX T t i : EReal) := by
  funext i
  refine Eq.trans (b := m ((c : Thread nD τ).loc main_arg2) (ix3 0 (rowOf t (i 0)) (i 1))) ?_ (by rw [h.t]; rfl)
  unfold rowOf
  blk_point [iblk, V, idx t]

variable (X G T)

/-- The gradient array of the input, as the kernel computes it. -/
def dxArr : S8192x2048.Idx → ℝ := fun i =>
  dxRow (fun k => X (ix3 0 (i 0) k)) (fun k => G (ix1 k)) (fun k => T (ix3 0 (i 0) k)) (i 1)

variable {X G T}

theorem point3 (t : Fin cfg0.N) (y : S512x2048.Idx) :
    k0_pay2 (F := Ideal) (k0_pay6 (fun i => (blkX X t i : EReal))) (k0_pay7 (fun i => (blkX X t i : EReal)))
      (k0_pay10 (fun i => (blkX X t i : EReal)) (fun i => (blkG G i : EReal)) (fun i => (blkX T t i : EReal)))
      (fun i => (blkG G i : EReal)) y
    = (dxArr X G T (ix2 (rowOf t (y 0)) (y 1)) : EReal) := by
  idx_vars y
  exact pay2 _ _ _ _ _

theorem final3 (h : Real3 m c X G T) : (dats m 0 c).arrAt 3 (cfgs 0).N = fun i => (dxArr X G T i : EReal) := by
  refine Pipeline.Dat.arrAt_eq_of_covers (dats m 0 c) 3 _ (by decide +kernel) fun t hf y => ?_
  blk_simp
  rw [after0_3]
  have e : ((View.whole main_v3_0).slice (win0_3.rect t)).emb y = (ix2 (rowOf t (y 0)) (y 1) : S8192x2048.Idx) := by
    unfold rowOf
    blk_ext [idx t]
  rw [e]
  by_cases h0 : t.val % 16 = 0
  · rw [outsAt0_A m c t h0]
    frame_out
    rw [iblk0 h, iblk1 h, iblk2 h]
    exact point3 t y
  · rw [outsAt0_B m c t h0]
    frame_out
    rw [iblk0 h, iblk1 h, iblk2 h]
    exact point3 t y

variable (X G T)

/-- The part of the loss that one block of rows adds. -/
def lossPart (t : Fin cfg0.N) : ℝ := 1 / 2 * ∑ r : Fin 512,
  (∑ k, err (fun k => blkX X t (ix2 r k)) (fun k => blkG G (ix2 0 k)) (fun k => blkX T t (ix2 r k)) k
    * err (fun k => blkX X t (ix2 r k)) (fun k => blkG G (ix2 0 k)) (fun k => blkX T t (ix2 r k)) k) / 2048

/-- The part of the scale's gradient that one block of rows adds. -/
def dgPart (t : Fin cfg0.N) (k : Fin 2048) : ℝ := ∑ r : Fin 512,
  err (fun k => blkX X t (ix2 r k)) (fun k => blkG G (ix2 0 k)) (fun k => blkX T t (ix2 r k)) k * (1 / 2048)
    * (blkX X t (ix2 r k) * rms fun k => blkX X t (ix2 r k))

variable {X G T}

theorem zero3 (i : S1x1.Idx) : k0_pay3 (F := Ideal) i = 0 := by pointwise [k0_pay3]
theorem zero4 (i : S1x2048.Idx) : k0_pay4 (F := Ideal) i = 0 := by pointwise [k0_pay4]

theorem step4 (t : Fin cfg0.N) (acc : FVec Ideal S1x1 .f32) (i : S1x1.Idx) :
    k0_pay9 (F := Ideal) (fun i => (blkX X t i : EReal)) (fun i => (blkG G i : EReal)) (fun i => (blkX T t i : EReal)) acc i
    = acc i + (lossPart X G T t : EReal) := by
  idx_vars i
  obtain rfl : i0 = 0 := Subsingleton.elim _ _
  obtain rfl : i1 = 0 := Subsingleton.elim _ _
  exact pay9 _ _ _ _

theorem step5 (t : Fin cfg0.N) (acc : FVec Ideal S1x2048 .f32) (i : S1x2048.Idx) :
    k0_pay1 (F := Ideal) (k0_pay7 (fun i => (blkX X t i : EReal)))
      (k0_pay10 (fun i => (blkX X t i : EReal)) (fun i => (blkG G i : EReal)) (fun i => (blkX T t i : EReal))) acc i
    = acc i + (dgPart X G T t (i 1) : EReal) := by
  idx_vars i
  obtain rfl : i0 = 0 := Subsingleton.elim _ _
  exact pay1 _ _ _ _ _

theorem final4 (h : Real3 m c X G T) : (dats m 0 c).arrAt 4 (cfgs 0).N
    = fun _ => ((∑ t : Fin cfg0.N, lossPart X G T t : ℝ) : EReal) := by
  refine Pipeline.Dat.arrAt_eq_of_after_last (dats m 0 c) 4 t0_15 (by decide +kernel) _ fun j => ?_
  blk_simp
  rw [after0_4, Pipeline.eq_sum_fin_of_reset_step_apply_last (fun n h => (outsAt0 m c n h).2.1) 16 (fun _ => 0)
    (fun t _ => (lossPart X G T t : EReal))
    (fun t h0 j => by rw [outsAt0_A m c t h0]; frame_out; rw [iblk0 h, iblk1 h, iblk2 h, step4, zero3])
    (fun t h0 j => by rw [outsAt0_B m c t h0]; frame_out; rw [iblk0 h, iblk1 h, iblk2 h, step4])
    (le_of_eq N_0) t0_15 rfl j, zero_add]
  exact (coe_sum _ _).symm

theorem final5 (h : Real3 m c X G T) : (dats m 0 c).arrAt 5 (cfgs 0).N
    = fun i => ((∑ t : Fin cfg0.N, dgPart X G T t (i 1) : ℝ) : EReal) := by
  refine Pipeline.Dat.arrAt_eq_of_after_last (dats m 0 c) 5 t0_15 (by decide +kernel) _ fun j => ?_
  blk_simp
  rw [after0_5, Pipeline.eq_sum_fin_of_reset_step_apply_last (fun n h => (outsAt0 m c n h).2.2) 16 (fun _ => 0)
    (fun t (j : S1x2048.Idx) => (dgPart X G T t (j 1) : EReal))
    (fun t h0 j => by rw [outsAt0_A m c t h0]; frame_out; rw [iblk0 h, iblk1 h, iblk2 h, step5, zero4])
    (fun t h0 j => by rw [outsAt0_B m c t h0]; frame_out; rw [iblk0 h, iblk1 h, iblk2 h, step5])
    (le_of_eq N_0) t0_15 rfl j, zero_add]
  exact (coe_sum _ _).symm

end Cert.LossHeadIdeal.Own

end
-- ==== Proof.LossRef.lean ====
/- The loss head's reference, read: each result as real numbers of the argument arrays. -/
module

public import proofs.«01_k».proof.Proof.LossKernel
public import proofs.«01_k».proof.Proof.Gen.LossRefIdeal.Read
public import Idealize.ShloMosaic.Lib.Pointwise

@[expose] public section

set_option maxRecDepth 16384

noncomputable section

namespace Cert.LossRefIdeal.Own

open Idealize.ShloMosaic Idealize.ShloMosaic.TcCoe Idealize.SL.Sem
open Cert.LossRefIdeal Cert.LossRefIdeal.Gen Cert.LossRefIdeal.Read Cert.Reals
open Cert.LossHeadIdeal.Own (rms err)

theorem fiber {s t : Shape} {axes : List (Fin s.rank)} (h : s.ReducesTo axes t) (x : s.Idx → EReal) (init : EReal) (j : t.Idx)
    (i0 : s.Idx) (hi : ∀ i, h.drop i = j ↔ i = i0) : Ideal.hostReduceAdd h x init j = init + x i0 := by
  unfold Ideal.hostReduceAdd
  rw [show (Finset.univ.filter fun i => h.drop i = j) = {i0} by ext i; simp [hi], Finset.sum_singleton]

theorem red36 (x : FVec Ideal S1x1x2048 .f32) (z : EReal) (k : Fin 2048) :
    Ideal.hostReduceAdd reducesTo_S1x1x2048_S2048_d0_1 x z (ix1 k) = z + x (ix3 0 0 k) := by
  refine fiber _ _ _ _ _ fun i => ?_
  idx_vars i
  obtain rfl : i0 = 0 := Subsingleton.elim _ _
  obtain rfl : i1 = 0 := Subsingleton.elim _ _
  have e : reducesTo_S1x1x2048_S2048_d0_1.drop (ix3 0 0 i2 : S1x1x2048.Idx) = ix1 i2 := by
    funext a; fin_cases a; rfl
  rw [e]
  constructor
  · intro h
    have := congrFun h 0
    simp at this; rw [this]
  · intro h
    have := congrFun h 2
    simp at this; rw [this]

theorem red45 (x : FVec Ideal S1x8192x1 .f32) (z : EReal) (k : Fin 8192) :
    Ideal.hostReduceAdd reducesTo_S1x8192x1_S8192_d0_2 x z (ix1 k) = z + x (ix3 0 k 0) := by
  refine fiber _ _ _ _ _ fun i => ?_
  idx_vars i
  obtain rfl : i0 = 0 := Subsingleton.elim _ _
  obtain rfl : i2 = 0 := Subsingleton.elim _ _
  have e : reducesTo_S1x8192x1_S8192_d0_2.drop (ix3 0 i1 0 : S1x8192x1.Idx) = ix1 i1 := by
    funext a; fin_cases a; rfl
  rw [e]
  constructor
  · intro h
    have := congrFun h 0
    simp at this; rw [this]
  · intro h
    have := congrFun h 1
    simp at this; rw [this]

variable (X : S1x8192x2048.Idx → ℝ) (G : S2048.Idx → ℝ) (T : S1x8192x2048.Idx → ℝ)

abbrev row (A : S1x8192x2048.Idx → ℝ) (t : Fin 8192) : Fin 2048 → ℝ := fun k => A (ix3 0 t k)
abbrev gr : Fin 2048 → ℝ := fun k => G (ix1 k)

theorem v6 (t : Fin 8192) : val_main_v6 (F := Ideal) (fun i => (X i : EReal)) (ix3 0 t 0)
    = (((∑ k, row X t k * row X t k) / 2048 + eps : ℝ) : EReal) := by
  pointwise [val_main_v6, val_main_v5, val_main_v4, val_main_v3, val_main_v2, val_main_v1, val_main_v0, val_main_cst, val_main_cst_0, val_main_cst_1]
  simp only [ofBits_2048, ofBits_eps, ← EReal.coe_mul, ← coe_sum, zero_add]
  rw [div_real _ (by norm_num), ← EReal.coe_add]

theorem v7 (t : Fin 8192) : val_main_v7 (F := Ideal) (fun i => (X i : EReal)) (ix3 0 t 0) = (rms (row X t) : EReal) := by
  pointwise [val_main_v7, v6]
  rw [rsqrt_real (ms_pos _ _ (by norm_num))]
  rfl

theorem v10 (t : Fin 8192) : val_main_v10 (F := Ideal) (fun i => (X i : EReal)) (ix3 0 t 0)
    = ((-(1 / 2) * (rms (row X t) / ((∑ k, row X t k * row X t k) / 2048 + eps)) : ℝ) : EReal) := by
  pointwise [val_main_v10, val_main_v9, val_main_v8, v7, v6, val_main_cst_2]
  rw [div_real _ (ms_pos _ _ (by norm_num)).ne', ofBits_neg_half, ← EReal.coe_mul]

theorem v12 (t : Fin 8192) (k : Fin 2048) : val_main_v12 (F := Ideal) (fun i => (X i : EReal)) (ix3 0 t k)
    = ((row X t k * rms (row X t) : ℝ) : EReal) := by
  pointwise [val_main_v12, val_main_v11, v7]
  rw [← EReal.coe_mul]

theorem v16 (t : Fin 8192) (k : Fin 2048) :
    val_main_v16 (F := Ideal) (fun i => (X i : EReal)) (fun i => (G i : EReal)) (fun i => (T i : EReal)) (ix3 0 t k)
    = (err (row X t) (gr G) (row T t) k : EReal) := by
  pointwise [val_main_v16, val_main_v15, val_main_v14, val_main_v13, v12]
  rw [← EReal.coe_mul, ← EReal.coe_sub]
  rfl

theorem v30 (t : Fin 8192) (k : Fin 2048) :
    val_main_v30 (F := Ideal) (fun i => (X i : EReal)) (fun i => (G i : EReal)) (fun i => (T i : EReal)) (ix3 0 t k)
    = ((err (row X t) (gr G) (row T t) k * (1 / 2048) : ℝ) : EReal) := by
  pointwise [val_main_v30, val_main_v29, val_main_v28, val_main_v27, val_main_v26, val_main_v25, val_main_v19, val_main_v18, v16,
    val_main_cst_3, val_main_cst_8, val_main_cst_9, val_main_cst_10]
  simp only [ofBits_two, ofBits_half, ofBits_2048, mul_one]
  rw [div_real _ (by norm_num), ← EReal.coe_mul, ← EReal.coe_mul]
  congr 1
  ring

theorem v35 (t : Fin 8192) (k : Fin 2048) :
    val_main_v35 (F := Ideal) (fun i => (X i : EReal)) (fun i => (G i : EReal)) (fun i => (T i : EReal)) (ix3 0 t k)
    = ((err (row X t) (gr G) (row T t) k * (1 / 2048) * gr G k : ℝ) : EReal) := by
  pointwise [val_main_v35, val_main_v34, val_main_v13, v30]
  rw [← EReal.coe_mul]

theorem v47 (t : Fin 8192) (k : Fin 2048) :
    val_main_v47 (F := Ideal) (fun i => (X i : EReal)) (fun i => (G i : EReal)) (fun i => (T i : EReal)) (ix3 0 t k)
    = (((∑ j, row X t j * (err (row X t) (gr G) (row T t) j * (1 / 2048) * gr G j))
        * (-(1 / 2) * (rms (row X t) / ((∑ k, row X t k * row X t k) / 2048 + eps))) / 2048 : ℝ) : EReal) := by
  pointwise [val_main_v47, val_main_v46, val_main_v45, red45, val_main_v44, val_main_v43, val_main_v42, val_main_v39, val_main_v38, val_main_v37,
    v10, v35, val_main_cst_13, val_main_cst_14, val_main_cst_15]
  simp only [ofBits_2048, ← EReal.coe_mul, ← coe_sum, zero_add]
  rw [div_real _ (by norm_num)]

theorem out0 (t : Fin 8192) (k : Fin 2048) :
    val_main_v52 (F := Ideal) (fun i => (X i : EReal)) (fun i => (G i : EReal)) (fun i => (T i : EReal)) (ix2 t k)
    = (Cert.LossHeadIdeal.Own.dxRow (row X t) (gr G) (row T t) k : EReal) := by
  pointwise [val_main_v52, val_main_v51, val_main_v50, val_main_v49, val_main_v48, val_main_v41, val_main_v40, v35, v47, v7]
  simp only [← EReal.coe_mul, ← EReal.coe_add]
  congr 1
  unfold Cert.LossHeadIdeal.Own.dxRow
  set e := err (row X t) (gr G) (row T t)
  have hp : 0 < (∑ k, row X t k * row X t k) / 2048 + eps := ms_pos _ _ (by norm_num)
  have hr : rms (row X t) * rms (row X t) * ((∑ k, row X t k * row X t k) / 2048 + eps) = 1 := inv_sqrt_sq hp
  have hd : rms (row X t) / ((∑ k, row X t k * row X t k) / 2048 + eps) = rms (row X t) * rms (row X t) * rms (row X t) := by
    rw [div_eq_iff hp.ne']; linear_combination -rms (row X t) * hr
  have hs : ∑ j, e j * (1 / 2048) * gr G j * (row X t j * rms (row X t))
      = (∑ j, row X t j * (e j * (1 / 2048) * gr G j)) * rms (row X t) := by
    rw [Finset.sum_mul]; exact Finset.sum_congr rfl fun j _ => by ring
  rw [hd, hs]
  ring

theorem out1 (i : S1x1.Idx) :
    val_main_v53 (F := Ideal) (fun i => (X i : EReal)) (fun i => (G i : EReal)) (fun i => (T i : EReal)) i
    = ((1 / 2 * ∑ t, (∑ k, err (row X t) (gr G) (row T t) k * err (row X t) (gr G) (row T t) k) / 2048 : ℝ) : EReal) := by
  idx_vars i
  pointwise [val_main_v53, val_main_v24, val_main_v23, val_main_v22, val_main_v21, val_main_v20, val_main_v17, v16,
    val_main_cst_4, val_main_cst_5, val_main_cst_6, val_main_cst_7]
  have h (a : ℝ) : Ideal.div (a : EReal) ((2048 : ℝ) : EReal) = ((a / 2048 : ℝ) : EReal) := div_real a (by norm_num)
  simp only [ofBits_2048, ofBits_half, ← EReal.coe_mul, ← coe_sum, zero_add, h]
  simp

theorem out2 (k : Fin 2048) :
    val_main_v54 (F := Ideal) (fun i => (X i : EReal)) (fun i => (G i : EReal)) (fun i => (T i : EReal)) (ix2 0 k)
    = ((∑ t, row X t k * rms (row X t) * (err (row X t) (gr G) (row T t) k * (1 / 2048)) : ℝ) : EReal) := by
  pointwise [val_main_v54, val_main_v36, red36, val_main_v33, val_main_v32, val_main_v31, v30, v12, val_main_cst_11, val_main_cst_12]
  simp only [← EReal.coe_mul, ← coe_sum, zero_add]

end Cert.LossRefIdeal.Own

end
-- ==== Proof.Loss.lean ====
/- The loss head: the claims about its two programs. -/
module

public import proofs.«01_k».proof.Defs
public import proofs.«01_k».proof.Proof.LossArrays
public import proofs.«01_k».proof.Proof.LossRef
public import proofs.«01_k».proof.Proof.Gen.LossHead.Frame
public import proofs.«01_k».proof.Proof.Gen.LossRefIdeal.Run
public import proofs.«01_k».proof.Proof.Gen.Pre_finite1
public import Idealize.ShloMosaic.Lib.Claim

@[expose] public section

set_option maxRecDepth 16384

noncomputable section

namespace Cert.Loss

open Idealize.ShloMosaic Idealize.ShloMosaic.TcCoe Idealize.SL.Sem Cert.Reals

theorem frame_k : Cert.quiescent_LossHead := fun m ρ _ => Cert.LossHead.Gen.frame m ρ
theorem frame_ki : Cert.quiescent_LossHeadIdeal := fun m ρ _ => Cert.LossHeadIdeal.Gen.frame m ρ
theorem frame_ki_pre : Cert.quiescent_LossHeadIdeal_pre_finite1 := fun m ρ _ => Cert.LossHeadIdeal.Gen.frame m ρ
theorem frame_ri : Cert.quiescent_LossRefIdeal := fun m ρ _ =>
  (θ_run Cert.LossRefIdeal.defs _ _).mono
    (fun r h => ⟨fun c => (h c).2.2.2, Idealize.ShloMosaic.sem_eq_zero_of_no_sems (by decide) r.2⟩)
    (Cert.LossRefIdeal.Value.run (F := Ideal) m ρ)
theorem frame_ri_pre : Cert.quiescent_LossRefIdeal_pre_finite1 := fun m ρ _ => frame_ri m ρ trivial

/-- The precondition, read: the three argument arrays hold real numbers. -/
theorem real3 (m : (ℓ : Loc Cert.LossHeadIdeal.nD Cert.LossHeadIdeal.τ Cert.LossHeadIdeal.sig) → Buf (Elt Ideal) ℓ)
    (h : Cert.Pre_LossHeadIdeal_finite1 m) (c : Dev Cert.LossHeadIdeal.nD) :
    ∃ X G T, Cert.LossHeadIdeal.Own.Real3 m c X G T := by
  obtain ⟨h0, h1, h2⟩ := h c
  refine ⟨fun i => EReal.toReal (m ((c.tc : Thread Cert.LossHeadIdeal.nD Cert.LossHeadIdeal.τ).loc Cert.LossHeadIdeal.main_arg0) i),
    fun i => EReal.toReal (m ((c.tc : Thread Cert.LossHeadIdeal.nD Cert.LossHeadIdeal.τ).loc Cert.LossHeadIdeal.main_arg1) i),
    fun i => EReal.toReal (m ((c.tc : Thread Cert.LossHeadIdeal.nD Cert.LossHeadIdeal.τ).loc Cert.LossHeadIdeal.main_arg2) i), ⟨?_, ?_, ?_⟩⟩
  · funext i
    exact (real_of_cmp (congrFun h0 i)).symm
  · funext i
    exact (real_of_cmp (congrFun h1 i)).symm
  · funext i
    exact (real_of_cmp (congrFun h2 i)).symm

/-- The reference's arguments hold the same real numbers. -/
theorem agree3 {m : (ℓ : Loc Cert.LossHeadIdeal.nD Cert.LossHeadIdeal.τ Cert.LossHeadIdeal.sig) → Buf (Elt Ideal) ℓ}
    {m' : (ℓ : Loc Cert.LossRefIdeal.nD Cert.LossRefIdeal.τ Cert.LossRefIdeal.sig) → Buf (Elt Ideal) ℓ} {c : Dev Cert.LossRefIdeal.nD}
    {X G T} (h : Cert.LossHeadIdeal.Own.Real3 m c X G T)
    (e : m' ((c.tc : Thread Cert.LossRefIdeal.nD Cert.LossRefIdeal.τ).loc Cert.LossRefIdeal.main_arg0) = m ((c.tc : Thread Cert.LossHeadIdeal.nD Cert.LossHeadIdeal.τ).loc Cert.LossHeadIdeal.main_arg0)
      ∧ m' ((c.tc : Thread Cert.LossRefIdeal.nD Cert.LossRefIdeal.τ).loc Cert.LossRefIdeal.main_arg1) = m ((c.tc : Thread Cert.LossHeadIdeal.nD Cert.LossHeadIdeal.τ).loc Cert.LossHeadIdeal.main_arg1)
      ∧ m' ((c.tc : Thread Cert.LossRefIdeal.nD Cert.LossRefIdeal.τ).loc Cert.LossRefIdeal.main_arg2) = m ((c.tc : Thread Cert.LossHeadIdeal.nD Cert.LossHeadIdeal.τ).loc Cert.LossHeadIdeal.main_arg2)) :
    m' ((c.tc : Thread Cert.LossRefIdeal.nD Cert.LossRefIdeal.τ).loc Cert.LossRefIdeal.main_arg0) = (fun i => (X i : EReal))
      ∧ m' ((c.tc : Thread Cert.LossRefIdeal.nD Cert.LossRefIdeal.τ).loc Cert.LossRefIdeal.main_arg1) = (fun i => (G i : EReal))
      ∧ m' ((c.tc : Thread Cert.LossRefIdeal.nD Cert.LossRefIdeal.τ).loc Cert.LossRefIdeal.main_arg2) = (fun i => (T i : EReal)) :=
  ⟨e.1.trans h.x, e.2.1.trans h.g, e.2.2.trans h.t⟩

/-- A sum over the 8192 rows is the sum over the sixteen blocks of the sums over their rows. -/
theorem regroup (f : Fin 8192 → ℝ) : ∑ l, f l = ∑ t : Fin Cert.LossHeadIdeal.cfg0.N, ∑ r : Fin 512, f (Cert.LossHeadIdeal.Own.rowOf t r) :=
  (Fin.sum_mul_add_congr (S := Cert.LossHeadIdeal.cfg0.N) (n := 512) (f := f) (fun s k hl => rfl)
    (by have h : Cert.LossHeadIdeal.cfg0.N = 16 := Cert.LossHeadIdeal.Gen.N_0
        rw [h])).symm

theorem value : Cert.algebraic_LossHeadIdeal_LossRefIdeal_pre_finite1 := by
  pair_intro
  · run_from Cert.LossHeadIdeal.Gen.run_main m g
  · run_from Cert.LossRefIdeal.Value.run m' g'
    · obtain ⟨X, G, T, h⟩ := real3 m hpre c
      obtain ⟨e0, e1, e2⟩ := agree3 h (hagree c)
      rw [Cert.LossHeadIdeal.Own.final3 h]
      refine (Cert.LossRefIdeal.Read.val_main_v52_eq m' c).trans ?_
      rw [e0, e1, e2]
      funext i
      idx_vars i
      exact Cert.LossRefIdeal.Own.out0 X G T i0 i1
    · obtain ⟨X, G, T, h⟩ := real3 m hpre c
      obtain ⟨e0, e1, e2⟩ := agree3 h (hagree c)
      rw [Cert.LossHeadIdeal.Own.final4 h]
      refine (Cert.LossRefIdeal.Read.val_main_v53_eq _ _ _).trans ?_
      rw [h.x, h.g, h.t]
      funext i
      refine (Cert.LossRefIdeal.Own.out1 X G T i).trans (congrArg _ ?_)
      rw [regroup, Finset.mul_sum]
      rfl
    · obtain ⟨X, G, T, h⟩ := real3 m hpre c
      obtain ⟨e0, e1, e2⟩ := agree3 h (hagree c)
      rw [Cert.LossHeadIdeal.Own.final5 h]
      refine (Cert.LossRefIdeal.Read.val_main_v54_eq _ _ _).trans ?_
      rw [h.x, h.g, h.t]
      funext i
      idx_vars i
      obtain rfl : i0 = 0 := Subsingleton.elim _ _
      refine (Cert.LossRefIdeal.Own.out2 X G T i1).trans (congrArg _ ?_)
      rw [regroup]
      refine Finset.sum_congr rfl fun t _ => Finset.sum_congr rfl fun r _ => ?_
      exact mul_comm _ _

end Cert.Loss

end
-- ==== Proof.DnLoop.lean ====
module

public import proofs.«01_k».proof.Proof.Gen.DnFwdIdeal.Skeleton
public import Idealize.ShloMosaic.Lib.Exec
public import Idealize.ShloMosaic.Lib.Tactic
public import Idealize.ShloMosaic.Lib.Pipeline.Kit

/-! The loop over the chunks of a block: what one trip writes depends on the inputs and on the carried state alone. -/

@[expose] public section

set_option maxRecDepth 8192
set_option maxHeartbeats 4000000

noncomputable section

namespace Cert.DnFwdIdeal.Own

open Cert.DnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The pieces written into the results, the state and the scratch row. -/
abbrev Pcs (F : FTy → Type) [FloatOps F] := List (View.Piece (Elt F) S256x1024 .f32) × List (View.Piece (Elt F) S4x8x128x128 .bf16) × List (View.Piece (Elt F) S4x8x64x64 .f32) × List (View.Piece (Elt F) S8x128x128 .f32) × List (View.Piece (Elt F) S16x64 .f32)

/-- What a trip holds: the inputs it reads and the buffers it writes. -/
abbrev Held (c : Dev nD) (arg9 : Memref sig .tc .vmem S4x16x64 .f32) (arg12 : Memref sig .tc .vmem S16x64 .f32) (arg13 : Memref sig .tc .vmem S16x64 .f32) (arg18 : Memref sig .tc .vmem S256x3072 .f32) (arg21 : Memref sig .tc .vmem S256x128 .f32) (arg22 : Memref sig .tc .vmem S256x128 .f32) (arg14 : Memref sig .tc .vmem S256x1024 .f32) (arg15 : Memref sig .tc .vmem S4x8x128x128 .bf16) (arg16 : Memref sig .tc .vmem S4x8x64x64 .f32) (arg19 : Memref sig .tc .vmem S8x128x128 .f32) (arg20 : Memref sig .tc .vmem S16x64 .f32) (X_arg9 : BufTy.Contents (Elt F) arg9.view.ty) (X_arg12 : BufTy.Contents (Elt F) arg12.view.ty) (X_arg13 : BufTy.Contents (Elt F) arg13.view.ty) (X_arg18 : BufTy.Contents (Elt F) arg18.view.ty) (X_arg21 : BufTy.Contents (Elt F) arg21.view.ty) (X_arg22 : BufTy.Contents (Elt F) arg22.view.ty) (f_arg14 : BufTy.Contents (Elt F) arg14.view.ty) (f_arg15 : BufTy.Contents (Elt F) arg15.view.ty) (f_arg16 : BufTy.Contents (Elt F) arg16.view.ty) (f_arg19 : BufTy.Contents (Elt F) arg19.view.ty) (f_arg20 : BufTy.Contents (Elt F) arg20.view.ty) : sProp 𝕄 :=
  iprop((arg9.view.loc (c : Thread nD τ) ↦[arg9.view.set]{fullShare} X_arg9) ∗ (arg12.view.loc (c : Thread nD τ) ↦[arg12.view.set]{fullShare} X_arg12) ∗ (arg13.view.loc (c : Thread nD τ) ↦[arg13.view.set]{fullShare} X_arg13) ∗ (arg18.view.loc (c : Thread nD τ) ↦[arg18.view.set]{fullShare} X_arg18) ∗ (arg21.view.loc (c : Thread nD τ) ↦[arg21.view.set]{fullShare} X_arg21) ∗ (arg22.view.loc (c : Thread nD τ) ↦[arg22.view.set]{fullShare} X_arg22) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg19.view.loc (c : Thread nD τ) ↦[arg19.view.set]{fullShare} f_arg19) ∗ (arg20.view.loc (c : Thread nD τ) ↦[arg20.view.set]{fullShare} f_arg20))

variable (𝒱 : Variants) (c : Dev nD) (bd : Option 𝒱.V) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S4x3072 .f32) (harg7 : arg7.IsWhole) (arg8 : Memref sig .tc .vmem S256x128 .f32) (harg8 : arg8.IsWhole) (arg9 : Memref sig .tc .vmem S4x16x64 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S16x64 .f32) (harg12 : arg12.IsWhole) (arg13 : Memref sig .tc .vmem S16x64 .f32) (harg13 : arg13.IsWhole) (arg14 : Memref sig .tc .vmem S256x1024 .f32) (harg14 : arg14.IsWhole) (arg15 : Memref sig .tc .vmem S4x8x128x128 .bf16) (harg15 : arg15.IsWhole) (arg16 : Memref sig .tc .vmem S4x8x64x64 .f32) (harg16 : arg16.IsWhole) (arg17 : Memref sig .tc .vmem S272x3072 .f32) (harg17 : arg17.IsWhole) (arg18 : Memref sig .tc .vmem S256x3072 .f32) (harg18 : arg18.IsWhole) (arg19 : Memref sig .tc .vmem S8x128x128 .f32) (harg19 : arg19.IsWhole) (arg20 : Memref sig .tc .vmem S16x64 .f32) (harg20 : arg20.IsWhole) (arg21 : Memref sig .tc .vmem S256x128 .f32) (harg21 : arg21.IsWhole) (arg22 : Memref sig .tc .vmem S256x128 .f32) (harg22 : arg22.IsWhole) (v352 : IVec S64x128 32) (X_arg9 : BufTy.Contents (Elt F) arg9.view.ty) (X_arg12 : BufTy.Contents (Elt F) arg12.view.ty) (X_arg13 : BufTy.Contents (Elt F) arg13.view.ty) (X_arg18 : BufTy.Contents (Elt F) arg18.view.ty) (X_arg21 : BufTy.Contents (Elt F) arg21.view.ty) (X_arg22 : BufTy.Contents (Elt F) arg22.view.ty)

/-- One trip, with the pieces it writes as functions of the state it finds. -/
@[irreducible] def trip (k : Fin k0_t1_loop.trips) :
    Σ' (L_arg14 : BufTy.Contents (Elt F) arg19.view.ty → List (View.Piece (Elt F) S256x1024 .f32)), Σ' (L_arg15 : BufTy.Contents (Elt F) arg19.view.ty → List (View.Piece (Elt F) S4x8x128x128 .bf16)), Σ' (L_arg16 : BufTy.Contents (Elt F) arg19.view.ty → List (View.Piece (Elt F) S4x8x64x64 .f32)), Σ' (L_arg19 : BufTy.Contents (Elt F) arg19.view.ty → List (View.Piece (Elt F) S8x128x128 .f32)),
      { L_arg20 : BufTy.Contents (Elt F) arg19.view.ty → List (View.Piece (Elt F) S16x64 .f32) // ∀ (E : Set ℕ) (f_arg14 : BufTy.Contents (Elt F) arg14.view.ty) (f_arg15 : BufTy.Contents (Elt F) arg15.view.ty) (f_arg16 : BufTy.Contents (Elt F) arg16.view.ty) (f_arg19 : BufTy.Contents (Elt F) arg19.view.ty) (f_arg20 : BufTy.Contents (Elt F) arg20.view.ty),
      Held (F := F) c arg9 arg12 arg13 arg18 arg21 arg22 arg14 arg15 arg16 arg19 arg20 X_arg9 X_arg12 X_arg13 X_arg18 X_arg21 X_arg22 f_arg14 f_arg15 f_arg16 f_arg19 f_arg20
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 k PUnit.unit)
          (fun _ => Held (F := F) c arg9 arg12 arg13 arg18 arg21 arg22 arg14 arg15 arg16 arg19 arg20 X_arg9 X_arg12 X_arg13 X_arg18 X_arg21 X_arg22 (arg14.view.writes (Elt F) f_arg14 (L_arg14 f_arg19)) (arg15.view.writes (Elt F) f_arg15 (L_arg15 f_arg19)) (arg16.view.writes (Elt F) f_arg16 (L_arg16 f_arg19)) (arg19.view.writes (Elt F) f_arg19 (L_arg19 f_arg19)) (arg20.view.writes (Elt F) f_arg20 (L_arg20 f_arg19))) } := by
  have hk : k.val < 4 := Nat.lt_of_lt_of_le k.isLt k0_t1_abs.2.1
  refine ⟨?_, ?_, ?_, ?_, ?_, fun E f_arg14 f_arg15 f_arg16 f_arg19 f_arg20 => ?run⟩
  case run =>
    unfold k0_t1_body
    iintro ⟨HR_arg9, HR_arg12, HR_arg13, HR_arg18, HR_arg21, HR_arg22, HW_arg14, HW_arg15, HW_arg16, HW_arg19, HW_arg20⟩
    sl_exec
    sl_step
    sl_close

/-- The trip's pieces at the state it finds. -/
abbrev tripL (k : Fin k0_t1_loop.trips) (f_arg19 : BufTy.Contents (Elt F) arg19.view.ty) : Pcs F :=
  let T := trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 k
  (T.1 f_arg19, T.2.1 f_arg19, T.2.2.1 f_arg19, T.2.2.2.1 f_arg19, T.2.2.2.2.1 f_arg19)

/-- One more trip's pieces in front of those before it. -/
@[irreducible] def pcsStep (G_arg19 : BufTy.Contents (Elt F) arg19.view.ty) (k : ℕ) (p : Pcs F) : Pcs F :=
  if h : k < k0_t1_loop.trips then
    let T := tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 ⟨k, h⟩ (arg19.view.writes (Elt F) G_arg19 p.2.2.2.1)
    (T.1 ++ p.1, T.2.1 ++ p.2.1, T.2.2.1 ++ p.2.2.1, T.2.2.2.1 ++ p.2.2.2.1, T.2.2.2.2 ++ p.2.2.2.2)
  else p

/-- The pieces of the trips before `k`, from the state at loop entry. -/
def pcs (G_arg19 : BufTy.Contents (Elt F) arg19.view.ty) : ℕ → Pcs F
  | 0 => ([], [], [], [], [])
  | k + 1 => pcsStep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 G_arg19 k (pcs G_arg19 k)

theorem pcs_succ (G_arg19 : BufTy.Contents (Elt F) arg19.view.ty) (k : Fin k0_t1_loop.trips) :
    pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 G_arg19 (k.val + 1)
      = (let p := pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 G_arg19 k.val
         let T := tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 k (arg19.view.writes (Elt F) G_arg19 p.2.2.2.1)
         (T.1 ++ p.1, T.2.1 ++ p.2.1, T.2.2.1 ++ p.2.2.1, T.2.2.2.1 ++ p.2.2.2.1, T.2.2.2.2 ++ p.2.2.2.2)) := by
  rw [pcs.eq_2]; unfold pcsStep; exact dif_pos k.isLt

/-- Before trip `k`: the inputs as they were, the written buffers with the pieces of the trips before. -/
abbrev inv (G_arg14 : BufTy.Contents (Elt F) arg14.view.ty) (G_arg15 : BufTy.Contents (Elt F) arg15.view.ty) (G_arg16 : BufTy.Contents (Elt F) arg16.view.ty) (G_arg19 : BufTy.Contents (Elt F) arg19.view.ty) (G_arg20 : BufTy.Contents (Elt F) arg20.view.ty) (k : ℕ) (_u : PUnit) : sProp 𝕄 :=
  iprop((arg9.view.loc (c : Thread nD τ) ↦[arg9.view.set]{fullShare} X_arg9) ∗ (arg12.view.loc (c : Thread nD τ) ↦[arg12.view.set]{fullShare} X_arg12) ∗ (arg13.view.loc (c : Thread nD τ) ↦[arg13.view.set]{fullShare} X_arg13) ∗ (arg18.view.loc (c : Thread nD τ) ↦[arg18.view.set]{fullShare} X_arg18) ∗ (arg21.view.loc (c : Thread nD τ) ↦[arg21.view.set]{fullShare} X_arg21) ∗ (arg22.view.loc (c : Thread nD τ) ↦[arg22.view.set]{fullShare} X_arg22) ∗ (∃ f, (arg14.view.loc (c : Thread nD τ) ↦[arg14.view.set]{fullShare} f) ∗ ⌜f = arg14.view.writes (Elt F) G_arg14 (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 G_arg19 k).1⌝) ∗ (∃ f, (arg15.view.loc (c : Thread nD τ) ↦[arg15.view.set]{fullShare} f) ∗ ⌜f = arg15.view.writes (Elt F) G_arg15 (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 G_arg19 k).2.1⌝) ∗ (∃ f, (arg16.view.loc (c : Thread nD τ) ↦[arg16.view.set]{fullShare} f) ∗ ⌜f = arg16.view.writes (Elt F) G_arg16 (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 G_arg19 k).2.2.1⌝) ∗ (∃ f, (arg19.view.loc (c : Thread nD τ) ↦[arg19.view.set]{fullShare} f) ∗ ⌜f = arg19.view.writes (Elt F) G_arg19 (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 G_arg19 k).2.2.2.1⌝) ∗ (∃ f, (arg20.view.loc (c : Thread nD τ) ↦[arg20.view.set]{fullShare} f) ∗ ⌜f = arg20.view.writes (Elt F) G_arg20 (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 G_arg19 k).2.2.2.2⌝))

set_option warn.classDefReducibility false in
/-- The loop by that invariant. -/
@[sl_loop] def loopInv (E : Set ℕ) (G_arg14 : BufTy.Contents (Elt F) arg14.view.ty) (G_arg15 : BufTy.Contents (Elt F) arg15.view.ty) (G_arg16 : BufTy.Contents (Elt F) arg16.view.ty) (G_arg19 : BufTy.Contents (Elt F) arg19.view.ty) (G_arg20 : BufTy.Contents (Elt F) arg20.view.ty) :
    Idealize.ShloMosaic.LoopInv (M := 𝕄) Idealize.ShloMosaic.frame (wpE defs₀ 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352) where
  inv := inv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 G_arg14 G_arg15 G_arg16 G_arg19 G_arg20
  step k acc := by
    iintro ⟨HR_arg9, HR_arg12, HR_arg13, HR_arg18, HR_arg21, HR_arg22, ⟨%f_arg14, HW_arg14, %h_arg14⟩, ⟨%f_arg15, HW_arg15, %h_arg15⟩, ⟨%f_arg16, HW_arg16, %h_arg16⟩, ⟨%f_arg19, HW_arg19, %h_arg19⟩, ⟨%f_arg20, HW_arg20, %h_arg20⟩⟩
    iapply (wp_wand_r Idealize.ShloMosaic.frame (wpE (defs₀ (F := F)) 𝒱 (c : Thread nD τ) bd) E)
    isplitl [HR_arg9 HR_arg12 HR_arg13 HR_arg18 HR_arg21 HR_arg22 HW_arg14 HW_arg15 HW_arg16 HW_arg19 HW_arg20]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 k).2.2.2.2.2 E f_arg14 f_arg15 f_arg16 f_arg19 f_arg20)
      isplitl [HR_arg9]; · iexact HR_arg9
      isplitl [HR_arg12]; · iexact HR_arg12
      isplitl [HR_arg13]; · iexact HR_arg13
      isplitl [HR_arg18]; · iexact HR_arg18
      isplitl [HR_arg21]; · iexact HR_arg21
      isplitl [HR_arg22]; · iexact HR_arg22
      isplitl [HW_arg14]; · iexact HW_arg14
      isplitl [HW_arg15]; · iexact HW_arg15
      isplitl [HW_arg16]; · iexact HW_arg16
      isplitl [HW_arg19]; · iexact HW_arg19
      iexact HW_arg20
    · iintro %_ ⟨HR_arg9, HR_arg12, HR_arg13, HR_arg18, HR_arg21, HR_arg22, HW_arg14, HW_arg15, HW_arg16, HW_arg19, HW_arg20⟩
      isplitl [HR_arg9]; · iexact HR_arg9
      isplitl [HR_arg12]; · iexact HR_arg12
      isplitl [HR_arg13]; · iexact HR_arg13
      isplitl [HR_arg18]; · iexact HR_arg18
      isplitl [HR_arg21]; · iexact HR_arg21
      isplitl [HR_arg22]; · iexact HR_arg22
      rw [pcs_succ]
      isplitl [HW_arg14]
      · iexists _; isplitl [HW_arg14]; · iexact HW_arg14
        ipureintro; rw [h_arg14, h_arg19, ← View.writes_append]
      isplitl [HW_arg15]
      · iexists _; isplitl [HW_arg15]; · iexact HW_arg15
        ipureintro; rw [h_arg15, h_arg19, ← View.writes_append]
      isplitl [HW_arg16]
      · iexists _; isplitl [HW_arg16]; · iexact HW_arg16
        ipureintro; rw [h_arg16, h_arg19, ← View.writes_append]
      isplitl [HW_arg19]
      · iexists _; isplitl [HW_arg19]; · iexact HW_arg19
        ipureintro; rw [h_arg19, ← View.writes_append]
      iexists _; isplitl [HW_arg20]; · iexact HW_arg20
      ipureintro; rw [h_arg20, h_arg19, ← View.writes_append]

end Cert.DnFwdIdeal.Own

end
-- ==== Proof.DnRunA.lean ====
module

public import proofs.«01_k».proof.Proof.DnLoop
public import proofs.«01_k».proof.Proof.Gen.DnFwdIdeal.Frame
public import Idealize.ShloMosaic.Lib.Pipeline.FrameBody
public import Idealize.ShloMosaic.Lib.Ring
public import Idealize.ShloMosaic.Lib.WordCmp

/-! The body of the forward kernel at a point of its grid. -/

@[expose] public section

set_option maxRecDepth 16384

noncomputable section

namespace Cert.DnFwdIdeal.Own

open Cert.DnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point of the grid. -/
abbrev cond0 (i : grid0.Coords) : Prop := (Scalar.cmpi .ne (Scalar.extui (Scalar.cmpi .eq (BitVec.ofNat 32 (i 0).val) 0#32)) 0#32) = 1#1

variable (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S4x3072 .f32) (harg7 : arg7.IsWhole) (arg8 : Memref sig .tc .vmem S256x128 .f32) (harg8 : arg8.IsWhole) (arg9 : Memref sig .tc .vmem S4x16x64 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S16x64 .f32) (harg12 : arg12.IsWhole) (arg13 : Memref sig .tc .vmem S16x64 .f32) (harg13 : arg13.IsWhole) (arg14 : Memref sig .tc .vmem S256x1024 .f32) (harg14 : arg14.IsWhole) (arg15 : Memref sig .tc .vmem S4x8x128x128 .bf16) (harg15 : arg15.IsWhole) (arg16 : Memref sig .tc .vmem S4x8x64x64 .f32) (harg16 : arg16.IsWhole) (arg17 : Memref sig .tc .vmem S272x3072 .f32) (harg17 : arg17.IsWhole) (arg18 : Memref sig .tc .vmem S256x3072 .f32) (harg18 : arg18.IsWhole) (arg19 : Memref sig .tc .vmem S8x128x128 .f32) (harg19 : arg19.IsWhole) (arg20 : Memref sig .tc .vmem S16x64 .f32) (harg20 : arg20.IsWhole) (arg21 : Memref sig .tc .vmem S256x128 .f32) (harg21 : arg21.IsWhole) (arg22 : Memref sig .tc .vmem S256x128 .f32) (harg22 : arg22.IsWhole) (x0 : Vec F S256x1024 .bf16) (x1 : Vec F S256x1024 .bf16) (x2 : Vec F S256x1024 .bf16) (x3 : Vec F S16x1024 .bf16) (x4 : Vec F S16x1024 .bf16) (x5 : Vec F S16x1024 .bf16) (x6 : Vec F S4x3072 .f32) (x7 : Vec F S256x128 .f32) (x8 : Vec F S4x16x64 .f32) (x9 : Vec F S1x128 .f32) (x10 : Vec F S1x128 .f32) (x11 : Vec F S16x64 .f32) (x12 : Vec F S16x64 .f32)

set_option maxHeartbeats 8000000 in set_option sl_exec.squeezeSlice true in
/-- The body at the first point, where the state is cleared: the pieces it writes into the results and the state. -/
def runA (hc0 : cond0 i) :
    Σ' (L13 : List (View.Piece (Elt F) S256x1024 .f32)) (L14 : List (View.Piece (Elt F) S4x8x128x128 .bf16)) (L15 : List (View.Piece (Elt F) S4x8x64x64 .f32)), { LS : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f LS) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_dn_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, fun E K => ?run⟩
  case run =>
    simp only [cc0_dn_fwd_eq_skeleton]; unfold cc0_dn_fwd_skel
    simp only [k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [HS0]
    · iexists _; iexists _; isplitr
      swap; · iexact HS0
      ipureintro; rfl
    isplitl [HS1]
    · iexists _; iexists _; isplitr
      swap; · iexact HS1
      ipureintro; rfl
    isplitl [HS2]; · iexists _; iexact HS2
    isplitl [HS3]
    · iexists _; iexists _; isplitr
      swap; · iexact HS3
      ipureintro; rfl
    isplitl [HS4]
    · iexists _; iexists _; isplitr
      swap; · iexact HS4
      ipureintro; rfl
    iexists _; iexists _; isplitr
    swap; · iexact HS5
    ipureintro; rfl

end Cert.DnFwdIdeal.Own

end
-- ==== Proof.DnRunB.lean ====
module

public import proofs.«01_k».proof.Proof.DnLoop
public import proofs.«01_k».proof.Proof.Gen.DnFwdIdeal.Frame
public import Idealize.ShloMosaic.Lib.Pipeline.FrameBody
public import Idealize.ShloMosaic.Lib.Ring
public import Idealize.ShloMosaic.Lib.WordCmp

/-! The body of the forward kernel at a point of its grid. -/

@[expose] public section

set_option maxRecDepth 16384

noncomputable section

namespace Cert.DnFwdIdeal.Own

open Cert.DnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point of the grid, as the later points deny it. -/
abbrev cond0B (i : grid0.Coords) : Prop := (Scalar.cmpi .ne (Scalar.extui (Scalar.cmpi .eq (BitVec.ofNat 32 (i 0).val) 0#32)) 0#32) = 1#1

variable (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S4x3072 .f32) (harg7 : arg7.IsWhole) (arg8 : Memref sig .tc .vmem S256x128 .f32) (harg8 : arg8.IsWhole) (arg9 : Memref sig .tc .vmem S4x16x64 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S16x64 .f32) (harg12 : arg12.IsWhole) (arg13 : Memref sig .tc .vmem S16x64 .f32) (harg13 : arg13.IsWhole) (arg14 : Memref sig .tc .vmem S256x1024 .f32) (harg14 : arg14.IsWhole) (arg15 : Memref sig .tc .vmem S4x8x128x128 .bf16) (harg15 : arg15.IsWhole) (arg16 : Memref sig .tc .vmem S4x8x64x64 .f32) (harg16 : arg16.IsWhole) (arg17 : Memref sig .tc .vmem S272x3072 .f32) (harg17 : arg17.IsWhole) (arg18 : Memref sig .tc .vmem S256x3072 .f32) (harg18 : arg18.IsWhole) (arg19 : Memref sig .tc .vmem S8x128x128 .f32) (harg19 : arg19.IsWhole) (arg20 : Memref sig .tc .vmem S16x64 .f32) (harg20 : arg20.IsWhole) (arg21 : Memref sig .tc .vmem S256x128 .f32) (harg21 : arg21.IsWhole) (arg22 : Memref sig .tc .vmem S256x128 .f32) (harg22 : arg22.IsWhole) (x0 : Vec F S256x1024 .bf16) (x1 : Vec F S256x1024 .bf16) (x2 : Vec F S256x1024 .bf16) (x3 : Vec F S16x1024 .bf16) (x4 : Vec F S16x1024 .bf16) (x5 : Vec F S16x1024 .bf16) (x6 : Vec F S4x3072 .f32) (x7 : Vec F S256x128 .f32) (x8 : Vec F S4x16x64 .f32) (x9 : Vec F S1x128 .f32) (x10 : Vec F S1x128 .f32) (x11 : Vec F S16x64 .f32) (x12 : Vec F S16x64 .f32)

set_option maxHeartbeats 8000000 in set_option sl_exec.squeezeSlice true in
/-- The body at a later point, from the state `xs` that the point before left: the pieces it writes into the results and the state. -/
def runB (hc0 : ¬cond0B i) (xs : Vec F S8x128x128 .f32) :
    Σ' (L13 : List (View.Piece (Elt F) S256x1024 .f32)) (L14 : List (View.Piece (Elt F) S4x8x128x128 .bf16)) (L15 : List (View.Piece (Elt F) S4x8x64x64 .f32)), { LS : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f LS) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_dn_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, fun E K => ?run⟩
  case run =>
    simp only [cc0_dn_fwd_eq_skeleton]; unfold cc0_dn_fwd_skel
    simp only [k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%ds0, %fs0, -, HS0⟩, ⟨%ds1, %fs1, -, HS1⟩, ⟨%fs2, %hfs2, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg19.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [HS0]
    · iexists _; iexists _; isplitr
      swap; · iexact HS0
      ipureintro; rfl
    isplitl [HS1]
    · iexists _; iexists _; isplitr
      swap; · iexact HS1
      ipureintro; rfl
    isplitl [HS2]; · iexists _; iexact HS2
    isplitl [HS3]
    · iexists _; iexists _; isplitr
      swap; · iexact HS3
      ipureintro; rfl
    isplitl [HS4]
    · iexists _; iexists _; isplitr
      swap; · iexact HS4
      ipureintro; rfl
    iexists _; iexists _; isplitr
    swap; · iexact HS5
    ipureintro; rfl

end Cert.DnFwdIdeal.Own

end
-- ==== Proof.DnFrame.lean ====
module

public import proofs.«01_k».proof.Proof.DnRunA
public import proofs.«01_k».proof.Proof.DnRunB
public import Idealize.ShloMosaic.Lib.Claim

/-! The run of the forward call: its frame, and what its results hold. -/

@[expose] public section

set_option maxRecDepth 16384

noncomputable section

namespace Cert.DnFwdIdeal.Own

open Cert.DnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid has one axis, so the first point is point 0. -/
theorem hcond0 : ∀ t : Fin cfg0.N, cond0 (grid0.coords t) ↔ t.val % 32 = 0 := fun t => by
  have ht : t.val < 32 := Nat.lt_of_lt_of_eq t.isLt N_0
  have e0 : (grid0.coords t 0).val = t.val / 1 % 32 := Pipeline.Grid.coords_val t 0 (by decide) rfl
  simp only [cond0, e0]; word_cmp

abbrev VO13 : View sig .tc .vmem S256x1024 .f32 := (Memref.whole cc0_stg13_0 : Memref sig .tc .vmem S256x1024 .f32).view
abbrev VO14 : View sig .tc .vmem S4x8x128x128 .bf16 := (Memref.whole cc0_stg14_0 : Memref sig .tc .vmem S4x8x128x128 .bf16).view
abbrev VO15 : View sig .tc .vmem S4x8x64x64 .f32 := (Memref.whole cc0_stg15_0 : Memref sig .tc .vmem S4x8x64x64 .f32).view
abbrev ms0 (t : Fin cfg0.N) : Memref sig .tc .vmem S256x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S4x3072 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S4x16x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S16x64 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S16x64 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S256x1024 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S4x8x128x128 .bf16 := win0_14.stage (cfg0.slots t 14)
abbrev hs14 (t : Fin cfg0.N) : (ms14 t).IsWhole := hstage0_14 ((cfg0.slots t 14).cast nbuf0_14)
abbrev ms15 (t : Fin cfg0.N) : Memref sig .tc .vmem S4x8x64x64 .f32 := win0_15.stage (cfg0.slots t 15)
abbrev hs15 (t : Fin cfg0.N) : (ms15 t).IsWhole := hstage0_15 ((cfg0.slots t 15).cast nbuf0_15)
abbrev sc0 : Memref sig .tc .vmem S272x3072 .f32 := Memref.whole cc0_scratch0
abbrev sc1 : Memref sig .tc .vmem S256x3072 .f32 := Memref.whole cc0_scratch1
abbrev sc2 : Memref sig .tc .vmem S8x128x128 .f32 := Memref.whole cc0_scratch2
abbrev sc3 : Memref sig .tc .vmem S16x64 .f32 := Memref.whole cc0_scratch3
abbrev sc4 : Memref sig .tc .vmem S256x128 .f32 := Memref.whole cc0_scratch4
abbrev sc5 : Memref sig .tc .vmem S256x128 .f32 := Memref.whole cc0_scratch5

/-- The launch's resource with the scratch operands as memrefs owned at some contents. -/
theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

variable (m : (ℓ : Loc nD τ sig) → Buf (Elt F) ℓ) (ρ : Dev nD → PrngReg)

/-- The run of the body at the first point, at its buffers and blocks, -/
abbrev RA (c : Dev nD) (t : Fin cfg0.N) (h0 : t.val % 32 = 0) := runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((hcond0 t).mpr h0)
/-- and at a later point, from the state `S`. -/
abbrev RB (c : Dev nD) (t : Fin cfg0.N) (h0 : ¬t.val % 32 = 0) (S : Vec F S8x128x128 .f32) := runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun h => h0 ((hcond0 t).mp h)) S

/-- What the first point leaves in the three results and the state, -/
def outsA (c : Dev nD) (t : Fin cfg0.N) (h0 : t.val % 32 = 0) : Vec F S256x1024 .f32 × Vec F S4x8x128x128 .bf16 × Vec F S4x8x64x64 .f32 × Vec F S8x128x128 .f32 :=
  (VO13.read (Elt F) (VO13.writes (Elt F) VO13.junk (RA m c t h0).1), VO14.read (Elt F) (VO14.writes (Elt F) VO14.junk (RA m c t h0).2.1), VO15.read (Elt F) (VO15.writes (Elt F) VO15.junk (RA m c t h0).2.2.1), sc2.view.read (Elt F) (sc2.view.writes (Elt F) sc2.view.junk (RA m c t h0).2.2.2.val))
/-- and what a later point leaves. -/
def outsB (c : Dev nD) (t : Fin cfg0.N) (h0 : ¬t.val % 32 = 0) (S : Vec F S8x128x128 .f32) : Vec F S256x1024 .f32 × Vec F S4x8x128x128 .bf16 × Vec F S4x8x64x64 .f32 × Vec F S8x128x128 .f32 :=
  (VO13.read (Elt F) (VO13.writes (Elt F) VO13.junk (RB m c t h0 S).1), VO14.read (Elt F) (VO14.writes (Elt F) VO14.junk (RB m c t h0 S).2.1), VO15.read (Elt F) (VO15.writes (Elt F) VO15.junk (RB m c t h0 S).2.2.1), sc2.view.read (Elt F) (sc2.view.writes (Elt F) sc2.view.junk (RB m c t h0 S).2.2.2.val))

theorem coverA13 (c : Dev nD) (t : Fin cfg0.N) (h0 : t.val % 32 = 0) : ∀ y, ∃ p ∈ (RA m c t h0).1, y ∈ p.1.set := fun y =>
  View.cover_of_tiledL (RA m c t h0).1 S64x128.size (by sl_kernel_rfl) y
theorem coverA14 (c : Dev nD) (t : Fin cfg0.N) (h0 : t.val % 32 = 0) : ∀ y, ∃ p ∈ (RA m c t h0).2.1, y ∈ p.1.set := fun y =>
  View.cover_of_tiledL (RA m c t h0).2.1 S1x1x128x128.size (by sl_kernel_rfl) y
theorem coverA15 (c : Dev nD) (t : Fin cfg0.N) (h0 : t.val % 32 = 0) : ∀ y, ∃ p ∈ (RA m c t h0).2.2.1, y ∈ p.1.set := fun y =>
  View.cover_of_tiledL (RA m c t h0).2.2.1 S1x1x64x64.size (by sl_kernel_rfl) y
theorem coverAS (c : Dev nD) (t : Fin cfg0.N) (h0 : t.val % 32 = 0) : ∀ y, ∃ p ∈ (RA m c t h0).2.2.2.val, y ∈ p.1.set := fun y =>
  View.cover_of_wholeMem (RA m c t h0).2.2.2.val (by sl_whole_mem) y
theorem coverB13 (c : Dev nD) (t : Fin cfg0.N) (h0 : ¬t.val % 32 = 0) (S : Vec F S8x128x128 .f32) : ∀ y, ∃ p ∈ (RB m c t h0 S).1, y ∈ p.1.set := fun y =>
  View.cover_of_tiledL (RB m c t h0 S).1 S64x128.size (by sl_kernel_rfl) y
theorem coverB14 (c : Dev nD) (t : Fin cfg0.N) (h0 : ¬t.val % 32 = 0) (S : Vec F S8x128x128 .f32) : ∀ y, ∃ p ∈ (RB m c t h0 S).2.1, y ∈ p.1.set := fun y =>
  View.cover_of_tiledL (RB m c t h0 S).2.1 S1x1x128x128.size (by sl_kernel_rfl) y
theorem coverB15 (c : Dev nD) (t : Fin cfg0.N) (h0 : ¬t.val % 32 = 0) (S : Vec F S8x128x128 .f32) : ∀ y, ∃ p ∈ (RB m c t h0 S).2.2.1, y ∈ p.1.set := fun y =>
  View.cover_of_tiledL (RB m c t h0 S).2.2.1 S1x1x64x64.size (by sl_kernel_rfl) y
theorem coverBS (c : Dev nD) (t : Fin cfg0.N) (h0 : ¬t.val % 32 = 0) (S : Vec F S8x128x128 .f32) : ∀ y, ∃ p ∈ (RB m c t h0 S).2.2.2.val, y ∈ p.1.set := fun y =>
  View.cover_of_tiledL (RB m c t h0 S).2.2.2.val S1x128x128.size (by sl_kernel_rfl) y

/-- What the results' buffers and the state hold after each point. -/
def outsAt (c : Dev nD) : (n : ℕ) → n < cfg0.N → Vec F S256x1024 .f32 × Vec F S4x8x128x128 .bf16 × Vec F S4x8x64x64 .f32 × Vec F S8x128x128 .f32
  | 0, hn => outsA m c ⟨0, hn⟩ (Nat.zero_mod _)
  | n + 1, hn =>
    if h0 : (n + 1) % 32 = 0 then outsA m c ⟨n + 1, hn⟩ h0
    else outsB m c ⟨n + 1, hn⟩ h0 (outsAt c n (Nat.lt_of_succ_lt hn)).2.2.2

theorem outsAt_A (c : Dev nD) (t : Fin cfg0.N) (h0 : t.val % 32 = 0) : outsAt m c t.val t.isLt = outsA m c t h0 := by
  obtain ⟨n, hn⟩ := t
  cases n with
  | zero => exact rfl
  | succ n => exact (dif_pos h0).trans rfl

theorem outsAt_B (c : Dev nD) (t : Fin cfg0.N) (h0 : ¬t.val % 32 = 0) :
    outsAt m c t.val t.isLt = outsB m c t h0 (outsAt m c (t.val - 1) (Nat.lt_of_le_of_lt (Nat.sub_le _ _) t.isLt)).2.2.2 := by
  obtain ⟨n, hn⟩ := t
  cases n with
  | zero => exact absurd (Nat.zero_mod _) h0
  | succ n => exact (dif_neg h0).trans rfl

/-- Before the first point the scratch is at anything; before a later one the state is at what the point before left. -/
def PhiS (c : Dev nD) : (n : ℕ) → n ≤ cfg0.N → sProp 𝕄
  | 0, _ => Pipeline.ΦA spec0 c
  | n + 1, hn => iprop(iprop((∃ d, owns (c : Thread nD τ) sc0 fullShare d) ∗ (∃ d, owns (c : Thread nD τ) sc1 fullShare d) ∗ owns (c : Thread nD τ) sc2 fullShare ((outsAt m c n hn).2.2.2) ∗ (∃ d, owns (c : Thread nD τ) sc3 fullShare d) ∗ (∃ d, owns (c : Thread nD τ) sc4 fullShare d) ∗ (∃ d, owns (c : Thread nD τ) sc5 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) sc0 fullShare d) ∗ (∃ d, owns (c : Thread nD τ) sc1 fullShare d) ∗ owns (c : Thread nD τ) sc2 fullShare ((outsAt m c n hn).2.2.2) ∗ (∃ d, owns (c : Thread nD τ) sc3 fullShare d) ∗ (∃ d, owns (c : Thread nD τ) sc4 fullShare d) ∗ (∃ d, owns (c : Thread nD τ) sc5 fullShare d)) ∗ (∃ r, prngReg c r)) := rfl

theorem PhiS_pos (c : Dev nD) (n : ℕ) (h : n ≤ cfg0.N) (hz : n ≠ 0) :
    PhiS m c n h = iprop(iprop((∃ d, owns (c : Thread nD τ) sc0 fullShare d) ∗ (∃ d, owns (c : Thread nD τ) sc1 fullShare d) ∗ owns (c : Thread nD τ) sc2 fullShare ((outsAt m c (n - 1) (by omega)).2.2.2) ∗ (∃ d, owns (c : Thread nD τ) sc3 fullShare d) ∗ (∃ d, owns (c : Thread nD τ) sc4 fullShare d) ∗ (∃ d, owns (c : Thread nD τ) sc5 fullShare d)) ∗ (∃ r, prngReg c r)) := by
  cases n with
  | zero => exact absurd rfl hz
  | succ n => rfl

/-- The pipeline's data: every input's buffer at its block, every result's at what the body left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt m c t.val t.isLt).1
    | ⟨14, _⟩ => (outsAt m c t.val t.isLt).2.1
    | ⟨15, _⟩ => (outsAt m c t.val t.isLt).2.2.1
    | ⟨_ + 16, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt m c t.val t.isLt).1 := by dsimp only [dats]
theorem after0_14 (c : Dev nD) (t : Fin cfg0.N) : (dats m 0 c).after 14 t = (outsAt m c t.val t.isLt).2.1 := by dsimp only [dats]
theorem after0_15 (c : Dev nD) (t : Fin cfg0.N) : (dats m 0 c).after 15 t = (outsAt m c t.val t.isLt).2.2.1 := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d
theorem before0_12 (c : Dev nD) (t : Fin cfg0.N) (d) : (dats m 0 c).before 12 t d = iblk m c 12 t := before0_12_of m (dats m 0 c) (A_eq m c 12) (after0_12 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t))

set_option maxHeartbeats 16000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA_eq]
      rw [outsAt_A m c t h0]
      unfold outsA; (try dsimp only)
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((RA m c t h0).2.2.2.property)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, ⟨%e13, H13⟩, ⟨%e14, H14⟩, ⟨%e15, H15⟩, HS0, HS1, ⟨%es2, HS2⟩, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]
          · unfold owns; iexists _; isplitr
            swap; · iexact HS2
            ipureintro; exact View.read_writes_of_cover _ _ _ _ _ (coverAS m c t h0)
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (coverA13 m c t h0)
      isplitl [H14]
      · unfold owns; iexists _; isplitr
        swap; · iexact H14
        ipureintro; exact View.read_writes_of_cover _ _ _ _ _ (coverA14 m c t h0)
      unfold owns; iexists _; isplitr
      swap; · iexact H15
      ipureintro; exact View.read_writes_of_cover _ _ _ _ _ (coverA15 m c t h0)
    · exfalso; omega
  · by_cases hz : t.val = 0
    · exfalso; omega
    · rw [PhiS_castSucc m c t, PhiS_pos m c _ _ hz]
      rw [outsAt_B m c t h0]
      unfold outsB; (try dsimp only)
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((RB m c t h0 _).2.2.2.property)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, ⟨%e13, H13⟩, ⟨%e14, H14⟩, ⟨%e15, H15⟩, HS0, HS1, ⟨%es2, HS2⟩, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]
          · unfold owns; iexists _; isplitr
            swap; · iexact HS2
            ipureintro; exact View.read_writes_of_cover _ _ _ _ _ (coverBS m c t h0 _)
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (coverB13 m c t h0 _)
      isplitl [H14]
      · unfold owns; iexists _; isplitr
        swap; · iexact H14
        ipureintro; exact View.read_writes_of_cover _ _ _ _ _ (coverB14 m c t h0 _)
      unfold owns; iexists _; isplitr
      swap; · iexact H15
      ipureintro; exact View.read_writes_of_cover _ _ _ _ _ (coverB15 m c t h0 _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, HS3, HS4, HS5⟩, Hg⟩
  isplitl [HS0 HS1 HS2 HS3 HS4 HS5]
  · isplitl [HS0]; · iexact HS0
    isplitl [HS1]; · iexact HS1
    isplitl [HS2]; · iexists _; iexact HS2
    isplitl [HS3]; · iexact HS3
    isplitl [HS4]; · iexact HS4
    iexact HS5
  iexact Hg

theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
/-- The launch: every array of the pipeline ends at what the data compute, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.DnFwdIdeal.Own

end
-- ==== Proof.DnTransfer.lean ====
module

public import proofs.«01_k».proof.Defs
public import proofs.«01_k».proof.Proof.Gen.DnFwd
public import proofs.«01_k».proof.Proof.DnFrame
public import Idealize.ShloMosaic.Lib.Tactic

@[expose] public section

namespace Cert.Proof

open Idealize.ShloMosaic.Tactic in
theorem frameDnFwd : Cert.quiescent_DnFwd (hDnFwd := Cert.DnFwd.Gen.facts) :=
  fun m ρ _ => Eq.mp (by sl_kernel_rfl) (Cert.DnFwdIdeal.Own.frame (F := Idealize.ShloMosaic.Bits) m ρ)

end Cert.Proof

end
-- ==== Proof.DnHead.lean ====
/- One head of one chunk of the gated delta rule's kernel as functions of the values it loads, and the pieces that one
   trip of the kernel's loop writes, as these functions. -/
module

public import proofs.«01_k».proof.Proof.DnLoop

@[expose] public section

set_option maxRecDepth 8192
set_option maxHeartbeats 4000000

noncomputable section

namespace Cert.DnFwdIdeal.Own

open Cert.DnFwdIdeal Cert.DnFwdIdeal.Gen
open Idealize.ShloMosaic Idealize.ShloMosaic.TcCoe Idealize.ShloMosaic.Tactic
open Idealize.SL Idealize.SL.Sem

/-! ## Masks -/

def rowI : IVec S64x64 32 := iota .tc S64x64 32 [0] iota_S64x64_d0_w32
def colI : IVec S64x64 32 := iota .tc S64x64 32 [1] iota_S64x64_d1_w32

/-- The number of the block of size `n` that a row or column lies in. -/
def blkNo (n : BitVec 32) (v : IVec S64x64 32) : IVec S64x64 32 :=
  select (andi (cmpi .ne (subi (extui 32 (cmpi .sgt v (broadcast S64x64 0#32)) natLt_1_32)
      (extui 32 (cmpi .slt v (broadcast S64x64 0#32)) natLt_1_32)) (broadcast S64x64 1#32))
    (cmpi .ne (remsi v (broadcast S64x64 n)) (broadcast S64x64 0#32)))
    (subi (divsi v (broadcast S64x64 n)) (broadcast S64x64 1#32)) (divsi v (broadcast S64x64 n))

/-- The same block of size `n`. -/
def same (n : BitVec 32) : IVec S64x64 1 := cmpi .eq (blkNo n rowI) (blkNo n colI)

/-- The same block of size `n'` and not the same of size `n`. -/
def cross (n n' : BitVec 32) : IVec S64x64 1 := andi (same n') (xori (same n) (constantI S64x64 1 1#1))

section

variable {F : FTy → Type} [FloatOps F]

/-! ## One head -/

abbrev zro (S : Shape) : FVec F S .f32 := broadcast S (Scalar.ofBits .f32 0x00000000#32 : F .f32)
abbrev one' (S : Shape) : FVec F S .f32 := broadcast S (Scalar.ofBits .f32 0x3F800000#32 : F .f32)

def bf {S : Shape} (x : FVec F S .f32) : FVec F S .bf16 := truncf .bf16 x bitsLt_bf16_f32
def rest {S : Shape} (x : FVec F S .f32) : FVec F S .bf16 := bf (subf x (extf .f32 (bf x) bitsLt_bf16_f32))

def mm (a b : FVec F S64x64 .bf16) : FVec F S64x64 .f32 :=
  matmul dot_S64x64_S64x64_S64x64_1_0_0_1_n_n none a b (constant S64x64 .f32 0x00000000#32)

/-- The product of two matrices, each in two parts. -/
def dot3 (a b : FVec F S64x64 .f32) : FVec F S64x64 .f32 :=
  addf (mm (bf a) (bf b)) (addf (mm (bf a) (rest b)) (mm (rest a) (bf b)))

def keep (p : IVec S64x64 1) (x : FVec F S64x64 .f32) : FVec F S64x64 .f32 := select p x (zro S64x64)

def eye : FVec F S64x64 .f32 := sitofp .f32 (extui 32 (cmpi .eq rowI colI) natLt_1_32)

def joinV (p : IVec S64x64 1) (l x : FVec F S64x64 .f32) : FVec F S64x64 .f32 := subf x (dot3 x (dot3 (keep p l) x))

def base1 (d : FVec F S64x64 .f32) : FVec F S64x64 .f32 := addf (subf eye d) (dot3 (subf eye d) (dot3 d d))
def base2 (d : FVec F S64x64 .f32) : FVec F S64x64 .f32 :=
  addf (base1 d) (dot3 (base1 d) (dot3 (dot3 d d) (dot3 d d)))

/-- The inverse of the unit lower triangular matrix. -/
def invV (l : FVec F S64x64 .f32) : FVec F S64x64 .f32 :=
  joinV (cross 32#32 64#32) l (joinV (cross 16#32 32#32) l (joinV (cross 8#32 16#32) l (base2 (keep (same 8#32) l))))

def silu (x : FVec F S64x128 .f32) : FVec F S64x128 .f32 :=
  mulf x (divf (one' S64x128) (addf (one' S64x128) (exp (subf (zro S64x128) x))))

def rowSum (x : FVec F S64x128 .f32) : FVec F S64x1 .f32 :=
  shapeCast S64x1 (multiReduction .add [1] S64 x 0x00000000#32 reduces_S64x128_S64 (.inl rfl) rfl) shapeCasts_S64_S64x1

def unit (x : FVec F S64x128 .f32) : FVec F S64x128 .f32 :=
  mulf x (broadcastTo S64x128 (rsqrt (addf (rowSum (mulf x x))
    (broadcast S64x1 (Scalar.ofBits .f32 0x358637BD#32 : F .f32)))) broadcasts_S64x1_S64x128)

def lane (v352 : IVec S64x128 32) (n : BitVec 32) (x : FVec F S64x128 .f32) : FVec F S64x1 .f32 :=
  rowSum (select (cmpi .eq v352 (broadcast S64x128 n)) x (zro S64x128))

def scl (x : FVec F S64x128 .f32) (s : FVec F S64x1 .f32) : FVec F S64x128 .f32 :=
  mulf x (broadcastTo S64x128 s broadcasts_S64x1_S64x128)

def qV (cq : FVec F S64x128 .f32) : FVec F S64x128 .f32 :=
  mulf (unit (silu cq)) (broadcast S64x128 (Scalar.ofBits .f32 0x3DB504F3#32 : F .f32))

def kV (ck : FVec F S64x128 .f32) : FVec F S64x128 .f32 := unit (silu ck)

def decayV (gcc : FVec F S64x1 .f32) (gr : FVec F S1x64 .f32) : FVec F S64x64 .f32 :=
  select (cmpi .sge rowI colI) (exp (select (cmpi .sge rowI colI)
    (subf (broadcastTo S64x64 gcc broadcasts_S64x1_S64x64) (broadcastTo S64x64 gr broadcasts_S1x64_S64x64)) (zro S64x64))) (zro S64x64)

def ntV (a b : FVec F S64x128 .f32) : FVec F S64x64 .f32 :=
  matmul dot_S64x128_S64x128_S64x64_1_1_0_0_n_n none (bf a) (bf b) (constant S64x64 .f32 0x00000000#32)

def nnV (a : FVec F S64x64 .f32) (b : FVec F S64x128 .f32) : FVec F S64x128 .f32 :=
  matmul dot_S64x64_S64x128_S64x128_1_0_0_1_n_n none (bf a) (bf b) (constant S64x128 .f32 0x00000000#32)

def nsV (a : FVec F S64x128 .f32) (b : FVec F S128x128 .f32) : FVec F S64x128 .f32 :=
  matmul dot_S64x128_S128x128_S64x128_1_0_0_1_n_n none (bf a) (bf b) (constant S64x128 .f32 0x00000000#32)

def tnV (a b : FVec F S64x128 .f32) : FVec F S128x128 .f32 :=
  matmul dot_S64x128_S64x128_S128x128_0_0_1_1_n_n none (bf a) (bf b) (constant S128x128 .f32 0x00000000#32)

def lowV (k kb : FVec F S64x128 .f32) (gcc : FVec F S64x1 .f32) (gr : FVec F S1x64 .f32) : FVec F S64x64 .f32 :=
  keep (cmpi .sgt rowI colI) (mulf (ntV kb k) (decayV gcc gr))

/-- What the tokens write. -/
def wrV (t : FVec F S64x64 .f32) (k v : FVec F S64x128 .f32) (b gcc : FVec F S64x1 .f32) (s : FVec F S128x128 .f32) : FVec F S64x128 .f32 :=
  subf (nnV t (scl v b)) (nsV (nnV t (scl (scl k b) (exp gcc))) s)

def glast (gr : FVec F S1x64 .f32) : FVec F S1x1 .f32 := extractStridedSlice S1x1 ![0, 63] gr slices_S1x64_o0_63_S1x1

/-- The head's output rows. -/
def oV (q k w : FVec F S64x128 .f32) (gcc : FVec F S64x1 .f32) (gr : FVec F S1x64 .f32) (s : FVec F S128x128 .f32) : FVec F S64x128 .f32 :=
  addf (nsV (scl q (exp gcc)) s) (nnV (mulf (ntV q k) (decayV gcc gr)) w)

/-- The head's state after the chunk. -/
def sV (k w : FVec F S64x128 .f32) (gcc : FVec F S64x1 .f32) (gr : FVec F S1x64 .f32) (s : FVec F S128x128 .f32) : FVec F S128x128 .f32 :=
  addf (mulf s (broadcastTo S128x128 (exp (glast gr)) broadcasts_S1x1_S128x128))
    (tnV (scl k (exp (subf (broadcastTo S64x1 (glast gr) broadcasts_S1x1_S64x1) gcc))) w)

/-- The inverse that one head uses. -/
def tH (v352 : IVec S64x128 32) (n n' : BitVec 32) (ck bt g : FVec F S64x128 .f32) (gr : FVec F S1x64 .f32) : FVec F S64x64 .f32 :=
  invV (lowV (kV ck) (scl (kV ck) (lane v352 n bt)) (lane v352 n' g) gr)

/-- What the tokens of one head write. -/
def wH (v352 : IVec S64x128 32) (n n' : BitVec 32) (ck cv bt g : FVec F S64x128 .f32) (gr : FVec F S1x64 .f32) (s : FVec F S1x128x128 .f32) : FVec F S64x128 .f32 :=
  wrV (tH v352 n n' ck bt g gr) (kV ck) (silu cv) (lane v352 n bt) (lane v352 n' g) (shapeCast S128x128 s shapeCasts_S1x128x128_S128x128)

def oH (v352 : IVec S64x128 32) (n n' : BitVec 32) (cq ck cv bt g : FVec F S64x128 .f32) (gr : FVec F S1x64 .f32) (s : FVec F S1x128x128 .f32) : FVec F S64x128 .f32 :=
  oV (qV cq) (kV ck) (wH v352 n n' ck cv bt g gr s) (lane v352 n' g) gr (shapeCast S128x128 s shapeCasts_S1x128x128_S128x128)

def sH (v352 : IVec S64x128 32) (n n' : BitVec 32) (ck cv bt g : FVec F S64x128 .f32) (gr : FVec F S1x64 .f32) (s : FVec F S1x128x128 .f32) : FVec F S1x128x128 .f32 :=
  shapeCast S1x128x128 (sV (kV ck) (wH v352 n n' ck cv bt g gr s) (lane v352 n' g) gr (shapeCast S128x128 s shapeCasts_S1x128x128_S128x128)) shapeCasts_S128x128_S1x128x128

def bH (s : FVec F S1x128x128 .f32) : FVec F S1x1x128x128 .bf16 :=
  shapeCast S1x1x128x128 (bf (shapeCast S128x128 s shapeCasts_S1x128x128_S128x128)) shapeCasts_S128x128_S1x1x128x128

/-- The cumulated decays of a chunk, by lanes. -/
def gH (x : FVec F S64x128 .f32) : FVec F S64x128 .f32 :=
  matmul dot_S64x64_S64x128_S64x128_1_0_0_1_n_n (some .fp32) (sitofp .f32 (extui 32 (cmpi .sge rowI colI) natLt_1_32)) x
    (constant S64x128 .f32 0x00000000#32)

/-! ## The trip -/

variable (𝒱 : Variants) (c : Dev nD) (bd : Option 𝒱.V) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S4x3072 .f32) (harg7 : arg7.IsWhole) (arg8 : Memref sig .tc .vmem S256x128 .f32) (harg8 : arg8.IsWhole) (arg9 : Memref sig .tc .vmem S4x16x64 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S16x64 .f32) (harg12 : arg12.IsWhole) (arg13 : Memref sig .tc .vmem S16x64 .f32) (harg13 : arg13.IsWhole) (arg14 : Memref sig .tc .vmem S256x1024 .f32) (harg14 : arg14.IsWhole) (arg15 : Memref sig .tc .vmem S4x8x128x128 .bf16) (harg15 : arg15.IsWhole) (arg16 : Memref sig .tc .vmem S4x8x64x64 .f32) (harg16 : arg16.IsWhole) (arg17 : Memref sig .tc .vmem S272x3072 .f32) (harg17 : arg17.IsWhole) (arg18 : Memref sig .tc .vmem S256x3072 .f32) (harg18 : arg18.IsWhole) (arg19 : Memref sig .tc .vmem S8x128x128 .f32) (harg19 : arg19.IsWhole) (arg20 : Memref sig .tc .vmem S16x64 .f32) (harg20 : arg20.IsWhole) (arg21 : Memref sig .tc .vmem S256x128 .f32) (harg21 : arg21.IsWhole) (arg22 : Memref sig .tc .vmem S256x128 .f32) (harg22 : arg22.IsWhole) (v352 : IVec S64x128 32) (X_arg9 : BufTy.Contents (Elt F) arg9.view.ty) (X_arg12 : BufTy.Contents (Elt F) arg12.view.ty) (X_arg13 : BufTy.Contents (Elt F) arg13.view.ty) (X_arg18 : BufTy.Contents (Elt F) arg18.view.ty) (X_arg21 : BufTy.Contents (Elt F) arg21.view.ty) (X_arg22 : BufTy.Contents (Elt F) arg22.view.ty)

/-- A head's columns of the convolved rows of a trip. -/
abbrev ld18 (o : Fin 2 → ℕ) (h : ∀ a, o a + S64x128.size a ≤ S256x3072.size a) : Vec F S64x128 .f32 :=
  View.readAt (Elt F) arg18.view (Rect.unit (s := S256x3072) o S64x128.size h).toLoadRect X_arg18

/-- A head's row of the cumulated decays. -/
abbrev ld20 (k : Fin k0_t1_loop.trips) (o : Fin 2 → ℕ) (h : ∀ a, o a + S1x64.size a ≤ S16x64.size a) : Vec F S1x64 .f32 :=
  arg20.view.readCov (trip.sl.HW_arg20_1 arg9 arg12 arg13 X_arg9 X_arg12 X_arg13 k) (Rect.unit (s := S16x64) o S1x64.size h).toLoadRect

abbrev ld21 (k : Fin k0_t1_loop.trips) : Vec F S64x128 .f32 :=
  View.readAt (Elt F) arg21.view (Rect.unit (s := S256x128) (k0_off1 k) S64x128.size (k0_off1_inb k)).toLoadRect X_arg21

abbrev ld22 (k : Fin k0_t1_loop.trips) : Vec F S64x128 .f32 :=
  View.readAt (Elt F) arg22.view (Rect.unit (s := S256x128) (k0_off1 k) S64x128.size (k0_off1_inb k)).toLoadRect X_arg22

/-- The output rows that a trip writes. -/
theorem trip_o (k : Fin k0_t1_loop.trips) (f : BufTy.Contents (Elt F) arg19.view.ty) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 k).1 f
      = [⟨Rect.unit (k0_off48 k) ![64, 128] (k0_off48_inb k), oH v352 7#32 15#32 (ld18 arg18 X_arg18 (k0_off24 k) (k0_off24_inb k)) (ld18 arg18 X_arg18 (k0_off25 k) (k0_off25_inb k)) (ld18 arg18 X_arg18 (k0_off26 k) (k0_off26_inb k)) (ld21 arg21 X_arg21 k) (gH (ld22 arg22 X_arg22 k)) (ld20 arg9 arg12 arg13 arg20 X_arg9 X_arg12 X_arg13 k ![15, 0] inb_S16x64_S1x64_15_0) (View.readAt (Elt F) arg19.view (Rect.unit (s := S8x128x128) ![7, 0, 0] S1x128x128.size inb_S8x128x128_S1x128x128_7_0_0).toLoadRect f)⟩,
        ⟨Rect.unit (k0_off45 k) ![64, 128] (k0_off45_inb k), oH v352 6#32 14#32 (ld18 arg18 X_arg18 (k0_off21 k) (k0_off21_inb k)) (ld18 arg18 X_arg18 (k0_off22 k) (k0_off22_inb k)) (ld18 arg18 X_arg18 (k0_off23 k) (k0_off23_inb k)) (ld21 arg21 X_arg21 k) (gH (ld22 arg22 X_arg22 k)) (ld20 arg9 arg12 arg13 arg20 X_arg9 X_arg12 X_arg13 k ![14, 0] inb_S16x64_S1x64_14_0) (View.readAt (Elt F) arg19.view (Rect.unit (s := S8x128x128) ![6, 0, 0] S1x128x128.size inb_S8x128x128_S1x128x128_6_0_0).toLoadRect f)⟩,
        ⟨Rect.unit (k0_off42 k) ![64, 128] (k0_off42_inb k), oH v352 5#32 13#32 (ld18 arg18 X_arg18 (k0_off18 k) (k0_off18_inb k)) (ld18 arg18 X_arg18 (k0_off19 k) (k0_off19_inb k)) (ld18 arg18 X_arg18 (k0_off20 k) (k0_off20_inb k)) (ld21 arg21 X_arg21 k) (gH (ld22 arg22 X_arg22 k)) (ld20 arg9 arg12 arg13 arg20 X_arg9 X_arg12 X_arg13 k ![13, 0] inb_S16x64_S1x64_13_0) (View.readAt (Elt F) arg19.view (Rect.unit (s := S8x128x128) ![5, 0, 0] S1x128x128.size inb_S8x128x128_S1x128x128_5_0_0).toLoadRect f)⟩,
        ⟨Rect.unit (k0_off39 k) ![64, 128] (k0_off39_inb k), oH v352 4#32 12#32 (ld18 arg18 X_arg18 (k0_off15 k) (k0_off15_inb k)) (ld18 arg18 X_arg18 (k0_off16 k) (k0_off16_inb k)) (ld18 arg18 X_arg18 (k0_off17 k) (k0_off17_inb k)) (ld21 arg21 X_arg21 k) (gH (ld22 arg22 X_arg22 k)) (ld20 arg9 arg12 arg13 arg20 X_arg9 X_arg12 X_arg13 k ![12, 0] inb_S16x64_S1x64_12_0) (View.readAt (Elt F) arg19.view (Rect.unit (s := S8x128x128) ![4, 0, 0] S1x128x128.size inb_S8x128x128_S1x128x128_4_0_0).toLoadRect f)⟩,
        ⟨Rect.unit (k0_off36 k) ![64, 128] (k0_off36_inb k), oH v352 3#32 11#32 (ld18 arg18 X_arg18 (k0_off12 k) (k0_off12_inb k)) (ld18 arg18 X_arg18 (k0_off13 k) (k0_off13_inb k)) (ld18 arg18 X_arg18 (k0_off14 k) (k0_off14_inb k)) (ld21 arg21 X_arg21 k) (gH (ld22 arg22 X_arg22 k)) (ld20 arg9 arg12 arg13 arg20 X_arg9 X_arg12 X_arg13 k ![11, 0] inb_S16x64_S1x64_11_0) (View.readAt (Elt F) arg19.view (Rect.unit (s := S8x128x128) ![3, 0, 0] S1x128x128.size inb_S8x128x128_S1x128x128_3_0_0).toLoadRect f)⟩,
        ⟨Rect.unit (k0_off33 k) ![64, 128] (k0_off33_inb k), oH v352 2#32 10#32 (ld18 arg18 X_arg18 (k0_off9 k) (k0_off9_inb k)) (ld18 arg18 X_arg18 (k0_off10 k) (k0_off10_inb k)) (ld18 arg18 X_arg18 (k0_off11 k) (k0_off11_inb k)) (ld21 arg21 X_arg21 k) (gH (ld22 arg22 X_arg22 k)) (ld20 arg9 arg12 arg13 arg20 X_arg9 X_arg12 X_arg13 k ![10, 0] inb_S16x64_S1x64_10_0) (View.readAt (Elt F) arg19.view (Rect.unit (s := S8x128x128) ![2, 0, 0] S1x128x128.size inb_S8x128x128_S1x128x128_2_0_0).toLoadRect f)⟩,
        ⟨Rect.unit (k0_off30 k) ![64, 128] (k0_off30_inb k), oH v352 1#32 9#32 (ld18 arg18 X_arg18 (k0_off6 k) (k0_off6_inb k)) (ld18 arg18 X_arg18 (k0_off7 k) (k0_off7_inb k)) (ld18 arg18 X_arg18 (k0_off8 k) (k0_off8_inb k)) (ld21 arg21 X_arg21 k) (gH (ld22 arg22 X_arg22 k)) (ld20 arg9 arg12 arg13 arg20 X_arg9 X_arg12 X_arg13 k ![9, 0] inb_S16x64_S1x64_9_0) (View.readAt (Elt F) arg19.view (Rect.unit (s := S8x128x128) ![1, 0, 0] S1x128x128.size inb_S8x128x128_S1x128x128_1_0_0).toLoadRect f)⟩,
        ⟨Rect.unit (k0_off27 k) ![64, 128] (k0_off27_inb k), oH v352 0#32 8#32 (ld18 arg18 X_arg18 (k0_off3 k) (k0_off3_inb k)) (ld18 arg18 X_arg18 (k0_off4 k) (k0_off4_inb k)) (ld18 arg18 X_arg18 (k0_off5 k) (k0_off5_inb k)) (ld21 arg21 X_arg21 k) (gH (ld22 arg22 X_arg22 k)) (ld20 arg9 arg12 arg13 arg20 X_arg9 X_arg12 X_arg13 k ![8, 0] inb_S16x64_S1x64_8_0) (View.readAt (Elt F) arg19.view (Rect.unit (s := S8x128x128) ![0, 0, 0] S1x128x128.size inb_S8x128x128_S1x128x128_0_0_0).toLoadRect f)⟩] := by
  unfold trip
  rfl

/-- The states that a trip saves. -/
theorem trip_b (k : Fin k0_t1_loop.trips) (f : BufTy.Contents (Elt F) arg19.view.ty) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 k).2.1 f
      = [⟨Rect.unit (k0_off49 k) ![1, 1, 128, 128] (k0_off49_inb k), bH (View.readAt (Elt F) arg19.view (Rect.unit (s := S8x128x128) ![7, 0, 0] S1x128x128.size inb_S8x128x128_S1x128x128_7_0_0).toLoadRect f)⟩,
        ⟨Rect.unit (k0_off46 k) ![1, 1, 128, 128] (k0_off46_inb k), bH (View.readAt (Elt F) arg19.view (Rect.unit (s := S8x128x128) ![6, 0, 0] S1x128x128.size inb_S8x128x128_S1x128x128_6_0_0).toLoadRect f)⟩,
        ⟨Rect.unit (k0_off43 k) ![1, 1, 128, 128] (k0_off43_inb k), bH (View.readAt (Elt F) arg19.view (Rect.unit (s := S8x128x128) ![5, 0, 0] S1x128x128.size inb_S8x128x128_S1x128x128_5_0_0).toLoadRect f)⟩,
        ⟨Rect.unit (k0_off40 k) ![1, 1, 128, 128] (k0_off40_inb k), bH (View.readAt (Elt F) arg19.view (Rect.unit (s := S8x128x128) ![4, 0, 0] S1x128x128.size inb_S8x128x128_S1x128x128_4_0_0).toLoadRect f)⟩,
        ⟨Rect.unit (k0_off37 k) ![1, 1, 128, 128] (k0_off37_inb k), bH (View.readAt (Elt F) arg19.view (Rect.unit (s := S8x128x128) ![3, 0, 0] S1x128x128.size inb_S8x128x128_S1x128x128_3_0_0).toLoadRect f)⟩,
        ⟨Rect.unit (k0_off34 k) ![1, 1, 128, 128] (k0_off34_inb k), bH (View.readAt (Elt F) arg19.view (Rect.unit (s := S8x128x128) ![2, 0, 0] S1x128x128.size inb_S8x128x128_S1x128x128_2_0_0).toLoadRect f)⟩,
        ⟨Rect.unit (k0_off31 k) ![1, 1, 128, 128] (k0_off31_inb k), bH (View.readAt (Elt F) arg19.view (Rect.unit (s := S8x128x128) ![1, 0, 0] S1x128x128.size inb_S8x128x128_S1x128x128_1_0_0).toLoadRect f)⟩,
        ⟨Rect.unit (k0_off28 k) ![1, 1, 128, 128] (k0_off28_inb k), bH (View.readAt (Elt F) arg19.view (Rect.unit (s := S8x128x128) ![0, 0, 0] S1x128x128.size inb_S8x128x128_S1x128x128_0_0_0).toLoadRect f)⟩] := by
  unfold trip
  rfl

/-- The states that a trip leaves. -/
theorem trip_s (k : Fin k0_t1_loop.trips) (f : BufTy.Contents (Elt F) arg19.view.ty) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 k).2.2.2.1 f
      = [⟨Rect.unit ![7, 0, 0] ![1, 128, 128] inb_S8x128x128_S1x128x128_7_0_0, sH v352 7#32 15#32 (ld18 arg18 X_arg18 (k0_off25 k) (k0_off25_inb k)) (ld18 arg18 X_arg18 (k0_off26 k) (k0_off26_inb k)) (ld21 arg21 X_arg21 k) (gH (ld22 arg22 X_arg22 k)) (ld20 arg9 arg12 arg13 arg20 X_arg9 X_arg12 X_arg13 k ![15, 0] inb_S16x64_S1x64_15_0) (View.readAt (Elt F) arg19.view (Rect.unit (s := S8x128x128) ![7, 0, 0] S1x128x128.size inb_S8x128x128_S1x128x128_7_0_0).toLoadRect f)⟩,
        ⟨Rect.unit ![6, 0, 0] ![1, 128, 128] inb_S8x128x128_S1x128x128_6_0_0, sH v352 6#32 14#32 (ld18 arg18 X_arg18 (k0_off22 k) (k0_off22_inb k)) (ld18 arg18 X_arg18 (k0_off23 k) (k0_off23_inb k)) (ld21 arg21 X_arg21 k) (gH (ld22 arg22 X_arg22 k)) (ld20 arg9 arg12 arg13 arg20 X_arg9 X_arg12 X_arg13 k ![14, 0] inb_S16x64_S1x64_14_0) (View.readAt (Elt F) arg19.view (Rect.unit (s := S8x128x128) ![6, 0, 0] S1x128x128.size inb_S8x128x128_S1x128x128_6_0_0).toLoadRect f)⟩,
        ⟨Rect.unit ![5, 0, 0] ![1, 128, 128] inb_S8x128x128_S1x128x128_5_0_0, sH v352 5#32 13#32 (ld18 arg18 X_arg18 (k0_off19 k) (k0_off19_inb k)) (ld18 arg18 X_arg18 (k0_off20 k) (k0_off20_inb k)) (ld21 arg21 X_arg21 k) (gH (ld22 arg22 X_arg22 k)) (ld20 arg9 arg12 arg13 arg20 X_arg9 X_arg12 X_arg13 k ![13, 0] inb_S16x64_S1x64_13_0) (View.readAt (Elt F) arg19.view (Rect.unit (s := S8x128x128) ![5, 0, 0] S1x128x128.size inb_S8x128x128_S1x128x128_5_0_0).toLoadRect f)⟩,
        ⟨Rect.unit ![4, 0, 0] ![1, 128, 128] inb_S8x128x128_S1x128x128_4_0_0, sH v352 4#32 12#32 (ld18 arg18 X_arg18 (k0_off16 k) (k0_off16_inb k)) (ld18 arg18 X_arg18 (k0_off17 k) (k0_off17_inb k)) (ld21 arg21 X_arg21 k) (gH (ld22 arg22 X_arg22 k)) (ld20 arg9 arg12 arg13 arg20 X_arg9 X_arg12 X_arg13 k ![12, 0] inb_S16x64_S1x64_12_0) (View.readAt (Elt F) arg19.view (Rect.unit (s := S8x128x128) ![4, 0, 0] S1x128x128.size inb_S8x128x128_S1x128x128_4_0_0).toLoadRect f)⟩,
        ⟨Rect.unit ![3, 0, 0] ![1, 128, 128] inb_S8x128x128_S1x128x128_3_0_0, sH v352 3#32 11#32 (ld18 arg18 X_arg18 (k0_off13 k) (k0_off13_inb k)) (ld18 arg18 X_arg18 (k0_off14 k) (k0_off14_inb k)) (ld21 arg21 X_arg21 k) (gH (ld22 arg22 X_arg22 k)) (ld20 arg9 arg12 arg13 arg20 X_arg9 X_arg12 X_arg13 k ![11, 0] inb_S16x64_S1x64_11_0) (View.readAt (Elt F) arg19.view (Rect.unit (s := S8x128x128) ![3, 0, 0] S1x128x128.size inb_S8x128x128_S1x128x128_3_0_0).toLoadRect f)⟩,
        ⟨Rect.unit ![2, 0, 0] ![1, 128, 128] inb_S8x128x128_S1x128x128_2_0_0, sH v352 2#32 10#32 (ld18 arg18 X_arg18 (k0_off10 k) (k0_off10_inb k)) (ld18 arg18 X_arg18 (k0_off11 k) (k0_off11_inb k)) (ld21 arg21 X_arg21 k) (gH (ld22 arg22 X_arg22 k)) (ld20 arg9 arg12 arg13 arg20 X_arg9 X_arg12 X_arg13 k ![10, 0] inb_S16x64_S1x64_10_0) (View.readAt (Elt F) arg19.view (Rect.unit (s := S8x128x128) ![2, 0, 0] S1x128x128.size inb_S8x128x128_S1x128x128_2_0_0).toLoadRect f)⟩,
        ⟨Rect.unit ![1, 0, 0] ![1, 128, 128] inb_S8x128x128_S1x128x128_1_0_0, sH v352 1#32 9#32 (ld18 arg18 X_arg18 (k0_off7 k) (k0_off7_inb k)) (ld18 arg18 X_arg18 (k0_off8 k) (k0_off8_inb k)) (ld21 arg21 X_arg21 k) (gH (ld22 arg22 X_arg22 k)) (ld20 arg9 arg12 arg13 arg20 X_arg9 X_arg12 X_arg13 k ![9, 0] inb_S16x64_S1x64_9_0) (View.readAt (Elt F) arg19.view (Rect.unit (s := S8x128x128) ![1, 0, 0] S1x128x128.size inb_S8x128x128_S1x128x128_1_0_0).toLoadRect f)⟩,
        ⟨Rect.unit ![0, 0, 0] ![1, 128, 128] inb_S8x128x128_S1x128x128_0_0_0, sH v352 0#32 8#32 (ld18 arg18 X_arg18 (k0_off4 k) (k0_off4_inb k)) (ld18 arg18 X_arg18 (k0_off5 k) (k0_off5_inb k)) (ld21 arg21 X_arg21 k) (gH (ld22 arg22 X_arg22 k)) (ld20 arg9 arg12 arg13 arg20 X_arg9 X_arg12 X_arg13 k ![8, 0] inb_S16x64_S1x64_8_0) (View.readAt (Elt F) arg19.view (Rect.unit (s := S8x128x128) ![0, 0, 0] S1x128x128.size inb_S8x128x128_S1x128x128_0_0_0).toLoadRect f)⟩] := by
  unfold trip
  rfl

end

end Cert.DnFwdIdeal.Own

end
-- ==== Proof.DnMask.lean ====
/- The masks of a chunk of the gated delta rule's kernel at each entry. -/
module

public import proofs.«01_k».proof.Proof.DnHead
public import Idealize.ShloMosaic.Lib.Pointwise

@[expose] public section

set_option maxRecDepth 16384

noncomputable section

namespace Cert.DnFwdIdeal.Own

open Cert.DnFwdIdeal Cert.DnFwdIdeal.Gen
open Idealize.ShloMosaic Idealize.ShloMosaic.TcCoe

theorem rowI_at (i j : Fin 64) : rowI (ix2 i j) = BitVec.ofNat 32 i.val := by pointwise [rowI]
theorem colI_at (i j : Fin 64) : colI (ix2 i j) = BitVec.ofNat 32 j.val := by pointwise [colI]

theorem no_at (n : BitVec 32) (x : Fin 64) (v : IVec S64x64 32) (i : S64x64.Idx) (e : v i = BitVec.ofNat 32 x.val) :
    blkNo n v i = blkNo n (fun _ => BitVec.ofNat 32 x.val) i := by
  simp only [blkNo, select, andi, cmpi, subi, divsi, remsi, extui, broadcast, e]

theorem no8 (x : Fin 64) (i : S64x64.Idx) : blkNo 8#32 (fun _ => BitVec.ofNat 32 x.val) i = BitVec.ofNat 32 (x.val / 8) := by
  revert x
  simp only [blkNo, select, andi, cmpi, subi, divsi, remsi, extui, broadcast]
  decide +kernel

theorem no16 (x : Fin 64) (i : S64x64.Idx) : blkNo 16#32 (fun _ => BitVec.ofNat 32 x.val) i = BitVec.ofNat 32 (x.val / 16) := by
  revert x
  simp only [blkNo, select, andi, cmpi, subi, divsi, remsi, extui, broadcast]
  decide +kernel

theorem no32 (x : Fin 64) (i : S64x64.Idx) : blkNo 32#32 (fun _ => BitVec.ofNat 32 x.val) i = BitVec.ofNat 32 (x.val / 32) := by
  revert x
  simp only [blkNo, select, andi, cmpi, subi, divsi, remsi, extui, broadcast]
  decide +kernel

theorem no64 (x : Fin 64) (i : S64x64.Idx) : blkNo 64#32 (fun _ => BitVec.ofNat 32 x.val) i = BitVec.ofNat 32 (x.val / 64) := by
  revert x
  simp only [blkNo, select, andi, cmpi, subi, divsi, remsi, extui, broadcast]
  decide +kernel

theorem cmp_eq (a b : ℕ) (ha : a < 64) (hb : b < 64) :
    (IntOp.cmpi .eq (BitVec.ofNat 32 a) (BitVec.ofNat 32 b) = 1#1) ↔ a = b := by
  have : BitVec.ofNat 32 a = BitVec.ofNat 32 b ↔ a = b := by
    constructor
    · intro h
      have := congrArg BitVec.toNat h
      simp only [BitVec.toNat_ofNat] at this
      omega
    · intro h; rw [h]
  rw [← this]
  by_cases h : BitVec.ofNat 32 a = BitVec.ofNat 32 b
  · simp [IntOp.cmpi, h]
  · simp [IntOp.cmpi, h, beq_eq_false_iff_ne.mpr h]

theorem same_at {n : BitVec 32} {d : ℕ} (h : ∀ (x : Fin 64) (i : S64x64.Idx), blkNo n (fun _ => BitVec.ofNat 32 x.val) i = BitVec.ofNat 32 (x.val / d))
    (i j : Fin 64) : same n (ix2 i j) = 1#1 ↔ i.val / d = j.val / d := by
  have e1 := (no_at n i rowI (ix2 i j) (rowI_at i j)).trans (h i _)
  have e2 := (no_at n j colI (ix2 i j) (colI_at i j)).trans (h j _)
  have hi := Nat.div_le_self i.val d
  have hj := Nat.div_le_self j.val d
  rw [← cmp_eq (i.val / d) (j.val / d) (by omega) (by omega), ← e1, ← e2]
  rfl

theorem ge_at (i j : Fin 64) : cmpi .sge rowI colI (ix2 i j) = 1#1 ↔ j ≤ i := by
  change IntOp.cmpi .sge (rowI (ix2 i j)) (colI (ix2 i j)) = 1#1 ↔ _
  rw [rowI_at, colI_at]
  revert i j
  decide +kernel

theorem gt_at (i j : Fin 64) : cmpi .sgt rowI colI (ix2 i j) = 1#1 ↔ j < i := by
  change IntOp.cmpi .sgt (rowI (ix2 i j)) (colI (ix2 i j)) = 1#1 ↔ _
  rw [rowI_at, colI_at]
  revert i j
  decide +kernel

theorem eq_at (i j : Fin 64) : cmpi .eq rowI colI (ix2 i j) = 1#1 ↔ i = j := by
  change IntOp.cmpi .eq (rowI (ix2 i j)) (colI (ix2 i j)) = 1#1 ↔ _
  rw [rowI_at, colI_at, cmp_eq _ _ i.isLt j.isLt]
  exact Fin.ext_iff.symm

theorem cross_bit (a b : BitVec 1) : a &&& (b ^^^ 1#1) = 1#1 ↔ a = 1#1 ∧ ¬ b = 1#1 := by
  revert a b; decide

theorem cross_at {n n' : BitVec 32} {d d' : ℕ}
    (h : ∀ (x : Fin 64) (i : S64x64.Idx), blkNo n (fun _ => BitVec.ofNat 32 x.val) i = BitVec.ofNat 32 (x.val / d))
    (h' : ∀ (x : Fin 64) (i : S64x64.Idx), blkNo n' (fun _ => BitVec.ofNat 32 x.val) i = BitVec.ofNat 32 (x.val / d'))
    (i j : Fin 64) : cross n n' (ix2 i j) = 1#1 ↔ i.val / d' = j.val / d' ∧ ¬ i.val / d = j.val / d := by
  rw [← same_at h i j, ← same_at h' i j]
  exact cross_bit _ _

end Cert.DnFwdIdeal.Own

end
-- ==== Proof.DnMath.lean ====
module
public import Mathlib.Data.Matrix.Mul
public import Mathlib.Data.Matrix.Basic
public import Mathlib.LinearAlgebra.Matrix.NonsingularInverse
public import Mathlib.Analysis.SpecialFunctions.Exp
public import Mathlib.Tactic.NoncommRing
public import Mathlib.Tactic.Ring
public import Mathlib.Tactic.Linarith
@[expose] public section

noncomputable section

/-! The mathematics of the gated delta rule, over the reals: the recurrence token by token, a chunk of 64 tokens at
once, and the inverse of a unit lower triangular matrix by blocks. -/

namespace Cert.Delta

open Finset Matrix

/-! ## The recurrence -/

/-- The state after one token. -/
def next (k v : ℕ → Fin 128 → ℝ) (β g : ℕ → ℝ) (r : ℕ) (S : Matrix (Fin 128) (Fin 128) ℝ) : Matrix (Fin 128) (Fin 128) ℝ :=
  fun a b => S a b * Real.exp (g r) + k r a * (β r * (v r b - ∑ c, k r c * (S c b * Real.exp (g r))))

/-- The state before token `r`. -/
def state (k v : ℕ → Fin 128 → ℝ) (β g : ℕ → ℝ) : ℕ → Matrix (Fin 128) (Fin 128) ℝ
  | 0 => 0
  | r + 1 => next k v β g r (state k v β g r)

/-- The output of token `r`. -/
def out (q k v : ℕ → Fin 128 → ℝ) (β g : ℕ → ℝ) (r : ℕ) (b : Fin 128) : ℝ :=
  ∑ a, q r a * state k v β g (r + 1) a b

section Chunk

variable (q k v : ℕ → Fin 128 → ℝ) (β g : ℕ → ℝ) (R : ℕ)

/-- The sum of the first `i` log decays from token `R` on. -/
def cum (i : ℕ) : ℝ := ∑ j ∈ range i, g (R + j)

/-- What token `R + i` writes. -/
def wr (i : ℕ) (b : Fin 128) : ℝ :=
  β (R + i) * (v (R + i) b - ∑ c, k (R + i) c * (state k v β g (R + i) c b * Real.exp (g (R + i))))

/-- What the tokens of the chunk write. -/
def wrs : Matrix (Fin 64) (Fin 128) ℝ := fun i b => wr k v β g R i.val b

theorem cum_succ (i : ℕ) : cum g R (i + 1) = cum g R i + g (R + i) := sum_range_succ _ _

theorem state_add (i : ℕ) (a b : Fin 128) :
    state k v β g (R + i) a b = Real.exp (cum g R i) * state k v β g R a b
      + ∑ j ∈ range i, Real.exp (cum g R i - cum g R (j + 1)) * k (R + j) a * wr k v β g R j b := by
  induction i with
  | zero => simp [cum]
  | succ i ih =>
    have h : state k v β g (R + (i + 1)) a b
        = state k v β g (R + i) a b * Real.exp (g (R + i)) + k (R + i) a * wr k v β g R i b := rfl
    rw [h, ih, sum_range_succ, add_mul, sum_mul, sub_self, Real.exp_zero, one_mul, cum_succ, Real.exp_add, ← add_assoc]
    congr 1
    congr 1
    · ring
    · refine sum_congr rfl fun j _ => ?_
      rw [show cum g R i + g (R + i) - cum g R (j + 1) = (cum g R i - cum g R (j + 1)) + g (R + i) by ring,
        Real.exp_add]
      ring

theorem dot_state (x : Fin 128 → ℝ) (i : ℕ) (G : ℝ) (b : Fin 128) :
    ∑ c, x c * (state k v β g (R + i) c b * Real.exp (G - cum g R i))
      = ∑ c, x c * Real.exp G * state k v β g R c b
        + ∑ j ∈ range i, (∑ c, x c * k (R + j) c) * Real.exp (G - cum g R (j + 1)) * wr k v β g R j b := by
  have e : ∀ j, (∑ c, x c * k (R + j) c) * Real.exp (G - cum g R (j + 1)) * wr k v β g R j b
      = ∑ c, x c * k (R + j) c * Real.exp (G - cum g R (j + 1)) * wr k v β g R j b := fun j => by
    rw [sum_mul, sum_mul]
  simp only [e]
  rw [sum_comm, ← sum_add_distrib]
  refine sum_congr rfl fun c _ => ?_
  rw [state_add, add_mul, mul_add, sum_mul, mul_sum]
  congr 1
  · rw [show Real.exp G = Real.exp (cum g R i) * Real.exp (G - cum g R i) by rw [← Real.exp_add]; congr 1; ring]
    ring
  · refine sum_congr rfl fun j _ => ?_
    rw [show Real.exp (G - cum g R (j + 1)) = Real.exp (cum g R i - cum g R (j + 1)) * Real.exp (G - cum g R i) by
      rw [← Real.exp_add]; congr 1; ring]
    ring

/-- The decays between the tokens of a chunk, on and below the diagonal. -/
def decay (x y : Fin 64 → ℝ) : Matrix (Fin 64) (Fin 64) ℝ :=
  fun i j => if j ≤ i then Real.exp (x i - y j) else 0

/-- The strictly lower part. -/
def strict (A : Matrix (Fin 64) (Fin 64) ℝ) : Matrix (Fin 64) (Fin 64) ℝ := fun i j => if j < i then A i j else 0

/-- The rows scaled. -/
def rows {n m : ℕ} (x : Fin n → ℝ) (A : Matrix (Fin n) (Fin m) ℝ) : Matrix (Fin n) (Fin m) ℝ := fun i j => A i j * x i

/-- The entries scaled. -/
def had {n m : ℕ} (A B : Matrix (Fin n) (Fin m) ℝ) : Matrix (Fin n) (Fin m) ℝ := fun i j => A i j * B i j

/-- The tokens of the chunk at `R`. -/
abbrev part (x : ℕ → Fin 128 → ℝ) : Matrix (Fin 64) (Fin 128) ℝ := fun i a => x (R + i.val) a

abbrev gc : Fin 64 → ℝ := fun i => cum g R (i.val + 1)

/-- The matrix of the chunk's triangular system, without its unit diagonal. -/
def low (K : Matrix (Fin 64) (Fin 128) ℝ) (b x y : Fin 64 → ℝ) : Matrix (Fin 64) (Fin 64) ℝ :=
  strict (had (rows b K * Kᵀ) (decay x y))

theorem sum_lt (f : ℕ → ℝ) (i : Fin 64) : ∑ j : Fin 64, (if j < i then f j.val else 0) = ∑ j ∈ range i.val, f j := by
  rw [← sum_filter]
  refine sum_bij (fun j _ => j.val) (fun j hj => ?_) (fun a _ b _ h => Fin.ext h) (fun b hb => ?_) fun _ _ => rfl
  · simpa using hj
  · have := mem_range.mp hb
    exact ⟨⟨b, by omega⟩, mem_filter.mpr ⟨mem_univ _, this⟩, rfl⟩

theorem sum_le (f : ℕ → ℝ) (i : Fin 64) :
    ∑ j : Fin 64, (if j ≤ i then f j.val else 0) = ∑ j ∈ range (i.val + 1), f j := by
  rw [← sum_filter]
  refine sum_bij (fun j _ => j.val) (fun j hj => ?_) (fun a _ b _ h => Fin.ext h) (fun b hb => ?_) fun _ _ => rfl
  · have := (mem_filter.mp hj).2
    simp only [mem_range]; omega
  · have := mem_range.mp hb
    exact ⟨⟨b, by omega⟩, mem_filter.mpr ⟨mem_univ _, Nat.lt_succ_iff.mp this⟩, rfl⟩

/-- What the tokens of a chunk write solves the triangular system. -/
theorem solve (T : Matrix (Fin 64) (Fin 64) ℝ)
    (hT : T * (1 + low (part R k) (fun i => β (R + i.val)) (gc g R) (gc g R)) = 1) :
    wrs k v β g R
      = T * rows (fun i => β (R + i.val)) (part R v)
        - T * rows (fun i => Real.exp (gc g R i)) (rows (fun i => β (R + i.val)) (part R k)) * state k v β g R := by
  set d := wrs k v β g R with hd
  set L := low (part R k) (fun i => β (R + i.val)) (gc g R) (gc g R)
  have h : (1 + L) * d = rows (fun i => β (R + i.val)) (part R v)
      - rows (fun i => Real.exp (gc g R i)) (rows (fun i => β (R + i.val)) (part R k)) * state k v β g R := by
    rw [Matrix.add_mul, Matrix.one_mul]
    funext i b
    have e1 := dot_state k v β g R (k (R + i.val)) i.val (cum g R (i.val + 1)) b
    rw [show cum g R (i.val + 1) - cum g R i.val = g (R + i.val) by rw [cum_succ]; ring] at e1
    have e2 : d i b = β (R + i.val) * (v (R + i.val) b - (∑ c, k (R + i.val) c * Real.exp (cum g R (i.val + 1)) * state k v β g R c b
        + ∑ j ∈ range i.val, (∑ c, k (R + i.val) c * k (R + j) c) * Real.exp (cum g R (i.val + 1) - cum g R (j + 1)) * wr k v β g R j b)) := by
      rw [← e1]; rfl
    have e3 : (L * d) i b = β (R + i.val) * ∑ j ∈ range i.val, (∑ c, k (R + i.val) c * k (R + j) c) * Real.exp (cum g R (i.val + 1) - cum g R (j + 1)) * wr k v β g R j b := by
      rw [Matrix.mul_apply, ← sum_lt, mul_sum]
      refine sum_congr rfl fun j _ => ?_
      simp only [L, low, strict, had, decay, rows, Matrix.mul_apply, transpose_apply, d, wrs]
      by_cases h : j < i
      · rw [if_pos h, if_pos h, if_pos h.le, ← mul_assoc, ← mul_assoc, mul_sum]
        congr 2
        exact sum_congr rfl fun c _ => by ring
      · rw [if_neg h, if_neg h, zero_mul, mul_zero]
    have e4 : (rows (fun i => Real.exp (gc g R i)) (rows (fun i => β (R + i.val)) (part R k)) * state k v β g R) i b
        = β (R + i.val) * ∑ c, k (R + i.val) c * Real.exp (cum g R (i.val + 1)) * state k v β g R c b := by
      rw [Matrix.mul_apply, mul_sum]
      exact sum_congr rfl fun c _ => by simp only [rows]; ring
    rw [Matrix.add_apply, Matrix.sub_apply, e4, e3, e2]
    simp only [rows]
    ring
  have := congrArg (T * ·) h
  simp only [← Matrix.mul_assoc, hT, Matrix.one_mul, Matrix.mul_sub] at this
  exact this

/-- The outputs of a chunk. -/
theorem out_chunk (i : Fin 64) (b : Fin 128) :
    out q k v β g (R + i.val) b
      = (rows (fun i => Real.exp (gc g R i)) (part R q) * state k v β g R
        + had (part R q * (part R k)ᵀ) (decay (gc g R) (gc g R)) * wrs k v β g R) i b := by
  have e1 := dot_state k v β g R (q (R + i.val)) (i.val + 1) (cum g R (i.val + 1)) b
  simp only [sub_self, Real.exp_zero, mul_one] at e1
  have e0 : out q k v β g (R + i.val) b = ∑ c, q (R + i.val) c * state k v β g (R + (i.val + 1)) c b := rfl
  rw [e0, e1, Matrix.add_apply, Matrix.mul_apply, Matrix.mul_apply, ← sum_le]
  congr 1
  refine sum_congr rfl fun j _ => ?_
  simp only [had, decay, Matrix.mul_apply, transpose_apply]
  by_cases h : j ≤ i
  · rw [if_pos h, if_pos h]; rfl
  · rw [if_neg h, if_neg h, mul_zero, zero_mul]

/-- The state after a chunk. -/
theorem state_chunk :
    state k v β g (R + 64)
      = Real.exp (gc g R 63) • state k v β g R
        + (rows (fun i => Real.exp (gc g R 63 - gc g R i)) (part R k))ᵀ * wrs k v β g R := by
  funext a b
  rw [state_add, Matrix.add_apply, Matrix.mul_apply, Matrix.smul_apply, smul_eq_mul, Finset.sum_range]
  congr 1
  refine sum_congr rfl fun j _ => ?_
  simp only [transpose_apply, rows]
  rw [mul_comm (Real.exp _)]
  rfl

end Chunk

/-! ## The inverse by blocks -/

section Tri

abbrev Sq := Matrix (Fin 64) (Fin 64) ℝ

/-- The blocks of size `b` on the diagonal. -/
def diag (b : ℕ) (L : Sq) : Sq := fun i j => if i.val / b = j.val / b then L i j else 0

/-- The blocks of size `b` that lie in a diagonal block of size `2 * b` and not on the diagonal. -/
def off (b : ℕ) (L : Sq) : Sq :=
  fun i j => if i.val / (2 * b) = j.val / (2 * b) ∧ ¬ i.val / b = j.val / b then L i j else 0

/-- One joining of neighbouring blocks. -/
def join (b : ℕ) (L X : Sq) : Sq := X - X * (off b L * X)

/-- The inverse of `1 + L` of every diagonal block of size 8. -/
def base (D : Sq) : Sq :=
  1 - D + (1 - D) * (D * D) + (1 - D + (1 - D) * (D * D)) * (D * D * (D * D))

/-- The inverse of `1 + L`. -/
def inv (L : Sq) : Sq := join 32 L (join 16 L (join 8 L (base (diag 8 L))))

/-- Zero outside the diagonal blocks of size `b`. -/
def BD (b : ℕ) (A : Sq) : Prop := ∀ i j, A i j ≠ 0 → i.val / b = j.val / b

theorem BD.mul {b : ℕ} {A B : Sq} (hA : BD b A) (hB : BD b B) : BD b (A * B) := fun i j h => by
  rw [Matrix.mul_apply] at h
  obtain ⟨c, _, hc⟩ := exists_ne_zero_of_sum_ne_zero h
  exact (hA i c (left_ne_zero_of_mul hc)).trans (hB c j (right_ne_zero_of_mul hc))

theorem BD.add {b : ℕ} {A B : Sq} (hA : BD b A) (hB : BD b B) : BD b (A + B) := fun i j h => by
  by_contra e
  have hA0 : A i j = 0 := by_contra fun x => e (hA i j x)
  have hB0 : B i j = 0 := by_contra fun x => e (hB i j x)
  exact h (by rw [Matrix.add_apply, hA0, hB0, add_zero])

theorem BD.sub {b : ℕ} {A B : Sq} (hA : BD b A) (hB : BD b B) : BD b (A - B) := fun i j h => by
  by_contra e
  have hA0 : A i j = 0 := by_contra fun x => e (hA i j x)
  have hB0 : B i j = 0 := by_contra fun x => e (hB i j x)
  exact h (by rw [Matrix.sub_apply, hA0, hB0, sub_zero])

theorem BD.one (b : ℕ) : BD b 1 := fun i j h => by
  by_cases e : i = j
  · rw [e]
  · exact absurd (one_apply_ne e) h

theorem BD.diag (b : ℕ) (L : Sq) : BD b (diag b L) := fun i j h => by
  by_contra e
  exact h (if_neg e)

theorem BD.off (b : ℕ) (L : Sq) : BD (2 * b) (off b L) := fun i j h => by
  by_contra e
  exact h (if_neg fun x => e x.1)

theorem BD.double {b : ℕ} {A : Sq} (hA : BD b A) : BD (2 * b) A := fun i j h => by
  have := hA i j h
  rw [mul_comm, ← Nat.div_div_eq_div_mul, ← Nat.div_div_eq_div_mul, this]

theorem BD.base (L : Sq) : BD 8 (base (Delta.diag 8 L)) := by
  have hD := BD.diag 8 L
  have h0 := (BD.one 8).sub hD
  have h2 := hD.mul hD
  have h1 := h0.add (h0.mul h2)
  exact h1.add (h1.mul (h2.mul h2))

theorem BD.join {b : ℕ} {L X : Sq} (hX : BD b X) : BD (2 * b) (join b L X) :=
  hX.double.sub (hX.double.mul ((BD.off b L).mul hX.double))

/-- Below the diagonal, at least `n` rows down. -/
def SL (n : ℕ) (A : Sq) : Prop := ∀ i j : Fin 64, A i j ≠ 0 → j.val + n ≤ i.val

theorem SL.mul {n m : ℕ} {A B : Sq} (hA : SL n A) (hB : SL m B) : SL (n + m) (A * B) := fun i j h => by
  rw [Matrix.mul_apply] at h
  obtain ⟨c, _, hc⟩ := exists_ne_zero_of_sum_ne_zero h
  have h1 := hA i c (left_ne_zero_of_mul hc)
  have h2 := hB c j (right_ne_zero_of_mul hc)
  omega

theorem base_mul {L : Sq} (hL : SL 1 L) : base (diag 8 L) * (1 + diag 8 L) = 1 := by
  have hD := BD.diag 8 L
  have sD : SL 1 (Delta.diag 8 L) := fun i j h => hL i j fun e => h (by unfold diag; rw [e, ite_self])
  generalize diag 8 L = D at hD sD
  have z : D * D * (D * D) * (D * D * (D * D)) = 0 := by
    have hb := ((hD.mul hD).mul (hD.mul hD)).mul ((hD.mul hD).mul (hD.mul hD))
    have hs := ((sD.mul sD).mul (sD.mul sD)).mul ((sD.mul sD).mul (sD.mul sD))
    funext i j
    by_contra e
    have h1 := hb i j e
    have h2 := hs i j e
    omega
  have : base D * (1 + D) = 1 - D * D * (D * D) * (D * D * (D * D)) := by unfold base; noncomm_ring
  rw [this, z, sub_zero]

theorem diag_double (b : ℕ) (L : Sq) : diag (2 * b) L = diag b L + off b L := by
  funext i j
  rw [Matrix.add_apply]
  unfold diag off
  by_cases h : i.val / b = j.val / b
  · have : i.val / (2 * b) = j.val / (2 * b) := by
      rw [mul_comm, ← Nat.div_div_eq_div_mul, ← Nat.div_div_eq_div_mul, h]
    rw [if_pos h, if_pos this, if_neg fun x => x.2 h, add_zero]
  · by_cases h2 : i.val / (2 * b) = j.val / (2 * b)
    · rw [if_neg h, if_pos h2, if_pos ⟨h2, h⟩, zero_add]
    · rw [if_neg h, if_neg h2, if_neg fun x => h2 x.1, zero_add]

theorem off_mul_off {b : ℕ} {L X : Sq} (hL : SL 1 L) (hX : BD b X) : off b L * X * off b L = 0 := by
  have key : ∀ i j, off b L i j ≠ 0 → i.val / b % 2 = 1 ∧ j.val / b % 2 = 0 := fun i j h => by
    by_cases c : i.val / (2 * b) = j.val / (2 * b) ∧ ¬ i.val / b = j.val / b
    · have hl : L i j ≠ 0 := fun e => h (by unfold off; rw [e, ite_self])
      have lt := hL i j hl
      have le : j.val / b ≤ i.val / b := Nat.div_le_div_right (by omega)
      have c1 := c.1
      rw [mul_comm, ← Nat.div_div_eq_div_mul, ← Nat.div_div_eq_div_mul] at c1
      have c2 := c.2
      omega
    · exact absurd (if_neg c) h
  funext i j
  by_contra e
  rw [Matrix.mul_apply] at e
  obtain ⟨c, _, hc⟩ := exists_ne_zero_of_sum_ne_zero e
  have h2 := (key c j (right_ne_zero_of_mul hc)).1
  have e' := left_ne_zero_of_mul hc
  rw [Matrix.mul_apply] at e'
  obtain ⟨a, _, ha⟩ := exists_ne_zero_of_sum_ne_zero e'
  have h1 := (key i a (left_ne_zero_of_mul ha)).2
  have hx := hX a c (right_ne_zero_of_mul ha)
  omega

theorem join_mul {b : ℕ} {L X : Sq} (hL : SL 1 L) (hX : BD b X) (h : X * (1 + diag b L) = 1) :
    join b L X * (1 + diag (2 * b) L) = 1 := by
  have z := off_mul_off hL hX
  rw [diag_double]
  unfold join
  have e : (X - X * (off b L * X)) * (1 + (diag b L + off b L))
      = X * (1 + diag b L) + X * off b L - X * off b L * (X * (1 + diag b L)) - X * (off b L * X * off b L) := by
    noncomm_ring
  rw [e, h, z, mul_one, mul_zero, sub_zero, add_sub_cancel_right]

/-- The blocks' joinings invert the unit lower triangular matrix. -/
theorem inv_mul {L : Sq} (hL : SL 1 L) : inv L * (1 + L) = 1 := by
  have h8 := base_mul hL
  have b8 := BD.base L
  have h16 := join_mul hL b8 h8
  have b16 := BD.join (L := L) b8
  have h32 := join_mul hL b16 h16
  have b32 := BD.join (L := L) b16
  have h64 := join_mul hL b32 h32
  have : diag 64 L = L := by
    funext i j
    exact if_pos (by omega)
  rw [show 2 * (2 * (2 * 8)) = 64 from rfl, this] at h64
  exact h64

theorem low_SL (K : Matrix (Fin 64) (Fin 128) ℝ) (b x y : Fin 64 → ℝ) : SL 1 (low K b x y) := fun i j h => by
  by_contra e
  exact h (if_neg fun (lt : j < i) => e (by omega))

end Tri

end Cert.Delta

end
-- ==== Proof.DnVals.lean ====
/- One head of one chunk of the gated delta rule's kernel, on real numbers: each function of it gives the real matrix that
   the recurrence's chunk form asks for. -/
module

public import proofs.«01_k».proof.Proof.DnMask
public import proofs.«01_k».proof.Proof.DnMath
public import proofs.«01_k».proof.Proof.Reals

@[expose] public section

set_option maxRecDepth 16384

noncomputable section

namespace Cert.DnFwdIdeal.Own

open Cert.DnFwdIdeal Cert.DnFwdIdeal.Gen Cert.Reals
open Idealize.ShloMosaic Idealize.ShloMosaic.TcCoe
open Cert.Delta (rows had decay strict low Sq)
open Matrix

/-- A real matrix as an array. -/
def M {n m : ℕ} (A : Matrix (Fin n) (Fin m) ℝ) : (⟨2, ![n, m]⟩ : Shape).Idx → EReal := fun i => ((A (i 0) (i 1) : ℝ) : EReal)

/-- A real column as an array. -/
def Cl {n : ℕ} (x : Fin n → ℝ) : (⟨2, ![n, 1]⟩ : Shape).Idx → EReal := fun i => ((x (i 0) : ℝ) : EReal)

/-- A real row as an array. -/
def Rw {n : ℕ} (x : Fin n → ℝ) : (⟨2, ![1, n]⟩ : Shape).Idx → EReal := fun i => ((x (i 1) : ℝ) : EReal)

theorem bf_M {n m : ℕ} (A : Matrix (Fin n) (Fin m) ℝ) : bf (F := Ideal) (S := ⟨2, ![n, m]⟩) (M A) = M A := rfl

theorem rest_M {n m : ℕ} (A : Matrix (Fin n) (Fin m) ℝ) : rest (F := Ideal) (S := ⟨2, ![n, m]⟩) (M A) = M 0 := by
  funext i
  change ((A (i 0) (i 1) : ℝ) : EReal) - ((A (i 0) (i 1) : ℝ) : EReal) = ((0 : ℝ) : EReal)
  rw [← EReal.coe_sub, sub_self]

theorem add_M {n m : ℕ} (A B : Matrix (Fin n) (Fin m) ℝ) : addf (F := Ideal) (s := ⟨2, ![n, m]⟩) (φ := .f32) (M A) (M B) = M (A + B) := by
  funext i
  exact (EReal.coe_add _ _).symm

theorem sub_M {n m : ℕ} (A B : Matrix (Fin n) (Fin m) ℝ) : subf (F := Ideal) (s := ⟨2, ![n, m]⟩) (φ := .f32) (M A) (M B) = M (A - B) := by
  funext i
  exact (EReal.coe_sub _ _).symm

theorem mul_M {n m : ℕ} (A B : Matrix (Fin n) (Fin m) ℝ) : mulf (F := Ideal) (s := ⟨2, ![n, m]⟩) (φ := .f32) (M A) (M B) = M (had A B) := by
  funext i
  exact (EReal.coe_mul _ _).symm

theorem mm_M (A B : Sq) : mm (F := Ideal) (M A) (M B) = M (A * B) := by
  funext i
  idx_vars i
  pointwise [mm]
  simp only [M, ← EReal.coe_mul, ← coe_sum]
  rfl

theorem dot3_M (A B : Sq) : dot3 (F := Ideal) (M A) (M B) = M (A * B) := by
  unfold dot3
  simp only [bf_M, rest_M, mm_M, add_M, Matrix.mul_zero, Matrix.zero_mul, add_zero]

theorem zero_bits : Ideal.ofBits .f32 0x00000000#32 = ((0 : ℝ) : EReal) := by simp

theorem one_bits : Ideal.ofBits .f32 0x3F800000#32 = ((1 : ℝ) : EReal) := by
  simp [Ideal.ofBits, Ideal.ieee, -EReal.coe_mul]; norm_num

theorem keep_M {p : IVec S64x64 1} {P : Fin 64 → Fin 64 → Prop} (h : ∀ i j, p (ix2 i j) = 1#1 ↔ P i j) (A B : Sq)
    (h1 : ∀ i j, P i j → B i j = A i j) (h0 : ∀ i j, ¬ P i j → B i j = 0) : keep (F := Ideal) p (M A) = M B := by
  funext i
  idx_vars i
  change (if p (ix2 i0 i1) = 1#1 then ((A i0 i1 : ℝ) : EReal) else Ideal.ofBits .f32 0x00000000#32) = ((B i0 i1 : ℝ) : EReal)
  by_cases c : P i0 i1
  · rw [if_pos ((h i0 i1).mpr c), h1 _ _ c]
  · rw [if_neg fun x => c ((h i0 i1).mp x), h0 _ _ c, zero_bits]

/-- A mask as the numbers one and zero. -/
theorem sitofp_mask (p : IVec S64x64 1) (B : Sq) (h1 : ∀ i j, p (ix2 i j) = 1#1 → B i j = 1) (h0 : ∀ i j, ¬ p (ix2 i j) = 1#1 → B i j = 0) :
    sitofp (F := Ideal) .f32 (extui 32 p natLt_1_32) = M B := by
  funext i
  idx_vars i
  have two : ∀ b : BitVec 1, b = 1#1 ∨ b = 0#1 := by decide
  change ((((p (ix2 i0 i1)).setWidth 32).toInt : ℝ) : EReal) = ((B i0 i1 : ℝ) : EReal)
  rcases two (p (ix2 i0 i1)) with e | e
  · rw [e, h1 _ _ e]; norm_num
  · rw [e, h0 _ _ (by rw [e]; decide)]; norm_num

theorem eye_M : eye (F := Ideal) = M (1 : Sq) :=
  sitofp_mask _ _ (fun i j e => by rw [(eq_at i j).mp e, Matrix.one_apply_eq]) fun i j e => Matrix.one_apply_ne fun x => e ((eq_at i j).mpr x)

theorem joinV_M {p : IVec S64x64 1} {b : ℕ}
    (h : ∀ i j : Fin 64, p (ix2 i j) = 1#1 ↔ i.val / (2 * b) = j.val / (2 * b) ∧ ¬ i.val / b = j.val / b) (L X : Sq) :
    joinV (F := Ideal) p (M L) (M X) = M (Delta.join b L X) := by
  unfold joinV
  rw [keep_M h L (Delta.off b L) (fun i j c => if_pos c) fun i j c => if_neg c, dot3_M, dot3_M, sub_M]
  rfl

theorem invV_M (L : Sq) : invV (F := Ideal) (M L) = M (Delta.inv L) := by
  unfold invV base2 base1
  rw [keep_M (same_at no8) L (Delta.diag 8 L) (fun i j c => if_pos c) fun i j c => if_neg c]
  simp only [eye_M, sub_M, dot3_M, add_M]
  rw [joinV_M (b := 8) (cross_at no8 no16), joinV_M (b := 16) (cross_at no16 no32), joinV_M (b := 32) (cross_at no32 no64)]
  rfl

/-! ## The rows of the tokens -/

/-- The logistic gate of a number. -/
def gate (x : ℝ) : ℝ := x * (1 / (1 + Real.exp (-x)))

def gated (A : Matrix (Fin 64) (Fin 128) ℝ) : Matrix (Fin 64) (Fin 128) ℝ := fun i j => gate (A i j)

/-- One lane kept, the others zero. -/
def only (n : Fin 128) (A : Matrix (Fin 64) (Fin 128) ℝ) : Matrix (Fin 64) (Fin 128) ℝ := fun i j => if j = n then A i j else 0

theorem silu_M (A : Matrix (Fin 64) (Fin 128) ℝ) : silu (F := Ideal) (M A) = M (gated A) := by
  funext i
  idx_vars i
  change ((A i0 i1 : ℝ) : EReal) * Ideal.div (Ideal.ofBits .f32 0x3F800000#32) (Ideal.ofBits .f32 0x3F800000#32
    + Ideal.exp (Ideal.ofBits .f32 0x00000000#32 - ((A i0 i1 : ℝ) : EReal))) = ((gate (A i0 i1) : ℝ) : EReal)
  rw [one_bits, zero_bits, ← EReal.coe_sub, Ideal.exp_coe, ← EReal.coe_add, div_real _ (by positivity), ← EReal.coe_mul, zero_sub]
  rfl

theorem rowSum_M (A : Matrix (Fin 64) (Fin 128) ℝ) : rowSum (F := Ideal) (M A) = Cl fun i => ∑ j, A i j := by
  funext i
  idx_vars i
  obtain rfl : i1 = 0 := Subsingleton.elim _ _
  pointwise [rowSum]
  change _ = ((∑ j, A i0 j : ℝ) : EReal)
  rw [coe_sum]
  rfl

theorem bcast_Cl (A : Matrix (Fin 64) (Fin 128) ℝ) (x : Fin 64 → ℝ) : scl (F := Ideal) (M A) (Cl x) = M (rows x A) := by
  funext i
  idx_vars i
  pointwise [scl]
  exact (EReal.coe_mul _ _).symm

/-- The rows scaled to unit length. -/
def nrm (A : Matrix (Fin 64) (Fin 128) ℝ) : Matrix (Fin 64) (Fin 128) ℝ :=
  rows (fun i => (Real.sqrt (∑ j, A i j * A i j + eps))⁻¹) A

theorem unit_M (A : Matrix (Fin 64) (Fin 128) ℝ) : unit (F := Ideal) (M A) = M (nrm A) := by
  unfold unit
  rw [mul_M, rowSum_M]
  refine Eq.trans ?_ (bcast_Cl A _)
  unfold scl
  congr 2
  funext i
  change Ideal.rsqrt (((∑ j, A (i 0) j * A (i 0) j : ℝ) : EReal) + Ideal.ofBits .f32 0x358637BD#32) = _
  rw [ofBits_eps, ← EReal.coe_add, rsqrt_real (add_pos_of_nonneg_of_pos (Finset.sum_nonneg fun _ _ => mul_self_nonneg _) eps_pos)]
  rfl

/-- The scale of the queries, as printed. -/
def qscale : ℝ := 11863283 / 134217728

theorem ofBits_qscale : Ideal.ofBits .f32 0x3DB504F3#32 = (qscale : EReal) := by
  unfold qscale
  simp [Ideal.ofBits, Ideal.ieee, -EReal.coe_mul]; norm_num

theorem kV_M (A : Matrix (Fin 64) (Fin 128) ℝ) : kV (F := Ideal) (M A) = M (nrm (gated A)) := by
  unfold kV
  rw [silu_M, unit_M]

theorem qV_M (A : Matrix (Fin 64) (Fin 128) ℝ) : qV (F := Ideal) (M A) = M (qscale • nrm (gated A)) := by
  unfold qV
  rw [silu_M, unit_M]
  funext i
  change ((_ : ℝ) : EReal) * Ideal.ofBits .f32 0x3DB504F3#32 = _
  rw [ofBits_qscale]
  refine (EReal.coe_mul _ _).symm.trans ?_
  rw [mul_comm]
  rfl

/-- One lane of the rows as a column. -/
theorem lane_M (n : Fin 128) (v352 : IVec S64x128 32) (hv : ∀ i j, v352 (ix2 i j) = BitVec.ofNat 32 j.val) (A : Matrix (Fin 64) (Fin 128) ℝ) :
    lane (F := Ideal) v352 (BitVec.ofNat 32 n.val) (M A) = Cl fun i => A i n := by
  have e : (select (cmpi .eq v352 (broadcast S64x128 (BitVec.ofNat 32 n.val))) (M A) (zro (F := Ideal) S64x128) : FVec Ideal S64x128 .f32)
      = M (only n A) := by
    funext i
    idx_vars i
    have key : (IntOp.cmpi .eq (v352 (ix2 i0 i1)) (BitVec.ofNat 32 n.val) = 1#1) ↔ i1 = n := by
      rw [hv]
      revert i1 n
      decide +kernel
    change (if IntOp.cmpi .eq (v352 (ix2 i0 i1)) (BitVec.ofNat 32 n.val) = 1#1 then ((A i0 i1 : ℝ) : EReal) else Ideal.ofBits .f32 0x00000000#32)
      = ((if i1 = n then A i0 i1 else 0 : ℝ) : EReal)
    by_cases c : i1 = n
    · rw [if_pos (key.mpr c), if_pos c]
    · rw [if_neg fun x => c (key.mp x), if_neg c, zero_bits]
  unfold lane
  rw [e, rowSum_M]
  congr 1
  funext i
  unfold only
  rw [Finset.sum_ite_eq' Finset.univ n, if_pos (Finset.mem_univ _)]

/-! ## The products -/

theorem ntV_M (A B : Matrix (Fin 64) (Fin 128) ℝ) : ntV (F := Ideal) (M A) (M B) = M (A * Bᵀ) := by
  funext i
  idx_vars i
  pointwise [ntV, bf]
  simp only [M, ← EReal.coe_mul, ← coe_sum]
  rfl

theorem nnV_M (A : Sq) (B : Matrix (Fin 64) (Fin 128) ℝ) : nnV (F := Ideal) (M A) (M B) = M (A * B) := by
  funext i
  idx_vars i
  pointwise [nnV, bf]
  simp only [M, ← EReal.coe_mul, ← coe_sum]
  rfl

theorem nsV_M (A : Matrix (Fin 64) (Fin 128) ℝ) (B : Matrix (Fin 128) (Fin 128) ℝ) : nsV (F := Ideal) (M A) (M B) = M (A * B) := by
  funext i
  idx_vars i
  pointwise [nsV, bf]
  simp only [M, ← EReal.coe_mul, ← coe_sum]
  rfl

theorem tnV_M (A B : Matrix (Fin 64) (Fin 128) ℝ) : tnV (F := Ideal) (M A) (M B) = M (Aᵀ * B) := by
  funext i
  idx_vars i
  pointwise [tnV, bf]
  simp only [M, ← EReal.coe_mul, ← coe_sum]
  rfl

/-! ## A head -/

theorem exp_Cl (x : Fin 64 → ℝ) : exp (F := Ideal) (s := S64x1) (φ := .f32) (Cl x) = Cl fun i => Real.exp (x i) := rfl

theorem decayV_M (x y : Fin 64 → ℝ) : decayV (F := Ideal) (Cl x) (Rw y) = M (decay x y) := by
  unfold decayV
  have e1 : subf (F := Ideal) (φ := .f32) (broadcastTo S64x64 (Cl x) broadcasts_S64x1_S64x64) (broadcastTo S64x64 (Rw y) broadcasts_S1x64_S64x64)
      = M (fun i j => x i - y j : Sq) := by
    funext i
    idx_vars i
    pointwise []
    exact (EReal.coe_sub _ _).symm
  rw [e1]
  have e2 := keep_M ge_at (fun i j => x i - y j : Sq) (fun i j => if j ≤ i then x i - y j else 0 : Sq) (fun i j c => if_pos c) fun i j c => if_neg c
  unfold keep at e2
  rw [e2]
  have e3 := keep_M ge_at (fun i j => Real.exp (if j ≤ i then x i - y j else 0) : Sq) (decay x y)
    (fun i j c => by simp only [decay, if_pos c]) fun i j c => by simp only [decay, if_neg c]
  exact e3

theorem lowV_M (k : Matrix (Fin 64) (Fin 128) ℝ) (b x y : Fin 64 → ℝ) :
    lowV (F := Ideal) (M k) (scl (M k) (Cl b)) (Cl x) (Rw y) = M (low k b x y) := by
  unfold lowV
  rw [bcast_Cl, ntV_M, decayV_M, mul_M]
  exact keep_M gt_at _ _ (fun i j c => if_pos c) fun i j c => if_neg c

theorem wrV_M (t : Sq) (k v : Matrix (Fin 64) (Fin 128) ℝ) (b x : Fin 64 → ℝ) (s : Matrix (Fin 128) (Fin 128) ℝ) :
    wrV (F := Ideal) (M t) (M k) (M v) (Cl b) (Cl x) (M s)
      = M (t * rows b v - t * rows (fun i => Real.exp (x i)) (rows b k) * s) := by
  unfold wrV
  rw [exp_Cl, bcast_Cl, bcast_Cl, bcast_Cl, nnV_M, nnV_M, nsV_M, sub_M]

theorem oV_M (q k w : Matrix (Fin 64) (Fin 128) ℝ) (x y : Fin 64 → ℝ) (s : Matrix (Fin 128) (Fin 128) ℝ) :
    oV (F := Ideal) (M q) (M k) (M w) (Cl x) (Rw y) (M s)
      = M (rows (fun i => Real.exp (x i)) q * s + had (q * kᵀ) (decay x y) * w) := by
  unfold oV
  rw [exp_Cl, bcast_Cl, nsV_M, ntV_M, decayV_M, mul_M, nnV_M, add_M]

theorem sV_M (k w : Matrix (Fin 64) (Fin 128) ℝ) (x y : Fin 64 → ℝ) (s : Matrix (Fin 128) (Fin 128) ℝ) :
    sV (F := Ideal) (M k) (M w) (Cl x) (Rw y) (M s)
      = M (Real.exp (y 63) • s + (rows (fun i => Real.exp (y 63 - x i)) k)ᵀ * w) := by
  have e1 : mulf (F := Ideal) (φ := .f32) (M s) (broadcastTo S128x128 (exp (glast (F := Ideal) (Rw y))) broadcasts_S1x1_S128x128)
      = M (Real.exp (y 63) • s) := by
    funext i
    idx_vars i
    pointwise [glast]
    refine (EReal.coe_mul _ _).symm.trans ?_
    rw [mul_comm]
    rfl
  have e2 : exp (F := Ideal) (φ := .f32) (subf (broadcastTo S64x1 (glast (F := Ideal) (Rw y)) broadcasts_S1x1_S64x1) (Cl x))
      = Cl fun i => Real.exp (y 63 - x i) := by
    funext i
    idx_vars i
    obtain rfl : i1 = 0 := Subsingleton.elim _ _
    pointwise [glast]
    change Ideal.exp (((y 63 : ℝ) : EReal) - ((x i0 : ℝ) : EReal)) = _
    rw [← EReal.coe_sub]
    rfl
  unfold sV
  rw [e1, e2, bcast_Cl, tnV_M, add_M]

end Cert.DnFwdIdeal.Own

end
-- ==== Proof.DnChunk.lean ====
/- One head of one chunk of the gated delta rule's kernel computes what the recurrence does token by token. -/
module

public import proofs.«01_k».proof.Proof.DnVals

@[expose] public section

set_option maxRecDepth 16384

noncomputable section

namespace Cert.DnFwdIdeal.Own

open Cert.DnFwdIdeal Cert.DnFwdIdeal.Gen Cert.Reals
open Idealize.ShloMosaic Idealize.ShloMosaic.TcCoe
open Cert.Delta (rows had decay strict low Sq part gc)
open Matrix

/-- A head's state as the kernel holds it. -/
def St (S : Matrix (Fin 128) (Fin 128) ℝ) : S1x128x128.Idx → EReal := fun i => ((S (i 1) (i 2) : ℝ) : EReal)

theorem cast_St (S : Matrix (Fin 128) (Fin 128) ℝ) :
    shapeCast S128x128 (St S) shapeCasts_S1x128x128_S128x128 = M S := by
  funext i
  idx_vars i
  pointwise []
  rfl

theorem St_cast (S : Matrix (Fin 128) (Fin 128) ℝ) :
    shapeCast S1x128x128 (M S) shapeCasts_S128x128_S1x128x128 = St S := by
  funext i
  idx_vars i
  pointwise []
  rfl

theorem bH_St (S : Matrix (Fin 128) (Fin 128) ℝ) : bH (F := Ideal) (St S) = fun i => ((S (i 2) (i 3) : ℝ) : EReal) := by
  unfold bH
  rw [cast_St, bf_M]
  funext i
  idx_vars i
  pointwise []
  rfl

section

variable (q k v : ℕ → Fin 128 → ℝ) (β g : ℕ → ℝ) (R : ℕ) (v352 : IVec S64x128 32)
  (hv : ∀ i j, v352 (ix2 i j) = BitVec.ofNat 32 j.val) (cq ck cv B G : Matrix (Fin 64) (Fin 128) ℝ)
  (hQ : part R q = qscale • nrm (gated cq)) (hK : part R k = nrm (gated ck)) (hV : part R v = gated cv)
  (n n' : Fin 128) (hB : (fun i => B i n) = fun i : Fin 64 => β (R + i.val)) (hG : (fun i => G i n') = gc g R)

include hv hK hV hB hG

theorem wH_eq : wH (F := Ideal) v352 (BitVec.ofNat 32 n.val) (BitVec.ofNat 32 n'.val) (M ck) (M cv) (M B) (M G) (Rw (gc g R))
    (St (Delta.state k v β g R)) = M (Delta.wrs k v β g R) := by
  unfold wH tH
  rw [kV_M, silu_M, lane_M n v352 hv, lane_M n' v352 hv, hB, hG, cast_St, lowV_M, invV_M, wrV_M, ← hK, ← hV]
  exact congrArg M (Delta.solve k v β g R _ (Delta.inv_mul (Delta.low_SL _ _ _ _))).symm

theorem sH_eq : sH (F := Ideal) v352 (BitVec.ofNat 32 n.val) (BitVec.ofNat 32 n'.val) (M ck) (M cv) (M B) (M G) (Rw (gc g R))
    (St (Delta.state k v β g R)) = St (Delta.state k v β g (R + 64)) := by
  unfold sH
  rw [wH_eq k v β g R v352 hv ck cv B G hK hV n n' hB hG, kV_M, lane_M n' v352 hv, hG, cast_St, sV_M, ← hK, St_cast]
  exact congrArg St (Delta.state_chunk k v β g R).symm

include hQ

theorem oH_eq : oH (F := Ideal) v352 (BitVec.ofNat 32 n.val) (BitVec.ofNat 32 n'.val) (M cq) (M ck) (M cv) (M B) (M G) (Rw (gc g R))
    (St (Delta.state k v β g R)) = M fun i b => Delta.out q k v β g (R + i.val) b := by
  unfold oH
  rw [wH_eq k v β g R v352 hv ck cv B G hK hV n n' hB hG, kV_M, qV_M, lane_M n' v352 hv, hG, cast_St, oV_M, ← hK, ← hQ]
  congr 1
  funext i b
  exact (Delta.out_chunk q k v β g R i b).symm

end

/-! ## The cumulated decays -/

theorem coe_max (x y : ℝ) : ((max x y : ℝ) : EReal) = max (x : EReal) (y : EReal) := EReal.coe_strictMono.monotone.map_max

/-- The soft positive part. -/
def sp (x : ℝ) : ℝ := max x 0 + Real.log (1 + Real.exp (-|x|))

theorem sp_coe (x : ℝ) : max (x : EReal) (Ideal.ofBits .f32 0x00000000#32)
    + Ideal.log (Ideal.ofBits .f32 0x3F800000#32 + Ideal.exp (Ideal.ofBits .f32 0x00000000#32 - max (x : EReal) (-(x : EReal)))) = (sp x : EReal) := by
  have h : (0 : ℝ) < 1 + Real.exp (-|x|) := by positivity
  have e : max (x : EReal) (-(x : EReal)) = ((|x| : ℝ) : EReal) := by
    rw [← EReal.coe_neg]; exact (coe_max x (-x)).symm
  rw [e, one_bits, zero_bits, ← EReal.coe_sub, Ideal.exp_coe, ← EReal.coe_add, Ideal.log_coe, zero_sub, if_neg (not_le.mpr h),
    ← coe_max, ← EReal.coe_add]
  rfl

theorem sp_coe' (x : ℝ) : max (x : EReal) 0 + Ideal.log (1 + Ideal.exp (0 - max (x : EReal) (-(x : EReal)))) = (sp x : EReal) := by
  have h := sp_coe x
  rwa [zero_bits, one_bits, EReal.coe_zero, EReal.coe_one] at h

/-- The sums of the rows so far. -/
def sums (A : Matrix (Fin 64) (Fin 128) ℝ) : Matrix (Fin 64) (Fin 128) ℝ := fun i l => ∑ j, if j ≤ i then A j l else 0

def lowOnes : Sq := fun i j => if j ≤ i then 1 else 0

theorem gH_M (A : Matrix (Fin 64) (Fin 128) ℝ) : gH (F := Ideal) (M A) = M (sums A) := by
  have e : sitofp (F := Ideal) .f32 (extui 32 (cmpi .sge rowI colI) natLt_1_32) = M lowOnes :=
    sitofp_mask _ _ (fun i j c => if_pos ((ge_at i j).mp c)) fun i j c => if_neg fun x => c ((ge_at i j).mpr x)
  unfold gH
  rw [e]
  funext i
  idx_vars i
  pointwise []
  simp only [M, ← EReal.coe_mul, ← coe_sum]
  refine congrArg _ (Finset.sum_congr rfl fun j _ => ?_)
  change lowOnes i0 j * A j i1 = if j ≤ i0 then A j i1 else 0
  unfold lowOnes
  split <;> simp

/-- The decays along a row, cumulated. -/
def acc (A P D : Matrix (Fin 16) (Fin 64) ℝ) : Matrix (Fin 16) (Fin 64) ℝ := fun l j => ∑ i, if i ≤ j then A l i * sp (P l i + D l i) else 0

/-- A block of one leading row. -/
def St16 (P : Matrix (Fin 16) (Fin 64) ℝ) : S1x16x64.Idx → EReal := fun i => ((P (i 1) (i 2) : ℝ) : EReal)

def upOnes : Sq := fun i j => if i ≤ j then 1 else 0

theorem pay8_M (A P D : Matrix (Fin 16) (Fin 64) ℝ) :
    k0_pay8 (F := Ideal) k0_pay6 (M A) (St16 P) (M D) = M (acc A P D) := by
  have le_at (i j : Fin 64) : cmpi .sle rowI colI (ix2 i j) = 1#1 ↔ i ≤ j := by
    change IntOp.cmpi .sle (rowI (ix2 i j)) (colI (ix2 i j)) = 1#1 ↔ _
    rw [rowI_at, colI_at]
    revert i j
    decide +kernel
  have e : (k0_pay6 (F := Ideal) : FVec Ideal S64x64 .f32) = M upOnes :=
    sitofp_mask _ _ (fun i j c => if_pos ((le_at i j).mp c)) fun i j c => if_neg fun x => c ((le_at i j).mpr x)
  rw [e]
  funext i
  idx_vars i
  pointwise [k0_pay8]
  refine Eq.trans (Finset.sum_congr rfl fun x _ => (?_ : _ = ((A i0 x * sp (P i0 x + D i0 x) * upOnes x i1 : ℝ) : EReal))) ?_
  · change ((A i0 x : ℝ) : EReal) * (max (((P i0 x : ℝ) : EReal) + ((D i0 x : ℝ) : EReal)) 0
      + Ideal.log (1 + Ideal.exp (0 - max (((P i0 x : ℝ) : EReal) + ((D i0 x : ℝ) : EReal)) (-(((P i0 x : ℝ) : EReal) + ((D i0 x : ℝ) : EReal))))))
      * ((upOnes x i1 : ℝ) : EReal) = _
    rw [← EReal.coe_add, sp_coe', ← EReal.coe_mul, ← EReal.coe_mul]
  · rw [← coe_sum]
    refine congrArg _ (Finset.sum_congr rfl fun x _ => ?_)
    change A i0 x * sp (P i0 x + D i0 x) * (if x ≤ i1 then 1 else 0) = if x ≤ i1 then A i0 x * sp (P i0 x + D i0 x) else 0
    split <;> simp

end Cert.DnFwdIdeal.Own

end
-- ==== Proof.DnTrip.lean ====
/- The trips of the gated delta rule's kernel over one block: the states they leave, the states they save and the rows
   they write are the recurrence's. -/
module

public import proofs.«01_k».proof.Proof.DnHead
public import proofs.«01_k».proof.Proof.DnChunk
public import Idealize.ShloMosaic.Lib.Pipeline.ValueKit.Basic

@[expose] public section

set_option maxRecDepth 16384
set_option maxHeartbeats 1000000

noncomputable section

namespace Cert.DnFwdIdeal.Own

open Cert.DnFwdIdeal Cert.DnFwdIdeal.Gen Cert.Reals
open Idealize.ShloMosaic Idealize.ShloMosaic.TcCoe
open Cert.Delta (rows had decay strict low Sq part gc)
open Matrix

/-! ## Tokens -/

/-- Token `r`'s gated entry `a` of a head, its columns starting at `o`. -/
def rowT (conv : ℕ → ℕ → ℝ) (o r a : ℕ) : ℝ := gate (conv r (o + a))

/-- Token `r`'s row, scaled to unit length. -/
def unitT (conv : ℕ → ℕ → ℝ) (o r : ℕ) (a : Fin 128) : ℝ :=
  rowT conv o r a.val * (Real.sqrt (∑ j : Fin 128, rowT conv o r j.val * rowT conv o r j.val + eps))⁻¹

def qT (conv : ℕ → ℕ → ℝ) (h r : ℕ) (a : Fin 128) : ℝ := qscale * unitT conv (128 * h) r a
def kT (conv : ℕ → ℕ → ℝ) (h r : ℕ) (a : Fin 128) : ℝ := unitT conv (1024 + 128 * h) r a
def vT (conv : ℕ → ℕ → ℝ) (h r : ℕ) (a : Fin 128) : ℝ := rowT conv (2048 + 128 * h) r a.val
def bT (bet : ℕ → ℕ → ℝ) (h r : ℕ) : ℝ := bet r h
def gT (dec : ℕ → ℕ → ℝ) (h r : ℕ) : ℝ := dec r (8 + h)

/-- Head `h`'s state before token `r`. -/
def stT (conv bet dec : ℕ → ℕ → ℝ) (h r : ℕ) : Matrix (Fin 128) (Fin 128) ℝ :=
  Delta.state (kT conv h) (vT conv h) (bT bet h) (gT dec h) r

/-- Head `h`'s output of token `r`. -/
def outT (conv bet dec : ℕ → ℕ → ℝ) (h r : ℕ) (b : Fin 128) : ℝ :=
  Delta.out (qT conv h) (kT conv h) (vT conv h) (bT bet h) (gT dec h) r b

/-! ## Loads -/

/-- An array given by a function of row and column numbers. -/
def N {n m : ℕ} (C : ℕ → ℕ → ℝ) : (⟨2, ![n, m]⟩ : Shape).Idx → EReal := fun i => ((C (i 0).val (i 1).val : ℝ) : EReal)

theorem readAt_N {n m a b r s : ℕ} {v : View sig .tc .vmem ⟨2, ![n, m]⟩ .f32} {f : v.ty.Contents (Elt Ideal)} {C : ℕ → ℕ → ℝ}
    (hX : v.read (Elt Ideal) f = N C) {o : Fin 2 → ℕ} (ho : o = ![r, s]) (inb : ∀ x, o x + (![a, b] : Fin 2 → ℕ) x ≤ (⟨2, ![n, m]⟩ : Shape).size x) :
    View.readAt (Elt Ideal) v (Rect.unit (s := ⟨2, ![n, m]⟩) o ![a, b] inb).toLoadRect f = M fun i j => C (r + i.val) (s + j.val) := by
  subst ho
  rw [View.readAt_eq_ld, hX]
  funext i
  change ((C (r + 1 * (i 0).val) (s + 1 * (i 1).val) : ℝ) : EReal) = ((C (r + (i 0).val) (s + (i 1).val) : ℝ) : EReal)
  rw [one_mul, one_mul]

/-- The states of all heads. -/
def Sts (S : ℕ → Matrix (Fin 128) (Fin 128) ℝ) : S8x128x128.Idx → EReal := fun i => ((S (i 0).val (i 1) (i 2) : ℝ) : EReal)

theorem readAt_Sts {v : View sig .tc .vmem S8x128x128 .f32} {f : v.ty.Contents (Elt Ideal)} {S : ℕ → Matrix (Fin 128) (Fin 128) ℝ}
    (hX : v.read (Elt Ideal) f = Sts S) (h : ℕ) (inb : ∀ x, (![h, 0, 0] : Fin 3 → ℕ) x + S1x128x128.size x ≤ S8x128x128.size x) :
    View.readAt (Elt Ideal) v (Rect.unit (s := S8x128x128) ![h, 0, 0] S1x128x128.size inb).toLoadRect f = St (S h) := by
  rw [View.readAt_eq_ld, hX]
  funext i
  have e1 : (Rect.unit (s := S8x128x128) ![h, 0, 0] S1x128x128.size inb).emb i 1 = i 1 := Fin.ext (by
    change 0 + 1 * (i 1).val = _; omega)
  have e2 : (Rect.unit (s := S8x128x128) ![h, 0, 0] S1x128x128.size inb).emb i 2 = i 2 := Fin.ext (by
    change 0 + 1 * (i 2).val = _; omega)
  have e0 : ((Rect.unit (s := S8x128x128) ![h, 0, 0] S1x128x128.size inb).emb i 0).val = h := by
    change h + 1 * (i 0).val = h
    have := (i 0).isLt
    change (i 0).val < 1 at this
    omega
  change ((S ((Rect.unit (s := S8x128x128) ![h, 0, 0] S1x128x128.size inb).emb i 0).val ((Rect.unit (s := S8x128x128) ![h, 0, 0] S1x128x128.size inb).emb i 1)
    ((Rect.unit (s := S8x128x128) ![h, 0, 0] S1x128x128.size inb).emb i 2) : ℝ) : EReal) = _
  rw [e0, e1, e2]
  rfl

/-- What pieces that agree with one array leave where they lie. -/
theorem read_agree {κ : Kind} {sp : Space} {s : Shape} {e : EltTy} (v : View sig κ sp s e) (f : v.ty.Contents (Elt Ideal))
    (G : s.Idx → Elt Ideal e) (L : List (View.Piece (Elt Ideal) s e)) (h : ∀ p ∈ L, ∀ x, p.2 x = G (p.1.emb x))
    (y : s.Idx) (hy : ∃ p ∈ L, y ∈ p.1.set) : v.read (Elt Ideal) (v.writes (Elt Ideal) f L) y = G y := by
  rw [View.read_writes_apply_eq_canon v f y L hy]
  induction L with
  | nil => obtain ⟨_, hm, _⟩ := hy; exact absurd hm List.not_mem_nil
  | cons p L ih =>
    by_cases c : y ∈ p.1.set
    · have hp := h p List.mem_cons_self
      obtain ⟨r, w⟩ := p
      obtain ⟨x, rfl⟩ : ∃ x, r.emb x = y := r.exists_idx_of_mem c
      rw [View.canon_cons_emb]
      exact hp x
    · rw [View.canon_cons_of_not_mem p L c]
      refine ih (fun p' hp' => h p' (List.mem_cons_of_mem _ hp')) ?_
      obtain ⟨p', hm, hy'⟩ := hy
      rcases List.mem_cons.mp hm with rfl | hm
      · exact absurd hy' c
      · exact ⟨p', hm, hy'⟩

/-- The rows of a block, from token `R0` on. -/
def G13 (conv bet dec : ℕ → ℕ → ℝ) (R0 : ℕ) : S256x1024.Idx → EReal := fun y =>
  ((outT conv bet dec ((y 1).val / 128) (R0 + (y 0).val) ⟨(y 1).val % 128, Nat.mod_lt _ (by decide)⟩ : ℝ) : EReal)

/-- The states at the chunks of a block. -/
def G14 (conv bet dec : ℕ → ℕ → ℝ) (R0 : ℕ) : S4x8x128x128.Idx → EReal := fun y =>
  ((stT conv bet dec (y 1).val (R0 + 64 * (y 0).val) (y 2) (y 3) : ℝ) : EReal)

theorem piece_o (conv bet dec : ℕ → ℕ → ℝ) (R0 k h : ℕ) {o : Fin 2 → ℕ} (ho : o = ![64 * k, 128 * h])
    (inb : ∀ x, o x + (![64, 128] : Fin 2 → ℕ) x ≤ S256x1024.size x) (x : (Rect.unit (s := S256x1024) o ![64, 128] inb).shape.Idx) :
    M (fun (i : Fin 64) b => outT conv bet dec h (R0 + 64 * k + i.val) b) x = G13 conv bet dec R0 ((Rect.unit (s := S256x1024) o ![64, 128] inb).emb x) := by
  subst ho
  have h0 : (x 0).val < 64 := (x 0).isLt
  have h1 : (x 1).val < 128 := (x 1).isLt
  have e1 : ((Rect.unit (s := S256x1024) ![64 * k, 128 * h] ![64, 128] inb).emb x 1).val / 128 = h := by
    change (128 * h + 1 * (x 1).val) / 128 = h; omega
  have e0 : R0 + ((Rect.unit (s := S256x1024) ![64 * k, 128 * h] ![64, 128] inb).emb x 0).val = R0 + 64 * k + (x 0).val := by
    change R0 + (64 * k + 1 * (x 0).val) = _; omega
  have e2 : (⟨((Rect.unit (s := S256x1024) ![64 * k, 128 * h] ![64, 128] inb).emb x 1).val % 128, Nat.mod_lt _ (by decide)⟩ : Fin 128) = x 1 := Fin.ext (by
    change (128 * h + 1 * (x 1).val) % 128 = (x 1).val; omega)
  unfold G13
  rw [e0, e1, e2]
  rfl

theorem piece_b (conv bet dec : ℕ → ℕ → ℝ) (R0 k h : ℕ) {o : Fin 4 → ℕ} (ho : o = ![k, h, 0, 0])
    (inb : ∀ x, o x + (![1, 1, 128, 128] : Fin 4 → ℕ) x ≤ S4x8x128x128.size x) (x : (Rect.unit (s := S4x8x128x128) o ![1, 1, 128, 128] inb).shape.Idx) :
    ((stT conv bet dec h (R0 + 64 * k) (x 2) (x 3) : ℝ) : EReal) = G14 conv bet dec R0 ((Rect.unit (s := S4x8x128x128) o ![1, 1, 128, 128] inb).emb x) := by
  subst ho
  have h0 : (x 0).val < 1 := (x 0).isLt
  have h1 : (x 1).val < 1 := (x 1).isLt
  have e0 : ((Rect.unit (s := S4x8x128x128) ![k, h, 0, 0] ![1, 1, 128, 128] inb).emb x 0).val = k := by
    change k + 1 * (x 0).val = k; omega
  have e1 : ((Rect.unit (s := S4x8x128x128) ![k, h, 0, 0] ![1, 1, 128, 128] inb).emb x 1).val = h := by
    change h + 1 * (x 1).val = h; omega
  have e2 : (Rect.unit (s := S4x8x128x128) ![k, h, 0, 0] ![1, 1, 128, 128] inb).emb x 2 = x 2 := Fin.ext (by
    change 0 + 1 * (x 2).val = _; omega)
  have e3 : (Rect.unit (s := S4x8x128x128) ![k, h, 0, 0] ![1, 1, 128, 128] inb).emb x 3 = x 3 := Fin.ext (by
    change 0 + 1 * (x 3).val = _; omega)
  unfold G14
  rw [e0, e1, e2, e3]

theorem piece_s (S : ℕ → Matrix (Fin 128) (Fin 128) ℝ) (h : ℕ)
    (inb : ∀ x, (![h, 0, 0] : Fin 3 → ℕ) x + (![1, 128, 128] : Fin 3 → ℕ) x ≤ S8x128x128.size x)
    (x : (Rect.unit (s := S8x128x128) ![h, 0, 0] ![1, 128, 128] inb).shape.Idx) :
    St (S h) x = Sts S ((Rect.unit (s := S8x128x128) ![h, 0, 0] ![1, 128, 128] inb).emb x) := by
  have h0 : (x 0).val < 1 := (x 0).isLt
  have e0 : ((Rect.unit (s := S8x128x128) ![h, 0, 0] ![1, 128, 128] inb).emb x 0).val = h := by
    change h + 1 * (x 0).val = h; omega
  have e1 : (Rect.unit (s := S8x128x128) ![h, 0, 0] ![1, 128, 128] inb).emb x 1 = x 1 := Fin.ext (by
    change 0 + 1 * (x 1).val = _; omega)
  have e2 : (Rect.unit (s := S8x128x128) ![h, 0, 0] ![1, 128, 128] inb).emb x 2 = x 2 := Fin.ext (by
    change 0 + 1 * (x 2).val = _; omega)
  unfold Sts
  rw [e0, e1, e2]
  rfl

theorem off0 (k : Fin k0_t1_loop.trips) : k0_off3 k = ![64 * k.val, 128 * 0] ∧ k0_off4 k = ![64 * k.val, 1024 + 128 * 0]
    ∧ k0_off5 k = ![64 * k.val, 2048 + 128 * 0] ∧ k0_off27 k = ![64 * k.val, 128 * 0] ∧ k0_off28 k = ![k.val, 0, 0, 0] := by
  revert k; decide +kernel

theorem off1 (k : Fin k0_t1_loop.trips) : k0_off6 k = ![64 * k.val, 128 * 1] ∧ k0_off7 k = ![64 * k.val, 1024 + 128 * 1]
    ∧ k0_off8 k = ![64 * k.val, 2048 + 128 * 1] ∧ k0_off30 k = ![64 * k.val, 128 * 1] ∧ k0_off31 k = ![k.val, 1, 0, 0] := by
  revert k; decide +kernel

theorem off2 (k : Fin k0_t1_loop.trips) : k0_off9 k = ![64 * k.val, 128 * 2] ∧ k0_off10 k = ![64 * k.val, 1024 + 128 * 2]
    ∧ k0_off11 k = ![64 * k.val, 2048 + 128 * 2] ∧ k0_off33 k = ![64 * k.val, 128 * 2] ∧ k0_off34 k = ![k.val, 2, 0, 0] := by
  revert k; decide +kernel

theorem off3 (k : Fin k0_t1_loop.trips) : k0_off12 k = ![64 * k.val, 128 * 3] ∧ k0_off13 k = ![64 * k.val, 1024 + 128 * 3]
    ∧ k0_off14 k = ![64 * k.val, 2048 + 128 * 3] ∧ k0_off36 k = ![64 * k.val, 128 * 3] ∧ k0_off37 k = ![k.val, 3, 0, 0] := by
  revert k; decide +kernel

theorem off4 (k : Fin k0_t1_loop.trips) : k0_off15 k = ![64 * k.val, 128 * 4] ∧ k0_off16 k = ![64 * k.val, 1024 + 128 * 4]
    ∧ k0_off17 k = ![64 * k.val, 2048 + 128 * 4] ∧ k0_off39 k = ![64 * k.val, 128 * 4] ∧ k0_off40 k = ![k.val, 4, 0, 0] := by
  revert k; decide +kernel

theorem off5 (k : Fin k0_t1_loop.trips) : k0_off18 k = ![64 * k.val, 128 * 5] ∧ k0_off19 k = ![64 * k.val, 1024 + 128 * 5]
    ∧ k0_off20 k = ![64 * k.val, 2048 + 128 * 5] ∧ k0_off42 k = ![64 * k.val, 128 * 5] ∧ k0_off43 k = ![k.val, 5, 0, 0] := by
  revert k; decide +kernel

theorem off6 (k : Fin k0_t1_loop.trips) : k0_off21 k = ![64 * k.val, 128 * 6] ∧ k0_off22 k = ![64 * k.val, 1024 + 128 * 6]
    ∧ k0_off23 k = ![64 * k.val, 2048 + 128 * 6] ∧ k0_off45 k = ![64 * k.val, 128 * 6] ∧ k0_off46 k = ![k.val, 6, 0, 0] := by
  revert k; decide +kernel

theorem off7 (k : Fin k0_t1_loop.trips) : k0_off24 k = ![64 * k.val, 128 * 7] ∧ k0_off25 k = ![64 * k.val, 1024 + 128 * 7]
    ∧ k0_off26 k = ![64 * k.val, 2048 + 128 * 7] ∧ k0_off48 k = ![64 * k.val, 128 * 7] ∧ k0_off49 k = ![k.val, 7, 0, 0] := by
  revert k; decide +kernel

theorem mem_state (h : ℕ) (inb : ∀ x, (![h, 0, 0] : Fin 3 → ℕ) x + (![1, 128, 128] : Fin 3 → ℕ) x ≤ S8x128x128.size x) (y : S8x128x128.Idx)
    (c : (y 0).val = h) : y ∈ (Rect.unit (s := S8x128x128) ![h, 0, 0] ![1, 128, 128] inb).set := by
  have h1 : (y 1).val < 128 := (y 1).isLt
  have h2 : (y 2).val < 128 := (y 2).isLt
  exact Rect.mem_set_unit.mpr (Fin.forall_fin_succ.mpr ⟨by change h ≤ (y 0).val ∧ (y 0).val < h + 1; omega,
    Fin.forall_fin_two.mpr ⟨by change 0 ≤ (y 1).val ∧ (y 1).val < 0 + 128; omega, by change 0 ≤ (y 2).val ∧ (y 2).val < 0 + 128; omega⟩⟩)

/-! ## One trip -/

theorem off1_eq (k : Fin k0_t1_loop.trips) : k0_off1 k = ![64 * k.val, 0] := by revert k; decide +kernel

variable (𝒱 : Variants) (c : Dev nD) (bd : Option 𝒱.V) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S4x3072 .f32) (harg7 : arg7.IsWhole) (arg8 : Memref sig .tc .vmem S256x128 .f32) (harg8 : arg8.IsWhole) (arg9 : Memref sig .tc .vmem S4x16x64 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S16x64 .f32) (harg12 : arg12.IsWhole) (arg13 : Memref sig .tc .vmem S16x64 .f32) (harg13 : arg13.IsWhole) (arg14 : Memref sig .tc .vmem S256x1024 .f32) (harg14 : arg14.IsWhole) (arg15 : Memref sig .tc .vmem S4x8x128x128 .bf16) (harg15 : arg15.IsWhole) (arg16 : Memref sig .tc .vmem S4x8x64x64 .f32) (harg16 : arg16.IsWhole) (arg17 : Memref sig .tc .vmem S272x3072 .f32) (harg17 : arg17.IsWhole) (arg18 : Memref sig .tc .vmem S256x3072 .f32) (harg18 : arg18.IsWhole) (arg19 : Memref sig .tc .vmem S8x128x128 .f32) (harg19 : arg19.IsWhole) (arg20 : Memref sig .tc .vmem S16x64 .f32) (harg20 : arg20.IsWhole) (arg21 : Memref sig .tc .vmem S256x128 .f32) (harg21 : arg21.IsWhole) (arg22 : Memref sig .tc .vmem S256x128 .f32) (harg22 : arg22.IsWhole) (v352 : IVec S64x128 32) (X_arg9 : BufTy.Contents (Elt Ideal) arg9.view.ty) (X_arg12 : BufTy.Contents (Elt Ideal) arg12.view.ty) (X_arg13 : BufTy.Contents (Elt Ideal) arg13.view.ty) (X_arg18 : BufTy.Contents (Elt Ideal) arg18.view.ty) (X_arg21 : BufTy.Contents (Elt Ideal) arg21.view.ty) (X_arg22 : BufTy.Contents (Elt Ideal) arg22.view.ty) (G_arg19 : BufTy.Contents (Elt Ideal) arg19.view.ty)
  (conv bet dec : ℕ → ℕ → ℝ) (A D : ℕ → ℕ → ℝ) (P : ℕ → ℕ → ℕ → ℝ) (R0 : ℕ)
  (hv : ∀ i j, v352 (ix2 i j) = BitVec.ofNat 32 j.val)
  (h18 : arg18.view.read (Elt Ideal) X_arg18 = N fun r c => conv (R0 + r) c)
  (h21 : arg21.view.read (Elt Ideal) X_arg21 = N fun r l => bet (R0 + r) l)
  (h22 : arg22.view.read (Elt Ideal) X_arg22 = N fun r l => dec (R0 + r) l)
  (h12 : arg12.view.read (Elt Ideal) X_arg12 = N A) (h13 : arg13.view.read (Elt Ideal) X_arg13 = N D)
  (h9 : arg9.view.read (Elt Ideal) X_arg9 = fun i => ((P (i 0).val (i 1).val (i 2).val : ℝ) : EReal))
  (hdec : ∀ k < 4, ∀ l < 16, ∀ i < 64, A l i * sp (P k l i + D l i) = dec (R0 + 64 * k + i) l)

include h9 h12 h13 hdec in
theorem ld20_eq (k : Fin k0_t1_loop.trips) (h : ℕ) (hh : h < 8) (n : ℕ) (hn : n = 8 + h)
    (inb : ∀ a, (![n, 0] : Fin 2 → ℕ) a + S1x64.size a ≤ S16x64.size a) :
    ld20 (F := Ideal) arg9 arg12 arg13 arg20 X_arg9 X_arg12 X_arg13 k ![n, 0] inb = Rw (gc (gT dec h) (R0 + 64 * k.val)) := by
  subst hn
  have e2 : k0_off2 k = ![k.val, 0, 0] := by revert k; decide +kernel
  have r12 := readAt_N h12 (r := 0) (s := 0) (a := 16) (b := 64) rfl inb_S16x64_S16x64_0_0
  have r13 := readAt_N h13 (r := 0) (s := 0) (a := 16) (b := 64) rfl inb_S16x64_S16x64_0_0
  have r9 : View.readAt (Elt Ideal) arg9.view (Rect.unit (s := S4x16x64) (k0_off2 k) S1x16x64.size (k0_off2_inb k)).toLoadRect X_arg9
      = St16 fun l i => P k.val l.val i.val := by
    rw [View.readAt_eq_ld, h9]
    funext i
    have h0 : (i 0).val < 1 := (i 0).isLt
    have e : ∀ a, k0_off2 k a = (![k.val, 0, 0] : Fin 3 → ℕ) a := fun a => congrFun e2 a
    change ((P (k0_off2 k 0 + 1 * (i 0).val) (k0_off2 k 1 + 1 * (i 1).val) (k0_off2 k 2 + 1 * (i 2).val) : ℝ) : EReal) = _
    rw [e 0, e 1, e 2]
    change ((P (k.val + 1 * (i 0).val) (0 + 1 * (i 1).val) (0 + 1 * (i 2).val) : ℝ) : EReal) = ((P k.val (i 1).val (i 2).val : ℝ) : EReal)
    rw [show k.val + 1 * (i 0).val = k.val by omega, zero_add, one_mul, zero_add, one_mul]
  simp only [zero_add] at r12 r13
  have hp : acc (fun l i => A l.val i.val) (fun l i => P k.val l.val i.val) (fun l i => D l.val i.val) ⟨8 + h, by omega⟩
      = gc (gT dec h) (R0 + 64 * k.val) := by
    funext j
    refine Eq.trans ?_ (Delta.sum_le (fun i => gT dec h (R0 + 64 * k.val + i)) j)
    refine Finset.sum_congr rfl fun i _ => ?_
    by_cases c : i ≤ j
    · rw [if_pos c, if_pos c]
      exact hdec k.val (by have := k.isLt; exact Nat.lt_of_lt_of_le k.isLt k0_t1_abs.2.1) (8 + h) (by omega) i.val i.isLt
    · rw [if_neg c, if_neg c]
  unfold ld20 trip.sl.HW_arg20_1
  rw [View.readCov_eq_canon']
  have q12 : View.readAt (Elt Ideal) arg12.view (Rect.unit (s := S16x64) ![0, 0] S16x64.size inb_S16x64_S16x64_0_0).toLoadRect X_arg12
      = M (n := 16) (m := 64) fun l i => A l.val i.val := r12
  have q13 : View.readAt (Elt Ideal) arg13.view (Rect.unit (s := S16x64) ![0, 0] S16x64.size inb_S16x64_S16x64_0_0).toLoadRect X_arg13
      = M (n := 16) (m := 64) fun l i => D l.val i.val := r13
  rw [q12, q13, r9]
  refine Eq.trans (b := fun j => M (acc (fun l i => A l.val i.val) (fun l i => P k.val l.val i.val) (fun l i => D l.val i.val)) ((Rect.unit (s := S16x64) ![8 + h, 0] S1x64.size inb).toLoadRect.idx j)) ?_ ?_
  · funext j
    refine (congrFun (View.canon_cons_unit_lit (S := S16x64) (Val := Elt Ideal) (e := .f32) inb_S16x64_S16x64_0_0 _ [] (by decide)) _).trans ?_
    exact congrFun (pay8_M (fun l i => A l.val i.val) (fun l i => P k.val l.val i.val) (fun l i => D l.val i.val)) _
  · funext j
    rw [← hp]
    have h0 : (j 0).val < 1 := (j 0).isLt
    have e0 : (Rect.unit (s := S16x64) ![8 + h, 0] S1x64.size inb).toLoadRect.idx j 0 = (⟨8 + h, by omega⟩ : Fin 16) := Fin.ext (by
      change 8 + h + 1 * (j 0).val = 8 + h; omega)
    have e1 : (Rect.unit (s := S16x64) ![8 + h, 0] S1x64.size inb).toLoadRect.idx j 1 = j 1 := Fin.ext (by
      change 0 + 1 * (j 1).val = (j 1).val; omega)
    unfold M
    rw [e0, e1]
    rfl

include h22 in
theorem gH_eq (k : Fin k0_t1_loop.trips) (h : Fin 8) :
    ∃ G : Matrix (Fin 64) (Fin 128) ℝ, gH (F := Ideal) (ld22 arg22 X_arg22 k) = M G
      ∧ ∀ h < 8, ∀ n : Fin 128, n.val = 8 + h → (fun i => G i n) = gc (gT dec h) (R0 + 64 * k.val) := by
  have e1 : k0_off1 k = ![64 * k.val, 0] := by revert k; decide +kernel
  refine ⟨sums fun i l => dec (R0 + (64 * k.val + i.val)) (0 + l.val), ?_, fun h hh n hn => ?_⟩
  · unfold ld22
    exact (congrArg gH (readAt_N h22 e1 (k0_off1_inb k))).trans (gH_M _)
  · funext i
    refine Eq.trans (Finset.sum_congr rfl fun j _ => ?_) (Delta.sum_le (fun i => gT dec h (R0 + 64 * k.val + i)) i)
    change (if j ≤ i then dec (R0 + (64 * k.val + j.val)) (0 + n.val) else 0) = if j ≤ i then dec (R0 + 64 * k.val + j.val) (8 + h) else 0
    rw [Nat.add_assoc, hn, zero_add]

/-- The head's rows of the trip. -/
theorem part_k (k h : ℕ) : part (R0 + 64 * k) (kT conv h)
    = nrm (gated fun i j => conv (R0 + (64 * k + i.val)) (1024 + 128 * h + j.val)) := by
  funext i a
  unfold part kT unitT rowT nrm rows gated
  rw [Nat.add_assoc]

theorem part_q (k h : ℕ) : part (R0 + 64 * k) (qT conv h)
    = qscale • nrm (gated fun i j => conv (R0 + (64 * k + i.val)) (128 * h + j.val)) := by
  funext i a
  unfold part qT unitT rowT nrm rows gated
  rw [Nat.add_assoc]
  rfl

theorem part_v (k h : ℕ) : part (R0 + 64 * k) (vT conv h)
    = gated fun i j => conv (R0 + (64 * k + i.val)) (2048 + 128 * h + j.val) := by
  funext i a
  unfold part vT rowT gated
  rw [Nat.add_assoc]

include hv h18 h21 h22 h12 h13 h9 hdec

theorem head_s (k : Fin k0_t1_loop.trips) (h : ℕ) (hh : h < 8) {o2 o3 : Fin 2 → ℕ} (e2 : o2 = ![64 * k.val, 1024 + 128 * h])
    (e3 : o3 = ![64 * k.val, 2048 + 128 * h]) (i2 : ∀ a, o2 a + S64x128.size a ≤ S256x3072.size a) (i3 : ∀ a, o3 a + S64x128.size a ≤ S256x3072.size a)
    (n : ℕ) (hn : n = 8 + h) (inb : ∀ a, (![n, 0] : Fin 2 → ℕ) a + S1x64.size a ≤ S16x64.size a) :
    sH (F := Ideal) v352 (BitVec.ofNat 32 h) (BitVec.ofNat 32 n) (ld18 arg18 X_arg18 o2 i2) (ld18 arg18 X_arg18 o3 i3) (ld21 arg21 X_arg21 k)
      (gH (ld22 arg22 X_arg22 k)) (ld20 arg9 arg12 arg13 arg20 X_arg9 X_arg12 X_arg13 k ![n, 0] inb) (St (stT conv bet dec h (R0 + 64 * k.val)))
      = St (stT conv bet dec h (R0 + 64 * (k.val + 1))) := by
  obtain ⟨G, hG, hg⟩ := gH_eq arg22 X_arg22 dec R0 h22 k ⟨h, hh⟩
  have e1 := off1_eq k
  rw [ld20_eq arg9 arg12 arg13 arg20 X_arg9 X_arg12 X_arg13 dec A D P R0 h12 h13 h9 hdec k h hh n hn inb, hG]
  have r21 : ld21 (F := Ideal) arg21 X_arg21 k = M fun i l => bet (R0 + (64 * k.val + i.val)) (0 + l.val) := readAt_N h21 e1 (k0_off1_inb k)
  have r2 : ld18 (F := Ideal) arg18 X_arg18 o2 i2 = M fun i j => conv (R0 + (64 * k.val + i.val)) (1024 + 128 * h + j.val) := readAt_N h18 e2 i2
  have r3 : ld18 (F := Ideal) arg18 X_arg18 o3 i3 = M fun i j => conv (R0 + (64 * k.val + i.val)) (2048 + 128 * h + j.val) := readAt_N h18 e3 i3
  rw [r21, r2, r3]
  exact sH_eq (kT conv h) (vT conv h) (bT bet h) (gT dec h) (R0 + 64 * k.val) v352 hv _ _ _ G (part_k conv R0 k.val h) (part_v conv R0 k.val h)
    ⟨h, by omega⟩ ⟨n, by omega⟩ (by funext i; unfold bT; rw [Nat.add_assoc, zero_add]) (hg h hh _ hn)

theorem head_o (k : Fin k0_t1_loop.trips) (h : ℕ) (hh : h < 8) {o1 o2 o3 : Fin 2 → ℕ} (e0 : o1 = ![64 * k.val, 128 * h]) (e2 : o2 = ![64 * k.val, 1024 + 128 * h])
    (e3 : o3 = ![64 * k.val, 2048 + 128 * h]) (i1 : ∀ a, o1 a + S64x128.size a ≤ S256x3072.size a) (i2 : ∀ a, o2 a + S64x128.size a ≤ S256x3072.size a)
    (i3 : ∀ a, o3 a + S64x128.size a ≤ S256x3072.size a)
    (n : ℕ) (hn : n = 8 + h) (inb : ∀ a, (![n, 0] : Fin 2 → ℕ) a + S1x64.size a ≤ S16x64.size a) :
    oH (F := Ideal) v352 (BitVec.ofNat 32 h) (BitVec.ofNat 32 n) (ld18 arg18 X_arg18 o1 i1) (ld18 arg18 X_arg18 o2 i2) (ld18 arg18 X_arg18 o3 i3) (ld21 arg21 X_arg21 k)
      (gH (ld22 arg22 X_arg22 k)) (ld20 arg9 arg12 arg13 arg20 X_arg9 X_arg12 X_arg13 k ![n, 0] inb) (St (stT conv bet dec h (R0 + 64 * k.val)))
      = M fun i b => outT conv bet dec h (R0 + 64 * k.val + i.val) b := by
  obtain ⟨G, hG, hg⟩ := gH_eq arg22 X_arg22 dec R0 h22 k ⟨h, hh⟩
  have e1 := off1_eq k
  rw [ld20_eq arg9 arg12 arg13 arg20 X_arg9 X_arg12 X_arg13 dec A D P R0 h12 h13 h9 hdec k h hh n hn inb, hG]
  have r21 : ld21 (F := Ideal) arg21 X_arg21 k = M fun i l => bet (R0 + (64 * k.val + i.val)) (0 + l.val) := readAt_N h21 e1 (k0_off1_inb k)
  have r1 : ld18 (F := Ideal) arg18 X_arg18 o1 i1 = M fun i j => conv (R0 + (64 * k.val + i.val)) (128 * h + j.val) := readAt_N h18 e0 i1
  have r2 : ld18 (F := Ideal) arg18 X_arg18 o2 i2 = M fun i j => conv (R0 + (64 * k.val + i.val)) (1024 + 128 * h + j.val) := readAt_N h18 e2 i2
  have r3 : ld18 (F := Ideal) arg18 X_arg18 o3 i3 = M fun i j => conv (R0 + (64 * k.val + i.val)) (2048 + 128 * h + j.val) := readAt_N h18 e3 i3
  rw [r21, r1, r2, r3]
  exact oH_eq (qT conv h) (kT conv h) (vT conv h) (bT bet h) (gT dec h) (R0 + 64 * k.val) v352 hv _ _ _ _ G (part_q conv R0 k.val h) (part_k conv R0 k.val h)
    (part_v conv R0 k.val h) ⟨h, by omega⟩ ⟨n, by omega⟩ (by funext i; unfold bT; rw [Nat.add_assoc, zero_add]) (hg h hh _ hn)

theorem trip_pieces (k : Fin k0_t1_loop.trips) (f : BufTy.Contents (Elt Ideal) arg19.view.ty)
    (hf : arg19.view.read (Elt Ideal) f = Sts fun h => stT conv bet dec h (R0 + 64 * k.val)) :
    (∀ p ∈ (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 k).1 f, ∀ x, p.2 x = G13 conv bet dec R0 (p.1.emb x))
      ∧ (∀ p ∈ (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 k).2.1 f, ∀ x, p.2 x = G14 conv bet dec R0 (p.1.emb x))
      ∧ (∀ p ∈ (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 k).2.2.2.1 f, ∀ x, p.2 x = Sts (fun h => stT conv bet dec h (R0 + 64 * (k.val + 1))) (p.1.emb x))
      ∧ ∀ y, ∃ p ∈ (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 k).2.2.2.1 f, y ∈ p.1.set := by
  have rs := fun h inb => readAt_Sts hf h inb
  have ho := fun h hh o1 o2 o3 e0 e2 e3 i1 i2 i3 n hn inb => @head_o arg9 arg12 arg13 arg18 arg20 arg21 arg22 v352 X_arg9 X_arg12 X_arg13 X_arg18 X_arg21 X_arg22 conv bet dec A D P R0 hv h18 h21 h22 h12 h13 h9 hdec k h hh o1 o2 o3 e0 e2 e3 i1 i2 i3 n hn inb
  have hs := fun h hh o2 o3 e2 e3 i2 i3 n hn inb => @head_s arg9 arg12 arg13 arg18 arg20 arg21 arg22 v352 X_arg9 X_arg12 X_arg13 X_arg18 X_arg21 X_arg22 conv bet dec A D P R0 hv h18 h21 h22 h12 h13 h9 hdec k h hh o2 o3 e2 e3 i2 i3 n hn inb
  refine ⟨?_, ?_, ?_, ?_⟩
  · rw [trip_o]
    simp only [rs, List.mem_cons, List.not_mem_nil, or_false]
    rintro p (rfl | rfl | rfl | rfl | rfl | rfl | rfl | rfl) x
    · exact (congrFun (ho 7 (by decide) _ _ _ (off7 k).1 (off7 k).2.1 (off7 k).2.2.1 (k0_off24_inb k) (k0_off25_inb k) (k0_off26_inb k) 15 rfl inb_S16x64_S1x64_15_0) x).trans (piece_o conv bet dec R0 k.val 7 (off7 k).2.2.2.1 (k0_off48_inb k) x)
    · exact (congrFun (ho 6 (by decide) _ _ _ (off6 k).1 (off6 k).2.1 (off6 k).2.2.1 (k0_off21_inb k) (k0_off22_inb k) (k0_off23_inb k) 14 rfl inb_S16x64_S1x64_14_0) x).trans (piece_o conv bet dec R0 k.val 6 (off6 k).2.2.2.1 (k0_off45_inb k) x)
    · exact (congrFun (ho 5 (by decide) _ _ _ (off5 k).1 (off5 k).2.1 (off5 k).2.2.1 (k0_off18_inb k) (k0_off19_inb k) (k0_off20_inb k) 13 rfl inb_S16x64_S1x64_13_0) x).trans (piece_o conv bet dec R0 k.val 5 (off5 k).2.2.2.1 (k0_off42_inb k) x)
    · exact (congrFun (ho 4 (by decide) _ _ _ (off4 k).1 (off4 k).2.1 (off4 k).2.2.1 (k0_off15_inb k) (k0_off16_inb k) (k0_off17_inb k) 12 rfl inb_S16x64_S1x64_12_0) x).trans (piece_o conv bet dec R0 k.val 4 (off4 k).2.2.2.1 (k0_off39_inb k) x)
    · exact (congrFun (ho 3 (by decide) _ _ _ (off3 k).1 (off3 k).2.1 (off3 k).2.2.1 (k0_off12_inb k) (k0_off13_inb k) (k0_off14_inb k) 11 rfl inb_S16x64_S1x64_11_0) x).trans (piece_o conv bet dec R0 k.val 3 (off3 k).2.2.2.1 (k0_off36_inb k) x)
    · exact (congrFun (ho 2 (by decide) _ _ _ (off2 k).1 (off2 k).2.1 (off2 k).2.2.1 (k0_off9_inb k) (k0_off10_inb k) (k0_off11_inb k) 10 rfl inb_S16x64_S1x64_10_0) x).trans (piece_o conv bet dec R0 k.val 2 (off2 k).2.2.2.1 (k0_off33_inb k) x)
    · exact (congrFun (ho 1 (by decide) _ _ _ (off1 k).1 (off1 k).2.1 (off1 k).2.2.1 (k0_off6_inb k) (k0_off7_inb k) (k0_off8_inb k) 9 rfl inb_S16x64_S1x64_9_0) x).trans (piece_o conv bet dec R0 k.val 1 (off1 k).2.2.2.1 (k0_off30_inb k) x)
    · exact (congrFun (ho 0 (by decide) _ _ _ (off0 k).1 (off0 k).2.1 (off0 k).2.2.1 (k0_off3_inb k) (k0_off4_inb k) (k0_off5_inb k) 8 rfl inb_S16x64_S1x64_8_0) x).trans (piece_o conv bet dec R0 k.val 0 (off0 k).2.2.2.1 (k0_off27_inb k) x)
  · rw [trip_b]
    simp only [rs, List.mem_cons, List.not_mem_nil, or_false, bH_St]
    rintro p (rfl | rfl | rfl | rfl | rfl | rfl | rfl | rfl) x
    · exact piece_b conv bet dec R0 k.val 7 (off7 k).2.2.2.2 (k0_off49_inb k) x
    · exact piece_b conv bet dec R0 k.val 6 (off6 k).2.2.2.2 (k0_off46_inb k) x
    · exact piece_b conv bet dec R0 k.val 5 (off5 k).2.2.2.2 (k0_off43_inb k) x
    · exact piece_b conv bet dec R0 k.val 4 (off4 k).2.2.2.2 (k0_off40_inb k) x
    · exact piece_b conv bet dec R0 k.val 3 (off3 k).2.2.2.2 (k0_off37_inb k) x
    · exact piece_b conv bet dec R0 k.val 2 (off2 k).2.2.2.2 (k0_off34_inb k) x
    · exact piece_b conv bet dec R0 k.val 1 (off1 k).2.2.2.2 (k0_off31_inb k) x
    · exact piece_b conv bet dec R0 k.val 0 (off0 k).2.2.2.2 (k0_off28_inb k) x
  · rw [trip_s]
    simp only [rs, List.mem_cons, List.not_mem_nil, or_false]
    rintro p (rfl | rfl | rfl | rfl | rfl | rfl | rfl | rfl) x
    · exact (congrFun (hs 7 (by decide) _ _ (off7 k).2.1 (off7 k).2.2.1 (k0_off25_inb k) (k0_off26_inb k) 15 rfl inb_S16x64_S1x64_15_0) x).trans (piece_s (fun h => stT conv bet dec h (R0 + 64 * (k.val + 1))) 7 inb_S8x128x128_S1x128x128_7_0_0 x)
    · exact (congrFun (hs 6 (by decide) _ _ (off6 k).2.1 (off6 k).2.2.1 (k0_off22_inb k) (k0_off23_inb k) 14 rfl inb_S16x64_S1x64_14_0) x).trans (piece_s (fun h => stT conv bet dec h (R0 + 64 * (k.val + 1))) 6 inb_S8x128x128_S1x128x128_6_0_0 x)
    · exact (congrFun (hs 5 (by decide) _ _ (off5 k).2.1 (off5 k).2.2.1 (k0_off19_inb k) (k0_off20_inb k) 13 rfl inb_S16x64_S1x64_13_0) x).trans (piece_s (fun h => stT conv bet dec h (R0 + 64 * (k.val + 1))) 5 inb_S8x128x128_S1x128x128_5_0_0 x)
    · exact (congrFun (hs 4 (by decide) _ _ (off4 k).2.1 (off4 k).2.2.1 (k0_off16_inb k) (k0_off17_inb k) 12 rfl inb_S16x64_S1x64_12_0) x).trans (piece_s (fun h => stT conv bet dec h (R0 + 64 * (k.val + 1))) 4 inb_S8x128x128_S1x128x128_4_0_0 x)
    · exact (congrFun (hs 3 (by decide) _ _ (off3 k).2.1 (off3 k).2.2.1 (k0_off13_inb k) (k0_off14_inb k) 11 rfl inb_S16x64_S1x64_11_0) x).trans (piece_s (fun h => stT conv bet dec h (R0 + 64 * (k.val + 1))) 3 inb_S8x128x128_S1x128x128_3_0_0 x)
    · exact (congrFun (hs 2 (by decide) _ _ (off2 k).2.1 (off2 k).2.2.1 (k0_off10_inb k) (k0_off11_inb k) 10 rfl inb_S16x64_S1x64_10_0) x).trans (piece_s (fun h => stT conv bet dec h (R0 + 64 * (k.val + 1))) 2 inb_S8x128x128_S1x128x128_2_0_0 x)
    · exact (congrFun (hs 1 (by decide) _ _ (off1 k).2.1 (off1 k).2.2.1 (k0_off7_inb k) (k0_off8_inb k) 9 rfl inb_S16x64_S1x64_9_0) x).trans (piece_s (fun h => stT conv bet dec h (R0 + 64 * (k.val + 1))) 1 inb_S8x128x128_S1x128x128_1_0_0 x)
    · exact (congrFun (hs 0 (by decide) _ _ (off0 k).2.1 (off0 k).2.2.1 (k0_off4_inb k) (k0_off5_inb k) 8 rfl inb_S16x64_S1x64_8_0) x).trans (piece_s (fun h => stT conv bet dec h (R0 + 64 * (k.val + 1))) 0 inb_S8x128x128_S1x128x128_0_0_0 x)
  · intro y
    rw [trip_s]
    have hy : (y 0).val < 8 := (y 0).isLt
    have h1 : (y 1).val < 128 := (y 1).isLt
    have h2 : (y 2).val < 128 := (y 2).isLt
    rcases (by omega : (y 0).val = 7 ∨ (y 0).val = 6 ∨ (y 0).val = 5 ∨ (y 0).val = 4 ∨ (y 0).val = 3 ∨ (y 0).val = 2 ∨ (y 0).val = 1 ∨ (y 0).val = 0) with
      c | c | c | c | c | c | c | c
    · exact ⟨_, List.mem_cons_self, mem_state 7 inb_S8x128x128_S1x128x128_7_0_0 y c⟩
    · exact ⟨_, (List.mem_cons_of_mem _ List.mem_cons_self), mem_state 6 inb_S8x128x128_S1x128x128_6_0_0 y c⟩
    · exact ⟨_, (List.mem_cons_of_mem _ (List.mem_cons_of_mem _ List.mem_cons_self)), mem_state 5 inb_S8x128x128_S1x128x128_5_0_0 y c⟩
    · exact ⟨_, (List.mem_cons_of_mem _ (List.mem_cons_of_mem _ (List.mem_cons_of_mem _ List.mem_cons_self))), mem_state 4 inb_S8x128x128_S1x128x128_4_0_0 y c⟩
    · exact ⟨_, (List.mem_cons_of_mem _ (List.mem_cons_of_mem _ (List.mem_cons_of_mem _ (List.mem_cons_of_mem _ List.mem_cons_self)))), mem_state 3 inb_S8x128x128_S1x128x128_3_0_0 y c⟩
    · exact ⟨_, (List.mem_cons_of_mem _ (List.mem_cons_of_mem _ (List.mem_cons_of_mem _ (List.mem_cons_of_mem _ (List.mem_cons_of_mem _ List.mem_cons_self))))), mem_state 2 inb_S8x128x128_S1x128x128_2_0_0 y c⟩
    · exact ⟨_, (List.mem_cons_of_mem _ (List.mem_cons_of_mem _ (List.mem_cons_of_mem _ (List.mem_cons_of_mem _ (List.mem_cons_of_mem _ (List.mem_cons_of_mem _ List.mem_cons_self)))))), mem_state 1 inb_S8x128x128_S1x128x128_1_0_0 y c⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_state 0 inb_S8x128x128_S1x128x128_0_0_0 y c⟩

theorem pcs_inv (hG : arg19.view.read (Elt Ideal) G_arg19 = Sts fun h => stT conv bet dec h R0) (n : ℕ) (hn : n ≤ 4) :
    arg19.view.read (Elt Ideal) (arg19.view.writes (Elt Ideal) G_arg19 (pcs (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 G_arg19 n).2.2.2.1) = Sts (fun h => stT conv bet dec h (R0 + 64 * n))
      ∧ (∀ p ∈ (pcs (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 G_arg19 n).1, ∀ x, p.2 x = G13 conv bet dec R0 (p.1.emb x))
      ∧ (∀ p ∈ (pcs (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 G_arg19 n).2.1, ∀ x, p.2 x = G14 conv bet dec R0 (p.1.emb x)) := by
  induction n with
  | zero => exact ⟨hG, fun p hp => absurd hp List.not_mem_nil, fun p hp => absurd hp List.not_mem_nil⟩
  | succ n ih =>
    obtain ⟨i1, i2, i3⟩ := ih (by omega)
    have hk : n < k0_t1_loop.trips := Nat.lt_of_lt_of_eq hn (by decide)
    have e := pcs_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 G_arg19 ⟨n, hk⟩
    obtain ⟨t1, t2, t3, t4⟩ := @trip_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v352 X_arg9 X_arg12 X_arg13 X_arg18 X_arg21 X_arg22 conv bet dec A D P R0 hv h18 h21 h22 h12 h13 h9 hdec ⟨n, hk⟩ _ i1
    rw [show n + 1 = (⟨n, hk⟩ : Fin k0_t1_loop.trips).val + 1 from rfl, e]
    refine ⟨?_, ?_, ?_⟩
    · funext y
      rw [View.writes_append]
      exact read_agree _ _ _ _ t3 y (t4 y)
    · intro p hp
      rcases List.mem_append.mp hp with hp | hp
      · exact t1 p hp
      · exact i2 p hp
    · intro p hp
      rcases List.mem_append.mp hp with hp | hp
      · exact t2 p hp
      · exact i3 p hp

end Cert.DnFwdIdeal.Own

end
-- ==== Proof.DnScratch.lean ====
/- What the gated delta rule's kernel puts into its scratch buffers before its loop: the rows with those before them, the
   convolved rows and the gates. -/
module

public import proofs.«01_k».proof.Proof.DnTrip
public import proofs.«01_k».proof.Proof.DnRunA
public import proofs.«01_k».proof.Proof.DnRunB
public import Idealize.ShloMosaic.Lib.Pipeline.ValueKit.Basic

@[expose] public section

set_option maxRecDepth 16384
set_option maxHeartbeats 1000000

noncomputable section

namespace Cert.DnFwdIdeal.Own

open Cert.DnFwdIdeal Cert.DnFwdIdeal.Gen Cert.Reals
open Idealize.ShloMosaic Idealize.ShloMosaic.TcCoe
open Matrix

/-! ## Pieces -/

theorem canon_agree {s : Shape} {e : EltTy} (G : s.Idx → Elt Ideal e) (L : List (View.Piece (Elt Ideal) s e))
    (h : ∀ p ∈ L, ∀ x, p.2 x = G (p.1.emb x)) (hy : ∀ y, ∃ p ∈ L, y ∈ p.1.set) : View.canon L = G := by
  funext y
  have := hy y
  clear hy
  induction L with
  | nil => obtain ⟨_, hm, _⟩ := this; exact absurd hm List.not_mem_nil
  | cons p L ih =>
    by_cases c : y ∈ p.1.set
    · have hp := h p List.mem_cons_self
      obtain ⟨r, w⟩ := p
      obtain ⟨x, rfl⟩ : ∃ x, r.emb x = y := r.exists_idx_of_mem c
      rw [View.canon_cons_emb]
      exact hp x
    · rw [View.canon_cons_of_not_mem p L c]
      refine ih (fun p' hp' => h p' (List.mem_cons_of_mem _ hp')) ?_
      obtain ⟨p', hm, hy'⟩ := this
      rcases List.mem_cons.mp hm with rfl | hm
      · exact absurd hy' c
      · exact ⟨p', hm, hy'⟩

theorem mem_rect {n m : ℕ} (r s a b : ℕ) (inb : ∀ x, (![r, s] : Fin 2 → ℕ) x + (![a, b] : Fin 2 → ℕ) x ≤ (⟨2, ![n, m]⟩ : Shape).size x)
    (y : (⟨2, ![n, m]⟩ : Shape).Idx) (h1 : r ≤ (y 0).val) (h2 : (y 0).val < r + a) (h3 : s ≤ (y 1).val) (h4 : (y 1).val < s + b) :
    y ∈ (Rect.unit (s := ⟨2, ![n, m]⟩) ![r, s] ![a, b] inb).set :=
  Rect.mem_set_unit.mpr (Fin.forall_fin_two.mpr ⟨⟨h1, h2⟩, h3, h4⟩)

theorem piece_N {n m a b r s : ℕ} (C : ℕ → ℕ → ℝ) {o : Fin 2 → ℕ} (ho : o = ![r, s]) (inb : ∀ x, o x + (![a, b] : Fin 2 → ℕ) x ≤ (⟨2, ![n, m]⟩ : Shape).size x)
    (x : (Rect.unit (s := ⟨2, ![n, m]⟩) o ![a, b] inb).shape.Idx) :
    N (n := a) (m := b) (fun i j => C (r + i) (s + j)) x = N C ((Rect.unit (s := ⟨2, ![n, m]⟩) o ![a, b] inb).emb x) := by
  subst ho
  change ((C (r + (x 0).val) (s + (x 1).val) : ℝ) : EReal) = ((C (r + 1 * (x 0).val) (s + 1 * (x 1).val) : ℝ) : EReal)
  rw [one_mul, one_mul]

theorem M_N {n m : ℕ} (C : ℕ → ℕ → ℝ) : (M fun (i : Fin n) (j : Fin m) => C i.val j.val) = N C := rfl

/-! ## The strips of the convolution -/

section

variable {F : FTy → Type} [FloatOps F]

def strip (w0 : FVec F S1x256 .f32) (x0 : FVec F S256x256 .f32) (w1 : FVec F S1x256 .f32) (x1 : FVec F S256x256 .f32)
    (w2 : FVec F S1x256 .f32) (x2 : FVec F S256x256 .f32) (w3 : FVec F S1x256 .f32) (x3 : FVec F S256x256 .f32) : FVec F S256x256 .f32 :=
  shapeCast S256x256 (addf (addf (addf (mulf (broadcastTo S256x256 w0 broadcasts_S1x256_S256x256) x0)
    (mulf (broadcastTo S256x256 w1 broadcasts_S1x256_S256x256) x1)) (mulf (broadcastTo S256x256 w2 broadcasts_S1x256_S256x256) x2))
    (mulf (broadcastTo S256x256 w3 broadcasts_S1x256_S256x256) x3)) shapeCasts_S256x256_S256x256

variable (c : Dev nD) (i : grid0.Coords) (arg1 : Memref sig .tc .vmem S256x1024 .bf16) (harg1 : arg1.IsWhole) (arg2 : Memref sig .tc .vmem S256x1024 .bf16) (harg2 : arg2.IsWhole)
  (arg3 : Memref sig .tc .vmem S256x1024 .bf16) (harg3 : arg3.IsWhole) (arg4 : Memref sig .tc .vmem S16x1024 .bf16) (harg4 : arg4.IsWhole)
  (arg5 : Memref sig .tc .vmem S16x1024 .bf16) (harg5 : arg5.IsWhole) (arg6 : Memref sig .tc .vmem S16x1024 .bf16) (harg6 : arg6.IsWhole)
  (arg7 : Memref sig .tc .vmem S4x3072 .f32) (harg7 : arg7.IsWhole) (arg17 : Memref sig .tc .vmem S272x3072 .f32)
  (x0 x1 x2 : Vec F S256x1024 .bf16) (x3 x4 x5 : Vec F S16x1024 .bf16) (x6 : Vec F S4x3072 .f32)

/-- A row of the taps. -/
abbrev lw (o : Fin 2 → ℕ) (h : ∀ a, o a + S1x256.size a ≤ S4x3072.size a) : Vec F S1x256 .f32 :=
  View.readAt (Elt F) arg7.view (Rect.unit (s := S4x3072) o S1x256.size h).toLoadRect (harg7.unread x6)

/-- A strip of the rows. -/
abbrev lx (L : List (View.Piece (Elt F) S272x3072 .f32)) (o : Fin 2 → ℕ) (h : ∀ a, o a + S256x256.size a ≤ S272x3072.size a) : Vec F S256x256 .f32 :=
  arg17.view.readCov L (Rect.unit (s := S272x3072) o S256x256.size h).toLoadRect

theorem conv_pieces : runA.sl.HS1_12 c i arg1 harg1 arg2 harg2 arg3 harg3 arg4 harg4 arg5 harg5 arg6 harg6 arg7 harg7 arg17 x0 x1 x2 x3 x4 x5 x6
    = [⟨Rect.unit ![0, 2816] ![256, 256] inb_S256x3072_S256x256_0_2816, strip (lw arg7 harg7 x6 ![0, 2816] inb_S4x3072_S1x256_0_2816) (lx arg17 (runA.sl.HS0_6 c i arg1 harg1 arg2 harg2 arg3 harg3 arg4 harg4 arg5 harg5 arg6 harg6 x0 x1 x2 x3 x4 x5) ![13, 2816] inb_S272x3072_S256x256_13_2816) (lw arg7 harg7 x6 ![1, 2816] inb_S4x3072_S1x256_1_2816) (lx arg17 (runA.sl.HS0_6 c i arg1 harg1 arg2 harg2 arg3 harg3 arg4 harg4 arg5 harg5 arg6 harg6 x0 x1 x2 x3 x4 x5) ![14, 2816] inb_S272x3072_S256x256_14_2816) (lw arg7 harg7 x6 ![2, 2816] inb_S4x3072_S1x256_2_2816) (lx arg17 (runA.sl.HS0_6 c i arg1 harg1 arg2 harg2 arg3 harg3 arg4 harg4 arg5 harg5 arg6 harg6 x0 x1 x2 x3 x4 x5) ![15, 2816] inb_S272x3072_S256x256_15_2816) (lw arg7 harg7 x6 ![3, 2816] inb_S4x3072_S1x256_3_2816) (lx arg17 (runA.sl.HS0_6 c i arg1 harg1 arg2 harg2 arg3 harg3 arg4 harg4 arg5 harg5 arg6 harg6 x0 x1 x2 x3 x4 x5) ![16, 2816] inb_S272x3072_S256x256_16_2816)⟩,
        ⟨Rect.unit ![0, 2560] ![256, 256] inb_S256x3072_S256x256_0_2560, strip (lw arg7 harg7 x6 ![0, 2560] inb_S4x3072_S1x256_0_2560) (lx arg17 (runA.sl.HS0_6 c i arg1 harg1 arg2 harg2 arg3 harg3 arg4 harg4 arg5 harg5 arg6 harg6 x0 x1 x2 x3 x4 x5) ![13, 2560] inb_S272x3072_S256x256_13_2560) (lw arg7 harg7 x6 ![1, 2560] inb_S4x3072_S1x256_1_2560) (lx arg17 (runA.sl.HS0_6 c i arg1 harg1 arg2 harg2 arg3 harg3 arg4 harg4 arg5 harg5 arg6 harg6 x0 x1 x2 x3 x4 x5) ![14, 2560] inb_S272x3072_S256x256_14_2560) (lw arg7 harg7 x6 ![2, 2560] inb_S4x3072_S1x256_2_2560) (lx arg17 (runA.sl.HS0_6 c i arg1 harg1 arg2 harg2 arg3 harg3 arg4 harg4 arg5 harg5 arg6 harg6 x0 x1 x2 x3 x4 x5) ![15, 2560] inb_S272x3072_S256x256_15_2560) (lw arg7 harg7 x6 ![3, 2560] inb_S4x3072_S1x256_3_2560) (lx arg17 (runA.sl.HS0_6 c i arg1 harg1 arg2 harg2 arg3 harg3 arg4 harg4 arg5 harg5 arg6 harg6 x0 x1 x2 x3 x4 x5) ![16, 2560] inb_S272x3072_S256x256_16_2560)⟩,
        ⟨Rect.unit ![0, 2304] ![256, 256] inb_S256x3072_S256x256_0_2304, strip (lw arg7 harg7 x6 ![0, 2304] inb_S4x3072_S1x256_0_2304) (lx arg17 (runA.sl.HS0_6 c i arg1 harg1 arg2 harg2 arg3 harg3 arg4 harg4 arg5 harg5 arg6 harg6 x0 x1 x2 x3 x4 x5) ![13, 2304] inb_S272x3072_S256x256_13_2304) (lw arg7 harg7 x6 ![1, 2304] inb_S4x3072_S1x256_1_2304) (lx arg17 (runA.sl.HS0_6 c i arg1 harg1 arg2 harg2 arg3 harg3 arg4 harg4 arg5 harg5 arg6 harg6 x0 x1 x2 x3 x4 x5) ![14, 2304] inb_S272x3072_S256x256_14_2304) (lw arg7 harg7 x6 ![2, 2304] inb_S4x3072_S1x256_2_2304) (lx arg17 (runA.sl.HS0_6 c i arg1 harg1 arg2 harg2 arg3 harg3 arg4 harg4 arg5 harg5 arg6 harg6 x0 x1 x2 x3 x4 x5) ![15, 2304] inb_S272x3072_S256x256_15_2304) (lw arg7 harg7 x6 ![3, 2304] inb_S4x3072_S1x256_3_2304) (lx arg17 (runA.sl.HS0_6 c i arg1 harg1 arg2 harg2 arg3 harg3 arg4 harg4 arg5 harg5 arg6 harg6 x0 x1 x2 x3 x4 x5) ![16, 2304] inb_S272x3072_S256x256_16_2304)⟩,
        ⟨Rect.unit ![0, 2048] ![256, 256] inb_S256x3072_S256x256_0_2048, strip (lw arg7 harg7 x6 ![0, 2048] inb_S4x3072_S1x256_0_2048) (lx arg17 (runA.sl.HS0_6 c i arg1 harg1 arg2 harg2 arg3 harg3 arg4 harg4 arg5 harg5 arg6 harg6 x0 x1 x2 x3 x4 x5) ![13, 2048] inb_S272x3072_S256x256_13_2048) (lw arg7 harg7 x6 ![1, 2048] inb_S4x3072_S1x256_1_2048) (lx arg17 (runA.sl.HS0_6 c i arg1 harg1 arg2 harg2 arg3 harg3 arg4 harg4 arg5 harg5 arg6 harg6 x0 x1 x2 x3 x4 x5) ![14, 2048] inb_S272x3072_S256x256_14_2048) (lw arg7 harg7 x6 ![2, 2048] inb_S4x3072_S1x256_2_2048) (lx arg17 (runA.sl.HS0_6 c i arg1 harg1 arg2 harg2 arg3 harg3 arg4 harg4 arg5 harg5 arg6 harg6 x0 x1 x2 x3 x4 x5) ![15, 2048] inb_S272x3072_S256x256_15_2048) (lw arg7 harg7 x6 ![3, 2048] inb_S4x3072_S1x256_3_2048) (lx arg17 (runA.sl.HS0_6 c i arg1 harg1 arg2 harg2 arg3 harg3 arg4 harg4 arg5 harg5 arg6 harg6 x0 x1 x2 x3 x4 x5) ![16, 2048] inb_S272x3072_S256x256_16_2048)⟩,
        ⟨Rect.unit ![0, 1792] ![256, 256] inb_S256x3072_S256x256_0_1792, strip (lw arg7 harg7 x6 ![0, 1792] inb_S4x3072_S1x256_0_1792) (lx arg17 (runA.sl.HS0_6 c i arg1 harg1 arg2 harg2 arg3 harg3 arg4 harg4 arg5 harg5 arg6 harg6 x0 x1 x2 x3 x4 x5) ![13, 1792] inb_S272x3072_S256x256_13_1792) (lw arg7 harg7 x6 ![1, 1792] inb_S4x3072_S1x256_1_1792) (lx arg17 (runA.sl.HS0_6 c i arg1 harg1 arg2 harg2 arg3 harg3 arg4 harg4 arg5 harg5 arg6 harg6 x0 x1 x2 x3 x4 x5) ![14, 1792] inb_S272x3072_S256x256_14_1792) (lw arg7 harg7 x6 ![2, 1792] inb_S4x3072_S1x256_2_1792) (lx arg17 (runA.sl.HS0_6 c i arg1 harg1 arg2 harg2 arg3 harg3 arg4 harg4 arg5 harg5 arg6 harg6 x0 x1 x2 x3 x4 x5) ![15, 1792] inb_S272x3072_S256x256_15_1792) (lw arg7 harg7 x6 ![3, 1792] inb_S4x3072_S1x256_3_1792) (lx arg17 (runA.sl.HS0_6 c i arg1 harg1 arg2 harg2 arg3 harg3 arg4 harg4 arg5 harg5 arg6 harg6 x0 x1 x2 x3 x4 x5) ![16, 1792] inb_S272x3072_S256x256_16_1792)⟩,
        ⟨Rect.unit ![0, 1536] ![256, 256] inb_S256x3072_S256x256_0_1536, strip (lw arg7 harg7 x6 ![0, 1536] inb_S4x3072_S1x256_0_1536) (lx arg17 (runA.sl.HS0_6 c i arg1 harg1 arg2 harg2 arg3 harg3 arg4 harg4 arg5 harg5 arg6 harg6 x0 x1 x2 x3 x4 x5) ![13, 1536] inb_S272x3072_S256x256_13_1536) (lw arg7 harg7 x6 ![1, 1536] inb_S4x3072_S1x256_1_1536) (lx arg17 (runA.sl.HS0_6 c i arg1 harg1 arg2 harg2 arg3 harg3 arg4 harg4 arg5 harg5 arg6 harg6 x0 x1 x2 x3 x4 x5) ![14, 1536] inb_S272x3072_S256x256_14_1536) (lw arg7 harg7 x6 ![2, 1536] inb_S4x3072_S1x256_2_1536) (lx arg17 (runA.sl.HS0_6 c i arg1 harg1 arg2 harg2 arg3 harg3 arg4 harg4 arg5 harg5 arg6 harg6 x0 x1 x2 x3 x4 x5) ![15, 1536] inb_S272x3072_S256x256_15_1536) (lw arg7 harg7 x6 ![3, 1536] inb_S4x3072_S1x256_3_1536) (lx arg17 (runA.sl.HS0_6 c i arg1 harg1 arg2 harg2 arg3 harg3 arg4 harg4 arg5 harg5 arg6 harg6 x0 x1 x2 x3 x4 x5) ![16, 1536] inb_S272x3072_S256x256_16_1536)⟩,
        ⟨Rect.unit ![0, 1280] ![256, 256] inb_S256x3072_S256x256_0_1280, strip (lw arg7 harg7 x6 ![0, 1280] inb_S4x3072_S1x256_0_1280) (lx arg17 (runA.sl.HS0_6 c i arg1 harg1 arg2 harg2 arg3 harg3 arg4 harg4 arg5 harg5 arg6 harg6 x0 x1 x2 x3 x4 x5) ![13, 1280] inb_S272x3072_S256x256_13_1280) (lw arg7 harg7 x6 ![1, 1280] inb_S4x3072_S1x256_1_1280) (lx arg17 (runA.sl.HS0_6 c i arg1 harg1 arg2 harg2 arg3 harg3 arg4 harg4 arg5 harg5 arg6 harg6 x0 x1 x2 x3 x4 x5) ![14, 1280] inb_S272x3072_S256x256_14_1280) (lw arg7 harg7 x6 ![2, 1280] inb_S4x3072_S1x256_2_1280) (lx arg17 (runA.sl.HS0_6 c i arg1 harg1 arg2 harg2 arg3 harg3 arg4 harg4 arg5 harg5 arg6 harg6 x0 x1 x2 x3 x4 x5) ![15, 1280] inb_S272x3072_S256x256_15_1280) (lw arg7 harg7 x6 ![3, 1280] inb_S4x3072_S1x256_3_1280) (lx arg17 (runA.sl.HS0_6 c i arg1 harg1 arg2 harg2 arg3 harg3 arg4 harg4 arg5 harg5 arg6 harg6 x0 x1 x2 x3 x4 x5) ![16, 1280] inb_S272x3072_S256x256_16_1280)⟩,
        ⟨Rect.unit ![0, 1024] ![256, 256] inb_S256x3072_S256x256_0_1024, strip (lw arg7 harg7 x6 ![0, 1024] inb_S4x3072_S1x256_0_1024) (lx arg17 (runA.sl.HS0_6 c i arg1 harg1 arg2 harg2 arg3 harg3 arg4 harg4 arg5 harg5 arg6 harg6 x0 x1 x2 x3 x4 x5) ![13, 1024] inb_S272x3072_S256x256_13_1024) (lw arg7 harg7 x6 ![1, 1024] inb_S4x3072_S1x256_1_1024) (lx arg17 (runA.sl.HS0_6 c i arg1 harg1 arg2 harg2 arg3 harg3 arg4 harg4 arg5 harg5 arg6 harg6 x0 x1 x2 x3 x4 x5) ![14, 1024] inb_S272x3072_S256x256_14_1024) (lw arg7 harg7 x6 ![2, 1024] inb_S4x3072_S1x256_2_1024) (lx arg17 (runA.sl.HS0_6 c i arg1 harg1 arg2 harg2 arg3 harg3 arg4 harg4 arg5 harg5 arg6 harg6 x0 x1 x2 x3 x4 x5) ![15, 1024] inb_S272x3072_S256x256_15_1024) (lw arg7 harg7 x6 ![3, 1024] inb_S4x3072_S1x256_3_1024) (lx arg17 (runA.sl.HS0_6 c i arg1 harg1 arg2 harg2 arg3 harg3 arg4 harg4 arg5 harg5 arg6 harg6 x0 x1 x2 x3 x4 x5) ![16, 1024] inb_S272x3072_S256x256_16_1024)⟩,
        ⟨Rect.unit ![0, 768] ![256, 256] inb_S256x3072_S256x256_0_768, strip (lw arg7 harg7 x6 ![0, 768] inb_S4x3072_S1x256_0_768) (lx arg17 (runA.sl.HS0_6 c i arg1 harg1 arg2 harg2 arg3 harg3 arg4 harg4 arg5 harg5 arg6 harg6 x0 x1 x2 x3 x4 x5) ![13, 768] inb_S272x3072_S256x256_13_768) (lw arg7 harg7 x6 ![1, 768] inb_S4x3072_S1x256_1_768) (lx arg17 (runA.sl.HS0_6 c i arg1 harg1 arg2 harg2 arg3 harg3 arg4 harg4 arg5 harg5 arg6 harg6 x0 x1 x2 x3 x4 x5) ![14, 768] inb_S272x3072_S256x256_14_768) (lw arg7 harg7 x6 ![2, 768] inb_S4x3072_S1x256_2_768) (lx arg17 (runA.sl.HS0_6 c i arg1 harg1 arg2 harg2 arg3 harg3 arg4 harg4 arg5 harg5 arg6 harg6 x0 x1 x2 x3 x4 x5) ![15, 768] inb_S272x3072_S256x256_15_768) (lw arg7 harg7 x6 ![3, 768] inb_S4x3072_S1x256_3_768) (lx arg17 (runA.sl.HS0_6 c i arg1 harg1 arg2 harg2 arg3 harg3 arg4 harg4 arg5 harg5 arg6 harg6 x0 x1 x2 x3 x4 x5) ![16, 768] inb_S272x3072_S256x256_16_768)⟩,
        ⟨Rect.unit ![0, 512] ![256, 256] inb_S256x3072_S256x256_0_512, strip (lw arg7 harg7 x6 ![0, 512] inb_S4x3072_S1x256_0_512) (lx arg17 (runA.sl.HS0_6 c i arg1 harg1 arg2 harg2 arg3 harg3 arg4 harg4 arg5 harg5 arg6 harg6 x0 x1 x2 x3 x4 x5) ![13, 512] inb_S272x3072_S256x256_13_512) (lw arg7 harg7 x6 ![1, 512] inb_S4x3072_S1x256_1_512) (lx arg17 (runA.sl.HS0_6 c i arg1 harg1 arg2 harg2 arg3 harg3 arg4 harg4 arg5 harg5 arg6 harg6 x0 x1 x2 x3 x4 x5) ![14, 512] inb_S272x3072_S256x256_14_512) (lw arg7 harg7 x6 ![2, 512] inb_S4x3072_S1x256_2_512) (lx arg17 (runA.sl.HS0_6 c i arg1 harg1 arg2 harg2 arg3 harg3 arg4 harg4 arg5 harg5 arg6 harg6 x0 x1 x2 x3 x4 x5) ![15, 512] inb_S272x3072_S256x256_15_512) (lw arg7 harg7 x6 ![3, 512] inb_S4x3072_S1x256_3_512) (lx arg17 (runA.sl.HS0_6 c i arg1 harg1 arg2 harg2 arg3 harg3 arg4 harg4 arg5 harg5 arg6 harg6 x0 x1 x2 x3 x4 x5) ![16, 512] inb_S272x3072_S256x256_16_512)⟩,
        ⟨Rect.unit ![0, 256] ![256, 256] inb_S256x3072_S256x256_0_256, strip (lw arg7 harg7 x6 ![0, 256] inb_S4x3072_S1x256_0_256) (lx arg17 (runA.sl.HS0_6 c i arg1 harg1 arg2 harg2 arg3 harg3 arg4 harg4 arg5 harg5 arg6 harg6 x0 x1 x2 x3 x4 x5) ![13, 256] inb_S272x3072_S256x256_13_256) (lw arg7 harg7 x6 ![1, 256] inb_S4x3072_S1x256_1_256) (lx arg17 (runA.sl.HS0_6 c i arg1 harg1 arg2 harg2 arg3 harg3 arg4 harg4 arg5 harg5 arg6 harg6 x0 x1 x2 x3 x4 x5) ![14, 256] inb_S272x3072_S256x256_14_256) (lw arg7 harg7 x6 ![2, 256] inb_S4x3072_S1x256_2_256) (lx arg17 (runA.sl.HS0_6 c i arg1 harg1 arg2 harg2 arg3 harg3 arg4 harg4 arg5 harg5 arg6 harg6 x0 x1 x2 x3 x4 x5) ![15, 256] inb_S272x3072_S256x256_15_256) (lw arg7 harg7 x6 ![3, 256] inb_S4x3072_S1x256_3_256) (lx arg17 (runA.sl.HS0_6 c i arg1 harg1 arg2 harg2 arg3 harg3 arg4 harg4 arg5 harg5 arg6 harg6 x0 x1 x2 x3 x4 x5) ![16, 256] inb_S272x3072_S256x256_16_256)⟩,
        ⟨Rect.unit ![0, 0] ![256, 256] inb_S256x3072_S256x256_0_0, strip (lw arg7 harg7 x6 ![0, 0] inb_S4x3072_S1x256_0_0) (lx arg17 (runA.sl.HS0_6 c i arg1 harg1 arg2 harg2 arg3 harg3 arg4 harg4 arg5 harg5 arg6 harg6 x0 x1 x2 x3 x4 x5) ![13, 0] inb_S272x3072_S256x256_13_0) (lw arg7 harg7 x6 ![1, 0] inb_S4x3072_S1x256_1_0) (lx arg17 (runA.sl.HS0_6 c i arg1 harg1 arg2 harg2 arg3 harg3 arg4 harg4 arg5 harg5 arg6 harg6 x0 x1 x2 x3 x4 x5) ![14, 0] inb_S272x3072_S256x256_14_0) (lw arg7 harg7 x6 ![2, 0] inb_S4x3072_S1x256_2_0) (lx arg17 (runA.sl.HS0_6 c i arg1 harg1 arg2 harg2 arg3 harg3 arg4 harg4 arg5 harg5 arg6 harg6 x0 x1 x2 x3 x4 x5) ![15, 0] inb_S272x3072_S256x256_15_0) (lw arg7 harg7 x6 ![3, 0] inb_S4x3072_S1x256_3_0) (lx arg17 (runA.sl.HS0_6 c i arg1 harg1 arg2 harg2 arg3 harg3 arg4 harg4 arg5 harg5 arg6 harg6 x0 x1 x2 x3 x4 x5) ![16, 0] inb_S272x3072_S256x256_16_0)⟩] := rfl

end

section

variable (c : Dev nD) (i : grid0.Coords) (arg1 : Memref sig .tc .vmem S256x1024 .bf16) (harg1 : arg1.IsWhole) (arg2 : Memref sig .tc .vmem S256x1024 .bf16) (harg2 : arg2.IsWhole)
  (arg3 : Memref sig .tc .vmem S256x1024 .bf16) (harg3 : arg3.IsWhole) (arg4 : Memref sig .tc .vmem S16x1024 .bf16) (harg4 : arg4.IsWhole)
  (arg5 : Memref sig .tc .vmem S16x1024 .bf16) (harg5 : arg5.IsWhole) (arg6 : Memref sig .tc .vmem S16x1024 .bf16) (harg6 : arg6.IsWhole)
  (arg7 : Memref sig .tc .vmem S4x3072 .f32) (harg7 : arg7.IsWhole) (arg17 : Memref sig .tc .vmem S272x3072 .f32)
  (x0 x1 x2 : Vec Ideal S256x1024 .bf16) (x3 x4 x5 : Vec Ideal S16x1024 .bf16) (x6 : Vec Ideal S4x3072 .f32)
  (XS cw : ℕ → ℕ → ℝ)

/-- The convolved rows, of rows that begin thirteen before. -/
def convR (XS cw : ℕ → ℕ → ℝ) (r s : ℕ) : ℝ :=
  cw 0 s * XS (13 + r) s + cw 1 s * XS (14 + r) s + cw 2 s * XS (15 + r) s + cw 3 s * XS (16 + r) s

theorem strip_M (W0 W1 W2 W3 : Matrix (Fin 1) (Fin 256) ℝ) (X0 X1 X2 X3 : Matrix (Fin 256) (Fin 256) ℝ) :
    strip (F := Ideal) (M W0) (M X0) (M W1) (M X1) (M W2) (M X2) (M W3) (M X3)
      = M fun i j => W0 0 j * X0 i j + W1 0 j * X1 i j + W2 0 j * X2 i j + W3 0 j * X3 i j := by
  funext i
  idx_vars i
  pointwise [strip]
  simp only [M, ← EReal.coe_mul, ← EReal.coe_add]
  rfl

theorem strip_at (L : List (View.Piece (Elt Ideal) S272x3072 .f32)) (hx : View.canon L = N XS) (hw : x6 = N cw) (o : Fin 2 → ℕ) (s : ℕ) (ho : o = ![0, s])
    (inb : ∀ x, o x + (![256, 256] : Fin 2 → ℕ) x ≤ S256x3072.size x) (i0 i1 i2 i3 j0 j1 j2 j3) (x : (Rect.unit (s := S256x3072) o ![256, 256] inb).shape.Idx) :
    strip (F := Ideal) (lw arg7 harg7 x6 ![0, s] i0) (lx arg17 L ![13, s] j0) (lw arg7 harg7 x6 ![1, s] i1) (lx arg17 L ![14, s] j1)
      (lw arg7 harg7 x6 ![2, s] i2) (lx arg17 L ![15, s] j2) (lw arg7 harg7 x6 ![3, s] i3) (lx arg17 L ![16, s] j3) x
      = N (convR XS cw) ((Rect.unit (s := S256x3072) o ![256, 256] inb).emb x) := by
  have ew : ∀ a h, lw (F := Ideal) arg7 harg7 x6 ![a, s] h = M fun i j => cw (a + i.val) (s + j.val) := fun a h =>
    readAt_N (by rw [Memref.IsWhole.read_unread, hw]) rfl h
  have ex : ∀ a h, lx (F := Ideal) arg17 L ![a, s] h = M fun i j => XS (a + i.val) (s + j.val) := fun a h => by
    refine Eq.trans ?_ (readAt_N (a := 256) (b := 256) (r := a) (s := s) (v := arg17.view) (f := arg17.view.writes (Elt Ideal) arg17.view.junk L) (C := XS) ?_ rfl h)
    · rfl
    · rw [View.read_writes_junk_eq_canon, hx]
  have ew : ∀ a h, lw (F := Ideal) arg7 harg7 x6 ![a, s] h = M (show Matrix (Fin 1) (Fin 256) ℝ from fun i j => cw (a + i.val) (s + j.val)) := ew
  have ex : ∀ a h, lx (F := Ideal) arg17 L ![a, s] h = M (show Matrix (Fin 256) (Fin 256) ℝ from fun i j => XS (a + i.val) (s + j.val)) := ex
  rw [ew, ew, ew, ew, ex, ex, ex, ex, strip_M, ← piece_N (convR XS cw) ho]
  change (((cw (0 + 0) (s + (x 1).val) * XS (13 + (x 0).val) (s + (x 1).val) + cw (1 + 0) (s + (x 1).val) * XS (14 + (x 0).val) (s + (x 1).val)
    + cw (2 + 0) (s + (x 1).val) * XS (15 + (x 0).val) (s + (x 1).val) + cw (3 + 0) (s + (x 1).val) * XS (16 + (x 0).val) (s + (x 1).val) : ℝ)) : EReal)
    = ((convR XS cw (0 + (x 0).val) (s + (x 1).val) : ℝ) : EReal)
  rw [zero_add (x 0).val]
  rfl

theorem conv_eq (hx : View.canon (runA.sl.HS0_6 (F := Ideal) c i arg1 harg1 arg2 harg2 arg3 harg3 arg4 harg4 arg5 harg5 arg6 harg6 x0 x1 x2 x3 x4 x5) = N XS) (hw : x6 = N cw) :
    View.canon (runA.sl.HS1_12 (F := Ideal) c i arg1 harg1 arg2 harg2 arg3 harg3 arg4 harg4 arg5 harg5 arg6 harg6 arg7 harg7 arg17 x0 x1 x2 x3 x4 x5 x6) = N (convR XS cw) := by
  rw [conv_pieces]
  refine canon_agree _ _ ?_ fun y => ?_
  · simp only [List.mem_cons, List.not_mem_nil, or_false]
    rintro p (rfl | rfl | rfl | rfl | rfl | rfl | rfl | rfl | rfl | rfl | rfl | rfl) x
    · exact strip_at arg7 harg7 arg17 x6 XS cw _ hx hw ![0, 2816] 2816 rfl inb_S256x3072_S256x256_0_2816 _ _ _ _ _ _ _ _ x
    · exact strip_at arg7 harg7 arg17 x6 XS cw _ hx hw ![0, 2560] 2560 rfl inb_S256x3072_S256x256_0_2560 _ _ _ _ _ _ _ _ x
    · exact strip_at arg7 harg7 arg17 x6 XS cw _ hx hw ![0, 2304] 2304 rfl inb_S256x3072_S256x256_0_2304 _ _ _ _ _ _ _ _ x
    · exact strip_at arg7 harg7 arg17 x6 XS cw _ hx hw ![0, 2048] 2048 rfl inb_S256x3072_S256x256_0_2048 _ _ _ _ _ _ _ _ x
    · exact strip_at arg7 harg7 arg17 x6 XS cw _ hx hw ![0, 1792] 1792 rfl inb_S256x3072_S256x256_0_1792 _ _ _ _ _ _ _ _ x
    · exact strip_at arg7 harg7 arg17 x6 XS cw _ hx hw ![0, 1536] 1536 rfl inb_S256x3072_S256x256_0_1536 _ _ _ _ _ _ _ _ x
    · exact strip_at arg7 harg7 arg17 x6 XS cw _ hx hw ![0, 1280] 1280 rfl inb_S256x3072_S256x256_0_1280 _ _ _ _ _ _ _ _ x
    · exact strip_at arg7 harg7 arg17 x6 XS cw _ hx hw ![0, 1024] 1024 rfl inb_S256x3072_S256x256_0_1024 _ _ _ _ _ _ _ _ x
    · exact strip_at arg7 harg7 arg17 x6 XS cw _ hx hw ![0, 768] 768 rfl inb_S256x3072_S256x256_0_768 _ _ _ _ _ _ _ _ x
    · exact strip_at arg7 harg7 arg17 x6 XS cw _ hx hw ![0, 512] 512 rfl inb_S256x3072_S256x256_0_512 _ _ _ _ _ _ _ _ x
    · exact strip_at arg7 harg7 arg17 x6 XS cw _ hx hw ![0, 256] 256 rfl inb_S256x3072_S256x256_0_256 _ _ _ _ _ _ _ _ x
    · exact strip_at arg7 harg7 arg17 x6 XS cw _ hx hw ![0, 0] 0 rfl inb_S256x3072_S256x256_0_0 _ _ _ _ _ _ _ _ x
  · have h0 : (y 0).val < 256 := (y 0).isLt
    have h1 : (y 1).val < 3072 := (y 1).isLt
    rcases (by omega : (y 1).val / 256 = 11 ∨ (y 1).val / 256 = 10 ∨ (y 1).val / 256 = 9 ∨ (y 1).val / 256 = 8 ∨ (y 1).val / 256 = 7 ∨ (y 1).val / 256 = 6 ∨ (y 1).val / 256 = 5 ∨ (y 1).val / 256 = 4 ∨ (y 1).val / 256 = 3 ∨ (y 1).val / 256 = 2 ∨ (y 1).val / 256 = 1 ∨ (y 1).val / 256 = 0) with c | c | c | c | c | c | c | c | c | c | c | c
    · exact ⟨_, List.mem_cons_self, mem_rect 0 2816 256 256 inb_S256x3072_S256x256_0_2816 y (by omega) (by omega) (by omega) (by omega)⟩
    · exact ⟨_, (List.mem_cons_of_mem _ List.mem_cons_self), mem_rect 0 2560 256 256 inb_S256x3072_S256x256_0_2560 y (by omega) (by omega) (by omega) (by omega)⟩
    · exact ⟨_, (List.mem_cons_of_mem _ (List.mem_cons_of_mem _ List.mem_cons_self)), mem_rect 0 2304 256 256 inb_S256x3072_S256x256_0_2304 y (by omega) (by omega) (by omega) (by omega)⟩
    · exact ⟨_, (List.mem_cons_of_mem _ (List.mem_cons_of_mem _ (List.mem_cons_of_mem _ List.mem_cons_self))), mem_rect 0 2048 256 256 inb_S256x3072_S256x256_0_2048 y (by omega) (by omega) (by omega) (by omega)⟩
    · exact ⟨_, (List.mem_cons_of_mem _ (List.mem_cons_of_mem _ (List.mem_cons_of_mem _ (List.mem_cons_of_mem _ List.mem_cons_self)))), mem_rect 0 1792 256 256 inb_S256x3072_S256x256_0_1792 y (by omega) (by omega) (by omega) (by omega)⟩
    · exact ⟨_, (List.mem_cons_of_mem _ (List.mem_cons_of_mem _ (List.mem_cons_of_mem _ (List.mem_cons_of_mem _ (List.mem_cons_of_mem _ List.mem_cons_self))))), mem_rect 0 1536 256 256 inb_S256x3072_S256x256_0_1536 y (by omega) (by omega) (by omega) (by omega)⟩
    · exact ⟨_, (List.mem_cons_of_mem _ (List.mem_cons_of_mem _ (List.mem_cons_of_mem _ (List.mem_cons_of_mem _ (List.mem_cons_of_mem _ (List.mem_cons_of_mem _ List.mem_cons_self)))))), mem_rect 0 1280 256 256 inb_S256x3072_S256x256_0_1280 y (by omega) (by omega) (by omega) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_rect 0 1024 256 256 inb_S256x3072_S256x256_0_1024 y (by omega) (by omega) (by omega) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_rect 0 768 256 256 inb_S256x3072_S256x256_0_768 y (by omega) (by omega) (by omega) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_rect 0 512 256 256 inb_S256x3072_S256x256_0_512 y (by omega) (by omega) (by omega) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_rect 0 256 256 256 inb_S256x3072_S256x256_0_256 y (by omega) (by omega) (by omega) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_rect 0 0 256 256 inb_S256x3072_S256x256_0_0 y (by omega) (by omega) (by omega) (by omega)⟩

/-! ## The rows -/

theorem tile1 (C : ℕ → ℕ → ℝ) : k0_pay657 (F := Ideal) (N C) = N C := by
  funext i; idx_vars i; pointwise [k0_pay657]
theorem tile2 (C : ℕ → ℕ → ℝ) : k0_pay659 (F := Ideal) (N C) = N C := by
  funext i; idx_vars i; pointwise [k0_pay659]
theorem tile3 (C : ℕ → ℕ → ℝ) : k0_pay661 (F := Ideal) (N C) = N C := by
  funext i; idx_vars i; pointwise [k0_pay661]

theorem first_iff (n : Fin 32) : Scalar.cmpi .eq (BitVec.ofNat 32 n.val) 0#32 = 1#1 ↔ n.val = 0 := by
  revert n; decide +kernel

theorem halo1 (x : FVec Ideal S16x1024 .bf16) (C : ℕ → ℕ → ℝ) (h : ∀ y, (if (i 0).val = 0 then (0 : EReal) else x y) = N C y) : k0_pay656 (F := Ideal) i x = N C := by
  funext y
  rw [← h y]
  idx_vars y
  by_cases c : (i 0).val = 0
  · pointwise [k0_pay656]
    rw [if_pos c]
    exact if_pos ((first_iff (i 0)).mpr c)
  · pointwise [k0_pay656]
    rw [if_neg c]
    exact if_neg fun hh => c ((first_iff (i 0)).mp hh)

theorem halo2 (x : FVec Ideal S16x1024 .bf16) (C : ℕ → ℕ → ℝ) (h : ∀ y, (if (i 0).val = 0 then (0 : EReal) else x y) = N C y) : k0_pay658 (F := Ideal) i x = N C :=
  halo1 i x C h

theorem halo3 (x : FVec Ideal S16x1024 .bf16) (C : ℕ → ℕ → ℝ) (h : ∀ y, (if (i 0).val = 0 then (0 : EReal) else x y) = N C y) :
    k0_pay660 (F := Ideal) (runA.sl.v0 i) x = N C :=
  halo1 i x C h

theorem readW {S : Shape} {e : EltTy} {v : Memref sig .tc .vmem S e} (h : v.IsWhole) (x : Vec Ideal S e) {o : Fin S.rank → ℕ} (ho : ∀ a, o a = 0)
    (inb : ∀ a, o a + S.size a ≤ S.size a) : View.readAt (Elt Ideal) v.view (Rect.unit (s := S) o S.size inb).toLoadRect (h.unread x) = x := by
  rw [View.readAt_eq_ld, Memref.IsWhole.read_unread]
  exact View.ld_unit_lit inb x ho

theorem zero2 : ∀ a : Fin 2, (![0, 0] : Fin 2 → ℕ) a = 0 := by decide

theorem rows_eq (h0 : x0 = N fun r s => XS (16 + r) (0 + s)) (h1 : x1 = N fun r s => XS (16 + r) (1024 + s)) (h2 : x2 = N fun r s => XS (16 + r) (2048 + s))
    (h3 : ∀ y, (if (i 0).val = 0 then (0 : EReal) else x3 y) = N (fun r s => XS (0 + r) (0 + s)) y)
    (h4 : ∀ y, (if (i 0).val = 0 then (0 : EReal) else x4 y) = N (fun r s => XS (0 + r) (1024 + s)) y)
    (h5 : ∀ y, (if (i 0).val = 0 then (0 : EReal) else x5 y) = N (fun r s => XS (0 + r) (2048 + s)) y) :
    View.canon (runA.sl.HS0_6 (F := Ideal) c i arg1 harg1 arg2 harg2 arg3 harg3 arg4 harg4 arg5 harg5 arg6 harg6 x0 x1 x2 x3 x4 x5) = N XS := by
  refine canon_agree _ _ ?_ fun y => ?_
  · unfold runA.sl.HS0_6
    simp only [List.mem_cons, List.not_mem_nil, or_false]
    rintro p (rfl | rfl | rfl | rfl | rfl | rfl) x
    · refine (congrFun (?_ : _ = N (fun r s => XS (16 + r) (2048 + s))) x).trans (piece_N XS rfl inb_S272x3072_S256x1024_16_2048 x)
      exact (congrArg k0_pay661 ((readW harg3 x2 zero2 _).trans h2)).trans (tile3 _)
    · refine (congrFun (?_ : _ = N (fun r s => XS (0 + r) (2048 + s))) x).trans (piece_N XS rfl inb_S272x3072_S16x1024_0_2048 x)
      exact (congrArg (k0_pay660 (F := Ideal) (runA.sl.v0 i)) (readW harg6 x5 zero2 _)).trans (halo3 i _ _ h5)
    · refine (congrFun (?_ : _ = N (fun r s => XS (16 + r) (1024 + s))) x).trans (piece_N XS rfl inb_S272x3072_S256x1024_16_1024 x)
      exact (congrArg k0_pay659 ((readW harg2 x1 zero2 _).trans h1)).trans (tile2 _)
    · refine (congrFun (?_ : _ = N (fun r s => XS (0 + r) (1024 + s))) x).trans (piece_N XS rfl inb_S272x3072_S16x1024_0_1024 x)
      exact (congrArg (k0_pay658 (F := Ideal) i) (readW harg5 x4 zero2 _)).trans (halo2 i _ _ h4)
    · refine (congrFun (?_ : _ = N (fun r s => XS (16 + r) (0 + s))) x).trans (piece_N XS rfl inb_S272x3072_S256x1024_16_0 x)
      exact (congrArg k0_pay657 ((readW harg1 x0 zero2 _).trans h0)).trans (tile1 _)
    · refine (congrFun (?_ : _ = N (fun r s => XS (0 + r) (0 + s))) x).trans (piece_N XS rfl inb_S272x3072_S16x1024_0_0 x)
      exact (congrArg (k0_pay656 (F := Ideal) i) (readW harg4 x3 zero2 _)).trans (halo1 i _ _ h3)
  · have h0 : (y 0).val < 272 := (y 0).isLt
    have h1 : (y 1).val < 3072 := (y 1).isLt
    rcases (by omega : (16 ≤ (y 0).val ∧ (y 0).val < 272 ∧ (y 1).val / 1024 = 2) ∨ (0 ≤ (y 0).val ∧ (y 0).val < 16 ∧ (y 1).val / 1024 = 2) ∨ (16 ≤ (y 0).val ∧ (y 0).val < 272 ∧ (y 1).val / 1024 = 1) ∨ (0 ≤ (y 0).val ∧ (y 0).val < 16 ∧ (y 1).val / 1024 = 1) ∨ (16 ≤ (y 0).val ∧ (y 0).val < 272 ∧ (y 1).val / 1024 = 0) ∨ (0 ≤ (y 0).val ∧ (y 0).val < 16 ∧ (y 1).val / 1024 = 0)) with c | c | c | c | c | c
    · exact ⟨_, List.mem_cons_self, mem_rect 16 2048 256 1024 inb_S272x3072_S256x1024_16_2048 y (by omega) (by omega) (by omega) (by omega)⟩
    · exact ⟨_, (List.mem_cons_of_mem _ List.mem_cons_self), mem_rect 0 2048 16 1024 inb_S272x3072_S16x1024_0_2048 y (by omega) (by omega) (by omega) (by omega)⟩
    · exact ⟨_, (List.mem_cons_of_mem _ (List.mem_cons_of_mem _ List.mem_cons_self)), mem_rect 16 1024 256 1024 inb_S272x3072_S256x1024_16_1024 y (by omega) (by omega) (by omega) (by omega)⟩
    · exact ⟨_, (List.mem_cons_of_mem _ (List.mem_cons_of_mem _ (List.mem_cons_of_mem _ List.mem_cons_self))), mem_rect 0 1024 16 1024 inb_S272x3072_S16x1024_0_1024 y (by omega) (by omega) (by omega) (by omega)⟩
    · exact ⟨_, (List.mem_cons_of_mem _ (List.mem_cons_of_mem _ (List.mem_cons_of_mem _ (List.mem_cons_of_mem _ List.mem_cons_self)))), mem_rect 16 0 256 1024 inb_S272x3072_S256x1024_16_0 y (by omega) (by omega) (by omega) (by omega)⟩
    · exact ⟨_, (List.mem_cons_of_mem _ (List.mem_cons_of_mem _ (List.mem_cons_of_mem _ (List.mem_cons_of_mem _ (List.mem_cons_of_mem _ List.mem_cons_self))))), mem_rect 0 0 16 1024 inb_S272x3072_S16x1024_0_0 y (by omega) (by omega) (by omega) (by omega)⟩

end

/-! ## The gates and the first state -/

section

variable (c : Dev nD) (x7 : Vec Ideal S256x128 .f32) (x9 x10 : Vec Ideal S1x128 .f32) (C : ℕ → ℕ → ℝ) (A D : ℕ → ℝ)

/-- The logistic function. -/
def lgs (x : ℝ) : ℝ := 1 / (1 + Real.exp (-x))

theorem lgs_coe (x : ℝ) : Ideal.div (Ideal.ofBits .f32 0x3F800000#32) (Ideal.ofBits .f32 0x3F800000#32
    + Ideal.exp (Ideal.ofBits .f32 0x00000000#32 - (x : EReal))) = (lgs x : EReal) := by
  rw [one_bits, zero_bits, ← EReal.coe_sub, Ideal.exp_coe, ← EReal.coe_add, div_real _ (by positivity), zero_sub]
  rfl

theorem beta_eq (arg8 : Memref sig .tc .vmem S256x128 .f32) (harg8 : arg8.IsWhole) (h7 : x7 = N C) : View.canon (runA.sl.HS4_1 (F := Ideal) c arg8 harg8 x7) = N fun r l => lgs (C r l) := by
  unfold runA.sl.HS4_1
  refine (View.canon_cons_unit_lit _ _ _ zero2).trans ?_
  unfold runA.sl.r_12
  rw [show View.readAt (Elt Ideal) arg8.view (Rect.unit (s := S256x128) ![0, 0] S256x128.size inb_S256x128_S256x128_0_0).toLoadRect (harg8.unread x7) = N C from (readW harg8 x7 zero2 _).trans h7]
  funext y
  idx_vars y
  pointwise [k0_pay1, k0_pay683, k0_pay682]
  have h := lgs_coe (C y0.val y1.val)
  rw [zero_bits, one_bits, EReal.coe_zero, EReal.coe_one] at h
  exact h

theorem decay_M (i : S256x128.Idx) : k0_pay2 (F := Ideal) (k0_pay684 (N fun _ l => A l)) (k0_pay685 (N C) (N fun _ l => D l)) i
    = ((A (i 1).val * sp (C (i 0).val (i 1).val + D (i 1).val) : ℝ) : EReal) := by
  idx_vars i
  pointwise [k0_pay2, k0_pay684, k0_pay685, k0_pay682]
  change ((A i1.val : ℝ) : EReal) * (max (((C i0.val i1.val : ℝ) : EReal) + ((D i1.val : ℝ) : EReal)) 0
      + Ideal.log (1 + Ideal.exp (0 - max (((C i0.val i1.val : ℝ) : EReal) + ((D i1.val : ℝ) : EReal)) (-(((C i0.val i1.val : ℝ) : EReal) + ((D i1.val : ℝ) : EReal)))))) = _
  rw [← EReal.coe_add, sp_coe', ← EReal.coe_mul]

theorem decay_eq (arg8 : Memref sig .tc .vmem S256x128 .f32) (harg8 : arg8.IsWhole) (arg10 : Memref sig .tc .vmem S1x128 .f32) (harg10 : arg10.IsWhole)
  (arg11 : Memref sig .tc .vmem S1x128 .f32) (harg11 : arg11.IsWhole)
  (h7 : x7 = N C) (h9 : x9 = N fun _ l => A l) (h10 : x10 = N fun _ l => D l) :
    View.canon (runA.sl.HS5_1 (F := Ideal) c arg8 harg8 arg10 harg10 arg11 harg11 x7 x9 x10) = N fun r l => A l * sp (C r l + D l) := by
  unfold runA.sl.HS5_1
  refine (View.canon_cons_unit_lit _ _ _ zero2).trans ?_
  unfold runA.sl.r_13 runA.sl.r_14
  rw [show View.readAt (Elt Ideal) arg8.view (Rect.unit (s := S256x128) ![0, 0] S256x128.size inb_S256x128_S256x128_0_0).toLoadRect (harg8.unread x7) = N C from (readW harg8 x7 zero2 _).trans h7,
    show View.readAt (Elt Ideal) arg10.view (Rect.unit (s := S1x128) ![0, 0] S1x128.size inb_S1x128_S1x128_0_0).toLoadRect (harg10.unread x9) = N (fun _ l => A l) from (readW harg10 x9 zero2 _).trans h9,
    show View.readAt (Elt Ideal) arg11.view (Rect.unit (s := S1x128) ![0, 0] S1x128.size inb_S1x128_S1x128_0_0).toLoadRect (harg11.unread x10) = N (fun _ l => D l) from (readW harg11 x10 zero2 _).trans h10]
  funext y
  exact decay_M C A D y

theorem state_eq : View.canon (runA.sl.HS2_1 (F := Ideal)) = Sts fun _ => 0 := by
  unfold runA.sl.HS2_1
  refine (View.canon_cons_unit_lit _ _ _ (by decide)).trans ?_
  funext y
  exact zero_bits

end

end Cert.DnFwdIdeal.Own

end
-- ==== Proof.DnPoint.lean ====
/- The gated delta rule's kernel at one point of its grid: its outputs and states are the recurrence's, and the state it
   leaves is the recurrence's at the next point. -/
module

public import proofs.«01_k».proof.Proof.DnScratch
public import proofs.«01_k».proof.Proof.DnFrame

@[expose] public section

set_option maxRecDepth 16384
set_option maxHeartbeats 1000000

noncomputable section

namespace Cert.DnFwdIdeal.Own

open Cert.DnFwdIdeal Cert.DnFwdIdeal.Gen Cert.Reals
open Idealize.ShloMosaic Idealize.ShloMosaic.TcCoe Idealize.SL.Sem

/-- The rows with sixteen zero rows before them. -/
def pad (Q : ℕ → ℕ → ℝ) (r s : ℕ) : ℝ := if r < 16 then 0 else Q (r - 16) s

/-- The convolved rows. -/
def convT (Q CW : ℕ → ℕ → ℝ) : ℕ → ℕ → ℝ := convR (pad Q) CW
def betT (PS : ℕ → ℕ → ℝ) (r l : ℕ) : ℝ := lgs (PS r l)
def decT (PS : ℕ → ℕ → ℝ) (AR DB : ℕ → ℝ) (r l : ℕ) : ℝ := AR l * sp (PS r l + DB l)

variable (m : (ℓ : Loc nD τ sig) → Buf (Elt Ideal) ℓ) (c : Dev nD) (t : Fin cfg0.N) (Q CW PS : ℕ → ℕ → ℝ) (AR DB : ℕ → ℝ)

/-- The blocks of one point hold the rows' real numbers. -/
structure Blocks : Prop where
  b0 : iblk m c 0 t = N fun r s => pad Q (256 * t.val + (16 + r)) (0 + s)
  b1 : iblk m c 1 t = N fun r s => pad Q (256 * t.val + (16 + r)) (1024 + s)
  b2 : iblk m c 2 t = N fun r s => pad Q (256 * t.val + (16 + r)) (2048 + s)
  b3 : ∀ y, (if (grid0.coords t 0).val = 0 then (0 : EReal) else iblk m c 3 t y) = N (fun r s => pad Q (256 * t.val + (0 + r)) (0 + s)) y
  b4 : ∀ y, (if (grid0.coords t 0).val = 0 then (0 : EReal) else iblk m c 4 t y) = N (fun r s => pad Q (256 * t.val + (0 + r)) (1024 + s)) y
  b5 : ∀ y, (if (grid0.coords t 0).val = 0 then (0 : EReal) else iblk m c 5 t y) = N (fun r s => pad Q (256 * t.val + (0 + r)) (2048 + s)) y
  b6 : iblk m c 6 t = N CW
  b7 : iblk m c 7 t = N fun r l => PS (256 * t.val + r) l
  b8 : iblk m c 8 t = fun i : S4x16x64.Idx => ((PS (256 * t.val + 64 * (i 0).val + (i 2).val) (i 1).val : ℝ) : EReal)
  b9 : iblk m c 9 t = N fun _ l => AR l
  b10 : iblk m c 10 t = N fun _ l => DB l
  b11 : iblk m c 11 t = N fun l _ => AR l
  b12 : iblk m c 12 t = N fun l _ => DB l

variable {m c t Q CW PS AR DB}

theorem lane_at (i : Fin 64) (j : Fin 128) : (iota Kind.tc S64x128 32 [1] iota_S64x128_d1_w32) (ix2 i j) = BitVec.ofNat 32 j.val := by
  pointwise []

theorem rows_at (b : Blocks m c t Q CW PS AR DB) : sc1.view.read (Elt Ideal) ((View.whole cc0_scratch1).writes (Elt Ideal) (View.whole cc0_scratch1).junk (runA.sl.HS1_12 (F := Ideal) c (grid0.coords t) (ms0 t) (hs0 t) (ms1 t) (hs1 t) (ms2 t) (hs2 t) (ms3 t) (hs3 t) (ms4 t) (hs4 t) (ms5 t) (hs5 t) (ms6 t) (hs6 t) sc0 (iblk m c 0 t) (iblk m c 1 t) (iblk m c 2 t) (iblk m c 3 t) (iblk m c 4 t) (iblk m c 5 t) (iblk m c 6 t))) = N fun r s => convT Q CW (256 * t.val + r) s := by
  refine (View.read_writes_junk_eq_canon _ _).trans ?_
  refine (conv_eq c (grid0.coords t) _ _ _ _ _ _ _ _ _ _ _ _ (ms6 t) (hs6 t) sc0 _ _ _ _ _ _ _ (fun r s => pad Q (256 * t.val + r) s) CW
    (rows_eq c (grid0.coords t) _ _ _ _ _ _ _ _ _ _ _ _ _ _ _ _ _ _ (fun r s => pad Q (256 * t.val + r) s) b.b0 b.b1 b.b2 b.b3 b.b4 b.b5) b.b6).trans ?_
  refine congrArg N ?_
  funext r s
  simp only [convT, convR, Nat.add_left_comm]

variable (G : BufTy.Contents (Elt Ideal) sc2.view.ty)

theorem point (b : Blocks m c t Q CW PS AR DB)
    (hG : sc2.view.read (Elt Ideal) G = Sts fun h => stT (convT Q CW) (betT PS) (decT PS AR DB) h (256 * t.val)) (n : ℕ) (hn : n = 4) :
    sc2.view.read (Elt Ideal) (sc2.view.writes (Elt Ideal) G (pcs (F := Ideal) Variants.none c none (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 (Memref.isWhole_whole _) sc1 (Memref.isWhole_whole _) sc2 (Memref.isWhole_whole _) sc3 (Memref.isWhole_whole _) sc4 (Memref.isWhole_whole _) sc5 (Memref.isWhole_whole _) (iota Kind.tc S64x128 32 [1] iota_S64x128_d1_w32) ((hs8 t).unread (iblk m c 8 t)) ((hs11 t).unread (iblk m c 11 t)) ((hs12 t).unread (iblk m c 12 t)) ((View.whole cc0_scratch1).writes (Elt Ideal) (View.whole cc0_scratch1).junk (runA.sl.HS1_12 (F := Ideal) c (grid0.coords t) (ms0 t) (hs0 t) (ms1 t) (hs1 t) (ms2 t) (hs2 t) (ms3 t) (hs3 t) (ms4 t) (hs4 t) (ms5 t) (hs5 t) (ms6 t) (hs6 t) sc0 (iblk m c 0 t) (iblk m c 1 t) (iblk m c 2 t) (iblk m c 3 t) (iblk m c 4 t) (iblk m c 5 t) (iblk m c 6 t))) ((View.whole cc0_scratch4).writes (Elt Ideal) (View.whole cc0_scratch4).junk (runA.sl.HS4_1 (F := Ideal) c (ms7 t) (hs7 t) (iblk m c 7 t))) ((View.whole cc0_scratch5).writes (Elt Ideal) (View.whole cc0_scratch5).junk (runA.sl.HS5_1 (F := Ideal) c (ms7 t) (hs7 t) (ms9 t) (hs9 t) (ms10 t) (hs10 t) (iblk m c 7 t) (iblk m c 9 t) (iblk m c 10 t))) G n).2.2.2.1) = Sts (fun h => stT (convT Q CW) (betT PS) (decT PS AR DB) h (256 * (t.val + 1)))
      ∧ (∀ p ∈ (pcs (F := Ideal) Variants.none c none (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 (Memref.isWhole_whole _) sc1 (Memref.isWhole_whole _) sc2 (Memref.isWhole_whole _) sc3 (Memref.isWhole_whole _) sc4 (Memref.isWhole_whole _) sc5 (Memref.isWhole_whole _) (iota Kind.tc S64x128 32 [1] iota_S64x128_d1_w32) ((hs8 t).unread (iblk m c 8 t)) ((hs11 t).unread (iblk m c 11 t)) ((hs12 t).unread (iblk m c 12 t)) ((View.whole cc0_scratch1).writes (Elt Ideal) (View.whole cc0_scratch1).junk (runA.sl.HS1_12 (F := Ideal) c (grid0.coords t) (ms0 t) (hs0 t) (ms1 t) (hs1 t) (ms2 t) (hs2 t) (ms3 t) (hs3 t) (ms4 t) (hs4 t) (ms5 t) (hs5 t) (ms6 t) (hs6 t) sc0 (iblk m c 0 t) (iblk m c 1 t) (iblk m c 2 t) (iblk m c 3 t) (iblk m c 4 t) (iblk m c 5 t) (iblk m c 6 t))) ((View.whole cc0_scratch4).writes (Elt Ideal) (View.whole cc0_scratch4).junk (runA.sl.HS4_1 (F := Ideal) c (ms7 t) (hs7 t) (iblk m c 7 t))) ((View.whole cc0_scratch5).writes (Elt Ideal) (View.whole cc0_scratch5).junk (runA.sl.HS5_1 (F := Ideal) c (ms7 t) (hs7 t) (ms9 t) (hs9 t) (ms10 t) (hs10 t) (iblk m c 7 t) (iblk m c 9 t) (iblk m c 10 t))) G n).1, ∀ x, p.2 x = G13 (convT Q CW) (betT PS) (decT PS AR DB) (256 * t.val) (p.1.emb x))
      ∧ (∀ p ∈ (pcs (F := Ideal) Variants.none c none (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 (Memref.isWhole_whole _) sc1 (Memref.isWhole_whole _) sc2 (Memref.isWhole_whole _) sc3 (Memref.isWhole_whole _) sc4 (Memref.isWhole_whole _) sc5 (Memref.isWhole_whole _) (iota Kind.tc S64x128 32 [1] iota_S64x128_d1_w32) ((hs8 t).unread (iblk m c 8 t)) ((hs11 t).unread (iblk m c 11 t)) ((hs12 t).unread (iblk m c 12 t)) ((View.whole cc0_scratch1).writes (Elt Ideal) (View.whole cc0_scratch1).junk (runA.sl.HS1_12 (F := Ideal) c (grid0.coords t) (ms0 t) (hs0 t) (ms1 t) (hs1 t) (ms2 t) (hs2 t) (ms3 t) (hs3 t) (ms4 t) (hs4 t) (ms5 t) (hs5 t) (ms6 t) (hs6 t) sc0 (iblk m c 0 t) (iblk m c 1 t) (iblk m c 2 t) (iblk m c 3 t) (iblk m c 4 t) (iblk m c 5 t) (iblk m c 6 t))) ((View.whole cc0_scratch4).writes (Elt Ideal) (View.whole cc0_scratch4).junk (runA.sl.HS4_1 (F := Ideal) c (ms7 t) (hs7 t) (iblk m c 7 t))) ((View.whole cc0_scratch5).writes (Elt Ideal) (View.whole cc0_scratch5).junk (runA.sl.HS5_1 (F := Ideal) c (ms7 t) (hs7 t) (ms9 t) (hs9 t) (ms10 t) (hs10 t) (iblk m c 7 t) (iblk m c 9 t) (iblk m c 10 t))) G n).2.1, ∀ x, p.2 x = G14 (convT Q CW) (betT PS) (decT PS AR DB) (256 * t.val) (p.1.emb x)) := by
  subst hn
  have e : 256 * (t.val + 1) = 256 * t.val + 64 * 4 := by ring
  rw [e]
  refine @pcs_inv Variants.none c none (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 (Memref.isWhole_whole _) sc1 (Memref.isWhole_whole _) sc2 (Memref.isWhole_whole _) sc3 (Memref.isWhole_whole _) sc4 (Memref.isWhole_whole _) sc5 (Memref.isWhole_whole _) (iota Kind.tc S64x128 32 [1] iota_S64x128_d1_w32) ((hs8 t).unread (iblk m c 8 t)) ((hs11 t).unread (iblk m c 11 t)) ((hs12 t).unread (iblk m c 12 t)) ((View.whole cc0_scratch1).writes (Elt Ideal) (View.whole cc0_scratch1).junk (runA.sl.HS1_12 (F := Ideal) c (grid0.coords t) (ms0 t) (hs0 t) (ms1 t) (hs1 t) (ms2 t) (hs2 t) (ms3 t) (hs3 t) (ms4 t) (hs4 t) (ms5 t) (hs5 t) (ms6 t) (hs6 t) sc0 (iblk m c 0 t) (iblk m c 1 t) (iblk m c 2 t) (iblk m c 3 t) (iblk m c 4 t) (iblk m c 5 t) (iblk m c 6 t))) ((View.whole cc0_scratch4).writes (Elt Ideal) (View.whole cc0_scratch4).junk (runA.sl.HS4_1 (F := Ideal) c (ms7 t) (hs7 t) (iblk m c 7 t))) ((View.whole cc0_scratch5).writes (Elt Ideal) (View.whole cc0_scratch5).junk (runA.sl.HS5_1 (F := Ideal) c (ms7 t) (hs7 t) (ms9 t) (hs9 t) (ms10 t) (hs10 t) (iblk m c 7 t) (iblk m c 9 t) (iblk m c 10 t))) G
    (convT Q CW) (betT PS) (decT PS AR DB) (fun l _ => AR l) (fun l _ => DB l) (fun k l i => PS (256 * t.val + 64 * k + i) l) (256 * t.val) lane_at ?_ ?_ ?_ ?_ ?_ ?_ ?_ hG 4 (le_refl 4)
  · exact rows_at b
  · exact (View.read_writes_junk_eq_canon _ _).trans (beta_eq c _ _ (ms7 t) (hs7 t) b.b7)
  · exact (View.read_writes_junk_eq_canon _ _).trans (decay_eq c _ _ _ _ AR DB (ms7 t) (hs7 t) (ms9 t) (hs9 t) (ms10 t) (hs10 t) b.b7 b.b9 b.b10)
  · exact (Memref.IsWhole.read_unread _ _).trans b.b11
  · exact (Memref.IsWhole.read_unread _ _).trans b.b12
  · exact (Memref.IsWhole.read_unread _ _).trans b.b8
  · intro k _ l _ i _; rfl

/-- The first point, -/
theorem point_A (b : Blocks m c t Q CW PS AR DB) (h0 : t.val % 32 = 0) (ht : t.val = 0) :
    outsA m c t h0 = (G13 (convT Q CW) (betT PS) (decT PS AR DB) (256 * t.val), G14 (convT Q CW) (betT PS) (decT PS AR DB) (256 * t.val),
      (outsA m c t h0).2.2.1, Sts fun h => stT (convT Q CW) (betT PS) (decT PS AR DB) h (256 * (t.val + 1))) := by
  have P := point (sc2.view.writes (Elt Ideal) sc2.view.junk (runA.sl.HS2_1 (F := Ideal))) b (by
    refine (View.read_writes_junk_eq_canon _ _).trans (state_eq.trans ?_)
    rw [ht]; rfl) (Scf.trips 0#32 (Scalar.addi 0#32 4#32) 1#32) (by decide)
  refine Prod.ext ?_ (Prod.ext ?_ (Prod.ext rfl ?_))
  · funext y
    exact read_agree VO13 _ _ (RA m c t h0).1 P.2.1 y (coverA13 m c t h0 y)
  · funext y
    exact read_agree VO14 _ _ (RA m c t h0).2.1 P.2.2 y (coverA14 m c t h0 y)
  · refine Eq.trans ?_ P.1
    change sc2.view.read (Elt Ideal) (sc2.view.writes (Elt Ideal) sc2.view.junk (RA m c t h0).2.2.2.val) = _
    exact congrArg (sc2.view.read (Elt Ideal)) (View.writes_append sc2.view sc2.view.junk _ (runA.sl.HS2_1 (F := Ideal)))

/-- and a later one. -/
theorem point_B (b : Blocks m c t Q CW PS AR DB) (h0 : ¬t.val % 32 = 0) (S : Vec Ideal S8x128x128 .f32)
    (hS : S = Sts fun h => stT (convT Q CW) (betT PS) (decT PS AR DB) h (256 * t.val)) :
    outsB m c t h0 S = (G13 (convT Q CW) (betT PS) (decT PS AR DB) (256 * t.val), G14 (convT Q CW) (betT PS) (decT PS AR DB) (256 * t.val),
      (outsB m c t h0 S).2.2.1, Sts fun h => stT (convT Q CW) (betT PS) (decT PS AR DB) h (256 * (t.val + 1))) := by
  have P := point ((Memref.isWhole_whole _ : sc2.IsWhole).unread S) b ((Memref.IsWhole.read_unread _ _).trans hS) (Scf.trips 0#32 (Scalar.addi 0#32 4#32) 1#32) (by decide)
  refine Prod.ext ?_ (Prod.ext ?_ (Prod.ext rfl ?_))
  · funext y
    exact read_agree VO13 _ _ (RB m c t h0 S).1 P.2.1 y (coverB13 m c t h0 S y)
  · funext y
    exact read_agree VO14 _ _ (RB m c t h0 S).2.1 P.2.2 y (coverB14 m c t h0 S y)
  · refine Eq.trans ?_ P.1
    funext y
    exact (View.read_writes_apply_eq_canon sc2.view _ y (RB m c t h0 S).2.2.2.val (coverBS m c t h0 S y)).trans
      (View.read_writes_apply_eq_canon sc2.view _ y (RB m c t h0 S).2.2.2.val (coverBS m c t h0 S y)).symm

end Cert.DnFwdIdeal.Own

end
-- ==== Proof.DnGrid.lean ====
/- The gated delta rule's kernel over its whole grid: what its blocks hold, and its two result arrays, as the recurrence's
   real numbers. -/
module

public import proofs.«01_k».proof.Proof.DnPoint
public import Idealize.ShloMosaic.Lib.Pipeline.ValueKit
public import Idealize.ShloMosaic.Lib.Pointwise

@[expose] public section

set_option maxRecDepth 16384
set_option maxHeartbeats 1000000

noncomputable section

namespace Cert.DnFwdIdeal.Own

open Cert.DnFwdIdeal Cert.DnFwdIdeal.Gen Cert.Reals
open Idealize.ShloMosaic Idealize.ShloMosaic.TcCoe Idealize.SL.Sem

/-! ## The arrays -/

def nat2 {n k : ℕ} (X : (⟨2, ![n, k]⟩ : Shape).Idx → ℝ) (r s : ℕ) : ℝ := if h : r < n ∧ s < k then X (ix2 ⟨r, h.1⟩ ⟨s, h.2⟩) else 0
def nat1 {n : ℕ} (X : (⟨1, ![n]⟩ : Shape).Idx → ℝ) (r : ℕ) : ℝ := if h : r < n then X (ix1 ⟨r, h⟩) else 0

theorem nat2_at {n k : ℕ} (X : (⟨2, ![n, k]⟩ : Shape).Idx → ℝ) (i : Fin n) (j : Fin k) : nat2 X i.val j.val = X (ix2 i j) := dif_pos ⟨i.isLt, j.isLt⟩
theorem nat1_at {n : ℕ} (X : (⟨1, ![n]⟩ : Shape).Idx → ℝ) (i : Fin n) : nat1 X i.val = X (ix1 i) := dif_pos i.isLt

/-- The gates' lanes: eight of the write strengths, eight of the decays, zeros. -/
def lanes (B A : S8192x8.Idx → ℝ) (r l : ℕ) : ℝ := if l < 8 then nat2 B r l else if l - 8 < 8 then nat2 A r (l - 8) else 0

/-- The decays' factors at their lanes, -/
def factors (L : S8.Idx → ℝ) (l : ℕ) : ℝ := if 8 ≤ l ∧ l - 8 < 8 then -Real.exp (nat1 L (l - 8)) else 0
/-- and the numbers added before them. -/
def biases (D : S8.Idx → ℝ) (l : ℕ) : ℝ := if 8 ≤ l ∧ l - 8 < 8 then nat1 D (l - 8) else 0

variable (m : (ℓ : Loc nD τ sig) → Buf (Elt Ideal) ℓ) (c : Dev nD)
variable (X0 : S8192x3072.Idx → ℝ) (X1 X2 : S8192x8.Idx → ℝ) (X3 : S4x3072.Idx → ℝ) (X4 X5 : S8.Idx → ℝ)

/-- The six argument arrays hold real numbers. -/
structure Real6 : Prop where
  r0 : m ((c : Thread nD τ).loc main_arg0) = fun i => (X0 i : EReal)
  r1 : m ((c : Thread nD τ).loc main_arg1) = fun i => (X1 i : EReal)
  r2 : m ((c : Thread nD τ).loc main_arg2) = fun i => (X2 i : EReal)
  r3 : m ((c : Thread nD τ).loc main_arg3) = fun i => (X3 i : EReal)
  r4 : m ((c : Thread nD τ).loc main_arg4) = fun i => (X4 i : EReal)
  r5 : m ((c : Thread nD τ).loc main_arg5) = fun i => (X5 i : EReal)

variable {m c X0 X1 X2 X3 X4 X5}

/-! ## What the host lines prepare -/

theorem zero_bf : Ideal.ofBits .bf16 0x0000#16 = 0 := by
  simp [Ideal.ofBits, Ideal.ieee]

theorem zero_int : FloatOps.sitofp (F := Ideal) .f32 (0#32 : BitVec 32) = (0 : EReal) := by
  change (((0#32 : BitVec 32).toInt : ℝ) : EReal) = 0
  norm_num

theorem v1 (h : Real6 m c X0 X1 X2 X3 X4 X5) : V m c main_v1 = fun i : S8192x7168.Idx => if (i 1).val < 4096 then (0 : EReal) else ((nat2 X0 (i 0).val ((i 1).val - 4096) : ℝ) : EReal) := by
  unfold V
  simp only [hostOps0, hostOps0_1, hostOps0_2, hostOps0_3, hostOps0_4, List.flatten_cons, List.flatten_nil, List.append_nil, List.cons_append, List.nil_append]
  after_results_simp
  funext i
  idx_vars i
  pointwise []
  by_cases hc : i1.val < 4096
  · rw [dif_pos hc, if_pos hc]
    exact zero_bf
  · rw [dif_neg hc, if_neg hc]
    exact (congrFun h.r0 (ix2 i0 ⟨i1.val - 4096, by omega⟩)).trans (congrArg _ (nat2_at X0 i0 ⟨i1.val - 4096, by omega⟩).symm)

theorem v3 (h : Real6 m c X0 X1 X2 X3 X4 X5) : V m c main_v3 = fun i : S8192x128.Idx => ((lanes X1 X2 (i 0).val (i 1).val : ℝ) : EReal) := by
  unfold V
  simp only [hostOps0, hostOps0_1, hostOps0_2, hostOps0_3, hostOps0_4, List.flatten_cons, List.flatten_nil, List.append_nil, List.cons_append, List.nil_append]
  after_results_simp
  funext i
  idx_vars i
  pointwise []
  unfold lanes
  by_cases hc : i1.val < 8
  · rw [dif_pos hc, if_pos hc]
    exact (congrFun h.r1 (ix2 i0 ⟨i1.val, hc⟩)).trans (congrArg _ (nat2_at X1 i0 ⟨i1.val, hc⟩).symm)
  · rw [dif_neg hc, if_neg hc]
    by_cases hd : i1.val - 8 < 8
    · rw [dif_pos hd, if_pos hd]
      exact (congrFun h.r2 (ix2 i0 ⟨i1.val - 8, hd⟩)).trans (congrArg _ (nat2_at X2 i0 ⟨i1.val - 8, hd⟩).symm)
    · rw [dif_neg hd, if_neg hd]
      exact zero_bits.trans EReal.coe_zero.symm

theorem v6 (h : Real6 m c X0 X1 X2 X3 X4 X5) : V m c main_v6 = fun i : S128x16x64.Idx => ((lanes X1 X2 ((i 0).val * 64 + (i 2).val) (i 1).val : ℝ) : EReal) := by
  unfold V
  simp only [hostOps0, hostOps0_1, hostOps0_2, hostOps0_3, hostOps0_4, List.flatten_cons, List.flatten_nil, List.append_nil, List.cons_append, List.nil_append]
  after_results_simp
  funext i
  idx_vars i
  pointwise []
  unfold lanes
  by_cases hc : i1.val < 8
  · rw [dif_pos hc, if_pos hc]
    exact (congrFun h.r1 (ix2 ⟨i0.val * 64 + i2.val, by omega⟩ ⟨i1.val, hc⟩)).trans (congrArg _ (nat2_at X1 ⟨i0.val * 64 + i2.val, by omega⟩ ⟨i1.val, hc⟩).symm)
  · rw [dif_neg hc, if_neg hc]
    by_cases hd : i1.val - 8 < 8
    · rw [dif_pos hd, if_pos hd]
      exact (congrFun h.r2 (ix2 ⟨i0.val * 64 + i2.val, by omega⟩ ⟨i1.val - 8, hd⟩)).trans (congrArg _ (nat2_at X2 ⟨i0.val * 64 + i2.val, by omega⟩ ⟨i1.val - 8, hd⟩).symm)
    · rw [dif_neg hd, if_neg hd]
      exact zero_bits.trans EReal.coe_zero.symm

theorem v10 (h : Real6 m c X0 X1 X2 X3 X4 X5) : V m c main_v10 = fun i : S1x128.Idx => ((factors X4 (i 1).val : ℝ) : EReal) := by
  unfold V
  simp only [hostOps0, hostOps0_1, hostOps0_2, hostOps0_3, hostOps0_4, List.flatten_cons, List.flatten_nil, List.append_nil, List.cons_append, List.nil_append]
  after_results_simp
  funext i
  idx_vars i
  pointwise [StableHlo.TRef.toBuf, StableHlo.TRef.ofBuf, cast_eq]
  unfold factors
  by_cases hc : 8 ≤ i1.val ∧ i1.val - 8 < 8
  · rw [dif_pos hc, if_pos hc]
    refine (congrArg (fun z => -Ideal.exp z) (congrFun h.r4 (ix1 ⟨i1.val - 8, hc.2⟩))).trans ?_
    rw [Ideal.exp_coe, ← EReal.coe_neg]
    exact congrArg (fun z : ℝ => ((-Real.exp z : ℝ) : EReal)) (nat1_at X4 ⟨i1.val - 8, hc.2⟩).symm
  · rw [dif_neg hc, if_neg hc]
    exact zero_int.trans EReal.coe_zero.symm

theorem v12 (h : Real6 m c X0 X1 X2 X3 X4 X5) : V m c main_v12 = fun i : S1x128.Idx => ((biases X5 (i 1).val : ℝ) : EReal) := by
  unfold V
  simp only [hostOps0, hostOps0_1, hostOps0_2, hostOps0_3, hostOps0_4, List.flatten_cons, List.flatten_nil, List.append_nil, List.cons_append, List.nil_append]
  after_results_simp
  funext i
  idx_vars i
  pointwise [StableHlo.TRef.toBuf, StableHlo.TRef.ofBuf, cast_eq]
  unfold biases
  by_cases hc : 8 ≤ i1.val ∧ i1.val - 8 < 8
  · rw [dif_pos hc, if_pos hc]
    refine (congrFun h.r5 (ix1 ⟨i1.val - 8, hc.2⟩)).trans ?_
    exact congrArg (fun z : ℝ => (z : EReal)) (nat1_at X5 ⟨i1.val - 8, hc.2⟩).symm
  · rw [dif_neg hc, if_neg hc]
    exact zero_int.trans EReal.coe_zero.symm

theorem v16 (h : Real6 m c X0 X1 X2 X3 X4 X5) : V m c main_v16 = fun i : S16x64.Idx => ((factors X4 (i 0).val : ℝ) : EReal) := by
  unfold V
  simp only [hostOps0, hostOps0_1, hostOps0_2, hostOps0_3, hostOps0_4, List.flatten_cons, List.flatten_nil, List.append_nil, List.cons_append, List.nil_append]
  after_results_simp
  funext i
  idx_vars i
  pointwise [StableHlo.TRef.toBuf, StableHlo.TRef.ofBuf, cast_eq]
  unfold factors
  by_cases hc : 8 ≤ i0.val ∧ i0.val - 8 < 8
  · rw [dif_pos hc, if_pos hc]
    refine (congrArg (fun z => -Ideal.exp z) (congrFun h.r4 (ix1 ⟨i0.val - 8, hc.2⟩))).trans ?_
    rw [Ideal.exp_coe, ← EReal.coe_neg]
    exact congrArg (fun z : ℝ => ((-Real.exp z : ℝ) : EReal)) (nat1_at X4 ⟨i0.val - 8, hc.2⟩).symm
  · rw [dif_neg hc, if_neg hc]
    exact zero_int.trans EReal.coe_zero.symm

theorem v20 (h : Real6 m c X0 X1 X2 X3 X4 X5) : V m c main_v20 = fun i : S16x64.Idx => ((biases X5 (i 0).val : ℝ) : EReal) := by
  unfold V
  simp only [hostOps0, hostOps0_1, hostOps0_2, hostOps0_3, hostOps0_4, List.flatten_cons, List.flatten_nil, List.append_nil, List.cons_append, List.nil_append]
  after_results_simp
  funext i
  idx_vars i
  pointwise [StableHlo.TRef.toBuf, StableHlo.TRef.ofBuf, cast_eq]
  unfold biases
  by_cases hc : 8 ≤ i0.val ∧ i0.val - 8 < 8
  · rw [dif_pos hc, if_pos hc]
    refine (congrFun h.r5 (ix1 ⟨i0.val - 8, hc.2⟩)).trans ?_
    exact congrArg (fun z : ℝ => (z : EReal)) (nat1_at X5 ⟨i0.val - 8, hc.2⟩).symm
  · rw [dif_neg hc, if_neg hc]
    exact zero_int.trans EReal.coe_zero.symm

/-! ## The blocks -/

theorem idx : ∀ t : Fin cfg0.N, win0_0.index t = ![t.val, 4] ∧ win0_1.index t = ![t.val, 5] ∧ win0_2.index t = ![t.val, 6]
    ∧ win0_3.index t = ![16 * t.val - 1, 4] ∧ win0_4.index t = ![16 * t.val - 1, 5] ∧ win0_5.index t = ![16 * t.val - 1, 6] ∧ win0_6.index t = ![0, 0]
    ∧ win0_7.index t = ![t.val, 0] ∧ win0_8.index t = ![t.val, 0, 0] ∧ win0_9.index t = ![0, 0] ∧ win0_10.index t = ![0, 0] ∧ win0_11.index t = ![0, 0] ∧ win0_12.index t = ![0, 0]
    ∧ win0_13.index t = ![t.val, 0] ∧ win0_14.index t = ![t.val, 0, 0, 0] :=
  (by decide +kernel : ∀ t : Fin grid0.N, _)

theorem coord : ∀ t : Fin cfg0.N, (grid0.coords t 0).val = t.val := (by decide +kernel : ∀ t : Fin grid0.N, _)

theorem lt32 (t : Fin cfg0.N) : t.val < 32 := Nat.lt_of_lt_of_eq t.isLt N_0

theorem b0_of (h : Real6 m c X0 X1 X2 X3 X4 X5) (t : Fin cfg0.N) : iblk m c 0 t = N fun r s => pad (nat2 X0) (256 * t.val + (16 + r)) (0 + s) := by
  funext i
  have h0 : (i 0).val < 256 := (i 0).isLt
  have h1 : (i 1).val < 1024 := (i 1).isLt
  have ht := lt32 t
  refine Eq.trans (b := V m c main_v1 (ix2 ⟨t.val * 256 + (i 0).val, by omega⟩ ⟨4 * 1024 + (i 1).val, by omega⟩)) ?_ ?_
  · blk_point [iblk, idx t]
  · rw [v1 h]
    refine (if_neg (show ¬4 * 1024 + (i 1).val < 4096 by omega)).trans (congrArg _ ?_)
    change nat2 X0 (t.val * 256 + (i 0).val) (4 * 1024 + (i 1).val - 4096) = pad (nat2 X0) (256 * t.val + (16 + (i 0).val)) (0 + (i 1).val)
    unfold pad
    rw [if_neg (by omega)]
    exact congrArg₂ (nat2 X0) (by omega) (by omega)

theorem b3_of (h : Real6 m c X0 X1 X2 X3 X4 X5) (t : Fin cfg0.N) (i : S16x1024.Idx) :
    (if (grid0.coords t 0).val = 0 then (0 : EReal) else iblk m c 3 t i) = N (fun r s => pad (nat2 X0) (256 * t.val + (0 + r)) (0 + s)) i := by
  have h0 : (i 0).val < 16 := (i 0).isLt
  have h1 : (i 1).val < 1024 := (i 1).isLt
  have ht := lt32 t
  rw [coord t]
  by_cases hz : t.val = 0
  · rw [if_pos hz]
    refine EReal.coe_zero.symm.trans (congrArg _ ?_)
    change 0 = pad (nat2 X0) (256 * t.val + (0 + (i 0).val)) (0 + (i 1).val)
    unfold pad
    rw [if_pos (by omega)]
  · rw [if_neg hz]
    refine Eq.trans (b := V m c main_v1 (ix2 ⟨(16 * t.val - 1) * 16 + (i 0).val, by omega⟩ ⟨4 * 1024 + (i 1).val, by omega⟩)) ?_ ?_
    · blk_point [iblk, idx t]
    · rw [v1 h]
      refine (if_neg (show ¬4 * 1024 + (i 1).val < 4096 by omega)).trans (congrArg _ ?_)
      change nat2 X0 ((16 * t.val - 1) * 16 + (i 0).val) (4 * 1024 + (i 1).val - 4096) = pad (nat2 X0) (256 * t.val + (0 + (i 0).val)) (0 + (i 1).val)
      unfold pad
      rw [if_neg (by omega)]
      exact congrArg₂ (nat2 X0) (by omega) (by omega)

theorem b1_of (h : Real6 m c X0 X1 X2 X3 X4 X5) (t : Fin cfg0.N) : iblk m c 1 t = N fun r s => pad (nat2 X0) (256 * t.val + (16 + r)) (1024 + s) := by
  funext i
  have h0 : (i 0).val < 256 := (i 0).isLt
  have h1 : (i 1).val < 1024 := (i 1).isLt
  have ht := lt32 t
  refine Eq.trans (b := V m c main_v1 (ix2 ⟨t.val * 256 + (i 0).val, by omega⟩ ⟨5 * 1024 + (i 1).val, by omega⟩)) ?_ ?_
  · blk_point [iblk, idx t]
  · rw [v1 h]
    refine (if_neg (show ¬5 * 1024 + (i 1).val < 4096 by omega)).trans (congrArg _ ?_)
    change nat2 X0 (t.val * 256 + (i 0).val) (5 * 1024 + (i 1).val - 4096) = pad (nat2 X0) (256 * t.val + (16 + (i 0).val)) (1024 + (i 1).val)
    unfold pad
    rw [if_neg (by omega)]
    exact congrArg₂ (nat2 X0) (by omega) (by omega)

theorem b4_of (h : Real6 m c X0 X1 X2 X3 X4 X5) (t : Fin cfg0.N) (i : S16x1024.Idx) :
    (if (grid0.coords t 0).val = 0 then (0 : EReal) else iblk m c 4 t i) = N (fun r s => pad (nat2 X0) (256 * t.val + (0 + r)) (1024 + s)) i := by
  have h0 : (i 0).val < 16 := (i 0).isLt
  have h1 : (i 1).val < 1024 := (i 1).isLt
  have ht := lt32 t
  rw [coord t]
  by_cases hz : t.val = 0
  · rw [if_pos hz]
    refine EReal.coe_zero.symm.trans (congrArg _ ?_)
    change 0 = pad (nat2 X0) (256 * t.val + (0 + (i 0).val)) (1024 + (i 1).val)
    unfold pad
    rw [if_pos (by omega)]
  · rw [if_neg hz]
    refine Eq.trans (b := V m c main_v1 (ix2 ⟨(16 * t.val - 1) * 16 + (i 0).val, by omega⟩ ⟨5 * 1024 + (i 1).val, by omega⟩)) ?_ ?_
    · blk_point [iblk, idx t]
    · rw [v1 h]
      refine (if_neg (show ¬5 * 1024 + (i 1).val < 4096 by omega)).trans (congrArg _ ?_)
      change nat2 X0 ((16 * t.val - 1) * 16 + (i 0).val) (5 * 1024 + (i 1).val - 4096) = pad (nat2 X0) (256 * t.val + (0 + (i 0).val)) (1024 + (i 1).val)
      unfold pad
      rw [if_neg (by omega)]
      exact congrArg₂ (nat2 X0) (by omega) (by omega)

theorem b2_of (h : Real6 m c X0 X1 X2 X3 X4 X5) (t : Fin cfg0.N) : iblk m c 2 t = N fun r s => pad (nat2 X0) (256 * t.val + (16 + r)) (2048 + s) := by
  funext i
  have h0 : (i 0).val < 256 := (i 0).isLt
  have h1 : (i 1).val < 1024 := (i 1).isLt
  have ht := lt32 t
  refine Eq.trans (b := V m c main_v1 (ix2 ⟨t.val * 256 + (i 0).val, by omega⟩ ⟨6 * 1024 + (i 1).val, by omega⟩)) ?_ ?_
  · blk_point [iblk, idx t]
  · rw [v1 h]
    refine (if_neg (show ¬6 * 1024 + (i 1).val < 4096 by omega)).trans (congrArg _ ?_)
    change nat2 X0 (t.val * 256 + (i 0).val) (6 * 1024 + (i 1).val - 4096) = pad (nat2 X0) (256 * t.val + (16 + (i 0).val)) (2048 + (i 1).val)
    unfold pad
    rw [if_neg (by omega)]
    exact congrArg₂ (nat2 X0) (by omega) (by omega)

theorem b5_of (h : Real6 m c X0 X1 X2 X3 X4 X5) (t : Fin cfg0.N) (i : S16x1024.Idx) :
    (if (grid0.coords t 0).val = 0 then (0 : EReal) else iblk m c 5 t i) = N (fun r s => pad (nat2 X0) (256 * t.val + (0 + r)) (2048 + s)) i := by
  have h0 : (i 0).val < 16 := (i 0).isLt
  have h1 : (i 1).val < 1024 := (i 1).isLt
  have ht := lt32 t
  rw [coord t]
  by_cases hz : t.val = 0
  · rw [if_pos hz]
    refine EReal.coe_zero.symm.trans (congrArg _ ?_)
    change 0 = pad (nat2 X0) (256 * t.val + (0 + (i 0).val)) (2048 + (i 1).val)
    unfold pad
    rw [if_pos (by omega)]
  · rw [if_neg hz]
    refine Eq.trans (b := V m c main_v1 (ix2 ⟨(16 * t.val - 1) * 16 + (i 0).val, by omega⟩ ⟨6 * 1024 + (i 1).val, by omega⟩)) ?_ ?_
    · blk_point [iblk, idx t]
    · rw [v1 h]
      refine (if_neg (show ¬6 * 1024 + (i 1).val < 4096 by omega)).trans (congrArg _ ?_)
      change nat2 X0 ((16 * t.val - 1) * 16 + (i 0).val) (6 * 1024 + (i 1).val - 4096) = pad (nat2 X0) (256 * t.val + (0 + (i 0).val)) (2048 + (i 1).val)
      unfold pad
      rw [if_neg (by omega)]
      exact congrArg₂ (nat2 X0) (by omega) (by omega)

theorem b6_of (h : Real6 m c X0 X1 X2 X3 X4 X5) (t : Fin cfg0.N) : iblk m c 6 t = N (nat2 X3) := by
  funext i
  refine Eq.trans (b := m ((c : Thread nD τ).loc main_arg3) (ix2 (i 0) (i 1))) ?_ ?_
  · blk_point [iblk, V_main_arg3, idx t]
  · exact (congrFun h.r3 _).trans (congrArg _ (nat2_at X3 (i 0) (i 1)).symm)

theorem b7_of (h : Real6 m c X0 X1 X2 X3 X4 X5) (t : Fin cfg0.N) : iblk m c 7 t = N fun r l => lanes X1 X2 (256 * t.val + r) l := by
  funext i
  have h0 : (i 0).val < 256 := (i 0).isLt
  have ht := lt32 t
  refine Eq.trans (b := V m c main_v3 (ix2 ⟨t.val * 256 + (i 0).val, by omega⟩ (i 1))) ?_ ?_
  · blk_point [iblk, idx t]
  · rw [v3 h]
    change ((lanes X1 X2 (t.val * 256 + (i 0).val) (i 1).val : ℝ) : EReal) = ((lanes X1 X2 (256 * t.val + (i 0).val) (i 1).val : ℝ) : EReal)
    rw [Nat.mul_comm]

theorem b8_of (h : Real6 m c X0 X1 X2 X3 X4 X5) (t : Fin cfg0.N) :
    iblk m c 8 t = fun i : S4x16x64.Idx => ((lanes X1 X2 (256 * t.val + 64 * (i 0).val + (i 2).val) (i 1).val : ℝ) : EReal) := by
  funext i
  have h0 : (i 0).val < 4 := (i 0).isLt
  have ht := lt32 t
  refine Eq.trans (b := V m c main_v6 (ix3 ⟨t.val * 4 + (i 0).val, by omega⟩ (i 1) (i 2))) ?_ ?_
  · blk_point [iblk, idx t]
  · rw [v6 h]
    refine congrArg (fun z => ((lanes X1 X2 z (i 1).val : ℝ) : EReal)) ?_
    change (t.val * 4 + (i 0).val) * 64 + (i 2).val = 256 * t.val + 64 * (i 0).val + (i 2).val
    omega

theorem b9_of (h : Real6 m c X0 X1 X2 X3 X4 X5) (t : Fin cfg0.N) : iblk m c 9 t = N fun _ l => factors X4 l := by
  funext i
  refine Eq.trans (b := V m c main_v10 (ix2 (i 0) (i 1))) ?_ ?_
  · blk_point [iblk, idx t]
  · rw [v10 h]
    rfl

theorem b10_of (h : Real6 m c X0 X1 X2 X3 X4 X5) (t : Fin cfg0.N) : iblk m c 10 t = N fun _ l => biases X5 l := by
  funext i
  refine Eq.trans (b := V m c main_v12 (ix2 (i 0) (i 1))) ?_ ?_
  · blk_point [iblk, idx t]
  · rw [v12 h]
    rfl

theorem b11_of (h : Real6 m c X0 X1 X2 X3 X4 X5) (t : Fin cfg0.N) : iblk m c 11 t = N fun l _ => factors X4 l := by
  funext i
  refine Eq.trans (b := V m c main_v16 (ix2 (i 0) (i 1))) ?_ ?_
  · blk_point [iblk, idx t]
  · rw [v16 h]
    rfl

theorem b12_of (h : Real6 m c X0 X1 X2 X3 X4 X5) (t : Fin cfg0.N) : iblk m c 12 t = N fun l _ => biases X5 l := by
  funext i
  refine Eq.trans (b := V m c main_v20 (ix2 (i 0) (i 1))) ?_ ?_
  · blk_point [iblk, idx t]
  · rw [v20 h]
    rfl

theorem blocks (h : Real6 m c X0 X1 X2 X3 X4 X5) (t : Fin cfg0.N) :
    Blocks m c t (nat2 X0) (nat2 X3) (lanes X1 X2) (factors X4) (biases X5) :=
  ⟨b0_of h t, b1_of h t, b2_of h t, b3_of h t, b4_of h t, b5_of h t, b6_of h t, b7_of h t, b8_of h t, b9_of h t, b10_of h t, b11_of h t, b12_of h t⟩

/-! ## The grid -/

/-- Head `hd`'s state before token `r`, from the argument arrays, -/
def stX (X0 : S8192x3072.Idx → ℝ) (X1 X2 : S8192x8.Idx → ℝ) (X3 : S4x3072.Idx → ℝ) (X4 X5 : S8.Idx → ℝ) (hd r : ℕ) : Matrix (Fin 128) (Fin 128) ℝ :=
  stT (convT (nat2 X0) (nat2 X3)) (betT (lanes X1 X2)) (decT (lanes X1 X2) (factors X4) (biases X5)) hd r
/-- and its output of token `r`. -/
def outX (X0 : S8192x3072.Idx → ℝ) (X1 X2 : S8192x8.Idx → ℝ) (X3 : S4x3072.Idx → ℝ) (X4 X5 : S8.Idx → ℝ) (hd r : ℕ) (b : Fin 128) : ℝ :=
  outT (convT (nat2 X0) (nat2 X3)) (betT (lanes X1 X2)) (decT (lanes X1 X2) (factors X4) (biases X5)) hd r b

theorem outs (h : Real6 m c X0 X1 X2 X3 X4 X5) (n : ℕ) (hn : n < cfg0.N) :
    (outsAt m c n hn).1 = G13 (convT (nat2 X0) (nat2 X3)) (betT (lanes X1 X2)) (decT (lanes X1 X2) (factors X4) (biases X5)) (256 * n)
      ∧ (outsAt m c n hn).2.1 = G14 (convT (nat2 X0) (nat2 X3)) (betT (lanes X1 X2)) (decT (lanes X1 X2) (factors X4) (biases X5)) (256 * n)
      ∧ (outsAt m c n hn).2.2.2 = Sts fun hd => stX X0 X1 X2 X3 X4 X5 hd (256 * (n + 1)) := by
  induction n with
  | zero =>
    have e := point_A (blocks h ⟨0, hn⟩) (Nat.zero_mod _) rfl
    have e' : outsAt m c 0 hn = _ := (outsAt_A m c ⟨0, hn⟩ (Nat.zero_mod _)).trans e
    rw [e']
    exact ⟨rfl, rfl, rfl⟩
  | succ n ih =>
    have hlt : n + 1 < 32 := Nat.lt_of_lt_of_eq hn N_0
    have h0 : ¬(n + 1) % 32 = 0 := by omega
    have e := point_B (blocks h ⟨n + 1, hn⟩) h0 (outsAt m c n (Nat.lt_of_succ_lt hn)).2.2.2 (ih (Nat.lt_of_succ_lt hn)).2.2
    have e' : outsAt m c (n + 1) hn = _ := (outsAt_B m c ⟨n + 1, hn⟩ h0).trans e
    rw [e']
    exact ⟨rfl, rfl, rfl⟩

/-- The outputs, head after head, -/
def outArr (X0 : S8192x3072.Idx → ℝ) (X1 X2 : S8192x8.Idx → ℝ) (X3 : S4x3072.Idx → ℝ) (X4 X5 : S8.Idx → ℝ) : S8192x1024.Idx → EReal := fun i =>
  ((outX X0 X1 X2 X3 X4 X5 ((i 1).val / 128) (i 0).val ⟨(i 1).val % 128, Nat.mod_lt _ (by decide)⟩ : ℝ) : EReal)
/-- and the states before every sixty-fourth token. -/
def stArr (X0 : S8192x3072.Idx → ℝ) (X1 X2 : S8192x8.Idx → ℝ) (X3 : S4x3072.Idx → ℝ) (X4 X5 : S8.Idx → ℝ) : S128x8x128x128.Idx → EReal := fun i =>
  ((stX X0 X1 X2 X3 X4 X5 (i 1).val (64 * (i 0).val) (i 2) (i 3) : ℝ) : EReal)

theorem final13 (h : Real6 m c X0 X1 X2 X3 X4 X5) : (dats m 0 c).arrAt 13 (cfgs 0).N = outArr X0 X1 X2 X3 X4 X5 := by
  refine Pipeline.Dat.arrAt_eq_of_covers (dats m 0 c) 13 _ (by decide +kernel) fun t hf y => ?_
  blk_simp
  rw [after0_13]
  have hy : (y 0).val < 256 := (y 0).isLt
  have ht := lt32 t
  have e : ((View.whole main_v21_0).slice (win0_13.rect t)).emb y = (ix2 ⟨t.val * 256 + (y 0).val, by omega⟩ (y 1) : S8192x1024.Idx) := by
    blk_ext [idx t]
  rw [e, (outs h t.val t.isLt).1]
  change ((outX X0 X1 X2 X3 X4 X5 ((y 1).val / 128) (256 * t.val + (y 0).val) ⟨(y 1).val % 128, _⟩ : ℝ) : EReal)
    = ((outX X0 X1 X2 X3 X4 X5 ((y 1).val / 128) (t.val * 256 + (y 0).val) ⟨(y 1).val % 128, _⟩ : ℝ) : EReal)
  rw [Nat.mul_comm]

theorem final14 (h : Real6 m c X0 X1 X2 X3 X4 X5) : (dats m 0 c).arrAt 14 (cfgs 0).N = stArr X0 X1 X2 X3 X4 X5 := by
  refine Pipeline.Dat.arrAt_eq_of_covers (dats m 0 c) 14 _ (by decide +kernel) fun t hf y => ?_
  blk_simp
  rw [after0_14]
  have hy : (y 0).val < 4 := (y 0).isLt
  have ht := lt32 t
  have e : ((View.whole main_v21_1).slice (win0_14.rect t)).emb y = (ix4 ⟨t.val * 4 + (y 0).val, by omega⟩ (y 1) (y 2) (y 3) : S128x8x128x128.Idx) := by
    blk_ext [idx t]
  rw [e, (outs h t.val t.isLt).2.1]
  change ((stX X0 X1 X2 X3 X4 X5 (y 1).val (256 * t.val + 64 * (y 0).val) (y 2) (y 3) : ℝ) : EReal)
    = ((stX X0 X1 X2 X3 X4 X5 (y 1).val (64 * (t.val * 4 + (y 0).val)) (y 2) (y 3) : ℝ) : EReal)
  rw [show 256 * t.val + 64 * (y 0).val = 64 * (t.val * 4 + (y 0).val) by omega]

end Cert.DnFwdIdeal.Own

end
-- ==== Proof.DnStep.lean ====
/- The run of the recurrence's program, stated over its step: what one trip of its loop leaves, and its two results as
   fields of the step iterated from the first state. -/
module

public import proofs.«01_k».proof.Proof.Gen.DnRefIdeal.Run
public import proofs.«01_k».proof.Proof.Gen.DnRefIdeal.Step

@[expose] public section

set_option maxRecDepth 8192

noncomputable section

namespace Cert.DnRefIdeal.Own

open Idealize.ShloMosaic Idealize.ShloMosaic.TcCoe Idealize.SL.Sem Idealize.ShloMosaic.StableHlo
open Cert.DnRefIdeal Cert.DnRefIdeal.Gen Cert.DnRefIdeal.Value
open Cert.DnRefIdeal.Step (State step init)

variable {F : FTy → Type} [FloatOps F]

/-- The state that a valuation carries. -/
def carried (V0 : Valuation τ sig (Elt F)) : State F where
  main_v75_6 := V0 (Proc.devRef .tc main_v75_6)
  main_v75_7 := V0 (Proc.devRef .tc main_v75_7)
  main_v75_8 := V0 (Proc.devRef .tc main_v75_8)
  main_v75_0 := V0 (Proc.devRef .tc main_v75_0)
  main_v75_1 := V0 (Proc.devRef .tc main_v75_1)
  main_v75_2 := V0 (Proc.devRef .tc main_v75_2)
  main_v75_3 := V0 (Proc.devRef .tc main_v75_3)
  main_v75_4 := V0 (Proc.devRef .tc main_v75_4)

/-- The valuation carries the state and the trip's number. -/
structure Holds (V0 : Valuation τ sig (Elt F)) (s : State F) (j : ℕ) : Prop where
  f : carried V0 = s
  n : V0 (Proc.devRef .tc main_v75_5) = constantI S_ 32 (BitVec.ofNat 32 j)

variable {V0 : Valuation τ sig (Elt F)} {s : State F} {j : ℕ}

theorem step_6 (n : V0 (Proc.devRef .tc main_v75_5) = constantI S_ 32 (BitVec.ofNat 32 j)) : step_main_v75_6 V0 = (step j (carried V0)).main_v75_6 := by
  rw [Step.step_main_v75_6]
  unfold step_main_v75_6 res_main_while0b_v100 res_main_while0b_v89 res_main_while0b_v82
  rw [n]
  rfl

theorem step_7 (n : V0 (Proc.devRef .tc main_v75_5) = constantI S_ 32 (BitVec.ofNat 32 j)) : step_main_v75_7 V0 = (step j (carried V0)).main_v75_7 := by
  rw [Step.step_main_v75_7]
  unfold step_main_v75_7 res_main_while0b_v100 res_main_while0b_v89 res_main_while0b_v82
  rw [n]
  rfl

theorem step_8 (n : V0 (Proc.devRef .tc main_v75_5) = constantI S_ 32 (BitVec.ofNat 32 j)) : step_main_v75_8 V0 = (step j (carried V0)).main_v75_8 := by
  rw [Step.step_main_v75_8]
  unfold step_main_v75_8
  rw [n]
  rfl

theorem step_5 (n : V0 (Proc.devRef .tc main_v75_5) = constantI S_ 32 (BitVec.ofNat 32 j)) : step_main_v75_5 V0 = constantI S_ 32 (BitVec.ofNat 32 (j + 1)) := by
  unfold step_main_v75_5
  rw [n]
  funext i
  show BitVec.ofNat 32 j + 1#32 = BitVec.ofNat 32 (j + 1)
  simp only [BitVec.ofNat_add]

theorem holds_step (h : Holds V0 s j) : Holds (STEP V0) (step j s) (j + 1) where
  n := (STEP_main_v75_5 V0).trans (step_5 h.n)
  f := by
    obtain ⟨rfl, n⟩ := h
    have e6 := (STEP_main_v75_6 V0).trans (step_6 n)
    have e7 := (STEP_main_v75_7 V0).trans (step_7 n)
    have e8 := (STEP_main_v75_8 V0).trans (step_8 n)
    unfold carried at *
    rw [e6, e7, e8, STEP_main_v75_0 V0, STEP_main_v75_1 V0, STEP_main_v75_2 V0, STEP_main_v75_3 V0, STEP_main_v75_4 V0]
    rfl

/-- The state the first trip starts from. -/
abbrev start (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The state after `k` trips. -/
def after (m : (ℓ : Loc nD τ sig) → Buf (Elt F) ℓ) (c : Dev nD) : ℕ → State F
  | 0 => start m c
  | k + 1 => step k (after m c k)

variable (m : (ℓ : Loc nD τ sig) → Buf (Elt F) ℓ) (c : Dev nD)

set_option maxRecDepth 65536 in
set_option maxHeartbeats 1400000 in
theorem entry_f : carried (entryContents preI m c) = start m c := by
  unfold carried
  congr 1 <;> (simp only [entryContents, afterL_cons, afterL_nil]; after_reads_simp) <;> rfl

set_option maxRecDepth 65536 in
set_option maxHeartbeats 700000 in
theorem entry_n : entryContents preI m c (Proc.devRef .tc main_v75_5) = constantI S_ 32 (BitVec.ofNat 32 0) := by
  (simp only [entryContents, afterL_cons, afterL_nil]; after_reads_simp) <;> rfl

theorem out76 (h : Holds V0 s j) : out_main_v76 V0 = Step.R_main_v76 s := by
  obtain ⟨rfl, n⟩ := h
  rfl

theorem out80 (h : Holds V0 s j) : out_main_v80 V0 = Step.R_main_v80 s := by
  obtain ⟨rfl, n⟩ := h
  rfl

theorem holds_iter : ∀ k, Holds (STEP^[k] (entryContents preI m c)) (after m c k) k
  | 0 => ⟨entry_f m c, entry_n m c⟩
  | k + 1 => by
    rw [Function.iterate_succ_apply']
    exact holds_step (holds_iter k)

theorem run_iter (ρ : Dev nD → PrngReg) :
    θ_run (defs (F := F)) (onTc (τ := τ) (main (F := F))) ⟨m, fun _ => 0, ρ⟩ fun r => ∀ c : Dev nD,
      r.2.mem ((c.tc : Thread nD τ).loc main_v76) = Step.R_main_v76 (after m c 8192)
      ∧ r.2.mem ((c.tc : Thread nD τ).loc main_v80) = Step.R_main_v80 (after m c 8192)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c).1.trans (out76 (holds_iter m c 8192)), (h c).2.1.trans (out80 (holds_iter m c 8192)), (h c).2.2⟩) (Value.run m ρ)

end Cert.DnRefIdeal.Own

end
-- ==== Proof.DnRef.lean ====
/- The recurrence's reference at the reals: what it makes of its arguments before its loop, as real arrays. -/
module

public import proofs.«01_k».proof.Proof.DnGrid
public import proofs.«01_k».proof.Proof.DnStep
public import Idealize.ShloMosaic.Lib.Pointwise
public import Idealize.ShloMosaic.Lib.DynamicIndex
public import Idealize.ShloMosaic.Lib.Pipeline.Value

@[expose] public section

set_option maxRecDepth 16384

noncomputable section

namespace Cert.DnRefIdeal.Own

open Cert.DnRefIdeal Cert.DnRefIdeal.Gen Cert.Reals
open Idealize.ShloMosaic Idealize.ShloMosaic.TcCoe
open Cert.DnRefIdeal.Step
open Cert.DnFwdIdeal.Own (nat2 nat1 nat2_at nat1_at lanes factors biases convT convR betT decT gate lgs lgs_coe sp sp_coe' rowT unitT qT kT vT bT gT qscale ofBits_qscale zero_bits one_bits coe_max)

variable (X0 : S8192x3072.Idx → ℝ) (X1 X2 : S8192x8.Idx → ℝ) (X3 : S4x3072.Idx → ℝ) (X4 X5 : S8.Idx → ℝ)

/-- An array of real numbers. -/
abbrev up {s : Shape} (X : s.Idx → ℝ) : s.Idx → EReal := fun i => (X i : EReal)

theorem a2 : A_main_v2 (F := Ideal) (up X0) (up X1) (up X2) (up X3) (up X4) (up X5)
    = fun i : S8195x3072.Idx => ((DnFwdIdeal.Own.pad (nat2 X0) (13 + (i 0).val) (i 1).val : ℝ) : EReal) := by
  funext i
  idx_vars i
  pointwise [A_main_v2, A_main_v1, K_main_v0, K_main_cst]
  unfold DnFwdIdeal.Own.pad
  by_cases hc : i0.val < 3
  · rw [dif_pos hc, if_pos (by omega)]
    exact EReal.coe_zero.symm
  · have h8 : i0.val - 3 < 8192 := by have := i0.isLt; omega
    have hs : 13 + i0.val - 16 = i0.val - 3 := by omega
    rw [dif_neg hc, if_neg (by omega : ¬13 + i0.val < 16)]
    exact congrArg _ ((nat2_at X0 ⟨i0.val - 3, h8⟩ i1).symm.trans (congrArg (fun r => nat2 X0 r i1.val) hs.symm))

theorem a31 : A_main_v31 (F := Ideal) (up X0) (up X1) (up X2) (up X3) (up X4) (up X5)
    = fun i : S8192x3072.Idx => ((convT (nat2 X0) (nat2 X3) (i 0).val (i 1).val : ℝ) : EReal) := by
  have h2 := a2 X0 X1 X2 X3 X4 X5
  funext i
  idx_vars i
  pointwise [A_main_v31, A_main_v30, A_main_v29, A_main_v28, A_main_v27, A_main_v26, A_main_v25, A_main_v24, A_main_v23, A_main_v22, A_main_v21,
    A_main_v20, A_main_v19, A_main_v18, A_main_v17, A_main_v16, A_main_v15, A_main_v14, A_main_v13, A_main_v11, A_main_v12, A_main_v10,
    A_main_v8, A_main_v7, A_main_v6, A_main_v5, A_main_v4, A_main_v3, K_main_v9, K_main_cst_0, h2]
  unfold convT convR
  rw [← EReal.coe_mul, ← EReal.coe_mul, ← EReal.coe_mul, ← EReal.coe_mul, ← EReal.coe_add, ← EReal.coe_add, ← EReal.coe_add,
    show 13 + (1 + i0.val) = 14 + i0.val by omega, show 13 + (2 + i0.val) = 15 + i0.val by omega, show 13 + (3 + i0.val) = 16 + i0.val by omega]
  have w (j : Fin 4) : X3 (ix2 j i1) = nat2 X3 j.val i1.val := (nat2_at X3 j i1).symm
  rw [w 0, w 1, w 2, w 3]
  rfl

theorem lgs_up (x : ℝ) : Ideal.div 1 (1 + Ideal.exp (-(x : EReal))) = ((lgs x : ℝ) : EReal) := by
  have h : (1 + Real.exp (-x)) ≠ 0 := by positivity
  rw [← EReal.coe_neg, Ideal.exp_coe, ← EReal.coe_one, ← EReal.coe_add, div_real _ h]
  rfl

theorem a32 : A_main_v32 (F := Ideal) (up X0) (up X1) (up X2) (up X3) (up X4) (up X5)
    = fun i : S8192x3072.Idx => ((gate (convT (nat2 X0) (nat2 X3) (i 0).val (i 1).val) : ℝ) : EReal) := by
  have h := a31 X0 X1 X2 X3 X4 X5
  funext i
  idx_vars i
  pointwise [A_main_v32, A_main_call0_v5, A_main_call0_v3, A_main_call0_v1, A_main_call0_v0, K_main_call0_v4, K_main_call0_v2, K_main_call0_cst,
    K_main_call0_cst_0, h]
  rw [lgs_up, ← EReal.coe_mul]
  rfl

theorem a36 : A_main_v36 (F := Ideal) (up X0) (up X1) (up X2) (up X3) (up X4) (up X5)
    = fun i : S8192x8x128.Idx => ((rowT (convT (nat2 X0) (nat2 X3)) (128 * (i 1).val) (i 0).val (i 2).val : ℝ) : EReal) := by
  have h := a32 X0 X1 X2 X3 X4 X5
  funext i
  idx_vars i
  pointwise [A_main_v36, A_main_v33, h]
  unfold rowT
  rw [Nat.mul_comm]

theorem a37 : A_main_v37 (F := Ideal) (up X0) (up X1) (up X2) (up X3) (up X4) (up X5)
    = fun i : S8192x8x128.Idx => ((rowT (convT (nat2 X0) (nat2 X3)) (1024 + 128 * (i 1).val) (i 0).val (i 2).val : ℝ) : EReal) := by
  have h := a32 X0 X1 X2 X3 X4 X5
  funext i
  idx_vars i
  pointwise [A_main_v37, A_main_v34, h]
  unfold rowT
  rw [Nat.mul_comm, Nat.add_assoc]

theorem a38 : A_main_v38 (F := Ideal) (up X0) (up X1) (up X2) (up X3) (up X4) (up X5)
    = fun i : S8192x8x128.Idx => ((vT (convT (nat2 X0) (nat2 X3)) (i 1).val (i 0).val (i 2) : ℝ) : EReal) := by
  have h := a32 X0 X1 X2 X3 X4 X5
  funext i
  idx_vars i
  pointwise [A_main_v38, A_main_v35, h]
  unfold vT rowT
  rw [Nat.mul_comm, Nat.add_assoc]

theorem a48 : A_main_v48 (F := Ideal) (up X0) (up X1) (up X2) (up X3) (up X4) (up X5)
    = fun i : S8192x8x128.Idx => ((qT (convT (nat2 X0) (nat2 X3)) (i 1).val (i 0).val (i 2) : ℝ) : EReal) := by
  have h := a36 X0 X1 X2 X3 X4 X5
  funext i
  idx_vars i
  pointwise [A_main_v48, A_main_v46, A_main_v45, A_main_v44, A_main_v43, A_main_v41, A_main_v40, A_main_v39, K_main_v47, K_main_v42, K_main_cst_1, K_main_cst_2, K_main_cst_3, h]
  simp only [← EReal.coe_mul, ← coe_sum]
  rw [ofBits_eps, ofBits_qscale, ← EReal.coe_add,
    rsqrt_real (add_pos_of_nonneg_of_pos (Finset.sum_nonneg fun _ _ => mul_self_nonneg _) eps_pos), ← EReal.coe_mul, ← EReal.coe_mul, mul_comm]
  rfl

theorem a56 : A_main_v56 (F := Ideal) (up X0) (up X1) (up X2) (up X3) (up X4) (up X5)
    = fun i : S8192x8x128.Idx => ((kT (convT (nat2 X0) (nat2 X3)) (i 1).val (i 0).val (i 2) : ℝ) : EReal) := by
  have h := a37 X0 X1 X2 X3 X4 X5
  funext i
  idx_vars i
  pointwise [A_main_v56, A_main_v55, A_main_v54, A_main_v53, A_main_v51, A_main_v50, A_main_v49, K_main_v52, K_main_cst_4, K_main_cst_5, h]
  simp only [← EReal.coe_mul, ← coe_sum]
  rw [ofBits_eps, ← EReal.coe_add,
    rsqrt_real (add_pos_of_nonneg_of_pos (Finset.sum_nonneg fun _ _ => mul_self_nonneg _) eps_pos), ← EReal.coe_mul]
  rfl

theorem a62 : A_main_v62 (F := Ideal) (up X0) (up X1) (up X2) (up X3) (up X4) (up X5)
    = fun i : S8192x8.Idx => ((bT (betT (lanes X1 X2)) (i 1).val (i 0).val : ℝ) : EReal) := by
  funext i
  idx_vars i
  pointwise [A_main_v62, A_main_v60, A_main_v58, A_main_v57, K_main_v61, K_main_v59, K_main_cst_6, K_main_cst_7]
  rw [lgs_up]
  unfold bT betT lanes
  rw [if_pos i1.isLt, nat2_at]

theorem a71 : A_main_v71 (F := Ideal) (up X0) (up X1) (up X2) (up X3) (up X4) (up X5)
    = fun i : S8192x8.Idx => ((gT (decT (lanes X1 X2) (factors X4) (biases X5)) (i 1).val (i 0).val : ℝ) : EReal) := by
  funext i
  idx_vars i
  pointwise [A_main_v71, A_main_v70, A_main_v69, A_main_v68, A_main_v67, A_main_v66, A_main_v65, A_main_v64, A_main_v63,
    A_main_call1_v11, A_main_call1_v10, A_main_call1_v9, A_main_call1_v8, A_main_call1_v7, A_main_call1_v6, A_main_call1_v4, A_main_call1_v3, A_main_call1_v1,
    K_main_call1_v0, K_main_call1_v2, K_main_call1_v5, K_main_call1_cst]
  rw [if_neg (not_not.mpr rfl)]
  have h8 : i1.val < 8 := i1.isLt
  have e : gT (decT (lanes X1 X2) (factors X4) (biases X5)) i1.val i0.val = -Real.exp (X4 (ix1 i1)) * sp (X2 (ix2 i0 i1) + X5 (ix1 i1)) := by
    unfold gT decT lanes factors biases
    rw [if_pos (by omega : 8 ≤ 8 + i1.val ∧ 8 + i1.val - 8 < 8), if_pos (by omega : 8 ≤ 8 + i1.val ∧ 8 + i1.val - 8 < 8),
      if_neg (by omega : ¬8 + i1.val < 8), if_pos (by omega : 8 + i1.val - 8 < 8), Nat.add_sub_cancel_left, nat1_at, nat1_at, nat2_at]
  rw [e, EReal.coe_mul, ← sp_coe', EReal.coe_add, EReal.coe_neg, zero_sub]
  rfl

/-! ## One trip -/

theorem at_word (r : ℕ) (hr : r < 8192) : (BitVec.ofNat 32 r).toInt = (r : ℤ) := by
  rw [BitVec.toInt_ofNat']
  exact Int.bmod_eq_of_le (by omega) (by omega)

variable {X0 X1 X2 X3 X4 X5}

/-- The state of the loop before token `r`. -/
structure Inv (q k v : ℕ → ℕ → Fin 128 → ℝ) (β g : ℕ → ℕ → ℝ) (r : ℕ) (s : State Ideal) : Prop where
  f6 : s.main_v75_6 = fun i : S8x128x128.Idx => ((Delta.state (k (i 0).val) (v (i 0).val) (β (i 0).val) (g (i 0).val) r (i 1) (i 2) : ℝ) : EReal)
  f7 : s.main_v75_7 = fun i : S8192x8x128.Idx =>
    (((if (i 0).val < r then Delta.out (q (i 1).val) (k (i 1).val) (v (i 1).val) (β (i 1).val) (g (i 1).val) (i 0).val (i 2) else 0) : ℝ) : EReal)
  f8 : s.main_v75_8 = fun i : S8192x8x128x128.Idx =>
    (((if (i 0).val < r then Delta.state (k (i 1).val) (v (i 1).val) (β (i 1).val) (g (i 1).val) (i 0).val (i 2) (i 3) else 0) : ℝ) : EReal)
  f0 : s.main_v75_0 = fun i : S8192x8x128.Idx => ((q (i 1).val (i 0).val (i 2) : ℝ) : EReal)
  f1 : s.main_v75_1 = fun i : S8192x8x128.Idx => ((k (i 1).val (i 0).val (i 2) : ℝ) : EReal)
  f2 : s.main_v75_2 = fun i : S8192x8x128.Idx => ((v (i 1).val (i 0).val (i 2) : ℝ) : EReal)
  f3 : s.main_v75_3 = fun i : S8192x8.Idx => ((β (i 1).val (i 0).val : ℝ) : EReal)
  f4 : s.main_v75_4 = fun i : S8192x8.Idx => ((g (i 1).val (i 0).val : ℝ) : EReal)

section Trip

variable {q k v : ℕ → ℕ → Fin 128 → ℝ} {β g : ℕ → ℕ → ℝ} {r : ℕ} {s : State Ideal}

theorem row3 (hr : r < 8192) (x : S8192x8x128.Idx → EReal) (Q : ℕ → ℕ → Fin 128 → ℝ) (hx : x = fun i => ((Q (i 1).val (i 0).val (i 2) : ℝ) : EReal))
    (z0 z1 : S_.Idx → BitVec 32) (h0 : z0 = fun _ => 0#32) (h1 : z1 = fun _ => 0#32) :
    shapeCast S8x128 (Host.dynamicSlice S1x8x128 x (fun a => (((![(constantI S_ 32 (BitVec.ofNat 32 r)), z0, z1] : Fin 3 → (S_.Idx → BitVec 32))) a (Shape.Idx.first h_S_)).toInt) sliceFits_S8192x8x128_S1x8x128) shapeCasts_S1x8x128_S8x128
      = fun i : S8x128.Idx => ((Q (i 0).val r (i 1) : ℝ) : EReal) := by
  subst hx h0 h1
  rw [Host.dynamicSlice_eq_extractStridedSlice _ _ _ ![r, 0, 0] _ (by constructor <;> first | rfl | (intro a; fin_cases a <;> simp [S1x8x128, S8192x8x128] <;> omega))
    (by intro a; fin_cases a <;> [exact at_word r hr; rfl; rfl])]
  funext i
  idx_vars i
  pointwise []
  done

theorem row2 (hr : r < 8192) (x : S8192x8.Idx → EReal) (Q : ℕ → ℕ → ℝ) (hx : x = fun i => ((Q (i 1).val (i 0).val : ℝ) : EReal))
    (z0 : S_.Idx → BitVec 32) (h0 : z0 = fun _ => 0#32) :
    shapeCast S8 (Host.dynamicSlice S1x8 x (fun a => (((![(constantI S_ 32 (BitVec.ofNat 32 r)), z0] : Fin 2 → (S_.Idx → BitVec 32))) a (Shape.Idx.first h_S_)).toInt) sliceFits_S8192x8_S1x8) shapeCasts_S1x8_S8
      = fun i : S8.Idx => ((Q (i 0).val r : ℝ) : EReal) := by
  subst hx h0
  rw [Host.dynamicSlice_eq_extractStridedSlice _ _ _ ![r, 0] _ (by constructor <;> first | rfl | (intro a; fin_cases a <;> simp [S1x8, S8192x8] <;> omega))
    (by intro a; fin_cases a <;> [exact at_word r hr; rfl])]
  funext i
  idx_vars i
  pointwise []
  done

theorem e3 (h : Inv q k v β g r s) (hr : r < 8192) : b3 r s = fun i : S8x128.Idx => ((q (i 0).val r (i 1) : ℝ) : EReal) :=
  row3 hr _ q h.f0 _ _ rfl rfl
theorem e7 (h : Inv q k v β g r s) (hr : r < 8192) : b7 r s = fun i : S8x128.Idx => ((k (i 0).val r (i 1) : ℝ) : EReal) :=
  row3 hr _ k h.f1 _ _ rfl rfl
theorem e11 (h : Inv q k v β g r s) (hr : r < 8192) : b11 r s = fun i : S8x128.Idx => ((v (i 0).val r (i 1) : ℝ) : EReal) :=
  row3 hr _ v h.f2 _ _ rfl rfl
theorem e14 (h : Inv q k v β g r s) (hr : r < 8192) : b14 r s = fun i : S8.Idx => ((β (i 0).val r : ℝ) : EReal) :=
  row2 hr _ β h.f3 _ rfl
theorem e17 (h : Inv q k v β g r s) (hr : r < 8192) : b17 r s = fun i : S8.Idx => ((g (i 0).val r : ℝ) : EReal) :=
  row2 hr _ g h.f4 _ rfl

theorem e32 (h : Inv q k v β g r s) (hr : r < 8192) : b32 r s
    = fun i : S8x128x128.Idx => ((Delta.state (k (i 0).val) (v (i 0).val) (β (i 0).val) (g (i 0).val) (r + 1) (i 1) (i 2) : ℝ) : EReal) := by
  have h7 := e7 h hr
  have h11 := e11 h hr
  have h14 := e14 h hr
  have h17 := e17 h hr
  have h6 := h.f6
  funext i
  idx_vars i
  pointwise [b32, b31, b30, b29, b28, b27, b26, b25, b24, b23, b22, b21, b20, b19, b18, h7, h11, h14, h17, h6]
  simp only [Ideal.exp_coe, ← EReal.coe_mul, ← coe_sum, ← EReal.coe_sub, ← EReal.coe_add]
  rfl

theorem e33 (h : Inv q k v β g r s) (hr : r < 8192) : b33 r s
    = fun i : S8x128.Idx => ((Delta.out (q (i 0).val) (k (i 0).val) (v (i 0).val) (β (i 0).val) (g (i 0).val) r (i 1) : ℝ) : EReal) := by
  have h3 := e3 h hr
  have h32 := e32 h hr
  funext i
  idx_vars i
  pointwise [b33, h3, h32]
  simp only [← EReal.coe_mul, ← coe_sum]
  rfl

theorem e37 (h : Inv q k v β g r s) (hr : r < 8192) : b37 r s = fun i : S8192x8x128.Idx =>
    (((if (i 0).val < r + 1 then Delta.out (q (i 1).val) (k (i 1).val) (v (i 1).val) (β (i 1).val) (g (i 1).val) (i 0).val (i 2) else 0) : ℝ) : EReal) := by
  have h33 := e33 h hr
  have h7 := h.f7
  unfold b37
  rw [Host.dynamicUpdateSlice_eq_updateSlice _ _ _ _ ![r, 0, 0] (by
      intro a
      fin_cases a
      · show (min (max (BitVec.ofNat 32 r).toInt 0) ((8191 : ℕ) : ℤ)).toNat = r
        rw [at_word r hr]; omega
      · rfl
      · rfl)
    (by constructor <;> first | rfl | (intro a; fin_cases a <;> simp [S1x8x128, S8192x8x128] <;> omega))]
  funext i
  idx_vars i
  pointwise [b34, h33, h7]
  by_cases hc : r ≤ i0.val ∧ i0.val < r + 1
  · have e : i0.val = r := by omega
    rw [dif_pos hc, if_pos (by omega : i0.val < r + 1), e]
  · rw [dif_neg hc]
    by_cases hl : i0.val < r
    · rw [if_pos hl, if_pos (by omega : i0.val < r + 1)]
    · rw [if_neg hl, if_neg (by omega : ¬i0.val < r + 1)]

theorem e42 (h : Inv q k v β g r s) (hr : r < 8192) : b42 r s = fun i : S8192x8x128x128.Idx =>
    (((if (i 0).val < r + 1 then Delta.state (k (i 1).val) (v (i 1).val) (β (i 1).val) (g (i 1).val) (i 0).val (i 2) (i 3) else 0) : ℝ) : EReal) := by
  have h6 := h.f6
  have h8 := h.f8
  unfold b42
  rw [Host.dynamicUpdateSlice_eq_updateSlice _ _ _ _ ![r, 0, 0, 0] (by
      intro a
      fin_cases a
      · show (min (max (BitVec.ofNat 32 r).toInt 0) ((8191 : ℕ) : ℤ)).toNat = r
        rw [at_word r hr]; omega
      · rfl
      · rfl
      · rfl)
    (by constructor <;> first | rfl | (intro a; fin_cases a <;> simp [S1x8x128x128, S8192x8x128x128] <;> omega))]
  funext i
  idx_vars i
  pointwise [b38, h6, h8]
  by_cases hc : r ≤ i0.val ∧ i0.val < r + 1
  · have e : i0.val = r := by omega
    rw [dif_pos hc, if_pos (by omega : i0.val < r + 1), e]
  · rw [dif_neg hc]
    by_cases hl : i0.val < r
    · rw [if_pos hl, if_pos (by omega : i0.val < r + 1)]
    · rw [if_neg hl, if_neg (by omega : ¬i0.val < r + 1)]

theorem inv_step (h : Inv q k v β g r s) (hr : r < 8192) : Inv q k v β g (r + 1) (step r s) where
  f6 := (step_main_v75_6 r s).trans (e32 h hr)
  f7 := (step_main_v75_7 r s).trans (e37 h hr)
  f8 := (step_main_v75_8 r s).trans (e42 h hr)
  f0 := h.f0
  f1 := h.f1
  f2 := h.f2
  f3 := h.f3
  f4 := h.f4

theorem res76 (h : Inv q k v β g 8192 s) : R_main_v76 s = fun i : S8192x1024.Idx =>
    ((Delta.out (q ((i 1).val / 128)) (k ((i 1).val / 128)) (v ((i 1).val / 128)) (β ((i 1).val / 128)) (g ((i 1).val / 128)) (i 0).val
      ⟨(i 1).val % 128, Nat.mod_lt _ (by decide)⟩ : ℝ) : EReal) := by
  have h7 := h.f7
  funext i
  idx_vars i
  pointwise [R_main_v76, h7]
  done

theorem res80 (h : Inv q k v β g 8192 s) : R_main_v80 s = fun i : S128x8x128x128.Idx =>
    ((Delta.state (k (i 1).val) (v (i 1).val) (β (i 1).val) (g (i 1).val) (64 * (i 0).val) (i 2) (i 3) : ℝ) : EReal) := by
  have h8 := h.f8
  funext i
  idx_vars i
  pointwise [R_main_v80, h8]
  rw [Nat.mul_comm]

end Trip

variable (X0 X1 X2 X3 X4 X5)

theorem inv_start : Inv (qT (convT (nat2 X0) (nat2 X3))) (kT (convT (nat2 X0) (nat2 X3))) (vT (convT (nat2 X0) (nat2 X3))) (bT (betT (lanes X1 X2)))
    (gT (decT (lanes X1 X2) (factors X4) (biases X5))) 0 (init (F := Ideal) (up X0) (up X1) (up X2) (up X3) (up X4) (up X5)) where
  f6 := by
    funext i
    idx_vars i
    pointwise [init, K_main_v72, K_main_cst_8]
    exact EReal.coe_zero.symm
  f7 := by
    funext i
    idx_vars i
    pointwise [init, K_main_v73, K_main_cst_9]
    rw [if_neg (Nat.not_lt_zero _)]
    exact EReal.coe_zero.symm
  f8 := by
    funext i
    idx_vars i
    pointwise [init, K_main_v74, K_main_cst_10]
    rw [if_neg (Nat.not_lt_zero _)]
    exact EReal.coe_zero.symm
  f0 := a48 X0 X1 X2 X3 X4 X5
  f1 := a56 X0 X1 X2 X3 X4 X5
  f2 := a38 X0 X1 X2 X3 X4 X5
  f3 := a62 X0 X1 X2 X3 X4 X5
  f4 := a71 X0 X1 X2 X3 X4 X5

/-- The reference's two results. -/
theorem results (m : (ℓ : Loc nD τ sig) → Buf (Elt Ideal) ℓ) (c : Dev nD)
    (r0 : m ((c.tc : Thread nD τ).loc main_arg0) = up X0) (r1 : m ((c.tc : Thread nD τ).loc main_arg1) = up X1) (r2 : m ((c.tc : Thread nD τ).loc main_arg2) = up X2)
    (r3 : m ((c.tc : Thread nD τ).loc main_arg3) = up X3) (r4 : m ((c.tc : Thread nD τ).loc main_arg4) = up X4) (r5 : m ((c.tc : Thread nD τ).loc main_arg5) = up X5) :
    R_main_v76 (after m c 8192) = DnFwdIdeal.Own.outArr X0 X1 X2 X3 X4 X5 ∧ R_main_v80 (after m c 8192) = DnFwdIdeal.Own.stArr X0 X1 X2 X3 X4 X5 := by
  have key : ∀ n, n ≤ 8192 → Inv (qT (convT (nat2 X0) (nat2 X3))) (kT (convT (nat2 X0) (nat2 X3))) (vT (convT (nat2 X0) (nat2 X3))) (bT (betT (lanes X1 X2)))
      (gT (decT (lanes X1 X2) (factors X4) (biases X5))) n (after m c n) := fun n => by
    induction n with
    | zero =>
      intro _
      show Inv _ _ _ _ _ 0 (start m c)
      unfold start
      rw [r0, r1, r2, r3, r4, r5]
      exact inv_start X0 X1 X2 X3 X4 X5
    | succ n ih => exact fun hn => inv_step (ih (by omega)) (by omega)
  exact ⟨res76 (key 8192 le_rfl), res80 (key 8192 le_rfl)⟩

end Cert.DnRefIdeal.Own

end
-- ==== Proof.Dn.lean ====
/- The delta rule: the claims about its two programs. -/
module

public import proofs.«01_k».proof.Defs
public import proofs.«01_k».proof.Proof.DnTransfer
public import proofs.«01_k».proof.Proof.DnRef
public import proofs.«01_k».proof.Proof.Gen.Pre_finite5
public import Idealize.ShloMosaic.Lib.Claim

@[expose] public section

set_option maxRecDepth 16384

noncomputable section

namespace Cert.Dn

open Idealize.ShloMosaic Idealize.ShloMosaic.TcCoe Idealize.SL.Sem Cert.Reals

theorem frame_ki : Cert.quiescent_DnFwdIdeal := fun m ρ _ => Cert.DnFwdIdeal.Own.frame m ρ
theorem frame_ki_pre : Cert.quiescent_DnFwdIdeal_pre_finite5 := fun m ρ _ => Cert.DnFwdIdeal.Own.frame m ρ
theorem frame_ri : Cert.quiescent_DnRefIdeal := fun m ρ _ =>
  (θ_run Cert.DnRefIdeal.defs _ _).mono
    (fun r h => ⟨fun c => (h c).2.2, Idealize.ShloMosaic.sem_eq_zero_of_no_sems (by decide) r.2⟩)
    (Cert.DnRefIdeal.Own.run_iter (F := Ideal) m ρ)
theorem frame_ri_pre : Cert.quiescent_DnRefIdeal_pre_finite5 := fun m ρ _ => frame_ri m ρ trivial

/-- The precondition, read: the six argument arrays hold real numbers. -/
theorem real6 (m : (ℓ : Loc Cert.DnFwdIdeal.nD Cert.DnFwdIdeal.τ Cert.DnFwdIdeal.sig) → Buf (Elt Ideal) ℓ)
    (h : Cert.Pre_DnFwdIdeal_finite5 m) (c : Dev Cert.DnFwdIdeal.nD) :
    ∃ X0 X1 X2 X3 X4 X5, Cert.DnFwdIdeal.Own.Real6 m c X0 X1 X2 X3 X4 X5 := by
  obtain ⟨h0, h1, h2, h3, h4, h5⟩ := h c
  exact ⟨_, _, _, _, _, _, ⟨funext fun i => (real_of_cmp (congrFun h0 i)).symm, funext fun i => (real_of_cmp (congrFun h1 i)).symm,
    funext fun i => (real_of_cmp (congrFun h2 i)).symm, funext fun i => (real_of_cmp (congrFun h3 i)).symm,
    funext fun i => (real_of_cmp (congrFun h4 i)).symm, funext fun i => (real_of_cmp (congrFun h5 i)).symm⟩⟩

/-- The kernel's run, read at its two results and its arguments. -/
theorem run_k (m : (ℓ : Loc Cert.DnFwdIdeal.nD Cert.DnFwdIdeal.τ Cert.DnFwdIdeal.sig) → Buf (Elt Ideal) ℓ) (ρ : Dev Cert.DnFwdIdeal.nD → PrngReg) :
    θ_run Cert.DnFwdIdeal.defs (onTc (τ := Cert.DnFwdIdeal.τ) (Cert.DnFwdIdeal.main (F := Ideal))) ⟨m, fun _ => 0, ρ⟩ fun r => ∀ c : Dev Cert.DnFwdIdeal.nD,
      r.2.mem ((c.tc : Thread Cert.DnFwdIdeal.nD Cert.DnFwdIdeal.τ).loc Cert.DnFwdIdeal.main_v21_0) = (Cert.DnFwdIdeal.Own.dats m 0 c).arrAt 13 (Cert.DnFwdIdeal.cfgs 0).N
      ∧ r.2.mem ((c.tc : Thread Cert.DnFwdIdeal.nD Cert.DnFwdIdeal.τ).loc Cert.DnFwdIdeal.main_v21_1) = (Cert.DnFwdIdeal.Own.dats m 0 c).arrAt 14 (Cert.DnFwdIdeal.cfgs 0).N
      ∧ r.2.mem ((c.tc : Thread Cert.DnFwdIdeal.nD Cert.DnFwdIdeal.τ).loc Cert.DnFwdIdeal.main_arg0) = m ((c.tc : Thread Cert.DnFwdIdeal.nD Cert.DnFwdIdeal.τ).loc Cert.DnFwdIdeal.main_arg0)
      ∧ r.2.mem ((c.tc : Thread Cert.DnFwdIdeal.nD Cert.DnFwdIdeal.τ).loc Cert.DnFwdIdeal.main_arg1) = m ((c.tc : Thread Cert.DnFwdIdeal.nD Cert.DnFwdIdeal.τ).loc Cert.DnFwdIdeal.main_arg1)
      ∧ r.2.mem ((c.tc : Thread Cert.DnFwdIdeal.nD Cert.DnFwdIdeal.τ).loc Cert.DnFwdIdeal.main_arg2) = m ((c.tc : Thread Cert.DnFwdIdeal.nD Cert.DnFwdIdeal.τ).loc Cert.DnFwdIdeal.main_arg2)
      ∧ r.2.mem ((c.tc : Thread Cert.DnFwdIdeal.nD Cert.DnFwdIdeal.τ).loc Cert.DnFwdIdeal.main_arg3) = m ((c.tc : Thread Cert.DnFwdIdeal.nD Cert.DnFwdIdeal.τ).loc Cert.DnFwdIdeal.main_arg3)
      ∧ r.2.mem ((c.tc : Thread Cert.DnFwdIdeal.nD Cert.DnFwdIdeal.τ).loc Cert.DnFwdIdeal.main_arg4) = m ((c.tc : Thread Cert.DnFwdIdeal.nD Cert.DnFwdIdeal.τ).loc Cert.DnFwdIdeal.main_arg4)
      ∧ r.2.mem ((c.tc : Thread Cert.DnFwdIdeal.nD Cert.DnFwdIdeal.τ).loc Cert.DnFwdIdeal.main_arg5) = m ((c.tc : Thread Cert.DnFwdIdeal.nD Cert.DnFwdIdeal.τ).loc Cert.DnFwdIdeal.main_arg5) :=
  (θ_run Cert.DnFwdIdeal.defs _ _).mono (fun _ h c => ⟨(h.1 c).1 13, (h.1 c).1 14, h.2 c⟩)
    (θ_run_and (Cert.DnFwdIdeal.Own.run_main m ρ) (Cert.DnFwdIdeal.Own.unchanged m ρ))

theorem value : Cert.algebraic_DnFwdIdeal_DnRefIdeal_pre_finite5 := by
  pair_intro
  · run_from run_k m g
  · run_from Cert.DnRefIdeal.Own.run_iter m' g'
    · obtain ⟨X0, X1, X2, X3, X4, X5, h⟩ := real6 m hpre c
      obtain ⟨e0, e1, e2, e3, e4, e5⟩ := hagree c
      rw [Cert.DnFwdIdeal.Own.final13 h]
      exact (Cert.DnRefIdeal.Own.results X0 X1 X2 X3 X4 X5 m' c (e0.trans h.r0) (e1.trans h.r1) (e2.trans h.r2) (e3.trans h.r3) (e4.trans h.r4) (e5.trans h.r5)).1
    · obtain ⟨X0, X1, X2, X3, X4, X5, h⟩ := real6 m hpre c
      obtain ⟨e0, e1, e2, e3, e4, e5⟩ := hagree c
      rw [Cert.DnFwdIdeal.Own.final14 h]
      exact (Cert.DnRefIdeal.Own.results X0 X1 X2 X3 X4 X5 m' c (e0.trans h.r0) (e1.trans h.r1) (e2.trans h.r2) (e3.trans h.r3) (e4.trans h.r4) (e5.trans h.r5)).2

end Cert.Dn

end
-- ==== Proof.Out.lean ====
/- The gradient through the output projection: the claims about its two programs. -/
module

public import proofs.«01_k».proof.Defs
public import proofs.«01_k».proof.Proof.Reals
public import proofs.«01_k».proof.Proof.Gen.OutBwd.Frame
public import proofs.«01_k».proof.Proof.Gen.OutBwdIdeal.Value
public import proofs.«01_k».proof.Proof.Gen.OutRefIdeal.Run
public import proofs.«01_k».proof.Proof.Gen.OutRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.OutBwdIdeal.Own

open Idealize.ShloMosaic Idealize.ShloMosaic.TcCoe Idealize.SL.Sem
open Cert.OutBwdIdeal Cert.OutBwdIdeal.Gen

theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- Row `r` of the block of point `t`. -/
def rowOf (t : Fin cfg0.N) (r : Fin 512) : Fin 8192 :=
  ⟨t.val * 512 + r.val, by have := t.isLt; have h : cfg0.N = 16 := N_0; omega⟩

variable (m : (ℓ : Loc nD τ sig) → Buf (Elt Ideal) ℓ) (c : Dev nD)

/-- The gate's column of the adaptive parameters. -/
def gateCol (k : Fin 2048) : Fin 6144 := ⟨4096 + k.val, by omega⟩

/-- The gradient of the mixed heads' output: the incoming gradient times the gate, through the transposed weight. -/
def grad (M : S1x6144.Idx → EReal) (W : S2048x2048.Idx → EReal) (C : S1x8192x2048.Idx → EReal) : S8192x2048.Idx → EReal := fun i =>
  ∑ k : Fin 2048, C (ix3 0 (i 0) k) * M (ix2 0 (gateCol k)) * W (ix2 (i 1) k)

theorem iblk0 (t : Fin cfg0.N) (i : S512x2048.Idx) :
    iblk m c 0 t i = m ((c : Thread nD τ).loc main_arg3) (ix3 0 (rowOf t (i 0)) (i 1)) := by
  unfold rowOf
  blk_point [iblk, V, idx t]

theorem iblk1 (t : Fin cfg0.N) (i : S2048x2048.Idx) :
    iblk m c 1 t i = m ((c : Thread nD τ).loc main_arg2) (ix2 (i 0) (i 1)) := by
  blk_point [iblk, V, idx t]

theorem iblk2 (t : Fin cfg0.N) (i : S1x2048.Idx) :
    iblk m c 2 t i = m ((c : Thread nD τ).loc main_arg1) (ix2 0 (gateCol (i 1))) := by
  unfold gateCol
  blk_point [iblk, V, idx t]

theorem pay1 (D : FVec Ideal S512x2048 .f32) (G : FVec Ideal S1x2048 .f32) (W : FVec Ideal S2048x2048 .bf16) (r : Fin 512) (j : Fin 2048) :
    k0_pay1 (F := Ideal) D G W (ix2 r j) = ∑ k : Fin 2048, D (ix2 r k) * G (ix2 0 k) * W (ix2 j k) := by
  pointwise [k0_pay1]

theorem final3 : (dats m 0 c).arrAt 3 (cfgs 0).N = grad (m ((c : Thread nD τ).loc main_arg1)) (m ((c : Thread nD τ).loc main_arg2))
    (m ((c : Thread nD τ).loc main_arg3)) := by
  refine Pipeline.Dat.arrAt_eq_of_covers (dats m 0 c) 3 _ (by decide +kernel) fun t hf y => ?_
  blk_simp
  rw [after0_3]
  have e : ((View.whole main_v3).slice (win0_3.rect t)).emb y = (ix2 (rowOf t (y 0)) (y 1) : S8192x2048.Idx) := by
    unfold rowOf
    blk_ext [idx t]
  rw [e]
  frame_out
  idx_vars y
  refine (pay1 _ _ _ _ _).trans (Finset.sum_congr rfl fun k _ => ?_)
  rw [iblk0, iblk1, iblk2]
  rfl

end Cert.OutBwdIdeal.Own

namespace Cert.OutRefIdeal.Own

open Idealize.ShloMosaic Idealize.ShloMosaic.TcCoe Idealize.SL.Sem
open Cert.OutRefIdeal Cert.OutRefIdeal.Gen Cert.OutRefIdeal.Read
open Cert.OutBwdIdeal.Own (grad)

theorem out0 (M : FVec Ideal S1x6144 .f32) (W : FVec Ideal S2048x2048 .f32) (C : FVec Ideal S1x8192x2048 .f32) (t : Fin 8192) (j : Fin 2048) :
    val_main_v11 (F := Ideal) M W C (ix2 t j) = grad M W C (ix2 t j) := by
  pointwise [val_main_v11, val_main_v10, val_main_v9, val_main_v8, val_main_v7, val_main_v3, val_main_v2]
  refine Finset.sum_congr rfl fun k _ => ?_
  rw [mul_comm (C _) _]
  rfl

end Cert.OutRefIdeal.Own

namespace Cert.Out

open Idealize.ShloMosaic Idealize.ShloMosaic.TcCoe Idealize.SL.Sem

theorem frame_k : Cert.quiescent_OutBwd := fun m ρ _ => Cert.OutBwd.Gen.frame m ρ
theorem frame_ki : Cert.quiescent_OutBwdIdeal := fun m ρ _ => Cert.OutBwdIdeal.Gen.frame m ρ
theorem frame_ri : Cert.quiescent_OutRefIdeal := fun m ρ _ =>
  (θ_run Cert.OutRefIdeal.defs _ _).mono
    (fun r h => ⟨fun c => (h c).2, Idealize.ShloMosaic.sem_eq_zero_of_no_sems (by decide) r.2⟩)
    (Cert.OutRefIdeal.Value.run (F := Ideal) m ρ)

theorem value : Cert.algebraic_OutBwdIdeal_OutRefIdeal := by
  pair_intro
  · run_from Cert.OutBwdIdeal.Gen.run_main m g
  · run_from Cert.OutRefIdeal.Value.run m' g'
    rw [Cert.OutBwdIdeal.Own.final3]
    refine (Cert.OutRefIdeal.Read.val_main_v11_eq _ _ _).trans ?_
    funext i
    idx_vars i
    exact Cert.OutRefIdeal.Own.out0 _ _ _ i0 i1

end Cert.Out

end
-- ==== Proof.Wout.lean ====
/- The gradients of the output projection's weight and of the gate: the claims about the two programs. -/
module

public import proofs.«01_k».proof.Defs
public import proofs.«01_k».proof.Proof.LossRef
public import proofs.«01_k».proof.Proof.Gen.WoutGrad.Frame
public import proofs.«01_k».proof.Proof.Gen.WoutGradIdeal.Value
public import proofs.«01_k».proof.Proof.Gen.WoutRefIdeal.Run
public import proofs.«01_k».proof.Proof.Gen.WoutRefIdeal.Read
public import proofs.«01_k».proof.Proof.Gen.Pre_finite4
public import Idealize.ShloMosaic.Lib.Pipeline.ValueKit
public import Idealize.ShloMosaic.Lib.Pointwise
public import Idealize.ShloMosaic.Lib.Claim

@[expose] public section

set_option maxRecDepth 16384

noncomputable section

namespace Cert.WoutGradIdeal.Own

open Idealize.ShloMosaic Idealize.ShloMosaic.TcCoe Idealize.SL.Sem
open Cert.WoutGradIdeal Cert.WoutGradIdeal.Gen Cert.Reals

theorem idx : ∀ t : Fin cfg0.N, win0_0.index t = ![t.val, 0] ∧ win0_1.index t = ![t.val, 0] ∧ win0_2.index t = ![0, 0]
    ∧ win0_3.index t = ![t.val, 0, 0] :=
  (by decide +kernel : ∀ t : Fin grid0.N, _)

/-- Row `r` of the block of point `t`. -/
def rowOf (t : Fin cfg0.N) (r : Fin 256) : Fin 2048 :=
  ⟨t.val * 256 + r.val, by have := t.isLt; have h : cfg0.N = 8 := N_0; omega⟩

/-- The slab of point `t`. -/
def ptOf (t : Fin cfg0.N) : Fin 8 := ⟨t.val, by have := t.isLt; have h : cfg0.N = 8 := N_0; omega⟩

/-- The gate's column of the adaptive parameters. -/
def gateCol (k : Fin 2048) : Fin 6144 := ⟨4096 + k.val, by omega⟩

variable (m : (ℓ : Loc nD τ sig) → Buf (Elt Ideal) ℓ) (c : Dev nD)
variable (Y : S1x8192x2048.Idx → ℝ) (M : S1x6144.Idx → ℝ) (W : S2048x2048.Idx → ℝ) (C : S1x8192x2048.Idx → ℝ)

/-- The four argument arrays hold real numbers. -/
structure Real4 : Prop where
  y : m ((c : Thread nD τ).loc main_arg0) = fun i => (Y i : EReal)
  md : m ((c : Thread nD τ).loc main_arg1) = fun i => (M i : EReal)
  w : m ((c : Thread nD τ).loc main_arg2) = fun i => (W i : EReal)
  ct : m ((c : Thread nD τ).loc main_arg3) = fun i => (C i : EReal)

/-- The product of the transposed projection input with the incoming gradient. -/
def gm (j k : Fin 2048) : ℝ := ∑ t : Fin 8192, Y (ix3 0 t j) * C (ix3 0 t k)

/-- The same product over the extended reals. -/
def gmE (Y C : S1x8192x2048.Idx → EReal) (j k : Fin 2048) : EReal := ∑ t : Fin 8192, Y (ix3 0 t j) * C (ix3 0 t k)

/-- Row `b` of slab `a`. -/
def slabRow (a : Fin 8) (b : Fin 256) : Fin 2048 := ⟨a.val * 256 + b.val, by omega⟩

/-- The weight's gradient, in slabs of rows. -/
def dw : S8x256x2048.Idx → ℝ := fun i => gm Y C (slabRow (i 0) (i 1)) (i 2) * M (ix2 0 (gateCol (i 2)))

def blkG (t : Fin cfg0.N) : S256x2048.Idx → ℝ := fun i => gm Y C (rowOf t (i 0)) (i 1)
def blkW (t : Fin cfg0.N) : S256x2048.Idx → ℝ := fun i => W (ix2 (rowOf t (i 0)) (i 1))
def blkM : S1x2048.Idx → ℝ := fun i => M (ix2 0 (gateCol (i 1)))

/-- The part of the gate's gradient that one block of rows adds. -/
def part (t : Fin cfg0.N) (j : Fin 2048) : ℝ := ∑ r : Fin 256, gm Y C (rowOf t r) j * W (ix2 (rowOf t r) j)

variable {m c Y M W C}

theorem v4 : V m c main_v4
    = fun i : S2048x2048.Idx => gmE (m ((c : Thread nD τ).loc main_arg0)) (m ((c : Thread nD τ).loc main_arg3)) (i 0) (i 1) := by
  unfold V
  after_results
  funext i
  idx_vars i
  unfold gmE
  pointwise []

theorem iblk0 (h : Real4 m c Y M W C) (t : Fin cfg0.N) : iblk m c 0 t = fun i => (blkG Y C t i : EReal) := by
  funext i
  refine Eq.trans (b := V m c main_v4 (ix2 (rowOf t (i 0)) (i 1))) ?_ ?_
  · unfold rowOf
    blk_point [iblk, idx t]
  · rw [v4, h.y, h.ct]
    unfold gmE
    simp only [← EReal.coe_mul, ← coe_sum]
    rfl

theorem iblk1 (h : Real4 m c Y M W C) (t : Fin cfg0.N) : iblk m c 1 t = fun i => (blkW W t i : EReal) := by
  funext i
  refine Eq.trans (b := m ((c : Thread nD τ).loc main_arg2) (ix2 (rowOf t (i 0)) (i 1))) ?_ (by rw [h.w]; rfl)
  unfold rowOf
  blk_point [iblk, V, idx t]

theorem iblk2 (h : Real4 m c Y M W C) (t : Fin cfg0.N) : iblk m c 2 t = fun i => (blkM M i : EReal) := by
  funext i
  refine Eq.trans (b := m ((c : Thread nD τ).loc main_arg1) (ix2 0 (gateCol (i 1)))) ?_ (by rw [h.md]; rfl)
  unfold gateCol
  blk_point [iblk, V, idx t]

theorem pay3 (D : FVec Ideal S256x2048 .f32) (G : FVec Ideal S1x2048 .f32) (z : Fin 1) (r : Fin 256) (j : Fin 2048) :
    k0_pay3 (F := Ideal) D G (ix3 z r j) = D (ix2 r j) * G (ix2 0 j) := by
  pointwise [k0_pay3, k0_pay2]

theorem pay4 (D : FVec Ideal S256x2048 .f32) (A : FVec Ideal S1x2048 .f32) (W : FVec Ideal S256x2048 .bf16) (z : Fin 1) (j : Fin 2048) :
    k0_pay4 (F := Ideal) D A W (ix2 z j) = A (ix2 z j) + ∑ r : Fin 256, D (ix2 r j) * W (ix2 r j) := by
  obtain rfl : z = 0 := Subsingleton.elim _ _
  pointwise [k0_pay4, k0_pay2]

theorem pay1 (i : S1x2048.Idx) : k0_pay1 (F := Ideal) i = 0 := by pointwise [k0_pay1]

theorem final3 (h : Real4 m c Y M W C) : (dats m 0 c).arrAt 3 (cfgs 0).N
    = fun i => (dw Y M C i : EReal) := by
  refine Pipeline.Dat.arrAt_eq_of_covers (dats m 0 c) 3 _ (by decide +kernel) fun t hf y => ?_
  blk_simp
  rw [after0_3]
  have e : ((View.whole main_v7_0).slice (win0_3.rect t)).emb y
      = (ix3 (ptOf t) (y 1) (y 2) : S8x256x2048.Idx) := by
    unfold ptOf
    blk_ext [idx t]
  rw [e]
  have fin (z : Fin 1) (r : Fin 256) (j : Fin 2048) : k0_pay3 (F := Ideal) (fun i => (blkG Y C t i : EReal))
      (fun i => (blkM M i : EReal)) (ix3 z r j) = ((gm Y C (rowOf t r) j * M (ix2 0 (gateCol j)) : ℝ) : EReal) := by
    rw [pay3, EReal.coe_mul]; rfl
  by_cases h0 : t.val % 8 = 0
  · rw [outsAt0_A m c t h0]
    frame_out
    rw [iblk0 h, iblk2 h]
    idx_vars y
    exact fin _ _ _
  · rw [outsAt0_B m c t h0]
    frame_out
    rw [iblk0 h, iblk2 h]
    idx_vars y
    exact fin _ _ _

theorem step4 (t : Fin cfg0.N) (acc : FVec Ideal S1x2048 .f32) (i : S1x2048.Idx) :
    k0_pay4 (F := Ideal) (fun i => (blkG Y C t i : EReal)) acc (fun i => (blkW W t i : EReal)) i = acc i + (part Y W C t (i 1) : EReal) := by
  idx_vars i
  refine (pay4 _ _ _ _ _).trans (congrArg _ ?_)
  unfold part
  rw [coe_sum]
  exact Finset.sum_congr rfl fun r _ => (EReal.coe_mul _ _).symm

theorem final4 (h : Real4 m c Y M W C) : (dats m 0 c).arrAt 4 (cfgs 0).N
    = fun i => ((∑ t : Fin cfg0.N, part Y W C t (i 1) : ℝ) : EReal) := by
  refine Pipeline.Dat.arrAt_eq_of_after_last (dats m 0 c) 4 t0_7 (by decide +kernel) _ fun j => ?_
  blk_simp
  rw [after0_4, Pipeline.eq_sum_fin_of_reset_step_apply_last (fun n h => (outsAt0 m c n h).2) 8 (fun _ => 0)
    (fun t (j : S1x2048.Idx) => (part Y W C t (j 1) : EReal))
    (fun t h0 j => by rw [outsAt0_A m c t h0]; frame_out; rw [iblk0 h, iblk1 h, step4, pay1])
    (fun t h0 j => by rw [outsAt0_B m c t h0]; frame_out; rw [iblk0 h, iblk1 h, step4])
    (le_of_eq N_0) t0_7 rfl j, zero_add]
  exact (coe_sum _ _).symm

end Cert.WoutGradIdeal.Own

namespace Cert.WoutRefIdeal.Own

open Idealize.ShloMosaic Idealize.ShloMosaic.TcCoe Idealize.SL.Sem
open Cert.WoutRefIdeal Cert.WoutRefIdeal.Gen Cert.WoutRefIdeal.Read Cert.Reals
open Cert.WoutGradIdeal.Own (gm gateCol dw slabRow)

variable (Y : S1x8192x2048.Idx → ℝ) (M : S1x6144.Idx → ℝ) (W : S2048x2048.Idx → ℝ) (C : S1x8192x2048.Idx → ℝ)

theorem out0 (a : Fin 8) (b : Fin 256) (k : Fin 2048) :
    val_main_v17 (F := Ideal) (fun i => (Y i : EReal)) (fun i => (M i : EReal)) (fun i => (C i : EReal)) (ix3 a b k)
    = (dw Y M C (ix3 a b k) : EReal) := by
  pointwise [val_main_v17, val_main_v16, val_main_v13, val_main_v12, val_main_v8, val_main_v7, val_main_v3, val_main_v2]
  simp only [← EReal.coe_mul, ← coe_sum]
  congr 1
  show _ = (∑ t : Fin 8192, Y (ix3 0 t (slabRow a b)) * C (ix3 0 t k)) * M (ix2 0 (gateCol k))
  rw [Finset.sum_mul, Fin.sum_univ_one]
  refine Finset.sum_congr rfl fun t _ => ?_
  show M (ix2 0 (gateCol k)) * C (ix3 0 t k) * Y (ix3 0 t (slabRow a b)) = _
  ring

theorem v10 (k : Fin 2048) :
    val_main_v10 (F := Ideal) (fun i => (Y i : EReal)) (fun i => (W i : EReal)) (fun i => (C i : EReal)) (ix2 0 k)
    = ((∑ t : Fin 8192, C (ix3 0 t k) * ∑ j : Fin 2048, Y (ix3 0 t j) * W (ix2 j k) : ℝ) : EReal) := by
  pointwise [val_main_v10, val_main_v9, val_main_v4, val_main_cst]
  simp only [← EReal.coe_mul, ← coe_sum, zero_add]

theorem out1 (k : Fin 2048) :
    val_main_v15 (F := Ideal) (fun i => (Y i : EReal)) (fun i => (W i : EReal)) (fun i => (C i : EReal)) (ix2 0 k)
    = ((∑ j : Fin 2048, gm Y C j k * W (ix2 j k) : ℝ) : EReal) := by
  pointwise [val_main_v15, val_main_v14, val_main_cst_0]
  rw [Cert.LossRefIdeal.Own.red36]
  pointwise [val_main_v11, v10]
  congr 1
  unfold gm
  simp only [Finset.mul_sum, Finset.sum_mul]
  rw [Finset.sum_comm]
  exact Finset.sum_congr rfl fun _ _ => Finset.sum_congr rfl fun _ _ => by ring

end Cert.WoutRefIdeal.Own

namespace Cert.Wout

open Idealize.ShloMosaic Idealize.ShloMosaic.TcCoe Idealize.SL.Sem Cert.Reals
open Cert.WoutGradIdeal.Own (Real4 rowOf gm dw part)

theorem frame_k : Cert.quiescent_WoutGrad := fun m ρ _ => Cert.WoutGrad.Gen.frame m ρ
theorem frame_ki : Cert.quiescent_WoutGradIdeal := fun m ρ _ => Cert.WoutGradIdeal.Gen.frame m ρ
theorem frame_ki_pre : Cert.quiescent_WoutGradIdeal_pre_finite4 := fun m ρ _ => Cert.WoutGradIdeal.Gen.frame m ρ
theorem frame_ri : Cert.quiescent_WoutRefIdeal := fun m ρ _ =>
  (θ_run Cert.WoutRefIdeal.defs _ _).mono
    (fun r h => ⟨fun c => (h c).2.2, Idealize.ShloMosaic.sem_eq_zero_of_no_sems (by decide) r.2⟩)
    (Cert.WoutRefIdeal.Value.run (F := Ideal) m ρ)
theorem frame_ri_pre : Cert.quiescent_WoutRefIdeal_pre_finite4 := fun m ρ _ => frame_ri m ρ trivial

/-- The precondition, read: the four argument arrays hold real numbers. -/
theorem real4 (m : (ℓ : Loc Cert.WoutGradIdeal.nD Cert.WoutGradIdeal.τ Cert.WoutGradIdeal.sig) → Buf (Elt Ideal) ℓ)
    (h : Cert.Pre_WoutGradIdeal_finite4 m) (c : Dev Cert.WoutGradIdeal.nD) : ∃ Y M W C, Real4 m c Y M W C := by
  obtain ⟨h0, h1, h2, h3⟩ := h c
  refine ⟨fun i => EReal.toReal (m ((c.tc : Thread Cert.WoutGradIdeal.nD Cert.WoutGradIdeal.τ).loc Cert.WoutGradIdeal.main_arg0) i),
    fun i => EReal.toReal (m ((c.tc : Thread Cert.WoutGradIdeal.nD Cert.WoutGradIdeal.τ).loc Cert.WoutGradIdeal.main_arg1) i),
    fun i => EReal.toReal (m ((c.tc : Thread Cert.WoutGradIdeal.nD Cert.WoutGradIdeal.τ).loc Cert.WoutGradIdeal.main_arg2) i),
    fun i => EReal.toReal (m ((c.tc : Thread Cert.WoutGradIdeal.nD Cert.WoutGradIdeal.τ).loc Cert.WoutGradIdeal.main_arg3) i), ?_, ?_, ?_, ?_⟩
  · funext i
    exact (real_of_cmp (congrFun h0 i)).symm
  · funext i
    exact (real_of_cmp (congrFun h1 i)).symm
  · funext i
    exact (real_of_cmp (congrFun h2 i)).symm
  · funext i
    exact (real_of_cmp (congrFun h3 i)).symm

/-- A sum over the 2048 rows is the sum over the eight blocks of the sums over their rows. -/
theorem regroup (f : Fin 2048 → ℝ) : ∑ l, f l = ∑ t : Fin Cert.WoutGradIdeal.cfg0.N, ∑ r : Fin 256, f (rowOf t r) :=
  (Fin.sum_mul_add_congr (S := Cert.WoutGradIdeal.cfg0.N) (n := 256) (f := f) (fun s k hl => rfl)
    (by have h : Cert.WoutGradIdeal.cfg0.N = 8 := Cert.WoutGradIdeal.Gen.N_0
        rw [h])).symm

theorem value : Cert.algebraic_WoutGradIdeal_WoutRefIdeal_pre_finite4 := by
  pair_intro
  · run_from Cert.WoutGradIdeal.Gen.run_main m g
  · run_from Cert.WoutRefIdeal.Value.run m' g'
    · obtain ⟨Y, M, W, C, h⟩ := real4 m hpre c
      rw [Cert.WoutGradIdeal.Own.final3 h]
      refine (Cert.WoutRefIdeal.Read.val_main_v17_eq _ _ _).trans ?_
      obtain ⟨e0, e1, e2, e3⟩ := hagree c
      first | rw [e0, e1, e3] | skip
      rw [h.y, h.md, h.ct]
      funext i
      idx_vars i
      exact Cert.WoutRefIdeal.Own.out0 Y M C i0 i1 i2
    · obtain ⟨Y, M, W, C, h⟩ := real4 m hpre c
      rw [Cert.WoutGradIdeal.Own.final4 h]
      refine (Cert.WoutRefIdeal.Read.val_main_v15_eq _ _ _).trans ?_
      rw [h.y, h.w, h.ct]
      funext i
      idx_vars i
      obtain rfl : i0 = 0 := Subsingleton.elim _ _
      refine (Cert.WoutRefIdeal.Own.out1 Y W C i1).trans (congrArg _ ?_)
      rw [regroup]
      rfl

end Cert.Wout

end
-- ==== Proof.Ada.lean ====
/- The gradient of the adaptive parameters' weight with its update: the claims about its two programs. -/
module

public import proofs.«01_k».proof.Defs
public import proofs.«01_k».proof.Proof.Gen.AdaBwd.Frame
public import proofs.«01_k».proof.Proof.Gen.AdaBwdIdeal.Value
public import proofs.«01_k».proof.Proof.Gen.AdaBwdRefIdeal.Run
public import proofs.«01_k».proof.Proof.Gen.AdaBwdRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.Ada

open Idealize.ShloMosaic
open Cert.AdaBwdIdeal (S8x2048 S4x8x768 S4x2048x768)

/-- A constant of the update, by its bits. -/
abbrev con (b : BitVec 32) : EReal := Ideal.ofBits .f32 b

/-- The activation of the conditioning. -/
def act (x : EReal) : EReal := x * Ideal.div 1 (1 + Ideal.exp (-x))

/-- The gradient of the weight: the activations against the incoming gradient, summed over the batch. -/
def grad (C : S8x2048.Idx → EReal) (D : S4x8x768.Idx → EReal) : S4x2048x768.Idx → EReal := fun i =>
  ∑ b : Fin 8, act (C (ix2 b (i 1))) * D (ix3 (i 0) b (i 2))

/-- The first moment after the step, from the gradient and the moment before. -/
def mom1 (g m : EReal) : EReal := con 0x3F666666 * m + con 0x3DCCCCCD * g

/-- The second moment after the step. -/
def mom2 (g v : EReal) : EReal := con 0x3F7FBE77 * v + con 0x3A83126F * (g * g)

/-- The change of the weight. -/
def change (w g m v : EReal) : EReal :=
  con 0xBA83126F * (Ideal.div (Ideal.div (mom1 g m) (con 0x3F26BD02)) (Ideal.sqrt (Ideal.div (mom2 g v) (con 0x3C231ACC)) + con 0x322BCC77)
    + con 0x3C23D70A * w)

end Cert.Ada

namespace Cert.AdaBwdIdeal.Own

open Idealize.ShloMosaic Idealize.ShloMosaic.TcCoe Idealize.SL.Sem
open Cert.AdaBwdIdeal Cert.AdaBwdIdeal.Gen
open Cert.Ada (act grad mom1 mom2 change)

theorem idx : ∀ t : Fin cfg0.N, win0_0.index t = ![0, t.val % 4] ∧ win0_1.index t = ![t.val / 4, 0, 0]
    ∧ win0_2.index t = ![t.val / 4, t.val % 4, 0] ∧ win0_3.index t = ![t.val / 4, t.val % 4, 0] ∧ win0_4.index t = ![t.val / 4, t.val % 4, 0]
    ∧ win0_5.index t = ![t.val / 4, t.val % 4, 0] ∧ win0_6.index t = ![t.val / 4, t.val % 4, 0] ∧ win0_7.index t = ![t.val / 4, t.val % 4, 0]
    ∧ win0_8.index t = ![t.val / 4, t.val % 4, 0] :=
  (by decide +kernel : ∀ t : Fin grid0.N, _)

/-- The layer of point `t`. -/
def layer (t : Fin cfg0.N) : Fin 4 := ⟨t.val / 4, by have := t.isLt; have h : cfg0.N = 16 := N_0; omega⟩

/-- Row `r` of the tile of point `t`. -/
def rowOf (t : Fin cfg0.N) (r : Fin 512) : Fin 2048 := ⟨t.val % 4 * 512 + r.val, by omega⟩

/-- Index `i` of the tile of point `t`, in the whole array. -/
abbrev at3 (t : Fin cfg0.N) (i : S1x512x768.Idx) : S4x2048x768.Idx := ix3 (layer t) (rowOf t (i 1)) (i 2)

variable (m : (ℓ : Loc nD τ sig) → Buf (Elt Ideal) ℓ) (c : Dev nD)

theorem iblk0 (t : Fin cfg0.N) (i : S8x512.Idx) :
    iblk m c 0 t i = m ((c : Thread nD τ).loc main_arg0) (ix2 (i 0) (rowOf t (i 1))) := by
  unfold rowOf
  blk_point [iblk, V, idx t]

theorem iblk1 (t : Fin cfg0.N) (i : S1x8x768.Idx) :
    iblk m c 1 t i = m ((c : Thread nD τ).loc main_arg4) (ix3 (layer t) (i 1) (i 2)) := by
  unfold layer
  blk_point [iblk, V, idx t]

theorem iblk2 (t : Fin cfg0.N) (i : S1x512x768.Idx) :
    iblk m c 2 t i = m ((c : Thread nD τ).loc main_arg1) (at3 t i) := by
  unfold at3 layer rowOf
  blk_point [iblk, V, idx t]

theorem iblk3 (t : Fin cfg0.N) (i : S1x512x768.Idx) :
    iblk m c 3 t i = m ((c : Thread nD τ).loc main_arg2) (at3 t i) := by
  unfold at3 layer rowOf
  blk_point [iblk, V, idx t]

theorem iblk4 (t : Fin cfg0.N) (i : S1x512x768.Idx) :
    iblk m c 4 t i = m ((c : Thread nD τ).loc main_arg3) (at3 t i) := by
  unfold at3 layer rowOf
  blk_point [iblk, V, idx t]

/-- The part of the gradient a tile computes, from its blocks. -/
theorem pay5 (C : FVec Ideal S8x512 .f32) (D : FVec Ideal S1x8x768 .f32) (r : Fin 512) (j : Fin 768) :
    k0_pay5 (F := Ideal) C D (ix2 r j) = ∑ b : Fin 8, act (C (ix2 b r)) * D (ix3 0 b j) := by
  pointwise [k0_pay5]
  simp only [act, zero_sub]

theorem pay7 (C : FVec Ideal S8x512 .f32) (D : FVec Ideal S1x8x768 .f32) (M : FVec Ideal S1x512x768 .f32) (r : Fin 512) (j : Fin 768) :
    k0_pay7 (F := Ideal) C D M (ix2 r j) = mom1 (k0_pay5 (F := Ideal) C D (ix2 r j)) (M (ix3 0 r j)) := by
  pointwise [k0_pay7]
  rfl

theorem pay8 (C : FVec Ideal S8x512 .f32) (D : FVec Ideal S1x8x768 .f32) (M : FVec Ideal S1x512x768 .f32) (r : Fin 512) (j : Fin 768) :
    k0_pay8 (F := Ideal) C D M (ix2 r j) = mom2 (k0_pay5 (F := Ideal) C D (ix2 r j)) (M (ix3 0 r j)) := by
  pointwise [k0_pay8]
  rfl

theorem pay2 (C : FVec Ideal S8x512 .f32) (D : FVec Ideal S1x8x768 .f32) (W M U : FVec Ideal S1x512x768 .f32) (r : Fin 512) (j : Fin 768) :
    k0_pay2 (F := Ideal) (k0_pay6 (F := Ideal) W) (k0_pay8 (F := Ideal) C D U) (k0_pay9 (F := Ideal) C D M) (k0_pay10 (F := Ideal)) (ix3 0 r j)
      = change (W (ix3 0 r j)) (k0_pay5 (F := Ideal) C D (ix2 r j)) (M (ix3 0 r j)) (U (ix3 0 r j)) := by
  pointwise [k0_pay2, k0_pay6, k0_pay9, k0_pay10, pay7, pay8]
  rfl

theorem tile (t : Fin cfg0.N) (r : Fin 512) (j : Fin 768) :
    k0_pay5 (F := Ideal) (iblk m c 0 t) (iblk m c 1 t) (ix2 r j)
      = grad (m ((c : Thread nD τ).loc main_arg0)) (m ((c : Thread nD τ).loc main_arg4)) (ix3 (layer t) (rowOf t r) j) := by
  refine (pay5 _ _ _ _).trans (Finset.sum_congr rfl fun b _ => ?_)
  rw [iblk0, iblk1]
  rfl

theorem final5 : (dats m 0 c).arrAt 5 (cfgs 0).N = fun i => grad (m ((c : Thread nD τ).loc main_arg0)) (m ((c : Thread nD τ).loc main_arg4)) i := by
  refine Pipeline.Dat.arrAt_eq_of_covers (dats m 0 c) 5 _ (by decide +kernel) fun t hf y => ?_
  blk_simp
  rw [after0_5]
  have e : ((View.whole main_v0_0).slice (win0_5.rect t)).emb y = at3 t y := by
    unfold at3 layer rowOf
    blk_ext [idx t]
  rw [e]
  frame_out
  idx_vars y
  obtain rfl : y0 = 0 := Subsingleton.elim _ _
  show k0_pay1 (F := Ideal) (k0_pay5 (F := Ideal) (iblk m c 0 t) (iblk m c 1 t)) (ix3 0 y1 y2) = _
  refine Eq.trans ?_ (tile m c t _ _)
  pointwise [k0_pay1]

theorem final6 : (dats m 0 c).arrAt 6 (cfgs 0).N = fun i => change (m ((c : Thread nD τ).loc main_arg1) i) (grad (m ((c : Thread nD τ).loc main_arg0)) (m ((c : Thread nD τ).loc main_arg4)) i) (m ((c : Thread nD τ).loc main_arg2) i) (m ((c : Thread nD τ).loc main_arg3) i) := by
  refine Pipeline.Dat.arrAt_eq_of_covers (dats m 0 c) 6 _ (by decide +kernel) fun t hf y => ?_
  blk_simp
  rw [after0_6]
  have e : ((View.whole main_v0_1).slice (win0_6.rect t)).emb y = at3 t y := by
    unfold at3 layer rowOf
    blk_ext [idx t]
  rw [e]
  unfold_out out0_6
  frame_out
  idx_vars y
  obtain rfl : y0 = 0 := Subsingleton.elim _ _
  refine (pay2 (iblk m c 0 t) (iblk m c 1 t) (iblk m c 2 t) (iblk m c 3 t) (iblk m c 4 t) y1 y2).trans ?_
  rw [tile, iblk2, iblk3, iblk4]
  rfl

theorem final7 : (dats m 0 c).arrAt 7 (cfgs 0).N = fun i => mom1 (grad (m ((c : Thread nD τ).loc main_arg0)) (m ((c : Thread nD τ).loc main_arg4)) i) (m ((c : Thread nD τ).loc main_arg2) i) := by
  refine Pipeline.Dat.arrAt_eq_of_covers (dats m 0 c) 7 _ (by decide +kernel) fun t hf y => ?_
  blk_simp
  rw [after0_7]
  have e : ((View.whole main_v0_2).slice (win0_7.rect t)).emb y = at3 t y := by
    unfold at3 layer rowOf
    blk_ext [idx t]
  rw [e]
  frame_out
  idx_vars y
  obtain rfl : y0 = 0 := Subsingleton.elim _ _
  refine Eq.trans (b := k0_pay7 (F := Ideal) (iblk m c 0 t) (iblk m c 1 t) (iblk m c 3 t) (ix2 y1 y2)) ?_ ?_
  · pointwise [k0_pay3]
  · rw [pay7, tile, iblk3]
    rfl

theorem final8 : (dats m 0 c).arrAt 8 (cfgs 0).N = fun i => mom2 (grad (m ((c : Thread nD τ).loc main_arg0)) (m ((c : Thread nD τ).loc main_arg4)) i) (m ((c : Thread nD τ).loc main_arg3) i) := by
  refine Pipeline.Dat.arrAt_eq_of_covers (dats m 0 c) 8 _ (by decide +kernel) fun t hf y => ?_
  blk_simp
  rw [after0_8]
  have e : ((View.whole main_v0_3).slice (win0_8.rect t)).emb y = at3 t y := by
    unfold at3 layer rowOf
    blk_ext [idx t]
  rw [e]
  unfold_out out0_8
  frame_out
  idx_vars y
  obtain rfl : y0 = 0 := Subsingleton.elim _ _
  refine Eq.trans (b := k0_pay8 (F := Ideal) (iblk m c 0 t) (iblk m c 1 t) (iblk m c 4 t) (ix2 y1 y2)) ?_ ?_
  · pointwise [k0_pay4]
  · rw [pay8, tile, iblk4]
    rfl

end Cert.AdaBwdIdeal.Own

namespace Cert.AdaBwdRefIdeal.Own

open Idealize.ShloMosaic Idealize.ShloMosaic.TcCoe Idealize.SL.Sem
open Cert.AdaBwdRefIdeal Cert.AdaBwdRefIdeal.Gen Cert.AdaBwdRefIdeal.Read
open Cert.Ada (act grad mom1 mom2 change)

theorem out5 (C : FVec Ideal S8x2048 .f32) (D : FVec Ideal S4x8x768 .f32) (i : S4x2048x768.Idx) :
    val_main_v5 (F := Ideal) C D i = grad C D i := by
  idx_vars i
  pointwise [val_main_v5, val_main_v4, val_main_v3, val_main_v0, val_main_call0_v0, val_main_call0_v1, val_main_call0_v2,
    val_main_call0_v3, val_main_call0_v4, val_main_call0_v5, val_main_call0_cst, val_main_call0_cst_0]
  exact Finset.sum_congr rfl fun b _ => mul_comm _ _

theorem out10 (C : FVec Ideal S8x2048 .f32) (D : FVec Ideal S4x8x768 .f32) (M : FVec Ideal S4x2048x768 .f32) (i : S4x2048x768.Idx) :
    val_main_v10 (F := Ideal) C M D i = mom1 (grad C D i) (M i) := by
  rw [← out5]
  idx_vars i
  pointwise [val_main_v10, val_main_v9, val_main_v8, val_main_v7, val_main_v6, val_main_cst, val_main_cst_0]
  rfl

theorem out16 (C : FVec Ideal S8x2048 .f32) (D : FVec Ideal S4x8x768 .f32) (U : FVec Ideal S4x2048x768 .f32) (i : S4x2048x768.Idx) :
    val_main_v16 (F := Ideal) C U D i = mom2 (grad C D i) (U i) := by
  rw [← out5]
  idx_vars i
  pointwise [val_main_v16, val_main_v15, val_main_v14, val_main_v13, val_main_v12, val_main_v11, val_main_cst_1, val_main_cst_2]
  rfl

theorem out29 (C : FVec Ideal S8x2048 .f32) (D : FVec Ideal S4x8x768 .f32) (W M U : FVec Ideal S4x2048x768 .f32) (i : S4x2048x768.Idx) :
    val_main_v29 (F := Ideal) C W M U D i = change (W i) (grad C D i) (M i) (U i) := by
  unfold change
  rw [← out10, ← out16]
  idx_vars i
  pointwise [val_main_v29, val_main_v28, val_main_v27, val_main_v26, val_main_v25, val_main_v24, val_main_v23, val_main_v22,
    val_main_v21, val_main_v20, val_main_v19, val_main_v18, val_main_v17, val_main_cst_3, val_main_cst_4, val_main_cst_5, val_main_cst_6,
    val_main_cst_7]
  rfl

end Cert.AdaBwdRefIdeal.Own

namespace Cert.Ada

open Idealize.ShloMosaic Idealize.ShloMosaic.TcCoe Idealize.SL.Sem

theorem frame_k : Cert.quiescent_AdaBwd := fun m ρ _ => Cert.AdaBwd.Gen.frame m ρ
theorem frame_ki : Cert.quiescent_AdaBwdIdeal := fun m ρ _ => Cert.AdaBwdIdeal.Gen.frame m ρ
theorem frame_ri : Cert.quiescent_AdaBwdRefIdeal := fun m ρ _ =>
  (θ_run Cert.AdaBwdRefIdeal.defs _ _).mono
    (fun r h => ⟨fun c => (h c).2.2.2.2, Idealize.ShloMosaic.sem_eq_zero_of_no_sems (by decide) r.2⟩)
    (Cert.AdaBwdRefIdeal.Value.run (F := Ideal) m ρ)

theorem value : Cert.algebraic_AdaBwdIdeal_AdaBwdRefIdeal := by
  pair_intro
  · run_from Cert.AdaBwdIdeal.Gen.run_main m g
  · run_from Cert.AdaBwdRefIdeal.Value.run m' g'
    · rw [Cert.AdaBwdIdeal.Own.final5]
      refine (Cert.AdaBwdRefIdeal.Read.val_main_v5_eq _ _).trans ?_
      funext i
      exact Cert.AdaBwdRefIdeal.Own.out5 _ _ i
    · rw [Cert.AdaBwdIdeal.Own.final6]
      refine (Cert.AdaBwdRefIdeal.Read.val_main_v29_eq _ _ _ _ _).trans ?_
      funext i
      exact Cert.AdaBwdRefIdeal.Own.out29 _ _ _ _ _ i
    · rw [Cert.AdaBwdIdeal.Own.final7]
      refine (Cert.AdaBwdRefIdeal.Read.val_main_v10_eq _ _ _).trans ?_
      funext i
      exact Cert.AdaBwdRefIdeal.Own.out10 _ _ _ i
    · rw [Cert.AdaBwdIdeal.Own.final8]
      refine (Cert.AdaBwdRefIdeal.Read.val_main_v16_eq _ _ _).trans ?_
      funext i
      exact Cert.AdaBwdRefIdeal.Own.out16 _ _ _ i

end Cert.Ada

end
-- ==== Proof.Project.lean ====
/- The output projection with its gate: the claims about its two programs. -/
module

public import proofs.«01_k».proof.Defs
public import proofs.«01_k».proof.Proof.Gen.OutFwd.Frame
public import proofs.«01_k».proof.Proof.Gen.OutFwdIdeal.Value
public import proofs.«01_k».proof.Proof.Gen.OutFwdRefIdeal.Run
public import proofs.«01_k».proof.Proof.Gen.OutFwdRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.OutFwdIdeal.Own

open Idealize.ShloMosaic Idealize.ShloMosaic.TcCoe Idealize.SL.Sem
open Cert.OutFwdIdeal Cert.OutFwdIdeal.Gen

theorem idx : ∀ t : Fin cfg0.N, win0_0.index t = ![t.val, 0] ∧ win0_1.index t = ![0, 0] ∧ win0_2.index t = ![t.val, 0]
    ∧ win0_3.index t = ![0, 0] ∧ win0_4.index t = ![t.val, 0] :=
  (by decide +kernel : ∀ t : Fin grid0.N, _)

/-- Row `r` of the block of point `t`. -/
def rowOf (t : Fin cfg0.N) (r : Fin 512) : Fin 8192 :=
  ⟨t.val * 512 + r.val, by have := t.isLt; have h : cfg0.N = 16 := N_0; omega⟩

variable (m : (ℓ : Loc nD τ sig) → Buf (Elt Ideal) ℓ) (c : Dev nD)

/-- The gate's column of the adaptive parameters. -/
def gateCol (k : Fin 2048) : Fin 6144 := ⟨4096 + k.val, by omega⟩

/-- The residual stream after the mixed heads' output is projected, gated and added. -/
def out (Y : S1x8192x2048.Idx → EReal) (W : S2048x2048.Idx → EReal) (X : S1x8192x2048.Idx → EReal) (M : S1x6144.Idx → EReal) :
    S8192x2048.Idx → EReal := fun i =>
  X (ix3 0 (i 0) (i 1)) + M (ix2 0 (gateCol (i 1))) * ∑ k : Fin 2048, Y (ix3 0 (i 0) k) * W (ix2 k (i 1))

theorem iblk0 (t : Fin cfg0.N) (i : S512x2048.Idx) :
    iblk m c 0 t i = m ((c : Thread nD τ).loc main_arg0) (ix3 0 (rowOf t (i 0)) (i 1)) := by
  unfold rowOf
  blk_point [iblk, V, idx t]

theorem iblk1 (t : Fin cfg0.N) (i : S2048x2048.Idx) :
    iblk m c 1 t i = m ((c : Thread nD τ).loc main_arg1) (ix2 (i 0) (i 1)) := by
  blk_point [iblk, V, idx t]

theorem iblk2 (t : Fin cfg0.N) (i : S512x2048.Idx) :
    iblk m c 2 t i = m ((c : Thread nD τ).loc main_arg2) (ix3 0 (rowOf t (i 0)) (i 1)) := by
  unfold rowOf
  blk_point [iblk, V, idx t]

theorem iblk3 (t : Fin cfg0.N) (i : S1x2048.Idx) :
    iblk m c 3 t i = m ((c : Thread nD τ).loc main_arg3) (ix2 0 (gateCol (i 1))) := by
  unfold gateCol
  blk_point [iblk, V, idx t]

theorem pay1 (X : FVec Ideal S512x2048 .f32) (G : FVec Ideal S1x2048 .f32) (Y : FVec Ideal S512x2048 .bf16)
    (W : FVec Ideal S2048x2048 .bf16) (r : Fin 512) (j : Fin 2048) :
    k0_pay1 (F := Ideal) X G Y W (ix2 r j) = X (ix2 r j) + G (ix2 0 j) * ∑ k : Fin 2048, Y (ix2 r k) * W (ix2 k j) := by
  pointwise [k0_pay1]

theorem final : (dats m 0 c).arrAt 4 (cfgs 0).N = out (m ((c : Thread nD τ).loc main_arg0)) (m ((c : Thread nD τ).loc main_arg1))
    (m ((c : Thread nD τ).loc main_arg2)) (m ((c : Thread nD τ).loc main_arg3)) := by
  refine Pipeline.Dat.arrAt_eq_of_covers (dats m 0 c) 4 _ (by decide +kernel) fun t hf y => ?_
  blk_simp
  rw [after0_4]
  have e : ((View.whole main_v5).slice (win0_4.rect t)).emb y = (ix2 (rowOf t (y 0)) (y 1) : S8192x2048.Idx) := by
    unfold rowOf
    blk_ext [idx t]
  rw [e]
  frame_out
  idx_vars y
  refine (pay1 _ _ _ _ _ _).trans ?_
  rw [iblk2, iblk3]
  unfold out
  refine congrArg₂ _ rfl (congrArg₂ _ rfl (Finset.sum_congr rfl fun k _ => ?_))
  rw [iblk0, iblk1]
  rfl

end Cert.OutFwdIdeal.Own

namespace Cert.OutFwdRefIdeal.Own

open Idealize.ShloMosaic Idealize.ShloMosaic.TcCoe Idealize.SL.Sem
open Cert.OutFwdRefIdeal Cert.OutFwdRefIdeal.Gen Cert.OutFwdRefIdeal.Read
open Cert.OutFwdIdeal.Own (out)

theorem ref (Y : FVec Ideal S1x8192x2048 .f32) (W : FVec Ideal S2048x2048 .f32) (X : FVec Ideal S1x8192x2048 .f32)
    (M : FVec Ideal S1x6144 .f32) (t : Fin 8192) (j : Fin 2048) :
    val_main_v8 (F := Ideal) Y W X M (ix2 t j) = out Y W X M (ix2 t j) := by
  pointwise [val_main_v8, val_main_v7, val_main_v6, val_main_v5, val_main_v4, val_main_v3, val_main_v2]
  rfl

end Cert.OutFwdRefIdeal.Own

namespace Cert.Project

open Idealize.ShloMosaic Idealize.ShloMosaic.TcCoe Idealize.SL.Sem

theorem frame_k : Cert.quiescent_OutFwd := fun m ρ _ => Cert.OutFwd.Gen.frame m ρ
theorem frame_ki : Cert.quiescent_OutFwdIdeal := fun m ρ _ => Cert.OutFwdIdeal.Gen.frame m ρ
theorem frame_ri : Cert.quiescent_OutFwdRefIdeal := fun m ρ _ =>
  (θ_run Cert.OutFwdRefIdeal.defs _ _).mono
    (fun r h => ⟨fun c => (h c).2, Idealize.ShloMosaic.sem_eq_zero_of_no_sems (by decide) r.2⟩)
    (Cert.OutFwdRefIdeal.Value.run (F := Ideal) m ρ)

theorem value : Cert.algebraic_OutFwdIdeal_OutFwdRefIdeal := by
  pair_intro
  · run_from Cert.OutFwdIdeal.Gen.run_main m g
  · run_from Cert.OutFwdRefIdeal.Value.run m' g'
    rw [Cert.OutFwdIdeal.Own.final]
    refine (Cert.OutFwdRefIdeal.Read.val_main_v8_eq _ _ _ _).trans ?_
    funext i
    idx_vars i
    exact Cert.OutFwdRefIdeal.Own.ref _ _ _ _ i0 i1

end Cert.Project

end
-- ==== Proof.Adapt.lean ====
/- The adaptive parameters of every layer: the claims about its two programs. -/
module

public import proofs.«01_k».proof.Defs
public import proofs.«01_k».proof.Proof.Ada
public import proofs.«01_k».proof.Proof.Gen.AdaFwd.Frame
public import proofs.«01_k».proof.Proof.Gen.AdaFwdIdeal.Value
public import proofs.«01_k».proof.Proof.Gen.AdaFwdRefIdeal.Run
public import proofs.«01_k».proof.Proof.Gen.AdaFwdRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.AdaFwdIdeal.Own

open Idealize.ShloMosaic Idealize.ShloMosaic.TcCoe Idealize.SL.Sem
open Cert.AdaFwdIdeal Cert.AdaFwdIdeal.Gen
open Cert.Ada (act)

theorem idx : ∀ t : Fin cfg0.N, win0_0.index t = ![0, 0] ∧ win0_1.index t = ![t.val, 0, 0] ∧ win0_2.index t = ![t.val, 0, 0]
    ∧ win0_3.index t = ![t.val, 0, 0] :=
  (by decide +kernel : ∀ t : Fin grid0.N, _)

/-- The layer of point `t`. -/
def layer (t : Fin cfg0.N) : Fin 4 := ⟨t.val, by have := t.isLt; have h : cfg0.N = 4 := N_0; omega⟩

variable (m : (ℓ : Loc nD τ sig) → Buf (Elt Ideal) ℓ) (c : Dev nD)

/-- The adaptive parameters: the activated condition through a layer's weight, and its bias added. -/
def params (C : S8x2048.Idx → EReal) (W : S4x2048x768.Idx → EReal) (B : S4x768.Idx → EReal) : S4x8x768.Idx → EReal := fun i =>
  (∑ k : Fin 2048, act (C (ix2 (i 1) k)) * W (ix3 (i 0) k (i 2))) + B (ix2 (i 0) (i 2))

theorem iblk0 (t : Fin cfg0.N) (i : S8x2048.Idx) :
    iblk m c 0 t i = m ((c : Thread nD τ).loc main_arg0) (ix2 (i 0) (i 1)) := by
  blk_point [iblk, V, idx t]

theorem iblk1 (t : Fin cfg0.N) (i : S1x2048x768.Idx) :
    iblk m c 1 t i = m ((c : Thread nD τ).loc main_arg1) (ix3 (layer t) (i 1) (i 2)) := by
  unfold layer
  blk_point [iblk, V, idx t]

theorem iblk2 (t : Fin cfg0.N) (i : S1x1x768.Idx) :
    iblk m c 2 t i = m ((c : Thread nD τ).loc main_arg2) (ix2 (layer t) (i 2)) := by
  unfold layer
  blk_point [iblk, V, idx t]

theorem pay1 (C : FVec Ideal S8x2048 .f32) (W : FVec Ideal S1x2048x768 .f32) (B : FVec Ideal S1x1x768 .f32) (r : Fin 8) (j : Fin 768) :
    k0_pay1 (F := Ideal) C W B (ix3 0 r j) = (∑ k : Fin 2048, act (C (ix2 r k)) * W (ix3 0 k j)) + B (ix3 0 0 j) := by
  pointwise [k0_pay1]
  simp only [act, zero_sub]

theorem final : (dats m 0 c).arrAt 3 (cfgs 0).N = params (m ((c : Thread nD τ).loc main_arg0)) (m ((c : Thread nD τ).loc main_arg1))
    (m ((c : Thread nD τ).loc main_arg2)) := by
  refine Pipeline.Dat.arrAt_eq_of_covers (dats m 0 c) 3 _ (by decide +kernel) fun t hf y => ?_
  blk_simp
  rw [after0_3]
  have e : ((View.whole main_v1).slice (win0_3.rect t)).emb y = (ix3 (layer t) (y 1) (y 2) : S4x8x768.Idx) := by
    unfold layer
    blk_ext [idx t]
  rw [e]
  frame_out
  idx_vars y
  obtain rfl : y0 = 0 := Subsingleton.elim _ _
  refine (pay1 _ _ _ _ _).trans ?_
  rw [iblk2]
  unfold params
  refine congrArg₂ _ (Finset.sum_congr rfl fun k _ => ?_) rfl
  rw [iblk0, iblk1]
  rfl

end Cert.AdaFwdIdeal.Own

namespace Cert.AdaFwdRefIdeal.Own

open Idealize.ShloMosaic Idealize.ShloMosaic.TcCoe Idealize.SL.Sem
open Cert.AdaFwdRefIdeal Cert.AdaFwdRefIdeal.Gen Cert.AdaFwdRefIdeal.Read
open Cert.AdaFwdIdeal.Own (params)

theorem ref (C : FVec Ideal S8x2048 .f32) (W : FVec Ideal S4x2048x768 .f32) (B : FVec Ideal S4x768 .f32) (l : Fin 4) (r : Fin 8)
    (j : Fin 768) : val_main_v5 (F := Ideal) C W B (ix3 l r j) = params C W B (ix3 l r j) := by
  pointwise [val_main_v5, val_main_v4, val_main_v3, val_main_v2, val_main_v1, val_main_v0, val_main_call0_v0, val_main_call0_v1,
    val_main_call0_v2, val_main_call0_v3, val_main_call0_v4, val_main_call0_v5, val_main_call0_cst, val_main_call0_cst_0]
  unfold params
  refine congrArg₂ _ (Finset.sum_congr rfl fun k _ => mul_comm _ _) rfl

end Cert.AdaFwdRefIdeal.Own

namespace Cert.Adapt

open Idealize.ShloMosaic Idealize.ShloMosaic.TcCoe Idealize.SL.Sem

theorem frame_k : Cert.quiescent_AdaFwd := fun m ρ _ => Cert.AdaFwd.Gen.frame m ρ
theorem frame_ki : Cert.quiescent_AdaFwdIdeal := fun m ρ _ => Cert.AdaFwdIdeal.Gen.frame m ρ
theorem frame_ri : Cert.quiescent_AdaFwdRefIdeal := fun m ρ _ =>
  (θ_run Cert.AdaFwdRefIdeal.defs _ _).mono
    (fun r h => ⟨fun c => (h c).2, Idealize.ShloMosaic.sem_eq_zero_of_no_sems (by decide) r.2⟩)
    (Cert.AdaFwdRefIdeal.Value.run (F := Ideal) m ρ)

theorem value : Cert.algebraic_AdaFwdIdeal_AdaFwdRefIdeal := by
  pair_intro
  · run_from Cert.AdaFwdIdeal.Gen.run_main m g
  · run_from Cert.AdaFwdRefIdeal.Value.run m' g'
    rw [Cert.AdaFwdIdeal.Own.final]
    refine (Cert.AdaFwdRefIdeal.Read.val_main_v5_eq _ _ _).trans ?_
    funext i
    idx_vars i
    exact Cert.AdaFwdRefIdeal.Own.ref _ _ _ i0 i1 i2

end Cert.Adapt

end
-- ==== Proof.InRun.lean ====
module

public import proofs.«01_k».proof.Proof.Gen.InFwdIdeal.Frame
public import proofs.«01_k».proof.Proof.Gen.InFwdIdeal.Loops
public import Idealize.ShloMosaic.Lib.Pipeline.FrameBody
public import Idealize.ShloMosaic.Lib.Pipeline.Value
public import Idealize.ShloMosaic.Lib.VecWindow
public import Idealize.ShloMosaic.Lib.WholeRead
public import Idealize.ShloMosaic.Lib.WritesUnit
public import Idealize.ShloMosaic.Lib.Ring
public import Idealize.ShloMosaic.Lib.WordCmp

/-! The body of the input projection: what it leaves in its results, at the first point of a row of the grid and at a later one. -/

@[expose] public section

set_option maxRecDepth 16384

noncomputable section

namespace Cert.InFwdIdeal.Own

open Cert.InFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Row `128k + z 0`, column `z 1`. -/
def up (k : Fin 8) (z : S128x2048.Idx) : S1024x2048.Idx := fun a => ⟨(![128 * k.val, 0] : Fin 2 → ℕ) a + (z a).val, by
  revert a; exact Fin.forall_fin_two.mpr ⟨by have h : (z 0).val < 128 := (z 0).isLt; have := k.isLt; show 128 * k.val + (z 0).val < 1024; omega,
    by have h : (z 1).val < 2048 := (z 1).isLt; show 0 + (z 1).val < 2048; omega⟩⟩

/-- The place of `y` among the 128 rows that hold it. -/
def dn (y : S1024x2048.Idx) : S128x2048.Idx := fun a => ⟨(y a).val % S128x2048.size a, Nat.mod_lt _ (by revert a; decide)⟩

/-- The modulated norm of the rows, 128 rows at a time. -/
def hid (x0 : Vec F S1024x2048 .f32) (x1 x2 x3 : Vec F S1x2048 .f32) : Vec F S1024x2048 .bf16 := fun y =>
  k0_pay1 (fun z => x0 (up ⟨(y 0).val / 128, by have h : (y 0).val < 1024 := (y 0).isLt; omega⟩ z)) x1 x2 x3 (dn y)

theorem hid_at (x0 : Vec F S1024x2048 .f32) (x1 x2 x3 : Vec F S1x2048 .f32) (k : Fin 8) (z : S128x2048.Idx) (y : S1024x2048.Idx) (h0 : (y 0).val = 128 * k.val + (z 0).val)
    (h1 : (y 1).val = (z 1).val) : hid x0 x1 x2 x3 y = k0_pay1 (fun z => x0 (up k z)) x1 x2 x3 z := by
  have hz : (z 0).val < 128 := (z 0).isLt
  have hz1 : (z 1).val < 2048 := (z 1).isLt
  have hk : (⟨(y 0).val / 128, by have h : (y 0).val < 1024 := (y 0).isLt; omega⟩ : Fin 8) = k := Fin.ext (by show (y 0).val / 128 = k.val; omega)
  have hd : dn y = z := funext (Fin.forall_fin_two.mpr ⟨Fin.ext (by show (y 0).val % 128 = (z 0).val; omega), Fin.ext (by show (y 1).val % 2048 = (z 1).val; omega)⟩)
  unfold hid; rw [hk, hd]

theorem pay2_eq (v : Vec F S128x2048 .f32) (a b d : Vec F S1x2048 .f32) : k0_pay2 v a b d = k0_pay1 v a b d := by
  unfold k0_pay2; exact shapeCast_self _ _

theorem trips_eq : k0_t1_loop.trips = 8 := by decide +kernel

theorem off_eq (k : Fin k0_t1_loop.trips) : k0_off1 k = ![128 * k.val, 0] := by revert k; decide +kernel

/-- The rows of trip `k`, as the trip loads them. -/
theorem ld_rows (arg2 : Memref sig .tc .vmem S1024x2048 .f32) (harg2 : arg2.IsWhole) (x0 : Vec F S1024x2048 .f32) (k : Fin k0_t1_loop.trips) (k8 : k.val < 8)
    (inb : ∀ a, k0_off1 k a + S128x2048.size a ≤ S1024x2048.size a) :
    View.readAt (Elt F) arg2.view (Rect.unit (s := S1024x2048) (k0_off1 k) S128x2048.size inb).toLoadRect (harg2.unread x0) = fun z => x0 (up ⟨k.val, k8⟩ z) := by
  funext z
  rw [harg2.readAt_unread]
  refine congrArg x0 (funext (Fin.forall_fin_two.mpr ⟨Fin.ext ?_, Fin.ext ?_⟩))
  · have e : k0_off1 k 0 = 128 * k.val := by rw [off_eq k]; rfl
    show k0_off1 k 0 + 1 * (z 0).val = 128 * k.val + (z 0).val
    omega
  · have e : k0_off1 k 1 = 0 := by rw [off_eq k]; rfl
    show k0_off1 k 1 + 1 * (z 1).val = 0 + (z 1).val
    omega

theorem ld_vec (v : Memref sig .tc .vmem S1x2048 .f32) (h : v.IsWhole) (x : Vec F S1x2048 .f32) (inb : ∀ a, (![0, 0] : Fin 2 → ℕ) a + S1x2048.size a ≤ S1x2048.size a) :
    View.readAt (Elt F) v.view (Rect.unit (s := S1x2048) ![0, 0] S1x2048.size inb).toLoadRect (h.unread x) = x := by
  rw [View.readAt_full, h.read_unread]

/-- A list of pieces holds the hidden rows, as far as it reaches. -/
def Good (G : Vec F S1024x2048 .bf16) (n : ℕ) (L : List (View.Piece (Elt F) S1024x2048 .bf16)) : Prop :=
  (∀ p ∈ L, ∀ x : p.1.shape.Idx, p.2 x = G (p.1.emb x)) ∧ ∀ y : S1024x2048.Idx, (y 0).val < 128 * n → ∃ p ∈ L, y ∈ p.1.set

theorem good_cons (x0 : Vec F S1024x2048 .f32) (x1 x2 x3 : Vec F S1x2048 .f32) (k : Fin k0_t1_loop.trips) (k8 : k.val < 8) (inb : ∀ a, k0_off1 k a + S128x2048.size a ≤ S1024x2048.size a)
    (L : List (View.Piece (Elt F) S1024x2048 .bf16)) (hL : Good (hid x0 x1 x2 x3) k.val L) :
    Good (hid x0 x1 x2 x3) (k.val + 1) (⟨Rect.unit (s := S1024x2048) (k0_off1 k) S128x2048.size inb, k0_pay1 (fun z => x0 (up ⟨k.val, k8⟩ z)) x1 x2 x3⟩ :: L) := by
  refine ⟨fun p hp x => ?_, fun y hy => ?_⟩
  · rcases List.mem_cons.mp hp with rfl | hp
    · refine (hid_at x0 x1 x2 x3 ⟨k.val, k8⟩ x _ ?_ ?_).symm
      · have e : k0_off1 k 0 = 128 * k.val := by rw [off_eq k]; rfl
        show k0_off1 k 0 + 1 * (x 0).val = 128 * k.val + (x 0).val
        omega
      · have e : k0_off1 k 1 = 0 := by rw [off_eq k]; rfl
        show k0_off1 k 1 + 1 * (x 1).val = (x 1).val
        omega
    · exact hL.1 p hp x
  · by_cases h : (y 0).val < 128 * k.val
    · obtain ⟨p, hp, h⟩ := hL.2 y h
      exact ⟨p, List.mem_cons_of_mem _ hp, h⟩
    · refine ⟨_, List.mem_cons_self, (Rect.mem_set_unit (inb := inb)).mpr ?_⟩
      rw [off_eq k]
      exact Rect.unit_rows_mem (W := 128) y rfl rfl ⟨by omega, by omega⟩

theorem loop_good (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x2048 .bf16) (harg11 : arg11.IsWhole) (k0_h1 : k0_cond1 i = 1#1) (x0 : Vec F S1024x2048 .f32) (x1 x2 x3 : Vec F S1x2048 .f32) (n : ℕ) (hn : n ≤ k0_t1_loop.trips) :
    Good (hid x0 x1 x2 x3) n (pb_k0_t1 (F := F) 𝒱 c bd i arg2 harg2 arg3 harg3 arg4 harg4 arg5 harg5 arg6 harg6 arg7 harg7 arg8 harg8 arg9 harg9 arg10 harg10 arg11 harg11 k0_h1 (harg2.unread x0) (harg3.unread x1) (harg4.unread x2) (harg5.unread x3) n).1
    ∧ Good (hid x0 x1 x2 x3) n (pb_k0_t1 (F := F) 𝒱 c bd i arg2 harg2 arg3 harg3 arg4 harg4 arg5 harg5 arg6 harg6 arg7 harg7 arg8 harg8 arg9 harg9 arg10 harg10 arg11 harg11 k0_h1 (harg2.unread x0) (harg3.unread x1) (harg4.unread x2) (harg5.unread x3) n).2 := by
  induction n with
  | zero =>
    rw [pb_k0_t1.eq_1]
    exact ⟨⟨fun p hp => absurd hp List.not_mem_nil, fun y hy => absurd hy (by omega)⟩, ⟨fun p hp => absurd hp List.not_mem_nil, fun y hy => absurd hy (by omega)⟩⟩
  | succ n ih =>
    have ih := ih (by omega)
    have k8 : n < 8 := by have := trips_eq; omega
    rw [pb_k0_t1_succ (F := F) 𝒱 c bd i arg2 harg2 arg3 harg3 arg4 harg4 arg5 harg5 arg6 harg6 arg7 harg7 arg8 harg8 arg9 harg9 arg10 harg10 arg11 harg11 k0_h1 _ _ _ _ ⟨n, by omega⟩]
    unfold tripL_k0_t1 trip_k0_t1
    dsimp only
    simp only [List.cons_append, List.nil_append, pay2_eq]
    rw [ld_rows arg2 harg2 x0 ⟨n, by omega⟩ k8, ld_vec arg3 harg3, ld_vec arg4 harg4, ld_vec arg5 harg5]
    exact ⟨good_cons x0 x1 x2 x3 ⟨n, by omega⟩ k8 _ _ ih.1, good_cons x0 x1 x2 x3 ⟨n, by omega⟩ k8 _ _ ih.2⟩

theorem good_read (v : View sig .tc .vmem S1024x2048 .bf16) (f : v.ty.Contents (Elt F)) (G : Vec F S1024x2048 .bf16) (L : List (View.Piece (Elt F) S1024x2048 .bf16))
    (n : ℕ) (hn : n = 8) (h : Good G n L) : v.read (Elt F) (v.writes (Elt F) f L) = G :=
  funext fun y => View.read_writes_apply_of_pieces v f G L h.1 y (h.2 y (by subst hn; have h : (y 0).val < 1024 := (y 0).isLt; omega))

set_option maxHeartbeats 4000000 in
/-- The first point of a row: the loop fills the hidden rows, and both products are of them. -/
theorem runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x2048 .bf16) (harg11 : arg11.IsWhole) (hc0 : k0_cond1 i = 1#1)
    (x0 : Vec F S1024x2048 .f32) (x1 x2 x3 : Vec F S1x2048 .f32) (x4 : Vec F S2048x1024 .bf16) (x5 : Vec F S2048x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 (hid x0 x1 x2 x3) x4) ∗ owns (c : Thread nD τ) arg9 fullShare (k0_pay3 (hid x0 x1 x2 x3) x5) ∗ owns (c : Thread nD τ) arg10 fullShare (hid x0 x1 x2 x3) ∗ owns (c : Thread nD τ) arg11 fullShare (hid x0 x1 x2 x3)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  have hl := loop_good (F := F) Variants.none c none i arg2 harg2 arg3 harg3 arg4 harg4 arg5 harg5 arg6 harg6 arg7 harg7 arg8 harg8 arg9 harg9 arg10 harg10 arg11 harg11 hc0 x0 x1 x2 x3 k0_t1_loop.trips le_rfl
  have h10 := fun f => good_read arg10.view f _ _ _ trips_eq hl.1
  have h11 := fun f => good_read arg11.view f _ _ _ trips_eq hl.2
  sl_exec (disch := first | sl_exact hc0)
  sl_step
  iapply Hk
  isplitl [H0]; · iexists _; isplitr; swap; · iexact H0
                  ipureintro; exact harg2.read_unread _
  isplitl [H1]; · iexists _; isplitr; swap; · iexact H1
                  ipureintro; exact harg3.read_unread _
  isplitl [H2]; · iexists _; isplitr; swap; · iexact H2
                  ipureintro; exact harg4.read_unread _
  isplitl [H3]; · iexists _; isplitr; swap; · iexact H3
                  ipureintro; exact harg5.read_unread _
  isplitl [H4]; · iexists _; isplitr; swap; · iexact H4
                  ipureintro; exact harg6.read_unread _
  isplitl [H5]; · iexists _; isplitr; swap; · iexact H5
                  ipureintro; exact harg7.read_unread _
  isplitl [H6]
  · iexists _; isplitr; swap; · iexact H6
    ipureintro
    rw [View.read_writes_full]
    exact congrArg₂ k0_pay4 ((View.readAt_full _ _ _).trans (h11 fs0)) ((View.readAt_full _ _ _).trans (harg6.read_unread _))
  isplitl [H7]
  · iexists _; isplitr; swap; · iexact H7
    ipureintro
    rw [View.read_writes_full]
    exact congrArg₂ k0_pay3 ((View.readAt_full _ _ _).trans (h11 fs0)) ((View.readAt_full _ _ _).trans (harg7.read_unread _))
  isplitl [H8]
  · iexists _; isplitr; swap; · iexact H8
    ipureintro; exact h10 _
  iexists _; isplitr; swap; · iexact HS0
  ipureintro; exact h11 _

set_option maxHeartbeats 4000000 in
/-- A later point of a row: one product, of the hidden rows that the scratch holds. -/
theorem runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x2048 .bf16) (harg11 : arg11.IsWhole) (hc0 : ¬k0_cond1 i = 1#1)
    (x0 : Vec F S1024x2048 .f32) (x1 x2 x3 : Vec F S1x2048 .f32) (x4 : Vec F S2048x1024 .bf16) (x5 : Vec F S2048x128 .bf16) (y7 : Vec F S1024x128 .f32) (y8 S : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y7 ∗ owns (c : Thread nD τ) arg10 fullShare y8 ∗ owns (c : Thread nD τ) arg11 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 S x4) ∗ owns (c : Thread nD τ) arg9 fullShare y7 ∗ owns (c : Thread nD τ) arg10 fullShare y8 ∗ owns (c : Thread nD τ) arg11 fullShare S) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, Hk⟩
  obtain rfl := harg6.eq_unread hf4; obtain rfl := harg11.eq_unread hfs0
  sl_exec (disch := first | sl_exact hc0)
  sl_step
  iapply Hk
  isplitl [H0]; · iexists _; isplitr; swap; · iexact H0
                  ipureintro; exact hf0
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact harg6.read_unread _
  isplitl [H5]; · iexists _; isplitr; swap; · iexact H5
                  ipureintro; exact hf5
  isplitl [H6]
  · iexists _; isplitr; swap; · iexact H6
    ipureintro
    rw [View.read_writes_full, View.readAt_full, View.readAt_full, harg6.read_unread, harg11.read_unread]
  isplitl [H7]; · iexists _; isplitr; swap; · iexact H7
                  ipureintro; exact hf7
  isplitl [H8]; · iexists _; isplitr; swap; · iexact H8
                  ipureintro; exact hf8
  iexists _; isplitr; swap; · iexact HS0
  ipureintro; exact harg11.read_unread _

end Cert.InFwdIdeal.Own

end
-- ==== Proof.InFrame.lean ====
module

public import proofs.«01_k».proof.Proof.InRun
public import Idealize.ShloMosaic.Lib.Claim
public import Idealize.ShloMosaic.Lib.Pipeline.TableIdle

/-! The run of the input projection: its frame, and what its results hold. -/

@[expose] public section

set_option maxRecDepth 16384

noncomputable section

namespace Cert.InFwdIdeal.Own

open Cert.InFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hcond : ∀ t : Fin cfg0.N, k0_cond1 (grid0.coords t) = 1#1 ↔ t.val % 7 = 0 := fun t => by
  have ht : t.val < 56 := Nat.lt_of_lt_of_eq t.isLt N_0
  have e1 : (grid0.coords t 1).val = t.val / 1 % 7 := Pipeline.Grid.coords_val t 1 (by decide) rfl
  simp only [k0_cond1, e1]; word_cmp

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x2048 .bf16 := win0_8.stage (cfg0.slots t 8)
abbrev hs8 (t : Fin cfg0.N) : (ms8 t).IsWhole := hstage0_8 ((cfg0.slots t 8).cast nbuf0_8)
abbrev sc0 : Memref sig .tc .vmem S1024x2048 .bf16 := Memref.whole cc0_scratch0

/-- The launch's resource with the scratch as a memref owned at some contents. -/
theorem PhiA_eq (c : Dev nD) : (Pipeline.ΦA spec0 c : sProp 𝕄) = iprop((∃ d, owns (c : Thread nD τ) sc0 fullShare d) ∗ (∃ r, prngReg c r)) := by
  unfold Pipeline.ΦA; rw [scopedRest0_eq]; simp only [sc0, owns_whole]; try rfl

variable (m : (ℓ : Loc nD τ sig) → Buf (Elt F) ℓ) (ρ : Dev nD → PrngReg)

/-- The first point of the row of the grid that holds `t`. -/
def base (t : Fin cfg0.N) : Fin cfg0.N := ⟨t.val - t.val % 7, Nat.lt_of_le_of_lt (Nat.sub_le _ _) t.isLt⟩

theorem base_A (t : Fin cfg0.N) (h0 : t.val % 7 = 0) : base t = t := Fin.ext (by show t.val - t.val % 7 = t.val; omega)
theorem base_B (t : Fin cfg0.N) (h0 : ¬t.val % 7 = 0) (h : t.val - 1 < cfg0.N) : base ⟨t.val - 1, h⟩ = base t :=
  Fin.ext (by show (t.val - 1) - (t.val - 1) % 7 = t.val - t.val % 7; omega)

/-- The hidden rows of the row of the grid that starts at `b`, -/
def hb (c : Dev nD) (b : Fin cfg0.N) : Vec F S1024x2048 .bf16 := hid (iblk m c 0 b) (iblk m c 1 b) (iblk m c 2 b) (iblk m c 3 b)
/-- and the small product of that row. -/
def sb (c : Dev nD) (b : Fin cfg0.N) : Vec F S1024x128 .f32 := k0_pay3 (hb m c b) (iblk m c 5 b)

/-- Before the first point the scratch is at anything; before a later one at the hidden rows. -/
def PhiS (c : Dev nD) : (n : ℕ) → n ≤ cfg0.N → sProp 𝕄
  | 0, _ => Pipeline.ΦA spec0 c
  | n + 1, hn => iprop(owns (c : Thread nD τ) sc0 fullShare (hb m c (base ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = iprop(owns (c : Thread nD τ) sc0 fullShare (hb m c (base ⟨n, hn⟩)) ∗ (∃ r, prngReg c r)) := rfl

theorem PhiS_pos (c : Dev nD) (n : ℕ) (h : n ≤ cfg0.N) (hz : n ≠ 0) :
    PhiS m c n h = iprop(owns (c : Thread nD τ) sc0 fullShare (hb m c (base ⟨n - 1, by omega⟩)) ∗ (∃ r, prngReg c r)) := by
  cases n with
  | zero => exact absurd rfl hz
  | succ n => rfl

/-- The pipeline's data: every input's buffer at its block, every result's at what the body left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (hb m c (base t)) (iblk m c 4 t)
    | ⟨7, _⟩ => sb m c (base t)
    | ⟨8, _⟩ => hb m c (base t)
    | ⟨_ + 9, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay4 (hb m c (base t)) (iblk m c 4 t) := by dsimp only [dats]
theorem after0_7 (c : Dev nD) (t : Fin cfg0.N) : (dats m 0 c).after 7 t = sb m c (base t) := by dsimp only [dats]
theorem after0_8 (c : Dev nD) (t : Fin cfg0.N) : (dats m 0 c).after 8 t = hb m c (base t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

theorem idle7 (t : Fin cfg0.N) : cfg0.idle 7 (cfg0.grid.coords t) = !(t.val % 7 == 0) := by
  show (!(k0_cond1 (grid0.coords t) == 1#1)) = _
  congr 1
  rw [Bool.eq_iff_iff, beq_iff_eq, beq_iff_eq]
  exact hcond t

theorem fresh7 (t : Fin cfg0.N) : cfg0.fresh 7 t.val = (t.val % 7 == 0) :=
  Pipeline.Cfg.fresh_tab cfg0 7 (fun n => n % 7 == 0) rfl (fun t => by
    rw [idle7, show ((cfg0.win 7).flush t) = (t.val % 7 == 6) from Bool.eq_iff_iff.mpr ((flush0_7 t).trans beq_iff_eq.symm)]
    have := Nat.mod_lt t.val (show 7 > 0 by decide)
    by_cases h : t.val % 7 = 6
    · have h1 : (t.val + 1) % 7 = 0 := by omega
      simp only [h, h1]; rfl
    · have h1 : ¬(t.val + 1) % 7 = 0 := by omega
      by_cases h2 : t.val % 7 = 0 <;> simp [h, h1, h2]) t.val (Nat.le_of_lt t.isLt)

/-- Along a row the result's buffer is found as the point before left it, -/
theorem before0_7 (c : Dev nD) (t : Fin cfg0.N) (h0 : ¬t.val % 7 = 0) (d) : (dats m 0 c).before 7 t d = sb m c (base t) := by
  have hc : ∀ (s : Fin cfg0.N) (hz : s.val ≠ 0), cfg0.idle 7 (cfg0.grid.coords s) = true → cfg0.fresh 7 s.val = false →
      (dats m 0 c).after 7 s = (dats m 0 c).after 7 ⟨s.val - 1, by omega⟩ := fun s hz _ hf => by
    rw [fresh7] at hf
    rw [after0_7, after0_7, base_B s (by simpa using hf)]
  rw [(dats m 0 c).before_out_traj 7 rfl (fun _ _ => rfl) hc t.val t rfl d, fresh7, if_neg (by simpa using h0), after0_7, base_B t h0]

/-- and what the body leaves there is what the loop asks for. -/
theorem leaves7 (c : Dev nD) (t : Fin cfg0.N) : owns (c : Thread nD τ) (ms7 t) fullShare (sb m c (base t)) ⊢ (dats m 0 c).leavesExact 7 t := by
  unfold Dat.leavesExact
  by_cases h0 : t.val % 7 = 0
  · rw [show cfg0.idle 7 (cfg0.grid.coords t) = false by rw [idle7]; simp [h0]]
    exact .rfl
  · rw [show cfg0.idle 7 (cfg0.grid.coords t) = true by rw [idle7]; simp [h0]]
    by_cases h6 : t.val % 7 = 6
    · rw [(flush0_7 t).mpr h6]
      exact .rfl
    · rw [show (cfg0.win 7).flush t = false from Bool.eq_false_iff.mpr fun h => h6 ((flush0_7 t).mp h)]
      simp only [before0_7 m c t h0]
      iintro H
      iexists (sb m c (base t))
      iexact H

theorem idle8 (t : Fin cfg0.N) : cfg0.idle 8 (cfg0.grid.coords t) = !(t.val % 7 == 0) := by
  show (!(k0_cond1 (grid0.coords t) == 1#1)) = _
  congr 1
  rw [Bool.eq_iff_iff, beq_iff_eq, beq_iff_eq]
  exact hcond t

theorem fresh8 (t : Fin cfg0.N) : cfg0.fresh 8 t.val = (t.val % 7 == 0) :=
  Pipeline.Cfg.fresh_tab cfg0 8 (fun n => n % 7 == 0) rfl (fun t => by
    rw [idle8, show ((cfg0.win 8).flush t) = (t.val % 7 == 6) from Bool.eq_iff_iff.mpr ((flush0_8 t).trans beq_iff_eq.symm)]
    have := Nat.mod_lt t.val (show 7 > 0 by decide)
    by_cases h : t.val % 7 = 6
    · have h1 : (t.val + 1) % 7 = 0 := by omega
      simp only [h, h1]; rfl
    · have h1 : ¬(t.val + 1) % 7 = 0 := by omega
      by_cases h2 : t.val % 7 = 0 <;> simp [h, h1, h2]) t.val (Nat.le_of_lt t.isLt)

/-- Along a row the result's buffer is found as the point before left it, -/
theorem before0_8 (c : Dev nD) (t : Fin cfg0.N) (h0 : ¬t.val % 7 = 0) (d) : (dats m 0 c).before 8 t d = hb m c (base t) := by
  have hc : ∀ (s : Fin cfg0.N) (hz : s.val ≠ 0), cfg0.idle 8 (cfg0.grid.coords s) = true → cfg0.fresh 8 s.val = false →
      (dats m 0 c).after 8 s = (dats m 0 c).after 8 ⟨s.val - 1, by omega⟩ := fun s hz _ hf => by
    rw [fresh8] at hf
    rw [after0_8, after0_8, base_B s (by simpa using hf)]
  rw [(dats m 0 c).before_out_traj 8 rfl (fun _ _ => rfl) hc t.val t rfl d, fresh8, if_neg (by simpa using h0), after0_8, base_B t h0]

/-- and what the body leaves there is what the loop asks for. -/
theorem leaves8 (c : Dev nD) (t : Fin cfg0.N) : owns (c : Thread nD τ) (ms8 t) fullShare (hb m c (base t)) ⊢ (dats m 0 c).leavesExact 8 t := by
  unfold Dat.leavesExact
  by_cases h0 : t.val % 7 = 0
  · rw [show cfg0.idle 8 (cfg0.grid.coords t) = false by rw [idle8]; simp [h0]]
    exact .rfl
  · rw [show cfg0.idle 8 (cfg0.grid.coords t) = true by rw [idle8]; simp [h0]]
    by_cases h6 : t.val % 7 = 6
    · rw [(flush0_8 t).mpr h6]
      exact .rfl
    · rw [show (cfg0.win 8).flush t = false from Bool.eq_false_iff.mpr fun h => h6 ((flush0_8 t).mp h)]
      simp only [before0_8 m c t h0]
      iintro H
      iexists (hb m c (base t))
      iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (dats m 0 c).leavesExact 7 t
    ∗ (dats m 0 c).leavesExact 8 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  by_cases h0 : t.val % 7 = 0
  · have hΦ : (dats m 0 c).Φ t.castSucc ⊢ iprop((∃ d, owns (c : Thread nD τ) sc0 fullShare d) ∗ (∃ r, prngReg c r)) := by
      rw [PhiS_castSucc m c t]
      by_cases hz : t.val = 0
      · rw [PhiS_zero m c _ _ hz, PhiA_eq]
      · rw [PhiS_pos m c _ _ hz]
        iintro ⟨HS, Hg⟩
        isplitl [HS]; · iexists _; iexact HS
        iexact Hg
    have l7 := leaves7 m c t
    have l8 := leaves8 m c t
    rw [base_A t h0] at l7 l8 ⊢
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave ⟨HS, Hg⟩ := hΦ $$ HΦ
    iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) ((hcond t).mpr h0) (iblk m c 0 t) (iblk m c 1 t) (iblk m c 2 t) (iblk m c 3 t) (iblk m c 4 t) (iblk m c 5 t))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (l7); iexact H7
    iapply (l8); iexact H8
  · have hz : t.val ≠ 0 := fun h => h0 (by rw [h])
    rw [PhiS_castSucc m c t, PhiS_pos m c _ _ hz, base_B t h0]
    simp only [before0_7 m c t h0, before0_8 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) (fun h => h0 ((hcond t).mp h)) (iblk m c 0 t) (iblk m c 1 t) (iblk m c 2 t) (iblk m c 3 t) (iblk m c 4 t) (iblk m c 5 t) (sb m c (base t)) (hb m c (base t)) (hb m c (base t)))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves7 m c t); iexact H7
    iapply (leaves8 m c t); iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]; · iexists _; iexact HS
  iexact Hg

theorem hout (c : Dev nD) : (dats m 0 c).Φ (Fin.last cfg0.N) ⊢ Pipeline.ΦA spec0 c :=
  Phi_out m c _ (by rw [Fin.val_last]; have : cfg0.N = 56 := N_0; omega)

set_option backward.isDefEq.respectTransparency.types false in
/-- The launch: every array of the pipeline ends at what the data compute, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.InFwdIdeal.Own

end
-- ==== Proof.InTransfer.lean ====
module

public import proofs.«01_k».proof.Defs
public import proofs.«01_k».proof.Proof.Gen.InFwd
public import proofs.«01_k».proof.Proof.InFrame
public import Idealize.ShloMosaic.Lib.Tactic

@[expose] public section

namespace Cert.Proof

open Idealize.ShloMosaic.Tactic in
theorem frameInFwd : Cert.quiescent_InFwd (hInFwd := Cert.InFwd.Gen.facts) :=
  fun m ρ _ => Eq.mp (by sl_kernel_rfl) (Cert.InFwdIdeal.Own.frame (F := Idealize.ShloMosaic.Bits) m ρ)

end Cert.Proof

end
-- ==== Proof.In.lean ====
/- The input projection with its norm: the claims about its two programs. -/
module

public import proofs.«01_k».proof.Defs
public import proofs.«01_k».proof.Proof.InFrame
public import proofs.«01_k».proof.Proof.Gen.InFwdRefIdeal.Run
public import proofs.«01_k».proof.Proof.Gen.InFwdRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.InFwdIdeal.Own

open Idealize.ShloMosaic Idealize.ShloMosaic.TcCoe Idealize.SL.Sem
open Cert.InFwdIdeal Cert.InFwdIdeal.Gen

theorem idx : ∀ t : Fin cfg0.N, win0_0.index t = ![t.val / 7, 0] ∧ win0_1.index t = ![0, 0] ∧ win0_2.index t = ![0, 0]
    ∧ win0_3.index t = ![0, 0] ∧ win0_4.index t = ![0, t.val % 7] ∧ win0_5.index t = ![0, 0] ∧ win0_6.index t = ![t.val / 7, t.val % 7]
    ∧ win0_7.index t = ![t.val / 7, 0] ∧ win0_8.index t = ![t.val / 7, 0] :=
  (by decide +kernel : ∀ t : Fin grid0.N, _)

/-- Row `r` of the row block of point `t`. -/
def rowOf (t : Fin cfg0.N) (r : Fin 1024) : Fin 8192 :=
  ⟨t.val / 7 * 1024 + r.val, by have := t.isLt; have h : cfg0.N = 56 := N_0; omega⟩

/-- Column `j` of the column block of point `t`. -/
def colOf (t : Fin cfg0.N) (j : Fin 1024) : Fin 7168 := ⟨t.val % 7 * 1024 + j.val, by omega⟩

variable (m : (ℓ : Loc nD τ sig) → Buf (Elt Ideal) ℓ) (c : Dev nD)

def scCol (k : Fin 2048) : Fin 6144 := ⟨2048 + k.val, by omega⟩
def shCol (k : Fin 2048) : Fin 6144 := ⟨k.val, by omega⟩

/-- The column of the weight that column `n` of the packed one is. -/
def wCol (n : Fin 7168) : Fin 7184 :=
  if h : n.val < 1024 then ⟨3072 + n.val, by omega⟩ else if h' : n.val < 4096 then ⟨3088 + n.val, by omega⟩ else ⟨n.val - 4096, by omega⟩

theorem wCol_a (n : Fin 7168) (h : n.val < 1024) : wCol n = ⟨3072 + n.val, by omega⟩ := dif_pos h
theorem wCol_b (n : Fin 7168) (h : ¬n.val < 1024) (h' : n.val < 4096) : wCol n = ⟨3088 + n.val, by omega⟩ := (dif_neg h).trans (dif_pos h')
theorem wCol_c (n : Fin 7168) (h' : ¬n.val < 4096) : wCol n = ⟨n.val - 4096, by omega⟩ :=
  (dif_neg (fun h => h' (by omega))).trans (dif_neg h')

/-- The padded small weight. -/
def sw (W : S2048x7184.Idx → EReal) (k : Fin 2048) (j : Fin 128) : EReal :=
  if h : j.val < 16 then W (ix2 k ⟨4096 + j.val, by omega⟩) else 0

theorem sw_lt (W : S2048x7184.Idx → EReal) (k : Fin 2048) (j : Fin 128) (h : j.val < 16) : sw W k j = W (ix2 k ⟨4096 + j.val, by omega⟩) := dif_pos h
theorem sw_ge (W : S2048x7184.Idx → EReal) (k : Fin 2048) (j : Fin 128) (h : ¬j.val < 16) : sw W k j = 0 := dif_neg h

theorem iblk0 (t : Fin cfg0.N) (i : S1024x2048.Idx) :
    iblk m c 0 t i = m ((c : Thread nD τ).loc main_arg0) (ix3 0 (rowOf t (i 0)) (i 1)) := by
  unfold rowOf
  blk_point [iblk, V, idx t]

theorem iblk1 (t : Fin cfg0.N) (i : S1x2048.Idx) :
    iblk m c 1 t i = m ((c : Thread nD τ).loc main_arg1) (ix1 (i 1)) := by
  blk_point [iblk, V, idx t]

theorem iblk2 (t : Fin cfg0.N) (i : S1x2048.Idx) :
    iblk m c 2 t i = (1 : EReal) + m ((c : Thread nD τ).loc main_arg2) (ix2 0 (scCol (i 1))) := by
  unfold scCol
  blk_point [iblk, V, idx t]

theorem iblk3 (t : Fin cfg0.N) (i : S1x2048.Idx) :
    iblk m c 3 t i = m ((c : Thread nD τ).loc main_arg2) (ix2 0 (shCol (i 1))) := by
  unfold shCol
  blk_point [iblk, V, idx t]

theorem host14 : V m c main_v14 = concatenate S2048x7168 1 [⟨S2048x4096, concatenate S2048x4096 1 [⟨S2048x1024, extractStridedSlice S2048x1024 ![0, 3072] (truncf (F := Ideal) .bf16 (m ((c : Thread nD τ).loc main_arg3)) bitsLt_bf16_f32) slices_S2048x7184_S2048x1024_0_3072⟩, ⟨S2048x3072, extractStridedSlice S2048x3072 ![0, 4112] (truncf (F := Ideal) .bf16 (m ((c : Thread nD τ).loc main_arg3)) bitsLt_bf16_f32) slices_S2048x7184_S2048x3072_0_4112⟩] concatenates_S2048x1024_S2048x3072_S2048x4096_d1⟩, ⟨S2048x3072, extractStridedSlice S2048x3072 ![0, 0] (truncf (F := Ideal) .bf16 (m ((c : Thread nD τ).loc main_arg3)) bitsLt_bf16_f32) slices_S2048x7184_S2048x3072_0_0⟩] concatenates_S2048x4096_S2048x3072_S2048x7168_d1 := by
  rfl

theorem host7 : V m c main_v7 = concatenate S2048x128 1 [⟨S2048x16, extractStridedSlice S2048x16 ![0, 4096] (truncf (F := Ideal) .bf16 (m ((c : Thread nD τ).loc main_arg3)) bitsLt_bf16_f32) slices_S2048x7184_S2048x16_0_4096⟩, ⟨S2048x112, broadcastInDim S2048x112 ![] bcast_S_S2048x112 (constant (F := Ideal) S_ .bf16 0x0000#16)⟩] concatenates_S2048x16_S2048x112_S2048x128_d1 := by
  rfl

theorem read14 (W : FVec Ideal S2048x7184 .f32) (k : Fin 2048) (j : Fin 7168) : concatenate S2048x7168 1 [⟨S2048x4096, concatenate S2048x4096 1 [⟨S2048x1024, extractStridedSlice S2048x1024 ![0, 3072] (truncf (F := Ideal) .bf16 W bitsLt_bf16_f32) slices_S2048x7184_S2048x1024_0_3072⟩, ⟨S2048x3072, extractStridedSlice S2048x3072 ![0, 4112] (truncf (F := Ideal) .bf16 W bitsLt_bf16_f32) slices_S2048x7184_S2048x3072_0_4112⟩] concatenates_S2048x1024_S2048x3072_S2048x4096_d1⟩, ⟨S2048x3072, extractStridedSlice S2048x3072 ![0, 0] (truncf (F := Ideal) .bf16 W bitsLt_bf16_f32) slices_S2048x7184_S2048x3072_0_0⟩] concatenates_S2048x4096_S2048x3072_S2048x7168_d1 (ix2 k j) = W (ix2 k (wCol j)) := by
  pointwise
  by_cases h1 : j.val < 1024
  · rw [wCol_a j h1, dif_pos (show j.val < 4096 by omega), dif_pos h1]
  · by_cases h2 : j.val < 4096
    · rw [wCol_b j h1 h2, dif_pos h2, dif_neg h1]
      exact congrArg (fun q => W (ix2 k q)) (Fin.ext (by show 4112 + (j.val - 1024) = 3088 + j.val; omega))
    · rw [wCol_c j h2, dif_neg h2]

theorem read7 (W : FVec Ideal S2048x7184 .f32) (k : Fin 2048) (j : Fin 128) : concatenate S2048x128 1 [⟨S2048x16, extractStridedSlice S2048x16 ![0, 4096] (truncf (F := Ideal) .bf16 W bitsLt_bf16_f32) slices_S2048x7184_S2048x16_0_4096⟩, ⟨S2048x112, broadcastInDim S2048x112 ![] bcast_S_S2048x112 (constant (F := Ideal) S_ .bf16 0x0000#16)⟩] concatenates_S2048x16_S2048x112_S2048x128_d1 (ix2 k j) = sw W k j := by
  unfold sw
  pointwise

theorem iblk4 (t : Fin cfg0.N) (i : S2048x1024.Idx) :
    iblk m c 4 t i = m ((c : Thread nD τ).loc main_arg3) (ix2 (i 0) (wCol (colOf t (i 1)))) := by
  refine Eq.trans ?_ ((congrFun (host14 m c) (ix2 (i 0) (colOf t (i 1)))).trans (read14 _ _ _))
  unfold iblk
  refine congrArg (V m c main_v14) ?_
  unfold colOf
  blk_ext [idx t]

theorem iblk5 (t : Fin cfg0.N) (i : S2048x128.Idx) :
    iblk m c 5 t i = sw (m ((c : Thread nD τ).loc main_arg3)) (i 0) (i 1) := by
  refine Eq.trans ?_ ((congrFun (host7 m c) (ix2 (i 0) (i 1))).trans (read7 _ _ _))
  unfold iblk
  refine congrArg (V m c main_v7) ?_
  blk_ext [idx t]

/-- The root of the mean of squares, and the constant added to it. -/
def rows (s : EReal) : EReal := Ideal.rsqrt (Ideal.div s (Ideal.ofBits FTy.f32 1157627904#32) + Ideal.ofBits FTy.f32 897988541#32)

theorem pay1 (X : FVec Ideal S128x2048 .f32) (G : FVec Ideal S1x2048 .f32) (A : FVec Ideal S1x2048 .f32)
    (B : FVec Ideal S1x2048 .f32) (r : Fin 128) (k : Fin 2048) :
    k0_pay1 (F := Ideal) X G A B (ix2 r k) =
      X (ix2 r k) * rows (∑ x, X (ix2 r x) * X (ix2 r x)) * G (ix2 0 k) * A (ix2 0 k) + B (ix2 0 k) := by
  unfold rows
  pointwise [k0_pay1]

/-- The hidden rows: the norm of the residual stream, scaled and shifted. -/
def hd (X : S1x8192x2048.Idx → EReal) (G : S2048.Idx → EReal) (M : S1x6144.Idx → EReal) (r : Fin 8192) (k : Fin 2048) : EReal :=
  X (ix3 0 r k) * rows (∑ x : Fin 2048, X (ix3 0 r x) * X (ix3 0 r x)) * G (ix1 k) * (1 + M (ix2 0 (scCol k))) + M (ix2 0 (shCol k))

/-- The packed product of the hidden rows with the weight. -/
def outP (X : S1x8192x2048.Idx → EReal) (G : S2048.Idx → EReal) (M : S1x6144.Idx → EReal) (W : S2048x7184.Idx → EReal) : S8192x7168.Idx → EReal :=
  fun i => ∑ k : Fin 2048, hd X G M (i 0) k * W (ix2 k (wCol (i 1)))

/-- The small product, padded with zeros. -/
def outS (X : S1x8192x2048.Idx → EReal) (G : S2048.Idx → EReal) (M : S1x6144.Idx → EReal) (W : S2048x7184.Idx → EReal) : S8192x128.Idx → EReal :=
  fun i => if h : (i 1).val < 16 then ∑ k : Fin 2048, hd X G M (i 0) k * W (ix2 k ⟨4096 + (i 1).val, by omega⟩) else 0

def outH (X : S1x8192x2048.Idx → EReal) (G : S2048.Idx → EReal) (M : S1x6144.Idx → EReal) : S8192x2048.Idx → EReal :=
  fun i => hd X G M (i 0) (i 1)

theorem pay3 (H : FVec Ideal S1024x2048 .bf16) (W : FVec Ideal S2048x128 .bf16) (r : Fin 1024) (j : Fin 128) :
    k0_pay3 (F := Ideal) H W (ix2 r j) = ∑ k : Fin 2048, H (ix2 r k) * W (ix2 k j) := by
  pointwise [k0_pay3]

theorem pay4 (H : FVec Ideal S1024x2048 .bf16) (W : FVec Ideal S2048x1024 .bf16) (r : Fin 1024) (j : Fin 1024) :
    k0_pay4 (F := Ideal) H W (ix2 r j) = ∑ k : Fin 2048, H (ix2 r k) * W (ix2 k j) := by
  pointwise [k0_pay4]

theorem hid_read (t : Fin cfg0.N) (r : Fin 1024) (k : Fin 2048) : hb m c t (ix2 r k) =
    hd (m ((c : Thread nD τ).loc main_arg0)) (m ((c : Thread nD τ).loc main_arg1)) (m ((c : Thread nD τ).loc main_arg2)) (rowOf t r) k := by
  have hu : ∀ (q : Fin 8) (x : Fin 2048), q.val = r.val / 128 → up q (ix2 ⟨r.val % 128, by omega⟩ x) = (ix2 r x : S1024x2048.Idx) := fun q x hq => by
    unfold up
    funext a
    match a with
    | ⟨0, _⟩ => exact Fin.ext (by show 128 * q.val + r.val % 128 = r.val; omega)
    | ⟨1, _⟩ => exact Fin.ext (by show 0 + x.val = x.val; omega)
  unfold hb
  refine (hid_at _ _ _ _ ⟨r.val / 128, by omega⟩ (ix2 ⟨r.val % 128, by omega⟩ k) (ix2 r k) (by show r.val = 128 * (r.val / 128) + r.val % 128; omega) rfl).trans ?_
  refine (pay1 _ _ _ _ _ _).trans ?_
  simp only [hu ⟨r.val / 128, by omega⟩ _ rfl]
  simp only [iblk0, iblk1, iblk2, iblk3]
  rfl

/-- The first point of a row of the grid has that row's row block. -/
theorem row_base (t : Fin cfg0.N) (r : Fin 1024) : rowOf (base t) r = rowOf t r :=
  Fin.ext (by show (t.val - t.val % 7) / 7 * 1024 + r.val = t.val / 7 * 1024 + r.val; omega)

theorem final6 : (dats m 0 c).arrAt 6 (cfgs 0).N = outP (m ((c : Thread nD τ).loc main_arg0)) (m ((c : Thread nD τ).loc main_arg1))
    (m ((c : Thread nD τ).loc main_arg2)) (m ((c : Thread nD τ).loc main_arg3)) := by
  refine Pipeline.Dat.arrAt_eq_of_covers (dats m 0 c) 6 _ (by decide +kernel) fun t hf y => ?_
  blk_simp
  rw [after0_6]
  have e : ((View.whole main_v15_0).slice (win0_6.rect t)).emb y = (ix2 (rowOf t (y 0)) (colOf t (y 1)) : S8192x7168.Idx) := by
    unfold rowOf colOf
    blk_ext [idx t]
  rw [e]
  idx_vars y
  refine (pay4 _ _ _ _).trans ?_
  unfold outP
  refine Finset.sum_congr rfl fun k _ => ?_
  rw [hid_read, iblk4, row_base]
  rfl

theorem final7 : (dats m 0 c).arrAt 7 (cfgs 0).N = outS (m ((c : Thread nD τ).loc main_arg0)) (m ((c : Thread nD τ).loc main_arg1))
    (m ((c : Thread nD τ).loc main_arg2)) (m ((c : Thread nD τ).loc main_arg3)) := by
  refine Pipeline.Dat.arrAt_eq_of_covers (dats m 0 c) 7 _ (by decide +kernel) fun t hf y => ?_
  blk_simp
  rw [after0_7]
  have e : ((View.whole main_v15_1).slice (win0_7.rect t)).emb y = (ix2 (rowOf t (y 0)) (y 1) : S8192x128.Idx) := by
    unfold rowOf
    blk_ext [idx t]
  rw [e]
  idx_vars y
  unfold sb
  refine (pay3 _ _ _ _).trans ?_
  unfold outS
  by_cases h : y1.val < 16
  · refine Eq.trans ?_ (dif_pos h).symm
    refine Finset.sum_congr rfl fun k _ => ?_
    rw [hid_read, iblk5, row_base]
    exact congrArg (_ * ·) (sw_lt _ k y1 h)
  · refine Eq.trans ?_ (dif_neg h).symm
    refine Finset.sum_eq_zero fun k _ => ?_
    rw [iblk5]
    exact (congrArg (_ * ·) (sw_ge _ k y1 h)).trans (mul_zero _)

theorem final8 : (dats m 0 c).arrAt 8 (cfgs 0).N = outH (m ((c : Thread nD τ).loc main_arg0)) (m ((c : Thread nD τ).loc main_arg1))
    (m ((c : Thread nD τ).loc main_arg2)) := by
  refine Pipeline.Dat.arrAt_eq_of_covers (dats m 0 c) 8 _ (by decide +kernel) fun t hf y => ?_
  blk_simp
  rw [after0_8]
  have e : ((View.whole main_v15_2).slice (win0_8.rect t)).emb y = (ix2 (rowOf t (y 0)) (y 1) : S8192x2048.Idx) := by
    unfold rowOf
    blk_ext [idx t]
  rw [e]
  idx_vars y
  refine (hid_read _ _ _ _ _).trans ?_
  rw [row_base]
  rfl

end Cert.InFwdIdeal.Own

namespace Cert.InFwdRefIdeal.Own
open Idealize.ShloMosaic Idealize.ShloMosaic.TcCoe Idealize.SL.Sem
open Cert.InFwdRefIdeal Cert.InFwdRefIdeal.Gen Cert.InFwdRefIdeal.Read
open Cert.InFwdIdeal.Own (hd rows scCol shCol wCol wCol_a wCol_b wCol_c outP outS outH)

theorem rh (X : FVec Ideal S1x8192x2048 .f32) (G : FVec Ideal S2048 .f32) (M : FVec Ideal S1x6144 .f32) (r : Fin 8192) (k : Fin 2048) :
    val_main_v23 (F := Ideal) X G M (ix3 0 r k) = hd X G M r k := by
  unfold hd rows scCol shCol
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v1, val_main_v0, val_main_cst, val_main_cst_0, val_main_cst_1, val_main_cst_2]

theorem rp (X : FVec Ideal S1x8192x2048 .f32) (G : FVec Ideal S2048 .f32) (M : FVec Ideal S1x6144 .f32) (W : FVec Ideal S2048x7184 .f32) (r : Fin 8192) (j : Fin 7168) :
    val_main_v32 (F := Ideal) X G M W (ix2 r j) = ∑ k : Fin 2048, val_main_v23 (F := Ideal) X G M (ix3 0 r k) * W (ix2 k (Cert.InFwdIdeal.Own.wCol j)) := by
  pointwise [val_main_v32, val_main_v31, val_main_v30, val_main_v29, val_main_v28, val_main_v27, val_main_v26, val_main_v25, val_main_v24]
  by_cases h1 : j.val < 1024
  · rw [wCol_a j h1, dif_pos h1]
  · by_cases h2 : j.val < 4096
    · rw [wCol_b j h1 h2, dif_neg h1, dif_pos (show j.val - 1024 < 3072 by omega)]
      exact Finset.sum_congr rfl fun k _ => congrArg (fun q => val_main_v23 (F := Ideal) X G M (ix3 0 r k) * W (ix2 k q)) (Fin.ext (by show 4112 + (j.val - 1024) = 3088 + j.val; omega))
    · rw [wCol_c j h2, dif_neg h1, dif_neg (show ¬j.val - 1024 < 3072 by omega)]
      exact Finset.sum_congr rfl fun k _ => congrArg (fun q => val_main_v23 (F := Ideal) X G M (ix3 0 r k) * W (ix2 k q)) (Fin.ext (by show j.val - 1024 - 3072 = j.val - 4096; omega))

theorem rs (X : FVec Ideal S1x8192x2048 .f32) (G : FVec Ideal S2048 .f32) (M : FVec Ideal S1x6144 .f32) (W : FVec Ideal S2048x7184 .f32) (r : Fin 8192) (j : Fin 128) :
    val_main_v36 (F := Ideal) X G M W (ix2 r j) = (if h : j.val < 16 then ∑ k : Fin 2048, val_main_v23 (F := Ideal) X G M (ix3 0 r k) * W (ix2 k ⟨4096 + j.val, by omega⟩) else 0 : EReal) := by
  pointwise [val_main_v36, val_main_v35, val_main_v34, val_main_v33, val_main_v24, val_main_cst_3]

theorem rhid (X : FVec Ideal S1x8192x2048 .f32) (G : FVec Ideal S2048 .f32) (M : FVec Ideal S1x6144 .f32) (r : Fin 8192) (j : Fin 2048) :
    val_main_v38 (F := Ideal) X G M (ix2 r j) = val_main_v23 (F := Ideal) X G M (ix3 0 r j) := by
  pointwise [val_main_v38, val_main_v37]

end Cert.InFwdRefIdeal.Own

namespace Cert.In

open Idealize.ShloMosaic Idealize.ShloMosaic.TcCoe Idealize.SL.Sem

theorem frame_ki : Cert.quiescent_InFwdIdeal := fun m ρ _ => Cert.InFwdIdeal.Own.frame m ρ
theorem frame_ri : Cert.quiescent_InFwdRefIdeal := fun m ρ _ =>
  (θ_run Cert.InFwdRefIdeal.defs _ _).mono
    (fun r h => ⟨fun c => (h c).2.2.2, Idealize.ShloMosaic.sem_eq_zero_of_no_sems (by decide) r.2⟩)
    (Cert.InFwdRefIdeal.Value.run (F := Ideal) m ρ)

/-- The kernel's run, read at its three results and its arguments. -/
theorem run_k (m : (ℓ : Loc Cert.InFwdIdeal.nD Cert.InFwdIdeal.τ Cert.InFwdIdeal.sig) → Buf (Elt Ideal) ℓ) (ρ : Dev Cert.InFwdIdeal.nD → PrngReg) :
    θ_run Cert.InFwdIdeal.defs (onTc (τ := Cert.InFwdIdeal.τ) (Cert.InFwdIdeal.main (F := Ideal))) ⟨m, fun _ => 0, ρ⟩ fun r => ∀ c : Dev Cert.InFwdIdeal.nD,
      r.2.mem ((c.tc : Thread Cert.InFwdIdeal.nD Cert.InFwdIdeal.τ).loc Cert.InFwdIdeal.main_v15_0) = (Cert.InFwdIdeal.Own.dats m 0 c).arrAt 6 (Cert.InFwdIdeal.cfgs 0).N
      ∧ r.2.mem ((c.tc : Thread Cert.InFwdIdeal.nD Cert.InFwdIdeal.τ).loc Cert.InFwdIdeal.main_v15_1) = (Cert.InFwdIdeal.Own.dats m 0 c).arrAt 7 (Cert.InFwdIdeal.cfgs 0).N
      ∧ r.2.mem ((c.tc : Thread Cert.InFwdIdeal.nD Cert.InFwdIdeal.τ).loc Cert.InFwdIdeal.main_v15_2) = (Cert.InFwdIdeal.Own.dats m 0 c).arrAt 8 (Cert.InFwdIdeal.cfgs 0).N
      ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
      ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3) :=
  (θ_run Cert.InFwdIdeal.defs _ _).mono (fun _ h c => ⟨(h.1 c).1 6, (h.1 c).1 7, (h.1 c).1 8, h.2 c⟩)
    (θ_run_and (Cert.InFwdIdeal.Own.run_main m ρ) (Cert.InFwdIdeal.Own.unchanged m ρ))

theorem value : Cert.algebraic_InFwdIdeal_InFwdRefIdeal := by
  pair_intro
  · run_from run_k m g
  · run_from Cert.InFwdRefIdeal.Value.run m' g'
    · obtain ⟨e0, e1, e2, e3⟩ := hagree c
      rw [Cert.InFwdIdeal.Own.final6]
      refine (Cert.InFwdRefIdeal.Read.val_main_v32_eq _ _).trans ?_
      funext i
      idx_vars i
      refine (Cert.InFwdRefIdeal.Own.rp _ _ _ _ i0 i1).trans ?_
      simp only [Cert.InFwdRefIdeal.Own.rh]
      rw [e0, e1, e2, e3]
      rfl
    · obtain ⟨e0, e1, e2, e3⟩ := hagree c
      rw [Cert.InFwdIdeal.Own.final7]
      refine (Cert.InFwdRefIdeal.Read.val_main_v36_eq _ _ _ _).trans ?_
      funext i
      idx_vars i
      refine (Cert.InFwdRefIdeal.Own.rs _ _ _ _ i0 i1).trans ?_
      simp only [Cert.InFwdRefIdeal.Own.rh]
      rw [e3]
      rfl
    · rw [Cert.InFwdIdeal.Own.final8]
      refine (Cert.InFwdRefIdeal.Read.val_main_v38_eq _ _ _).trans ?_
      funext i
      idx_vars i
      exact (Cert.InFwdRefIdeal.Own.rhid _ _ _ i0 i1).trans (Cert.InFwdRefIdeal.Own.rh _ _ _ i0 i1)

end Cert.In

end
-- ==== Proof.InBwdLoop.lean ====
module

public import proofs.«01_k».proof.Proof.Gen.InBwdIdeal.Frame.Runs
public import Idealize.ShloMosaic.Lib.Pipeline.FrameBody
public import Idealize.ShloMosaic.Lib.Pipeline.Value
public import Idealize.ShloMosaic.Lib.VecWindow
public import Idealize.ShloMosaic.Lib.WholeRead
public import Idealize.ShloMosaic.Lib.WritesUnit
public import Idealize.ShloMosaic.Lib.Ring
public import Idealize.ShloMosaic.Lib.WordCmp

/-! The body of the input projection's gradient: what its loop over the rows leaves. -/

@[expose] public section

set_option maxRecDepth 16384

noncomputable section

namespace Cert.InBwdIdeal.Own

open Cert.InBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Row `128k + z 0` (of the 512 rows, around), column `z 1`. -/
def up (k : ℕ) (z : S128x2048.Idx) : S512x2048.Idx := fun a => match a with
  | ⟨0, _⟩ => ⟨(128 * k + (z 0).val) % 512, Nat.mod_lt _ (by decide)⟩
  | ⟨1, _⟩ => ⟨(z 1).val, (z 1).isLt⟩

/-- The place of `y` among the 128 rows that hold it. -/
def dn (y : S512x2048.Idx) : S128x2048.Idx := fun a => match a with
  | ⟨0, _⟩ => ⟨(y 0).val % 128, Nat.mod_lt _ (by decide)⟩
  | ⟨1, _⟩ => ⟨(y 1).val, (y 1).isLt⟩

/-- The rows of trip `k`. -/
def rw128 (x : Vec F S512x2048 .f32) (k : ℕ) : Vec F S128x2048 .f32 := fun z => x (up k z)

/-- The shift's gradient after `n` trips, -/
def fsh (A : Vec F S512x2048 .f32) (v : Vec F S1x2048 .f32) : ℕ → Vec F S1x2048 .f32
  | 0 => v
  | n + 1 => k0_pay12 (rw128 A n) (fsh A v n)
/-- the scale's, -/
def fsc (A x : Vec F S512x2048 .f32) (g v : Vec F S1x2048 .f32) : ℕ → Vec F S1x2048 .f32
  | 0 => v
  | n + 1 => k0_pay13 (rw128 x n) (rw128 A n) (fsc A x g v n) g
/-- the gain's, -/
def fng (A x : Vec F S512x2048 .f32) (s v : Vec F S1x2048 .f32) : ℕ → Vec F S1x2048 .f32
  | 0 => v
  | n + 1 => k0_pay7 (rw128 A n) (k0_pay11 (rw128 x n)) (k0_pay14 (fng A x s v n)) s
/-- and the gradient of the rows, 128 rows at a time. -/
def dxv (A x : Vec F S512x2048 .f32) (g s : Vec F S1x2048 .f32) (d : Vec F S512x2048 .f32) : Vec F S512x2048 .f32 := fun y =>
  k0_pay8 (rw128 A ((y 0).val / 128)) (k0_pay10 (rw128 x ((y 0).val / 128))) (k0_pay11 (rw128 x ((y 0).val / 128))) g s (rw128 d ((y 0).val / 128)) (dn y)

theorem dxv_at (A x : Vec F S512x2048 .f32) (g s : Vec F S1x2048 .f32) (d : Vec F S512x2048 .f32) (k : ℕ) (z : S128x2048.Idx) (y : S512x2048.Idx)
    (h0 : (y 0).val = 128 * k + (z 0).val) (h1 : (y 1).val = (z 1).val) :
    dxv A x g s d y = k0_pay8 (rw128 A k) (k0_pay10 (rw128 x k)) (k0_pay11 (rw128 x k)) g s (rw128 d k) z := by
  have hz : (z 0).val < 128 := (z 0).isLt
  have hk : (y 0).val / 128 = k := by omega
  have hd : dn y = z := funext (Fin.forall_fin_two.mpr ⟨Fin.ext (by show (y 0).val % 128 = (z 0).val; omega), Fin.ext (by show (y 1).val = (z 1).val; omega)⟩)
  unfold dxv; rw [hk, hd]

theorem trips_eq : k0_t1_loop.trips = 4 := by decide +kernel

theorem off_eq (k : Fin k0_t1_loop.trips) : k0_off1 k = ![128 * k.val, 0] := by revert k; decide +kernel

/-- The rows of trip `k`, as the trip loads them. -/
theorem ld_rows (v : Memref sig .tc .vmem S512x2048 .f32) (h : v.IsWhole) (x : Vec F S512x2048 .f32) (k : Fin k0_t1_loop.trips) (k4 : k.val < 4)
    (inb : ∀ a, k0_off1 k a + S128x2048.size a ≤ S512x2048.size a) :
    View.readAt (Elt F) v.view (Rect.unit (s := S512x2048) (k0_off1 k) S128x2048.size inb).toLoadRect (h.unread x) = rw128 x k.val := by
  funext z
  rw [h.readAt_unread]
  have hz : (z 0).val < 128 := (z 0).isLt
  refine congrArg x (funext (Fin.forall_fin_two.mpr ⟨Fin.ext ?_, Fin.ext ?_⟩))
  · have e : k0_off1 k 0 = 128 * k.val := by rw [off_eq k]; rfl
    show k0_off1 k 0 + 1 * (z 0).val = (128 * k.val + (z 0).val) % 512
    omega
  · have e : k0_off1 k 1 = 0 := by rw [off_eq k]; rfl
    show k0_off1 k 1 + 1 * (z 1).val = (z 1).val
    omega

theorem ld_vec (v : Memref sig .tc .vmem S1x2048 .f32) (h : v.IsWhole) (x : Vec F S1x2048 .f32) (inb : ∀ a, (![0, 0] : Fin 2 → ℕ) a + S1x2048.size a ≤ S1x2048.size a) :
    View.readAt (Elt F) v.view (Rect.unit (s := S1x2048) ![0, 0] S1x2048.size inb).toLoadRect (h.unread x) = x := by
  rw [View.readAt_full, h.read_unread]

/-- A list of pieces holds the contents `G`, as far as it reaches. -/
def Good (G : Vec F S512x2048 .f32) (n : ℕ) (L : List (View.Piece (Elt F) S512x2048 .f32)) : Prop :=
  (∀ p ∈ L, ∀ x : p.1.shape.Idx, p.2 x = G (p.1.emb x)) ∧ ∀ y : S512x2048.Idx, (y 0).val < 128 * n → ∃ p ∈ L, y ∈ p.1.set

theorem good_cons (A x : Vec F S512x2048 .f32) (g s : Vec F S1x2048 .f32) (d : Vec F S512x2048 .f32) (k : Fin k0_t1_loop.trips) (inb : ∀ a, k0_off1 k a + S128x2048.size a ≤ S512x2048.size a)
    (L : List (View.Piece (Elt F) S512x2048 .f32)) (hL : Good (dxv A x g s d) k.val L) :
    Good (dxv A x g s d) (k.val + 1) (⟨Rect.unit (s := S512x2048) (k0_off1 k) S128x2048.size inb, k0_pay8 (rw128 A k.val) (k0_pay10 (rw128 x k.val)) (k0_pay11 (rw128 x k.val)) g s (rw128 d k.val)⟩ :: L) := by
  refine ⟨fun p hp z => ?_, fun y hy => ?_⟩
  · rcases List.mem_cons.mp hp with rfl | hp
    · refine (dxv_at A x g s d k.val z _ ?_ ?_).symm
      · have e : k0_off1 k 0 = 128 * k.val := by rw [off_eq k]; rfl
        show k0_off1 k 0 + 1 * (z 0).val = 128 * k.val + (z 0).val
        omega
      · have e : k0_off1 k 1 = 0 := by rw [off_eq k]; rfl
        show k0_off1 k 1 + 1 * (z 1).val = (z 1).val
        omega
    · exact hL.1 p hp z
  · by_cases h : (y 0).val < 128 * k.val
    · obtain ⟨p, hp, h⟩ := hL.2 y h
      exact ⟨p, List.mem_cons_of_mem _ hp, h⟩
    · refine ⟨_, List.mem_cons_self, (Rect.mem_set_unit (inb := inb)).mpr ?_⟩
      rw [off_eq k]
      exact Rect.unit_rows_mem (W := 128) y rfl rfl ⟨by omega, by omega⟩

/-- What the trips before `n` leave. -/
structure Left (A x : Vec F S512x2048 .f32) (g s : Vec F S1x2048 .f32) (d : Vec F S512x2048 .f32) (v12 v13 v14 : View sig .tc .vmem S1x2048 .f32)
    (f12 : v12.ty.Contents (Elt F)) (f13 : v13.ty.Contents (Elt F)) (f14 : v14.ty.Contents (Elt F)) (n : ℕ)
    (L : List (View.Piece (Elt F) S512x2048 .f32) × List (View.Piece (Elt F) S1x2048 .f32) × List (View.Piece (Elt F) S1x2048 .f32) × List (View.Piece (Elt F) S1x2048 .f32)) : Prop where
  dx : Good (dxv A x g s d) n L.1
  sh : v12.read (Elt F) (v12.writes (Elt F) f12 L.2.1) = fsh A (v12.read (Elt F) f12) n
  sc : v13.read (Elt F) (v13.writes (Elt F) f13 L.2.2.1) = fsc A x g (v13.read (Elt F) f13) n
  ng : v14.read (Elt F) (v14.writes (Elt F) f14 L.2.2.2) = fng A x s (v14.read (Elt F) f14) n

set_option maxHeartbeats 4000000 in
theorem loop_left (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (k0_h5 : k0_cond5 i = 1#1) (A x : Vec F S512x2048 .f32) (g s : Vec F S1x2048 .f32) (d : Vec F S512x2048 .f32)
    (f11 : arg11.view.ty.Contents (Elt F)) (f12 : arg12.view.ty.Contents (Elt F)) (f13 : arg13.view.ty.Contents (Elt F)) (f14 : arg14.view.ty.Contents (Elt F)) (n : ℕ) (hn : n ≤ k0_t1_loop.trips) :
    Left A x g s d arg12.view arg13.view arg14.view f12 f13 f14 n (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h5 (harg7.unread x) (harg8.unread g) (harg9.unread s) (harg10.unread d) (harg15.unread A) f11 f12 f13 f14 n) := by
  induction n with
  | zero =>
    rw [pb_k0_t1.eq_1]
    exact ⟨⟨fun p hp => absurd hp List.not_mem_nil, fun y hy => absurd hy (by omega)⟩, rfl, rfl, rfl⟩
  | succ n ih =>
    have ih := ih (by omega)
    have k4 : n < 4 := by have := trips_eq; omega
    rw [pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h5 _ _ _ _ _ _ _ _ _ ⟨n, by omega⟩]
    unfold tripL_k0_t1 trip_k0_t1
    dsimp only
    simp only [List.cons_append, List.nil_append, trip_k0_t1.sl.r, trip_k0_t1.sl.r_1, trip_k0_t1.sl.r_2, trip_k0_t1.sl.r_3]
    rw [ld_rows arg7 harg7 x ⟨n, by omega⟩ k4, ld_rows arg15 harg15 A ⟨n, by omega⟩ k4, ld_rows arg10 harg10 d ⟨n, by omega⟩ k4, ld_vec arg8 harg8, ld_vec arg9 harg9]
    refine ⟨good_cons A x g s d ⟨n, by omega⟩ _ _ ih.dx, ?_, ?_, ?_⟩
    · rw [View.read_writes_full, View.readAt_full, fsh, ← ih.sh]
    · rw [View.read_writes_full, View.readAt_full, fsc, ← ih.sc]
    · rw [View.read_writes_full, View.readAt_full, fng, ← ih.ng]

theorem good_read (v : View sig .tc .vmem S512x2048 .f32) (f : v.ty.Contents (Elt F)) (G : Vec F S512x2048 .f32) (L : List (View.Piece (Elt F) S512x2048 .f32))
    (n : ℕ) (hn : n = 4) (h : Good G n L) : v.read (Elt F) (v.writes (Elt F) f L) = G :=
  funext fun y => View.read_writes_apply_of_pieces v f G L h.1 y (h.2 y (by subst hn; have h : (y 0).val < 512 := (y 0).isLt; omega))

end Cert.InBwdIdeal.Own

end
-- ==== Proof.InBwdRun.lean ====
module

public import proofs.«01_k».proof.Proof.InBwdLoop
public import Idealize.ShloMosaic.Lib.Pipeline.FrameBody
public import Idealize.ShloMosaic.Lib.Pipeline.Value
public import Idealize.ShloMosaic.Lib.VecWindow
public import Idealize.ShloMosaic.Lib.WholeRead
public import Idealize.ShloMosaic.Lib.WritesUnit
public import Idealize.ShloMosaic.Lib.Ring
public import Idealize.ShloMosaic.Lib.WordCmp

/-! The body of the input projection's gradient: what it leaves in its results, in each case of its conditionals. -/

@[expose] public section

set_option maxRecDepth 16384

noncomputable section

namespace Cert.InBwdIdeal.Own

open Cert.InBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem acc_eq {α β γ δ : Type} (f : α → β → γ → δ) {a a' : α} {b b' : β} {c c' : γ} (ha : a = a') (hb : b = b') (hc : c = c') : f a b c = f a' b' c' := by
  rw [ha, hb, hc]

set_option maxHeartbeats 4000000 in
/-- The first point: the accumulated gradients start at zero, the accumulator at its first two products. -/
theorem runA (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : cond0_0 i) (hc1 : cond0_1 i) (hc2 : cond0_2 i) (hc3 : ¬cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (y9 : Vec F S512x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare (k0_pay1 (F := F)) ∗ owns (c : Thread nD τ) arg13 fullShare (k0_pay2 (F := F)) ∗ owns (c : Thread nD τ) arg14 fullShare (k0_pay3 (F := F)) ∗ owns (c : Thread nD τ) arg15 fullShare (k0_pay5 (k0_pay4 x2 x4) x0 x3)) -∗ K ⟨⟩))
      ⊢ wp frame (wpE (defs₀ (F := F)) Variants.none c none) E (cc0_inproj_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_bwd_eq_skeleton]; unfold cc0_inproj_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  sl_exec (disch := first | sl_exact hc0 | sl_exact hc1 | sl_exact hc2 | sl_exact hc3 | sl_exact hc4)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; exact harg11.read_unread _
  isplitl [H10]
  · iexists _; isplitr; swap; · iexact H10
    ipureintro; rw [View.read_writes_full]
  isplitl [H11]
  · iexists _; isplitr; swap; · iexact H11
    ipureintro; rw [View.read_writes_full]
  isplitl [H12]
  · iexists _; isplitr; swap; · iexact H12
    ipureintro; rw [View.read_writes_full]
  iexists _; isplitr; swap; · iexact H13
  ipureintro; exact (View.read_writes_full _ _ _ _ _).trans (acc_eq k0_pay5 ((View.readAt_full _ _ _).trans ((View.read_writes_full _ _ _ _ _).trans (congrArg₂ k0_pay4 ((View.readAt_full _ _ _).trans (harg4.read_unread _)) ((View.readAt_full _ _ _).trans (harg6.read_unread _))))) ((View.readAt_full _ _ _).trans (harg2.read_unread _)) ((View.readAt_full _ _ _).trans (harg5.read_unread _)))

set_option maxHeartbeats 4000000 in
/-- The first point of a later row block: the accumulator starts at its first two products. -/
theorem runE (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : ¬cond0_0 i) (hc1 : cond0_1 i) (hc2 : cond0_2 i) (hc3 : ¬cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (y9 : Vec F S512x2048 .f32) (y10 y11 y12 : Vec F S1x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare y10 ∗ owns (c : Thread nD τ) arg13 fullShare y11 ∗ owns (c : Thread nD τ) arg14 fullShare y12 ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare (k0_pay5 (k0_pay4 x2 x4) x0 x3)) -∗ K ⟨⟩))
      ⊢ wp frame (wpE (defs₀ (F := F)) Variants.none c none) E (cc0_inproj_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_bwd_eq_skeleton]; unfold cc0_inproj_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  sl_exec (disch := first | sl_exact hc0 | sl_exact hc1 | sl_exact hc2 | sl_exact hc3 | sl_exact hc4)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; exact harg11.read_unread _
  isplitl [H10]
  · iexists _; isplitr; swap; · iexact H10
    ipureintro; exact harg12.read_unread _
  isplitl [H11]
  · iexists _; isplitr; swap; · iexact H11
    ipureintro; exact harg13.read_unread _
  isplitl [H12]
  · iexists _; isplitr; swap; · iexact H12
    ipureintro; exact harg14.read_unread _
  iexists _; isplitr; swap; · iexact H13
  ipureintro; exact (View.read_writes_full _ _ _ _ _).trans (acc_eq k0_pay5 ((View.readAt_full _ _ _).trans ((View.read_writes_full _ _ _ _ _).trans (congrArg₂ k0_pay4 ((View.readAt_full _ _ _).trans (harg4.read_unread _)) ((View.readAt_full _ _ _).trans (harg6.read_unread _))))) ((View.readAt_full _ _ _).trans (harg2.read_unread _)) ((View.readAt_full _ _ _).trans (harg5.read_unread _)))

set_option maxHeartbeats 4000000 in
/-- A point of the first columns: one product is added. -/
theorem runB (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : ¬cond0_0 i) (hc1 : ¬cond0_1 i) (hc2 : cond0_2 i) (hc3 : ¬cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (y9 : Vec F S512x2048 .f32) (y10 y11 y12 : Vec F S1x2048 .f32) (S : Vec F S512x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare (k0_pay5 S x0 x3)) -∗ K ⟨⟩))
      ⊢ wp frame (wpE (defs₀ (F := F)) Variants.none c none) E (cc0_inproj_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_bwd_eq_skeleton]; unfold cc0_inproj_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  sl_exec (disch := first | sl_exact hc0 | sl_exact hc1 | sl_exact hc2 | sl_exact hc3 | sl_exact hc4)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; exact harg11.read_unread _
  isplitl [H10]
  · iexists _; isplitr; swap; · iexact H10
    ipureintro; exact harg12.read_unread _
  isplitl [H11]
  · iexists _; isplitr; swap; · iexact H11
    ipureintro; exact harg13.read_unread _
  isplitl [H12]
  · iexists _; isplitr; swap; · iexact H12
    ipureintro; exact harg14.read_unread _
  iexists _; isplitr; swap; · iexact H13
  ipureintro; exact (View.read_writes_full _ _ _ _ _).trans (acc_eq k0_pay5 ((View.readAt_full _ _ _).trans (harg15.read_unread _)) ((View.readAt_full _ _ _).trans (harg2.read_unread _)) ((View.readAt_full _ _ _).trans (harg5.read_unread _)))

set_option maxHeartbeats 4000000 in
/-- A point of the last columns: one product is added. -/
theorem runC (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : ¬cond0_0 i) (hc1 : ¬cond0_1 i) (hc2 : ¬cond0_2 i) (hc3 : cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (y9 : Vec F S512x2048 .f32) (y10 y11 y12 : Vec F S1x2048 .f32) (S : Vec F S512x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare (k0_pay6 S x1 x3)) -∗ K ⟨⟩))
      ⊢ wp frame (wpE (defs₀ (F := F)) Variants.none c none) E (cc0_inproj_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_bwd_eq_skeleton]; unfold cc0_inproj_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  sl_exec (disch := first | sl_exact hc0 | sl_exact hc1 | sl_exact hc2 | sl_exact hc3 | sl_exact hc4)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; exact harg11.read_unread _
  isplitl [H10]
  · iexists _; isplitr; swap; · iexact H10
    ipureintro; exact harg12.read_unread _
  isplitl [H11]
  · iexists _; isplitr; swap; · iexact H11
    ipureintro; exact harg13.read_unread _
  isplitl [H12]
  · iexists _; isplitr; swap; · iexact H12
    ipureintro; exact harg14.read_unread _
  iexists _; isplitr; swap; · iexact H13
  ipureintro; exact (View.read_writes_full _ _ _ _ _).trans (acc_eq k0_pay6 ((View.readAt_full _ _ _).trans (harg15.read_unread _)) ((View.readAt_full _ _ _).trans (harg3.read_unread _)) ((View.readAt_full _ _ _).trans (harg5.read_unread _)))

set_option maxHeartbeats 4000000 in
/-- The last point of a row block: one product is added, and the loop forms the gradients. -/
theorem runD (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : ¬cond0_0 i) (hc1 : ¬cond0_1 i) (hc2 : ¬cond0_2 i) (hc3 : cond0_3 i) (hc4 : cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (y10 y11 y12 : Vec F S1x2048 .f32) (S : Vec F S512x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare y10 ∗ owns (c : Thread nD τ) arg13 fullShare y11 ∗ owns (c : Thread nD τ) arg14 fullShare y12 ∗ owns (c : Thread nD τ) arg15 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (dxv (k0_pay6 S x1 x3) x5 x6 x7 x8) ∗ owns (c : Thread nD τ) arg12 fullShare (fsh (k0_pay6 S x1 x3) y10 4) ∗ owns (c : Thread nD τ) arg13 fullShare (fsc (k0_pay6 S x1 x3) x5 x6 y11 4) ∗ owns (c : Thread nD τ) arg14 fullShare (fng (k0_pay6 S x1 x3) x5 x7 y12 4) ∗ owns (c : Thread nD τ) arg15 fullShare (k0_pay6 S x1 x3)) -∗ K ⟨⟩))
      ⊢ wp frame (wpE (defs₀ (F := F)) Variants.none c none) E (cc0_inproj_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_bwd_eq_skeleton]; unfold cc0_inproj_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg12.eq_unread hf10
  obtain rfl := harg13.eq_unread hf11
  obtain rfl := harg14.eq_unread hf12
  obtain rfl := harg15.eq_unread hf13
  have hl := fun (w : arg15.view.ty.Contents (Elt F)) (hw : arg15.view.read (Elt F) w = (k0_pay6 S x1 x3)) f9 => harg15.eq_unread hw ▸ loop_left (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc4 (k0_pay6 S x1 x3) x5 x6 x7 x8 f9 (harg12.unread y10) (harg13.unread y11) (harg14.unread y12) k0_t1_loop.trips le_rfl
  have e4 : k0_t1_loop.trips = 4 := trips_eq
  sl_exec (disch := first | sl_exact hc0 | sl_exact hc1 | sl_exact hc2 | sl_exact hc3 | sl_exact hc4)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; exact good_read _ _ _ _ _ trips_eq (hl _ ((View.read_writes_full _ _ _ _ _).trans (acc_eq k0_pay6 ((View.readAt_full _ _ _).trans (harg15.read_unread _)) ((View.readAt_full _ _ _).trans (harg3.read_unread _)) ((View.readAt_full _ _ _).trans (harg5.read_unread _)))) _).dx
  isplitl [H10]
  · iexists _; isplitr; swap; · iexact H10
    ipureintro; exact (hl _ ((View.read_writes_full _ _ _ _ _).trans (acc_eq k0_pay6 ((View.readAt_full _ _ _).trans (harg15.read_unread _)) ((View.readAt_full _ _ _).trans (harg3.read_unread _)) ((View.readAt_full _ _ _).trans (harg5.read_unread _)))) f9).sh.trans (by rw [harg12.read_unread, e4])
  isplitl [H11]
  · iexists _; isplitr; swap; · iexact H11
    ipureintro; exact (hl _ ((View.read_writes_full _ _ _ _ _).trans (acc_eq k0_pay6 ((View.readAt_full _ _ _).trans (harg15.read_unread _)) ((View.readAt_full _ _ _).trans (harg3.read_unread _)) ((View.readAt_full _ _ _).trans (harg5.read_unread _)))) f9).sc.trans (by rw [harg13.read_unread, e4])
  isplitl [H12]
  · iexists _; isplitr; swap; · iexact H12
    ipureintro; exact (hl _ ((View.read_writes_full _ _ _ _ _).trans (acc_eq k0_pay6 ((View.readAt_full _ _ _).trans (harg15.read_unread _)) ((View.readAt_full _ _ _).trans (harg3.read_unread _)) ((View.readAt_full _ _ _).trans (harg5.read_unread _)))) f9).ng.trans (by rw [harg14.read_unread, e4])
  iexists _; isplitr; swap; · iexact H13
  ipureintro; exact (View.read_writes_full _ _ _ _ _).trans (acc_eq k0_pay6 ((View.readAt_full _ _ _).trans (harg15.read_unread _)) ((View.readAt_full _ _ _).trans (harg3.read_unread _)) ((View.readAt_full _ _ _).trans (harg5.read_unread _)))

end Cert.InBwdIdeal.Own

end
-- ==== Proof.InBwdFrame.lean ====
module

public import proofs.«01_k».proof.Proof.InBwdRun
public import Idealize.ShloMosaic.Lib.Claim
public import Idealize.ShloMosaic.Lib.Pipeline.TableIdle

/-! The run of the input projection's gradient: its frame, and what its results hold. -/

@[expose] public section

set_option maxRecDepth 16384

noncomputable section

namespace Cert.InBwdIdeal.Own

open Cert.InBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of number `n`. -/
def pt (n : ℕ) : Fin cfg0.N := ⟨n % 112, Nat.lt_of_lt_of_eq (Nat.mod_lt _ (by decide)) N_0.symm⟩

theorem lt112 (t : Fin cfg0.N) : t.val < 112 := Nat.lt_of_lt_of_eq t.isLt N_0

theorem pt_val (t : Fin cfg0.N) : pt t.val = t := Fin.ext (Nat.mod_eq_of_lt (lt112 t))

/-- The accumulator at the first point of a row block. -/
def acc0 (c : Dev nD) (t : Fin cfg0.N) : Vec F S512x2048 .f32 := k0_pay5 (k0_pay4 (iblk m c 2 t) (iblk m c 4 t)) (iblk m c 0 t) (iblk m c 3 t)

/-- The accumulator after point `n`. -/
def accN (c : Dev nD) : ℕ → Vec F S512x2048 .f32
  | 0 => acc0 m c (pt 0)
  | n + 1 => if (n + 1) % 7 = 0 then acc0 m c (pt (n + 1)) else
      if (n + 1) % 7 ≤ 3 then k0_pay5 (accN c n) (iblk m c 0 (pt (n + 1))) (iblk m c 3 (pt (n + 1)))
      else k0_pay6 (accN c n) (iblk m c 1 (pt (n + 1))) (iblk m c 3 (pt (n + 1)))

theorem accN_first (c : Dev nD) (t : Fin cfg0.N) (h : t.val % 7 = 0) : accN m c t.val = acc0 m c t := by
  have e := pt_val t
  generalize t.val = n at h e
  cases n with
  | zero => rw [accN, e]
  | succ n => rw [accN, if_pos h, e]

theorem accN_low (c : Dev nD) (t : Fin cfg0.N) (h0 : ¬t.val % 7 = 0) (h : t.val % 7 ≤ 3) : accN m c t.val = k0_pay5 (accN m c (t.val - 1)) (iblk m c 0 t) (iblk m c 3 t) := by
  have e := pt_val t
  generalize t.val = n at h0 h e
  cases n with
  | zero => exact absurd rfl h0
  | succ n => rw [accN, if_neg h0, if_pos h, e]; rfl

theorem accN_high (c : Dev nD) (t : Fin cfg0.N) (h : ¬t.val % 7 ≤ 3) : accN m c t.val = k0_pay6 (accN m c (t.val - 1)) (iblk m c 1 t) (iblk m c 3 t) := by
  have e := pt_val t
  generalize t.val = n at h e
  cases n with
  | zero => exact absurd (by decide) h
  | succ n => rw [accN, if_neg (by omega), if_neg h, e]; rfl

/-- The shift's gradient after point `n`, -/
def shN (c : Dev nD) : ℕ → Vec F S1x2048 .f32
  | 0 => k0_pay1
  | n + 1 => if (n + 1) % 7 = 6 then fsh (accN m c (n + 1)) (shN c n) 4 else shN c n
/-- the scale's, -/
def scN (c : Dev nD) : ℕ → Vec F S1x2048 .f32
  | 0 => k0_pay2
  | n + 1 => if (n + 1) % 7 = 6 then fsc (accN m c (n + 1)) (iblk m c 5 (pt (n + 1))) (iblk m c 6 (pt (n + 1))) (scN c n) 4 else scN c n
/-- and the gain's. -/
def ngN (c : Dev nD) : ℕ → Vec F S1x2048 .f32
  | 0 => k0_pay3
  | n + 1 => if (n + 1) % 7 = 6 then fng (accN m c (n + 1)) (iblk m c 5 (pt (n + 1))) (iblk m c 7 (pt (n + 1))) (ngN c n) 4 else ngN c n

theorem shN_zero (c : Dev nD) (t : Fin cfg0.N) (h : t.val = 0) : shN m c t.val = k0_pay1 := by
  rw [h]; rfl

theorem shN_live (c : Dev nD) (t : Fin cfg0.N) (h : t.val % 7 = 6) : shN m c t.val = fsh (accN m c t.val) (shN m c (t.val - 1)) 4 := by
  have e := pt_val t
  generalize t.val = n at h e
  cases n with
  | zero => exact absurd h (by decide)
  | succ n => rw [shN, if_pos h]; rfl

theorem shN_idle (c : Dev nD) (n : ℕ) (h : ¬n % 7 = 6) : shN m c n = shN m c (n - 1) := by
  cases n with
  | zero => rfl
  | succ n => rw [shN, if_neg h]; rfl

theorem scN_zero (c : Dev nD) (t : Fin cfg0.N) (h : t.val = 0) : scN m c t.val = k0_pay2 := by
  rw [h]; rfl

theorem scN_live (c : Dev nD) (t : Fin cfg0.N) (h : t.val % 7 = 6) : scN m c t.val = fsc (accN m c t.val) (iblk m c 5 t) (iblk m c 6 t) (scN m c (t.val - 1)) 4 := by
  have e := pt_val t
  generalize t.val = n at h e
  cases n with
  | zero => exact absurd h (by decide)
  | succ n => rw [scN, if_pos h, e]; rfl

theorem scN_idle (c : Dev nD) (n : ℕ) (h : ¬n % 7 = 6) : scN m c n = scN m c (n - 1) := by
  cases n with
  | zero => rfl
  | succ n => rw [scN, if_neg h]; rfl

theorem ngN_zero (c : Dev nD) (t : Fin cfg0.N) (h : t.val = 0) : ngN m c t.val = k0_pay3 := by
  rw [h]; rfl

theorem ngN_live (c : Dev nD) (t : Fin cfg0.N) (h : t.val % 7 = 6) : ngN m c t.val = fng (accN m c t.val) (iblk m c 5 t) (iblk m c 7 t) (ngN m c (t.val - 1)) 4 := by
  have e := pt_val t
  generalize t.val = n at h e
  cases n with
  | zero => exact absurd h (by decide)
  | succ n => rw [ngN, if_pos h, e]; rfl

theorem ngN_idle (c : Dev nD) (n : ℕ) (h : ¬n % 7 = 6) : ngN m c n = ngN m c (n - 1) := by
  cases n with
  | zero => rfl
  | succ n => rw [ngN, if_neg h]; rfl

/-- The gradient of the rows at a point. -/
def dxN (c : Dev nD) (t : Fin cfg0.N) : Vec F S512x2048 .f32 := dxv (accN m c t.val) (iblk m c 5 t) (iblk m c 6 t) (iblk m c 7 t) (iblk m c 8 t)

/-- Before the first point the scratch is at anything; before a later one at the accumulator. -/
def PhiS (c : Dev nD) : (n : ℕ) → n ≤ cfg0.N → sProp 𝕄
  | 0, _ => Pipeline.ΦA spec0 c
  | n + 1, hn => iprop(owns (c : Thread nD τ) scM0_0 fullShare (accN m c n) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = iprop(owns (c : Thread nD τ) scM0_0 fullShare (accN m c n) ∗ (∃ r, prngReg c r)) := rfl

theorem PhiS_pos (c : Dev nD) (n : ℕ) (h : n ≤ cfg0.N) (hz : n ≠ 0) :
    PhiS m c n h = iprop(owns (c : Thread nD τ) scM0_0 fullShare (accN m c (n - 1)) ∗ (∃ r, prngReg c r)) := by
  cases n with
  | zero => exact absurd rfl hz
  | succ n => rfl

/-- The pipeline's data: every input's buffer at its block, every result's at what the body left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dxN m c t
    | ⟨10, _⟩ => shN m c t.val
    | ⟨11, _⟩ => scN m c t.val
    | ⟨12, _⟩ => ngN m c t.val
    | ⟨_ + 13, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = dxN m c t := by dsimp only [dats]
theorem after0_10 (c : Dev nD) (t : Fin cfg0.N) : (dats m 0 c).after 10 t = shN m c t.val := by dsimp only [dats]
theorem after0_11 (c : Dev nD) (t : Fin cfg0.N) : (dats m 0 c).after 11 t = scN m c t.val := by dsimp only [dats]
theorem after0_12 (c : Dev nD) (t : Fin cfg0.N) : (dats m 0 c).after 12 t = ngN m c t.val := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d

theorem idle9 : ∀ t : Fin cfg0.N, cfg0.idle 9 (cfg0.grid.coords t) = !(t.val % 7 == 6) :=
  (by decide +kernel : ∀ t : Fin grid0.N, cfg0.idle 9 (grid0.coords t) = !(t.val % 7 == 6))

/-- A point that leaves the result's buffer alone hands back what it found, -/
theorem keeps9 (c : Dev nD) (t : Fin cfg0.N) (h6 : ¬t.val % 7 = 6) (d) : owns (c : Thread nD τ) (ms0_9 t) fullShare ((dats m 0 c).before 9 t d) ⊢ (dats m 0 c).leavesExact 9 t := by
  unfold Dat.leavesExact
  rw [show cfg0.idle 9 (cfg0.grid.coords t) = true by rw [idle9]; simp [h6],
    show (cfg0.win 9).flush t = false from Bool.eq_false_iff.mpr fun h => by have := (flush0_9 t).mp h; have := lt112 t; omega]
  iintro H
  iexists d
  iexact H

/-- and one that stores into it leaves what the data say. -/
theorem stores9 (c : Dev nD) (t : Fin cfg0.N) (h : t.val % 7 = 6) : owns (c : Thread nD τ) (ms0_9 t) fullShare (dxN m c t) ⊢ (dats m 0 c).leavesExact 9 t := by
  unfold Dat.leavesExact
  rw [show cfg0.idle 9 (cfg0.grid.coords t) = false by rw [idle9]; simp [h]]
  exact .rfl

theorem idle10 : ∀ t : Fin cfg0.N, cfg0.idle 10 (cfg0.grid.coords t) = !(t.val == 0 || t.val % 7 == 6) :=
  (by decide +kernel : ∀ t : Fin grid0.N, cfg0.idle 10 (grid0.coords t) = !(t.val == 0 || t.val % 7 == 6))

/-- A point that leaves the result's buffer alone hands back what it found, -/
theorem keeps10 (c : Dev nD) (t : Fin cfg0.N) (h6 : ¬t.val % 7 = 6) (h0 : ¬t.val = 0) (d) : owns (c : Thread nD τ) (ms0_10 t) fullShare ((dats m 0 c).before 10 t d) ⊢ (dats m 0 c).leavesExact 10 t := by
  unfold Dat.leavesExact
  rw [show cfg0.idle 10 (cfg0.grid.coords t) = true by rw [idle10]; simp [h6, h0],
    show (cfg0.win 10).flush t = false from Bool.eq_false_iff.mpr fun h => by have := (flush0_10 t).mp h; have := lt112 t; omega]
  iintro H
  iexists d
  iexact H

/-- and one that stores into it leaves what the data say. -/
theorem stores10 (c : Dev nD) (t : Fin cfg0.N) (h : t.val = 0 ∨ t.val % 7 = 6) : owns (c : Thread nD τ) (ms0_10 t) fullShare (shN m c t.val) ⊢ (dats m 0 c).leavesExact 10 t := by
  unfold Dat.leavesExact
  rw [show cfg0.idle 10 (cfg0.grid.coords t) = false by rw [idle10]; rcases h with h | h <;> simp [h]]
  exact .rfl

theorem fresh10 (t : Fin cfg0.N) : cfg0.fresh 10 t.val = (t.val == 0 || t.val == 112) :=
  Pipeline.Cfg.fresh_tab cfg0 10 (fun n => n == 0 || n == 112) rfl (fun t => by
    rw [idle10, show ((cfg0.win 10).flush t) = (t.val % 112 == 111) from Bool.eq_iff_iff.mpr ((flush0_10 t).trans beq_iff_eq.symm)]
    revert t; decide +kernel) t.val (Nat.le_of_lt t.isLt)

/-- After the first point the buffer is found as the point before left it. -/
theorem before0_10 (c : Dev nD) (t : Fin cfg0.N) (h0 : ¬t.val = 0) (d) : (dats m 0 c).before 10 t d = shN m c (t.val - 1) := by
  have hc : ∀ (s : Fin cfg0.N) (hz : s.val ≠ 0), cfg0.idle 10 (cfg0.grid.coords s) = true → cfg0.fresh 10 s.val = false →
      (dats m 0 c).after 10 s = (dats m 0 c).after 10 ⟨s.val - 1, by omega⟩ := fun s hz hi _ => by
    rw [idle10] at hi
    rw [after0_10, after0_10]
    exact shN_idle m c s.val fun h => by simp [h] at hi
  have := lt112 t
  rw [(dats m 0 c).before_out_traj 10 rfl (fun _ _ => rfl) hc t.val t rfl d, fresh10, if_neg (by simp; omega), after0_10]

theorem idle11 : ∀ t : Fin cfg0.N, cfg0.idle 11 (cfg0.grid.coords t) = !(t.val == 0 || t.val % 7 == 6) :=
  (by decide +kernel : ∀ t : Fin grid0.N, cfg0.idle 11 (grid0.coords t) = !(t.val == 0 || t.val % 7 == 6))

/-- A point that leaves the result's buffer alone hands back what it found, -/
theorem keeps11 (c : Dev nD) (t : Fin cfg0.N) (h6 : ¬t.val % 7 = 6) (h0 : ¬t.val = 0) (d) : owns (c : Thread nD τ) (ms0_11 t) fullShare ((dats m 0 c).before 11 t d) ⊢ (dats m 0 c).leavesExact 11 t := by
  unfold Dat.leavesExact
  rw [show cfg0.idle 11 (cfg0.grid.coords t) = true by rw [idle11]; simp [h6, h0],
    show (cfg0.win 11).flush t = false from Bool.eq_false_iff.mpr fun h => by have := (flush0_11 t).mp h; have := lt112 t; omega]
  iintro H
  iexists d
  iexact H

/-- and one that stores into it leaves what the data say. -/
theorem stores11 (c : Dev nD) (t : Fin cfg0.N) (h : t.val = 0 ∨ t.val % 7 = 6) : owns (c : Thread nD τ) (ms0_11 t) fullShare (scN m c t.val) ⊢ (dats m 0 c).leavesExact 11 t := by
  unfold Dat.leavesExact
  rw [show cfg0.idle 11 (cfg0.grid.coords t) = false by rw [idle11]; rcases h with h | h <;> simp [h]]
  exact .rfl

theorem fresh11 (t : Fin cfg0.N) : cfg0.fresh 11 t.val = (t.val == 0 || t.val == 112) :=
  Pipeline.Cfg.fresh_tab cfg0 11 (fun n => n == 0 || n == 112) rfl (fun t => by
    rw [idle11, show ((cfg0.win 11).flush t) = (t.val % 112 == 111) from Bool.eq_iff_iff.mpr ((flush0_11 t).trans beq_iff_eq.symm)]
    revert t; decide +kernel) t.val (Nat.le_of_lt t.isLt)

/-- After the first point the buffer is found as the point before left it. -/
theorem before0_11 (c : Dev nD) (t : Fin cfg0.N) (h0 : ¬t.val = 0) (d) : (dats m 0 c).before 11 t d = scN m c (t.val - 1) := by
  have hc : ∀ (s : Fin cfg0.N) (hz : s.val ≠ 0), cfg0.idle 11 (cfg0.grid.coords s) = true → cfg0.fresh 11 s.val = false →
      (dats m 0 c).after 11 s = (dats m 0 c).after 11 ⟨s.val - 1, by omega⟩ := fun s hz hi _ => by
    rw [idle11] at hi
    rw [after0_11, after0_11]
    exact scN_idle m c s.val fun h => by simp [h] at hi
  have := lt112 t
  rw [(dats m 0 c).before_out_traj 11 rfl (fun _ _ => rfl) hc t.val t rfl d, fresh11, if_neg (by simp; omega), after0_11]

theorem idle12 : ∀ t : Fin cfg0.N, cfg0.idle 12 (cfg0.grid.coords t) = !(t.val == 0 || t.val % 7 == 6) :=
  (by decide +kernel : ∀ t : Fin grid0.N, cfg0.idle 12 (grid0.coords t) = !(t.val == 0 || t.val % 7 == 6))

/-- A point that leaves the result's buffer alone hands back what it found, -/
theorem keeps12 (c : Dev nD) (t : Fin cfg0.N) (h6 : ¬t.val % 7 = 6) (h0 : ¬t.val = 0) (d) : owns (c : Thread nD τ) (ms0_12 t) fullShare ((dats m 0 c).before 12 t d) ⊢ (dats m 0 c).leavesExact 12 t := by
  unfold Dat.leavesExact
  rw [show cfg0.idle 12 (cfg0.grid.coords t) = true by rw [idle12]; simp [h6, h0],
    show (cfg0.win 12).flush t = false from Bool.eq_false_iff.mpr fun h => by have := (flush0_12 t).mp h; have := lt112 t; omega]
  iintro H
  iexists d
  iexact H

/-- and one that stores into it leaves what the data say. -/
theorem stores12 (c : Dev nD) (t : Fin cfg0.N) (h : t.val = 0 ∨ t.val % 7 = 6) : owns (c : Thread nD τ) (ms0_12 t) fullShare (ngN m c t.val) ⊢ (dats m 0 c).leavesExact 12 t := by
  unfold Dat.leavesExact
  rw [show cfg0.idle 12 (cfg0.grid.coords t) = false by rw [idle12]; rcases h with h | h <;> simp [h]]
  exact .rfl

theorem fresh12 (t : Fin cfg0.N) : cfg0.fresh 12 t.val = (t.val == 0 || t.val == 112) :=
  Pipeline.Cfg.fresh_tab cfg0 12 (fun n => n == 0 || n == 112) rfl (fun t => by
    rw [idle12, show ((cfg0.win 12).flush t) = (t.val % 112 == 111) from Bool.eq_iff_iff.mpr ((flush0_12 t).trans beq_iff_eq.symm)]
    revert t; decide +kernel) t.val (Nat.le_of_lt t.isLt)

/-- After the first point the buffer is found as the point before left it. -/
theorem before0_12 (c : Dev nD) (t : Fin cfg0.N) (h0 : ¬t.val = 0) (d) : (dats m 0 c).before 12 t d = ngN m c (t.val - 1) := by
  have hc : ∀ (s : Fin cfg0.N) (hz : s.val ≠ 0), cfg0.idle 12 (cfg0.grid.coords s) = true → cfg0.fresh 12 s.val = false →
      (dats m 0 c).after 12 s = (dats m 0 c).after 12 ⟨s.val - 1, by omega⟩ := fun s hz hi _ => by
    rw [idle12] at hi
    rw [after0_12, after0_12]
    exact ngN_idle m c s.val fun h => by simp [h] at hi
  have := lt112 t
  rw [(dats m 0 c).before_out_traj 12 rfl (fun _ _ => rfl) hc t.val t rfl d, fresh12, if_neg (by simp; omega), after0_12]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (dats m 0 c).leavesExact 9 t
    ∗ (dats m 0 c).leavesExact 10 t
    ∗ (dats m 0 c).leavesExact 11 t
    ∗ (dats m 0 c).leavesExact 12 t)

/-- The launch's invariant with the scratch at anything. -/
theorem PhiS_any (c : Dev nD) (t : Fin cfg0.N) : (dats m 0 c).Φ t.castSucc ⊢ iprop((∃ d, owns (c : Thread nD τ) scM0_0 fullShare d) ∗ (∃ r, prngReg c r)) := by
  rw [PhiS_castSucc m c t]
  by_cases hz : t.val = 0
  · rw [PhiS_zero m c _ _ hz, PhiA0_eq]
  · rw [PhiS_pos m c _ _ hz]
    iintro ⟨HS, Hg⟩
    isplitl [HS]; · iexists _; iexact HS
    iexact Hg

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have ht := lt112 t
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  by_cases hz : t.val = 0
  · have s10 := stores10 m c t (.inl hz)
    have s11 := stores11 m c t (.inl hz)
    have s12 := stores12 m c t (.inl hz)
    rw [shN_zero m c t hz] at s10
    rw [scN_zero m c t hz] at s11
    rw [ngN_zero m c t hz] at s12
    rw [accN_first m c t (by omega)]
    unfold acc0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    ihave ⟨HS, Hg⟩ := PhiS_any m c t $$ HΦ
    iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr (by omega)) ((hcond0_1 t).mpr (by omega)) ((hcond0_2 t).mpr (by omega)) (fun h => absurd ((hcond0_3 t).mp h) (by omega)) (fun h => absurd ((hcond0_4 t).mp h) (by omega)) (iblk m c 0 t) (iblk m c 1 t) (iblk m c 2 t) (iblk m c 3 t) (iblk m c 4 t) (iblk m c 5 t) (iblk m c 6 t) (iblk m c 7 t) (iblk m c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS]; · iexact HS
    iintro ⟨H0, H1, H2, H3, H4, H5, H6, H7, H8, H9, H10, H11, H12, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (keeps9 m c t (by omega) d9); iexact H9
    isplitl [H10]; · iapply (s10); iexact H10
    isplitl [H11]; · iapply (s11); iexact H11
    iapply (s12); iexact H12
  by_cases h0 : t.val % 7 = 0
  · rw [accN_first m c t h0]
    unfold acc0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    ihave ⟨HS, Hg⟩ := PhiS_any m c t $$ HΦ
    iapply (runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => absurd ((hcond0_0 t).mp h) (by omega)) ((hcond0_1 t).mpr (by omega)) ((hcond0_2 t).mpr (by omega)) (fun h => absurd ((hcond0_3 t).mp h) (by omega)) (fun h => absurd ((hcond0_4 t).mp h) (by omega)) (iblk m c 0 t) (iblk m c 1 t) (iblk m c 2 t) (iblk m c 3 t) (iblk m c 4 t) (iblk m c 5 t) (iblk m c 6 t) (iblk m c 7 t) (iblk m c 8 t) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS]; · iexact HS
    iintro ⟨H0, H1, H2, H3, H4, H5, H6, H7, H8, H9, H10, H11, H12, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (keeps9 m c t (by omega) d9); iexact H9
    isplitl [H10]; · iapply (keeps10 m c t (by omega) (by omega) d10); iexact H10
    isplitl [H11]; · iapply (keeps11 m c t (by omega) (by omega) d11); iexact H11
    iapply (keeps12 m c t (by omega) (by omega) d12); iexact H12
  by_cases h3 : t.val % 7 ≤ 3
  · rw [accN_low m c t h0 h3]
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => absurd ((hcond0_0 t).mp h) (by omega)) (fun h => absurd ((hcond0_1 t).mp h) (by omega)) ((hcond0_2 t).mpr (by omega)) (fun h => absurd ((hcond0_3 t).mp h) (by omega)) (fun h => absurd ((hcond0_4 t).mp h) (by omega)) (iblk m c 0 t) (iblk m c 1 t) (iblk m c 2 t) (iblk m c 3 t) (iblk m c 4 t) (iblk m c 5 t) (iblk m c 6 t) (iblk m c 7 t) (iblk m c 8 t) _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS]; · iexact HS
    iintro ⟨H0, H1, H2, H3, H4, H5, H6, H7, H8, H9, H10, H11, H12, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (keeps9 m c t (by omega) d9); iexact H9
    isplitl [H10]; · iapply (keeps10 m c t (by omega) (by omega) d10); iexact H10
    isplitl [H11]; · iapply (keeps11 m c t (by omega) (by omega) d11); iexact H11
    iapply (keeps12 m c t (by omega) (by omega) d12); iexact H12
  by_cases h6 : t.val % 7 = 6
  · have s9 := stores9 m c t h6
    have s10 := stores10 m c t (.inr h6)
    have s11 := stores11 m c t (.inr h6)
    have s12 := stores12 m c t (.inr h6)
    unfold dxN at s9
    rw [shN_live m c t h6] at s10
    rw [scN_live m c t h6] at s11
    rw [ngN_live m c t h6] at s12
    simp only [before0_10 m c t hz, before0_11 m c t hz, before0_12 m c t hz]
    rw [accN_high m c t h3] at s9 s10 s11 s12 ⊢
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => absurd ((hcond0_0 t).mp h) (by omega)) (fun h => absurd ((hcond0_1 t).mp h) (by omega)) (fun h => absurd ((hcond0_2 t).mp h) (by omega)) ((hcond0_3 t).mpr (by omega)) ((hcond0_4 t).mpr (by omega)) (iblk m c 0 t) (iblk m c 1 t) (iblk m c 2 t) (iblk m c 3 t) (iblk m c 4 t) (iblk m c 5 t) (iblk m c 6 t) (iblk m c 7 t) (iblk m c 8 t) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    isplitl [HS]; · iexact HS
    iintro ⟨H0, H1, H2, H3, H4, H5, H6, H7, H8, H9, H10, H11, H12, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (s9); iexact H9
    isplitl [H10]; · iapply (s10); iexact H10
    isplitl [H11]; · iapply (s11); iexact H11
    iapply (s12); iexact H12
  · rw [accN_high m c t h3]
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => absurd ((hcond0_0 t).mp h) (by omega)) (fun h => absurd ((hcond0_1 t).mp h) (by omega)) (fun h => absurd ((hcond0_2 t).mp h) (by omega)) ((hcond0_3 t).mpr (by omega)) (fun h => absurd ((hcond0_4 t).mp h) (by omega)) (iblk m c 0 t) (iblk m c 1 t) (iblk m c 2 t) (iblk m c 3 t) (iblk m c 4 t) (iblk m c 5 t) (iblk m c 6 t) (iblk m c 7 t) (iblk m c 8 t) _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS]; · iexact HS
    iintro ⟨H0, H1, H2, H3, H4, H5, H6, H7, H8, H9, H10, H11, H12, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (keeps9 m c t (by omega) d9); iexact H9
    isplitl [H10]; · iapply (keeps10 m c t (by omega) (by omega) d10); iexact H10
    isplitl [H11]; · iapply (keeps11 m c t (by omega) (by omega) d11); iexact H11
    iapply (keeps12 m c t (by omega) (by omega) d12); iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]; · iexists _; iexact HS
  iexact Hg

theorem hout (c : Dev nD) : (dats m 0 c).Φ (Fin.last cfg0.N) ⊢ Pipeline.ΦA spec0 c :=
  Phi_out m c _ (by rw [Fin.val_last]; have : cfg0.N = 112 := N_0; omega)

set_option backward.isDefEq.respectTransparency.types false in
/-- The launch: every array of the pipeline ends at what the data compute, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.InBwdIdeal.Own

end
-- ==== Proof.InBwdTransfer.lean ====
module

public import proofs.«01_k».proof.Defs
public import proofs.«01_k».proof.Proof.Gen.InBwd
public import proofs.«01_k».proof.Proof.InBwdFrame
public import Idealize.ShloMosaic.Lib.Tactic

@[expose] public section

namespace Cert.Proof

open Idealize.ShloMosaic.Tactic in
theorem frameInBwd : Cert.quiescent_InBwd (hInBwd := Cert.InBwd.Gen.facts) :=
  fun m ρ _ => Eq.mp (by sl_kernel_rfl) (Cert.InBwdIdeal.Own.frame (F := Idealize.ShloMosaic.Bits) m ρ)

end Cert.Proof

end
-- ==== Proof.InBwdArr.lean ====
/- The input projection's gradient: the blocks of its arguments, and the accumulator over a row of the grid. -/
module

public import proofs.«01_k».proof.Proof.InBwdFrame
public import Idealize.ShloMosaic.Lib.Pipeline.ValueKit
public import Idealize.ShloMosaic.Lib.Pointwise

@[expose] public section

set_option maxRecDepth 16384

noncomputable section

namespace Cert.InBwdIdeal.Own

open Idealize.ShloMosaic Idealize.ShloMosaic.TcCoe Idealize.SL.Sem
open Cert.InBwdIdeal Cert.InBwdIdeal.Gen

theorem idx : ∀ t : Fin cfg0.N, win0_0.index t = ![t.val / 7, min (t.val % 7) 3] ∧ win0_1.index t = ![t.val / 7, t.val % 7 - 4] ∧ win0_2.index t = ![t.val / 7, 0]
    ∧ win0_3.index t = ![0, t.val % 7] ∧ win0_4.index t = ![0, 0] ∧ win0_5.index t = ![t.val / 7, 0] ∧ win0_6.index t = ![0, 0]
    ∧ win0_7.index t = ![0, 0] ∧ win0_8.index t = ![t.val / 7, 0] ∧ win0_9.index t = ![t.val / 7, 0] ∧ win0_10.index t = ![0, 0]
    ∧ win0_11.index t = ![0, 0] ∧ win0_12.index t = ![0, 0] :=
  (by decide +kernel : ∀ t : Fin grid0.N, _)

/-- Row `r` of the row block of point `t`. -/
def rowOf (t : Fin cfg0.N) (r : Fin 512) : Fin 8192 := ⟨t.val / 7 * 512 + r.val, by have := lt112 t; omega⟩

/-- Column `j` of the column block of point `t`. -/
def colOf (t : Fin cfg0.N) (j : Fin 1024) : Fin 7168 := ⟨1024 * (t.val % 7) + j.val, by omega⟩

theorem colOf_val (t : Fin cfg0.N) (j : Fin 1024) : (colOf t j).val = 1024 * (t.val % 7) + j.val := by unfold colOf; rfl

variable (m : (ℓ : Loc nD τ sig) → Buf (Elt Ideal) ℓ) (c : Dev nD)

def scCol (k : Fin 2048) : Fin 6144 := ⟨2048 + k.val, by omega⟩

/-- The column of the weight that column `n` of the packed one is. -/
def wcolN (n : ℕ) : ℕ := if n < 1024 then 3072 + n else if n < 4096 then 3088 + n else n - 4096

theorem wcolN_a (n : ℕ) (h : n < 1024) : wcolN n = 3072 + n := if_pos h
theorem wcolN_b (n : ℕ) (h : ¬n < 1024) (h' : n < 4096) : wcolN n = 3088 + n := (if_neg h).trans (if_pos h')
theorem wcolN_c (n : ℕ) (h' : ¬n < 4096) : wcolN n = n - 4096 := (if_neg (fun h => h' (by omega))).trans (if_neg h')
theorem wcolN_lt (n : ℕ) (h : n < 7168) : wcolN n < 7184 := by unfold wcolN; split_ifs <;> omega

def wCol (n : Fin 7168) : Fin 7184 := ⟨wcolN n.val, wcolN_lt n.val n.isLt⟩

theorem wCol_val (n : Fin 7168) : (wCol n).val = wcolN n.val := by unfold wCol; rfl

theorem wCol_eq (n : Fin 7168) (q : Fin 7184) (h : wcolN n.val = q.val) : wCol n = q :=
  Fin.ext ((wCol_val n).trans h)

/-- The padded small columns. -/
def sw {K : Type} (W : K → Fin 7184 → EReal) (k : K) (j : Fin 128) : EReal :=
  if h : j.val < 16 then W k ⟨4096 + j.val, by omega⟩ else 0

theorem host21 : V m c main_v21 = concatenate S2048x7168 1 [⟨S2048x4096, concatenate S2048x4096 1 [⟨S2048x1024, extractStridedSlice S2048x1024 ![0, 3072] (truncf (F := Ideal) .bf16 (m ((c : Thread nD τ).loc main_arg3)) bitsLt_bf16_f32) slices_S2048x7184_S2048x1024_0_3072⟩, ⟨S2048x3072, extractStridedSlice S2048x3072 ![0, 4112] (truncf (F := Ideal) .bf16 (m ((c : Thread nD τ).loc main_arg3)) bitsLt_bf16_f32) slices_S2048x7184_S2048x3072_0_4112⟩] concatenates_S2048x1024_S2048x3072_S2048x4096_d1⟩, ⟨S2048x3072, extractStridedSlice S2048x3072 ![0, 0] (truncf (F := Ideal) .bf16 (m ((c : Thread nD τ).loc main_arg3)) bitsLt_bf16_f32) slices_S2048x7184_S2048x3072_0_0⟩] concatenates_S2048x4096_S2048x3072_S2048x7168_d1 := by
  rfl

theorem host7 : V m c main_v7 = concatenate S2048x128 1 [⟨S2048x16, extractStridedSlice S2048x16 ![0, 4096] (truncf (F := Ideal) .bf16 (m ((c : Thread nD τ).loc main_arg3)) bitsLt_bf16_f32) slices_S2048x7184_S2048x16_0_4096⟩, ⟨S2048x112, broadcastInDim S2048x112 ![] bcast_S_S2048x112 (constant (F := Ideal) S_ .bf16 0x0000#16)⟩] concatenates_S2048x16_S2048x112_S2048x128_d1 := by
  rfl

theorem host19 : V m c main_v19 = truncf (F := Ideal) .bf16 (concatenate S8192x4096 1 [⟨S8192x1024, extractStridedSlice S8192x1024 ![0, 3072] (shapeCast S8192x7184 (m ((c : Thread nD τ).loc main_arg4)) shapeCasts_S1x8192x7184_S8192x7184) slices_S8192x7184_S8192x1024_0_3072⟩, ⟨S8192x3072, extractStridedSlice S8192x3072 ![0, 4112] (shapeCast S8192x7184 (m ((c : Thread nD τ).loc main_arg4)) shapeCasts_S1x8192x7184_S8192x7184) slices_S8192x7184_S8192x3072_0_4112⟩] concatenates_S8192x1024_S8192x3072_S8192x4096_d1) bitsLt_bf16_f32 := by
  rfl

theorem host15 : V m c main_v15 = concatenate S8192x128 1 [⟨S8192x16, extractStridedSlice S8192x16 ![0, 4096] (shapeCast S8192x7184 (m ((c : Thread nD τ).loc main_arg4)) shapeCasts_S1x8192x7184_S8192x7184) slices_S8192x7184_S8192x16_0_4096⟩, ⟨S8192x112, broadcastInDim S8192x112 ![] bcast_S_S8192x112 (constant (F := Ideal) S_ .f32 0x00000000#32)⟩] concatenates_S8192x16_S8192x112_S8192x128_d1 := by
  rfl

theorem read21 (W : FVec Ideal S2048x7184 .f32) (k : Fin 2048) (j : Fin 7168) : concatenate S2048x7168 1 [⟨S2048x4096, concatenate S2048x4096 1 [⟨S2048x1024, extractStridedSlice S2048x1024 ![0, 3072] (truncf (F := Ideal) .bf16 W bitsLt_bf16_f32) slices_S2048x7184_S2048x1024_0_3072⟩, ⟨S2048x3072, extractStridedSlice S2048x3072 ![0, 4112] (truncf (F := Ideal) .bf16 W bitsLt_bf16_f32) slices_S2048x7184_S2048x3072_0_4112⟩] concatenates_S2048x1024_S2048x3072_S2048x4096_d1⟩, ⟨S2048x3072, extractStridedSlice S2048x3072 ![0, 0] (truncf (F := Ideal) .bf16 W bitsLt_bf16_f32) slices_S2048x7184_S2048x3072_0_0⟩] concatenates_S2048x4096_S2048x3072_S2048x7168_d1 (ix2 k j) = W (ix2 k (wCol j)) := by
  pointwise
  by_cases h1 : j.val < 1024
  · rw [dif_pos (show j.val < 4096 by omega), dif_pos h1]
    exact congrArg (fun q => W (ix2 k q)) (wCol_eq j _ (wcolN_a _ h1)).symm
  · by_cases h2 : j.val < 4096
    · rw [dif_pos h2, dif_neg h1]
      exact congrArg (fun q => W (ix2 k q)) (wCol_eq j _ ((wcolN_b _ h1 h2).trans (by show 3088 + j.val = 4112 + (j.val - 1024); omega))).symm
    · rw [dif_neg h2]
      exact congrArg (fun q => W (ix2 k q)) (wCol_eq j ⟨j.val - 4096, by omega⟩ (wcolN_c j.val h2)).symm

theorem read7 (W : FVec Ideal S2048x7184 .f32) (k : Fin 2048) (j : Fin 128) : concatenate S2048x128 1 [⟨S2048x16, extractStridedSlice S2048x16 ![0, 4096] (truncf (F := Ideal) .bf16 W bitsLt_bf16_f32) slices_S2048x7184_S2048x16_0_4096⟩, ⟨S2048x112, broadcastInDim S2048x112 ![] bcast_S_S2048x112 (constant (F := Ideal) S_ .bf16 0x0000#16)⟩] concatenates_S2048x16_S2048x112_S2048x128_d1 (ix2 k j) = sw (fun k n => W (ix2 k n)) k j := by
  unfold sw
  pointwise

theorem read19 (C : FVec Ideal S1x8192x7184 .f32) (r : Fin 8192) (j : Fin 4096) : truncf (F := Ideal) .bf16 (concatenate S8192x4096 1 [⟨S8192x1024, extractStridedSlice S8192x1024 ![0, 3072] (shapeCast S8192x7184 C shapeCasts_S1x8192x7184_S8192x7184) slices_S8192x7184_S8192x1024_0_3072⟩, ⟨S8192x3072, extractStridedSlice S8192x3072 ![0, 4112] (shapeCast S8192x7184 C shapeCasts_S1x8192x7184_S8192x7184) slices_S8192x7184_S8192x3072_0_4112⟩] concatenates_S8192x1024_S8192x3072_S8192x4096_d1) bitsLt_bf16_f32 (ix2 r j) = C (ix3 0 r (wCol ⟨j.val, by omega⟩)) := by
  pointwise
  by_cases h1 : j.val < 1024
  · rw [dif_pos h1]
    exact congrArg (fun q => C (ix3 0 r q)) (wCol_eq ⟨j.val, by omega⟩ _ (wcolN_a _ h1)).symm
  · rw [dif_neg h1]
    exact congrArg (fun q => C (ix3 0 r q)) (wCol_eq ⟨j.val, by omega⟩ _ ((wcolN_b _ h1 j.isLt).trans (by show 3088 + j.val = 4112 + (j.val - 1024); omega))).symm

theorem read15 (C : FVec Ideal S1x8192x7184 .f32) (r : Fin 8192) (j : Fin 128) : concatenate S8192x128 1 [⟨S8192x16, extractStridedSlice S8192x16 ![0, 4096] (shapeCast S8192x7184 C shapeCasts_S1x8192x7184_S8192x7184) slices_S8192x7184_S8192x16_0_4096⟩, ⟨S8192x112, broadcastInDim S8192x112 ![] bcast_S_S8192x112 (constant (F := Ideal) S_ .f32 0x00000000#32)⟩] concatenates_S8192x16_S8192x112_S8192x128_d1 (ix2 r j) = sw (fun r n => C (ix3 0 r n)) r j := by
  unfold sw
  pointwise

theorem iblk0 (t : Fin cfg0.N) (h : t.val % 7 ≤ 3) (i : S512x1024.Idx) :
    iblk m c 0 t i = m ((c : Thread nD τ).loc main_arg4) (ix3 0 (rowOf t (i 0)) (wCol (colOf t (i 1)))) := by
  refine Eq.trans ?_ ((congrFun (host19 m c) (ix2 (rowOf t (i 0)) ⟨(colOf t (i 1)).val, by show 1024 * (t.val % 7) + (i 1).val < 4096; have h : (i 1).val < 1024 := (i 1).isLt; omega⟩)).trans (read19 _ _ _))
  unfold iblk
  refine congrArg (V m c main_v19) ?_
  unfold rowOf colOf
  have e : min (t.val % 7) 3 = t.val % 7 := Nat.min_eq_left h
  blk_ext [idx t, e]

theorem iblk1 (t : Fin cfg0.N) (h : ¬t.val % 7 ≤ 3) (i : S512x1024.Idx) :
    iblk m c 1 t i = m ((c : Thread nD τ).loc main_arg4) (ix3 0 (rowOf t (i 0)) (wCol (colOf t (i 1)))) := by
  have hc : wCol (colOf t (i 1)) = ⟨1024 * (t.val % 7 - 4) + (i 1).val, by have h : (i 1).val < 1024 := (i 1).isLt; omega⟩ :=
    wCol_eq _ _ ((wcolN_c _ (by show ¬1024 * (t.val % 7) + (i 1).val < 4096; omega)).trans (by show 1024 * (t.val % 7) + (i 1).val - 4096 = 1024 * (t.val % 7 - 4) + (i 1).val; omega))
  rw [hc]
  unfold rowOf
  blk_point [iblk, V, idx t]

theorem iblk2 (t : Fin cfg0.N) (i : S512x128.Idx) :
    iblk m c 2 t i = sw (fun r n => m ((c : Thread nD τ).loc main_arg4) (ix3 0 r n)) (rowOf t (i 0)) (i 1) := by
  refine Eq.trans ?_ ((congrFun (host15 m c) (ix2 (rowOf t (i 0)) (i 1))).trans (read15 _ _ _))
  unfold iblk
  refine congrArg (V m c main_v15) ?_
  unfold rowOf
  blk_ext [idx t]

theorem iblk3 (t : Fin cfg0.N) (i : S2048x1024.Idx) :
    iblk m c 3 t i = m ((c : Thread nD τ).loc main_arg3) (ix2 (i 0) (wCol (colOf t (i 1)))) := by
  refine Eq.trans ?_ ((congrFun (host21 m c) (ix2 (i 0) (colOf t (i 1)))).trans (read21 _ _ _))
  unfold iblk
  refine congrArg (V m c main_v21) ?_
  unfold colOf
  blk_ext [idx t]

theorem iblk4 (t : Fin cfg0.N) (i : S2048x128.Idx) :
    iblk m c 4 t i = sw (fun k n => m ((c : Thread nD τ).loc main_arg3) (ix2 k n)) (i 0) (i 1) := by
  refine Eq.trans ?_ ((congrFun (host7 m c) (ix2 (i 0) (i 1))).trans (read7 _ _ _))
  unfold iblk
  refine congrArg (V m c main_v7) ?_
  blk_ext [idx t]

theorem iblk5 (t : Fin cfg0.N) (i : S512x2048.Idx) :
    iblk m c 5 t i = m ((c : Thread nD τ).loc main_arg0) (ix3 0 (rowOf t (i 0)) (i 1)) := by
  unfold rowOf
  blk_point [iblk, V, idx t]

theorem iblk6 (t : Fin cfg0.N) (i : S1x2048.Idx) :
    iblk m c 6 t i = m ((c : Thread nD τ).loc main_arg1) (ix1 (i 1)) := by
  blk_point [iblk, V, idx t]

theorem iblk7 (t : Fin cfg0.N) (i : S1x2048.Idx) :
    iblk m c 7 t i = (1 : EReal) + m ((c : Thread nD τ).loc main_arg2) (ix2 0 (scCol (i 1))) := by
  unfold scCol
  blk_point [iblk, V, idx t]

theorem iblk8 (t : Fin cfg0.N) (i : S512x2048.Idx) :
    iblk m c 8 t i = m ((c : Thread nD τ).loc main_arg5) (ix3 0 (rowOf t (i 0)) (i 1)) := by
  unfold rowOf
  blk_point [iblk, V, idx t]

theorem pay4 (S : FVec Ideal S512x128 .f32) (W : FVec Ideal S2048x128 .bf16) (r : Fin 512) (k : Fin 2048) :
    k0_pay4 (F := Ideal) S W (ix2 r k) = ∑ x : Fin 128, S (ix2 r x) * W (ix2 k x) := by
  pointwise [k0_pay4]

theorem pay5 (A : FVec Ideal S512x2048 .f32) (B : FVec Ideal S512x1024 .bf16) (W : FVec Ideal S2048x1024 .bf16) (r : Fin 512) (k : Fin 2048) :
    k0_pay5 (F := Ideal) A B W (ix2 r k) = A (ix2 r k) + ∑ x : Fin 1024, B (ix2 r x) * W (ix2 k x) := by
  pointwise [k0_pay5]

theorem pay6 (A : FVec Ideal S512x2048 .f32) (B : FVec Ideal S512x1024 .bf16) (W : FVec Ideal S2048x1024 .bf16) (r : Fin 512) (k : Fin 2048) :
    k0_pay6 (F := Ideal) A B W (ix2 r k) = A (ix2 r k) + ∑ x : Fin 1024, B (ix2 r x) * W (ix2 k x) := by
  pointwise [k0_pay6]

/-- One product of a gradient's entry and a weight's entry, by the number of the column. -/
def term (C : S1x8192x7184.Idx → EReal) (W : S2048x7184.Idx → EReal) (r : Fin 8192) (k : Fin 2048) (n : ℕ) : EReal :=
  if h : n < 7184 then C (ix3 0 r ⟨n, h⟩) * W (ix2 k ⟨n, h⟩) else 0

theorem term_fin (C : S1x8192x7184.Idx → EReal) (W : S2048x7184.Idx → EReal) (r : Fin 8192) (k : Fin 2048) (q : Fin 7184) :
    term C W r k q.val = C (ix3 0 r q) * W (ix2 k q) := dif_pos q.isLt

/-- The gradient of the hidden rows. -/
def dh (C : S1x8192x7184.Idx → EReal) (W : S2048x7184.Idx → EReal) (r : Fin 8192) (k : Fin 2048) : EReal :=
  ∑ n : Fin 7184, C (ix3 0 r n) * W (ix2 k n)

/-- The call's order of the columns takes each column once. -/
theorem regroup (f : ℕ → EReal) : (∑ n ∈ Finset.range 16, f (4096 + n)) + ∑ n ∈ Finset.range 7168, f (wcolN n) = ∑ n ∈ Finset.range 7184, f n := by
  rw [show 7168 = 1024 + (3072 + 3072) by norm_num, Finset.sum_range_add, Finset.sum_range_add,
    show 7184 = 3072 + (1024 + (16 + 3072)) by norm_num, Finset.sum_range_add, Finset.sum_range_add, Finset.sum_range_add]
  have e1 : ∑ n ∈ Finset.range 1024, f (wcolN n) = ∑ n ∈ Finset.range 1024, f (3072 + n) :=
    Finset.sum_congr rfl fun n h => by rw [wcolN_a n (Finset.mem_range.mp h)]
  have e2 : ∑ n ∈ Finset.range 3072, f (wcolN (1024 + n)) = ∑ n ∈ Finset.range 3072, f (3072 + (1024 + (16 + n))) :=
    Finset.sum_congr rfl fun n h => by
      have := Finset.mem_range.mp h
      rw [wcolN_b (1024 + n) (by omega) (by omega)]; congr 1; omega
  have e3 : ∑ n ∈ Finset.range 3072, f (wcolN (1024 + (3072 + n))) = ∑ n ∈ Finset.range 3072, f n :=
    Finset.sum_congr rfl fun n h => congrArg f ((wcolN_c (1024 + (3072 + n)) (by omega)).trans (by omega))
  have e4 : ∑ n ∈ Finset.range 16, f (3072 + (1024 + n)) = ∑ n ∈ Finset.range 16, f (4096 + n) :=
    Finset.sum_congr rfl fun n h => by congr 1; omega
  rw [e1, e2, e3, e4]
  abel

theorem small (C : S1x8192x7184.Idx → EReal) (W : S2048x7184.Idx → EReal) (r : Fin 8192) (k : Fin 2048) :
    ∑ x : Fin 128, sw (fun r n => C (ix3 0 r n)) r x * sw (fun k n => W (ix2 k n)) k x = ∑ n ∈ Finset.range 16, term C W r k (4096 + n) := by
  have e (x : Fin 128) : sw (fun r n => C (ix3 0 r n)) r x * sw (fun k n => W (ix2 k n)) k x = (fun n : ℕ => if n < 16 then term C W r k (4096 + n) else 0) x.val := by
    unfold sw
    by_cases h : x.val < 16
    · rw [dif_pos h, dif_pos h]
      exact (term_fin C W r k ⟨4096 + x.val, by omega⟩).symm.trans (if_pos h).symm
    · rw [dif_neg h, dif_neg h]
      exact (mul_zero _).trans (if_neg h).symm
  rw [Finset.sum_congr rfl fun x _ => e x, Fin.sum_univ_eq_sum_range (fun n : ℕ => if n < 16 then term C W r k (4096 + n) else 0) 128,
    show 128 = 16 + 112 by norm_num, Finset.sum_range_add]
  rw [Finset.sum_congr rfl fun n h => if_pos (Finset.mem_range.mp h), Finset.sum_eq_zero fun n _ => if_neg (show ¬16 + n < 16 by omega), add_zero]

/-- The sum over one column block. -/
theorem block (C : S1x8192x7184.Idx → EReal) (W : S2048x7184.Idx → EReal) (t : Fin cfg0.N) (r : Fin 8192) (k : Fin 2048) :
    ∑ x : Fin 1024, C (ix3 0 r (wCol (colOf t x))) * W (ix2 k (wCol (colOf t x))) = ∑ n ∈ Finset.range 1024, term C W r k (wcolN (1024 * (t.val % 7) + n)) :=
  (Finset.sum_congr rfl fun x _ => (term_fin C W r k (wCol (colOf t x))).symm.trans (congrArg (term C W r k) ((wCol_val (colOf t x)).trans (congrArg wcolN (colOf_val t x))))).trans
    (Fin.sum_univ_eq_sum_range (fun n : ℕ => term C W r k (wcolN (1024 * (t.val % 7) + n))) 1024)

/-- The accumulator after a point: the columns so far. -/
theorem acc_read (n : ℕ) : ∀ (t : Fin cfg0.N) (_ : t.val = n) (r : Fin 512) (k : Fin 2048), accN m c t.val (ix2 r k) =
    (∑ n ∈ Finset.range 16, term (m ((c : Thread nD τ).loc main_arg4)) (m ((c : Thread nD τ).loc main_arg3)) (rowOf t r) k (4096 + n))
      + ∑ n ∈ Finset.range (1024 * (t.val % 7 + 1)), term (m ((c : Thread nD τ).loc main_arg4)) (m ((c : Thread nD τ).loc main_arg3)) (rowOf t r) k (wcolN n) := by
  induction n with
  | zero =>
    intro t ht r k
    have h0 : t.val % 7 = 0 := by omega
    rw [accN_first m c t h0]
    unfold acc0
    refine (pay5 _ _ _ r k).trans ?_
    rw [pay4]
    simp only [iblk0 m c t (by omega), iblk2, iblk3, iblk4]
    refine (congrArg₂ (· + ·) (small _ _ _ _) (block _ _ t _ _)).trans ?_
    rw [h0]
    simp only [Nat.mul_zero, Nat.zero_add, Nat.mul_one]
    rfl
  | succ n ih =>
    intro t ht r k
    by_cases h0 : t.val % 7 = 0
    · rw [accN_first m c t h0]
      unfold acc0
      refine (pay5 _ _ _ r k).trans ?_
      rw [pay4]
      simp only [iblk0 m c t (by omega), iblk2, iblk3, iblk4]
      refine (congrArg₂ (· + ·) (small _ _ _ _) (block _ _ t _ _)).trans ?_
      rw [h0]
      simp only [Nat.mul_zero, Nat.zero_add, Nat.mul_one]
      rfl
    · have hN := lt112 t
      have ih := ih ⟨t.val - 1, by have : cfg0.N = 112 := N_0; omega⟩ (by show t.val - 1 = n; omega) r k
      have hr : rowOf ⟨t.val - 1, by have : cfg0.N = 112 := N_0; omega⟩ r = rowOf t r := Fin.ext (by show (t.val - 1) / 7 * 512 + r.val = t.val / 7 * 512 + r.val; omega)
      rw [hr] at ih
      have hm : (t.val - 1) % 7 + 1 = t.val % 7 := by omega
      have key : accN m c t.val (ix2 r k) = accN m c (t.val - 1) (ix2 r k) + ∑ n ∈ Finset.range 1024, term (m ((c : Thread nD τ).loc main_arg4)) (m ((c : Thread nD τ).loc main_arg3)) (rowOf t r) k (wcolN (1024 * (t.val % 7) + n)) := by
        by_cases h3 : t.val % 7 ≤ 3
        · rw [accN_low m c t h0 h3]
          refine (pay5 _ _ _ r k).trans ?_
          simp only [iblk0 m c t h3, iblk3]
          exact congrArg _ (block _ _ t _ _)
        · rw [accN_high m c t h3]
          refine (pay6 _ _ _ r k).trans ?_
          simp only [iblk1 m c t h3, iblk3]
          exact congrArg _ (block _ _ t _ _)
      rw [key]
      refine (congrArg (· + _) ih).trans ?_
      show _ + (∑ n ∈ Finset.range (1024 * ((t.val - 1) % 7 + 1)), _) + _ = _
      rw [hm, add_assoc, Nat.mul_succ, Finset.sum_range_add]

/-- At the last point of a row block the accumulator is the gradient of the hidden rows. -/
theorem acc_last (t : Fin cfg0.N) (h : t.val % 7 = 6) (r : Fin 512) (k : Fin 2048) :
    accN m c t.val (ix2 r k) = dh (m ((c : Thread nD τ).loc main_arg4)) (m ((c : Thread nD τ).loc main_arg3)) (rowOf t r) k := by
  rw [acc_read m c t.val t rfl r k, h, show 1024 * (6 + 1) = 7168 by norm_num, regroup]
  unfold dh
  rw [← Fin.sum_univ_eq_sum_range (fun n : ℕ => term (m ((c : Thread nD τ).loc main_arg4)) (m ((c : Thread nD τ).loc main_arg3)) (rowOf t r) k n) 7184]
  exact Finset.sum_congr rfl fun n _ => term_fin _ _ _ _ n

end Cert.InBwdIdeal.Own

end
-- ==== Proof.InBwdSum.lean ====
/- The input projection's gradient: the call's four results as functions of the argument arrays. -/
module

public import proofs.«01_k».proof.Proof.InBwdArr

@[expose] public section

set_option maxRecDepth 16384

noncomputable section

namespace Cert.InBwdIdeal.Own

open Idealize.ShloMosaic Idealize.ShloMosaic.TcCoe Idealize.SL.Sem
open Cert.InBwdIdeal Cert.InBwdIdeal.Gen

/-- The reciprocal root of the mean of squares, of the sum of squares. -/
def rows (s : EReal) : EReal := Ideal.rsqrt (Ideal.div s (Ideal.ofBits FTy.f32 1157627904#32) + Ideal.ofBits FTy.f32 897988541#32)

/-- A row of the norm, before its gain. -/
def nrm (X : S1x8192x2048.Idx → EReal) (R : Fin 8192) (k : Fin 2048) : EReal :=
  X (ix3 0 R k) * rows (∑ x : Fin 2048, X (ix3 0 R x) * X (ix3 0 R x))

theorem pay10 (X : FVec Ideal S128x2048 .f32) (r : Fin 128) :
    k0_pay10 (F := Ideal) X (ix2 r 0) = rows (∑ x : Fin 2048, X (ix2 r x) * X (ix2 r x)) := by
  unfold rows
  pointwise [k0_pay10, k0_pay9]

theorem pay11 (X : FVec Ideal S128x2048 .f32) (r : Fin 128) (k : Fin 2048) :
    k0_pay11 (F := Ideal) X (ix2 r k) = X (ix2 r k) * rows (∑ x : Fin 2048, X (ix2 r x) * X (ix2 r x)) := by
  unfold rows
  pointwise [k0_pay11, k0_pay10, k0_pay9]

theorem pay12 (D : FVec Ideal S128x2048 .f32) (v : FVec Ideal S1x2048 .f32) (k : Fin 2048) :
    k0_pay12 (F := Ideal) D v (ix2 0 k) = v (ix2 0 k) + ∑ r : Fin 128, D (ix2 r k) := by
  pointwise [k0_pay12]

theorem pay13 (X D : FVec Ideal S128x2048 .f32) (v g : FVec Ideal S1x2048 .f32) (k : Fin 2048) :
    k0_pay13 (F := Ideal) X D v g (ix2 0 k) = v (ix2 0 k) + ∑ r : Fin 128, D (ix2 r k) * (k0_pay11 (F := Ideal) X (ix2 r k) * g (ix2 0 k)) := by
  pointwise [k0_pay13]

theorem pay7 (D X : FVec Ideal S128x2048 .f32) (v s : FVec Ideal S1x2048 .f32) (k : Fin 2048) :
    k0_pay7 (F := Ideal) D X (k0_pay14 (F := Ideal) v) s (ix2 0 k) = v (ix2 0 k) + ∑ r : Fin 128, D (ix2 r k) * s (ix2 0 k) * X (ix2 r k) := by
  pointwise [k0_pay7, k0_pay14]

theorem pay8 (D : FVec Ideal S128x2048 .f32) (R : FVec Ideal S128x1 .f32) (X : FVec Ideal S128x2048 .f32) (g s : FVec Ideal S1x2048 .f32) (d : FVec Ideal S128x2048 .f32) (r : Fin 128) (k : Fin 2048) :
    k0_pay8 (F := Ideal) D R X g s d (ix2 r k) = R (ix2 r 0) * (D (ix2 r k) * (g (ix2 0 k) * s (ix2 0 k))
      - X (ix2 r k) * Ideal.div (∑ j : Fin 2048, D (ix2 r j) * (g (ix2 0 j) * s (ix2 0 j)) * X (ix2 r j)) (Ideal.ofBits FTy.f32 1157627904#32)) + d (ix2 r k) := by
  pointwise [k0_pay8]

theorem zero1 (k : Fin 2048) : k0_pay1 (F := Ideal) (ix2 0 k) = 0 := by pointwise [k0_pay1]
theorem zero2 (k : Fin 2048) : k0_pay2 (F := Ideal) (ix2 0 k) = 0 := by pointwise [k0_pay2]
theorem zero3 (k : Fin 2048) : k0_pay3 (F := Ideal) (ix2 0 k) = 0 := by pointwise [k0_pay3]

/-- Row `s` of the 128 of trip `n`. -/
def trRow (n : ℕ) (s : Fin 128) : Fin 512 := ⟨(128 * n + s.val) % 512, Nat.mod_lt _ (by decide)⟩

theorem rw128_at (x : FVec Ideal S512x2048 .f32) (n : ℕ) (s : Fin 128) (k : Fin 2048) : rw128 (F := Ideal) x n (ix2 s k) = x (ix2 (trRow n s) k) := by
  unfold rw128 up trRow
  congr 1
  funext a
  fin_cases a <;> rfl

/-- The sum of a function of the row over 8192 rows, by the number of the row. -/
def byRow (f : Fin 8192 → EReal) (n : ℕ) : EReal := if h : n < 8192 then f ⟨n, h⟩ else 0

theorem byRow_fin (f : Fin 8192 → EReal) (q : Fin 8192) : byRow f q.val = f q := dif_pos q.isLt

/-- Four trips of 128 rows sum the 512 rows of a block. -/
theorem trips (t : Fin cfg0.N) (f : Fin 8192 → EReal) (w : ℕ → EReal) (step : ∀ n, w (n + 1) = w n + ∑ s : Fin 128, f (rowOf t (trRow n s))) :
    w 4 = w 0 + ∑ i ∈ Finset.range 512, byRow f (512 * (t.val / 7) + i) := by
  have e (n : ℕ) (hn : n < 4) : ∑ s : Fin 128, f (rowOf t (trRow n s)) = ∑ i ∈ Finset.range 128, byRow f (512 * (t.val / 7) + (128 * n + i)) := by
    rw [← Fin.sum_univ_eq_sum_range (fun i : ℕ => byRow f (512 * (t.val / 7) + (128 * n + i))) 128]
    refine Finset.sum_congr rfl fun s _ => (byRow_fin f _).symm.trans (congrArg (byRow f) ?_)
    unfold rowOf trRow
    show t.val / 7 * 512 + (128 * n + s.val) % 512 = 512 * (t.val / 7) + (128 * n + s.val)
    omega
  rw [step 3, step 2, step 1, step 0, e 0 (by decide), e 1 (by decide), e 2 (by decide), e 3 (by decide),
    show 512 = 384 + 128 by norm_num, Finset.sum_range_add, show 384 = 256 + 128 by norm_num, Finset.sum_range_add, show 256 = 128 + 128 by norm_num, Finset.sum_range_add]
  simp only [Nat.mul_zero, Nat.zero_add, Nat.mul_one, Nat.reduceMul, Nat.reduceAdd]
  simp only [← add_assoc]

/-- The four trips at each last point of the sixteen sum all rows. -/
theorem grid_sum (f : Fin 8192 → EReal) (w : ℕ → EReal) (h0 : w 0 = 0)
    (idle : ∀ n, ¬n % 7 = 6 → w n = w (n - 1))
    (live : ∀ t : Fin cfg0.N, t.val % 7 = 6 → w t.val = w (t.val - 1) + ∑ i ∈ Finset.range 512, byRow f (512 * (t.val / 7) + i)) :
    w 111 = ∑ r : Fin 8192, f r := by
  have key (n : ℕ) (hn : n < 112) : w n = ∑ i ∈ Finset.range (512 * ((n + 1) / 7)), byRow f i := by
    induction n with
    | zero => rw [h0]; rfl
    | succ n ih =>
      have ih := ih (by omega)
      by_cases h : (n + 1) % 7 = 6
      · have e := live ⟨n + 1, by have : cfg0.N = 112 := N_0; omega⟩ h
        have e' : w (n + 1) = w n + ∑ i ∈ Finset.range 512, byRow f (512 * ((n + 1) / 7) + i) := e
        rw [e', ih, show (n + 1 + 1) / 7 = (n + 1) / 7 + 1 by omega, Nat.mul_succ, Finset.sum_range_add]
      · have e' : w (n + 1) = w n := idle (n + 1) h
        rw [e', ih, show (n + 1 + 1) / 7 = (n + 1) / 7 by omega]
  rw [key 111 (by decide), show 512 * ((111 + 1) / 7) = 8192 by norm_num, ← Fin.sum_univ_eq_sum_range (byRow f) 8192]
  exact Finset.sum_congr rfl fun r _ => byRow_fin f r

variable (m : (ℓ : Loc nD τ sig) → Buf (Elt Ideal) ℓ) (c : Dev nD)

abbrev aX : S1x8192x2048.Idx → EReal := m ((c : Thread nD τ).loc main_arg0)
abbrev aG : S2048.Idx → EReal := m ((c : Thread nD τ).loc main_arg1)
abbrev aM : S1x6144.Idx → EReal := m ((c : Thread nD τ).loc main_arg2)
abbrev aW : S2048x7184.Idx → EReal := m ((c : Thread nD τ).loc main_arg3)
abbrev aC : S1x8192x7184.Idx → EReal := m ((c : Thread nD τ).loc main_arg4)
abbrev aD : S1x8192x2048.Idx → EReal := m ((c : Thread nD τ).loc main_arg5)

/-- The last point. -/
def tLast : Fin cfg0.N := ⟨111, by have : cfg0.N = 112 := N_0; omega⟩

theorem accRow (t : Fin cfg0.N) (h : t.val % 7 = 6) (n : ℕ) (s : Fin 128) (k : Fin 2048) :
    rw128 (F := Ideal) (accN m c t.val) n (ix2 s k) = dh (aC m c) (aW m c) (rowOf t (trRow n s)) k :=
  (rw128_at _ n s k).trans (acc_last m c t h (trRow n s) k)

theorem xRow (t : Fin cfg0.N) (n : ℕ) (s : Fin 128) (k : Fin 2048) :
    rw128 (F := Ideal) (iblk m c 5 t) n (ix2 s k) = aX m c (ix3 0 (rowOf t (trRow n s)) k) :=
  (rw128_at _ n s k).trans (iblk5 m c t _)

theorem dRow (t : Fin cfg0.N) (n : ℕ) (s : Fin 128) (k : Fin 2048) :
    rw128 (F := Ideal) (iblk m c 8 t) n (ix2 s k) = aD m c (ix3 0 (rowOf t (trRow n s)) k) :=
  (rw128_at _ n s k).trans (iblk8 m c t _)

theorem nRow (t : Fin cfg0.N) (n : ℕ) (s : Fin 128) (k : Fin 2048) :
    k0_pay11 (F := Ideal) (rw128 (F := Ideal) (iblk m c 5 t) n) (ix2 s k) = nrm (aX m c) (rowOf t (trRow n s)) k := by
  refine (pay11 _ s k).trans ?_
  simp only [xRow]
  rfl

theorem final10 (k : Fin 2048) : (dats m 0 c).arrAt 10 (cfgs 0).N (ix2 0 k) = ∑ R : Fin 8192, dh (aC m c) (aW m c) R k := by
  refine Eq.trans (congrFun (Pipeline.Dat.arrAt_eq_of_after_last (dats m 0 c) 10 tLast (by decide +kernel) (shN m c 111) fun j => ?_) (ix2 0 k)) ?_
  · blk_simp
    rw [after0_10]
    rfl
  · refine grid_sum (fun R => dh (aC m c) (aW m c) R k) (fun n => shN m c n (ix2 0 k)) ?_ (fun n h => congrFun (shN_idle m c n h) _) fun t h => ?_
    · exact (congrFun (shN_zero m c ⟨0, by have : cfg0.N = 112 := N_0; omega⟩ rfl) _).trans (zero1 k)
    · refine (congrFun (shN_live m c t h) (ix2 0 k)).trans ?_
      refine trips t (fun R => dh (aC m c) (aW m c) R k) (fun n => fsh (F := Ideal) (accN m c t.val) (shN m c (t.val - 1)) n (ix2 0 k)) fun n => ?_
      refine (pay12 _ _ k).trans ?_
      simp only [accRow m c t h]

theorem final11 (k : Fin 2048) : (dats m 0 c).arrAt 11 (cfgs 0).N (ix2 0 k)
    = ∑ R : Fin 8192, dh (aC m c) (aW m c) R k * (nrm (aX m c) R k * aG m c (ix1 k)) := by
  refine Eq.trans (congrFun (Pipeline.Dat.arrAt_eq_of_after_last (dats m 0 c) 11 tLast (by decide +kernel) (scN m c 111) fun j => ?_) (ix2 0 k)) ?_
  · blk_simp
    rw [after0_11]
    rfl
  · refine grid_sum (fun R => dh (aC m c) (aW m c) R k * (nrm (aX m c) R k * aG m c (ix1 k))) (fun n => scN m c n (ix2 0 k)) ?_ (fun n h => congrFun (scN_idle m c n h) _) fun t h => ?_
    · exact (congrFun (scN_zero m c ⟨0, by have : cfg0.N = 112 := N_0; omega⟩ rfl) _).trans (zero2 k)
    · refine (congrFun (scN_live m c t h) (ix2 0 k)).trans ?_
      refine trips t (fun R => dh (aC m c) (aW m c) R k * (nrm (aX m c) R k * aG m c (ix1 k))) (fun n => fsc (F := Ideal) (accN m c t.val) (iblk m c 5 t) (iblk m c 6 t) (scN m c (t.val - 1)) n (ix2 0 k)) fun n => ?_
      refine (pay13 _ _ _ _ k).trans ?_
      simp only [accRow m c t h, nRow, iblk6]
      rfl

theorem final12 (k : Fin 2048) : (dats m 0 c).arrAt 12 (cfgs 0).N (ix2 0 k)
    = ∑ R : Fin 8192, dh (aC m c) (aW m c) R k * (1 + aM m c (ix2 0 (scCol k))) * nrm (aX m c) R k := by
  refine Eq.trans (congrFun (Pipeline.Dat.arrAt_eq_of_after_last (dats m 0 c) 12 tLast (by decide +kernel) (ngN m c 111) fun j => ?_) (ix2 0 k)) ?_
  · blk_simp
    rw [after0_12]
    rfl
  · refine grid_sum (fun R => dh (aC m c) (aW m c) R k * (1 + aM m c (ix2 0 (scCol k))) * nrm (aX m c) R k) (fun n => ngN m c n (ix2 0 k)) ?_ (fun n h => congrFun (ngN_idle m c n h) _) fun t h => ?_
    · exact (congrFun (ngN_zero m c ⟨0, by have : cfg0.N = 112 := N_0; omega⟩ rfl) _).trans (zero3 k)
    · refine (congrFun (ngN_live m c t h) (ix2 0 k)).trans ?_
      refine trips t (fun R => dh (aC m c) (aW m c) R k * (1 + aM m c (ix2 0 (scCol k))) * nrm (aX m c) R k) (fun n => fng (F := Ideal) (accN m c t.val) (iblk m c 5 t) (iblk m c 7 t) (ngN m c (t.val - 1)) n (ix2 0 k)) fun n => ?_
      refine (pay7 _ _ _ _ k).trans ?_
      simp only [accRow m c t h, nRow, iblk7]
      rfl

/-- The gradient of the residual stream. -/
def dxE (X : S1x8192x2048.Idx → EReal) (G : S2048.Idx → EReal) (M : S1x6144.Idx → EReal) (W : S2048x7184.Idx → EReal) (C : S1x8192x7184.Idx → EReal)
    (D : S1x8192x2048.Idx → EReal) (R : Fin 8192) (k : Fin 2048) : EReal :=
  rows (∑ x : Fin 2048, X (ix3 0 R x) * X (ix3 0 R x)) * (dh C W R k * (G (ix1 k) * (1 + M (ix2 0 (scCol k))))
    - nrm X R k * Ideal.div (∑ j : Fin 2048, dh C W R j * (G (ix1 j) * (1 + M (ix2 0 (scCol j)))) * nrm X R j) (Ideal.ofBits FTy.f32 1157627904#32)) + D (ix3 0 R k)

theorem final9 : (dats m 0 c).arrAt 9 (cfgs 0).N = fun i : S8192x2048.Idx => dxE (aX m c) (aG m c) (aM m c) (aW m c) (aC m c) (aD m c) (i 0) (i 1) := by
  refine Pipeline.Dat.arrAt_eq_of_covers (dats m 0 c) 9 _ (by decide +kernel) fun t hf y => ?_
  have h : t.val % 7 = 6 := by have := (flush0_9 t).mp hf; omega
  blk_simp
  rw [after0_9]
  have e : ((View.whole main_v25_0).slice (win0_9.rect t)).emb y = (ix2 (rowOf t (y 0)) (y 1) : S8192x2048.Idx) := by
    unfold rowOf
    blk_ext [idx t]
  rw [e]
  idx_vars y
  have hy : y0 = trRow (y0.val / 128) ⟨y0.val % 128, Nat.mod_lt _ (by decide)⟩ := by
    unfold trRow
    exact Fin.ext (by show y0.val = (128 * (y0.val / 128) + y0.val % 128) % 512; omega)
  unfold dxN
  refine (dxv_at _ _ _ _ _ (y0.val / 128) (ix2 ⟨y0.val % 128, Nat.mod_lt _ (by decide)⟩ y1) (ix2 y0 y1) ?_ rfl).trans ?_
  · show y0.val = 128 * (y0.val / 128) + y0.val % 128
    omega
  refine (pay8 _ _ _ _ _ _ _ y1).trans ?_
  rw [pay10]
  simp only [accRow m c t h, nRow, dRow, xRow, iblk6, iblk7]
  rw [← hy]
  rfl

end Cert.InBwdIdeal.Own

end
-- ==== Proof.InBwdRef.lean ====
/- The input projection's gradient: the reference, read. -/
module

public import proofs.«01_k».proof.Proof.InBwdSum
public import proofs.«01_k».proof.Proof.Reals
public import proofs.«01_k».proof.Proof.Gen.InRefIdeal.Read

@[expose] public section

set_option maxRecDepth 16384

noncomputable section

namespace Cert.InRefIdeal.Own

open Idealize.ShloMosaic Idealize.ShloMosaic.TcCoe Idealize.SL.Sem
open Cert.InRefIdeal Cert.InRefIdeal.Gen Cert.InRefIdeal.Read Cert.Reals
open Cert.InBwdIdeal.Own (dh rows nrm scCol dxE)

theorem fiber {s t : Shape} {axes : List (Fin s.rank)} (h : s.ReducesTo axes t) (x : s.Idx → EReal) (init : EReal) (j : t.Idx)
    (i0 : s.Idx) (hi : ∀ i, h.drop i = j ↔ i = i0) : Ideal.hostReduceAdd h x init j = init + x i0 := by
  unfold Ideal.hostReduceAdd
  rw [show (Finset.univ.filter fun i => h.drop i = j) = {i0} by ext i; simp [hi], Finset.sum_singleton]

theorem redCol (x : FVec Ideal S1x1x2048 .f32) (z : EReal) (k : Fin 2048) :
    Ideal.hostReduceAdd reducesTo_S1x1x2048_S2048_d0_1 x z (ix1 k) = z + x (ix3 0 0 k) := by
  refine fiber _ _ _ _ _ fun i => ?_
  idx_vars i
  obtain rfl : i0 = 0 := Subsingleton.elim _ _
  obtain rfl : i1 = 0 := Subsingleton.elim _ _
  have e : reducesTo_S1x1x2048_S2048_d0_1.drop (ix3 0 0 i2 : S1x1x2048.Idx) = ix1 i2 := by
    funext a; fin_cases a; rfl
  rw [e]
  constructor
  · intro h
    have := congrFun h 0
    simp at this; rw [this]
  · intro h
    have := congrFun h 2
    simp at this; rw [this]

theorem redRow (x : FVec Ideal S1x8192x1 .f32) (z : EReal) (k : Fin 8192) :
    Ideal.hostReduceAdd reducesTo_S1x8192x1_S8192_d0_2 x z (ix1 k) = z + x (ix3 0 k 0) := by
  refine fiber _ _ _ _ _ fun i => ?_
  idx_vars i
  obtain rfl : i0 = 0 := Subsingleton.elim _ _
  obtain rfl : i2 = 0 := Subsingleton.elim _ _
  have e : reducesTo_S1x8192x1_S8192_d0_2.drop (ix3 0 i1 0 : S1x8192x1.Idx) = ix1 i1 := by
    funext a; fin_cases a; rfl
  rw [e]
  constructor
  · intro h
    have := congrFun h 0
    simp at this; rw [this]
  · intro h
    have := congrFun h 1
    simp at this; rw [this]

variable (X : FVec Ideal S1x8192x2048 .f32) (G : FVec Ideal S2048 .f32) (M : FVec Ideal S1x6144 .f32) (W : FVec Ideal S2048x7184 .f32)
  (C : FVec Ideal S1x8192x7184 .f32) (D : FVec Ideal S1x8192x2048 .f32)

theorem v28 (R : Fin 8192) (k : Fin 2048) : val_main_v28 (F := Ideal) W C (ix3 0 R k) = dh C W R k := by
  unfold dh
  pointwise [val_main_v28]

theorem v10 (R : Fin 8192) : val_main_v10 (F := Ideal) X (ix3 0 R 0) = rows (∑ x : Fin 2048, X (ix3 0 R x) * X (ix3 0 R x)) := by
  unfold rows
  pointwise [val_main_v10, val_main_v9, val_main_v8, val_main_v7, val_main_v6, val_main_v5, val_main_v4, val_main_v3, val_main_cst, val_main_cst_0, val_main_cst_1]

theorem v15 (R : Fin 8192) (k : Fin 2048) : val_main_v15 (F := Ideal) X (ix3 0 R k) = nrm X R k := by
  unfold nrm
  pointwise [val_main_v15, val_main_v14, v10]

theorem v37 (R : Fin 8192) (k : Fin 2048) : val_main_v37 (F := Ideal) M W C (ix3 0 R k) = dh C W R k * (1 + M (ix2 0 (scCol k))) := by
  unfold scCol
  pointwise [val_main_v37, val_main_v36, val_main_v21, val_main_v20, val_main_v19, val_main_v1, v28, val_main_cst_3]

theorem out1 (k : Fin 2048) : val_main_v32 (F := Ideal) W C (ix2 0 k) = ∑ R : Fin 8192, dh C W R k := by
  pointwise [val_main_v32, val_main_v31, redCol, val_main_v30, val_main_v29, v28, val_main_cst_4, val_main_cst_5]

theorem out2 (k : Fin 2048) : val_main_v39 (F := Ideal) X G W C (ix2 0 k) = ∑ R : Fin 8192, dh C W R k * (nrm X R k * G (ix1 k)) := by
  pointwise [val_main_v39, val_main_v38, redCol, val_main_v35, val_main_v34, val_main_v33, val_main_v18, val_main_v17, val_main_v16, v15, v28, val_main_cst_6, val_main_cst_7]
  exact Finset.sum_congr rfl fun R _ => mul_comm _ _

theorem out3 (k : Fin 2048) : val_main_v63 (F := Ideal) X M W C (ix2 0 k) = ∑ R : Fin 8192, dh C W R k * (1 + M (ix2 0 (scCol k))) * nrm X R k := by
  pointwise [val_main_v63, val_main_v45, redCol, val_main_v42, val_main_v41, val_main_v40, v37, v15, val_main_cst_8, val_main_cst_9]
  exact Finset.sum_congr rfl fun R _ => mul_comm _ _

theorem v44 (R : Fin 8192) (k : Fin 2048) : val_main_v44 (F := Ideal) G M W C (ix3 0 R k) = dh C W R k * (1 + M (ix2 0 (scCol k))) * G (ix1 k) := by
  pointwise [val_main_v44, val_main_v43, val_main_v16, v37]

theorem v13 (R : Fin 8192) : val_main_v13 (F := Ideal) X (ix3 0 R 0)
    = Ideal.ofBits FTy.f32 0xBF000000#32 * Ideal.div (rows (∑ x : Fin 2048, X (ix3 0 R x) * X (ix3 0 R x)))
        (Ideal.div (∑ x : Fin 2048, X (ix3 0 R x) * X (ix3 0 R x)) (Ideal.ofBits FTy.f32 1157627904#32) + Ideal.ofBits FTy.f32 897988541#32) := by
  pointwise [val_main_v13, val_main_v12, val_main_v11, v10, val_main_v9, val_main_v8, val_main_v7, val_main_v6, val_main_v5, val_main_v4, val_main_v3, val_main_cst, val_main_cst_0, val_main_cst_1, val_main_cst_2]

/-- The mean's part of the gradient of the rows, by the row. -/
theorem v57 (R : Fin 8192) (k : Fin 2048) : val_main_v57 (F := Ideal) X G M W C (ix3 0 R k)
    = Ideal.div ((∑ j : Fin 2048, X (ix3 0 R j) * (dh C W R j * (1 + M (ix2 0 (scCol j))) * G (ix1 j))) * val_main_v13 (F := Ideal) X (ix3 0 R 0)) (Ideal.ofBits FTy.f32 1157627904#32) := by
  pointwise [val_main_v57, val_main_v56, val_main_v55, redRow, val_main_v54, val_main_v53, val_main_v52, val_main_v48, val_main_v47, val_main_v46, v44, val_main_cst_10, val_main_cst_11, val_main_cst_12]

theorem v62 (R : Fin 8192) (k : Fin 2048) : val_main_v62 (F := Ideal) X G M W C D (ix2 R k)
    = D (ix3 0 R k) + dh C W R k * (1 + M (ix2 0 (scCol k))) * G (ix1 k) * rows (∑ x : Fin 2048, X (ix3 0 R x) * X (ix3 0 R x))
      + X (ix3 0 R k) * val_main_v57 (F := Ideal) X G M W C (ix3 0 R k) + val_main_v57 (F := Ideal) X G M W C (ix3 0 R k) * X (ix3 0 R k) := by
  pointwise [val_main_v62, val_main_v61, val_main_v60, val_main_v59, val_main_v58, val_main_v51, val_main_v50, val_main_v49, v44, v10]

/-- Where all arguments but the incoming gradient of the stream are real numbers, the reference's gradient of the rows is the call's. -/
theorem out0 (x : S1x8192x2048.Idx → ℝ) (g : S2048.Idx → ℝ) (a : S1x6144.Idx → ℝ) (w : S2048x7184.Idx → ℝ) (q : S1x8192x7184.Idx → ℝ)
    (R : Fin 8192) (k : Fin 2048) : val_main_v62 (F := Ideal) (fun i => (x i : EReal)) (fun i => (g i : EReal)) (fun i => (a i : EReal)) (fun i => (w i : EReal)) (fun i => (q i : EReal)) D (ix2 R k)
    = dxE (fun i => (x i : EReal)) (fun i => (g i : EReal)) (fun i => (a i : EReal)) (fun i => (w i : EReal)) (fun i => (q i : EReal)) D R k := by
  have hh (j : Fin 2048) : dh (fun i => (q i : EReal)) (fun i => (w i : EReal)) R j = ((∑ n : Fin 7184, q (ix3 0 R n) * w (ix2 j n) : ℝ) : EReal) := by
    unfold dh
    rw [coe_sum]
    exact Finset.sum_congr rfl fun n _ => (EReal.coe_mul _ _).symm
  generalize hz : (fun j : Fin 2048 => ∑ n : Fin 7184, q (ix3 0 R n) * w (ix2 j n)) = z at hh
  replace hh (j : Fin 2048) : dh (fun i => (q i : EReal)) (fun i => (w i : EReal)) R j = ((z j : ℝ) : EReal) := (hh j).trans (congrArg _ (congrFun hz j))
  have one : (1 : EReal) = ((1 : ℝ) : EReal) := rfl
  have hp : 0 < (∑ j : Fin 2048, x (ix3 0 R j) * x (ix3 0 R j)) / 2048 + eps := ms_pos _ _ (by norm_num)
  have hms : Ideal.div (∑ j : Fin 2048, ((x (ix3 0 R j) : ℝ) : EReal) * ((x (ix3 0 R j) : ℝ) : EReal)) (Ideal.ofBits FTy.f32 1157627904#32) + Ideal.ofBits FTy.f32 897988541#32
      = (((∑ j : Fin 2048, x (ix3 0 R j) * x (ix3 0 R j)) / 2048 + eps : ℝ) : EReal) := by
    simp only [← EReal.coe_mul, ← coe_sum]
    rw [show Ideal.ofBits FTy.f32 1157627904#32 = ((2048 : ℝ) : EReal) from ofBits_2048, show Ideal.ofBits FTy.f32 897988541#32 = (eps : EReal) from ofBits_eps,
      div_real _ (by norm_num), ← EReal.coe_add]
  have hrow : rows (∑ j : Fin 2048, ((x (ix3 0 R j) : ℝ) : EReal) * ((x (ix3 0 R j) : ℝ) : EReal))
      = (((Real.sqrt ((∑ j : Fin 2048, x (ix3 0 R j) * x (ix3 0 R j)) / 2048 + eps))⁻¹ : ℝ) : EReal) := by
    unfold rows
    rw [hms, rsqrt_real hp]
  have hr := inv_sqrt_sq hp
  rw [v62, v57, v13]
  unfold dxE nrm
  simp only [hrow, hms, hh, one]
  rw [show Ideal.ofBits FTy.f32 1157627904#32 = ((2048 : ℝ) : EReal) from ofBits_2048, show Ideal.ofBits FTy.f32 0xBF000000#32 = ((-(1 / 2) : ℝ) : EReal) from ofBits_neg_half,
    div_real _ hp.ne']
  simp only [← EReal.coe_mul, ← EReal.coe_add, ← coe_sum]
  rw [div_real _ (by norm_num), div_real _ (by norm_num)]
  simp only [← EReal.coe_mul, ← EReal.coe_add, ← EReal.coe_sub]
  rw [add_assoc, add_assoc, add_comm (D (ix3 0 R k))]
  simp only [← EReal.coe_add]
  congr 2
  generalize (Real.sqrt ((∑ j : Fin 2048, x (ix3 0 R j) * x (ix3 0 R j)) / 2048 + eps))⁻¹ = r at hr ⊢
  generalize (∑ j : Fin 2048, x (ix3 0 R j) * x (ix3 0 R j)) / 2048 + eps = p at hp hr ⊢
  have hd : r / p = r * r * r := by
    rw [div_eq_iff hp.ne']; linear_combination -r * hr
  have hs : ∑ j : Fin 2048, z j * (g (ix1 j) * (1 + a (ix2 0 (scCol j)))) * (x (ix3 0 R j) * r)
      = (∑ j : Fin 2048, x (ix3 0 R j) * (z j * (1 + a (ix2 0 (scCol j))) * g (ix1 j))) * r := by
    rw [Finset.sum_mul]; exact Finset.sum_congr rfl fun j _ => by ring
  rw [hd, hs]
  ring

end Cert.InRefIdeal.Own

end
-- ==== Proof.InBwd.lean ====
/- The input projection's gradient: the claims about its two programs. -/
module

public import proofs.«01_k».proof.Defs
public import proofs.«01_k».proof.Proof.InBwdRef
public import proofs.«01_k».proof.Proof.Gen.InRefIdeal.Run
public import proofs.«01_k».proof.Proof.Gen.Pre_finite2
public import Idealize.ShloMosaic.Lib.Claim

@[expose] public section

set_option maxRecDepth 16384

noncomputable section

namespace Cert.InBwd.Own

open Idealize.ShloMosaic Idealize.ShloMosaic.TcCoe Idealize.SL.Sem Cert.Reals

theorem frame_ki : Cert.quiescent_InBwdIdeal := fun m ρ _ => Cert.InBwdIdeal.Own.frame m ρ
theorem frame_ki_pre : Cert.quiescent_InBwdIdeal_pre_finite2 := fun m ρ _ => Cert.InBwdIdeal.Own.frame m ρ
theorem frame_ri : Cert.quiescent_InRefIdeal := fun m ρ _ =>
  (θ_run Cert.InRefIdeal.defs _ _).mono
    (fun r h => ⟨fun c => (h c).2.2.2.2, Idealize.ShloMosaic.sem_eq_zero_of_no_sems (by decide) r.2⟩)
    (Cert.InRefIdeal.Value.run (F := Ideal) m ρ)
theorem frame_ri_pre : Cert.quiescent_InRefIdeal_pre_finite2 := fun m ρ _ => frame_ri m ρ trivial

/-- The kernel's run, read at its four results and its arguments. -/
theorem run_k (m : (ℓ : Loc Cert.InBwdIdeal.nD Cert.InBwdIdeal.τ Cert.InBwdIdeal.sig) → Buf (Elt Ideal) ℓ) (ρ : Dev Cert.InBwdIdeal.nD → PrngReg) :
    θ_run Cert.InBwdIdeal.defs (onTc (τ := Cert.InBwdIdeal.τ) (Cert.InBwdIdeal.main (F := Ideal))) ⟨m, fun _ => 0, ρ⟩ fun r => ∀ c : Dev Cert.InBwdIdeal.nD,
      r.2.mem ((c.tc : Thread Cert.InBwdIdeal.nD Cert.InBwdIdeal.τ).loc Cert.InBwdIdeal.main_v25_0) = (Cert.InBwdIdeal.Own.dats m 0 c).arrAt 9 (Cert.InBwdIdeal.cfgs 0).N
      ∧ r.2.mem ((c.tc : Thread Cert.InBwdIdeal.nD Cert.InBwdIdeal.τ).loc Cert.InBwdIdeal.main_v25_1) = (Cert.InBwdIdeal.Own.dats m 0 c).arrAt 10 (Cert.InBwdIdeal.cfgs 0).N
      ∧ r.2.mem ((c.tc : Thread Cert.InBwdIdeal.nD Cert.InBwdIdeal.τ).loc Cert.InBwdIdeal.main_v25_2) = (Cert.InBwdIdeal.Own.dats m 0 c).arrAt 11 (Cert.InBwdIdeal.cfgs 0).N
      ∧ r.2.mem ((c.tc : Thread Cert.InBwdIdeal.nD Cert.InBwdIdeal.τ).loc Cert.InBwdIdeal.main_v25_3) = (Cert.InBwdIdeal.Own.dats m 0 c).arrAt 12 (Cert.InBwdIdeal.cfgs 0).N
      ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5) :=
  (θ_run Cert.InBwdIdeal.defs _ _).mono (fun _ h c => ⟨(h.1 c).1 9, (h.1 c).1 10, (h.1 c).1 11, (h.1 c).1 12, h.2 c⟩)
    (θ_run_and (Cert.InBwdIdeal.Own.run_main m ρ) (Cert.InBwdIdeal.Own.unchanged m ρ))

/-- Where the first five arguments are real numbers, the reference's gradient of the rows is the call's. -/
theorem rows_eq (X : FVec Ideal Cert.InRefIdeal.S1x8192x2048 .f32) (G : FVec Ideal Cert.InRefIdeal.S2048 .f32) (M : FVec Ideal Cert.InRefIdeal.S1x6144 .f32)
    (W : FVec Ideal Cert.InRefIdeal.S2048x7184 .f32) (C : FVec Ideal Cert.InRefIdeal.S1x8192x7184 .f32) (D : FVec Ideal Cert.InRefIdeal.S1x8192x2048 .f32)
    (h0 : ∀ i, ((EReal.toReal (X i) : ℝ) : EReal) = X i) (h1 : ∀ i, ((EReal.toReal (G i) : ℝ) : EReal) = G i) (h2 : ∀ i, ((EReal.toReal (M i) : ℝ) : EReal) = M i)
    (h3 : ∀ i, ((EReal.toReal (W i) : ℝ) : EReal) = W i) (h4 : ∀ i, ((EReal.toReal (C i) : ℝ) : EReal) = C i) (R : Fin 8192) (k : Fin 2048) :
    Cert.InRefIdeal.Read.val_main_v62 (F := Ideal) X G M W C D (ix2 R k) = Cert.InBwdIdeal.Own.dxE X G M W C D R k := by
  have e := Cert.InRefIdeal.Own.out0 D (fun i => EReal.toReal (X i)) (fun i => EReal.toReal (G i)) (fun i => EReal.toReal (M i))
    (fun i => EReal.toReal (W i)) (fun i => EReal.toReal (C i)) R k
  rw [funext h0, funext h1, funext h2, funext h3, funext h4] at e
  exact e

theorem value : Cert.algebraic_InBwdIdeal_InRefIdeal_pre_finite2 := by
  pair_intro
  · run_from run_k m g
  · run_from Cert.InRefIdeal.Value.run m' g'
    · obtain ⟨e0, e1, e2, e3, e4, e5⟩ := hagree c
      rw [Cert.InBwdIdeal.Own.final9]
      refine (Cert.InRefIdeal.Read.val_main_v62_eq m' c).trans ?_
      rw [e0, e1, e2, e3, e4, e5]
      obtain ⟨h0, h1, h2, h3, h4⟩ := hpre c
      funext i
      idx_vars i
      exact rows_eq _ _ _ _ _ _ (fun i => real_of_cmp (congrFun h0 i)) (fun i => real_of_cmp (congrFun h1 i)) (fun i => real_of_cmp (congrFun h2 i))
        (fun i => real_of_cmp (congrFun h3 i)) (fun i => real_of_cmp (congrFun h4 i)) i0 i1
    · obtain ⟨e0, e1, e2, e3, e4, e5⟩ := hagree c
      refine (Cert.InRefIdeal.Read.val_main_v32_eq _ _).trans ?_
      funext i
      idx_vars i
      obtain rfl : i0 = 0 := Subsingleton.elim _ _
      exact (Cert.InRefIdeal.Own.out1 _ _ i1).trans (Cert.InBwdIdeal.Own.final10 m c i1).symm
    · refine (Cert.InRefIdeal.Read.val_main_v39_eq _ _ _ _).trans ?_
      funext i
      idx_vars i
      obtain rfl : i0 = 0 := Subsingleton.elim _ _
      exact (Cert.InRefIdeal.Own.out2 _ _ _ _ i1).trans (Cert.InBwdIdeal.Own.final11 m c i1).symm
    · refine (Cert.InRefIdeal.Read.val_main_v63_eq _ _ _ _).trans ?_
      funext i
      idx_vars i
      obtain rfl : i0 = 0 := Subsingleton.elim _ _
      exact (Cert.InRefIdeal.Own.out3 _ _ _ _ i1).trans (Cert.InBwdIdeal.Own.final12 m c i1).symm

end Cert.InBwd.Own

end
-- ==== Proof.Adam.lean ====
/- The arithmetic of the optimiser's step on the large weights: the sum of the partial gradients of the devices, the two moments and the change. -/
module

public import Idealize.ShloMosaic.Lib.Pipeline.ValueKit
public import Idealize.ShloMosaic.Lib.Pointwise
public import Idealize.ShloMosaic.Lib.Claim

@[expose] public section

noncomputable section

namespace Cert.Adam

open Idealize.ShloMosaic

/-- A constant of the update, by its bits. -/
abbrev con (b : BitVec 32) : EReal := Ideal.ofBits .f32 b

/-- The first moment after the step, from the gradient and the moment before. -/
def mom1 (g m : EReal) : EReal := con 0x3F666666 * m + con 0x3DCCCCCD * g

/-- The second moment after the step. -/
def mom2 (g v : EReal) : EReal := con 0x3F7FBE77 * v + con 0x3A83126F * (g * g)

/-- The change of the weight. -/
def change (w g m v : EReal) : EReal :=
  con 0xBA83126F * (Ideal.div (Ideal.div (mom1 g m) (con 0x3F26BD02)) (Ideal.sqrt (Ideal.div (mom2 g v) (con 0x3C231ACC)) + con 0x322BCC77)
    + con 0x3C23D70A * w)

/-- The one of four things that belongs to a layer. -/
def pick {α : Type} (a b c d : α) (l : Fin 4) : α := if l.val = 0 then a else if l.val = 1 then b else if l.val = 2 then c else d

theorem pick0 {α : Type} (a b c d : α) (l : Fin 4) (h : l.val = 0) : pick a b c d l = a := if_pos h

theorem pick1 {α : Type} (a b c d : α) (l : Fin 4) (h : l.val = 1) : pick a b c d l = b := by
  unfold pick
  rw [if_neg (by omega), if_pos h]

theorem pick2 {α : Type} (a b c d : α) (l : Fin 4) (h : l.val = 2) : pick a b c d l = c := by
  unfold pick
  rw [if_neg (by omega), if_neg (by omega), if_pos h]

theorem pick3 {α : Type} (a b c d : α) (l : Fin 4) (h : l.val = 3) : pick a b c d l = d := by
  unfold pick
  rw [if_neg (by omega), if_neg (by omega), if_neg (by omega)]

end Cert.Adam

end
-- ==== Proof.AdamIn.lean ====
/- The optimiser's step on the input weights: the claims about its two programs. -/
module

public import proofs.«01_k».proof.Defs
public import proofs.«01_k».proof.Proof.Adam
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamInRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.AdamInIdeal.Own

open Idealize.ShloMosaic Idealize.ShloMosaic.TcCoe Idealize.SL.Sem
open Cert.AdamInIdeal Cert.AdamInIdeal.Gen
open Cert.Adam (mom1 mom2 change pick)

/-- The gradient of a layer's weight: the partial gradients of its own slabs, summed. -/
def grad (S0 S1 S2 S3 : S8x2048x898.Idx → EReal) : S4x2048x898.Idx → EReal := fun i =>
  ∑ b : Fin 8, pick S0 S1 S2 S3 (i 0) (ix3 b (i 1) (i 2))

theorem idx : ∀ t : Fin cfg0.N, win0_4.index t = ![t.val / 16, t.val % 16, 0]
    ∧ win0_5.index t = ![t.val / 16, t.val % 16, 0] ∧ win0_6.index t = ![t.val / 16, t.val % 16, 0] ∧ win0_7.index t = ![t.val / 16, t.val % 16, 0]
    ∧ win0_8.index t = ![t.val / 16, t.val % 16, 0] ∧ win0_9.index t = ![t.val / 16, t.val % 16, 0] ∧ win0_10.index t = ![t.val / 16, t.val % 16, 0] :=
  (by decide +kernel : ∀ t : Fin grid0.N, _)

theorem idxS : ∀ t : Fin cfg0.N, (t.val / 16 = 0 → win0_0.index t = ![0, t.val % 16, 0]) ∧ (t.val / 16 = 1 → win0_1.index t = ![0, t.val % 16, 0])
    ∧ (t.val / 16 = 2 → win0_2.index t = ![0, t.val % 16, 0]) ∧ (t.val / 16 = 3 → win0_3.index t = ![0, t.val % 16, 0]) :=
  (by decide +kernel : ∀ t : Fin grid0.N, _)

theorem lt_N (t : Fin cfg0.N) : t.val < 64 := lt_of_lt_of_eq t.isLt N_0

/-- The layer of point `t`. -/
def layer (t : Fin cfg0.N) : Fin 4 := ⟨t.val / 16, by have := lt_N t; omega⟩

/-- Row `r` of the tile of point `t`. -/
def rowOf (t : Fin cfg0.N) (r : Fin 128) : Fin 2048 := ⟨t.val % 16 * 128 + r.val, by omega⟩

/-- Index `i` of the tile of point `t`, in the whole array. -/
abbrev at3 (t : Fin cfg0.N) (i : S1x128x898.Idx) : S4x2048x898.Idx := ix3 (layer t) (rowOf t (i 1)) (i 2)

variable (m : (ℓ : Loc nD τ sig) → Buf (Elt Ideal) ℓ) (c : Dev nD)

theorem iblk0 (t : Fin cfg0.N) (h : t.val / 16 = 0) (i : S8x128x898.Idx) :
    iblk m c 0 t i = m ((c : Thread nD τ).loc main_arg0) (ix3 (i 0) (rowOf t (i 1)) (i 2)) := by
  unfold rowOf
  blk_point [iblk, V, (idxS t).1 h]

theorem iblk1 (t : Fin cfg0.N) (h : t.val / 16 = 1) (i : S8x128x898.Idx) :
    iblk m c 1 t i = m ((c : Thread nD τ).loc main_arg1) (ix3 (i 0) (rowOf t (i 1)) (i 2)) := by
  unfold rowOf
  blk_point [iblk, V, (idxS t).2.1 h]

theorem iblk2 (t : Fin cfg0.N) (h : t.val / 16 = 2) (i : S8x128x898.Idx) :
    iblk m c 2 t i = m ((c : Thread nD τ).loc main_arg2) (ix3 (i 0) (rowOf t (i 1)) (i 2)) := by
  unfold rowOf
  blk_point [iblk, V, (idxS t).2.2.1 h]

theorem iblk3 (t : Fin cfg0.N) (h : t.val / 16 = 3) (i : S8x128x898.Idx) :
    iblk m c 3 t i = m ((c : Thread nD τ).loc main_arg3) (ix3 (i 0) (rowOf t (i 1)) (i 2)) := by
  unfold rowOf
  blk_point [iblk, V, (idxS t).2.2.2 h]

theorem iblk4 (t : Fin cfg0.N) (i : S1x128x898.Idx) :
    iblk m c 4 t i = m ((c : Thread nD τ).loc main_arg4) (at3 t i) := by
  unfold at3 layer rowOf
  blk_point [iblk, V, idx t]

theorem iblk5 (t : Fin cfg0.N) (i : S1x128x898.Idx) :
    iblk m c 5 t i = m ((c : Thread nD τ).loc main_arg5) (at3 t i) := by
  unfold at3 layer rowOf
  blk_point [iblk, V, idx t]

theorem iblk6 (t : Fin cfg0.N) (i : S1x128x898.Idx) :
    iblk m c 6 t i = m ((c : Thread nD τ).loc main_arg6) (at3 t i) := by
  unfold at3 layer rowOf
  blk_point [iblk, V, idx t]

/-- The sum of the slabs of layer 0, as the body forms it. -/
theorem gA (X : Vec Ideal S8x128x898 .bf16) (r : Fin 128) (j : Fin 898) :
    k0_pay9 (F := Ideal) (View.ld X (Rect.unit ![0, 0, 0] ![1, 128, 898] inb_S8x128x898_S1x128x898_0_0_0)) (View.ld X (Rect.unit ![1, 0, 0] ![1, 128, 898] inb_S8x128x898_S1x128x898_1_0_0)) (View.ld X (Rect.unit ![2, 0, 0] ![1, 128, 898] inb_S8x128x898_S1x128x898_2_0_0)) (View.ld X (Rect.unit ![3, 0, 0] ![1, 128, 898] inb_S8x128x898_S1x128x898_3_0_0)) (View.ld X (Rect.unit ![4, 0, 0] ![1, 128, 898] inb_S8x128x898_S1x128x898_4_0_0)) (View.ld X (Rect.unit ![5, 0, 0] ![1, 128, 898] inb_S8x128x898_S1x128x898_5_0_0)) (View.ld X (Rect.unit ![6, 0, 0] ![1, 128, 898] inb_S8x128x898_S1x128x898_6_0_0)) (View.ld X (Rect.unit ![7, 0, 0] ![1, 128, 898] inb_S8x128x898_S1x128x898_7_0_0)) (ix2 r j) = ∑ b : Fin 8, X (ix3 b r j) := by
  rw [Fin.sum_univ_eight]
  pointwise [k0_pay9]

theorem pA7 (G : FVec Ideal S128x898 .f32) (z : Fin 1) (r : Fin 128) (j : Fin 898) :
    k0_pay13 (F := Ideal) G (ix3 z r j) = G (ix2 r j) := by
  pointwise [k0_pay13]

theorem pA9 (G : FVec Ideal S128x898 .f32) (M : FVec Ideal S1x128x898 .f32) (z : Fin 1) (r : Fin 128) (j : Fin 898) :
    k0_pay1 (F := Ideal) (k0_pay11 (F := Ideal) G M) (ix3 z r j) = mom1 (G (ix2 r j)) (M (ix3 0 r j)) := by
  pointwise [k0_pay1, k0_pay11]
  rfl

theorem pA10 (G : FVec Ideal S128x898 .f32) (M : FVec Ideal S1x128x898 .f32) (z : Fin 1) (r : Fin 128) (j : Fin 898) :
    k0_pay2 (F := Ideal) (k0_pay12 (F := Ideal) G M) (ix3 z r j) = mom2 (G (ix2 r j)) (M (ix3 0 r j)) := by
  pointwise [k0_pay2, k0_pay12]
  rfl

theorem pA8 (G : FVec Ideal S128x898 .f32) (W M U : FVec Ideal S1x128x898 .f32) (z : Fin 1) (r : Fin 128) (j : Fin 898) :
    k0_pay14 (F := Ideal) G (k0_pay10 (F := Ideal) W) M U (ix3 z r j) = change (W (ix3 0 r j)) (G (ix2 r j)) (M (ix3 0 r j)) (U (ix3 0 r j)) := by
  pointwise [k0_pay14, k0_pay10, k0_pay11, k0_pay12]
  rfl

/-- The sum of the slabs of layer 1, as the body forms it. -/
theorem gB (X : Vec Ideal S8x128x898 .bf16) (r : Fin 128) (j : Fin 898) :
    k0_pay15 (F := Ideal) (View.ld X (Rect.unit ![0, 0, 0] ![1, 128, 898] inb_S8x128x898_S1x128x898_0_0_0)) (View.ld X (Rect.unit ![1, 0, 0] ![1, 128, 898] inb_S8x128x898_S1x128x898_1_0_0)) (View.ld X (Rect.unit ![2, 0, 0] ![1, 128, 898] inb_S8x128x898_S1x128x898_2_0_0)) (View.ld X (Rect.unit ![3, 0, 0] ![1, 128, 898] inb_S8x128x898_S1x128x898_3_0_0)) (View.ld X (Rect.unit ![4, 0, 0] ![1, 128, 898] inb_S8x128x898_S1x128x898_4_0_0)) (View.ld X (Rect.unit ![5, 0, 0] ![1, 128, 898] inb_S8x128x898_S1x128x898_5_0_0)) (View.ld X (Rect.unit ![6, 0, 0] ![1, 128, 898] inb_S8x128x898_S1x128x898_6_0_0)) (View.ld X (Rect.unit ![7, 0, 0] ![1, 128, 898] inb_S8x128x898_S1x128x898_7_0_0)) (ix2 r j) = ∑ b : Fin 8, X (ix3 b r j) := by
  rw [Fin.sum_univ_eight]
  pointwise [k0_pay15]

theorem pB7 (G : FVec Ideal S128x898 .f32) (z : Fin 1) (r : Fin 128) (j : Fin 898) :
    k0_pay19 (F := Ideal) G (ix3 z r j) = G (ix2 r j) := by
  pointwise [k0_pay19]

theorem pB9 (G : FVec Ideal S128x898 .f32) (M : FVec Ideal S1x128x898 .f32) (z : Fin 1) (r : Fin 128) (j : Fin 898) :
    k0_pay3 (F := Ideal) (k0_pay17 (F := Ideal) G M) (ix3 z r j) = mom1 (G (ix2 r j)) (M (ix3 0 r j)) := by
  pointwise [k0_pay3, k0_pay17]
  rfl

theorem pB10 (G : FVec Ideal S128x898 .f32) (M : FVec Ideal S1x128x898 .f32) (z : Fin 1) (r : Fin 128) (j : Fin 898) :
    k0_pay4 (F := Ideal) (k0_pay18 (F := Ideal) G M) (ix3 z r j) = mom2 (G (ix2 r j)) (M (ix3 0 r j)) := by
  pointwise [k0_pay4, k0_pay18]
  rfl

theorem pB8 (G : FVec Ideal S128x898 .f32) (W M U : FVec Ideal S1x128x898 .f32) (z : Fin 1) (r : Fin 128) (j : Fin 898) :
    k0_pay20 (F := Ideal) G (k0_pay16 (F := Ideal) W) M U (ix3 z r j) = change (W (ix3 0 r j)) (G (ix2 r j)) (M (ix3 0 r j)) (U (ix3 0 r j)) := by
  pointwise [k0_pay20, k0_pay16, k0_pay17, k0_pay18]
  rfl

/-- The sum of the slabs of layer 2, as the body forms it. -/
theorem gC (X : Vec Ideal S8x128x898 .bf16) (r : Fin 128) (j : Fin 898) :
    k0_pay21 (F := Ideal) (View.ld X (Rect.unit ![0, 0, 0] ![1, 128, 898] inb_S8x128x898_S1x128x898_0_0_0)) (View.ld X (Rect.unit ![1, 0, 0] ![1, 128, 898] inb_S8x128x898_S1x128x898_1_0_0)) (View.ld X (Rect.unit ![2, 0, 0] ![1, 128, 898] inb_S8x128x898_S1x128x898_2_0_0)) (View.ld X (Rect.unit ![3, 0, 0] ![1, 128, 898] inb_S8x128x898_S1x128x898_3_0_0)) (View.ld X (Rect.unit ![4, 0, 0] ![1, 128, 898] inb_S8x128x898_S1x128x898_4_0_0)) (View.ld X (Rect.unit ![5, 0, 0] ![1, 128, 898] inb_S8x128x898_S1x128x898_5_0_0)) (View.ld X (Rect.unit ![6, 0, 0] ![1, 128, 898] inb_S8x128x898_S1x128x898_6_0_0)) (View.ld X (Rect.unit ![7, 0, 0] ![1, 128, 898] inb_S8x128x898_S1x128x898_7_0_0)) (ix2 r j) = ∑ b : Fin 8, X (ix3 b r j) := by
  rw [Fin.sum_univ_eight]
  pointwise [k0_pay21]

theorem pC7 (G : FVec Ideal S128x898 .f32) (z : Fin 1) (r : Fin 128) (j : Fin 898) :
    k0_pay25 (F := Ideal) G (ix3 z r j) = G (ix2 r j) := by
  pointwise [k0_pay25]

theorem pC9 (G : FVec Ideal S128x898 .f32) (M : FVec Ideal S1x128x898 .f32) (z : Fin 1) (r : Fin 128) (j : Fin 898) :
    k0_pay5 (F := Ideal) (k0_pay23 (F := Ideal) G M) (ix3 z r j) = mom1 (G (ix2 r j)) (M (ix3 0 r j)) := by
  pointwise [k0_pay5, k0_pay23]
  rfl

theorem pC10 (G : FVec Ideal S128x898 .f32) (M : FVec Ideal S1x128x898 .f32) (z : Fin 1) (r : Fin 128) (j : Fin 898) :
    k0_pay6 (F := Ideal) (k0_pay24 (F := Ideal) G M) (ix3 z r j) = mom2 (G (ix2 r j)) (M (ix3 0 r j)) := by
  pointwise [k0_pay6, k0_pay24]
  rfl

theorem pC8 (G : FVec Ideal S128x898 .f32) (W M U : FVec Ideal S1x128x898 .f32) (z : Fin 1) (r : Fin 128) (j : Fin 898) :
    k0_pay26 (F := Ideal) G (k0_pay22 (F := Ideal) W) M U (ix3 z r j) = change (W (ix3 0 r j)) (G (ix2 r j)) (M (ix3 0 r j)) (U (ix3 0 r j)) := by
  pointwise [k0_pay26, k0_pay22, k0_pay23, k0_pay24]
  rfl

/-- The sum of the slabs of layer 3, as the body forms it. -/
theorem gD (X : Vec Ideal S8x128x898 .bf16) (r : Fin 128) (j : Fin 898) :
    k0_pay27 (F := Ideal) (View.ld X (Rect.unit ![0, 0, 0] ![1, 128, 898] inb_S8x128x898_S1x128x898_0_0_0)) (View.ld X (Rect.unit ![1, 0, 0] ![1, 128, 898] inb_S8x128x898_S1x128x898_1_0_0)) (View.ld X (Rect.unit ![2, 0, 0] ![1, 128, 898] inb_S8x128x898_S1x128x898_2_0_0)) (View.ld X (Rect.unit ![3, 0, 0] ![1, 128, 898] inb_S8x128x898_S1x128x898_3_0_0)) (View.ld X (Rect.unit ![4, 0, 0] ![1, 128, 898] inb_S8x128x898_S1x128x898_4_0_0)) (View.ld X (Rect.unit ![5, 0, 0] ![1, 128, 898] inb_S8x128x898_S1x128x898_5_0_0)) (View.ld X (Rect.unit ![6, 0, 0] ![1, 128, 898] inb_S8x128x898_S1x128x898_6_0_0)) (View.ld X (Rect.unit ![7, 0, 0] ![1, 128, 898] inb_S8x128x898_S1x128x898_7_0_0)) (ix2 r j) = ∑ b : Fin 8, X (ix3 b r j) := by
  rw [Fin.sum_univ_eight]
  pointwise [k0_pay27]

theorem pD7 (G : FVec Ideal S128x898 .f32) (z : Fin 1) (r : Fin 128) (j : Fin 898) :
    k0_pay31 (F := Ideal) G (ix3 z r j) = G (ix2 r j) := by
  pointwise [k0_pay31]

theorem pD9 (G : FVec Ideal S128x898 .f32) (M : FVec Ideal S1x128x898 .f32) (z : Fin 1) (r : Fin 128) (j : Fin 898) :
    k0_pay7 (F := Ideal) (k0_pay29 (F := Ideal) G M) (ix3 z r j) = mom1 (G (ix2 r j)) (M (ix3 0 r j)) := by
  pointwise [k0_pay7, k0_pay29]
  rfl

theorem pD10 (G : FVec Ideal S128x898 .f32) (M : FVec Ideal S1x128x898 .f32) (z : Fin 1) (r : Fin 128) (j : Fin 898) :
    k0_pay8 (F := Ideal) (k0_pay30 (F := Ideal) G M) (ix3 z r j) = mom2 (G (ix2 r j)) (M (ix3 0 r j)) := by
  pointwise [k0_pay8, k0_pay30]
  rfl

theorem pD8 (G : FVec Ideal S128x898 .f32) (W M U : FVec Ideal S1x128x898 .f32) (z : Fin 1) (r : Fin 128) (j : Fin 898) :
    k0_pay32 (F := Ideal) G (k0_pay28 (F := Ideal) W) M U (ix3 z r j) = change (W (ix3 0 r j)) (G (ix2 r j)) (M (ix3 0 r j)) (U (ix3 0 r j)) := by
  pointwise [k0_pay32, k0_pay28, k0_pay29, k0_pay30]
  rfl

theorem tileA (t : Fin cfg0.N) (h : t.val / 16 = 0) (r : Fin 128) (j : Fin 898) :
    k0_pay9 (F := Ideal) (View.ld (iblk m c 0 t) (Rect.unit ![0, 0, 0] ![1, 128, 898] inb_S8x128x898_S1x128x898_0_0_0)) (View.ld (iblk m c 0 t) (Rect.unit ![1, 0, 0] ![1, 128, 898] inb_S8x128x898_S1x128x898_1_0_0)) (View.ld (iblk m c 0 t) (Rect.unit ![2, 0, 0] ![1, 128, 898] inb_S8x128x898_S1x128x898_2_0_0)) (View.ld (iblk m c 0 t) (Rect.unit ![3, 0, 0] ![1, 128, 898] inb_S8x128x898_S1x128x898_3_0_0)) (View.ld (iblk m c 0 t) (Rect.unit ![4, 0, 0] ![1, 128, 898] inb_S8x128x898_S1x128x898_4_0_0)) (View.ld (iblk m c 0 t) (Rect.unit ![5, 0, 0] ![1, 128, 898] inb_S8x128x898_S1x128x898_5_0_0)) (View.ld (iblk m c 0 t) (Rect.unit ![6, 0, 0] ![1, 128, 898] inb_S8x128x898_S1x128x898_6_0_0)) (View.ld (iblk m c 0 t) (Rect.unit ![7, 0, 0] ![1, 128, 898] inb_S8x128x898_S1x128x898_7_0_0)) (ix2 r j)
      = grad (m ((c : Thread nD τ).loc main_arg0)) (m ((c : Thread nD τ).loc main_arg1)) (m ((c : Thread nD τ).loc main_arg2)) (m ((c : Thread nD τ).loc main_arg3)) (ix3 (layer t) (rowOf t r) j) := by
  refine (gA _ _ _).trans (Finset.sum_congr rfl fun b _ => ?_)
  rw [iblk0 m c t h]
  exact (congrFun (Cert.Adam.pick0 (m ((c : Thread nD τ).loc main_arg0)) (m ((c : Thread nD τ).loc main_arg1)) (m ((c : Thread nD τ).loc main_arg2)) (m ((c : Thread nD τ).loc main_arg3)) (layer t) h) _).symm

theorem tileB (t : Fin cfg0.N) (h : t.val / 16 = 1) (r : Fin 128) (j : Fin 898) :
    k0_pay15 (F := Ideal) (View.ld (iblk m c 1 t) (Rect.unit ![0, 0, 0] ![1, 128, 898] inb_S8x128x898_S1x128x898_0_0_0)) (View.ld (iblk m c 1 t) (Rect.unit ![1, 0, 0] ![1, 128, 898] inb_S8x128x898_S1x128x898_1_0_0)) (View.ld (iblk m c 1 t) (Rect.unit ![2, 0, 0] ![1, 128, 898] inb_S8x128x898_S1x128x898_2_0_0)) (View.ld (iblk m c 1 t) (Rect.unit ![3, 0, 0] ![1, 128, 898] inb_S8x128x898_S1x128x898_3_0_0)) (View.ld (iblk m c 1 t) (Rect.unit ![4, 0, 0] ![1, 128, 898] inb_S8x128x898_S1x128x898_4_0_0)) (View.ld (iblk m c 1 t) (Rect.unit ![5, 0, 0] ![1, 128, 898] inb_S8x128x898_S1x128x898_5_0_0)) (View.ld (iblk m c 1 t) (Rect.unit ![6, 0, 0] ![1, 128, 898] inb_S8x128x898_S1x128x898_6_0_0)) (View.ld (iblk m c 1 t) (Rect.unit ![7, 0, 0] ![1, 128, 898] inb_S8x128x898_S1x128x898_7_0_0)) (ix2 r j)
      = grad (m ((c : Thread nD τ).loc main_arg0)) (m ((c : Thread nD τ).loc main_arg1)) (m ((c : Thread nD τ).loc main_arg2)) (m ((c : Thread nD τ).loc main_arg3)) (ix3 (layer t) (rowOf t r) j) := by
  refine (gB _ _ _).trans (Finset.sum_congr rfl fun b _ => ?_)
  rw [iblk1 m c t h]
  exact (congrFun (Cert.Adam.pick1 (m ((c : Thread nD τ).loc main_arg0)) (m ((c : Thread nD τ).loc main_arg1)) (m ((c : Thread nD τ).loc main_arg2)) (m ((c : Thread nD τ).loc main_arg3)) (layer t) h) _).symm

theorem tileC (t : Fin cfg0.N) (h : t.val / 16 = 2) (r : Fin 128) (j : Fin 898) :
    k0_pay21 (F := Ideal) (View.ld (iblk m c 2 t) (Rect.unit ![0, 0, 0] ![1, 128, 898] inb_S8x128x898_S1x128x898_0_0_0)) (View.ld (iblk m c 2 t) (Rect.unit ![1, 0, 0] ![1, 128, 898] inb_S8x128x898_S1x128x898_1_0_0)) (View.ld (iblk m c 2 t) (Rect.unit ![2, 0, 0] ![1, 128, 898] inb_S8x128x898_S1x128x898_2_0_0)) (View.ld (iblk m c 2 t) (Rect.unit ![3, 0, 0] ![1, 128, 898] inb_S8x128x898_S1x128x898_3_0_0)) (View.ld (iblk m c 2 t) (Rect.unit ![4, 0, 0] ![1, 128, 898] inb_S8x128x898_S1x128x898_4_0_0)) (View.ld (iblk m c 2 t) (Rect.unit ![5, 0, 0] ![1, 128, 898] inb_S8x128x898_S1x128x898_5_0_0)) (View.ld (iblk m c 2 t) (Rect.unit ![6, 0, 0] ![1, 128, 898] inb_S8x128x898_S1x128x898_6_0_0)) (View.ld (iblk m c 2 t) (Rect.unit ![7, 0, 0] ![1, 128, 898] inb_S8x128x898_S1x128x898_7_0_0)) (ix2 r j)
      = grad (m ((c : Thread nD τ).loc main_arg0)) (m ((c : Thread nD τ).loc main_arg1)) (m ((c : Thread nD τ).loc main_arg2)) (m ((c : Thread nD τ).loc main_arg3)) (ix3 (layer t) (rowOf t r) j) := by
  refine (gC _ _ _).trans (Finset.sum_congr rfl fun b _ => ?_)
  rw [iblk2 m c t h]
  exact (congrFun (Cert.Adam.pick2 (m ((c : Thread nD τ).loc main_arg0)) (m ((c : Thread nD τ).loc main_arg1)) (m ((c : Thread nD τ).loc main_arg2)) (m ((c : Thread nD τ).loc main_arg3)) (layer t) h) _).symm

theorem tileD (t : Fin cfg0.N) (h : t.val / 16 = 3) (r : Fin 128) (j : Fin 898) :
    k0_pay27 (F := Ideal) (View.ld (iblk m c 3 t) (Rect.unit ![0, 0, 0] ![1, 128, 898] inb_S8x128x898_S1x128x898_0_0_0)) (View.ld (iblk m c 3 t) (Rect.unit ![1, 0, 0] ![1, 128, 898] inb_S8x128x898_S1x128x898_1_0_0)) (View.ld (iblk m c 3 t) (Rect.unit ![2, 0, 0] ![1, 128, 898] inb_S8x128x898_S1x128x898_2_0_0)) (View.ld (iblk m c 3 t) (Rect.unit ![3, 0, 0] ![1, 128, 898] inb_S8x128x898_S1x128x898_3_0_0)) (View.ld (iblk m c 3 t) (Rect.unit ![4, 0, 0] ![1, 128, 898] inb_S8x128x898_S1x128x898_4_0_0)) (View.ld (iblk m c 3 t) (Rect.unit ![5, 0, 0] ![1, 128, 898] inb_S8x128x898_S1x128x898_5_0_0)) (View.ld (iblk m c 3 t) (Rect.unit ![6, 0, 0] ![1, 128, 898] inb_S8x128x898_S1x128x898_6_0_0)) (View.ld (iblk m c 3 t) (Rect.unit ![7, 0, 0] ![1, 128, 898] inb_S8x128x898_S1x128x898_7_0_0)) (ix2 r j)
      = grad (m ((c : Thread nD τ).loc main_arg0)) (m ((c : Thread nD τ).loc main_arg1)) (m ((c : Thread nD τ).loc main_arg2)) (m ((c : Thread nD τ).loc main_arg3)) (ix3 (layer t) (rowOf t r) j) := by
  refine (gD _ _ _).trans (Finset.sum_congr rfl fun b _ => ?_)
  rw [iblk3 m c t h]
  exact (congrFun (Cert.Adam.pick3 (m ((c : Thread nD τ).loc main_arg0)) (m ((c : Thread nD τ).loc main_arg1)) (m ((c : Thread nD τ).loc main_arg2)) (m ((c : Thread nD τ).loc main_arg3)) (layer t) h) _).symm

theorem final7 : (dats m 0 c).arrAt 7 (cfgs 0).N = fun i => grad (m ((c : Thread nD τ).loc main_arg0)) (m ((c : Thread nD τ).loc main_arg1)) (m ((c : Thread nD τ).loc main_arg2)) (m ((c : Thread nD τ).loc main_arg3)) i := by
  refine Pipeline.Dat.arrAt_eq_of_covers (dats m 0 c) 7 _ (by decide +kernel) fun t hf y => ?_
  blk_simp
  rw [after0_7]
  have e : ((View.whole main_v0_0).slice (win0_7.rect t)).emb y = at3 t y := by
    unfold at3 layer rowOf
    blk_ext [idx t]
  rw [e]
  have hN := lt_N t
  by_cases h0 : t.val < 16
  · rw [outsAt0_A m c t h0 (by omega) (by omega) (by omega)]
    frame_out
    idx_vars y
    obtain rfl : y0 = 0 := Subsingleton.elim _ _
    exact (pA7 _ _ _ _).trans (tileA m c t (by omega) _ _)
  by_cases h1 : t.val / 16 % 4 = 1
  · rw [outsAt0_B m c t (by omega) h1 (by omega) (by omega)]
    frame_out
    idx_vars y
    obtain rfl : y0 = 0 := Subsingleton.elim _ _
    exact (pB7 _ _ _ _).trans (tileB m c t (by omega) _ _)
  by_cases h2 : t.val / 16 % 4 = 2
  · rw [outsAt0_C m c t (by omega) (by omega) h2 (by omega)]
    frame_out
    idx_vars y
    obtain rfl : y0 = 0 := Subsingleton.elim _ _
    exact (pC7 _ _ _ _).trans (tileC m c t (by omega) _ _)
  · have h3 : 48 ≤ t.val := by omega
    rw [outsAt0_D m c t (by omega) (by omega) (by omega) h3]
    frame_out
    idx_vars y
    obtain rfl : y0 = 0 := Subsingleton.elim _ _
    exact (pD7 _ _ _ _).trans (tileD m c t (by omega) _ _)

theorem final8 : (dats m 0 c).arrAt 8 (cfgs 0).N = fun i => change ((m ((c : Thread nD τ).loc main_arg4)) i) (grad (m ((c : Thread nD τ).loc main_arg0)) (m ((c : Thread nD τ).loc main_arg1)) (m ((c : Thread nD τ).loc main_arg2)) (m ((c : Thread nD τ).loc main_arg3)) i) ((m ((c : Thread nD τ).loc main_arg5)) i) ((m ((c : Thread nD τ).loc main_arg6)) i) := by
  refine Pipeline.Dat.arrAt_eq_of_covers (dats m 0 c) 8 _ (by decide +kernel) fun t hf y => ?_
  blk_simp
  rw [after0_8]
  have e : ((View.whole main_v0_1).slice (win0_8.rect t)).emb y = at3 t y := by
    unfold at3 layer rowOf
    blk_ext [idx t]
  rw [e]
  have hN := lt_N t
  by_cases h0 : t.val < 16
  · rw [outsAt0_A m c t h0 (by omega) (by omega) (by omega)]
    frame_out
    idx_vars y
    obtain rfl : y0 = 0 := Subsingleton.elim _ _
    refine (pA8 _ _ _ _ _ _ _).trans (Eq.trans (congrArg (fun g => change _ g _ _) (tileA m c t (by omega) y1 y2)) ?_)
    rw [iblk4, iblk5, iblk6]
    rfl
  by_cases h1 : t.val / 16 % 4 = 1
  · rw [outsAt0_B m c t (by omega) h1 (by omega) (by omega)]
    frame_out
    idx_vars y
    obtain rfl : y0 = 0 := Subsingleton.elim _ _
    refine (pB8 _ _ _ _ _ _ _).trans (Eq.trans (congrArg (fun g => change _ g _ _) (tileB m c t (by omega) y1 y2)) ?_)
    rw [iblk4, iblk5, iblk6]
    rfl
  by_cases h2 : t.val / 16 % 4 = 2
  · rw [outsAt0_C m c t (by omega) (by omega) h2 (by omega)]
    frame_out
    idx_vars y
    obtain rfl : y0 = 0 := Subsingleton.elim _ _
    refine (pC8 _ _ _ _ _ _ _).trans (Eq.trans (congrArg (fun g => change _ g _ _) (tileC m c t (by omega) y1 y2)) ?_)
    rw [iblk4, iblk5, iblk6]
    rfl
  · have h3 : 48 ≤ t.val := by omega
    rw [outsAt0_D m c t (by omega) (by omega) (by omega) h3]
    frame_out
    idx_vars y
    obtain rfl : y0 = 0 := Subsingleton.elim _ _
    refine (pD8 _ _ _ _ _ _ _).trans (Eq.trans (congrArg (fun g => change _ g _ _) (tileD m c t (by omega) y1 y2)) ?_)
    rw [iblk4, iblk5, iblk6]
    rfl

theorem final9 : (dats m 0 c).arrAt 9 (cfgs 0).N = fun i => mom1 (grad (m ((c : Thread nD τ).loc main_arg0)) (m ((c : Thread nD τ).loc main_arg1)) (m ((c : Thread nD τ).loc main_arg2)) (m ((c : Thread nD τ).loc main_arg3)) i) ((m ((c : Thread nD τ).loc main_arg5)) i) := by
  refine Pipeline.Dat.arrAt_eq_of_covers (dats m 0 c) 9 _ (by decide +kernel) fun t hf y => ?_
  blk_simp
  rw [after0_9]
  have e : ((View.whole main_v0_2).slice (win0_9.rect t)).emb y = at3 t y := by
    unfold at3 layer rowOf
    blk_ext [idx t]
  rw [e]
  have hN := lt_N t
  by_cases h0 : t.val < 16
  · rw [outsAt0_A m c t h0 (by omega) (by omega) (by omega)]
    frame_out
    idx_vars y
    obtain rfl : y0 = 0 := Subsingleton.elim _ _
    refine (pA9 _ _ _ _ _).trans (Eq.trans (congrArg (fun g => mom1 g _) (tileA m c t (by omega) y1 y2)) ?_)
    rw [iblk5]
    rfl
  by_cases h1 : t.val / 16 % 4 = 1
  · rw [outsAt0_B m c t (by omega) h1 (by omega) (by omega)]
    frame_out
    idx_vars y
    obtain rfl : y0 = 0 := Subsingleton.elim _ _
    refine (pB9 _ _ _ _ _).trans (Eq.trans (congrArg (fun g => mom1 g _) (tileB m c t (by omega) y1 y2)) ?_)
    rw [iblk5]
    rfl
  by_cases h2 : t.val / 16 % 4 = 2
  · rw [outsAt0_C m c t (by omega) (by omega) h2 (by omega)]
    frame_out
    idx_vars y
    obtain rfl : y0 = 0 := Subsingleton.elim _ _
    refine (pC9 _ _ _ _ _).trans (Eq.trans (congrArg (fun g => mom1 g _) (tileC m c t (by omega) y1 y2)) ?_)
    rw [iblk5]
    rfl
  · have h3 : 48 ≤ t.val := by omega
    rw [outsAt0_D m c t (by omega) (by omega) (by omega) h3]
    frame_out
    idx_vars y
    obtain rfl : y0 = 0 := Subsingleton.elim _ _
    refine (pD9 _ _ _ _ _).trans (Eq.trans (congrArg (fun g => mom1 g _) (tileD m c t (by omega) y1 y2)) ?_)
    rw [iblk5]
    rfl

theorem final10 : (dats m 0 c).arrAt 10 (cfgs 0).N = fun i => mom2 (grad (m ((c : Thread nD τ).loc main_arg0)) (m ((c : Thread nD τ).loc main_arg1)) (m ((c : Thread nD τ).loc main_arg2)) (m ((c : Thread nD τ).loc main_arg3)) i) ((m ((c : Thread nD τ).loc main_arg6)) i) := by
  refine Pipeline.Dat.arrAt_eq_of_covers (dats m 0 c) 10 _ (by decide +kernel) fun t hf y => ?_
  blk_simp
  rw [after0_10]
  have e : ((View.whole main_v0_3).slice (win0_10.rect t)).emb y = at3 t y := by
    unfold at3 layer rowOf
    blk_ext [idx t]
  rw [e]
  have hN := lt_N t
  by_cases h0 : t.val < 16
  · rw [outsAt0_A m c t h0 (by omega) (by omega) (by omega)]
    frame_out
    idx_vars y
    obtain rfl : y0 = 0 := Subsingleton.elim _ _
    refine (pA10 _ _ _ _ _).trans (Eq.trans (congrArg (fun g => mom2 g _) (tileA m c t (by omega) y1 y2)) ?_)
    rw [iblk6]
    rfl
  by_cases h1 : t.val / 16 % 4 = 1
  · rw [outsAt0_B m c t (by omega) h1 (by omega) (by omega)]
    frame_out
    idx_vars y
    obtain rfl : y0 = 0 := Subsingleton.elim _ _
    refine (pB10 _ _ _ _ _).trans (Eq.trans (congrArg (fun g => mom2 g _) (tileB m c t (by omega) y1 y2)) ?_)
    rw [iblk6]
    rfl
  by_cases h2 : t.val / 16 % 4 = 2
  · rw [outsAt0_C m c t (by omega) (by omega) h2 (by omega)]
    frame_out
    idx_vars y
    obtain rfl : y0 = 0 := Subsingleton.elim _ _
    refine (pC10 _ _ _ _ _).trans (Eq.trans (congrArg (fun g => mom2 g _) (tileC m c t (by omega) y1 y2)) ?_)
    rw [iblk6]
    rfl
  · have h3 : 48 ≤ t.val := by omega
    rw [outsAt0_D m c t (by omega) (by omega) (by omega) h3]
    frame_out
    idx_vars y
    obtain rfl : y0 = 0 := Subsingleton.elim _ _
    refine (pD10 _ _ _ _ _).trans (Eq.trans (congrArg (fun g => mom2 g _) (tileD m c t (by omega) y1 y2)) ?_)
    rw [iblk6]
    rfl

end Cert.AdamInIdeal.Own

namespace Cert.AdamInRefIdeal.Own

open Idealize.ShloMosaic Idealize.ShloMosaic.TcCoe Idealize.SL.Sem
open Cert.AdamInRefIdeal Cert.AdamInRefIdeal.Gen Cert.AdamInRefIdeal.Read
open Cert.Adam (mom1 mom2 change pick)
open Cert.AdamInIdeal.Own (grad)

theorem out12 (S0 S1 S2 S3 : FVec Ideal S8x2048x898 .bf16) (i : S4x2048x898.Idx) : val_main_v12 (F := Ideal) S0 S1 S2 S3 i = grad S0 S1 S2 S3 i := by
  idx_vars i
  unfold grad pick
  pointwise [val_main_v12, val_main_v8, val_main_v9, val_main_v10, val_main_v11, val_main_v1, val_main_v3, val_main_v5, val_main_v7, val_main_v0, val_main_v2, val_main_v4, val_main_v6,
    val_main_cst, val_main_cst_0, val_main_cst_1, val_main_cst_2]
  fin_cases i0 <;> rfl

theorem out17 (S0 S1 S2 S3 : FVec Ideal S8x2048x898 .bf16) (M : FVec Ideal S4x2048x898 .f32) (i : S4x2048x898.Idx) : val_main_v17 (F := Ideal) S0 S1 S2 S3 M i = mom1 (grad S0 S1 S2 S3 i) (M i) := by
  rw [← out12]
  idx_vars i
  pointwise [val_main_v17, val_main_v16, val_main_v15, val_main_v14, val_main_v13, val_main_cst_3, val_main_cst_4]
  rfl

theorem out23 (S0 S1 S2 S3 : FVec Ideal S8x2048x898 .bf16) (U : FVec Ideal S4x2048x898 .f32) (i : S4x2048x898.Idx) : val_main_v23 (F := Ideal) S0 S1 S2 S3 U i = mom2 (grad S0 S1 S2 S3 i) (U i) := by
  rw [← out12]
  idx_vars i
  pointwise [val_main_v23, val_main_v22, val_main_v21, val_main_v20, val_main_v19, val_main_v18, val_main_cst_5, val_main_cst_6]
  rfl

theorem out36 (S0 S1 S2 S3 : FVec Ideal S8x2048x898 .bf16) (W M U : FVec Ideal S4x2048x898 .f32) (i : S4x2048x898.Idx) :
    val_main_v36 (F := Ideal) S0 S1 S2 S3 W M U i = change (W i) (grad S0 S1 S2 S3 i) (M i) (U i) := by
  unfold change
  rw [← out17, ← out23]
  idx_vars i
  pointwise [val_main_v36, val_main_v35, val_main_v34, val_main_v33, val_main_v32, val_main_v31, val_main_v30, val_main_v29, val_main_v28, val_main_v27, val_main_v26, val_main_v25, val_main_v24,
    val_main_cst_7, val_main_cst_8, val_main_cst_9, val_main_cst_10, val_main_cst_11]
  rfl

end Cert.AdamInRefIdeal.Own

namespace Cert.AdamIn

open Idealize.ShloMosaic Idealize.ShloMosaic.TcCoe Idealize.SL.Sem

theorem frame_k : Cert.quiescent_AdamIn := fun m ρ _ => Cert.AdamIn.Gen.frame m ρ
theorem frame_ki : Cert.quiescent_AdamInIdeal := fun m ρ _ => Cert.AdamInIdeal.Gen.frame m ρ
theorem frame_ri : Cert.quiescent_AdamInRefIdeal := fun m ρ _ =>
  (θ_run Cert.AdamInRefIdeal.defs _ _).mono
    (fun r h => ⟨fun c => (h c).2.2.2.2, Idealize.ShloMosaic.sem_eq_zero_of_no_sems (by decide) r.2⟩)
    (Cert.AdamInRefIdeal.Value.run (F := Ideal) m ρ)

set_option maxHeartbeats 4000000 in
theorem value : Cert.algebraic_AdamInIdeal_AdamInRefIdeal := by
  pair_intro
  · run_from Cert.AdamInIdeal.Gen.run_main m g
  · run_from Cert.AdamInRefIdeal.Value.run m' g'
    · rw [Cert.AdamInIdeal.Own.final7]
      refine (Cert.AdamInRefIdeal.Read.val_main_v12_eq _ _ _ _).trans ?_
      funext i
      exact Cert.AdamInRefIdeal.Own.out12 _ _ _ _ i
    · rw [Cert.AdamInIdeal.Own.final8]
      refine (Cert.AdamInRefIdeal.Read.val_main_v36_eq _ _).trans ?_
      funext i
      obtain ⟨e0, e1, e2, e3, e4, e5, e6⟩ := hagree c
      rw [e0, e1, e2, e3, e4, e5, e6]
      exact Cert.AdamInRefIdeal.Own.out36 _ _ _ _ _ _ _ i
    · rw [Cert.AdamInIdeal.Own.final9]
      refine (Cert.AdamInRefIdeal.Read.val_main_v17_eq _ _ _ _ _).trans ?_
      funext i
      exact Cert.AdamInRefIdeal.Own.out17 _ _ _ _ _ i
    · rw [Cert.AdamInIdeal.Own.final10]
      refine (Cert.AdamInRefIdeal.Read.val_main_v23_eq _ _ _ _ _).trans ?_
      funext i
      exact Cert.AdamInRefIdeal.Own.out23 _ _ _ _ _ i

end Cert.AdamIn

end
-- ==== Proof.AdamOut.lean ====
/- The optimiser's step on the output weights: the claims about its two programs. -/
module

public import proofs.«01_k».proof.Defs
public import proofs.«01_k».proof.Proof.Adam
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.AdamOutIdeal.Own

open Idealize.ShloMosaic Idealize.ShloMosaic.TcCoe Idealize.SL.Sem
open Cert.AdamOutIdeal Cert.AdamOutIdeal.Gen
open Cert.Adam (mom1 mom2 change pick)

/-- The gradient of a layer's weight: the partial gradients of its own slabs, summed. -/
def grad (S0 S1 S2 S3 : S8x256x2048.Idx → EReal) : S4x256x2048.Idx → EReal := fun i =>
  ∑ b : Fin 8, pick S0 S1 S2 S3 (i 0) (ix3 b (i 1) (i 2))

theorem idx : ∀ t : Fin cfg0.N, win0_4.index t = ![t.val / 4, t.val % 4, 0]
    ∧ win0_5.index t = ![t.val / 4, t.val % 4, 0] ∧ win0_6.index t = ![t.val / 4, t.val % 4, 0] ∧ win0_7.index t = ![t.val / 4, t.val % 4, 0]
    ∧ win0_8.index t = ![t.val / 4, t.val % 4, 0] ∧ win0_9.index t = ![t.val / 4, t.val % 4, 0] ∧ win0_10.index t = ![t.val / 4, t.val % 4, 0] :=
  (by decide +kernel : ∀ t : Fin grid0.N, _)

theorem idxS : ∀ t : Fin cfg0.N, (t.val / 4 = 0 → win0_0.index t = ![0, t.val % 4, 0]) ∧ (t.val / 4 = 1 → win0_1.index t = ![0, t.val % 4, 0])
    ∧ (t.val / 4 = 2 → win0_2.index t = ![0, t.val % 4, 0]) ∧ (t.val / 4 = 3 → win0_3.index t = ![0, t.val % 4, 0]) :=
  (by decide +kernel : ∀ t : Fin grid0.N, _)

theorem lt_N (t : Fin cfg0.N) : t.val < 16 := lt_of_lt_of_eq t.isLt N_0

/-- The layer of point `t`. -/
def layer (t : Fin cfg0.N) : Fin 4 := ⟨t.val / 4, by have := lt_N t; omega⟩

/-- Row `r` of the tile of point `t`. -/
def rowOf (t : Fin cfg0.N) (r : Fin 64) : Fin 256 := ⟨t.val % 4 * 64 + r.val, by omega⟩

/-- Index `i` of the tile of point `t`, in the whole array. -/
abbrev at3 (t : Fin cfg0.N) (i : S1x64x2048.Idx) : S4x256x2048.Idx := ix3 (layer t) (rowOf t (i 1)) (i 2)

variable (m : (ℓ : Loc nD τ sig) → Buf (Elt Ideal) ℓ) (c : Dev nD)

theorem iblk0 (t : Fin cfg0.N) (h : t.val / 4 = 0) (i : S8x64x2048.Idx) :
    iblk m c 0 t i = m ((c : Thread nD τ).loc main_arg0) (ix3 (i 0) (rowOf t (i 1)) (i 2)) := by
  unfold rowOf
  blk_point [iblk, V, (idxS t).1 h]

theorem iblk1 (t : Fin cfg0.N) (h : t.val / 4 = 1) (i : S8x64x2048.Idx) :
    iblk m c 1 t i = m ((c : Thread nD τ).loc main_arg1) (ix3 (i 0) (rowOf t (i 1)) (i 2)) := by
  unfold rowOf
  blk_point [iblk, V, (idxS t).2.1 h]

theorem iblk2 (t : Fin cfg0.N) (h : t.val / 4 = 2) (i : S8x64x2048.Idx) :
    iblk m c 2 t i = m ((c : Thread nD τ).loc main_arg2) (ix3 (i 0) (rowOf t (i 1)) (i 2)) := by
  unfold rowOf
  blk_point [iblk, V, (idxS t).2.2.1 h]

theorem iblk3 (t : Fin cfg0.N) (h : t.val / 4 = 3) (i : S8x64x2048.Idx) :
    iblk m c 3 t i = m ((c : Thread nD τ).loc main_arg3) (ix3 (i 0) (rowOf t (i 1)) (i 2)) := by
  unfold rowOf
  blk_point [iblk, V, (idxS t).2.2.2 h]

theorem iblk4 (t : Fin cfg0.N) (i : S1x64x2048.Idx) :
    iblk m c 4 t i = m ((c : Thread nD τ).loc main_arg4) (at3 t i) := by
  unfold at3 layer rowOf
  blk_point [iblk, V, idx t]

theorem iblk5 (t : Fin cfg0.N) (i : S1x64x2048.Idx) :
    iblk m c 5 t i = m ((c : Thread nD τ).loc main_arg5) (at3 t i) := by
  unfold at3 layer rowOf
  blk_point [iblk, V, idx t]

theorem iblk6 (t : Fin cfg0.N) (i : S1x64x2048.Idx) :
    iblk m c 6 t i = m ((c : Thread nD τ).loc main_arg6) (at3 t i) := by
  unfold at3 layer rowOf
  blk_point [iblk, V, idx t]

/-- The sum of the slabs of layer 0, as the body forms it. -/
theorem gA (X : Vec Ideal S8x64x2048 .bf16) (r : Fin 64) (j : Fin 2048) :
    k0_pay9 (F := Ideal) (View.ld X (Rect.unit ![0, 0, 0] ![1, 64, 2048] inb_S8x64x2048_S1x64x2048_0_0_0)) (View.ld X (Rect.unit ![1, 0, 0] ![1, 64, 2048] inb_S8x64x2048_S1x64x2048_1_0_0)) (View.ld X (Rect.unit ![2, 0, 0] ![1, 64, 2048] inb_S8x64x2048_S1x64x2048_2_0_0)) (View.ld X (Rect.unit ![3, 0, 0] ![1, 64, 2048] inb_S8x64x2048_S1x64x2048_3_0_0)) (View.ld X (Rect.unit ![4, 0, 0] ![1, 64, 2048] inb_S8x64x2048_S1x64x2048_4_0_0)) (View.ld X (Rect.unit ![5, 0, 0] ![1, 64, 2048] inb_S8x64x2048_S1x64x2048_5_0_0)) (View.ld X (Rect.unit ![6, 0, 0] ![1, 64, 2048] inb_S8x64x2048_S1x64x2048_6_0_0)) (View.ld X (Rect.unit ![7, 0, 0] ![1, 64, 2048] inb_S8x64x2048_S1x64x2048_7_0_0)) (ix2 r j) = ∑ b : Fin 8, X (ix3 b r j) := by
  rw [Fin.sum_univ_eight]
  pointwise [k0_pay9]

theorem pA7 (G : FVec Ideal S64x2048 .f32) (z : Fin 1) (r : Fin 64) (j : Fin 2048) :
    k0_pay13 (F := Ideal) G (ix3 z r j) = G (ix2 r j) := by
  pointwise [k0_pay13]

theorem pA9 (G : FVec Ideal S64x2048 .f32) (M : FVec Ideal S1x64x2048 .f32) (z : Fin 1) (r : Fin 64) (j : Fin 2048) :
    k0_pay1 (F := Ideal) (k0_pay11 (F := Ideal) G M) (ix3 z r j) = mom1 (G (ix2 r j)) (M (ix3 0 r j)) := by
  pointwise [k0_pay1, k0_pay11]
  rfl

theorem pA10 (G : FVec Ideal S64x2048 .f32) (M : FVec Ideal S1x64x2048 .f32) (z : Fin 1) (r : Fin 64) (j : Fin 2048) :
    k0_pay2 (F := Ideal) (k0_pay12 (F := Ideal) G M) (ix3 z r j) = mom2 (G (ix2 r j)) (M (ix3 0 r j)) := by
  pointwise [k0_pay2, k0_pay12]
  rfl

theorem pA8 (G : FVec Ideal S64x2048 .f32) (W M U : FVec Ideal S1x64x2048 .f32) (z : Fin 1) (r : Fin 64) (j : Fin 2048) :
    k0_pay14 (F := Ideal) G (k0_pay10 (F := Ideal) W) M U (ix3 z r j) = change (W (ix3 0 r j)) (G (ix2 r j)) (M (ix3 0 r j)) (U (ix3 0 r j)) := by
  pointwise [k0_pay14, k0_pay10, k0_pay11, k0_pay12]
  rfl

/-- The sum of the slabs of layer 1, as the body forms it. -/
theorem gB (X : Vec Ideal S8x64x2048 .bf16) (r : Fin 64) (j : Fin 2048) :
    k0_pay15 (F := Ideal) (View.ld X (Rect.unit ![0, 0, 0] ![1, 64, 2048] inb_S8x64x2048_S1x64x2048_0_0_0)) (View.ld X (Rect.unit ![1, 0, 0] ![1, 64, 2048] inb_S8x64x2048_S1x64x2048_1_0_0)) (View.ld X (Rect.unit ![2, 0, 0] ![1, 64, 2048] inb_S8x64x2048_S1x64x2048_2_0_0)) (View.ld X (Rect.unit ![3, 0, 0] ![1, 64, 2048] inb_S8x64x2048_S1x64x2048_3_0_0)) (View.ld X (Rect.unit ![4, 0, 0] ![1, 64, 2048] inb_S8x64x2048_S1x64x2048_4_0_0)) (View.ld X (Rect.unit ![5, 0, 0] ![1, 64, 2048] inb_S8x64x2048_S1x64x2048_5_0_0)) (View.ld X (Rect.unit ![6, 0, 0] ![1, 64, 2048] inb_S8x64x2048_S1x64x2048_6_0_0)) (View.ld X (Rect.unit ![7, 0, 0] ![1, 64, 2048] inb_S8x64x2048_S1x64x2048_7_0_0)) (ix2 r j) = ∑ b : Fin 8, X (ix3 b r j) := by
  rw [Fin.sum_univ_eight]
  pointwise [k0_pay15]

theorem pB7 (G : FVec Ideal S64x2048 .f32) (z : Fin 1) (r : Fin 64) (j : Fin 2048) :
    k0_pay19 (F := Ideal) G (ix3 z r j) = G (ix2 r j) := by
  pointwise [k0_pay19]

theorem pB9 (G : FVec Ideal S64x2048 .f32) (M : FVec Ideal S1x64x2048 .f32) (z : Fin 1) (r : Fin 64) (j : Fin 2048) :
    k0_pay3 (F := Ideal) (k0_pay17 (F := Ideal) G M) (ix3 z r j) = mom1 (G (ix2 r j)) (M (ix3 0 r j)) := by
  pointwise [k0_pay3, k0_pay17]
  rfl

theorem pB10 (G : FVec Ideal S64x2048 .f32) (M : FVec Ideal S1x64x2048 .f32) (z : Fin 1) (r : Fin 64) (j : Fin 2048) :
    k0_pay4 (F := Ideal) (k0_pay18 (F := Ideal) G M) (ix3 z r j) = mom2 (G (ix2 r j)) (M (ix3 0 r j)) := by
  pointwise [k0_pay4, k0_pay18]
  rfl

theorem pB8 (G : FVec Ideal S64x2048 .f32) (W M U : FVec Ideal S1x64x2048 .f32) (z : Fin 1) (r : Fin 64) (j : Fin 2048) :
    k0_pay20 (F := Ideal) G (k0_pay16 (F := Ideal) W) M U (ix3 z r j) = change (W (ix3 0 r j)) (G (ix2 r j)) (M (ix3 0 r j)) (U (ix3 0 r j)) := by
  pointwise [k0_pay20, k0_pay16, k0_pay17, k0_pay18]
  rfl

/-- The sum of the slabs of layer 2, as the body forms it. -/
theorem gC (X : Vec Ideal S8x64x2048 .bf16) (r : Fin 64) (j : Fin 2048) :
    k0_pay21 (F := Ideal) (View.ld X (Rect.unit ![0, 0, 0] ![1, 64, 2048] inb_S8x64x2048_S1x64x2048_0_0_0)) (View.ld X (Rect.unit ![1, 0, 0] ![1, 64, 2048] inb_S8x64x2048_S1x64x2048_1_0_0)) (View.ld X (Rect.unit ![2, 0, 0] ![1, 64, 2048] inb_S8x64x2048_S1x64x2048_2_0_0)) (View.ld X (Rect.unit ![3, 0, 0] ![1, 64, 2048] inb_S8x64x2048_S1x64x2048_3_0_0)) (View.ld X (Rect.unit ![4, 0, 0] ![1, 64, 2048] inb_S8x64x2048_S1x64x2048_4_0_0)) (View.ld X (Rect.unit ![5, 0, 0] ![1, 64, 2048] inb_S8x64x2048_S1x64x2048_5_0_0)) (View.ld X (Rect.unit ![6, 0, 0] ![1, 64, 2048] inb_S8x64x2048_S1x64x2048_6_0_0)) (View.ld X (Rect.unit ![7, 0, 0] ![1, 64, 2048] inb_S8x64x2048_S1x64x2048_7_0_0)) (ix2 r j) = ∑ b : Fin 8, X (ix3 b r j) := by
  rw [Fin.sum_univ_eight]
  pointwise [k0_pay21]

theorem pC7 (G : FVec Ideal S64x2048 .f32) (z : Fin 1) (r : Fin 64) (j : Fin 2048) :
    k0_pay25 (F := Ideal) G (ix3 z r j) = G (ix2 r j) := by
  pointwise [k0_pay25]

theorem pC9 (G : FVec Ideal S64x2048 .f32) (M : FVec Ideal S1x64x2048 .f32) (z : Fin 1) (r : Fin 64) (j : Fin 2048) :
    k0_pay5 (F := Ideal) (k0_pay23 (F := Ideal) G M) (ix3 z r j) = mom1 (G (ix2 r j)) (M (ix3 0 r j)) := by
  pointwise [k0_pay5, k0_pay23]
  rfl

theorem pC10 (G : FVec Ideal S64x2048 .f32) (M : FVec Ideal S1x64x2048 .f32) (z : Fin 1) (r : Fin 64) (j : Fin 2048) :
    k0_pay6 (F := Ideal) (k0_pay24 (F := Ideal) G M) (ix3 z r j) = mom2 (G (ix2 r j)) (M (ix3 0 r j)) := by
  pointwise [k0_pay6, k0_pay24]
  rfl

theorem pC8 (G : FVec Ideal S64x2048 .f32) (W M U : FVec Ideal S1x64x2048 .f32) (z : Fin 1) (r : Fin 64) (j : Fin 2048) :
    k0_pay26 (F := Ideal) G (k0_pay22 (F := Ideal) W) M U (ix3 z r j) = change (W (ix3 0 r j)) (G (ix2 r j)) (M (ix3 0 r j)) (U (ix3 0 r j)) := by
  pointwise [k0_pay26, k0_pay22, k0_pay23, k0_pay24]
  rfl

/-- The sum of the slabs of layer 3, as the body forms it. -/
theorem gD (X : Vec Ideal S8x64x2048 .bf16) (r : Fin 64) (j : Fin 2048) :
    k0_pay27 (F := Ideal) (View.ld X (Rect.unit ![0, 0, 0] ![1, 64, 2048] inb_S8x64x2048_S1x64x2048_0_0_0)) (View.ld X (Rect.unit ![1, 0, 0] ![1, 64, 2048] inb_S8x64x2048_S1x64x2048_1_0_0)) (View.ld X (Rect.unit ![2, 0, 0] ![1, 64, 2048] inb_S8x64x2048_S1x64x2048_2_0_0)) (View.ld X (Rect.unit ![3, 0, 0] ![1, 64, 2048] inb_S8x64x2048_S1x64x2048_3_0_0)) (View.ld X (Rect.unit ![4, 0, 0] ![1, 64, 2048] inb_S8x64x2048_S1x64x2048_4_0_0)) (View.ld X (Rect.unit ![5, 0, 0] ![1, 64, 2048] inb_S8x64x2048_S1x64x2048_5_0_0)) (View.ld X (Rect.unit ![6, 0, 0] ![1, 64, 2048] inb_S8x64x2048_S1x64x2048_6_0_0)) (View.ld X (Rect.unit ![7, 0, 0] ![1, 64, 2048] inb_S8x64x2048_S1x64x2048_7_0_0)) (ix2 r j) = ∑ b : Fin 8, X (ix3 b r j) := by
  rw [Fin.sum_univ_eight]
  pointwise [k0_pay27]

theorem pD7 (G : FVec Ideal S64x2048 .f32) (z : Fin 1) (r : Fin 64) (j : Fin 2048) :
    k0_pay31 (F := Ideal) G (ix3 z r j) = G (ix2 r j) := by
  pointwise [k0_pay31]

theorem pD9 (G : FVec Ideal S64x2048 .f32) (M : FVec Ideal S1x64x2048 .f32) (z : Fin 1) (r : Fin 64) (j : Fin 2048) :
    k0_pay7 (F := Ideal) (k0_pay29 (F := Ideal) G M) (ix3 z r j) = mom1 (G (ix2 r j)) (M (ix3 0 r j)) := by
  pointwise [k0_pay7, k0_pay29]
  rfl

theorem pD10 (G : FVec Ideal S64x2048 .f32) (M : FVec Ideal S1x64x2048 .f32) (z : Fin 1) (r : Fin 64) (j : Fin 2048) :
    k0_pay8 (F := Ideal) (k0_pay30 (F := Ideal) G M) (ix3 z r j) = mom2 (G (ix2 r j)) (M (ix3 0 r j)) := by
  pointwise [k0_pay8, k0_pay30]
  rfl

theorem pD8 (G : FVec Ideal S64x2048 .f32) (W M U : FVec Ideal S1x64x2048 .f32) (z : Fin 1) (r : Fin 64) (j : Fin 2048) :
    k0_pay32 (F := Ideal) G (k0_pay28 (F := Ideal) W) M U (ix3 z r j) = change (W (ix3 0 r j)) (G (ix2 r j)) (M (ix3 0 r j)) (U (ix3 0 r j)) := by
  pointwise [k0_pay32, k0_pay28, k0_pay29, k0_pay30]
  rfl

theorem tileA (t : Fin cfg0.N) (h : t.val / 4 = 0) (r : Fin 64) (j : Fin 2048) :
    k0_pay9 (F := Ideal) (View.ld (iblk m c 0 t) (Rect.unit ![0, 0, 0] ![1, 64, 2048] inb_S8x64x2048_S1x64x2048_0_0_0)) (View.ld (iblk m c 0 t) (Rect.unit ![1, 0, 0] ![1, 64, 2048] inb_S8x64x2048_S1x64x2048_1_0_0)) (View.ld (iblk m c 0 t) (Rect.unit ![2, 0, 0] ![1, 64, 2048] inb_S8x64x2048_S1x64x2048_2_0_0)) (View.ld (iblk m c 0 t) (Rect.unit ![3, 0, 0] ![1, 64, 2048] inb_S8x64x2048_S1x64x2048_3_0_0)) (View.ld (iblk m c 0 t) (Rect.unit ![4, 0, 0] ![1, 64, 2048] inb_S8x64x2048_S1x64x2048_4_0_0)) (View.ld (iblk m c 0 t) (Rect.unit ![5, 0, 0] ![1, 64, 2048] inb_S8x64x2048_S1x64x2048_5_0_0)) (View.ld (iblk m c 0 t) (Rect.unit ![6, 0, 0] ![1, 64, 2048] inb_S8x64x2048_S1x64x2048_6_0_0)) (View.ld (iblk m c 0 t) (Rect.unit ![7, 0, 0] ![1, 64, 2048] inb_S8x64x2048_S1x64x2048_7_0_0)) (ix2 r j)
      = grad (m ((c : Thread nD τ).loc main_arg0)) (m ((c : Thread nD τ).loc main_arg1)) (m ((c : Thread nD τ).loc main_arg2)) (m ((c : Thread nD τ).loc main_arg3)) (ix3 (layer t) (rowOf t r) j) := by
  refine (gA _ _ _).trans (Finset.sum_congr rfl fun b _ => ?_)
  rw [iblk0 m c t h]
  exact (congrFun (Cert.Adam.pick0 (m ((c : Thread nD τ).loc main_arg0)) (m ((c : Thread nD τ).loc main_arg1)) (m ((c : Thread nD τ).loc main_arg2)) (m ((c : Thread nD τ).loc main_arg3)) (layer t) h) _).symm

theorem tileB (t : Fin cfg0.N) (h : t.val / 4 = 1) (r : Fin 64) (j : Fin 2048) :
    k0_pay15 (F := Ideal) (View.ld (iblk m c 1 t) (Rect.unit ![0, 0, 0] ![1, 64, 2048] inb_S8x64x2048_S1x64x2048_0_0_0)) (View.ld (iblk m c 1 t) (Rect.unit ![1, 0, 0] ![1, 64, 2048] inb_S8x64x2048_S1x64x2048_1_0_0)) (View.ld (iblk m c 1 t) (Rect.unit ![2, 0, 0] ![1, 64, 2048] inb_S8x64x2048_S1x64x2048_2_0_0)) (View.ld (iblk m c 1 t) (Rect.unit ![3, 0, 0] ![1, 64, 2048] inb_S8x64x2048_S1x64x2048_3_0_0)) (View.ld (iblk m c 1 t) (Rect.unit ![4, 0, 0] ![1, 64, 2048] inb_S8x64x2048_S1x64x2048_4_0_0)) (View.ld (iblk m c 1 t) (Rect.unit ![5, 0, 0] ![1, 64, 2048] inb_S8x64x2048_S1x64x2048_5_0_0)) (View.ld (iblk m c 1 t) (Rect.unit ![6, 0, 0] ![1, 64, 2048] inb_S8x64x2048_S1x64x2048_6_0_0)) (View.ld (iblk m c 1 t) (Rect.unit ![7, 0, 0] ![1, 64, 2048] inb_S8x64x2048_S1x64x2048_7_0_0)) (ix2 r j)
      = grad (m ((c : Thread nD τ).loc main_arg0)) (m ((c : Thread nD τ).loc main_arg1)) (m ((c : Thread nD τ).loc main_arg2)) (m ((c : Thread nD τ).loc main_arg3)) (ix3 (layer t) (rowOf t r) j) := by
  refine (gB _ _ _).trans (Finset.sum_congr rfl fun b _ => ?_)
  rw [iblk1 m c t h]
  exact (congrFun (Cert.Adam.pick1 (m ((c : Thread nD τ).loc main_arg0)) (m ((c : Thread nD τ).loc main_arg1)) (m ((c : Thread nD τ).loc main_arg2)) (m ((c : Thread nD τ).loc main_arg3)) (layer t) h) _).symm

theorem tileC (t : Fin cfg0.N) (h : t.val / 4 = 2) (r : Fin 64) (j : Fin 2048) :
    k0_pay21 (F := Ideal) (View.ld (iblk m c 2 t) (Rect.unit ![0, 0, 0] ![1, 64, 2048] inb_S8x64x2048_S1x64x2048_0_0_0)) (View.ld (iblk m c 2 t) (Rect.unit ![1, 0, 0] ![1, 64, 2048] inb_S8x64x2048_S1x64x2048_1_0_0)) (View.ld (iblk m c 2 t) (Rect.unit ![2, 0, 0] ![1, 64, 2048] inb_S8x64x2048_S1x64x2048_2_0_0)) (View.ld (iblk m c 2 t) (Rect.unit ![3, 0, 0] ![1, 64, 2048] inb_S8x64x2048_S1x64x2048_3_0_0)) (View.ld (iblk m c 2 t) (Rect.unit ![4, 0, 0] ![1, 64, 2048] inb_S8x64x2048_S1x64x2048_4_0_0)) (View.ld (iblk m c 2 t) (Rect.unit ![5, 0, 0] ![1, 64, 2048] inb_S8x64x2048_S1x64x2048_5_0_0)) (View.ld (iblk m c 2 t) (Rect.unit ![6, 0, 0] ![1, 64, 2048] inb_S8x64x2048_S1x64x2048_6_0_0)) (View.ld (iblk m c 2 t) (Rect.unit ![7, 0, 0] ![1, 64, 2048] inb_S8x64x2048_S1x64x2048_7_0_0)) (ix2 r j)
      = grad (m ((c : Thread nD τ).loc main_arg0)) (m ((c : Thread nD τ).loc main_arg1)) (m ((c : Thread nD τ).loc main_arg2)) (m ((c : Thread nD τ).loc main_arg3)) (ix3 (layer t) (rowOf t r) j) := by
  refine (gC _ _ _).trans (Finset.sum_congr rfl fun b _ => ?_)
  rw [iblk2 m c t h]
  exact (congrFun (Cert.Adam.pick2 (m ((c : Thread nD τ).loc main_arg0)) (m ((c : Thread nD τ).loc main_arg1)) (m ((c : Thread nD τ).loc main_arg2)) (m ((c : Thread nD τ).loc main_arg3)) (layer t) h) _).symm

theorem tileD (t : Fin cfg0.N) (h : t.val / 4 = 3) (r : Fin 64) (j : Fin 2048) :
    k0_pay27 (F := Ideal) (View.ld (iblk m c 3 t) (Rect.unit ![0, 0, 0] ![1, 64, 2048] inb_S8x64x2048_S1x64x2048_0_0_0)) (View.ld (iblk m c 3 t) (Rect.unit ![1, 0, 0] ![1, 64, 2048] inb_S8x64x2048_S1x64x2048_1_0_0)) (View.ld (iblk m c 3 t) (Rect.unit ![2, 0, 0] ![1, 64, 2048] inb_S8x64x2048_S1x64x2048_2_0_0)) (View.ld (iblk m c 3 t) (Rect.unit ![3, 0, 0] ![1, 64, 2048] inb_S8x64x2048_S1x64x2048_3_0_0)) (View.ld (iblk m c 3 t) (Rect.unit ![4, 0, 0] ![1, 64, 2048] inb_S8x64x2048_S1x64x2048_4_0_0)) (View.ld (iblk m c 3 t) (Rect.unit ![5, 0, 0] ![1, 64, 2048] inb_S8x64x2048_S1x64x2048_5_0_0)) (View.ld (iblk m c 3 t) (Rect.unit ![6, 0, 0] ![1, 64, 2048] inb_S8x64x2048_S1x64x2048_6_0_0)) (View.ld (iblk m c 3 t) (Rect.unit ![7, 0, 0] ![1, 64, 2048] inb_S8x64x2048_S1x64x2048_7_0_0)) (ix2 r j)
      = grad (m ((c : Thread nD τ).loc main_arg0)) (m ((c : Thread nD τ).loc main_arg1)) (m ((c : Thread nD τ).loc main_arg2)) (m ((c : Thread nD τ).loc main_arg3)) (ix3 (layer t) (rowOf t r) j) := by
  refine (gD _ _ _).trans (Finset.sum_congr rfl fun b _ => ?_)
  rw [iblk3 m c t h]
  exact (congrFun (Cert.Adam.pick3 (m ((c : Thread nD τ).loc main_arg0)) (m ((c : Thread nD τ).loc main_arg1)) (m ((c : Thread nD τ).loc main_arg2)) (m ((c : Thread nD τ).loc main_arg3)) (layer t) h) _).symm

theorem final7 : (dats m 0 c).arrAt 7 (cfgs 0).N = fun i => grad (m ((c : Thread nD τ).loc main_arg0)) (m ((c : Thread nD τ).loc main_arg1)) (m ((c : Thread nD τ).loc main_arg2)) (m ((c : Thread nD τ).loc main_arg3)) i := by
  refine Pipeline.Dat.arrAt_eq_of_covers (dats m 0 c) 7 _ (by decide +kernel) fun t hf y => ?_
  blk_simp
  rw [after0_7]
  have e : ((View.whole main_v0_0).slice (win0_7.rect t)).emb y = at3 t y := by
    unfold at3 layer rowOf
    blk_ext [idx t]
  rw [e]
  have hN := lt_N t
  by_cases h0 : t.val < 4
  · rw [outsAt0_A m c t h0 (by omega) (by omega) (by omega)]
    frame_out
    idx_vars y
    obtain rfl : y0 = 0 := Subsingleton.elim _ _
    exact (pA7 _ _ _ _).trans (tileA m c t (by omega) _ _)
  by_cases h1 : t.val / 4 % 4 = 1
  · rw [outsAt0_B m c t (by omega) h1 (by omega) (by omega)]
    frame_out
    idx_vars y
    obtain rfl : y0 = 0 := Subsingleton.elim _ _
    exact (pB7 _ _ _ _).trans (tileB m c t (by omega) _ _)
  by_cases h2 : t.val / 4 % 4 = 2
  · rw [outsAt0_C m c t (by omega) (by omega) h2 (by omega)]
    frame_out
    idx_vars y
    obtain rfl : y0 = 0 := Subsingleton.elim _ _
    exact (pC7 _ _ _ _).trans (tileC m c t (by omega) _ _)
  · have h3 : 12 ≤ t.val := by omega
    rw [outsAt0_D m c t (by omega) (by omega) (by omega) h3]
    frame_out
    idx_vars y
    obtain rfl : y0 = 0 := Subsingleton.elim _ _
    exact (pD7 _ _ _ _).trans (tileD m c t (by omega) _ _)

theorem final8 : (dats m 0 c).arrAt 8 (cfgs 0).N = fun i => change ((m ((c : Thread nD τ).loc main_arg4)) i) (grad (m ((c : Thread nD τ).loc main_arg0)) (m ((c : Thread nD τ).loc main_arg1)) (m ((c : Thread nD τ).loc main_arg2)) (m ((c : Thread nD τ).loc main_arg3)) i) ((m ((c : Thread nD τ).loc main_arg5)) i) ((m ((c : Thread nD τ).loc main_arg6)) i) := by
  refine Pipeline.Dat.arrAt_eq_of_covers (dats m 0 c) 8 _ (by decide +kernel) fun t hf y => ?_
  blk_simp
  rw [after0_8]
  have e : ((View.whole main_v0_1).slice (win0_8.rect t)).emb y = at3 t y := by
    unfold at3 layer rowOf
    blk_ext [idx t]
  rw [e]
  have hN := lt_N t
  by_cases h0 : t.val < 4
  · rw [outsAt0_A m c t h0 (by omega) (by omega) (by omega)]
    frame_out
    idx_vars y
    obtain rfl : y0 = 0 := Subsingleton.elim _ _
    refine (pA8 _ _ _ _ _ _ _).trans (Eq.trans (congrArg (fun g => change _ g _ _) (tileA m c t (by omega) y1 y2)) ?_)
    rw [iblk4, iblk5, iblk6]
    rfl
  by_cases h1 : t.val / 4 % 4 = 1
  · rw [outsAt0_B m c t (by omega) h1 (by omega) (by omega)]
    frame_out
    idx_vars y
    obtain rfl : y0 = 0 := Subsingleton.elim _ _
    refine (pB8 _ _ _ _ _ _ _).trans (Eq.trans (congrArg (fun g => change _ g _ _) (tileB m c t (by omega) y1 y2)) ?_)
    rw [iblk4, iblk5, iblk6]
    rfl
  by_cases h2 : t.val / 4 % 4 = 2
  · rw [outsAt0_C m c t (by omega) (by omega) h2 (by omega)]
    frame_out
    idx_vars y
    obtain rfl : y0 = 0 := Subsingleton.elim _ _
    refine (pC8 _ _ _ _ _ _ _).trans (Eq.trans (congrArg (fun g => change _ g _ _) (tileC m c t (by omega) y1 y2)) ?_)
    rw [iblk4, iblk5, iblk6]
    rfl
  · have h3 : 12 ≤ t.val := by omega
    rw [outsAt0_D m c t (by omega) (by omega) (by omega) h3]
    frame_out
    idx_vars y
    obtain rfl : y0 = 0 := Subsingleton.elim _ _
    refine (pD8 _ _ _ _ _ _ _).trans (Eq.trans (congrArg (fun g => change _ g _ _) (tileD m c t (by omega) y1 y2)) ?_)
    rw [iblk4, iblk5, iblk6]
    rfl

theorem final9 : (dats m 0 c).arrAt 9 (cfgs 0).N = fun i => mom1 (grad (m ((c : Thread nD τ).loc main_arg0)) (m ((c : Thread nD τ).loc main_arg1)) (m ((c : Thread nD τ).loc main_arg2)) (m ((c : Thread nD τ).loc main_arg3)) i) ((m ((c : Thread nD τ).loc main_arg5)) i) := by
  refine Pipeline.Dat.arrAt_eq_of_covers (dats m 0 c) 9 _ (by decide +kernel) fun t hf y => ?_
  blk_simp
  rw [after0_9]
  have e : ((View.whole main_v0_2).slice (win0_9.rect t)).emb y = at3 t y := by
    unfold at3 layer rowOf
    blk_ext [idx t]
  rw [e]
  have hN := lt_N t
  by_cases h0 : t.val < 4
  · rw [outsAt0_A m c t h0 (by omega) (by omega) (by omega)]
    frame_out
    idx_vars y
    obtain rfl : y0 = 0 := Subsingleton.elim _ _
    refine (pA9 _ _ _ _ _).trans (Eq.trans (congrArg (fun g => mom1 g _) (tileA m c t (by omega) y1 y2)) ?_)
    rw [iblk5]
    rfl
  by_cases h1 : t.val / 4 % 4 = 1
  · rw [outsAt0_B m c t (by omega) h1 (by omega) (by omega)]
    frame_out
    idx_vars y
    obtain rfl : y0 = 0 := Subsingleton.elim _ _
    refine (pB9 _ _ _ _ _).trans (Eq.trans (congrArg (fun g => mom1 g _) (tileB m c t (by omega) y1 y2)) ?_)
    rw [iblk5]
    rfl
  by_cases h2 : t.val / 4 % 4 = 2
  · rw [outsAt0_C m c t (by omega) (by omega) h2 (by omega)]
    frame_out
    idx_vars y
    obtain rfl : y0 = 0 := Subsingleton.elim _ _
    refine (pC9 _ _ _ _ _).trans (Eq.trans (congrArg (fun g => mom1 g _) (tileC m c t (by omega) y1 y2)) ?_)
    rw [iblk5]
    rfl
  · have h3 : 12 ≤ t.val := by omega
    rw [outsAt0_D m c t (by omega) (by omega) (by omega) h3]
    frame_out
    idx_vars y
    obtain rfl : y0 = 0 := Subsingleton.elim _ _
    refine (pD9 _ _ _ _ _).trans (Eq.trans (congrArg (fun g => mom1 g _) (tileD m c t (by omega) y1 y2)) ?_)
    rw [iblk5]
    rfl

theorem final10 : (dats m 0 c).arrAt 10 (cfgs 0).N = fun i => mom2 (grad (m ((c : Thread nD τ).loc main_arg0)) (m ((c : Thread nD τ).loc main_arg1)) (m ((c : Thread nD τ).loc main_arg2)) (m ((c : Thread nD τ).loc main_arg3)) i) ((m ((c : Thread nD τ).loc main_arg6)) i) := by
  refine Pipeline.Dat.arrAt_eq_of_covers (dats m 0 c) 10 _ (by decide +kernel) fun t hf y => ?_
  blk_simp
  rw [after0_10]
  have e : ((View.whole main_v0_3).slice (win0_10.rect t)).emb y = at3 t y := by
    unfold at3 layer rowOf
    blk_ext [idx t]
  rw [e]
  have hN := lt_N t
  by_cases h0 : t.val < 4
  · rw [outsAt0_A m c t h0 (by omega) (by omega) (by omega)]
    frame_out
    idx_vars y
    obtain rfl : y0 = 0 := Subsingleton.elim _ _
    refine (pA10 _ _ _ _ _).trans (Eq.trans (congrArg (fun g => mom2 g _) (tileA m c t (by omega) y1 y2)) ?_)
    rw [iblk6]
    rfl
  by_cases h1 : t.val / 4 % 4 = 1
  · rw [outsAt0_B m c t (by omega) h1 (by omega) (by omega)]
    frame_out
    idx_vars y
    obtain rfl : y0 = 0 := Subsingleton.elim _ _
    refine (pB10 _ _ _ _ _).trans (Eq.trans (congrArg (fun g => mom2 g _) (tileB m c t (by omega) y1 y2)) ?_)
    rw [iblk6]
    rfl
  by_cases h2 : t.val / 4 % 4 = 2
  · rw [outsAt0_C m c t (by omega) (by omega) h2 (by omega)]
    frame_out
    idx_vars y
    obtain rfl : y0 = 0 := Subsingleton.elim _ _
    refine (pC10 _ _ _ _ _).trans (Eq.trans (congrArg (fun g => mom2 g _) (tileC m c t (by omega) y1 y2)) ?_)
    rw [iblk6]
    rfl
  · have h3 : 12 ≤ t.val := by omega
    rw [outsAt0_D m c t (by omega) (by omega) (by omega) h3]
    frame_out
    idx_vars y
    obtain rfl : y0 = 0 := Subsingleton.elim _ _
    refine (pD10 _ _ _ _ _).trans (Eq.trans (congrArg (fun g => mom2 g _) (tileD m c t (by omega) y1 y2)) ?_)
    rw [iblk6]
    rfl

end Cert.AdamOutIdeal.Own

namespace Cert.AdamOutRefIdeal.Own

open Idealize.ShloMosaic Idealize.ShloMosaic.TcCoe Idealize.SL.Sem
open Cert.AdamOutRefIdeal Cert.AdamOutRefIdeal.Gen Cert.AdamOutRefIdeal.Read
open Cert.Adam (mom1 mom2 change pick)
open Cert.AdamOutIdeal.Own (grad)

theorem out12 (S0 S1 S2 S3 : FVec Ideal S8x256x2048 .bf16) (i : S4x256x2048.Idx) : val_main_v12 (F := Ideal) S0 S1 S2 S3 i = grad S0 S1 S2 S3 i := by
  idx_vars i
  unfold grad pick
  pointwise [val_main_v12, val_main_v8, val_main_v9, val_main_v10, val_main_v11, val_main_v1, val_main_v3, val_main_v5, val_main_v7, val_main_v0, val_main_v2, val_main_v4, val_main_v6,
    val_main_cst, val_main_cst_0, val_main_cst_1, val_main_cst_2]
  fin_cases i0 <;> rfl

theorem out17 (S0 S1 S2 S3 : FVec Ideal S8x256x2048 .bf16) (M : FVec Ideal S4x256x2048 .f32) (i : S4x256x2048.Idx) : val_main_v17 (F := Ideal) S0 S1 S2 S3 M i = mom1 (grad S0 S1 S2 S3 i) (M i) := by
  rw [← out12]
  idx_vars i
  pointwise [val_main_v17, val_main_v16, val_main_v15, val_main_v14, val_main_v13, val_main_cst_3, val_main_cst_4]
  rfl

theorem out23 (S0 S1 S2 S3 : FVec Ideal S8x256x2048 .bf16) (U : FVec Ideal S4x256x2048 .f32) (i : S4x256x2048.Idx) : val_main_v23 (F := Ideal) S0 S1 S2 S3 U i = mom2 (grad S0 S1 S2 S3 i) (U i) := by
  rw [← out12]
  idx_vars i
  pointwise [val_main_v23, val_main_v22, val_main_v21, val_main_v20, val_main_v19, val_main_v18, val_main_cst_5, val_main_cst_6]
  rfl

theorem out36 (S0 S1 S2 S3 : FVec Ideal S8x256x2048 .bf16) (W M U : FVec Ideal S4x256x2048 .f32) (i : S4x256x2048.Idx) :
    val_main_v36 (F := Ideal) S0 S1 S2 S3 W M U i = change (W i) (grad S0 S1 S2 S3 i) (M i) (U i) := by
  unfold change
  rw [← out17, ← out23]
  idx_vars i
  pointwise [val_main_v36, val_main_v35, val_main_v34, val_main_v33, val_main_v32, val_main_v31, val_main_v30, val_main_v29, val_main_v28, val_main_v27, val_main_v26, val_main_v25, val_main_v24,
    val_main_cst_7, val_main_cst_8, val_main_cst_9, val_main_cst_10, val_main_cst_11]
  rfl

end Cert.AdamOutRefIdeal.Own

namespace Cert.AdamOut

open Idealize.ShloMosaic Idealize.ShloMosaic.TcCoe Idealize.SL.Sem

theorem frame_k : Cert.quiescent_AdamOut := fun m ρ _ => Cert.AdamOut.Gen.frame m ρ
theorem frame_ki : Cert.quiescent_AdamOutIdeal := fun m ρ _ => Cert.AdamOutIdeal.Gen.frame m ρ
theorem frame_ri : Cert.quiescent_AdamOutRefIdeal := fun m ρ _ =>
  (θ_run Cert.AdamOutRefIdeal.defs _ _).mono
    (fun r h => ⟨fun c => (h c).2.2.2.2, Idealize.ShloMosaic.sem_eq_zero_of_no_sems (by decide) r.2⟩)
    (Cert.AdamOutRefIdeal.Value.run (F := Ideal) m ρ)

set_option maxHeartbeats 4000000 in
theorem value : Cert.algebraic_AdamOutIdeal_AdamOutRefIdeal := by
  pair_intro
  · run_from Cert.AdamOutIdeal.Gen.run_main m g
  · run_from Cert.AdamOutRefIdeal.Value.run m' g'
    · rw [Cert.AdamOutIdeal.Own.final7]
      refine (Cert.AdamOutRefIdeal.Read.val_main_v12_eq _ _ _ _).trans ?_
      funext i
      exact Cert.AdamOutRefIdeal.Own.out12 _ _ _ _ i
    · rw [Cert.AdamOutIdeal.Own.final8]
      refine (Cert.AdamOutRefIdeal.Read.val_main_v36_eq _ _).trans ?_
      funext i
      obtain ⟨e0, e1, e2, e3, e4, e5, e6⟩ := hagree c
      rw [e0, e1, e2, e3, e4, e5, e6]
      exact Cert.AdamOutRefIdeal.Own.out36 _ _ _ _ _ _ _ i
    · rw [Cert.AdamOutIdeal.Own.final9]
      refine (Cert.AdamOutRefIdeal.Read.val_main_v17_eq _ _ _ _ _).trans ?_
      funext i
      exact Cert.AdamOutRefIdeal.Own.out17 _ _ _ _ _ i
    · rw [Cert.AdamOutIdeal.Own.final10]
      refine (Cert.AdamOutRefIdeal.Read.val_main_v23_eq _ _ _ _ _).trans ?_
      funext i
      exact Cert.AdamOutRefIdeal.Own.out23 _ _ _ _ _ i

end Cert.AdamOut

end
-- ==== Proof.lean ====
/- The proof of the claims: the facts of the programs, then the frames, then the values. -/
module

public import proofs.«01_k».proof.Defs
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossRefIdeal
public import proofs.«01_k».proof.Proof.Gen.LossHeadIdeal.Value
public import proofs.«01_k».proof.Proof.Gen.LossRefIdeal.Run
public import proofs.«01_k».proof.Proof.Gen.LossRefIdeal.Read
public import proofs.«01_k».proof.Proof.Gen.Pre_finite1
public import proofs.«01_k».proof.Proof.Gen.OutBwd
public import proofs.«01_k».proof.Proof.Gen.OutBwd.Skeleton
public import proofs.«01_k».proof.Proof.Gen.OutBwd.Launch
public import proofs.«01_k».proof.Proof.Gen.OutBwd.Points
public import proofs.«01_k».proof.Proof.Gen.OutBwd.Frame
public import proofs.«01_k».proof.Proof.Gen.OutBwdIdeal
public import proofs.«01_k».proof.Proof.Gen.OutBwdIdeal.Skeleton
public import proofs.«01_k».proof.Proof.Gen.OutBwdIdeal.Launch
public import proofs.«01_k».proof.Proof.Gen.OutBwdIdeal.Points
public import proofs.«01_k».proof.Proof.Gen.OutBwdIdeal.Frame
public import proofs.«01_k».proof.Proof.Gen.OutBwdIdeal.Value
public import proofs.«01_k».proof.Proof.Gen.WoutGrad
public import proofs.«01_k».proof.Proof.Gen.WoutGrad.Skeleton
public import proofs.«01_k».proof.Proof.Gen.WoutGrad.Launch
public import proofs.«01_k».proof.Proof.Gen.WoutGrad.Points
public import proofs.«01_k».proof.Proof.Gen.WoutGrad.Frame
public import proofs.«01_k».proof.Proof.Gen.WoutGradIdeal
public import proofs.«01_k».proof.Proof.Gen.WoutGradIdeal.Skeleton
public import proofs.«01_k».proof.Proof.Gen.WoutGradIdeal.Launch
public import proofs.«01_k».proof.Proof.Gen.WoutGradIdeal.Points
public import proofs.«01_k».proof.Proof.Gen.WoutGradIdeal.Frame
public import proofs.«01_k».proof.Proof.Gen.WoutGradIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.WoutRefIdeal
public import proofs.«01_k».proof.Proof.Gen.WoutRefIdeal.Run
public import proofs.«01_k».proof.Proof.Gen.WoutRefIdeal.Read
public import proofs.«01_k».proof.Proof.Gen.Pre_finite4
public import proofs.«01_k».proof.Proof.Gen.DnFwd
public import proofs.«01_k».proof.Proof.Gen.DnFwdIdeal
public import proofs.«01_k».proof.Proof.Gen.DnFwdIdeal.Skeleton
public import proofs.«01_k».proof.Proof.Gen.DnFwdIdeal.Loops
public import proofs.«01_k».proof.Proof.Gen.DnFwdIdeal.Launch
public import proofs.«01_k».proof.Proof.Gen.DnFwdIdeal.Points
public import proofs.«01_k».proof.Proof.Gen.DnFwdIdeal.Frame
public import proofs.«01_k».proof.Proof.Gen.DnRefIdeal
public import proofs.«01_k».proof.Proof.Gen.DnRefIdeal.Run
public import proofs.«01_k».proof.Proof.Gen.DnRefIdeal.Step
public import proofs.«01_k».proof.Proof.Gen.Pre_finite5
public import proofs.«01_k».proof.Proof.Gen.AdaBwd
public import proofs.«01_k».proof.Proof.Gen.AdaBwd.Skeleton
public import proofs.«01_k».proof.Proof.Gen.AdaBwd.Launch
public import proofs.«01_k».proof.Proof.Gen.AdaBwd.Points
public import proofs.«01_k».proof.Proof.Gen.AdaBwd.Frame
public import proofs.«01_k».proof.Proof.Gen.AdaBwdIdeal
public import proofs.«01_k».proof.Proof.Gen.AdaBwdIdeal.Skeleton
public import proofs.«01_k».proof.Proof.Gen.AdaBwdIdeal.Launch
public import proofs.«01_k».proof.Proof.Gen.AdaBwdIdeal.Points
public import proofs.«01_k».proof.Proof.Gen.AdaBwdIdeal.Frame
public import proofs.«01_k».proof.Proof.Gen.AdaBwdIdeal.Value
public import proofs.«01_k».proof.Proof.Gen.AdaBwdRefIdeal
public import proofs.«01_k».proof.Proof.Gen.AdaBwdRefIdeal.Run
public import proofs.«01_k».proof.Proof.Gen.AdaBwdRefIdeal.Read
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.Gen.OutFwdRefIdeal.Read
public import proofs.«01_k».proof.Proof.Gen.AdaFwd
public import proofs.«01_k».proof.Proof.Gen.AdaFwd.Skeleton
public import proofs.«01_k».proof.Proof.Gen.AdaFwd.Launch
public import proofs.«01_k».proof.Proof.Gen.AdaFwd.Points
public import proofs.«01_k».proof.Proof.Gen.AdaFwd.Frame
public import proofs.«01_k».proof.Proof.Gen.AdaFwdIdeal
public import proofs.«01_k».proof.Proof.Gen.AdaFwdIdeal.Skeleton
public import proofs.«01_k».proof.Proof.Gen.AdaFwdIdeal.Launch
public import proofs.«01_k».proof.Proof.Gen.AdaFwdIdeal.Points
public import proofs.«01_k».proof.Proof.Gen.AdaFwdIdeal.Frame
public import proofs.«01_k».proof.Proof.Gen.AdaFwdIdeal.Value
public import proofs.«01_k».proof.Proof.Gen.AdaFwdRefIdeal
public import proofs.«01_k».proof.Proof.Gen.AdaFwdRefIdeal.Run
public import proofs.«01_k».proof.Proof.Gen.AdaFwdRefIdeal.Read
public import proofs.«01_k».proof.Proof.Loss
public import proofs.«01_k».proof.Proof.Dn
public import proofs.«01_k».proof.Proof.Out
public import proofs.«01_k».proof.Proof.Wout
public import proofs.«01_k».proof.Proof.Ada
public import proofs.«01_k».proof.Proof.Project
public import proofs.«01_k».proof.Proof.Adapt
public import proofs.«01_k».proof.Proof.InTransfer
public import proofs.«01_k».proof.Proof.In
public import proofs.«01_k».proof.Proof.Gen.InFwdRefIdeal.Run
public import proofs.«01_k».proof.Proof.Gen.InFwdRefIdeal.Read
public import proofs.«01_k».proof.Proof.Gen.InFwd
public import proofs.«01_k».proof.Proof.Gen.InFwdIdeal
public import proofs.«01_k».proof.Proof.Gen.InFwdIdeal.Skeleton
public import proofs.«01_k».proof.Proof.Gen.InFwdIdeal.Loops
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdRefIdeal
public import proofs.«01_k».proof.Proof.InBwdTransfer
public import proofs.«01_k».proof.Proof.InBwd
public import proofs.«01_k».proof.Proof.Gen.InRefIdeal.Run
public import proofs.«01_k».proof.Proof.Gen.InRefIdeal.Read
public import proofs.«01_k».proof.Proof.Gen.InBwd
public import proofs.«01_k».proof.Proof.Gen.InBwdIdeal
public import proofs.«01_k».proof.Proof.Gen.InBwdIdeal.Skeleton
public import proofs.«01_k».proof.Proof.Gen.InBwdIdeal.Loops
public import proofs.«01_k».proof.Proof.Gen.InBwdIdeal.Launch
public import proofs.«01_k».proof.Proof.Gen.InBwdIdeal.Points
public import proofs.«01_k».proof.Proof.Gen.InRefIdeal
public import proofs.«01_k».proof.Proof.Gen.Pre_finite2
public import proofs.«01_k».proof.Proof.AdamIn
public import proofs.«01_k».proof.Proof.Gen.AdamInRefIdeal.Run
public import proofs.«01_k».proof.Proof.Gen.AdamInRefIdeal.Read
public import proofs.«01_k».proof.Proof.Gen.AdamIn
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.AdamOut
public import proofs.«01_k».proof.Proof.Gen.AdamOutRefIdeal.Run
public import proofs.«01_k».proof.Proof.Gen.AdamOutRefIdeal.Read
public import proofs.«01_k».proof.Proof.Gen.AdamOut
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import Idealize.ShloMosaic.Adequacy
public import Idealize.ShloMosaic.Init

@[expose] public section

noncomputable section

namespace Cert.Proof

open Idealize.ShloMosaic Idealize.SL.Sem Cert.LossHead

theorem claim : Cert.Claim := ⟨Cert.LossHead.Gen.facts, Cert.LossHeadIdeal.Gen.facts, Cert.LossRefIdeal.Gen.facts,
  Cert.OutBwd.Gen.facts, Cert.OutBwdIdeal.Gen.facts, Cert.OutRefIdeal.Gen.facts,
  Cert.WoutGrad.Gen.facts, Cert.WoutGradIdeal.Gen.facts, Cert.WoutRefIdeal.Gen.facts,
  Cert.DnFwd.Gen.facts, Cert.DnFwdIdeal.Gen.facts, Cert.DnRefIdeal.Gen.facts,
  Cert.AdaBwd.Gen.facts, Cert.AdaBwdIdeal.Gen.facts, Cert.AdaBwdRefIdeal.Gen.facts,
  Cert.OutFwd.Gen.facts, Cert.OutFwdIdeal.Gen.facts, Cert.OutFwdRefIdeal.Gen.facts,
  Cert.AdaFwd.Gen.facts, Cert.AdaFwdIdeal.Gen.facts, Cert.AdaFwdRefIdeal.Gen.facts,
  Cert.InFwd.Gen.facts, Cert.InFwdIdeal.Gen.facts, Cert.InFwdRefIdeal.Gen.facts,
  Cert.InBwd.Gen.facts, Cert.InBwdIdeal.Gen.facts, Cert.InRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.Pre_finite1.Gen.facts, Cert.Pre_finite4.Gen.facts, Cert.Pre_finite5.Gen.facts, Cert.Pre_finite2.Gen.facts,
  Cert.Loss.frame_k, Cert.Loss.frame_ki, Cert.Loss.frame_ki_pre, Cert.Loss.frame_ri, Cert.Loss.frame_ri_pre,
  Cert.Out.frame_k, Cert.Out.frame_ki, Cert.Out.frame_ri,
  Cert.Wout.frame_k, Cert.Wout.frame_ki, Cert.Wout.frame_ki_pre, Cert.Wout.frame_ri, Cert.Wout.frame_ri_pre,
  frameDnFwd, Cert.Dn.frame_ki, Cert.Dn.frame_ki_pre, Cert.Dn.frame_ri, Cert.Dn.frame_ri_pre,
  Cert.Ada.frame_k, Cert.Ada.frame_ki, Cert.Ada.frame_ri,
  Cert.Project.frame_k, Cert.Project.frame_ki, Cert.Project.frame_ri,
  Cert.Adapt.frame_k, Cert.Adapt.frame_ki, Cert.Adapt.frame_ri,
  frameInFwd, Cert.In.frame_ki, Cert.In.frame_ri,
  frameInBwd, Cert.InBwd.Own.frame_ki, Cert.InBwd.Own.frame_ki_pre, Cert.InBwd.Own.frame_ri, Cert.InBwd.Own.frame_ri_pre,
  Cert.AdamIn.frame_k, Cert.AdamIn.frame_ki, Cert.AdamIn.frame_ri,
  Cert.AdamOut.frame_k, Cert.AdamOut.frame_ki, Cert.AdamOut.frame_ri,
  trivial, Cert.Loss.value, trivial, Cert.Out.value, trivial, Cert.Wout.value, trivial, Cert.Dn.value,
  trivial, Cert.Ada.value, trivial, Cert.Project.value, trivial, Cert.Adapt.value,
  trivial, Cert.In.value,
  trivial, Cert.InBwd.Own.value,
  trivial, Cert.AdamIn.value,
  trivial, Cert.AdamOut.value⟩

end Cert.Proof

end
